-- ==== Defs.lean ====
def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Dec [hPre_slots_in_range : Cert.Pre_slots_in_range.Facts] (m : (ℓ : Loc Cert.Dec.nD Cert.Dec.τ Cert.Dec.sig) → Buf (Elt Bits) ℓ) : Prop :=
  ∀ c : Dev Cert.Dec.nD,
    (Cert.Pre_slots_in_range.fn (F := Bits) (m ((c.tc : Thread Cert.Dec.nD Cert.Dec.τ).loc Cert.Dec.main_arg0)) (m ((c.tc : Thread Cert.Dec.nD Cert.Dec.τ).loc Cert.Dec.main_arg1)) (m ((c.tc : Thread Cert.Dec.nD Cert.Dec.τ).loc Cert.Dec.main_arg2)) (m ((c.tc : Thread Cert.Dec.nD Cert.Dec.τ).loc Cert.Dec.main_arg3)) (m ((c.tc : Thread Cert.Dec.nD Cert.Dec.τ).loc Cert.Dec.main_arg4)) (m ((c.tc : Thread Cert.Dec.nD Cert.Dec.τ).loc Cert.Dec.main_arg5)) (m ((c.tc : Thread Cert.Dec.nD Cert.Dec.τ).loc Cert.Dec.main_arg6)) (m ((c.tc : Thread Cert.Dec.nD Cert.Dec.τ).loc Cert.Dec.main_arg7)) (m ((c.tc : Thread Cert.Dec.nD Cert.Dec.τ).loc Cert.Dec.main_arg8)) (m ((c.tc : Thread Cert.Dec.nD Cert.Dec.τ).loc Cert.Dec.main_arg9)) (m ((c.tc : Thread Cert.Dec.nD Cert.Dec.τ).loc Cert.Dec.main_arg10))) = (fun _ => 1#1)

def Pre_DecRef [hPre_slots_in_range : Cert.Pre_slots_in_range.Facts] (m : (ℓ : Loc Cert.DecRef.nD Cert.DecRef.τ Cert.DecRef.sig) → Buf (Elt Bits) ℓ) : Prop :=
  ∀ c : Dev Cert.DecRef.nD,
    (Cert.Pre_slots_in_range.fn (F := Bits) (m ((c.tc : Thread Cert.DecRef.nD Cert.DecRef.τ).loc Cert.DecRef.main_arg0)) (m ((c.tc : Thread Cert.DecRef.nD Cert.DecRef.τ).loc Cert.DecRef.main_arg1)) (m ((c.tc : Thread Cert.DecRef.nD Cert.DecRef.τ).loc Cert.DecRef.main_arg2)) (m ((c.tc : Thread Cert.DecRef.nD Cert.DecRef.τ).loc Cert.DecRef.main_arg3)) (m ((c.tc : Thread Cert.DecRef.nD Cert.DecRef.τ).loc Cert.DecRef.main_arg4)) (m ((c.tc : Thread Cert.DecRef.nD Cert.DecRef.τ).loc Cert.DecRef.main_arg5)) (m ((c.tc : Thread Cert.DecRef.nD Cert.DecRef.τ).loc Cert.DecRef.main_arg6)) (m ((c.tc : Thread Cert.DecRef.nD Cert.DecRef.τ).loc Cert.DecRef.main_arg7)) (m ((c.tc : Thread Cert.DecRef.nD Cert.DecRef.τ).loc Cert.DecRef.main_arg8)) (m ((c.tc : Thread Cert.DecRef.nD Cert.DecRef.τ).loc Cert.DecRef.main_arg9)) (m ((c.tc : Thread Cert.DecRef.nD Cert.DecRef.τ).loc Cert.DecRef.main_arg10))) = (fun _ => 1#1)

def Pre_Ssm [hPre_slots_in_range : Cert.Pre_slots_in_range.Facts] (m : (ℓ : Loc Cert.Ssm.nD Cert.Ssm.τ Cert.Ssm.sig) → Buf (Elt Bits) ℓ) : Prop :=
  ∀ c : Dev Cert.Ssm.nD,
    (Cert.Pre_slots_in_range.fn (F := Bits) (m ((c.tc : Thread Cert.Ssm.nD Cert.Ssm.τ).loc Cert.Ssm.main_arg0)) (m ((c.tc : Thread Cert.Ssm.nD Cert.Ssm.τ).loc Cert.Ssm.main_arg1)) (m ((c.tc : Thread Cert.Ssm.nD Cert.Ssm.τ).loc Cert.Ssm.main_arg2)) (m ((c.tc : Thread Cert.Ssm.nD Cert.Ssm.τ).loc Cert.Ssm.main_arg3)) (m ((c.tc : Thread Cert.Ssm.nD Cert.Ssm.τ).loc Cert.Ssm.main_arg4)) (m ((c.tc : Thread Cert.Ssm.nD Cert.Ssm.τ).loc Cert.Ssm.main_arg5)) (m ((c.tc : Thread Cert.Ssm.nD Cert.Ssm.τ).loc Cert.Ssm.main_arg6)) (m ((c.tc : Thread Cert.Ssm.nD Cert.Ssm.τ).loc Cert.Ssm.main_arg7)) (m ((c.tc : Thread Cert.Ssm.nD Cert.Ssm.τ).loc Cert.Ssm.main_arg8)) (m ((c.tc : Thread Cert.Ssm.nD Cert.Ssm.τ).loc Cert.Ssm.main_arg9)) (m ((c.tc : Thread Cert.Ssm.nD Cert.Ssm.τ).loc Cert.Ssm.main_arg10))) = (fun _ => 1#1)

def Pre_SsmIdeal [hPre_slots_in_range : Cert.Pre_slots_in_range.Facts] (m : (ℓ : Loc Cert.SsmIdeal.nD Cert.SsmIdeal.τ Cert.SsmIdeal.sig) → Buf (Elt Ideal) ℓ) : Prop :=
  ∀ c : Dev Cert.SsmIdeal.nD,
    (Cert.Pre_slots_in_range.fn (F := Ideal) (m ((c.tc : Thread Cert.SsmIdeal.nD Cert.SsmIdeal.τ).loc Cert.SsmIdeal.main_arg0)) (m ((c.tc : Thread Cert.SsmIdeal.nD Cert.SsmIdeal.τ).loc Cert.SsmIdeal.main_arg1)) (m ((c.tc : Thread Cert.SsmIdeal.nD Cert.SsmIdeal.τ).loc Cert.SsmIdeal.main_arg2)) (m ((c.tc : Thread Cert.SsmIdeal.nD Cert.SsmIdeal.τ).loc Cert.SsmIdeal.main_arg3)) (m ((c.tc : Thread Cert.SsmIdeal.nD Cert.SsmIdeal.τ).loc Cert.SsmIdeal.main_arg4)) (m ((c.tc : Thread Cert.SsmIdeal.nD Cert.SsmIdeal.τ).loc Cert.SsmIdeal.main_arg5)) (m ((c.tc : Thread Cert.SsmIdeal.nD Cert.SsmIdeal.τ).loc Cert.SsmIdeal.main_arg6)) (m ((c.tc : Thread Cert.SsmIdeal.nD Cert.SsmIdeal.τ).loc Cert.SsmIdeal.main_arg7)) (m ((c.tc : Thread Cert.SsmIdeal.nD Cert.SsmIdeal.τ).loc Cert.SsmIdeal.main_arg8)) (m ((c.tc : Thread Cert.SsmIdeal.nD Cert.SsmIdeal.τ).loc Cert.SsmIdeal.main_arg9)) (m ((c.tc : Thread Cert.SsmIdeal.nD Cert.SsmIdeal.τ).loc Cert.SsmIdeal.main_arg10))) = (fun _ => 1#1)

def Pre_SsmRefIdeal [hPre_slots_in_range : Cert.Pre_slots_in_range.Facts] (m : (ℓ : Loc Cert.SsmRefIdeal.nD Cert.SsmRefIdeal.τ Cert.SsmRefIdeal.sig) → Buf (Elt Ideal) ℓ) : Prop :=
  ∀ c : Dev Cert.SsmRefIdeal.nD,
    (Cert.Pre_slots_in_range.fn (F := Ideal) (m ((c.tc : Thread Cert.SsmRefIdeal.nD Cert.SsmRefIdeal.τ).loc Cert.SsmRefIdeal.main_arg0)) (m ((c.tc : Thread Cert.SsmRefIdeal.nD Cert.SsmRefIdeal.τ).loc Cert.SsmRefIdeal.main_arg1)) (m ((c.tc : Thread Cert.SsmRefIdeal.nD Cert.SsmRefIdeal.τ).loc Cert.SsmRefIdeal.main_arg2)) (m ((c.tc : Thread Cert.SsmRefIdeal.nD Cert.SsmRefIdeal.τ).loc Cert.SsmRefIdeal.main_arg3)) (m ((c.tc : Thread Cert.SsmRefIdeal.nD Cert.SsmRefIdeal.τ).loc Cert.SsmRefIdeal.main_arg4)) (m ((c.tc : Thread Cert.SsmRefIdeal.nD Cert.SsmRefIdeal.τ).loc Cert.SsmRefIdeal.main_arg5)) (m ((c.tc : Thread Cert.SsmRefIdeal.nD Cert.SsmRefIdeal.τ).loc Cert.SsmRefIdeal.main_arg6)) (m ((c.tc : Thread Cert.SsmRefIdeal.nD Cert.SsmRefIdeal.τ).loc Cert.SsmRefIdeal.main_arg7)) (m ((c.tc : Thread Cert.SsmRefIdeal.nD Cert.SsmRefIdeal.τ).loc Cert.SsmRefIdeal.main_arg8)) (m ((c.tc : Thread Cert.SsmRefIdeal.nD Cert.SsmRefIdeal.τ).loc Cert.SsmRefIdeal.main_arg9)) (m ((c.tc : Thread Cert.SsmRefIdeal.nD Cert.SsmRefIdeal.τ).loc Cert.SsmRefIdeal.main_arg10))) = (fun _ => 1#1)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4))
      ∧ r.2.sem = fun _ => 0)

def quiescent_Dec [hDec : Cert.Dec.Facts] [hPre_slots_in_range : Cert.Pre_slots_in_range.Facts] : Prop :=
  ∀ (m : (ℓ : Loc Cert.Dec.nD Cert.Dec.τ Cert.Dec.sig) → Buf (Elt Bits) ℓ) (g : Dev Cert.Dec.nD → PrngReg), Pre_Dec m →
    θ_run (Cert.Dec.defs (F := Bits)) (onTc (τ := Cert.Dec.τ) (Cert.Dec.main (F := Bits))) ⟨m, fun _ => 0, g⟩ (fun r => (∀ c : Dev Cert.Dec.nD,
      r.2.mem ((c.tc : Thread Cert.Dec.nD Cert.Dec.τ).loc Cert.Dec.main_arg0) = m ((c.tc : Thread Cert.Dec.nD Cert.Dec.τ).loc Cert.Dec.main_arg0)
      ∧ r.2.mem ((c.tc : Thread Cert.Dec.nD Cert.Dec.τ).loc Cert.Dec.main_arg1) = m ((c.tc : Thread Cert.Dec.nD Cert.Dec.τ).loc Cert.Dec.main_arg1)
      ∧ r.2.mem ((c.tc : Thread Cert.Dec.nD Cert.Dec.τ).loc Cert.Dec.main_arg2) = m ((c.tc : Thread Cert.Dec.nD Cert.Dec.τ).loc Cert.Dec.main_arg2)
      ∧ r.2.mem ((c.tc : Thread Cert.Dec.nD Cert.Dec.τ).loc Cert.Dec.main_arg3) = m ((c.tc : Thread Cert.Dec.nD Cert.Dec.τ).loc Cert.Dec.main_arg3)
      ∧ r.2.mem ((c.tc : Thread Cert.Dec.nD Cert.Dec.τ).loc Cert.Dec.main_arg4) = m ((c.tc : Thread Cert.Dec.nD Cert.Dec.τ).loc Cert.Dec.main_arg4)
      ∧ r.2.mem ((c.tc : Thread Cert.Dec.nD Cert.Dec.τ).loc Cert.Dec.main_arg5) = m ((c.tc : Thread Cert.Dec.nD Cert.Dec.τ).loc Cert.Dec.main_arg5)
      ∧ r.2.mem ((c.tc : Thread Cert.Dec.nD Cert.Dec.τ).loc Cert.Dec.main_arg6) = m ((c.tc : Thread Cert.Dec.nD Cert.Dec.τ).loc Cert.Dec.main_arg6)
      ∧ r.2.mem ((c.tc : Thread Cert.Dec.nD Cert.Dec.τ).loc Cert.Dec.main_arg7) = m ((c.tc : Thread Cert.Dec.nD Cert.Dec.τ).loc Cert.Dec.main_arg7)
      ∧ r.2.mem ((c.tc : Thread Cert.Dec.nD Cert.Dec.τ).loc Cert.Dec.main_arg8) = m ((c.tc : Thread Cert.Dec.nD Cert.Dec.τ).loc Cert.Dec.main_arg8)
      ∧ r.2.mem ((c.tc : Thread Cert.Dec.nD Cert.Dec.τ).loc Cert.Dec.main_arg9) = m ((c.tc : Thread Cert.Dec.nD Cert.Dec.τ).loc Cert.Dec.main_arg9)
      ∧ r.2.mem ((c.tc : Thread Cert.Dec.nD Cert.Dec.τ).loc Cert.Dec.main_arg10) = m ((c.tc : Thread Cert.Dec.nD Cert.Dec.τ).loc Cert.Dec.main_arg10))
      ∧ r.2.sem = fun _ => 0)

def quiescent_DecRef [hDecRef : Cert.DecRef.Facts] [hPre_slots_in_range : Cert.Pre_slots_in_range.Facts] : Prop :=
  ∀ (m : (ℓ : Loc Cert.DecRef.nD Cert.DecRef.τ Cert.DecRef.sig) → Buf (Elt Bits) ℓ) (g : Dev Cert.DecRef.nD → PrngReg), Pre_DecRef m →
    θ_run (Cert.DecRef.defs (F := Bits)) (onTc (τ := Cert.DecRef.τ) (Cert.DecRef.main (F := Bits))) ⟨m, fun _ => 0, g⟩ (fun r => (∀ c : Dev Cert.DecRef.nD,
      r.2.mem ((c.tc : Thread Cert.DecRef.nD Cert.DecRef.τ).loc Cert.DecRef.main_arg0) = m ((c.tc : Thread Cert.DecRef.nD Cert.DecRef.τ).loc Cert.DecRef.main_arg0)
      ∧ r.2.mem ((c.tc : Thread Cert.DecRef.nD Cert.DecRef.τ).loc Cert.DecRef.main_arg1) = m ((c.tc : Thread Cert.DecRef.nD Cert.DecRef.τ).loc Cert.DecRef.main_arg1)
      ∧ r.2.mem ((c.tc : Thread Cert.DecRef.nD Cert.DecRef.τ).loc Cert.DecRef.main_arg2) = m ((c.tc : Thread Cert.DecRef.nD Cert.DecRef.τ).loc Cert.DecRef.main_arg2)
      ∧ r.2.mem ((c.tc : Thread Cert.DecRef.nD Cert.DecRef.τ).loc Cert.DecRef.main_arg3) = m ((c.tc : Thread Cert.DecRef.nD Cert.DecRef.τ).loc Cert.DecRef.main_arg3)
      ∧ r.2.mem ((c.tc : Thread Cert.DecRef.nD Cert.DecRef.τ).loc Cert.DecRef.main_arg4) = m ((c.tc : Thread Cert.DecRef.nD Cert.DecRef.τ).loc Cert.DecRef.main_arg4)
      ∧ r.2.mem ((c.tc : Thread Cert.DecRef.nD Cert.DecRef.τ).loc Cert.DecRef.main_arg5) = m ((c.tc : Thread Cert.DecRef.nD Cert.DecRef.τ).loc Cert.DecRef.main_arg5)
      ∧ r.2.mem ((c.tc : Thread Cert.DecRef.nD Cert.DecRef.τ).loc Cert.DecRef.main_arg6) = m ((c.tc : Thread Cert.DecRef.nD Cert.DecRef.τ).loc Cert.DecRef.main_arg6)
      ∧ r.2.mem ((c.tc : Thread Cert.DecRef.nD Cert.DecRef.τ).loc Cert.DecRef.main_arg7) = m ((c.tc : Thread Cert.DecRef.nD Cert.DecRef.τ).loc Cert.DecRef.main_arg7)
      ∧ r.2.mem ((c.tc : Thread Cert.DecRef.nD Cert.DecRef.τ).loc Cert.DecRef.main_arg8) = m ((c.tc : Thread Cert.DecRef.nD Cert.DecRef.τ).loc Cert.DecRef.main_arg8)
      ∧ r.2.mem ((c.tc : Thread Cert.DecRef.nD Cert.DecRef.τ).loc Cert.DecRef.main_arg9) = m ((c.tc : Thread Cert.DecRef.nD Cert.DecRef.τ).loc Cert.DecRef.main_arg9)
      ∧ r.2.mem ((c.tc : Thread Cert.DecRef.nD Cert.DecRef.τ).loc Cert.DecRef.main_arg10) = m ((c.tc : Thread Cert.DecRef.nD Cert.DecRef.τ).loc Cert.DecRef.main_arg10))
      ∧ r.2.sem = fun _ => 0)

def quiescent_Ssm [hSsm : Cert.Ssm.Facts] [hPre_slots_in_range : Cert.Pre_slots_in_range.Facts] : Prop :=
  ∀ (m : (ℓ : Loc Cert.Ssm.nD Cert.Ssm.τ Cert.Ssm.sig) → Buf (Elt Bits) ℓ) (g : Dev Cert.Ssm.nD → PrngReg), Pre_Ssm m →
    θ_run (Cert.Ssm.defs (F := Bits)) (onTc (τ := Cert.Ssm.τ) (Cert.Ssm.main (F := Bits))) ⟨m, fun _ => 0, g⟩ (fun r => (∀ c : Dev Cert.Ssm.nD,
      r.2.mem ((c.tc : Thread Cert.Ssm.nD Cert.Ssm.τ).loc Cert.Ssm.main_arg0) = m ((c.tc : Thread Cert.Ssm.nD Cert.Ssm.τ).loc Cert.Ssm.main_arg0)
      ∧ r.2.mem ((c.tc : Thread Cert.Ssm.nD Cert.Ssm.τ).loc Cert.Ssm.main_arg1) = m ((c.tc : Thread Cert.Ssm.nD Cert.Ssm.τ).loc Cert.Ssm.main_arg1)
      ∧ r.2.mem ((c.tc : Thread Cert.Ssm.nD Cert.Ssm.τ).loc Cert.Ssm.main_arg2) = m ((c.tc : Thread Cert.Ssm.nD Cert.Ssm.τ).loc Cert.Ssm.main_arg2)
      ∧ r.2.mem ((c.tc : Thread Cert.Ssm.nD Cert.Ssm.τ).loc Cert.Ssm.main_arg3) = m ((c.tc : Thread Cert.Ssm.nD Cert.Ssm.τ).loc Cert.Ssm.main_arg3)
      ∧ r.2.mem ((c.tc : Thread Cert.Ssm.nD Cert.Ssm.τ).loc Cert.Ssm.main_arg4) = m ((c.tc : Thread Cert.Ssm.nD Cert.Ssm.τ).loc Cert.Ssm.main_arg4)
      ∧ r.2.mem ((c.tc : Thread Cert.Ssm.nD Cert.Ssm.τ).loc Cert.Ssm.main_arg5) = m ((c.tc : Thread Cert.Ssm.nD Cert.Ssm.τ).loc Cert.Ssm.main_arg5)
      ∧ r.2.mem ((c.tc : Thread Cert.Ssm.nD Cert.Ssm.τ).loc Cert.Ssm.main_arg6) = m ((c.tc : Thread Cert.Ssm.nD Cert.Ssm.τ).loc Cert.Ssm.main_arg6)
      ∧ r.2.mem ((c.tc : Thread Cert.Ssm.nD Cert.Ssm.τ).loc Cert.Ssm.main_arg7) = m ((c.tc : Thread Cert.Ssm.nD Cert.Ssm.τ).loc Cert.Ssm.main_arg7)
      ∧ r.2.mem ((c.tc : Thread Cert.Ssm.nD Cert.Ssm.τ).loc Cert.Ssm.main_arg8) = m ((c.tc : Thread Cert.Ssm.nD Cert.Ssm.τ).loc Cert.Ssm.main_arg8)
      ∧ r.2.mem ((c.tc : Thread Cert.Ssm.nD Cert.Ssm.τ).loc Cert.Ssm.main_arg9) = m ((c.tc : Thread Cert.Ssm.nD Cert.Ssm.τ).loc Cert.Ssm.main_arg9)
      ∧ r.2.mem ((c.tc : Thread Cert.Ssm.nD Cert.Ssm.τ).loc Cert.Ssm.main_arg10) = m ((c.tc : Thread Cert.Ssm.nD Cert.Ssm.τ).loc Cert.Ssm.main_arg10))
      ∧ r.2.sem = fun _ => 0)

def quiescent_SsmIdeal [hSsmIdeal : Cert.SsmIdeal.Facts] [hPre_slots_in_range : Cert.Pre_slots_in_range.Facts] : Prop :=
  ∀ (m : (ℓ : Loc Cert.SsmIdeal.nD Cert.SsmIdeal.τ Cert.SsmIdeal.sig) → Buf (Elt Ideal) ℓ) (g : Dev Cert.SsmIdeal.nD → PrngReg), Pre_SsmIdeal m →
    θ_run (Cert.SsmIdeal.defs (F := Ideal)) (onTc (τ := Cert.SsmIdeal.τ) (Cert.SsmIdeal.main (F := Ideal))) ⟨m, fun _ => 0, g⟩ (fun r => (∀ c : Dev Cert.SsmIdeal.nD,
      r.2.mem ((c.tc : Thread Cert.SsmIdeal.nD Cert.SsmIdeal.τ).loc Cert.SsmIdeal.main_arg0) = m ((c.tc : Thread Cert.SsmIdeal.nD Cert.SsmIdeal.τ).loc Cert.SsmIdeal.main_arg0)
      ∧ r.2.mem ((c.tc : Thread Cert.SsmIdeal.nD Cert.SsmIdeal.τ).loc Cert.SsmIdeal.main_arg1) = m ((c.tc : Thread Cert.SsmIdeal.nD Cert.SsmIdeal.τ).loc Cert.SsmIdeal.main_arg1)
      ∧ r.2.mem ((c.tc : Thread Cert.SsmIdeal.nD Cert.SsmIdeal.τ).loc Cert.SsmIdeal.main_arg2) = m ((c.tc : Thread Cert.SsmIdeal.nD Cert.SsmIdeal.τ).loc Cert.SsmIdeal.main_arg2)
      ∧ r.2.mem ((c.tc : Thread Cert.SsmIdeal.nD Cert.SsmIdeal.τ).loc Cert.SsmIdeal.main_arg3) = m ((c.tc : Thread Cert.SsmIdeal.nD Cert.SsmIdeal.τ).loc Cert.SsmIdeal.main_arg3)
      ∧ r.2.mem ((c.tc : Thread Cert.SsmIdeal.nD Cert.SsmIdeal.τ).loc Cert.SsmIdeal.main_arg4) = m ((c.tc : Thread Cert.SsmIdeal.nD Cert.SsmIdeal.τ).loc Cert.SsmIdeal.main_arg4)
      ∧ r.2.mem ((c.tc : Thread Cert.SsmIdeal.nD Cert.SsmIdeal.τ).loc Cert.SsmIdeal.main_arg5) = m ((c.tc : Thread Cert.SsmIdeal.nD Cert.SsmIdeal.τ).loc Cert.SsmIdeal.main_arg5)
      ∧ r.2.mem ((c.tc : Thread Cert.SsmIdeal.nD Cert.SsmIdeal.τ).loc Cert.SsmIdeal.main_arg6) = m ((c.tc : Thread Cert.SsmIdeal.nD Cert.SsmIdeal.τ).loc Cert.SsmIdeal.main_arg6)
      ∧ r.2.mem ((c.tc : Thread Cert.SsmIdeal.nD Cert.SsmIdeal.τ).loc Cert.SsmIdeal.main_arg7) = m ((c.tc : Thread Cert.SsmIdeal.nD Cert.SsmIdeal.τ).loc Cert.SsmIdeal.main_arg7)
      ∧ r.2.mem ((c.tc : Thread Cert.SsmIdeal.nD Cert.SsmIdeal.τ).loc Cert.SsmIdeal.main_arg8) = m ((c.tc : Thread Cert.SsmIdeal.nD Cert.SsmIdeal.τ).loc Cert.SsmIdeal.main_arg8)
      ∧ r.2.mem ((c.tc : Thread Cert.SsmIdeal.nD Cert.SsmIdeal.τ).loc Cert.SsmIdeal.main_arg9) = m ((c.tc : Thread Cert.SsmIdeal.nD Cert.SsmIdeal.τ).loc Cert.SsmIdeal.main_arg9)
      ∧ r.2.mem ((c.tc : Thread Cert.SsmIdeal.nD Cert.SsmIdeal.τ).loc Cert.SsmIdeal.main_arg10) = m ((c.tc : Thread Cert.SsmIdeal.nD Cert.SsmIdeal.τ).loc Cert.SsmIdeal.main_arg10))
      ∧ r.2.sem = fun _ => 0)

def quiescent_SsmRefIdeal [hSsmRefIdeal : Cert.SsmRefIdeal.Facts] [hPre_slots_in_range : Cert.Pre_slots_in_range.Facts] : Prop :=
  ∀ (m : (ℓ : Loc Cert.SsmRefIdeal.nD Cert.SsmRefIdeal.τ Cert.SsmRefIdeal.sig) → Buf (Elt Ideal) ℓ) (g : Dev Cert.SsmRefIdeal.nD → PrngReg), Pre_SsmRefIdeal m →
    θ_run (Cert.SsmRefIdeal.defs (F := Ideal)) (onTc (τ := Cert.SsmRefIdeal.τ) (Cert.SsmRefIdeal.main (F := Ideal))) ⟨m, fun _ => 0, g⟩ (fun r => (∀ c : Dev Cert.SsmRefIdeal.nD,
      r.2.mem ((c.tc : Thread Cert.SsmRefIdeal.nD Cert.SsmRefIdeal.τ).loc Cert.SsmRefIdeal.main_arg0) = m ((c.tc : Thread Cert.SsmRefIdeal.nD Cert.SsmRefIdeal.τ).loc Cert.SsmRefIdeal.main_arg0)
      ∧ r.2.mem ((c.tc : Thread Cert.SsmRefIdeal.nD Cert.SsmRefIdeal.τ).loc Cert.SsmRefIdeal.main_arg1) = m ((c.tc : Thread Cert.SsmRefIdeal.nD Cert.SsmRefIdeal.τ).loc Cert.SsmRefIdeal.main_arg1)
      ∧ r.2.mem ((c.tc : Thread Cert.SsmRefIdeal.nD Cert.SsmRefIdeal.τ).loc Cert.SsmRefIdeal.main_arg2) = m ((c.tc : Thread Cert.SsmRefIdeal.nD Cert.SsmRefIdeal.τ).loc Cert.SsmRefIdeal.main_arg2)
      ∧ r.2.mem ((c.tc : Thread Cert.SsmRefIdeal.nD Cert.SsmRefIdeal.τ).loc Cert.SsmRefIdeal.main_arg3) = m ((c.tc : Thread Cert.SsmRefIdeal.nD Cert.SsmRefIdeal.τ).loc Cert.SsmRefIdeal.main_arg3)
      ∧ r.2.mem ((c.tc : Thread Cert.SsmRefIdeal.nD Cert.SsmRefIdeal.τ).loc Cert.SsmRefIdeal.main_arg4) = m ((c.tc : Thread Cert.SsmRefIdeal.nD Cert.SsmRefIdeal.τ).loc Cert.SsmRefIdeal.main_arg4)
      ∧ r.2.mem ((c.tc : Thread Cert.SsmRefIdeal.nD Cert.SsmRefIdeal.τ).loc Cert.SsmRefIdeal.main_arg5) = m ((c.tc : Thread Cert.SsmRefIdeal.nD Cert.SsmRefIdeal.τ).loc Cert.SsmRefIdeal.main_arg5)
      ∧ r.2.mem ((c.tc : Thread Cert.SsmRefIdeal.nD Cert.SsmRefIdeal.τ).loc Cert.SsmRefIdeal.main_arg6) = m ((c.tc : Thread Cert.SsmRefIdeal.nD Cert.SsmRefIdeal.τ).loc Cert.SsmRefIdeal.main_arg6)
      ∧ r.2.mem ((c.tc : Thread Cert.SsmRefIdeal.nD Cert.SsmRefIdeal.τ).loc Cert.SsmRefIdeal.main_arg7) = m ((c.tc : Thread Cert.SsmRefIdeal.nD Cert.SsmRefIdeal.τ).loc Cert.SsmRefIdeal.main_arg7)
      ∧ r.2.mem ((c.tc : Thread Cert.SsmRefIdeal.nD Cert.SsmRefIdeal.τ).loc Cert.SsmRefIdeal.main_arg8) = m ((c.tc : Thread Cert.SsmRefIdeal.nD Cert.SsmRefIdeal.τ).loc Cert.SsmRefIdeal.main_arg8)
      ∧ r.2.mem ((c.tc : Thread Cert.SsmRefIdeal.nD Cert.SsmRefIdeal.τ).loc Cert.SsmRefIdeal.main_arg9) = m ((c.tc : Thread Cert.SsmRefIdeal.nD Cert.SsmRefIdeal.τ).loc Cert.SsmRefIdeal.main_arg9)
      ∧ r.2.mem ((c.tc : Thread Cert.SsmRefIdeal.nD Cert.SsmRefIdeal.τ).loc Cert.SsmRefIdeal.main_arg10) = m ((c.tc : Thread Cert.SsmRefIdeal.nD Cert.SsmRefIdeal.τ).loc Cert.SsmRefIdeal.main_arg10))
      ∧ r.2.sem = fun _ => 0)

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v0) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v2_0)) (v1 : (c : Dev Cert.OutIdeal.nD) → Buf (Elt Ideal) ((c.tc : Thread Cert.OutIdeal.nD Cert.OutIdeal.τ).loc Cert.OutIdeal.main_v2_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2_0) = v0 c
          ∧ r.2.mem ((c.tc : Thread Cert.OutIdeal.nD Cert.OutIdeal.τ).loc Cert.OutIdeal.main_v2_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v0_0) = v0 c
          ∧ r.2.mem ((c.tc : Thread Cert.OutRefIdeal.nD Cert.OutRefIdeal.τ).loc Cert.OutRefIdeal.main_v0_1) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)) →
    ∃ (v0 : (c : Dev Cert.InIdeal.nD) → Buf (Elt Ideal) ((c.tc : Thread Cert.InIdeal.nD Cert.InIdeal.τ).loc Cert.InIdeal.main_v5_0)) (v1 : (c : Dev Cert.InIdeal.nD) → Buf (Elt Ideal) ((c.tc : Thread Cert.InIdeal.nD Cert.InIdeal.τ).loc Cert.InIdeal.main_v5_1)) (v2 : (c : Dev Cert.InIdeal.nD) → Buf (Elt Ideal) ((c.tc : Thread Cert.InIdeal.nD Cert.InIdeal.τ).loc Cert.InIdeal.main_v5_2)) (v3 : (c : Dev Cert.InIdeal.nD) → Buf (Elt Ideal) ((c.tc : Thread Cert.InIdeal.nD Cert.InIdeal.τ).loc Cert.InIdeal.main_v5_3)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v5_0) = v0 c
          ∧ r.2.mem ((c.tc : Thread Cert.InIdeal.nD Cert.InIdeal.τ).loc Cert.InIdeal.main_v5_1) = v1 c
          ∧ r.2.mem ((c.tc : Thread Cert.InIdeal.nD Cert.InIdeal.τ).loc Cert.InIdeal.main_v5_2) = v2 c
          ∧ r.2.mem ((c.tc : Thread Cert.InIdeal.nD Cert.InIdeal.τ).loc Cert.InIdeal.main_v5_3) = v3 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v0_0) = v0 c
          ∧ r.2.mem ((c.tc : Thread Cert.InRefIdeal.nD Cert.InRefIdeal.τ).loc Cert.InRefIdeal.main_v0_1) = v1 c
          ∧ r.2.mem ((c.tc : Thread Cert.InRefIdeal.nD Cert.InRefIdeal.τ).loc Cert.InRefIdeal.main_v0_2) = v2 c
          ∧ r.2.mem ((c.tc : Thread Cert.InRefIdeal.nD Cert.InRefIdeal.τ).loc Cert.InRefIdeal.main_v0_3) = v3 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4))

def bitexact_Dec_DecRef [hDec : Cert.Dec.Facts] [hDecRef : Cert.DecRef.Facts] [hPre_slots_in_range : Cert.Pre_slots_in_range.Facts] : Prop :=
  ∀ (m : (ℓ : Loc Cert.Dec.nD Cert.Dec.τ Cert.Dec.sig) → Buf (Elt Bits) ℓ) (g : Dev Cert.Dec.nD → PrngReg)
    (m' : (ℓ : Loc Cert.DecRef.nD Cert.DecRef.τ Cert.DecRef.sig) → Buf (Elt Bits) ℓ) (g' : Dev Cert.DecRef.nD → PrngReg), Pre_Dec m →
    (∀ c : Dev Cert.Dec.nD,
      m' ((c.tc : Thread Cert.DecRef.nD Cert.DecRef.τ).loc Cert.DecRef.main_arg0) = m ((c.tc : Thread Cert.Dec.nD Cert.Dec.τ).loc Cert.Dec.main_arg0)
      ∧ m' ((c.tc : Thread Cert.DecRef.nD Cert.DecRef.τ).loc Cert.DecRef.main_arg1) = m ((c.tc : Thread Cert.Dec.nD Cert.Dec.τ).loc Cert.Dec.main_arg1)
      ∧ m' ((c.tc : Thread Cert.DecRef.nD Cert.DecRef.τ).loc Cert.DecRef.main_arg2) = m ((c.tc : Thread Cert.Dec.nD Cert.Dec.τ).loc Cert.Dec.main_arg2)
      ∧ m' ((c.tc : Thread Cert.DecRef.nD Cert.DecRef.τ).loc Cert.DecRef.main_arg3) = m ((c.tc : Thread Cert.Dec.nD Cert.Dec.τ).loc Cert.Dec.main_arg3)
      ∧ m' ((c.tc : Thread Cert.DecRef.nD Cert.DecRef.τ).loc Cert.DecRef.main_arg4) = m ((c.tc : Thread Cert.Dec.nD Cert.Dec.τ).loc Cert.Dec.main_arg4)
      ∧ m' ((c.tc : Thread Cert.DecRef.nD Cert.DecRef.τ).loc Cert.DecRef.main_arg5) = m ((c.tc : Thread Cert.Dec.nD Cert.Dec.τ).loc Cert.Dec.main_arg5)
      ∧ m' ((c.tc : Thread Cert.DecRef.nD Cert.DecRef.τ).loc Cert.DecRef.main_arg6) = m ((c.tc : Thread Cert.Dec.nD Cert.Dec.τ).loc Cert.Dec.main_arg6)
      ∧ m' ((c.tc : Thread Cert.DecRef.nD Cert.DecRef.τ).loc Cert.DecRef.main_arg7) = m ((c.tc : Thread Cert.Dec.nD Cert.Dec.τ).loc Cert.Dec.main_arg7)
      ∧ m' ((c.tc : Thread Cert.DecRef.nD Cert.DecRef.τ).loc Cert.DecRef.main_arg8) = m ((c.tc : Thread Cert.Dec.nD Cert.Dec.τ).loc Cert.Dec.main_arg8)
      ∧ m' ((c.tc : Thread Cert.DecRef.nD Cert.DecRef.τ).loc Cert.DecRef.main_arg9) = m ((c.tc : Thread Cert.Dec.nD Cert.Dec.τ).loc Cert.Dec.main_arg9)
      ∧ m' ((c.tc : Thread Cert.DecRef.nD Cert.DecRef.τ).loc Cert.DecRef.main_arg10) = m ((c.tc : Thread Cert.Dec.nD Cert.Dec.τ).loc Cert.Dec.main_arg10)) →
    ∃ (v0 : (c : Dev Cert.Dec.nD) → Buf (Elt Bits) ((c.tc : Thread Cert.Dec.nD Cert.Dec.τ).loc Cert.Dec.main_v8_1)),
      θ_run (Cert.Dec.defs (F := Bits)) (onTc (τ := Cert.Dec.τ) (Cert.Dec.main (F := Bits))) ⟨m, fun _ => 0, g⟩ (fun r => ∀ c : Dev Cert.Dec.nD,
          r.2.mem ((c.tc : Thread Cert.Dec.nD Cert.Dec.τ).loc Cert.Dec.main_v8_1) = v0 c
          ∧ r.2.mem ((c.tc : Thread Cert.Dec.nD Cert.Dec.τ).loc Cert.Dec.main_arg0) = m ((c.tc : Thread Cert.Dec.nD Cert.Dec.τ).loc Cert.Dec.main_arg0)
          ∧ r.2.mem ((c.tc : Thread Cert.Dec.nD Cert.Dec.τ).loc Cert.Dec.main_arg1) = m ((c.tc : Thread Cert.Dec.nD Cert.Dec.τ).loc Cert.Dec.main_arg1)
          ∧ r.2.mem ((c.tc : Thread Cert.Dec.nD Cert.Dec.τ).loc Cert.Dec.main_arg2) = m ((c.tc : Thread Cert.Dec.nD Cert.Dec.τ).loc Cert.Dec.main_arg2)
          ∧ r.2.mem ((c.tc : Thread Cert.Dec.nD Cert.Dec.τ).loc Cert.Dec.main_arg3) = m ((c.tc : Thread Cert.Dec.nD Cert.Dec.τ).loc Cert.Dec.main_arg3)
          ∧ r.2.mem ((c.tc : Thread Cert.Dec.nD Cert.Dec.τ).loc Cert.Dec.main_arg4) = m ((c.tc : Thread Cert.Dec.nD Cert.Dec.τ).loc Cert.Dec.main_arg4)
          ∧ r.2.mem ((c.tc : Thread Cert.Dec.nD Cert.Dec.τ).loc Cert.Dec.main_arg5) = m ((c.tc : Thread Cert.Dec.nD Cert.Dec.τ).loc Cert.Dec.main_arg5)
          ∧ r.2.mem ((c.tc : Thread Cert.Dec.nD Cert.Dec.τ).loc Cert.Dec.main_arg6) = m ((c.tc : Thread Cert.Dec.nD Cert.Dec.τ).loc Cert.Dec.main_arg6)
          ∧ r.2.mem ((c.tc : Thread Cert.Dec.nD Cert.Dec.τ).loc Cert.Dec.main_arg7) = m ((c.tc : Thread Cert.Dec.nD Cert.Dec.τ).loc Cert.Dec.main_arg7)
          ∧ r.2.mem ((c.tc : Thread Cert.Dec.nD Cert.Dec.τ).loc Cert.Dec.main_arg8) = m ((c.tc : Thread Cert.Dec.nD Cert.Dec.τ).loc Cert.Dec.main_arg8)
          ∧ r.2.mem ((c.tc : Thread Cert.Dec.nD Cert.Dec.τ).loc Cert.Dec.main_arg9) = m ((c.tc : Thread Cert.Dec.nD Cert.Dec.τ).loc Cert.Dec.main_arg9)
          ∧ r.2.mem ((c.tc : Thread Cert.Dec.nD Cert.Dec.τ).loc Cert.Dec.main_arg10) = m ((c.tc : Thread Cert.Dec.nD Cert.Dec.τ).loc Cert.Dec.main_arg10))
      ∧ θ_run (Cert.DecRef.defs (F := Bits)) (onTc (τ := Cert.DecRef.τ) (Cert.DecRef.main (F := Bits))) ⟨m', fun _ => 0, g'⟩ (fun r => ∀ c : Dev Cert.DecRef.nD,
          r.2.mem ((c.tc : Thread Cert.DecRef.nD Cert.DecRef.τ).loc Cert.DecRef.main_v13) = v0 c
          ∧ r.2.mem ((c.tc : Thread Cert.DecRef.nD Cert.DecRef.τ).loc Cert.DecRef.main_arg0) = m' ((c.tc : Thread Cert.DecRef.nD Cert.DecRef.τ).loc Cert.DecRef.main_arg0)
          ∧ r.2.mem ((c.tc : Thread Cert.DecRef.nD Cert.DecRef.τ).loc Cert.DecRef.main_arg1) = m' ((c.tc : Thread Cert.DecRef.nD Cert.DecRef.τ).loc Cert.DecRef.main_arg1)
          ∧ r.2.mem ((c.tc : Thread Cert.DecRef.nD Cert.DecRef.τ).loc Cert.DecRef.main_arg2) = m' ((c.tc : Thread Cert.DecRef.nD Cert.DecRef.τ).loc Cert.DecRef.main_arg2)
          ∧ r.2.mem ((c.tc : Thread Cert.DecRef.nD Cert.DecRef.τ).loc Cert.DecRef.main_arg3) = m' ((c.tc : Thread Cert.DecRef.nD Cert.DecRef.τ).loc Cert.DecRef.main_arg3)
          ∧ r.2.mem ((c.tc : Thread Cert.DecRef.nD Cert.DecRef.τ).loc Cert.DecRef.main_arg4) = m' ((c.tc : Thread Cert.DecRef.nD Cert.DecRef.τ).loc Cert.DecRef.main_arg4)
          ∧ r.2.mem ((c.tc : Thread Cert.DecRef.nD Cert.DecRef.τ).loc Cert.DecRef.main_arg5) = m' ((c.tc : Thread Cert.DecRef.nD Cert.DecRef.τ).loc Cert.DecRef.main_arg5)
          ∧ r.2.mem ((c.tc : Thread Cert.DecRef.nD Cert.DecRef.τ).loc Cert.DecRef.main_arg6) = m' ((c.tc : Thread Cert.DecRef.nD Cert.DecRef.τ).loc Cert.DecRef.main_arg6)
          ∧ r.2.mem ((c.tc : Thread Cert.DecRef.nD Cert.DecRef.τ).loc Cert.DecRef.main_arg7) = m' ((c.tc : Thread Cert.DecRef.nD Cert.DecRef.τ).loc Cert.DecRef.main_arg7)
          ∧ r.2.mem ((c.tc : Thread Cert.DecRef.nD Cert.DecRef.τ).loc Cert.DecRef.main_arg8) = m' ((c.tc : Thread Cert.DecRef.nD Cert.DecRef.τ).loc Cert.DecRef.main_arg8)
          ∧ r.2.mem ((c.tc : Thread Cert.DecRef.nD Cert.DecRef.τ).loc Cert.DecRef.main_arg9) = m' ((c.tc : Thread Cert.DecRef.nD Cert.DecRef.τ).loc Cert.DecRef.main_arg9)
          ∧ r.2.mem ((c.tc : Thread Cert.DecRef.nD Cert.DecRef.τ).loc Cert.DecRef.main_arg10) = m' ((c.tc : Thread Cert.DecRef.nD Cert.DecRef.τ).loc Cert.DecRef.main_arg10))

def preserves_Ssm_SsmIdeal : Prop :=
  True

def algebraic_SsmIdeal_SsmRefIdeal [hSsmIdeal : Cert.SsmIdeal.Facts] [hSsmRefIdeal : Cert.SsmRefIdeal.Facts] [hPre_slots_in_range : Cert.Pre_slots_in_range.Facts] : Prop :=
  ∀ (m : (ℓ : Loc Cert.SsmIdeal.nD Cert.SsmIdeal.τ Cert.SsmIdeal.sig) → Buf (Elt Ideal) ℓ) (g : Dev Cert.SsmIdeal.nD → PrngReg)
    (m' : (ℓ : Loc Cert.SsmRefIdeal.nD Cert.SsmRefIdeal.τ Cert.SsmRefIdeal.sig) → Buf (Elt Ideal) ℓ) (g' : Dev Cert.SsmRefIdeal.nD → PrngReg), Pre_SsmIdeal m →
    (∀ c : Dev Cert.SsmIdeal.nD,
      m' ((c.tc : Thread Cert.SsmRefIdeal.nD Cert.SsmRefIdeal.τ).loc Cert.SsmRefIdeal.main_arg0) = m ((c.tc : Thread Cert.SsmIdeal.nD Cert.SsmIdeal.τ).loc Cert.SsmIdeal.main_arg0)
      ∧ m' ((c.tc : Thread Cert.SsmRefIdeal.nD Cert.SsmRefIdeal.τ).loc Cert.SsmRefIdeal.main_arg1) = m ((c.tc : Thread Cert.SsmIdeal.nD Cert.SsmIdeal.τ).loc Cert.SsmIdeal.main_arg1)
      ∧ m' ((c.tc : Thread Cert.SsmRefIdeal.nD Cert.SsmRefIdeal.τ).loc Cert.SsmRefIdeal.main_arg2) = m ((c.tc : Thread Cert.SsmIdeal.nD Cert.SsmIdeal.τ).loc Cert.SsmIdeal.main_arg2)
      ∧ m' ((c.tc : Thread Cert.SsmRefIdeal.nD Cert.SsmRefIdeal.τ).loc Cert.SsmRefIdeal.main_arg3) = m ((c.tc : Thread Cert.SsmIdeal.nD Cert.SsmIdeal.τ).loc Cert.SsmIdeal.main_arg3)
      ∧ m' ((c.tc : Thread Cert.SsmRefIdeal.nD Cert.SsmRefIdeal.τ).loc Cert.SsmRefIdeal.main_arg4) = m ((c.tc : Thread Cert.SsmIdeal.nD Cert.SsmIdeal.τ).loc Cert.SsmIdeal.main_arg4)
      ∧ m' ((c.tc : Thread Cert.SsmRefIdeal.nD Cert.SsmRefIdeal.τ).loc Cert.SsmRefIdeal.main_arg5) = m ((c.tc : Thread Cert.SsmIdeal.nD Cert.SsmIdeal.τ).loc Cert.SsmIdeal.main_arg5)
      ∧ m' ((c.tc : Thread Cert.SsmRefIdeal.nD Cert.SsmRefIdeal.τ).loc Cert.SsmRefIdeal.main_arg6) = m ((c.tc : Thread Cert.SsmIdeal.nD Cert.SsmIdeal.τ).loc Cert.SsmIdeal.main_arg6)
      ∧ m' ((c.tc : Thread Cert.SsmRefIdeal.nD Cert.SsmRefIdeal.τ).loc Cert.SsmRefIdeal.main_arg7) = m ((c.tc : Thread Cert.SsmIdeal.nD Cert.SsmIdeal.τ).loc Cert.SsmIdeal.main_arg7)
      ∧ m' ((c.tc : Thread Cert.SsmRefIdeal.nD Cert.SsmRefIdeal.τ).loc Cert.SsmRefIdeal.main_arg8) = m ((c.tc : Thread Cert.SsmIdeal.nD Cert.SsmIdeal.τ).loc Cert.SsmIdeal.main_arg8)
      ∧ m' ((c.tc : Thread Cert.SsmRefIdeal.nD Cert.SsmRefIdeal.τ).loc Cert.SsmRefIdeal.main_arg9) = m ((c.tc : Thread Cert.SsmIdeal.nD Cert.SsmIdeal.τ).loc Cert.SsmIdeal.main_arg9)
      ∧ m' ((c.tc : Thread Cert.SsmRefIdeal.nD Cert.SsmRefIdeal.τ).loc Cert.SsmRefIdeal.main_arg10) = m ((c.tc : Thread Cert.SsmIdeal.nD Cert.SsmIdeal.τ).loc Cert.SsmIdeal.main_arg10)) →
    ∃ (v0 : (c : Dev Cert.SsmIdeal.nD) → Buf (Elt Ideal) ((c.tc : Thread Cert.SsmIdeal.nD Cert.SsmIdeal.τ).loc Cert.SsmIdeal.main_v8_0)) (v1 : (c : Dev Cert.SsmIdeal.nD) → Buf (Elt Ideal) ((c.tc : Thread Cert.SsmIdeal.nD Cert.SsmIdeal.τ).loc Cert.SsmIdeal.main_v8_2)) (v2 : (c : Dev Cert.SsmIdeal.nD) → Buf (Elt Ideal) ((c.tc : Thread Cert.SsmIdeal.nD Cert.SsmIdeal.τ).loc Cert.SsmIdeal.main_v8_3)),
      θ_run (Cert.SsmIdeal.defs (F := Ideal)) (onTc (τ := Cert.SsmIdeal.τ) (Cert.SsmIdeal.main (F := Ideal))) ⟨m, fun _ => 0, g⟩ (fun r => ∀ c : Dev Cert.SsmIdeal.nD,
          r.2.mem ((c.tc : Thread Cert.SsmIdeal.nD Cert.SsmIdeal.τ).loc Cert.SsmIdeal.main_v8_0) = v0 c
          ∧ r.2.mem ((c.tc : Thread Cert.SsmIdeal.nD Cert.SsmIdeal.τ).loc Cert.SsmIdeal.main_v8_2) = v1 c
          ∧ r.2.mem ((c.tc : Thread Cert.SsmIdeal.nD Cert.SsmIdeal.τ).loc Cert.SsmIdeal.main_v8_3) = v2 c
          ∧ r.2.mem ((c.tc : Thread Cert.SsmIdeal.nD Cert.SsmIdeal.τ).loc Cert.SsmIdeal.main_arg0) = m ((c.tc : Thread Cert.SsmIdeal.nD Cert.SsmIdeal.τ).loc Cert.SsmIdeal.main_arg0)
          ∧ r.2.mem ((c.tc : Thread Cert.SsmIdeal.nD Cert.SsmIdeal.τ).loc Cert.SsmIdeal.main_arg1) = m ((c.tc : Thread Cert.SsmIdeal.nD Cert.SsmIdeal.τ).loc Cert.SsmIdeal.main_arg1)
          ∧ r.2.mem ((c.tc : Thread Cert.SsmIdeal.nD Cert.SsmIdeal.τ).loc Cert.SsmIdeal.main_arg2) = m ((c.tc : Thread Cert.SsmIdeal.nD Cert.SsmIdeal.τ).loc Cert.SsmIdeal.main_arg2)
          ∧ r.2.mem ((c.tc : Thread Cert.SsmIdeal.nD Cert.SsmIdeal.τ).loc Cert.SsmIdeal.main_arg3) = m ((c.tc : Thread Cert.SsmIdeal.nD Cert.SsmIdeal.τ).loc Cert.SsmIdeal.main_arg3)
          ∧ r.2.mem ((c.tc : Thread Cert.SsmIdeal.nD Cert.SsmIdeal.τ).loc Cert.SsmIdeal.main_arg4) = m ((c.tc : Thread Cert.SsmIdeal.nD Cert.SsmIdeal.τ).loc Cert.SsmIdeal.main_arg4)
          ∧ r.2.mem ((c.tc : Thread Cert.SsmIdeal.nD Cert.SsmIdeal.τ).loc Cert.SsmIdeal.main_arg5) = m ((c.tc : Thread Cert.SsmIdeal.nD Cert.SsmIdeal.τ).loc Cert.SsmIdeal.main_arg5)
          ∧ r.2.mem ((c.tc : Thread Cert.SsmIdeal.nD Cert.SsmIdeal.τ).loc Cert.SsmIdeal.main_arg6) = m ((c.tc : Thread Cert.SsmIdeal.nD Cert.SsmIdeal.τ).loc Cert.SsmIdeal.main_arg6)
          ∧ r.2.mem ((c.tc : Thread Cert.SsmIdeal.nD Cert.SsmIdeal.τ).loc Cert.SsmIdeal.main_arg7) = m ((c.tc : Thread Cert.SsmIdeal.nD Cert.SsmIdeal.τ).loc Cert.SsmIdeal.main_arg7)
          ∧ r.2.mem ((c.tc : Thread Cert.SsmIdeal.nD Cert.SsmIdeal.τ).loc Cert.SsmIdeal.main_arg8) = m ((c.tc : Thread Cert.SsmIdeal.nD Cert.SsmIdeal.τ).loc Cert.SsmIdeal.main_arg8)
          ∧ r.2.mem ((c.tc : Thread Cert.SsmIdeal.nD Cert.SsmIdeal.τ).loc Cert.SsmIdeal.main_arg9) = m ((c.tc : Thread Cert.SsmIdeal.nD Cert.SsmIdeal.τ).loc Cert.SsmIdeal.main_arg9)
          ∧ r.2.mem ((c.tc : Thread Cert.SsmIdeal.nD Cert.SsmIdeal.τ).loc Cert.SsmIdeal.main_arg10) = m ((c.tc : Thread Cert.SsmIdeal.nD Cert.SsmIdeal.τ).loc Cert.SsmIdeal.main_arg10))
      ∧ θ_run (Cert.SsmRefIdeal.defs (F := Ideal)) (onTc (τ := Cert.SsmRefIdeal.τ) (Cert.SsmRefIdeal.main (F := Ideal))) ⟨m', fun _ => 0, g'⟩ (fun r => ∀ c : Dev Cert.SsmRefIdeal.nD,
          r.2.mem ((c.tc : Thread Cert.SsmRefIdeal.nD Cert.SsmRefIdeal.τ).loc Cert.SsmRefIdeal.main_v66) = v0 c
          ∧ r.2.mem ((c.tc : Thread Cert.SsmRefIdeal.nD Cert.SsmRefIdeal.τ).loc Cert.SsmRefIdeal.main_v94) = v1 c
          ∧ r.2.mem ((c.tc : Thread Cert.SsmRefIdeal.nD Cert.SsmRefIdeal.τ).loc Cert.SsmRefIdeal.main_v96) = v2 c
          ∧ r.2.mem ((c.tc : Thread Cert.SsmRefIdeal.nD Cert.SsmRefIdeal.τ).loc Cert.SsmRefIdeal.main_arg0) = m' ((c.tc : Thread Cert.SsmRefIdeal.nD Cert.SsmRefIdeal.τ).loc Cert.SsmRefIdeal.main_arg0)
          ∧ r.2.mem ((c.tc : Thread Cert.SsmRefIdeal.nD Cert.SsmRefIdeal.τ).loc Cert.SsmRefIdeal.main_arg1) = m' ((c.tc : Thread Cert.SsmRefIdeal.nD Cert.SsmRefIdeal.τ).loc Cert.SsmRefIdeal.main_arg1)
          ∧ r.2.mem ((c.tc : Thread Cert.SsmRefIdeal.nD Cert.SsmRefIdeal.τ).loc Cert.SsmRefIdeal.main_arg2) = m' ((c.tc : Thread Cert.SsmRefIdeal.nD Cert.SsmRefIdeal.τ).loc Cert.SsmRefIdeal.main_arg2)
          ∧ r.2.mem ((c.tc : Thread Cert.SsmRefIdeal.nD Cert.SsmRefIdeal.τ).loc Cert.SsmRefIdeal.main_arg3) = m' ((c.tc : Thread Cert.SsmRefIdeal.nD Cert.SsmRefIdeal.τ).loc Cert.SsmRefIdeal.main_arg3)
          ∧ r.2.mem ((c.tc : Thread Cert.SsmRefIdeal.nD Cert.SsmRefIdeal.τ).loc Cert.SsmRefIdeal.main_arg4) = m' ((c.tc : Thread Cert.SsmRefIdeal.nD Cert.SsmRefIdeal.τ).loc Cert.SsmRefIdeal.main_arg4)
          ∧ r.2.mem ((c.tc : Thread Cert.SsmRefIdeal.nD Cert.SsmRefIdeal.τ).loc Cert.SsmRefIdeal.main_arg5) = m' ((c.tc : Thread Cert.SsmRefIdeal.nD Cert.SsmRefIdeal.τ).loc Cert.SsmRefIdeal.main_arg5)
          ∧ r.2.mem ((c.tc : Thread Cert.SsmRefIdeal.nD Cert.SsmRefIdeal.τ).loc Cert.SsmRefIdeal.main_arg6) = m' ((c.tc : Thread Cert.SsmRefIdeal.nD Cert.SsmRefIdeal.τ).loc Cert.SsmRefIdeal.main_arg6)
          ∧ r.2.mem ((c.tc : Thread Cert.SsmRefIdeal.nD Cert.SsmRefIdeal.τ).loc Cert.SsmRefIdeal.main_arg7) = m' ((c.tc : Thread Cert.SsmRefIdeal.nD Cert.SsmRefIdeal.τ).loc Cert.SsmRefIdeal.main_arg7)
          ∧ r.2.mem ((c.tc : Thread Cert.SsmRefIdeal.nD Cert.SsmRefIdeal.τ).loc Cert.SsmRefIdeal.main_arg8) = m' ((c.tc : Thread Cert.SsmRefIdeal.nD Cert.SsmRefIdeal.τ).loc Cert.SsmRefIdeal.main_arg8)
          ∧ r.2.mem ((c.tc : Thread Cert.SsmRefIdeal.nD Cert.SsmRefIdeal.τ).loc Cert.SsmRefIdeal.main_arg9) = m' ((c.tc : Thread Cert.SsmRefIdeal.nD Cert.SsmRefIdeal.τ).loc Cert.SsmRefIdeal.main_arg9)
          ∧ r.2.mem ((c.tc : Thread Cert.SsmRefIdeal.nD Cert.SsmRefIdeal.τ).loc Cert.SsmRefIdeal.main_arg10) = m' ((c.tc : Thread Cert.SsmRefIdeal.nD Cert.SsmRefIdeal.τ).loc Cert.SsmRefIdeal.main_arg10))

def Claim : Prop :=
  ∃ (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hIn : Cert.In.Facts) (hInIdeal : Cert.InIdeal.Facts) (hInRefIdeal : Cert.InRefIdeal.Facts) (hDec : Cert.Dec.Facts) (hDecRef : Cert.DecRef.Facts) (hSsm : Cert.Ssm.Facts) (hSsmIdeal : Cert.SsmIdeal.Facts) (hSsmRefIdeal : Cert.SsmRefIdeal.Facts) (hPre_slots_in_range : Cert.Pre_slots_in_range.Facts),
    quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_In (hIn := hIn)
    ∧ quiescent_InIdeal (hInIdeal := hInIdeal)
    ∧ quiescent_InRefIdeal (hInRefIdeal := hInRefIdeal)
    ∧ quiescent_Dec (hDec := hDec) (hPre_slots_in_range := hPre_slots_in_range)
    ∧ quiescent_DecRef (hDecRef := hDecRef) (hPre_slots_in_range := hPre_slots_in_range)
    ∧ quiescent_Ssm (hSsm := hSsm) (hPre_slots_in_range := hPre_slots_in_range)
    ∧ quiescent_SsmIdeal (hSsmIdeal := hSsmIdeal) (hPre_slots_in_range := hPre_slots_in_range)
    ∧ quiescent_SsmRefIdeal (hSsmRefIdeal := hSsmRefIdeal) (hPre_slots_in_range := hPre_slots_in_range)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_In_InIdeal
    ∧ algebraic_InIdeal_InRefIdeal (hInIdeal := hInIdeal) (hInRefIdeal := hInRefIdeal)
    ∧ bitexact_Dec_DecRef (hDec := hDec) (hDecRef := hDecRef) (hPre_slots_in_range := hPre_slots_in_range)
    ∧ preserves_Ssm_SsmIdeal
    ∧ algebraic_SsmIdeal_SsmRefIdeal (hSsmIdeal := hSsmIdeal) (hSsmRefIdeal := hSsmRefIdeal) (hPre_slots_in_range := hPre_slots_in_range)
-- ==== Pre_slots_in_range.lean ====
abbrev S59 : Shape := ⟨1, ![59]⟩
abbrev S5168x2560 : Shape := ⟨2, ![5168, 2560]⟩
abbrev S5168x128 : Shape := ⟨2, ![5168, 128]⟩
abbrev S76x3x2560 : Shape := ⟨3, ![76, 3, 2560]⟩
abbrev S76x32x64x256 : Shape := ⟨4, ![76, 32, 64, 256]⟩
abbrev S76x32x8 : Shape := ⟨3, ![76, 32, 8]⟩
abbrev S4x2560 : Shape := ⟨2, ![4, 2560]⟩
abbrev S2560 : Shape := ⟨1, ![2560]⟩
abbrev S32 : Shape := ⟨1, ![32]⟩
abbrev S48 : Shape := ⟨1, ![48]⟩
abbrev S_ : Shape := ⟨0, ![]⟩

class Facts : Prop where
  slices_S59_S48_0 : S59.Slices ![0] S48
  bcast_S_S48 : S_.BroadcastsInDim S48 (![] : Fin 0 → Fin S48.rank)

variable [Facts]

def fn {F : FTy → Type} [FloatOps F] (main_arg0 : IVec S59 32) (main_arg1 : FVec F S5168x2560 .f32) (main_arg2 : FVec F S5168x128 .f32) (main_arg3 : FVec F S76x3x2560 .bf16) (main_arg4 : FVec F S76x32x64x256 .fp8e4m3) (main_arg5 : FVec F S76x32x8 .f32) (main_arg6 : FVec F S4x2560 .f32) (main_arg7 : FVec F S2560 .f32) (main_arg8 : FVec F S32 .f32) (main_arg9 : FVec F S32 .f32) (main_arg10 : FVec F S32 .f32) : IVec S48 1 :=
  let main_v0 : IVec S48 32 := (extractStridedSlice S48 ![0] · slices_S59_S48_0) main_arg0
  let main_c : IVec S_ 32 := constantI S_ 32 0#32
  let main_v1 : IVec S48 32 := broadcastInDim S48 ![] bcast_S_S48 main_c
  let main_v2 : IVec S48 1 := cmpi .sge main_v0 main_v1
  let main_v3 : IVec S48 32 := (extractStridedSlice S48 ![0] · slices_S59_S48_0) main_arg0
  let main_c_0 : IVec S_ 32 := constantI S_ 32 76#32
  let main_v4 : IVec S48 32 := broadcastInDim S48 ![] bcast_S_S48 main_c_0
  let main_v5 : IVec S48 1 := cmpi .slt main_v3 main_v4
  let main_v6 : IVec S48 1 := andi main_v2 main_v5
  main_v6
-- ==== Up.lean ====
abbrev S5168x8192 : Shape := ⟨2, ![5168, 8192]⟩
abbrev S8192x4096 : Shape := ⟨2, ![8192, 4096]⟩
abbrev S4096 : Shape := ⟨1, ![4096]⟩
abbrev S1 : Shape := ⟨1, ![1]⟩
abbrev S1x4096 : Shape := ⟨2, ![1, 4096]⟩
abbrev S5168x4096 : Shape := ⟨2, ![5168, 4096]⟩
abbrev S864x8192 : Shape := ⟨2, ![864, 8192]⟩
abbrev S8192x512 : Shape := ⟨2, ![8192, 512]⟩
abbrev S1x512 : Shape := ⟨2, ![1, 512]⟩
abbrev S864x512 : Shape := ⟨2, ![864, 512]⟩

abbrev nBuf : Space → Nat
  | .hbm => 7
  | .vmem => 8
  | .smem => 2
  | _ => 0

abbrev bufTy : (tb : Table) → Fin (tcTables nBuf tb) → BufTy
  | .hbm, ⟨0, _⟩ => ⟨S5168x8192, .fp8e4m3⟩
  | .hbm, ⟨1, _⟩ => ⟨S8192x4096, .fp8e4m3⟩
  | .hbm, ⟨2, _⟩ => ⟨S4096, .f32⟩
  | .hbm, ⟨3, _⟩ => ⟨S1, .f32⟩
  | .hbm, ⟨4, _⟩ => ⟨S1, .f32⟩
  | .hbm, ⟨5, _⟩ => ⟨S1x4096, .f32⟩
  | .hbm, ⟨6, _⟩ => ⟨S5168x4096, .fp8e4m3⟩
  | .local _ .vmem, ⟨0, _⟩ => ⟨S864x8192, .fp8e4m3⟩
  | .local _ .vmem, ⟨1, _⟩ => ⟨S864x8192, .fp8e4m3⟩
  | .local _ .vmem, ⟨2, _⟩ => ⟨S8192x512, .fp8e4m3⟩
  | .local _ .vmem, ⟨3, _⟩ => ⟨S8192x512, .fp8e4m3⟩
  | .local _ .vmem, ⟨4, _⟩ => ⟨S1x512, .f32⟩
  | .local _ .vmem, ⟨5, _⟩ => ⟨S1x512, .f32⟩
  | .local _ .vmem, ⟨6, _⟩ => ⟨S864x512, .fp8e4m3⟩
  | .local _ .vmem, ⟨7, _⟩ => ⟨S864x512, .fp8e4m3⟩
  | .local _ .smem, ⟨0, _⟩ => ⟨S1, .f32⟩
  | .local _ .smem, ⟨1, _⟩ => ⟨S1, .f32⟩
  | _, _ => ⟨S5168x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![6, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S864x8192 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8192x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S864x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpRefIdeal.lean ====
abbrev S5168x8192 : Shape := ⟨2, ![5168, 8192]⟩
abbrev S8192x4096 : Shape := ⟨2, ![8192, 4096]⟩
abbrev S4096 : Shape := ⟨1, ![4096]⟩
abbrev S1 : Shape := ⟨1, ![1]⟩
abbrev S5168x4096 : Shape := ⟨2, ![5168, 4096]⟩
abbrev S1x1 : Shape := ⟨2, ![1, 1]⟩
abbrev S1x4096 : Shape := ⟨2, ![1, 4096]⟩

abbrev nBuf : Space → Nat
  | .hbm => 6
  | .vmem => 6
  | .smem => 0
  | _ => 0

abbrev bufTy : (tb : Table) → Fin (tcTables nBuf tb) → BufTy
  | .hbm, ⟨0, _⟩ => ⟨S5168x8192, .fp8e4m3⟩
  | .hbm, ⟨1, _⟩ => ⟨S8192x4096, .fp8e4m3⟩
  | .hbm, ⟨2, _⟩ => ⟨S4096, .f32⟩
  | .hbm, ⟨3, _⟩ => ⟨S1, .f32⟩
  | .hbm, ⟨4, _⟩ => ⟨S1, .f32⟩
  | .hbm, ⟨5, _⟩ => ⟨S5168x4096, .fp8e4m3⟩
  | .local _ .vmem, ⟨0, _⟩ => ⟨S5168x8192, .fp8e4m3⟩
  | .local _ .vmem, ⟨1, _⟩ => ⟨S8192x4096, .fp8e4m3⟩
  | .local _ .vmem, ⟨2, _⟩ => ⟨S4096, .f32⟩
  | .local _ .vmem, ⟨3, _⟩ => ⟨S1, .f32⟩
  | .local _ .vmem, ⟨4, _⟩ => ⟨S1, .f32⟩
  | .local _ .vmem, ⟨5, _⟩ => ⟨S5168x4096, .fp8e4m3⟩
  | _, _ => ⟨S5168x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S5168x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5168x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Down.lean ====
abbrev S5168x4096 : Shape := ⟨2, ![5168, 4096]⟩
abbrev S4096x8192 : Shape := ⟨2, ![4096, 8192]⟩
abbrev S8192 : Shape := ⟨1, ![8192]⟩
abbrev S1 : Shape := ⟨1, ![1]⟩
abbrev S5168x8192 : Shape := ⟨2, ![5168, 8192]⟩
abbrev S1x8192 : Shape := ⟨2, ![1, 8192]⟩
abbrev S864x4096 : Shape := ⟨2, ![864, 4096]⟩
abbrev S4096x1024 : Shape := ⟨2, ![4096, 1024]⟩
abbrev S1x1024 : Shape := ⟨2, ![1, 1024]⟩
abbrev S864x1024 : Shape := ⟨2, ![864, 1024]⟩

abbrev nBuf : Space → Nat
  | .hbm => 7
  | .vmem => 10
  | .smem => 1
  | _ => 0

abbrev bufTy : (tb : Table) → Fin (tcTables nBuf tb) → BufTy
  | .hbm, ⟨0, _⟩ => ⟨S5168x4096, .fp8e4m3⟩
  | .hbm, ⟨1, _⟩ => ⟨S4096x8192, .fp8e4m3⟩
  | .hbm, ⟨2, _⟩ => ⟨S8192, .f32⟩
  | .hbm, ⟨3, _⟩ => ⟨S1, .f32⟩
  | .hbm, ⟨4, _⟩ => ⟨S5168x8192, .f32⟩
  | .hbm, ⟨5, _⟩ => ⟨S1x8192, .f32⟩
  | .hbm, ⟨6, _⟩ => ⟨S5168x8192, .bf16⟩
  | .local _ .vmem, ⟨0, _⟩ => ⟨S864x4096, .fp8e4m3⟩
  | .local _ .vmem, ⟨1, _⟩ => ⟨S864x4096, .fp8e4m3⟩
  | .local _ .vmem, ⟨2, _⟩ => ⟨S4096x1024, .fp8e4m3⟩
  | .local _ .vmem, ⟨3, _⟩ => ⟨S4096x1024, .fp8e4m3⟩
  | .local _ .vmem, ⟨4, _⟩ => ⟨S1x1024, .f32⟩
  | .local _ .vmem, ⟨5, _⟩ => ⟨S1x1024, .f32⟩
  | .local _ .vmem, ⟨6, _⟩ => ⟨S864x1024, .f32⟩
  | .local _ .vmem, ⟨7, _⟩ => ⟨S864x1024, .f32⟩
  | .local _ .vmem, ⟨8, _⟩ => ⟨S864x1024, .bf16⟩
  | .local _ .vmem, ⟨9, _⟩ => ⟨S864x1024, .bf16⟩
  | .local _ .smem, ⟨0, _⟩ => ⟨S1, .f32⟩
  | _, _ => ⟨S5168x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![6, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S864x4096 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S864x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S864x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DownRefIdeal.lean ====
abbrev S5168x4096 : Shape := ⟨2, ![5168, 4096]⟩
abbrev S4096x8192 : Shape := ⟨2, ![4096, 8192]⟩
abbrev S8192 : Shape := ⟨1, ![8192]⟩
abbrev S1 : Shape := ⟨1, ![1]⟩
abbrev S5168x8192 : Shape := ⟨2, ![5168, 8192]⟩
abbrev S1x1 : Shape := ⟨2, ![1, 1]⟩
abbrev S1x8192 : Shape := ⟨2, ![1, 8192]⟩

abbrev nBuf : Space → Nat
  | .hbm => 6
  | .vmem => 6
  | .smem => 0
  | _ => 0

abbrev bufTy : (tb : Table) → Fin (tcTables nBuf tb) → BufTy
  | .hbm, ⟨0, _⟩ => ⟨S5168x4096, .fp8e4m3⟩
  | .hbm, ⟨1, _⟩ => ⟨S4096x8192, .fp8e4m3⟩
  | .hbm, ⟨2, _⟩ => ⟨S8192, .f32⟩
  | .hbm, ⟨3, _⟩ => ⟨S1, .f32⟩
  | .hbm, ⟨4, _⟩ => ⟨S5168x8192, .f32⟩
  | .hbm, ⟨5, _⟩ => ⟨S5168x8192, .bf16⟩
  | .local _ .vmem, ⟨0, _⟩ => ⟨S5168x4096, .fp8e4m3⟩
  | .local _ .vmem, ⟨1, _⟩ => ⟨S4096x8192, .fp8e4m3⟩
  | .local _ .vmem, ⟨2, _⟩ => ⟨S8192, .f32⟩
  | .local _ .vmem, ⟨3, _⟩ => ⟨S1, .f32⟩
  | .local _ .vmem, ⟨4, _⟩ => ⟨S5168x8192, .f32⟩
  | .local _ .vmem, ⟨5, _⟩ => ⟨S5168x8192, .bf16⟩
  | _, _ => ⟨S5168x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S5168x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5168x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5168x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Out.lean ====
abbrev S5168x8192 : Shape := ⟨2, ![5168, 8192]⟩
abbrev S5168x2048 : Shape := ⟨2, ![5168, 2048]⟩
abbrev S2048x8192 : Shape := ⟨2, ![2048, 8192]⟩
abbrev S8192 : Shape := ⟨1, ![8192]⟩
abbrev S1 : Shape := ⟨1, ![1]⟩
abbrev S1x8192 : Shape := ⟨2, ![1, 8192]⟩
abbrev S192x8192 : Shape := ⟨2, ![192, 8192]⟩
abbrev S192x2048 : Shape := ⟨2, ![192, 2048]⟩
abbrev S192x1 : Shape := ⟨2, ![192, 1]⟩
abbrev S192x1024 : Shape := ⟨2, ![192, 1024]⟩
abbrev S2048x1024 : Shape := ⟨2, ![2048, 1024]⟩
abbrev S1x1024 : Shape := ⟨2, ![1, 1024]⟩
abbrev S192 : Shape := ⟨1, ![192]⟩

abbrev nBuf : Space → Nat
  | .hbm => 11
  | .vmem => 11
  | .smem => 2
  | _ => 0

abbrev bufTy : (tb : Table) → Fin (tcTables nBuf tb) → BufTy
  | .hbm, ⟨0, _⟩ => ⟨S5168x8192, .bf16⟩
  | .hbm, ⟨1, _⟩ => ⟨S5168x2048, .fp8e4m3⟩
  | .hbm, ⟨2, _⟩ => ⟨S2048x8192, .fp8e4m3⟩
  | .hbm, ⟨3, _⟩ => ⟨S8192, .f32⟩
  | .hbm, ⟨4, _⟩ => ⟨S1, .f32⟩
  | .hbm, ⟨5, _⟩ => ⟨S8192, .f32⟩
  | .hbm, ⟨6, _⟩ => ⟨S1, .f32⟩
  | .hbm, ⟨7, _⟩ => ⟨S1x8192, .f32⟩
  | .hbm, ⟨8, _⟩ => ⟨S1x8192, .f32⟩
  | .hbm, ⟨9, _⟩ => ⟨S5168x8192, .f32⟩
  | .hbm, ⟨10, _⟩ => ⟨S5168x8192, .fp8e4m3⟩
  | .local _ .vmem, ⟨0, _⟩ => ⟨S192x8192, .bf16⟩
  | .local _ .vmem, ⟨1, _⟩ => ⟨S192x8192, .bf16⟩
  | .local _ .vmem, ⟨2, _⟩ => ⟨S192x2048, .fp8e4m3⟩
  | .local _ .vmem, ⟨3, _⟩ => ⟨S192x2048, .fp8e4m3⟩
  | .local _ .vmem, ⟨4, _⟩ => ⟨S2048x8192, .fp8e4m3⟩
  | .local _ .vmem, ⟨5, _⟩ => ⟨S1x8192, .f32⟩
  | .local _ .vmem, ⟨6, _⟩ => ⟨S1x8192, .f32⟩
  | .local _ .vmem, ⟨7, _⟩ => ⟨S192x8192, .f32⟩
  | .local _ .vmem, ⟨8, _⟩ => ⟨S192x8192, .f32⟩
  | .local _ .vmem, ⟨9, _⟩ => ⟨S192x8192, .fp8e4m3⟩
  | .local _ .vmem, ⟨10, _⟩ => ⟨S192x8192, .fp8e4m3⟩
  | .local _ .smem, ⟨0, _⟩ => ⟨S1, .f32⟩
  | .local _ .smem, ⟨1, _⟩ => ⟨S1, .f32⟩
  | _, _ => ⟨S5168x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![27], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S192x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x2048 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x8192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S192x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S192x8192 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutRefIdeal.lean ====
abbrev S5168x8192 : Shape := ⟨2, ![5168, 8192]⟩
abbrev S5168x2048 : Shape := ⟨2, ![5168, 2048]⟩
abbrev S2048x8192 : Shape := ⟨2, ![2048, 8192]⟩
abbrev S8192 : Shape := ⟨1, ![8192]⟩
abbrev S1 : Shape := ⟨1, ![1]⟩
abbrev S1x1 : Shape := ⟨2, ![1, 1]⟩
abbrev S1x8192 : Shape := ⟨2, ![1, 8192]⟩
abbrev S5168 : Shape := ⟨1, ![5168]⟩
abbrev S5168x1 : Shape := ⟨2, ![5168, 1]⟩

abbrev nBuf : Space → Nat
  | .hbm => 9
  | .vmem => 9
  | .smem => 0
  | _ => 0

abbrev bufTy : (tb : Table) → Fin (tcTables nBuf tb) → BufTy
  | .hbm, ⟨0, _⟩ => ⟨S5168x8192, .bf16⟩
  | .hbm, ⟨1, _⟩ => ⟨S5168x2048, .fp8e4m3⟩
  | .hbm, ⟨2, _⟩ => ⟨S2048x8192, .fp8e4m3⟩
  | .hbm, ⟨3, _⟩ => ⟨S8192, .f32⟩
  | .hbm, ⟨4, _⟩ => ⟨S1, .f32⟩
  | .hbm, ⟨5, _⟩ => ⟨S8192, .f32⟩
  | .hbm, ⟨6, _⟩ => ⟨S1, .f32⟩
  | .hbm, ⟨7, _⟩ => ⟨S5168x8192, .f32⟩
  | .hbm, ⟨8, _⟩ => ⟨S5168x8192, .fp8e4m3⟩
  | .local _ .vmem, ⟨0, _⟩ => ⟨S5168x8192, .bf16⟩
  | .local _ .vmem, ⟨1, _⟩ => ⟨S5168x2048, .fp8e4m3⟩
  | .local _ .vmem, ⟨2, _⟩ => ⟨S2048x8192, .fp8e4m3⟩
  | .local _ .vmem, ⟨3, _⟩ => ⟨S8192, .f32⟩
  | .local _ .vmem, ⟨4, _⟩ => ⟨S1, .f32⟩
  | .local _ .vmem, ⟨5, _⟩ => ⟨S8192, .f32⟩
  | .local _ .vmem, ⟨6, _⟩ => ⟨S1, .f32⟩
  | .local _ .vmem, ⟨7, _⟩ => ⟨S5168x8192, .f32⟩
  | .local _ .vmem, ⟨8, _⟩ => ⟨S5168x8192, .fp8e4m3⟩
  | _, _ => ⟨S5168x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S5168x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5168x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S5168x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5168x8192 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== In.lean ====
abbrev S5168x8192 : Shape := ⟨2, ![5168, 8192]⟩
abbrev S8192 : Shape := ⟨1, ![8192]⟩
abbrev S1 : Shape := ⟨1, ![1]⟩
abbrev S8192x4640 : Shape := ⟨2, ![8192, 4640]⟩
abbrev S4640 : Shape := ⟨1, ![4640]⟩
abbrev S1x8192 : Shape := ⟨2, ![1, 8192]⟩
abbrev S4640x8192 : Shape := ⟨2, ![4640, 8192]⟩
abbrev S1x4640 : Shape := ⟨2, ![1, 4640]⟩
abbrev S5168x2048 : Shape := ⟨2, ![5168, 2048]⟩
abbrev S5168x2560 : Shape := ⟨2, ![5168, 2560]⟩
abbrev S5168x128 : Shape := ⟨2, ![5168, 128]⟩
abbrev S96x8192 : Shape := ⟨2, ![96, 8192]⟩
abbrev S512x8192 : Shape := ⟨2, ![512, 8192]⟩
abbrev S1x512 : Shape := ⟨2, ![1, 512]⟩
abbrev S32x8192 : Shape := ⟨2, ![32, 8192]⟩
abbrev S1x128 : Shape := ⟨2, ![1, 128]⟩
abbrev S864x512 : Shape := ⟨2, ![864, 512]⟩
abbrev S864x128 : Shape := ⟨2, ![864, 128]⟩
abbrev S2x864x8192 : Shape := ⟨3, ![2, 864, 8192]⟩
abbrev S96 : Shape := ⟨1, ![96]⟩
abbrev S96x1 : Shape := ⟨2, ![96, 1]⟩
abbrev S1x96x8192 : Shape := ⟨3, ![1, 96, 8192]⟩
abbrev S1x864x8192 : Shape := ⟨3, ![1, 864, 8192]⟩
abbrev S864x8192 : Shape := ⟨2, ![864, 8192]⟩
abbrev S864x32 : Shape := ⟨2, ![864, 32]⟩
abbrev S1x32 : Shape := ⟨2, ![1, 32]⟩
abbrev S864x96 : Shape := ⟨2, ![864, 96]⟩

abbrev nBuf : Space → Nat
  | .hbm => 14
  | .vmem => 18
  | .smem => 1
  | _ => 0

abbrev bufTy : (tb : Table) → Fin (tcTables nBuf tb) → BufTy
  | .hbm, ⟨0, _⟩ => ⟨S5168x8192, .bf16⟩
  | .hbm, ⟨1, _⟩ => ⟨S8192, .f32⟩
  | .hbm, ⟨2, _⟩ => ⟨S1, .f32⟩
  | .hbm, ⟨3, _⟩ => ⟨S8192x4640, .fp8e4m3⟩
  | .hbm, ⟨4, _⟩ => ⟨S4640, .f32⟩
  | .hbm, ⟨5, _⟩ => ⟨S1x8192, .f32⟩
  | .hbm, ⟨6, _⟩ => ⟨S4640x8192, .fp8e4m3⟩
  | .hbm, ⟨7, _⟩ => ⟨S1x4640, .f32⟩
  | .hbm, ⟨8, _⟩ => ⟨S4640x8192, .fp8e4m3⟩
  | .hbm, ⟨9, _⟩ => ⟨S1x4640, .f32⟩
  | .hbm, ⟨10, _⟩ => ⟨S5168x8192, .fp8e4m3⟩
  | .hbm, ⟨11, _⟩ => ⟨S5168x2048, .f32⟩
  | .hbm, ⟨12, _⟩ => ⟨S5168x2560, .f32⟩
  | .hbm, ⟨13, _⟩ => ⟨S5168x128, .f32⟩
  | .local _ .vmem, ⟨0, _⟩ => ⟨S96x8192, .bf16⟩
  | .local _ .vmem, ⟨1, _⟩ => ⟨S96x8192, .bf16⟩
  | .local _ .vmem, ⟨2, _⟩ => ⟨S1x8192, .f32⟩
  | .local _ .vmem, ⟨3, _⟩ => ⟨S512x8192, .fp8e4m3⟩
  | .local _ .vmem, ⟨4, _⟩ => ⟨S512x8192, .fp8e4m3⟩
  | .local _ .vmem, ⟨5, _⟩ => ⟨S1x512, .f32⟩
  | .local _ .vmem, ⟨6, _⟩ => ⟨S1x512, .f32⟩
  | .local _ .vmem, ⟨7, _⟩ => ⟨S32x8192, .fp8e4m3⟩
  | .local _ .vmem, ⟨8, _⟩ => ⟨S1x128, .f32⟩
  | .local _ .vmem, ⟨9, _⟩ => ⟨S96x8192, .fp8e4m3⟩
  | .local _ .vmem, ⟨10, _⟩ => ⟨S96x8192, .fp8e4m3⟩
  | .local _ .vmem, ⟨11, _⟩ => ⟨S864x512, .f32⟩
  | .local _ .vmem, ⟨12, _⟩ => ⟨S864x512, .f32⟩
  | .local _ .vmem, ⟨13, _⟩ => ⟨S864x512, .f32⟩
  | .local _ .vmem, ⟨14, _⟩ => ⟨S864x512, .f32⟩
  | .local _ .vmem, ⟨15, _⟩ => ⟨S864x128, .f32⟩
  | .local _ .vmem, ⟨16, _⟩ => ⟨S864x128, .f32⟩
  | .local _ .vmem, ⟨17, _⟩ => ⟨S2x864x8192, .fp8e4m3⟩
  | .local _ .smem, ⟨0, _⟩ => ⟨S1, .f32⟩
  | _, _ => ⟨S5168x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![7, 9], ![false, false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_mult1 (i : grid0.Coords) : BitVec 32 :=
  let arg1 : BitVec 32 := BitVec.ofNat 32 (i 1).val
  let c96_i32 : BitVec 32 := 96#32
  let v53 : BitVec 32 := Scalar.muli arg1 c96_i32
  v53
def k0_off1 (i : grid0.Coords) : Fin 3 → Nat :=
  let arg0 : BitVec 32 := BitVec.ofNat 32 (i 0).val
  let c2_i32 : BitVec 32 := 2#32
  let c0_i32_19 : BitVec 32 := 0#32
  let v43 : BitVec 1 := Scalar.cmpi .eq c2_i32 c0_i32_19
  let c1_i32 : BitVec 32 := 1#32
  let v44 : BitVec 32 := Scalar.select v43 c1_i32 c2_i32
  let v45 : BitVec 32 := Scalar.remsi arg0 v44
  let c0_i32_21 : BitVec 32 := 0#32
  let v47 : BitVec 1 := Scalar.cmpi .slt v45 c0_i32_21
  let c0_i32_22 : BitVec 32 := 0#32
  let v48 : BitVec 1 := Scalar.cmpi .slt v44 c0_i32_22
  let v49 : BitVec 1 := Scalar.xori v47 v48
  let c0_i32_20 : BitVec 32 := 0#32
  let v46 : BitVec 1 := Scalar.cmpi .ne v45 c0_i32_20
  let v50 : BitVec 1 := Scalar.andi v49 v46
  let v51 : BitVec 32 := Scalar.addi v45 v44
  let v52 : BitVec 32 := Scalar.select v50 v51 v45
  let v55 : Index := Scalar.indexCast v52
  let arg1 : BitVec 32 := BitVec.ofNat 32 (i 1).val
  let c96_i32 : BitVec 32 := 96#32
  let v53 : BitVec 32 := Scalar.muli arg1 c96_i32
  let v54 : BitVec 32 := v53
  let v56 : Index := Scalar.indexCast v54
  let c0_23 : Index := 0#32
  ![v55.toNat, v56.toNat, 0]
def k0_cond2 (i : grid0.Coords) : BitVec 1 :=
  let arg0 : BitVec 32 := BitVec.ofNat 32 (i 0).val
  let c0_i32_1 : BitVec 32 := 0#32
  let v4 : BitVec 1 := Scalar.cmpi .sgt arg0 c0_i32_1
  let arg1 : BitVec 32 := BitVec.ofNat 32 (i 1).val
  let c4_i32 : BitVec 32 := 4#32
  let v5 : BitVec 1 := Scalar.cmpi .slt arg1 c4_i32
  let v6 : BitVec 1 := Scalar.andi v4 v5
  let v7 : BitVec 32 := Scalar.extui v6
  let c0_i32_2 : BitVec 32 := 0#32
  let v8 : BitVec 1 := Scalar.cmpi .ne v7 c0_i32_2
  v8

def k0_mult2 (i : grid0.Coords) : BitVec 32 :=
  let arg1 : BitVec 32 := BitVec.ofNat 32 (i 1).val
  let c96_i32 : BitVec 32 := 96#32
  let v53 : BitVec 32 := Scalar.muli arg1 c96_i32
  v53
def k0_off2 (i : grid0.Coords) : Fin 3 → Nat :=
  let arg0 : BitVec 32 := BitVec.ofNat 32 (i 0).val
  let c2_i32 : BitVec 32 := 2#32
  let c0_i32_19 : BitVec 32 := 0#32
  let v43 : BitVec 1 := Scalar.cmpi .eq c2_i32 c0_i32_19
  let c1_i32 : BitVec 32 := 1#32
  let v44 : BitVec 32 := Scalar.select v43 c1_i32 c2_i32
  let v45 : BitVec 32 := Scalar.remsi arg0 v44
  let c0_i32_21 : BitVec 32 := 0#32
  let v47 : BitVec 1 := Scalar.cmpi .slt v45 c0_i32_21
  let c0_i32_22 : BitVec 32 := 0#32
  let v48 : BitVec 1 := Scalar.cmpi .slt v44 c0_i32_22
  let v49 : BitVec 1 := Scalar.xori v47 v48
  let c0_i32_20 : BitVec 32 := 0#32
  let v46 : BitVec 1 := Scalar.cmpi .ne v45 c0_i32_20
  let v50 : BitVec 1 := Scalar.andi v49 v46
  let v51 : BitVec 32 := Scalar.addi v45 v44
  let v52 : BitVec 32 := Scalar.select v50 v51 v45
  let v55 : Index := Scalar.indexCast v52
  let arg1 : BitVec 32 := BitVec.ofNat 32 (i 1).val
  let c96_i32 : BitVec 32 := 96#32
  let v53 : BitVec 32 := Scalar.muli arg1 c96_i32
  let v54 : BitVec 32 := v53
  let v56 : Index := Scalar.indexCast v54
  let c0_23 : Index := 0#32
  ![v55.toNat, v56.toNat, 0]
def k0_off3 (i : grid0.Coords) : Fin 3 → Nat :=
  let arg0 : BitVec 32 := BitVec.ofNat 32 (i 0).val
  let c1_i32_24 : BitVec 32 := 1#32
  let v60 : BitVec 32 := Scalar.addi arg0 c1_i32_24
  let c2_i32_25 : BitVec 32 := 2#32
  let c0_i32_26 : BitVec 32 := 0#32
  let v61 : BitVec 1 := Scalar.cmpi .eq c2_i32_25 c0_i32_26
  let c1_i32_27 : BitVec 32 := 1#32
  let v62 : BitVec 32 := Scalar.select v61 c1_i32_27 c2_i32_25
  let v63 : BitVec 32 := Scalar.remsi v60 v62
  let c0_i32_29 : BitVec 32 := 0#32
  let v65 : BitVec 1 := Scalar.cmpi .slt v63 c0_i32_29
  let c0_i32_30 : BitVec 32 := 0#32
  let v66 : BitVec 1 := Scalar.cmpi .slt v62 c0_i32_30
  let v67 : BitVec 1 := Scalar.xori v65 v66
  let c0_i32_28 : BitVec 32 := 0#32
  let v64 : BitVec 1 := Scalar.cmpi .ne v63 c0_i32_28
  let v68 : BitVec 1 := Scalar.andi v67 v64
  let v69 : BitVec 32 := Scalar.addi v63 v62
  let v70 : BitVec 32 := Scalar.select v68 v69 v63
  let v71 : Index := Scalar.indexCast v70
  let c0_31 : Index := 0#32
  let c0_32 : Index := 0#32
  ![v71.toNat, 0, 0]
def k0_cond3 (i : grid0.Coords) : BitVec 1 :=
  let arg0 : BitVec 32 := BitVec.ofNat 32 (i 0).val
  let c0_i32_3 : BitVec 32 := 0#32
  let v9 : BitVec 1 := Scalar.cmpi .sgt arg0 c0_i32_3
  let arg1 : BitVec 32 := BitVec.ofNat 32 (i 1).val
  let c4_i32_4 : BitVec 32 := 4#32
  let v10 : BitVec 1 := Scalar.cmpi .sge arg1 c4_i32_4
  let v11 : BitVec 1 := Scalar.andi v9 v10
  let v12 : BitVec 32 := Scalar.extui v11
  let c0_i32_5 : BitVec 32 := 0#32
  let v13 : BitVec 1 := Scalar.cmpi .ne v12 c0_i32_5
  v13

def k0_mult3 (i : grid0.Coords) : BitVec 32 :=
  let arg1 : BitVec 32 := BitVec.ofNat 32 (i 1).val
  let c96_i32 : BitVec 32 := 96#32
  let v53 : BitVec 32 := Scalar.muli arg1 c96_i32
  v53
def k0_off4 (i : grid0.Coords) : Fin 3 → Nat :=
  let arg0 : BitVec 32 := BitVec.ofNat 32 (i 0).val
  let c2_i32 : BitVec 32 := 2#32
  let c0_i32_19 : BitVec 32 := 0#32
  let v43 : BitVec 1 := Scalar.cmpi .eq c2_i32 c0_i32_19
  let c1_i32 : BitVec 32 := 1#32
  let v44 : BitVec 32 := Scalar.select v43 c1_i32 c2_i32
  let v45 : BitVec 32 := Scalar.remsi arg0 v44
  let c0_i32_21 : BitVec 32 := 0#32
  let v47 : BitVec 1 := Scalar.cmpi .slt v45 c0_i32_21
  let c0_i32_22 : BitVec 32 := 0#32
  let v48 : BitVec 1 := Scalar.cmpi .slt v44 c0_i32_22
  let v49 : BitVec 1 := Scalar.xori v47 v48
  let c0_i32_20 : BitVec 32 := 0#32
  let v46 : BitVec 1 := Scalar.cmpi .ne v45 c0_i32_20
  let v50 : BitVec 1 := Scalar.andi v49 v46
  let v51 : BitVec 32 := Scalar.addi v45 v44
  let v52 : BitVec 32 := Scalar.select v50 v51 v45
  let v55 : Index := Scalar.indexCast v52
  let arg1 : BitVec 32 := BitVec.ofNat 32 (i 1).val
  let c96_i32 : BitVec 32 := 96#32
  let v53 : BitVec 32 := Scalar.muli arg1 c96_i32
  let v54 : BitVec 32 := v53
  let v56 : Index := Scalar.indexCast v54
  let c0_23 : Index := 0#32
  ![v55.toNat, v56.toNat, 0]
def k0_off5 (i : grid0.Coords) : Fin 3 → Nat :=
  let arg0 : BitVec 32 := BitVec.ofNat 32 (i 0).val
  let c1_i32_24 : BitVec 32 := 1#32
  let v60 : BitVec 32 := Scalar.addi arg0 c1_i32_24
  let c2_i32_25 : BitVec 32 := 2#32
  let c0_i32_26 : BitVec 32 := 0#32
  let v61 : BitVec 1 := Scalar.cmpi .eq c2_i32_25 c0_i32_26
  let c1_i32_27 : BitVec 32 := 1#32
  let v62 : BitVec 32 := Scalar.select v61 c1_i32_27 c2_i32_25
  let v63 : BitVec 32 := Scalar.remsi v60 v62
  let c0_i32_29 : BitVec 32 := 0#32
  let v65 : BitVec 1 := Scalar.cmpi .slt v63 c0_i32_29
  let c0_i32_30 : BitVec 32 := 0#32
  let v66 : BitVec 1 := Scalar.cmpi .slt v62 c0_i32_30
  let v67 : BitVec 1 := Scalar.xori v65 v66
  let c0_i32_28 : BitVec 32 := 0#32
  let v64 : BitVec 1 := Scalar.cmpi .ne v63 c0_i32_28
  let v68 : BitVec 1 := Scalar.andi v67 v64
  let v69 : BitVec 32 := Scalar.addi v63 v62
  let v70 : BitVec 32 := Scalar.select v68 v69 v63
  let v71 : Index := Scalar.indexCast v70
  let c0_31 : Index := 0#32
  let c0_32 : Index := 0#32
  ![v71.toNat, 0, 0]
def k0_cond4 (i : grid0.Coords) : BitVec 1 :=
  let arg0 : BitVec 32 := BitVec.ofNat 32 (i 0).val
  let c0_i32_6 : BitVec 32 := 0#32
  let v14 : BitVec 1 := Scalar.cmpi .sgt arg0 c0_i32_6
  let arg1 : BitVec 32 := BitVec.ofNat 32 (i 1).val
  let c0_i32_7 : BitVec 32 := 0#32
  let v15 : BitVec 1 := Scalar.cmpi .eq arg1 c0_i32_7
  let v16 : BitVec 1 := Scalar.andi v14 v15
  let v17 : BitVec 32 := Scalar.extui v16
  let c0_i32_8 : BitVec 32 := 0#32
  let v18 : BitVec 1 := Scalar.cmpi .ne v17 c0_i32_8
  v18

def k0_off6 (i : grid0.Coords) : Fin 3 → Nat :=
  let arg0 : BitVec 32 := BitVec.ofNat 32 (i 0).val
  let c1_i32 : BitVec 32 := 1#32
  let v19 : BitVec 32 := Scalar.addi arg0 c1_i32
  let c2_i32 : BitVec 32 := 2#32
  let c0_i32_9 : BitVec 32 := 0#32
  let v20 : BitVec 1 := Scalar.cmpi .eq c2_i32 c0_i32_9
  let c1_i32_10 : BitVec 32 := 1#32
  let v21 : BitVec 32 := Scalar.select v20 c1_i32_10 c2_i32
  let v22 : BitVec 32 := Scalar.remsi v19 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v30 : Index := Scalar.indexCast v29
  let c0_14 : Index := 0#32
  let c0_15 : Index := 0#32
  ![v30.toNat, 0, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c53_i32 : BitVec 32 := 53#32
  let v2 : BitVec 32 := Scalar.minsi v1 c53_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c144_i32 : BitVec 32 := 144#32
  let c0_i32 : BitVec 32 := 0#32
  let c0_i32_0 : BitVec 32 := 0#32
  ![c144_i32.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c36_i32 : BitVec 32 := 36#32
  let c0_i32_0 : BitVec 32 := 0#32
  ![c0_i32.toNat, c36_i32.toNat]

def cc0_transform_7 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c53_i32 : BitVec 32 := 53#32
  let v2 : BitVec 32 := Scalar.minsi v1 c53_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c3_i32 : BitVec 32 := 3#32
  let v3 : BitVec 32 := Scalar.minsi arg1 c3_i32
  let c0_i32_1 : BitVec 32 := 0#32
  let v4 : BitVec 32 := Scalar.select v2 c0_i32_1 v3
  let c0_i32_2 : BitVec 32 := 0#32
  ![v1.toNat, v4.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c4_i32 : BitVec 32 := 4#32
  let v3 : BitVec 32 := Scalar.subi arg1 c4_i32
  let c0_i32_1 : BitVec 32 := 0#32
  let v4 : BitVec 32 := Scalar.maxsi v3 c0_i32_1
  let c0_i32_2 : BitVec 32 := 0#32
  let v5 : BitVec 32 := Scalar.select v2 c0_i32_2 v4
  let c0_i32_3 : BitVec 32 := 0#32
  ![v1.toNat, v5.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S96x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x8192 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S32x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S96x8192 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S864x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S864x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S864x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== InRefIdeal.lean ====
abbrev S5168x8192 : Shape := ⟨2, ![5168, 8192]⟩
abbrev S8192 : Shape := ⟨1, ![8192]⟩
abbrev S1 : Shape := ⟨1, ![1]⟩
abbrev S8192x4640 : Shape := ⟨2, ![8192, 4640]⟩
abbrev S4640 : Shape := ⟨1, ![4640]⟩
abbrev S5168x2048 : Shape := ⟨2, ![5168, 2048]⟩
abbrev S5168x2560 : Shape := ⟨2, ![5168, 2560]⟩
abbrev S5168x128 : Shape := ⟨2, ![5168, 128]⟩
abbrev S5168 : Shape := ⟨1, ![5168]⟩
abbrev S5168x1 : Shape := ⟨2, ![5168, 1]⟩
abbrev S1x8192 : Shape := ⟨2, ![1, 8192]⟩
abbrev S1x1 : Shape := ⟨2, ![1, 1]⟩
abbrev S5168x4640 : Shape := ⟨2, ![5168, 4640]⟩
abbrev S1x4640 : Shape := ⟨2, ![1, 4640]⟩
abbrev S5168x32 : Shape := ⟨2, ![5168, 32]⟩
abbrev S5168x96 : Shape := ⟨2, ![5168, 96]⟩

abbrev nBuf : Space → Nat
  | .hbm => 9
  | .vmem => 9
  | .smem => 0
  | _ => 0

abbrev bufTy : (tb : Table) → Fin (tcTables nBuf tb) → BufTy
  | .hbm, ⟨0, _⟩ => ⟨S5168x8192, .bf16⟩
  | .hbm, ⟨1, _⟩ => ⟨S8192, .f32⟩
  | .hbm, ⟨2, _⟩ => ⟨S1, .f32⟩
  | .hbm, ⟨3, _⟩ => ⟨S8192x4640, .fp8e4m3⟩
  | .hbm, ⟨4, _⟩ => ⟨S4640, .f32⟩
  | .hbm, ⟨5, _⟩ => ⟨S5168x8192, .fp8e4m3⟩
  | .hbm, ⟨6, _⟩ => ⟨S5168x2048, .f32⟩
  | .hbm, ⟨7, _⟩ => ⟨S5168x2560, .f32⟩
  | .hbm, ⟨8, _⟩ => ⟨S5168x128, .f32⟩
  | .local _ .vmem, ⟨0, _⟩ => ⟨S5168x8192, .bf16⟩
  | .local _ .vmem, ⟨1, _⟩ => ⟨S8192, .f32⟩
  | .local _ .vmem, ⟨2, _⟩ => ⟨S1, .f32⟩
  | .local _ .vmem, ⟨3, _⟩ => ⟨S8192x4640, .fp8e4m3⟩
  | .local _ .vmem, ⟨4, _⟩ => ⟨S4640, .f32⟩
  | .local _ .vmem, ⟨5, _⟩ => ⟨S5168x8192, .fp8e4m3⟩
  | .local _ .vmem, ⟨6, _⟩ => ⟨S5168x2048, .f32⟩
  | .local _ .vmem, ⟨7, _⟩ => ⟨S5168x2560, .f32⟩
  | .local _ .vmem, ⟨8, _⟩ => ⟨S5168x128, .f32⟩
  | _, _ => ⟨S5168x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S5168x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x4640 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5168x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5168x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S5168x2560 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5168x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Dec.lean ====
abbrev S59 : Shape := ⟨1, ![59]⟩
abbrev S5168x2560 : Shape := ⟨2, ![5168, 2560]⟩
abbrev S5168x128 : Shape := ⟨2, ![5168, 128]⟩
abbrev S76x3x2560 : Shape := ⟨3, ![76, 3, 2560]⟩
abbrev S76x32x64x256 : Shape := ⟨4, ![76, 32, 64, 256]⟩
abbrev S76x32x8 : Shape := ⟨3, ![76, 32, 8]⟩
abbrev S4x2560 : Shape := ⟨2, ![4, 2560]⟩
abbrev S2560 : Shape := ⟨1, ![2560]⟩
abbrev S32 : Shape := ⟨1, ![32]⟩
abbrev S_ : Shape := ⟨0, ![]⟩
abbrev S128 : Shape := ⟨1, ![128]⟩
abbrev S1x128 : Shape := ⟨2, ![1, 128]⟩
abbrev S32x64 : Shape := ⟨2, ![32, 64]⟩
abbrev S2048 : Shape := ⟨1, ![2048]⟩
abbrev S1x2048 : Shape := ⟨2, ![1, 2048]⟩
abbrev S1x2560 : Shape := ⟨2, ![1, 2560]⟩
abbrev S48x1x2048 : Shape := ⟨3, ![48, 1, 2048]⟩
abbrev S48x3x2560 : Shape := ⟨3, ![48, 3, 2560]⟩
abbrev S48x32x64x256 : Shape := ⟨4, ![48, 32, 64, 256]⟩
abbrev S48x32x8 : Shape := ⟨3, ![48, 32, 8]⟩
abbrev S8x2560 : Shape := ⟨2, ![8, 2560]⟩
abbrev S8x128 : Shape := ⟨2, ![8, 128]⟩
abbrev S1x3x2560 : Shape := ⟨3, ![1, 3, 2560]⟩
abbrev S1 : Shape := ⟨1, ![1]⟩
abbrev S1x32x64x256 : Shape := ⟨4, ![1, 32, 64, 256]⟩
abbrev S1x32x8 : Shape := ⟨3, ![1, 32, 8]⟩
abbrev S1x1x2048 : Shape := ⟨3, ![1, 1, 2048]⟩
abbrev S2048x256 : Shape := ⟨2, ![2048, 256]⟩
abbrev S3x2560 : Shape := ⟨2, ![3, 2560]⟩
abbrev S128x128 : Shape := ⟨2, ![128, 128]⟩
abbrev S128x1 : Shape := ⟨2, ![128, 1]⟩
abbrev S32x1 : Shape := ⟨2, ![32, 1]⟩
abbrev S1x256 : Shape := ⟨2, ![1, 256]⟩
abbrev S32x8 : Shape := ⟨2, ![32, 8]⟩
abbrev S8x256 : Shape := ⟨2, ![8, 256]⟩
abbrev S32x256 : Shape := ⟨2, ![32, 256]⟩
abbrev S1x64 : Shape := ⟨2, ![1, 64]⟩
abbrev S1x1 : Shape := ⟨2, ![1, 1]⟩
abbrev S64x64 : Shape := ⟨2, ![64, 64]⟩
abbrev S64 : Shape := ⟨1, ![64]⟩
abbrev S64x1 : Shape := ⟨2, ![64, 1]⟩
abbrev S1x1x64x256 : Shape := ⟨4, ![1, 1, 64, 256]⟩
abbrev S64x256 : Shape := ⟨2, ![64, 256]⟩
abbrev S1x1x64 : Shape := ⟨3, ![1, 1, 64]⟩
abbrev S256 : Shape := ⟨1, ![256]⟩
abbrev S256x32 : Shape := ⟨2, ![256, 32]⟩
abbrev S8x32x32 : Shape := ⟨3, ![8, 32, 32]⟩
abbrev S8x32 : Shape := ⟨2, ![8, 32]⟩
abbrev S32x64x256 : Shape := ⟨3, ![32, 64, 256]⟩
abbrev S1x64x256 : Shape := ⟨3, ![1, 64, 256]⟩

abbrev nBuf : Space → Nat
  | .hbm => 26
  | .vmem => 24
  | .smem => 1
  | _ => 0

abbrev bufTy : (tb : Table) → Fin (tcTables nBuf tb) → BufTy
  | .hbm, ⟨0, _⟩ => ⟨S5168x2560, .f32⟩
  | .hbm, ⟨1, _⟩ => ⟨S5168x128, .f32⟩
  | .hbm, ⟨2, _⟩ => ⟨S76x3x2560, .bf16⟩
  | .hbm, ⟨3, _⟩ => ⟨S76x32x64x256, .fp8e4m3⟩
  | .hbm, ⟨4, _⟩ => ⟨S76x32x8, .f32⟩
  | .hbm, ⟨5, _⟩ => ⟨S4x2560, .f32⟩
  | .hbm, ⟨6, _⟩ => ⟨S2560, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S_, .i32⟩
  | .hbm, ⟨11, _⟩ => ⟨S_, .f32⟩
  | .hbm, ⟨12, _⟩ => ⟨S128, .f32⟩
  | .hbm, ⟨13, _⟩ => ⟨S1x128, .f32⟩
  | .hbm, ⟨14, _⟩ => ⟨S_, .i32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S32x64, .f32⟩
  | .hbm, ⟨19, _⟩ => ⟨S2048, .f32⟩
  | .hbm, ⟨20, _⟩ => ⟨S1x2048, .f32⟩
  | .hbm, ⟨21, _⟩ => ⟨S1x2560, .f32⟩
  | .hbm, ⟨22, _⟩ => ⟨S48x1x2048, .f32⟩
  | .hbm, ⟨23, _⟩ => ⟨S48x3x2560, .bf16⟩
  | .hbm, ⟨24, _⟩ => ⟨S48x32x64x256, .fp8e4m3⟩
  | .hbm, ⟨25, _⟩ => ⟨S48x32x8, .f32⟩
  | .local _ .vmem, ⟨0, _⟩ => ⟨S8x2560, .f32⟩
  | .local _ .vmem, ⟨1, _⟩ => ⟨S8x2560, .f32⟩
  | .local _ .vmem, ⟨2, _⟩ => ⟨S8x128, .f32⟩
  | .local _ .vmem, ⟨3, _⟩ => ⟨S8x128, .f32⟩
  | .local _ .vmem, ⟨4, _⟩ => ⟨S1x3x2560, .bf16⟩
  | .local _ .vmem, ⟨5, _⟩ => ⟨S1x3x2560, .bf16⟩
  | .local _ .vmem, ⟨6, _⟩ => ⟨S1x32x64x256, .fp8e4m3⟩
  | .local _ .vmem, ⟨7, _⟩ => ⟨S1x32x64x256, .fp8e4m3⟩
  | .local _ .vmem, ⟨8, _⟩ => ⟨S1x32x8, .f32⟩
  | .local _ .vmem, ⟨9, _⟩ => ⟨S1x32x8, .f32⟩
  | .local _ .vmem, ⟨10, _⟩ => ⟨S4x2560, .f32⟩
  | .local _ .vmem, ⟨11, _⟩ => ⟨S1x2560, .f32⟩
  | .local _ .vmem, ⟨12, _⟩ => ⟨S1x128, .f32⟩
  | .local _ .vmem, ⟨13, _⟩ => ⟨S1x128, .f32⟩
  | .local _ .vmem, ⟨14, _⟩ => ⟨S1x2048, .f32⟩
  | .local _ .vmem, ⟨15, _⟩ => ⟨S1x1x2048, .f32⟩
  | .local _ .vmem, ⟨16, _⟩ => ⟨S1x1x2048, .f32⟩
  | .local _ .vmem, ⟨17, _⟩ => ⟨S1x3x2560, .bf16⟩
  | .local _ .vmem, ⟨18, _⟩ => ⟨S1x3x2560, .bf16⟩
  | .local _ .vmem, ⟨19, _⟩ => ⟨S1x32x64x256, .fp8e4m3⟩
  | .local _ .vmem, ⟨20, _⟩ => ⟨S1x32x64x256, .fp8e4m3⟩
  | .local _ .vmem, ⟨21, _⟩ => ⟨S1x32x8, .f32⟩
  | .local _ .vmem, ⟨22, _⟩ => ⟨S1x32x8, .f32⟩
  | .local _ .vmem, ⟨23, _⟩ => ⟨S2048x256, .f32⟩
  | .local _ .smem, ⟨0, _⟩ => ⟨S59, .i32⟩
  | _, _ => ⟨S5168x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_call1_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8_0 : Ref sig .tc := ⟨.hbm, 22, rfl⟩
abbrev main_v8_1 : Ref sig .tc := ⟨.hbm, 23, rfl⟩
abbrev main_v8_2 : Ref sig .tc := ⟨.hbm, 24, rfl⟩
abbrev main_v8_3 : Ref sig .tc := ⟨.hbm, 25, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [BitOps F]

abbrev grid0 : Pipeline.Grid := ⟨1, ![48], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : Index := Scalar.indexCast v9
  let c0 : Index := 0#32
  ![v10.toNat, 0]
def k0_off3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v30 : Index := Scalar.indexCast v9
  let c0_13 : Index := 0#32
  ![v30.toNat, 0]
def cc0_transform_0 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_1 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_2 (k0_off1_inb : ∀ i : grid0.Coords, ∀ a, (k0_off1 i) a + S1.size a ≤ S59.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S59) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S59.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S59) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_4 (k0_off1_inb : ∀ i : grid0.Coords, ∀ a, (k0_off1 i) a + S1.size a ≤ S59.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S59) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x64x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2560 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x3x2560 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x32x64x256 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x32x8 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== DecRef.lean ====
abbrev S59 : Shape := ⟨1, ![59]⟩
abbrev S5168x2560 : Shape := ⟨2, ![5168, 2560]⟩
abbrev S5168x128 : Shape := ⟨2, ![5168, 128]⟩
abbrev S76x3x2560 : Shape := ⟨3, ![76, 3, 2560]⟩
abbrev S76x32x64x256 : Shape := ⟨4, ![76, 32, 64, 256]⟩
abbrev S76x32x8 : Shape := ⟨3, ![76, 32, 8]⟩
abbrev S4x2560 : Shape := ⟨2, ![4, 2560]⟩
abbrev S2560 : Shape := ⟨1, ![2560]⟩
abbrev S32 : Shape := ⟨1, ![32]⟩
abbrev S48 : Shape := ⟨1, ![48]⟩
abbrev S_ : Shape := ⟨0, ![]⟩
abbrev S48x1 : Shape := ⟨2, ![48, 1]⟩
abbrev S48x3x2560 : Shape := ⟨3, ![48, 3, 2560]⟩
abbrev S48x2560 : Shape := ⟨2, ![48, 2560]⟩
abbrev S48x1x2560 : Shape := ⟨3, ![48, 1, 2560]⟩
abbrev S48x4x2560 : Shape := ⟨3, ![48, 4, 2560]⟩

abbrev nBuf : Space → Nat
  | .hbm => 27
  | .vmem => 0
  | .smem => 0
  | _ => 0

abbrev bufTy : (tb : Table) → Fin (tcTables nBuf tb) → BufTy
  | .hbm, ⟨0, _⟩ => ⟨S59, .i32⟩
  | .hbm, ⟨1, _⟩ => ⟨S5168x2560, .f32⟩
  | .hbm, ⟨2, _⟩ => ⟨S5168x128, .f32⟩
  | .hbm, ⟨3, _⟩ => ⟨S76x3x2560, .bf16⟩
  | .hbm, ⟨4, _⟩ => ⟨S76x32x64x256, .fp8e4m3⟩
  | .hbm, ⟨5, _⟩ => ⟨S76x32x8, .f32⟩
  | .hbm, ⟨6, _⟩ => ⟨S4x2560, .f32⟩
  | .hbm, ⟨7, _⟩ => ⟨S2560, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S48, .i32⟩
  | .hbm, ⟨12, _⟩ => ⟨S_, .i32⟩
  | .hbm, ⟨13, _⟩ => ⟨S48, .i32⟩
  | .hbm, ⟨14, _⟩ => ⟨S48, .i1⟩
  | .hbm, ⟨15, _⟩ => ⟨S_, .i32⟩
  | .hbm, ⟨16, _⟩ => ⟨S48, .i32⟩
  | .hbm, ⟨17, _⟩ => ⟨S48, .i32⟩
  | .hbm, ⟨18, _⟩ => ⟨S48, .i32⟩
  | .hbm, ⟨19, _⟩ => ⟨S48x1, .i32⟩
  | .hbm, ⟨20, _⟩ => ⟨S48x3x2560, .bf16⟩
  | .hbm, ⟨21, _⟩ => ⟨S48x3x2560, .f32⟩
  | .hbm, ⟨22, _⟩ => ⟨S48x2560, .f32⟩
  | .hbm, ⟨23, _⟩ => ⟨S48x1x2560, .f32⟩
  | .hbm, ⟨24, _⟩ => ⟨S48x4x2560, .f32⟩
  | .hbm, ⟨25, _⟩ => ⟨S48x3x2560, .f32⟩
  | .hbm, ⟨26, _⟩ => ⟨S48x3x2560, .bf16⟩
  | _, _ => ⟨S59, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩

abbrev nD : Nat := 1
abbrev τ : Topo := Topo.v7x

variable {F : FTy → Type} [FloatOps F]
-- ==== Ssm.lean ====
abbrev S59 : Shape := ⟨1, ![59]⟩
abbrev S5168x2560 : Shape := ⟨2, ![5168, 2560]⟩
abbrev S5168x128 : Shape := ⟨2, ![5168, 128]⟩
abbrev S76x3x2560 : Shape := ⟨3, ![76, 3, 2560]⟩
abbrev S76x32x64x256 : Shape := ⟨4, ![76, 32, 64, 256]⟩
abbrev S76x32x8 : Shape := ⟨3, ![76, 32, 8]⟩
abbrev S4x2560 : Shape := ⟨2, ![4, 2560]⟩
abbrev S2560 : Shape := ⟨1, ![2560]⟩
abbrev S32 : Shape := ⟨1, ![32]⟩
abbrev S_ : Shape := ⟨0, ![]⟩
abbrev S128 : Shape := ⟨1, ![128]⟩
abbrev S1x128 : Shape := ⟨2, ![1, 128]⟩
abbrev S32x64 : Shape := ⟨2, ![32, 64]⟩
abbrev S2048 : Shape := ⟨1, ![2048]⟩
abbrev S1x2048 : Shape := ⟨2, ![1, 2048]⟩
abbrev S1x2560 : Shape := ⟨2, ![1, 2560]⟩
abbrev S48x1x2048 : Shape := ⟨3, ![48, 1, 2048]⟩
abbrev S48x3x2560 : Shape := ⟨3, ![48, 3, 2560]⟩
abbrev S48x32x64x256 : Shape := ⟨4, ![48, 32, 64, 256]⟩
abbrev S48x32x8 : Shape := ⟨3, ![48, 32, 8]⟩
abbrev S8x2560 : Shape := ⟨2, ![8, 2560]⟩
abbrev S8x128 : Shape := ⟨2, ![8, 128]⟩
abbrev S1x3x2560 : Shape := ⟨3, ![1, 3, 2560]⟩
abbrev S1 : Shape := ⟨1, ![1]⟩
abbrev S1x32x64x256 : Shape := ⟨4, ![1, 32, 64, 256]⟩
abbrev S1x32x8 : Shape := ⟨3, ![1, 32, 8]⟩
abbrev S1x1x2048 : Shape := ⟨3, ![1, 1, 2048]⟩
abbrev S2048x256 : Shape := ⟨2, ![2048, 256]⟩
abbrev S3x2560 : Shape := ⟨2, ![3, 2560]⟩
abbrev S128x128 : Shape := ⟨2, ![128, 128]⟩
abbrev S128x1 : Shape := ⟨2, ![128, 1]⟩
abbrev S32x1 : Shape := ⟨2, ![32, 1]⟩
abbrev S1x256 : Shape := ⟨2, ![1, 256]⟩
abbrev S32x8 : Shape := ⟨2, ![32, 8]⟩
abbrev S8x256 : Shape := ⟨2, ![8, 256]⟩
abbrev S32x256 : Shape := ⟨2, ![32, 256]⟩
abbrev S1x64 : Shape := ⟨2, ![1, 64]⟩
abbrev S1x1 : Shape := ⟨2, ![1, 1]⟩
abbrev S64x64 : Shape := ⟨2, ![64, 64]⟩
abbrev S64 : Shape := ⟨1, ![64]⟩
abbrev S64x1 : Shape := ⟨2, ![64, 1]⟩
abbrev S1x1x64x256 : Shape := ⟨4, ![1, 1, 64, 256]⟩
abbrev S64x256 : Shape := ⟨2, ![64, 256]⟩
abbrev S1x1x64 : Shape := ⟨3, ![1, 1, 64]⟩
abbrev S256 : Shape := ⟨1, ![256]⟩
abbrev S256x32 : Shape := ⟨2, ![256, 32]⟩
abbrev S8x32x32 : Shape := ⟨3, ![8, 32, 32]⟩
abbrev S8x32 : Shape := ⟨2, ![8, 32]⟩
abbrev S32x64x256 : Shape := ⟨3, ![32, 64, 256]⟩
abbrev S1x64x256 : Shape := ⟨3, ![1, 64, 256]⟩

abbrev nBuf : Space → Nat
  | .hbm => 26
  | .vmem => 24
  | .smem => 1
  | _ => 0

abbrev bufTy : (tb : Table) → Fin (tcTables nBuf tb) → BufTy
  | .hbm, ⟨0, _⟩ => ⟨S5168x2560, .f32⟩
  | .hbm, ⟨1, _⟩ => ⟨S5168x128, .f32⟩
  | .hbm, ⟨2, _⟩ => ⟨S76x3x2560, .bf16⟩
  | .hbm, ⟨3, _⟩ => ⟨S76x32x64x256, .fp8e4m3⟩
  | .hbm, ⟨4, _⟩ => ⟨S76x32x8, .f32⟩
  | .hbm, ⟨5, _⟩ => ⟨S4x2560, .f32⟩
  | .hbm, ⟨6, _⟩ => ⟨S2560, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S_, .i32⟩
  | .hbm, ⟨11, _⟩ => ⟨S_, .f32⟩
  | .hbm, ⟨12, _⟩ => ⟨S128, .f32⟩
  | .hbm, ⟨13, _⟩ => ⟨S1x128, .f32⟩
  | .hbm, ⟨14, _⟩ => ⟨S_, .i32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S32x64, .f32⟩
  | .hbm, ⟨19, _⟩ => ⟨S2048, .f32⟩
  | .hbm, ⟨20, _⟩ => ⟨S1x2048, .f32⟩
  | .hbm, ⟨21, _⟩ => ⟨S1x2560, .f32⟩
  | .hbm, ⟨22, _⟩ => ⟨S48x1x2048, .f32⟩
  | .hbm, ⟨23, _⟩ => ⟨S48x3x2560, .bf16⟩
  | .hbm, ⟨24, _⟩ => ⟨S48x32x64x256, .fp8e4m3⟩
  | .hbm, ⟨25, _⟩ => ⟨S48x32x8, .f32⟩
  | .local _ .vmem, ⟨0, _⟩ => ⟨S8x2560, .f32⟩
  | .local _ .vmem, ⟨1, _⟩ => ⟨S8x2560, .f32⟩
  | .local _ .vmem, ⟨2, _⟩ => ⟨S8x128, .f32⟩
  | .local _ .vmem, ⟨3, _⟩ => ⟨S8x128, .f32⟩
  | .local _ .vmem, ⟨4, _⟩ => ⟨S1x3x2560, .bf16⟩
  | .local _ .vmem, ⟨5, _⟩ => ⟨S1x3x2560, .bf16⟩
  | .local _ .vmem, ⟨6, _⟩ => ⟨S1x32x64x256, .fp8e4m3⟩
  | .local _ .vmem, ⟨7, _⟩ => ⟨S1x32x64x256, .fp8e4m3⟩
  | .local _ .vmem, ⟨8, _⟩ => ⟨S1x32x8, .f32⟩
  | .local _ .vmem, ⟨9, _⟩ => ⟨S1x32x8, .f32⟩
  | .local _ .vmem, ⟨10, _⟩ => ⟨S4x2560, .f32⟩
  | .local _ .vmem, ⟨11, _⟩ => ⟨S1x2560, .f32⟩
  | .local _ .vmem, ⟨12, _⟩ => ⟨S1x128, .f32⟩
  | .local _ .vmem, ⟨13, _⟩ => ⟨S1x128, .f32⟩
  | .local _ .vmem, ⟨14, _⟩ => ⟨S1x2048, .f32⟩
  | .local _ .vmem, ⟨15, _⟩ => ⟨S1x1x2048, .f32⟩
  | .local _ .vmem, ⟨16, _⟩ => ⟨S1x1x2048, .f32⟩
  | .local _ .vmem, ⟨17, _⟩ => ⟨S1x3x2560, .bf16⟩
  | .local _ .vmem, ⟨18, _⟩ => ⟨S1x3x2560, .bf16⟩
  | .local _ .vmem, ⟨19, _⟩ => ⟨S1x32x64x256, .fp8e4m3⟩
  | .local _ .vmem, ⟨20, _⟩ => ⟨S1x32x64x256, .fp8e4m3⟩
  | .local _ .vmem, ⟨21, _⟩ => ⟨S1x32x8, .f32⟩
  | .local _ .vmem, ⟨22, _⟩ => ⟨S1x32x8, .f32⟩
  | .local _ .vmem, ⟨23, _⟩ => ⟨S2048x256, .f32⟩
  | .local _ .smem, ⟨0, _⟩ => ⟨S59, .i32⟩
  | _, _ => ⟨S5168x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_call1_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8_0 : Ref sig .tc := ⟨.hbm, 22, rfl⟩
abbrev main_v8_1 : Ref sig .tc := ⟨.hbm, 23, rfl⟩
abbrev main_v8_2 : Ref sig .tc := ⟨.hbm, 24, rfl⟩
abbrev main_v8_3 : Ref sig .tc := ⟨.hbm, 25, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![48], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : Index := Scalar.indexCast v9
  let c0 : Index := 0#32
  ![v10.toNat, 0]
def k0_off3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v30 : Index := Scalar.indexCast v9
  let c0_13 : Index := 0#32
  ![v30.toNat, 0]
def cc0_transform_0 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_1 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_2 (k0_off1_inb : ∀ i : grid0.Coords, ∀ a, (k0_off1 i) a + S1.size a ≤ S59.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S59) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S59.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S59) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_4 (k0_off1_inb : ∀ i : grid0.Coords, ∀ a, (k0_off1 i) a + S1.size a ≤ S59.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S59) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x64x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2560 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x3x2560 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x32x64x256 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x32x8 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== SsmRefIdeal.lean ====
abbrev S59 : Shape := ⟨1, ![59]⟩
abbrev S5168x2560 : Shape := ⟨2, ![5168, 2560]⟩
abbrev S5168x128 : Shape := ⟨2, ![5168, 128]⟩
abbrev S76x3x2560 : Shape := ⟨3, ![76, 3, 2560]⟩
abbrev S76x32x64x256 : Shape := ⟨4, ![76, 32, 64, 256]⟩
abbrev S76x32x8 : Shape := ⟨3, ![76, 32, 8]⟩
abbrev S4x2560 : Shape := ⟨2, ![4, 2560]⟩
abbrev S2560 : Shape := ⟨1, ![2560]⟩
abbrev S32 : Shape := ⟨1, ![32]⟩
abbrev S48 : Shape := ⟨1, ![48]⟩
abbrev S_ : Shape := ⟨0, ![]⟩
abbrev S48x1 : Shape := ⟨2, ![48, 1]⟩
abbrev S48x3x2560 : Shape := ⟨3, ![48, 3, 2560]⟩
abbrev S48x2560 : Shape := ⟨2, ![48, 2560]⟩
abbrev S48x1x2560 : Shape := ⟨3, ![48, 1, 2560]⟩
abbrev S48x4x2560 : Shape := ⟨3, ![48, 4, 2560]⟩
abbrev S1x4x2560 : Shape := ⟨3, ![1, 4, 2560]⟩
abbrev S1x2560 : Shape := ⟨2, ![1, 2560]⟩
abbrev S48x32 : Shape := ⟨2, ![48, 32]⟩
abbrev S1x32 : Shape := ⟨2, ![1, 32]⟩
abbrev S76x32x64x8x32 : Shape := ⟨5, ![76, 32, 64, 8, 32]⟩
abbrev S76x32x1x8x1 : Shape := ⟨5, ![76, 32, 1, 8, 1]⟩
abbrev S48x32x64x256 : Shape := ⟨4, ![48, 32, 64, 256]⟩
abbrev S48x2048 : Shape := ⟨2, ![48, 2048]⟩
abbrev S48x32x64 : Shape := ⟨3, ![48, 32, 64]⟩
abbrev S48x256 : Shape := ⟨2, ![48, 256]⟩
abbrev S48x32x1 : Shape := ⟨3, ![48, 32, 1]⟩
abbrev S48x32x1x1 : Shape := ⟨4, ![48, 32, 1, 1]⟩
abbrev S48x32x64x1 : Shape := ⟨4, ![48, 32, 64, 1]⟩
abbrev S48x1x1x256 : Shape := ⟨4, ![48, 1, 1, 256]⟩
abbrev S32x1 : Shape := ⟨2, ![32, 1]⟩
abbrev S1x32x1 : Shape := ⟨3, ![1, 32, 1]⟩
abbrev S48x1x2048 : Shape := ⟨3, ![48, 1, 2048]⟩
abbrev S48x32x64x8x32 : Shape := ⟨5, ![48, 32, 64, 8, 32]⟩
abbrev S48x32x8x32 : Shape := ⟨4, ![48, 32, 8, 32]⟩
abbrev S48x32x8 : Shape := ⟨3, ![48, 32, 8]⟩
abbrev S48x32x1x8x1 : Shape := ⟨5, ![48, 32, 1, 8, 1]⟩

abbrev nBuf : Space → Nat
  | .hbm => 154
  | .vmem => 2
  | .smem => 0
  | _ => 0

abbrev hbmTy0_0 (i : Nat) : BufTy := match i % 128 with
  | 0 => ⟨S59, .i32⟩
  | 1 => ⟨S5168x2560, .f32⟩
  | 2 => ⟨S5168x128, .f32⟩
  | 3 => ⟨S76x3x2560, .bf16⟩
  | 4 => ⟨S76x32x64x256, .fp8e4m3⟩
  | 5 => ⟨S76x32x8, .f32⟩
  | 6 => ⟨S4x2560, .f32⟩
  | 7 => ⟨S2560, .f32⟩
  | 8 => ⟨S32, .f32⟩
  | 9 => ⟨S32, .f32⟩
  | 10 => ⟨S32, .f32⟩
  | 11 => ⟨S76x32x64x256, .f32⟩
  | 12 => ⟨S48, .i32⟩
  | 13 => ⟨S_, .i32⟩
  | 14 => ⟨S48, .i32⟩
  | 15 => ⟨S48, .i1⟩
  | 16 => ⟨S_, .i32⟩
  | 17 => ⟨S48, .i32⟩
  | 18 => ⟨S48, .i32⟩
  | 19 => ⟨S48, .i32⟩
  | 20 => ⟨S48x1, .i32⟩
  | 21 => ⟨S48x3x2560, .bf16⟩
  | 22 => ⟨S48x3x2560, .f32⟩
  | 23 => ⟨S48x2560, .f32⟩
  | 24 => ⟨S48x1x2560, .f32⟩
  | 25 => ⟨S48x4x2560, .f32⟩
  | 26 => ⟨S1x4x2560, .f32⟩
  | 27 => ⟨S48x4x2560, .f32⟩
  | 28 => ⟨S48x4x2560, .f32⟩
  | 29 => ⟨S_, .f32⟩
  | 30 => ⟨S48x2560, .f32⟩
  | 31 => ⟨S1x2560, .f32⟩
  | 32 => ⟨S48x2560, .f32⟩
  | 33 => ⟨S48x2560, .f32⟩
  | 34 => ⟨S48x2560, .f32⟩
  | 35 => ⟨S48x2560, .f32⟩
  | 36 => ⟨S_, .f32⟩
  | 37 => ⟨S48x2560, .f32⟩
  | 38 => ⟨S48x2560, .f32⟩
  | 39 => ⟨S_, .f32⟩
  | 40 => ⟨S48x2560, .f32⟩
  | 41 => ⟨S48x2560, .f32⟩
  | 42 => ⟨S48x2560, .f32⟩
  | 43 => ⟨S48x32, .f32⟩
  | 44 => ⟨S1x32, .f32⟩
  | 45 => ⟨S48x32, .f32⟩
  | 46 => ⟨S48x32, .f32⟩
  | 47 => ⟨S_, .f32⟩
  | 48 => ⟨S48x32, .f32⟩
  | 49 => ⟨S48x32, .f32⟩
  | 50 => ⟨S48x32, .f32⟩
  | 51 => ⟨S48x32, .f32⟩
  | 52 => ⟨S48x32, .i1⟩
  | 53 => ⟨S48x32, .f32⟩
  | 54 => ⟨S48x32, .f32⟩
  | 55 => ⟨S48x32, .f32⟩
  | 56 => ⟨S48x32, .f32⟩
  | 57 => ⟨S48x32, .f32⟩
  | 58 => ⟨S48x32, .f32⟩
  | 59 => ⟨S48x32, .f32⟩
  | 60 => ⟨S48x32, .f32⟩
  | 61 => ⟨S32, .f32⟩
  | 62 => ⟨S32, .f32⟩
  | 63 => ⟨S76x32x64x8x32, .f32⟩
  | 64 => ⟨S76x32x1x8x1, .f32⟩
  | 65 => ⟨S76x32x64x8x32, .f32⟩
  | 66 => ⟨S76x32x64x8x32, .f32⟩
  | 67 => ⟨S76x32x64x256, .f32⟩
  | 68 => ⟨S_, .i32⟩
  | 69 => ⟨S48, .i32⟩
  | 70 => ⟨S48, .i1⟩
  | 71 => ⟨S_, .i32⟩
  | 72 => ⟨S48, .i32⟩
  | 73 => ⟨S48, .i32⟩
  | 74 => ⟨S48, .i32⟩
  | 75 => ⟨S48x1, .i32⟩
  | 76 => ⟨S48x32x64x256, .f32⟩
  | 77 => ⟨S48x2048, .f32⟩
  | 78 => ⟨S48x32x64, .f32⟩
  | 79 => ⟨S48x256, .f32⟩
  | 80 => ⟨S48x256, .f32⟩
  | 81 => ⟨S48x32x1, .f32⟩
  | 82 => ⟨S48x32x64, .f32⟩
  | 83 => ⟨S48x32x64, .f32⟩
  | 84 => ⟨S1x32, .f32⟩
  | 85 => ⟨S48x32, .f32⟩
  | 86 => ⟨S48x32, .f32⟩
  | 87 => ⟨S48x32, .f32⟩
  | 88 => ⟨S48x32x1x1, .f32⟩
  | 89 => ⟨S48x32x64x256, .f32⟩
  | 90 => ⟨S48x32x64x256, .f32⟩
  | 91 => ⟨S48x32x64x1, .f32⟩
  | 92 => ⟨S48x1x1x256, .f32⟩
  | 93 => ⟨S48x32x64x256, .f32⟩
  | 94 => ⟨S48x32x64x256, .f32⟩
  | 95 => ⟨S48x32x64x256, .f32⟩
  | 96 => ⟨S48x32x64x256, .f32⟩
  | 97 => ⟨S48x32x64, .f32⟩
  | 98 => ⟨S32x1, .f32⟩
  | 99 => ⟨S1x32x1, .f32⟩
  | 100 => ⟨S48x32x64, .f32⟩
  | 101 => ⟨S48x32x64, .f32⟩
  | 102 => ⟨S48x32x64, .f32⟩
  | 103 => ⟨S48x1x2048, .f32⟩
  | 104 => ⟨S48x32x64x8x32, .f32⟩
  | 105 => ⟨S48x32x64x8x32, .f32⟩
  | 106 => ⟨S_, .f32⟩
  | 107 => ⟨S48x32x8x32, .f32⟩
  | 108 => ⟨S_, .f32⟩
  | 109 => ⟨S48x32x8, .f32⟩
  | 110 => ⟨S_, .f32⟩
  | 111 => ⟨S48x32x8, .f32⟩
  | 112 => ⟨S48x32x8, .f32⟩
  | 113 => ⟨S_, .f32⟩
  | 114 => ⟨S48x32x8, .f32⟩
  | 115 => ⟨S48x32x8, .f32⟩
  | 116 => ⟨S_, .f32⟩
  | 117 => ⟨S48x32x8, .f32⟩
  | 118 => ⟨S48x32x8, .i1⟩
  | 119 => ⟨S48x32x8, .f32⟩
  | 120 => ⟨S48x32x8, .f32⟩
  | 121 => ⟨S48x32x8, .f32⟩
  | 122 => ⟨S_, .f32⟩
  | 123 => ⟨S48x32x8, .f32⟩
  | 124 => ⟨S48x32x8, .f32⟩
  | 125 => ⟨S_, .f32⟩
  | 126 => ⟨S_, .f32⟩
  | 127 => ⟨S48x32x8, .f32⟩
  | _ => ⟨S59, .i32⟩

abbrev hbmTy0_1 (i : Nat) : BufTy := match i % 128 with
  | 0 => ⟨S48x32x8, .f32⟩
  | 1 => ⟨S_, .f32⟩
  | 2 => ⟨S48x32x8, .f32⟩
  | 3 => ⟨S48x32x8, .i1⟩
  | 4 => ⟨S_, .f32⟩
  | 5 => ⟨S_, .f32⟩
  | 6 => ⟨S48x32x8, .f32⟩
  | 7 => ⟨S48x32x8, .f32⟩
  | 8 => ⟨S48x32x8, .f32⟩
  | 9 => ⟨S48x32x8, .f32⟩
  | 10 => ⟨S48x32x8, .f32⟩
  | 11 => ⟨S48x32x1x8x1, .f32⟩
  | 12 => ⟨S48x32x64x8x32, .f32⟩
  | 13 => ⟨S48x32x64x8x32, .f32⟩
  | 14 => ⟨S_, .f32⟩
  | 15 => ⟨S_, .f32⟩
  | 16 => ⟨S_, .f32⟩
  | 17 => ⟨S48x32x64x8x32, .f32⟩
  | 18 => ⟨S48x32x64x8x32, .f32⟩
  | 19 => ⟨S_, .f32⟩
  | 20 => ⟨S48x32x64x8x32, .f32⟩
  | 21 => ⟨S48x32x64x8x32, .f32⟩
  | 22 => ⟨S48x32x64x8x32, .fp8e4m3⟩
  | 23 => ⟨S48x32x64x256, .fp8e4m3⟩
  | 24 => ⟨S48x32x8, .f32⟩
  | 25 => ⟨S48x32x8, .f32⟩
  | _ => ⟨S59, .i32⟩

abbrev hbmTy (i : Nat) : BufTy := match i / 128 with
  | 0 => hbmTy0_0 i
  | 1 => hbmTy0_1 i
  | _ => ⟨S59, .i32⟩

abbrev bufTy : (tb : Table) → Fin (tcTables nBuf tb) → BufTy
  | .hbm, ⟨i, _⟩ => hbmTy i
  | .local _ .vmem, ⟨0, _⟩ => ⟨S76x32x64x256, .fp8e4m3⟩
  | .local _ .vmem, ⟨1, _⟩ => ⟨S76x32x64x256, .f32⟩
  | _, _ => ⟨S59, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_call1_cst : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_c_1 : Ref sig .tc := ⟨.hbm, 68, rfl⟩
abbrev main_v33 : Ref sig .tc := ⟨.hbm, 69, rfl⟩
abbrev main_v34 : Ref sig .tc := ⟨.hbm, 70, rfl⟩
abbrev main_c_2 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_3 : Ref sig .tc := ⟨.hbm, 106, rfl⟩
abbrev main_v69 : Ref sig .tc := ⟨.hbm, 107, rfl⟩
abbrev main_cst_4 : Ref sig .tc := ⟨.hbm, 108, rfl⟩
abbrev main_v70 : Ref sig .tc := ⟨.hbm, 109, rfl⟩
abbrev main_cst_5 : Ref sig .tc := ⟨.hbm, 110, rfl⟩
abbrev main_v71 : Ref sig .tc := ⟨.hbm, 111, rfl⟩
abbrev main_v72 : Ref sig .tc := ⟨.hbm, 112, rfl⟩
abbrev main_cst_6 : Ref sig .tc := ⟨.hbm, 113, rfl⟩
abbrev main_v73 : Ref sig .tc := ⟨.hbm, 114, rfl⟩
abbrev main_v74 : Ref sig .tc := ⟨.hbm, 115, rfl⟩
abbrev main_cst_7 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_cst_8 : Ref sig .tc := ⟨.hbm, 122, rfl⟩
abbrev main_v80 : Ref sig .tc := ⟨.hbm, 123, rfl⟩
abbrev main_v81 : Ref sig .tc := ⟨.hbm, 124, rfl⟩
abbrev main_cst_9 : Ref sig .tc := ⟨.hbm, 125, rfl⟩
abbrev main_call2_v0 : Ref sig .tc := ⟨.hbm, 126, rfl⟩
abbrev main_call2_v1 : Ref sig .tc := ⟨.hbm, 127, rfl⟩
abbrev main_v82 : Ref sig .tc := ⟨.hbm, 128, rfl⟩
abbrev main_cst_10 : Ref sig .tc := ⟨.hbm, 129, rfl⟩
abbrev main_v83 : Ref sig .tc := ⟨.hbm, 130, rfl⟩
abbrev main_v84 : Ref sig .tc := ⟨.hbm, 131, rfl⟩
abbrev main_cst_11 : Ref sig .tc := ⟨.hbm, 132, rfl⟩
abbrev main_call3_v0 : Ref sig .tc := ⟨.hbm, 133, rfl⟩
abbrev main_call3_v1 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_cst_12 : Ref sig .tc := ⟨.hbm, 142, rfl⟩
abbrev main_cst_13 : Ref sig .tc := ⟨.hbm, 143, rfl⟩
abbrev main_call4_v0 : Ref sig .tc := ⟨.hbm, 144, rfl⟩
abbrev main_call4_v1 : Ref sig .tc := ⟨.hbm, 145, rfl⟩
abbrev main_call4_v2 : Ref sig .tc := ⟨.hbm, 146, rfl⟩
abbrev main_call4_v3 : Ref sig .tc := ⟨.hbm, 147, rfl⟩
abbrev main_call4_v4 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S76x32x64x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S76x32x64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.UpBody.lean ====
/-
  The body of `Up` (the up projection), on any staging buffers, at any float reading.

  One grid point of `Up` multiplies an 864-row tile of the codes by a 512-column tile of the weights and leaves the
  rectified, squared and quantised product in the output tile. The last row tile of the codes and of the output
  reaches past row 5168; what the staging buffers hold there is arbitrary, and `sound_kernel` is stated for any
  contents.
-/
module

public import proofs.«01_k».proof.Proof.Gen.Up.Frame
public import proofs.«01_k».proof.Proof.Gen.Up.Points
public import proofs.«01_k».proof.Proof.Gen.Up.Skeleton
public import Idealize.ShloMosaic.Lib.Pipeline.Value

@[expose] public section

set_option maxRecDepth 16384

noncomputable section

namespace Cert.Up.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Up.Gen

variable {F : FTy → Type} [FloatOps F]

local notation "𝕄" => MT nD τ sig Unit (Elt F) ℕ (UR sig nD τ) ℕ

/-- A rank-2 zero offset. -/
theorem zeros2 : (![0, 0] : Fin 2 → ℕ) = fun _ => 0 := by funext a; fin_cases a <;> rfl

theorem zeros1 : (![0] : Fin 1 → ℕ) = fun _ => 0 := by funext a; fin_cases a; rfl

/-- The one entry of a one-entry buffer. -/
def word (x : Vec F S1 .f32) : Elt F .f32 := x (fun a => ⟨0, by have : a = 0 := Subsingleton.elim _ _; subst this; exact Nat.one_pos⟩)

/-- A one-entry buffer has one index. -/
theorem word_eq (x : Vec F S1 .f32) (j : S1.Idx) : word x = x j := by
  unfold word; congr 1; funext a
  have ha : a = 0 := Subsingleton.elim _ _
  subst ha; exact Fin.ext (by have := (j 0).isLt; change _ < 1 at this; change 0 = (j 0).val; omega)

/-- What the body stores, of what its five input buffers hold: the codes, the weights, the two scales, the weights' scales. -/
def stored (x0 x1 : Vec F S1 .f32) (x2 : Vec F S864x8192 .fp8e4m3) (x3 : Vec F S8192x512 .fp8e4m3) (x4 : Vec F S1x512 .f32) :
    Vec F S864x512 .fp8e4m3 :=
  k0_pay1 x2 x3 (word x0) x4 (word x1)

set_option maxHeartbeats 1000000 in
/-- The body on whole staging buffers: the inputs end as they were, the output holds `stored` of the inputs. -/
theorem sound_kernel (c : Dev nD) (E : Set ℕ) (i : grid0.Coords) (arg2 : Memref sig .tc .smem S1 .f32) (harg2 : arg2.IsWhole) (arg3 : Memref sig .tc .smem S1 .f32) (harg3 : arg3.IsWhole) (arg4 : Memref sig .tc .vmem S864x8192 .fp8e4m3) (harg4 : arg4.IsWhole) (arg5 : Memref sig .tc .vmem S8192x512 .fp8e4m3) (harg5 : arg5.IsWhole) (arg6 : Memref sig .tc .vmem S1x512 .f32) (harg6 : arg6.IsWhole) (arg7 : Memref sig .tc .vmem S864x512 .fp8e4m3) (harg7 : arg7.IsWhole)
    (x0 x1 : Vec F S1 .f32) (x2 : Vec F S864x8192 .fp8e4m3) (x3 : Vec F S8192x512 .fp8e4m3) (x4 : Vec F S1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (stored x0 x1 x2 x3 x4)) -∗ K ⟨⟩))
      ⊢ wp frame (wpE (defs₀ (F := F)) Variants.none c none) E (cc0_up i arg2 harg2 arg3 harg3 arg4 harg4 arg5 harg5 arg6 harg6 arg7 harg7) K := by
  simp only [cc0_up_eq_skeleton]; unfold cc0_up_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  unfold sound_kernel.sl.r sound_kernel.sl.r_1
  rw [View.read_writes_eq_canon _ _ _ (fun y => ⟨_, List.mem_singleton_self _, View.mem_set_unit_zero zeros2 inb_S864x512_S864x512_0_0 y⟩),
    View.canon_unit_zero zeros2]
  rw [View.readAt_eq_ld, View.ld_unit_zero zeros2, View.readAt_eq_ld, View.ld_unit_zero zeros2, View.readAt_eq_ld, View.ld_unit_zero zeros1,
    View.readAt_eq_ld, View.ld_unit_zero zeros2, View.readAt_eq_ld, View.ld_unit_zero zeros1]
  unfold stored
  rw [word_eq _ (Shape.Idx.first (by decide)), word_eq _ (Shape.Idx.first (by decide))]

/-! ## The proof data -/

variable (m : (ℓ : Loc nD τ sig) → Buf (Elt F) ℓ) (ρ : Dev nD → PrngReg)

/-- The tile of codes at point `t`: the array's rows where there are any, the zero word past the array's end. -/
def ftile (c : Dev nD) (t : Fin cfg0.N) : Vec F S864x8192 .fp8e4m3 :=
  win0_2.fill (grid0.coords t) (fun _ => Scalar.ofBits .fp8e4m3 0#8) (iblk m c 2 t)

/-- What the body leaves in the output tile at point `t` (on the rows inside the array). -/
def otile (c : Dev nD) (t : Fin cfg0.N) : Vec F S864x512 .fp8e4m3 :=
  stored (iblk m c 0 t) (iblk m c 1 t) (ftile m c t) (iblk m c 3 t) (iblk m c 4 t)

/-- The proof data: the arrays as the region finds them; after the body each input buffer at its block, the output
    buffer at `otile`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => ftile m c t
    | ⟨3, _⟩ => iblk m c 3 t
    | ⟨4, _⟩ => iblk m c 4 t
    | ⟨5, _⟩ => otile m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = ftile m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = otile m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Where the tile of codes is cut depends on the block index alone. -/
theorem clip0_2 (t t' : Fin cfg0.N) (h : (cfg0.win 2).index t = (cfg0.win 2).index t') :
    (cfg0.win 2).clip (cfg0.grid.coords t) = (cfg0.win 2).clip (cfg0.grid.coords t') := by
  funext a
  change Pipeline.Clip.of (win0_2.index t a) _ _ = Pipeline.Clip.of (win0_2.index t' a) _ _
  have ha : win0_2.index t a = win0_2.index t' a := congrFun h a
  rw [ha]

/-- The part of `ftile` inside the array is the block. -/
theorem cut_ftile (c : Dev nD) (t : Fin cfg0.N) : win0_2.cut (grid0.coords t) (ftile m c t) = iblk m c 2 t :=
  win0_2.cut_fill _ _ _

/-- The codes' buffer holds the block on the rows inside the array, anything past the array's end. -/
theorem before0_2 (c : Dev nD) (t : Fin cfg0.N) (d) :
    (dats m 0 c).before 2 t d = win0_2.fill (grid0.coords t) d (iblk m c 2 t) := by
  refine ((dats m 0 c).before_in_eq_fetched 2 rfl (fun _ => rfl) clip0_2 (fun t => ?_) t d).trans ?_
  · rw [after0_2]; unfold ftile Dat.blockOf iblk; rw [A_eq]; exact win0_2.cut_fill _ _ _
  · unfold Dat.fetched Dat.blockOf iblk; rw [A_eq]

/-! ## The frame: what the output holds is left unsaid -/

/-- The windows whose contents the frame does not name: the output's. -/
def fgt : Fin cfg0.W → Bool := fun w => match w with
  | 0 => false | 1 => false | 2 => false | 3 => false | 4 => false | 5 => true
  | ⟨_ + 6, h⟩ => absurd h (Nat.not_lt.2 (Nat.le_add_left _ _))

theorem defs₀_row (t : Fin cfg0.N) :
    defs₀ (F := F) .tc cfg0.body (cfg0.bodyArgs t (cfg0.slots t)) = bodyAt0 t := by
  unfold defs₀; rw [Defs.onTc_tc]

theorem body_obligation_fgt (c : Dev nD) :
    BodyObligationLoose (dats (F := F) m 0 c) (defs₀ (F := F)) Variants.none () Set.univ fgt := fun t => by
  rw [bigSep_W0, bigSep_W0, defs₀_row]
  simp only [fgt]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, H5⟩
  rw [before0_0 m c t d0, before0_1 m c t d1, before0_2 m c t d2, before0_3 m c t d3, before0_4 m c t d4]
  iapply (sound_kernel c Set.univ _ _ _ _ _ _ _ _ _ _ _ _ _ (iblk m c 0 t) (iblk m c 1 t) (win0_2.fill (grid0.coords t) d2 (iblk m c 2 t)) (iblk m c 3 t) (iblk m c 4 t) _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]; · iexact H0
  isplitl [H1]; · iexact H1
  isplitl [H2]
  · iexists d2
    change _ ⊢ owns (c : Thread nD τ) (stage0_2 (cfg0.slots t 2)) fullShare (win0_2.fill (grid0.coords t) d2 (win0_2.cut (grid0.coords t) ((dats m 0 c).after 2 t)))
    rw [after0_2, cut_ftile]
  isplitl [H3]; · iexact H3
  isplitl [H4]; · iexact H4
  iexists _; iexact H5

set_option backward.isDefEq.respectTransparency.types false in
set_option maxHeartbeats 800000 in
/-- The launch, the output's contents left unsaid, every semaphore counter at zero at the end. -/
theorem run_fgt : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := body_obligation_fgt m) (hshare := fun c => (dats m 0 c).share_full fun _ => rfl)
    (howed := fun _ _ => rfl) (V := V m) (hmain := hmain m Variants.none) (hA := A_eq m) (hΦ := fun _ _ => rfl)

/-- THE FRAME: the kernel terminates, its arguments end unchanged, every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨(h.1.arr_in c 2 rfl).trans ((A_eq m c 2).trans (V_main_arg0 m c)),
     (h.1.arr_in c 3 rfl).trans ((A_eq m c 3).trans (V_main_arg1 m c)),
     ((h.1 c).2 main_arg2 (Pipeline.mem_restRefs_of main_arg2 (by decide) (by decide))).trans (V_main_arg2 m c),
     (h.1.arr_in c 0 rfl).trans ((A_eq m c 0).trans (V_main_arg3 m c)),
     (h.1.arr_in c 1 rfl).trans ((A_eq m c 1).trans (V_main_arg4 m c))⟩, h.2⟩) (run_fgt m ρ)

end Cert.Up.Body

end
-- ==== Proof.UpIdealBody.lean ====
/-
  The body of `UpIdeal` (the up projection), on any staging buffers, at any float reading.

  One grid point of `UpIdeal` multiplies an 864-row tile of the codes by a 512-column tile of the weights and leaves the
  rectified, squared and quantised product in the output tile. The last row tile of the codes and of the output
  reaches past row 5168; what the staging buffers hold there is arbitrary, and `sound_kernel` is stated for any
  contents.
-/
module

public import proofs.«01_k».proof.Proof.Gen.UpIdeal.Frame
public import proofs.«01_k».proof.Proof.Gen.UpIdeal.Points
public import proofs.«01_k».proof.Proof.Gen.UpIdeal.Skeleton
public import Idealize.ShloMosaic.Lib.Pipeline.Value

@[expose] public section

set_option maxRecDepth 16384

noncomputable section

namespace Cert.UpIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.UpIdeal.Gen

variable {F : FTy → Type} [FloatOps F]

local notation "𝕄" => MT nD τ sig Unit (Elt F) ℕ (UR sig nD τ) ℕ

/-- A rank-2 zero offset. -/
theorem zeros2 : (![0, 0] : Fin 2 → ℕ) = fun _ => 0 := by funext a; fin_cases a <;> rfl

theorem zeros1 : (![0] : Fin 1 → ℕ) = fun _ => 0 := by funext a; fin_cases a; rfl

/-- The one entry of a one-entry buffer. -/
def word (x : Vec F S1 .f32) : Elt F .f32 := x (fun a => ⟨0, by have : a = 0 := Subsingleton.elim _ _; subst this; exact Nat.one_pos⟩)

/-- A one-entry buffer has one index. -/
theorem word_eq (x : Vec F S1 .f32) (j : S1.Idx) : word x = x j := by
  unfold word; congr 1; funext a
  have ha : a = 0 := Subsingleton.elim _ _
  subst ha; exact Fin.ext (by have := (j 0).isLt; change _ < 1 at this; change 0 = (j 0).val; omega)

/-- What the body stores, of what its five input buffers hold: the codes, the weights, the two scales, the weights' scales. -/
def stored (x0 x1 : Vec F S1 .f32) (x2 : Vec F S864x8192 .fp8e4m3) (x3 : Vec F S8192x512 .fp8e4m3) (x4 : Vec F S1x512 .f32) :
    Vec F S864x512 .fp8e4m3 :=
  k0_pay1 x2 x3 (word x0) x4 (word x1)

set_option maxHeartbeats 1000000 in
/-- The body on whole staging buffers: the inputs end as they were, the output holds `stored` of the inputs. -/
theorem sound_kernel (c : Dev nD) (E : Set ℕ) (i : grid0.Coords) (arg2 : Memref sig .tc .smem S1 .f32) (harg2 : arg2.IsWhole) (arg3 : Memref sig .tc .smem S1 .f32) (harg3 : arg3.IsWhole) (arg4 : Memref sig .tc .vmem S864x8192 .fp8e4m3) (harg4 : arg4.IsWhole) (arg5 : Memref sig .tc .vmem S8192x512 .fp8e4m3) (harg5 : arg5.IsWhole) (arg6 : Memref sig .tc .vmem S1x512 .f32) (harg6 : arg6.IsWhole) (arg7 : Memref sig .tc .vmem S864x512 .fp8e4m3) (harg7 : arg7.IsWhole)
    (x0 x1 : Vec F S1 .f32) (x2 : Vec F S864x8192 .fp8e4m3) (x3 : Vec F S8192x512 .fp8e4m3) (x4 : Vec F S1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (stored x0 x1 x2 x3 x4)) -∗ K ⟨⟩))
      ⊢ wp frame (wpE (defs₀ (F := F)) Variants.none c none) E (cc0_up i arg2 harg2 arg3 harg3 arg4 harg4 arg5 harg5 arg6 harg6 arg7 harg7) K := by
  simp only [cc0_up_eq_skeleton]; unfold cc0_up_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  unfold sound_kernel.sl.r sound_kernel.sl.r_1
  rw [View.read_writes_eq_canon _ _ _ (fun y => ⟨_, List.mem_singleton_self _, View.mem_set_unit_zero zeros2 inb_S864x512_S864x512_0_0 y⟩),
    View.canon_unit_zero zeros2]
  rw [View.readAt_eq_ld, View.ld_unit_zero zeros2, View.readAt_eq_ld, View.ld_unit_zero zeros2, View.readAt_eq_ld, View.ld_unit_zero zeros1,
    View.readAt_eq_ld, View.ld_unit_zero zeros2, View.readAt_eq_ld, View.ld_unit_zero zeros1]
  unfold stored
  rw [word_eq _ (Shape.Idx.first (by decide)), word_eq _ (Shape.Idx.first (by decide))]

/-! ## The proof data -/

variable (m : (ℓ : Loc nD τ sig) → Buf (Elt F) ℓ) (ρ : Dev nD → PrngReg)

/-- The tile of codes at point `t`: the array's rows where there are any, the zero word past the array's end. -/
def ftile (c : Dev nD) (t : Fin cfg0.N) : Vec F S864x8192 .fp8e4m3 :=
  win0_2.fill (grid0.coords t) (fun _ => Scalar.ofBits .fp8e4m3 0#8) (iblk m c 2 t)

/-- What the body leaves in the output tile at point `t` (on the rows inside the array). -/
def otile (c : Dev nD) (t : Fin cfg0.N) : Vec F S864x512 .fp8e4m3 :=
  stored (iblk m c 0 t) (iblk m c 1 t) (ftile m c t) (iblk m c 3 t) (iblk m c 4 t)

/-- The proof data: the arrays as the region finds them; after the body each input buffer at its block, the output
    buffer at `otile`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => ftile m c t
    | ⟨3, _⟩ => iblk m c 3 t
    | ⟨4, _⟩ => iblk m c 4 t
    | ⟨5, _⟩ => otile m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = ftile m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = otile m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Where the tile of codes is cut depends on the block index alone. -/
theorem clip0_2 (t t' : Fin cfg0.N) (h : (cfg0.win 2).index t = (cfg0.win 2).index t') :
    (cfg0.win 2).clip (cfg0.grid.coords t) = (cfg0.win 2).clip (cfg0.grid.coords t') := by
  funext a
  change Pipeline.Clip.of (win0_2.index t a) _ _ = Pipeline.Clip.of (win0_2.index t' a) _ _
  have ha : win0_2.index t a = win0_2.index t' a := congrFun h a
  rw [ha]

/-- The part of `ftile` inside the array is the block. -/
theorem cut_ftile (c : Dev nD) (t : Fin cfg0.N) : win0_2.cut (grid0.coords t) (ftile m c t) = iblk m c 2 t :=
  win0_2.cut_fill _ _ _

/-- The codes' buffer holds the block on the rows inside the array, anything past the array's end. -/
theorem before0_2 (c : Dev nD) (t : Fin cfg0.N) (d) :
    (dats m 0 c).before 2 t d = win0_2.fill (grid0.coords t) d (iblk m c 2 t) := by
  refine ((dats m 0 c).before_in_eq_fetched 2 rfl (fun _ => rfl) clip0_2 (fun t => ?_) t d).trans ?_
  · rw [after0_2]; unfold ftile Dat.blockOf iblk; rw [A_eq]; exact win0_2.cut_fill _ _ _
  · unfold Dat.fetched Dat.blockOf iblk; rw [A_eq]

/-! ## The frame: what the output holds is left unsaid -/

/-- The windows whose contents the frame does not name: the output's. -/
def fgt : Fin cfg0.W → Bool := fun w => match w with
  | 0 => false | 1 => false | 2 => false | 3 => false | 4 => false | 5 => true
  | ⟨_ + 6, h⟩ => absurd h (Nat.not_lt.2 (Nat.le_add_left _ _))

theorem defs₀_row (t : Fin cfg0.N) :
    defs₀ (F := F) .tc cfg0.body (cfg0.bodyArgs t (cfg0.slots t)) = bodyAt0 t := by
  unfold defs₀; rw [Defs.onTc_tc]

theorem body_obligation_fgt (c : Dev nD) :
    BodyObligationLoose (dats (F := F) m 0 c) (defs₀ (F := F)) Variants.none () Set.univ fgt := fun t => by
  rw [bigSep_W0, bigSep_W0, defs₀_row]
  simp only [fgt]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, H5⟩
  rw [before0_0 m c t d0, before0_1 m c t d1, before0_2 m c t d2, before0_3 m c t d3, before0_4 m c t d4]
  iapply (sound_kernel c Set.univ _ _ _ _ _ _ _ _ _ _ _ _ _ (iblk m c 0 t) (iblk m c 1 t) (win0_2.fill (grid0.coords t) d2 (iblk m c 2 t)) (iblk m c 3 t) (iblk m c 4 t) _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]; · iexact H0
  isplitl [H1]; · iexact H1
  isplitl [H2]
  · iexists d2
    change _ ⊢ owns (c : Thread nD τ) (stage0_2 (cfg0.slots t 2)) fullShare (win0_2.fill (grid0.coords t) d2 (win0_2.cut (grid0.coords t) ((dats m 0 c).after 2 t)))
    rw [after0_2, cut_ftile]
  isplitl [H3]; · iexact H3
  isplitl [H4]; · iexact H4
  iexists _; iexact H5

set_option backward.isDefEq.respectTransparency.types false in
set_option maxHeartbeats 800000 in
/-- The launch, the output's contents left unsaid, every semaphore counter at zero at the end. -/
theorem run_fgt : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := body_obligation_fgt m) (hshare := fun c => (dats m 0 c).share_full fun _ => rfl)
    (howed := fun _ _ => rfl) (V := V m) (hmain := hmain m Variants.none) (hA := A_eq m) (hΦ := fun _ _ => rfl)

/-- THE FRAME: the kernel terminates, its arguments end unchanged, every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨(h.1.arr_in c 2 rfl).trans ((A_eq m c 2).trans (V_main_arg0 m c)),
     (h.1.arr_in c 3 rfl).trans ((A_eq m c 3).trans (V_main_arg1 m c)),
     ((h.1 c).2 main_arg2 (Pipeline.mem_restRefs_of main_arg2 (by decide) (by decide))).trans (V_main_arg2 m c),
     (h.1.arr_in c 0 rfl).trans ((A_eq m c 0).trans (V_main_arg3 m c)),
     (h.1.arr_in c 1 rfl).trans ((A_eq m c 1).trans (V_main_arg4 m c))⟩, h.2⟩) (run_fgt m ρ)

end Cert.UpIdeal.Body

end
-- ==== Proof.UpValue.lean ====
/-
  `Up` over the reals computes its reference: at every point the output tile, on its rows inside the array, is the
  reference's result read through the tile (`cut_stored`); the tiles cover the array (`covered`); so the array ends
  holding the reference's result (`final`).
-/
module

public import proofs.«01_k».proof.Defs
public import proofs.«01_k».proof.Proof.UpIdealBody
public import proofs.«01_k».proof.Proof.Gen.UpRefIdeal.Value
public import Idealize.ShloMosaic.Lib.Pointwise
public import Idealize.ShloMosaic.Lib.StableHlo.ReadAt

@[expose] public section

set_option maxRecDepth 16384

noncomputable section

namespace Cert.UpIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.UpIdeal.Gen

/-! ## One element of a tile and of the reference's result -/

/-- One element of the up projection: row `x` of the codes against column `w` of the weights, scaled by `s` and the
    column's scale `sc`, rectified, squared, divided by `su` and clipped to the fp8 range. -/
def elem (x w : Fin 8192 → EReal) (s sc su : EReal) : EReal :=
  min (Ideal.ofBits FTy.f32 1138753536#32) (max (Ideal.ofBits FTy.f32 3286237184#32)
    (Ideal.div (max ((∑ k, x k * w k) * s * sc) 0 * max ((∑ k, x k * w k) * s * sc) 0) su))

theorem stored_apply (x0 x1 : Vec Ideal S1 .f32) (x2 : Vec Ideal S864x8192 .fp8e4m3) (x3 : Vec Ideal S8192x512 .fp8e4m3)
    (x4 : Vec Ideal S1x512 .f32) (r : Fin 864) (q : Fin 512) :
    stored x0 x1 x2 x3 x4 (ix2 r q)
      = elem (fun k => x2 (ix2 r k)) (fun k => x3 (ix2 k q)) (x0 (ix1 0)) (x4 (ix2 0 q)) (x1 (ix1 0)) := by
  pointwise [stored, k0_pay1, elem]
  rw [word_eq x0 (ix1 0), word_eq x1 (ix1 0)]

theorem G5_apply (a0 : Vec Ideal Cert.UpRefIdeal.S5168x8192 .fp8e4m3) (a1 : Vec Ideal Cert.UpRefIdeal.S8192x4096 .fp8e4m3)
    (a2 : Vec Ideal Cert.UpRefIdeal.S4096 .f32) (a3 a4 : Vec Ideal Cert.UpRefIdeal.S1 .f32) (r : Fin 5168) (q : Fin 4096) :
    Cert.UpRefIdeal.Value.G5 a0 a1 a2 a3 a4 (ix2 r q)
      = elem (fun k => a0 (ix2 r k)) (fun k => a1 (ix2 k q)) (a3 (ix1 0)) (a2 (ix1 q)) (a4 (ix1 0)) := by
  pointwise [Cert.UpRefIdeal.Value.G5, Cert.UpRefIdeal.Gen.k0_pay1, elem]

/-! ## Where the tiles lie -/

theorem row_lt (t : Fin cfg0.N) : t.val / 8 < 6 := by
  have h : t.val < 48 := t.isLt
  omega
/-- The block indices and the rows inside the array, at every point. -/
theorem index0 : ∀ t : Fin cfg0.N, win0_0.index t (0 : Fin 1) = 0 := (by decide +kernel : ∀ t : Fin grid0.N, _)
theorem index1 : ∀ t : Fin cfg0.N, win0_1.index t (0 : Fin 1) = 0 := (by decide +kernel : ∀ t : Fin grid0.N, _)
theorem index2 : ∀ t : Fin cfg0.N, win0_2.index t (0 : Fin 2) = t.val / 8 ∧ win0_2.index t (1 : Fin 2) = 0 :=
  (by decide +kernel : ∀ t : Fin grid0.N, _)
theorem index3 : ∀ t : Fin cfg0.N, win0_3.index t (0 : Fin 2) = 0 ∧ win0_3.index t (1 : Fin 2) = t.val % 8 :=
  (by decide +kernel : ∀ t : Fin grid0.N, _)
theorem index4 : ∀ t : Fin cfg0.N, win0_4.index t (0 : Fin 2) = 0 ∧ win0_4.index t (1 : Fin 2) = t.val % 8 :=
  (by decide +kernel : ∀ t : Fin grid0.N, _)
theorem index5 : ∀ t : Fin cfg0.N, win0_5.index t (0 : Fin 2) = t.val / 8 ∧ win0_5.index t (1 : Fin 2) = t.val % 8 :=
  (by decide +kernel : ∀ t : Fin grid0.N, _)
/-- Rows inside the array: the codes' tile and the output's tile are cut alike. -/
theorem rows2 : ∀ t : Fin cfg0.N, win0_2.xsize (grid0.coords t) (0 : Fin 2) = min 864 (5168 - 864 * (t.val / 8))
    ∧ win0_2.xsize (grid0.coords t) (1 : Fin 2) = 8192 := (by decide +kernel : ∀ t : Fin grid0.N, _)
theorem rows5 : ∀ t : Fin cfg0.N, win0_5.xsize (grid0.coords t) (0 : Fin 2) = min 864 (5168 - 864 * (t.val / 8))
    ∧ win0_5.xsize (grid0.coords t) (1 : Fin 2) = 512 := (by decide +kernel : ∀ t : Fin grid0.N, _)

variable (m : (ℓ : Loc nD τ sig) → Buf (Elt Ideal) ℓ) (ρ : Dev nD → PrngReg)

/-- The row of scales as the host lays it out: the argument's entries. -/
theorem V_main_v0 (c : Dev nD) (q : Fin 4096) : V m c main_v0 (ix2 0 q) = m ((c : Thread nD τ).loc main_arg2) (ix1 q) := by
  unfold V
  after_reads_at

theorem iblk0_at (c : Dev nD) (t : Fin cfg0.N) : iblk m c 0 t (ix1 0) = m ((c : Thread nD τ).loc main_arg3) (ix1 0) := by
  rw [← V_main_arg3 m c]
  show V m c main_arg3 (((cfg0.win 0).blk t).view.emb (ix1 0)) = _
  congr 1; funext a; apply Fin.ext
  match a with
  | ⟨0, _⟩ => show win0_0.index t (0 : Fin 1) * 1 + 1 * 0 = 0; rw [index0 t]

theorem iblk1_at (c : Dev nD) (t : Fin cfg0.N) : iblk m c 1 t (ix1 0) = m ((c : Thread nD τ).loc main_arg4) (ix1 0) := by
  rw [← V_main_arg4 m c]
  show V m c main_arg4 (((cfg0.win 1).blk t).view.emb (ix1 0)) = _
  congr 1; funext a; apply Fin.ext
  match a with
  | ⟨0, _⟩ => show win0_1.index t (0 : Fin 1) * 1 + 1 * 0 = 0; rw [index1 t]

theorem fill2_at (c : Dev nD) (t : Fin cfg0.N) (d : Vec Ideal S864x8192 .fp8e4m3) (r : Fin 864) (k : Fin 8192)
    (h : 864 * (t.val / 8) + r.val < 5168) :
    win0_2.fill (grid0.coords t) d (iblk m c 2 t) (ix2 r k) = m ((c : Thread nD τ).loc main_arg0) (ix2 ⟨864 * (t.val / 8) + r.val, h⟩ k) := by
  have hm : win0_2.moved (grid0.coords t) (ix2 r k) = true := (win0_2.moved_iff _ _).mpr fun a => by
    match a with
    | ⟨0, _⟩ => show r.val < win0_2.xsize (grid0.coords t) (0 : Fin 2); rw [(rows2 t).1]; have := r.isLt; omega
    | ⟨1, _⟩ => show k.val < win0_2.xsize (grid0.coords t) (1 : Fin 2); rw [(rows2 t).2]; exact k.isLt
  unfold Window.fill
  rw [dif_pos hm, ← V_main_arg0 m c]
  show V m c main_arg0 (((cfg0.win 2).blk t).view.emb _) = _
  congr 1; funext a; apply Fin.ext
  match a with
  | ⟨0, _⟩ => show win0_2.index t (0 : Fin 2) * 864 + 1 * r.val = 864 * (t.val / 8) + r.val; rw [(index2 t).1]; omega
  | ⟨1, _⟩ => show win0_2.index t (1 : Fin 2) * 8192 + 1 * k.val = k.val; rw [(index2 t).2]; omega

theorem iblk3_at (c : Dev nD) (t : Fin cfg0.N) (k : Fin 8192) (q : Fin 512) (h : 512 * (t.val % 8) + q.val < 4096) :
    iblk m c 3 t (ix2 k q) = m ((c : Thread nD τ).loc main_arg1) (ix2 k ⟨512 * (t.val % 8) + q.val, h⟩) := by
  rw [← V_main_arg1 m c]
  show V m c main_arg1 (((cfg0.win 3).blk t).view.emb _) = _
  congr 1; funext a; apply Fin.ext
  match a with
  | ⟨0, _⟩ => show win0_3.index t (0 : Fin 2) * 8192 + 1 * k.val = k.val; rw [(index3 t).1]; omega
  | ⟨1, _⟩ => show win0_3.index t (1 : Fin 2) * 512 + 1 * q.val = 512 * (t.val % 8) + q.val; rw [(index3 t).2]; omega

theorem iblk4_at (c : Dev nD) (t : Fin cfg0.N) (q : Fin 512) (h : 512 * (t.val % 8) + q.val < 4096) :
    iblk m c 4 t (ix2 0 q) = m ((c : Thread nD τ).loc main_arg2) (ix1 ⟨512 * (t.val % 8) + q.val, h⟩) := by
  rw [← V_main_v0 m c]
  show V m c main_v0 (((cfg0.win 4).blk t).view.emb _) = _
  congr 1; funext a; apply Fin.ext
  match a with
  | ⟨0, _⟩ => show win0_4.index t (0 : Fin 2) * 1 + 1 * 0 = 0; rw [(index4 t).1]
  | ⟨1, _⟩ => show win0_4.index t (1 : Fin 2) * 512 + 1 * q.val = 512 * (t.val % 8) + q.val; rw [(index4 t).2]; omega

/-! ## The output tile is the reference's result through the tile -/

/-- The reference's result from the kernel's arguments. -/
abbrev G (c : Dev nD) : Vec Ideal S5168x4096 .fp8e4m3 :=
  Cert.UpRefIdeal.Value.G5 (m ((c : Thread nD τ).loc main_arg0)) (m ((c : Thread nD τ).loc main_arg1))
    (m ((c : Thread nD τ).loc main_arg2)) (m ((c : Thread nD τ).loc main_arg3)) (m ((c : Thread nD τ).loc main_arg4))

theorem stored_at (c : Dev nD) (t : Fin cfg0.N) (d : Vec Ideal S864x8192 .fp8e4m3) (r : Fin 864) (q : Fin 512)
    (h : 864 * (t.val / 8) + r.val < 5168) (hq : 512 * (t.val % 8) + q.val < 4096) :
    stored (iblk m c 0 t) (iblk m c 1 t) (win0_2.fill (grid0.coords t) d (iblk m c 2 t)) (iblk m c 3 t) (iblk m c 4 t) (ix2 r q)
      = G m c (ix2 ⟨864 * (t.val / 8) + r.val, h⟩ ⟨512 * (t.val % 8) + q.val, hq⟩) := by
  refine (stored_apply _ _ _ _ _ r q).trans ((?_ : _ = _).trans (G5_apply _ _ _ _ _ _ _).symm)
  rw [iblk0_at, iblk1_at, iblk4_at m c t q hq]
  simp only [fill2_at m c t d r _ h, iblk3_at m c t _ q hq]

/-- Whatever the tile of codes holds past the array's end, the output tile inside the array is the reference's result. -/
theorem cut_stored (c : Dev nD) (t : Fin cfg0.N) (d : Vec Ideal S864x8192 .fp8e4m3) :
    win0_5.cut (grid0.coords t)
        (stored (iblk m c 0 t) (iblk m c 1 t) (win0_2.fill (grid0.coords t) d (iblk m c 2 t)) (iblk m c 3 t) (iblk m c 4 t))
      = (win0_5.blk t).view.read (Elt Ideal) (G m c) := by
  funext j
  have h0 : (j (0 : Fin 2)).val < win0_5.xsize (grid0.coords t) (0 : Fin 2) := (j (0 : Fin 2)).isLt
  have h1 : (j (1 : Fin 2)).val < win0_5.xsize (grid0.coords t) (1 : Fin 2) := (j (1 : Fin 2)).isLt
  rw [(rows5 t).1] at h0; rw [(rows5 t).2] at h1
  have hr : 864 * (t.val / 8) + (j (0 : Fin 2)).val < 5168 := by omega
  have hq : 512 * (t.val % 8) + (j (1 : Fin 2)).val < 4096 := by omega
  refine Eq.trans (?_ : _ = _) ((stored_at m c t d ⟨(j (0 : Fin 2)).val, by omega⟩ ⟨(j (1 : Fin 2)).val, h1⟩ hr hq).trans ?_)
  · show stored _ _ _ _ _ (win0_5.xinj (grid0.coords t) j) = _
    congr 1; funext a
    match a with
    | ⟨0, _⟩ => rfl
    | ⟨1, _⟩ => rfl
  · show G m c _ = G m c (((cfg0.win 5).blk t).view.emb j)
    congr 1; funext a; apply Fin.ext
    match a with
    | ⟨0, _⟩ =>
      show 864 * (t.val / 8) + (j (0 : Fin 2)).val = win0_5.index t (0 : Fin 2) * 864 + 1 * (j (0 : Fin 2)).val
      rw [(index5 t).1]; omega
    | ⟨1, _⟩ =>
      show 512 * (t.val % 8) + (j (1 : Fin 2)).val = win0_5.index t (1 : Fin 2) * 512 + 1 * (j (1 : Fin 2)).val
      rw [(index5 t).2]; omega

/-! ## The run -/

/-- What the body finds in the output buffer is nothing in particular. -/
theorem body_obligation (c : Dev nD) :
    BodyObligationLoose (dats (F := Ideal) m 0 c) (defs₀ (F := Ideal)) Variants.none () Set.univ := fun t => by
  rw [bigSep_W0, bigSep_W0, defs₀_row]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before0_0 m c t d0, before0_1 m c t d1, before0_2 m c t d2, before0_3 m c t d3, before0_4 m c t d4]
  iapply (sound_kernel c Set.univ _ _ _ _ _ _ _ _ _ _ _ _ _ (iblk m c 0 t) (iblk m c 1 t) (win0_2.fill (grid0.coords t) d2 (iblk m c 2 t)) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]
  · iexists d2
    change _ ⊢ owns (c : Thread nD τ) (stage0_2 (cfg0.slots t 2)) fullShare (win0_2.fill (grid0.coords t) d2 (win0_2.cut (grid0.coords t) ((dats m 0 c).after 2 t)))
    rw [after0_2, cut_ftile]
  isplitl [H3]; · iexact H3
  isplitl [H4]; · iexact H4
  iexists _
  change _ ⊢ owns (c : Thread nD τ) (stage0_5 (cfg0.slots t 5)) fullShare (win0_5.fill (grid0.coords t) _ (win0_5.cut (grid0.coords t) ((dats m 0 c).after 5 t)))
  rw [after0_5, show win0_5.cut (grid0.coords t) (otile m c t) = _ from (cut_stored m c t _).trans (cut_stored m c t d2).symm,
    win0_5.fill_cut]

set_option backward.isDefEq.respectTransparency.types false in
set_option maxHeartbeats 800000 in
theorem run_main : θ_run defs (onTc (τ := τ) (main (F := Ideal))) (s₀ m ρ) (Pipeline.FramePost cfgs (dats m) 0 (V m)) :=
  Pipeline.θ_run_frame (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

/-- The tiles cover the result. -/
theorem covered (i : S5168x4096.Idx) :
    ∃ t : Fin cfg0.N, (cfg0.win 5).flush t = true ∧ i ∈ ((cfg0.win 5).blk t).view.set := by
  have h0 : (i (0 : Fin 2)).val < 5168 := (i (0 : Fin 2)).isLt
  have h1 : (i (1 : Fin 2)).val < 4096 := (i (1 : Fin 2)).isLt
  have hN : (i (0 : Fin 2)).val / 864 * 8 + (i (1 : Fin 2)).val / 512 < 48 := by omega
  refine ⟨(⟨(i (0 : Fin 2)).val / 864 * 8 + (i (1 : Fin 2)).val / 512, hN⟩ : Fin cfg0.N), flush0_5 _, ?_⟩
  generalize ht : (⟨(i (0 : Fin 2)).val / 864 * 8 + (i (1 : Fin 2)).val / 512, hN⟩ : Fin cfg0.N) = t
  have e : t.val = (i (0 : Fin 2)).val / 864 * 8 + (i (1 : Fin 2)).val / 512 := by rw [← ht]
  show i ∈ ((View.whole main_v1).slice (win0_5.rect t)).set
  rw [View.set_slice_whole, Rect.mem_set_unit]
  intro a
  match a with
  | ⟨0, _⟩ =>
    show win0_5.index t (0 : Fin 2) * 864 ≤ (i (0 : Fin 2)).val ∧ (i (0 : Fin 2)).val < win0_5.index t (0 : Fin 2) * 864 + win0_5.xsize (grid0.coords t) (0 : Fin 2)
    rw [(index5 t).1, (rows5 t).1]; omega
  | ⟨1, _⟩ =>
    show win0_5.index t (1 : Fin 2) * 512 ≤ (i (1 : Fin 2)).val ∧ (i (1 : Fin 2)).val < win0_5.index t (1 : Fin 2) * 512 + win0_5.xsize (grid0.coords t) (1 : Fin 2)
    rw [(index5 t).2, (rows5 t).2]; omega

/-- THE RESULT: the array ends holding the reference's result. -/
theorem final (c : Dev nD) : (dats m 0 c).arrAt 5 cfg0.N = G m c :=
  (dats m 0 c).arrAt_eq_of_cover 5 (G m c) (fun t _ => by
    show win0_5.cut (grid0.coords t) ((dats m 0 c).after 5 t) = _
    rw [after0_5]; exact cut_stored m c t _) covered

/-- The kernel's run: the result is the reference's, the arguments are unchanged. -/
theorem run : θ_run defs (onTc (τ := τ) (main (F := Ideal))) ⟨m, fun _ => 0, ρ⟩ (fun r => ∀ c : Dev nD,
      r.2.mem ((c.tc : Thread nD τ).loc main_v1) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 5).trans (final m c), h.2 c⟩)
    (θ_run_and (run_main m ρ) (frame_of m ρ (dats m) (A_eq m) (run_main m ρ)))

/-- `Up` over the reals is its reference. -/
theorem algebraic : Cert.algebraic_UpIdeal_UpRefIdeal := by
  intro m g m' g' _ hm
  refine ⟨fun c => G m c, run m g, ?_⟩
  refine (θ_run Cert.UpRefIdeal.defs _ _).mono (fun r h c => ⟨(h c).1.trans ?_, (h c).2⟩) (Cert.UpRefIdeal.Value.run m' g')
  obtain ⟨e0, e1, e2, e3, e4⟩ := hm c
  rw [e0, e1, e2, e3, e4]

end Cert.UpIdeal.Body

end
-- ==== Proof.DownBody.lean ====
/-
  The body of `Down` (the down projection), on any staging buffers, at any float reading.

  One grid point of `Down` multiplies an 864-row tile of the codes by a 1024-column tile of the weights, scales the
  product and adds the tile of the residual. The last row tiles of the codes, the residual and the output reach past
  row 5168; what the staging buffers hold there is arbitrary, and `sound_kernel` is stated for any contents.
-/
module

public import proofs.«01_k».proof.Proof.Gen.Down.Frame
public import proofs.«01_k».proof.Proof.Gen.Down.Points
public import proofs.«01_k».proof.Proof.Gen.Down.Skeleton
public import Idealize.ShloMosaic.Lib.Pipeline.Value

@[expose] public section

set_option maxRecDepth 16384

noncomputable section

namespace Cert.Down.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Down.Gen

variable {F : FTy → Type} [FloatOps F]

local notation "𝕄" => MT nD τ sig Unit (Elt F) ℕ (UR sig nD τ) ℕ

/-- A rank-2 zero offset. -/
theorem zeros2 : (![0, 0] : Fin 2 → ℕ) = fun _ => 0 := by funext a; fin_cases a <;> rfl

theorem zeros1 : (![0] : Fin 1 → ℕ) = fun _ => 0 := by funext a; fin_cases a; rfl

/-- The one entry of a one-entry buffer. -/
def word (x : Vec F S1 .f32) : Elt F .f32 := x (fun a => ⟨0, by have : a = 0 := Subsingleton.elim _ _; subst this; exact Nat.one_pos⟩)

/-- A one-entry buffer has one index. -/
theorem word_eq (x : Vec F S1 .f32) (j : S1.Idx) : word x = x j := by
  unfold word; congr 1; funext a
  have ha : a = 0 := Subsingleton.elim _ _
  subst ha; exact Fin.ext (by have := (j 0).isLt; change _ < 1 at this; change 0 = (j 0).val; omega)

/-- What the body stores, of what its five input buffers hold: the scale, the codes, the weights, the weights' scales,
    the residual. -/
def stored (x0 : Vec F S1 .f32) (x1 : Vec F S864x4096 .fp8e4m3) (x2 : Vec F S4096x1024 .fp8e4m3) (x3 : Vec F S1x1024 .f32) (x4 : Vec F S864x1024 .f32) :
    Vec F S864x1024 .bf16 :=
  k0_pay1 x4 x1 x2 (word x0) x3

set_option maxHeartbeats 1000000 in
/-- The body on whole staging buffers: the inputs end as they were, the output holds `stored` of the inputs. -/
theorem sound_kernel (c : Dev nD) (E : Set ℕ) (i : grid0.Coords) (arg2 : Memref sig .tc .smem S1 .f32) (harg2 : arg2.IsWhole) (arg3 : Memref sig .tc .vmem S864x4096 .fp8e4m3) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S864x1024 .f32) (harg6 : arg6.IsWhole) (arg7 : Memref sig .tc .vmem S864x1024 .bf16) (harg7 : arg7.IsWhole)
    (x0 : Vec F S1 .f32) (x1 : Vec F S864x4096 .fp8e4m3) (x2 : Vec F S4096x1024 .fp8e4m3) (x3 : Vec F S1x1024 .f32) (x4 : Vec F S864x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (stored x0 x1 x2 x3 x4)) -∗ K ⟨⟩))
      ⊢ wp frame (wpE (defs₀ (F := F)) Variants.none c none) E (cc0_down i arg2 harg2 arg3 harg3 arg4 harg4 arg5 harg5 arg6 harg6 arg7 harg7) K := by
  simp only [cc0_down_eq_skeleton]; unfold cc0_down_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  unfold sound_kernel.sl.r
  rw [View.read_writes_eq_canon _ _ _ (fun y => ⟨_, List.mem_singleton_self _, View.mem_set_unit_zero zeros2 inb_S864x1024_S864x1024_0_0 y⟩),
    View.canon_unit_zero zeros2]
  rw [View.readAt_eq_ld, View.ld_unit_zero zeros2, View.readAt_eq_ld, View.ld_unit_zero zeros2, View.readAt_eq_ld, View.ld_unit_zero zeros2,
    View.readAt_eq_ld, View.ld_unit_zero zeros1, View.readAt_eq_ld, View.ld_unit_zero zeros2]
  unfold stored
  rw [word_eq _ (Shape.Idx.first (by decide))]

/-! ## The proof data -/

variable (m : (ℓ : Loc nD τ sig) → Buf (Elt F) ℓ) (ρ : Dev nD → PrngReg)

/-- The tile of codes at point `t`: the array's rows where there are any, the zero word past the array's end. -/
def utile (c : Dev nD) (t : Fin cfg0.N) : Vec F S864x4096 .fp8e4m3 :=
  win0_1.fill (grid0.coords t) (fun _ => Scalar.ofBits .fp8e4m3 0#8) (iblk m c 1 t)

/-- The tile of the residual at point `t`, likewise. -/
def htile (c : Dev nD) (t : Fin cfg0.N) : Vec F S864x1024 .f32 :=
  win0_4.fill (grid0.coords t) (fun _ => Scalar.ofBits .f32 0#32) (iblk m c 4 t)

/-- What the body leaves in the output tile at point `t` (on the rows inside the array). -/
def otile (c : Dev nD) (t : Fin cfg0.N) : Vec F S864x1024 .bf16 :=
  stored (iblk m c 0 t) (utile m c t) (iblk m c 2 t) (iblk m c 3 t) (htile m c t)

/-- The proof data: the arrays as the region finds them; after the body each input buffer at its block, the output
    buffer at `otile`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => utile m c t
    | ⟨2, _⟩ => iblk m c 2 t
    | ⟨3, _⟩ => iblk m c 3 t
    | ⟨4, _⟩ => htile m c t
    | ⟨5, _⟩ => otile m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = utile m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = htile m c t := by dsimp only [dats]
theorem after0_5 (c : Dev nD) (t : Fin cfg0.N) : (dats m 0 c).after 5 t = otile m c t := by dsimp only [dats]

theorem before0_0 (c : Dev nD) (t : Fin cfg0.N) (d) : (dats m 0 c).before 0 t d = iblk m c 0 t :=
  before0_0_of m (dats m 0 c) (A_eq m c 0) (after0_0 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Where the tile of codes is cut depends on the block index alone. -/
theorem clip0_1 (t t' : Fin cfg0.N) (h : (cfg0.win 1).index t = (cfg0.win 1).index t') :
    (cfg0.win 1).clip (cfg0.grid.coords t) = (cfg0.win 1).clip (cfg0.grid.coords t') := by
  funext a
  change Pipeline.Clip.of (win0_1.index t a) _ _ = Pipeline.Clip.of (win0_1.index t' a) _ _
  have ha : win0_1.index t a = win0_1.index t' a := congrFun h a
  rw [ha]

/-- The part of `utile` inside the array is the block. -/
theorem cut_utile (c : Dev nD) (t : Fin cfg0.N) : win0_1.cut (grid0.coords t) (utile m c t) = iblk m c 1 t :=
  win0_1.cut_fill _ _ _

/-- The buffer of the tile of codes holds the block on the rows inside the array, anything past the array's end. -/
theorem before0_1 (c : Dev nD) (t : Fin cfg0.N) (d) :
    (dats m 0 c).before 1 t d = win0_1.fill (grid0.coords t) d (iblk m c 1 t) := by
  refine ((dats m 0 c).before_in_eq_fetched 1 rfl (fun _ => rfl) clip0_1 (fun t => ?_) t d).trans ?_
  · rw [after0_1]; unfold utile Dat.blockOf iblk; rw [A_eq]; exact win0_1.cut_fill _ _ _
  · unfold Dat.fetched Dat.blockOf iblk; rw [A_eq]

/-- Where the tile of the residual is cut depends on the block index alone. -/
theorem clip0_4 (t t' : Fin cfg0.N) (h : (cfg0.win 4).index t = (cfg0.win 4).index t') :
    (cfg0.win 4).clip (cfg0.grid.coords t) = (cfg0.win 4).clip (cfg0.grid.coords t') := by
  funext a
  change Pipeline.Clip.of (win0_4.index t a) _ _ = Pipeline.Clip.of (win0_4.index t' a) _ _
  have ha : win0_4.index t a = win0_4.index t' a := congrFun h a
  rw [ha]

/-- The part of `htile` inside the array is the block. -/
theorem cut_htile (c : Dev nD) (t : Fin cfg0.N) : win0_4.cut (grid0.coords t) (htile m c t) = iblk m c 4 t :=
  win0_4.cut_fill _ _ _

/-- The buffer of the tile of the residual holds the block on the rows inside the array, anything past the array's end. -/
theorem before0_4 (c : Dev nD) (t : Fin cfg0.N) (d) :
    (dats m 0 c).before 4 t d = win0_4.fill (grid0.coords t) d (iblk m c 4 t) := by
  refine ((dats m 0 c).before_in_eq_fetched 4 rfl (fun _ => rfl) clip0_4 (fun t => ?_) t d).trans ?_
  · rw [after0_4]; unfold htile Dat.blockOf iblk; rw [A_eq]; exact win0_4.cut_fill _ _ _
  · unfold Dat.fetched Dat.blockOf iblk; rw [A_eq]

/-! ## The frame: what the output holds is left unsaid -/

/-- The windows whose contents the frame does not name: the output's. -/
def fgt : Fin cfg0.W → Bool := fun w => match w with
  | 0 => false | 1 => false | 2 => false | 3 => false | 4 => false | 5 => true
  | ⟨_ + 6, h⟩ => absurd h (Nat.not_lt.2 (Nat.le_add_left _ _))

theorem defs₀_row (t : Fin cfg0.N) :
    defs₀ (F := F) .tc cfg0.body (cfg0.bodyArgs t (cfg0.slots t)) = bodyAt0 t := by
  unfold defs₀; rw [Defs.onTc_tc]

theorem body_obligation_fgt (c : Dev nD) :
    BodyObligationLoose (dats (F := F) m 0 c) (defs₀ (F := F)) Variants.none () Set.univ fgt := fun t => by
  rw [bigSep_W0, bigSep_W0, defs₀_row]
  simp only [fgt]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, H5⟩
  rw [before0_0 m c t d0, before0_1 m c t d1, before0_2 m c t d2, before0_3 m c t d3, before0_4 m c t d4]
  iapply (sound_kernel c Set.univ _ _ _ _ _ _ _ _ _ _ _ _ _ (iblk m c 0 t) (win0_1.fill (grid0.coords t) d1 (iblk m c 1 t)) (iblk m c 2 t) (iblk m c 3 t) (win0_4.fill (grid0.coords t) d4 (iblk m c 4 t)) _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]; · iexact H0
  isplitl [H1]
  · iexists d1
    change _ ⊢ owns (c : Thread nD τ) (stage0_1 (cfg0.slots t 1)) fullShare (win0_1.fill (grid0.coords t) d1 (win0_1.cut (grid0.coords t) ((dats m 0 c).after 1 t)))
    rw [after0_1, cut_utile]
  isplitl [H2]; · iexact H2
  isplitl [H3]; · iexact H3
  isplitl [H4]
  · iexists d4
    change _ ⊢ owns (c : Thread nD τ) (stage0_4 (cfg0.slots t 4)) fullShare (win0_4.fill (grid0.coords t) d4 (win0_4.cut (grid0.coords t) ((dats m 0 c).after 4 t)))
    rw [after0_4, cut_htile]
  iexists _; iexact H5

set_option backward.isDefEq.respectTransparency.types false in
set_option maxHeartbeats 800000 in
/-- The launch, the output's contents left unsaid, every semaphore counter at zero at the end. -/
theorem run_fgt : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := body_obligation_fgt m) (hshare := fun c => (dats m 0 c).share_full fun _ => rfl)
    (howed := fun _ _ => rfl) (V := V m) (hmain := hmain m Variants.none) (hA := A_eq m) (hΦ := fun _ _ => rfl)

/-- THE FRAME: the kernel terminates, its arguments end unchanged, every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨(h.1.arr_in c 1 rfl).trans ((A_eq m c 1).trans (V_main_arg0 m c)),
     (h.1.arr_in c 2 rfl).trans ((A_eq m c 2).trans (V_main_arg1 m c)),
     ((h.1 c).2 main_arg2 (Pipeline.mem_restRefs_of main_arg2 (by decide) (by decide))).trans (V_main_arg2 m c),
     (h.1.arr_in c 0 rfl).trans ((A_eq m c 0).trans (V_main_arg3 m c)),
     (h.1.arr_in c 4 rfl).trans ((A_eq m c 4).trans (V_main_arg4 m c))⟩, h.2⟩) (run_fgt m ρ)

end Cert.Down.Body

end
-- ==== Proof.DownIdealBody.lean ====
/-
  The body of `DownIdeal` (the down projection), on any staging buffers, at any float reading.

  One grid point of `DownIdeal` multiplies an 864-row tile of the codes by a 1024-column tile of the weights, scales the
  product and adds the tile of the residual. The last row tiles of the codes, the residual and the output reach past
  row 5168; what the staging buffers hold there is arbitrary, and `sound_kernel` is stated for any contents.
-/
module

public import proofs.«01_k».proof.Proof.Gen.DownIdeal.Frame
public import proofs.«01_k».proof.Proof.Gen.DownIdeal.Points
public import proofs.«01_k».proof.Proof.Gen.DownIdeal.Skeleton
public import Idealize.ShloMosaic.Lib.Pipeline.Value

@[expose] public section

set_option maxRecDepth 16384

noncomputable section

namespace Cert.DownIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.DownIdeal.Gen

variable {F : FTy → Type} [FloatOps F]

local notation "𝕄" => MT nD τ sig Unit (Elt F) ℕ (UR sig nD τ) ℕ

/-- A rank-2 zero offset. -/
theorem zeros2 : (![0, 0] : Fin 2 → ℕ) = fun _ => 0 := by funext a; fin_cases a <;> rfl

theorem zeros1 : (![0] : Fin 1 → ℕ) = fun _ => 0 := by funext a; fin_cases a; rfl

/-- The one entry of a one-entry buffer. -/
def word (x : Vec F S1 .f32) : Elt F .f32 := x (fun a => ⟨0, by have : a = 0 := Subsingleton.elim _ _; subst this; exact Nat.one_pos⟩)

/-- A one-entry buffer has one index. -/
theorem word_eq (x : Vec F S1 .f32) (j : S1.Idx) : word x = x j := by
  unfold word; congr 1; funext a
  have ha : a = 0 := Subsingleton.elim _ _
  subst ha; exact Fin.ext (by have := (j 0).isLt; change _ < 1 at this; change 0 = (j 0).val; omega)

/-- What the body stores, of what its five input buffers hold: the scale, the codes, the weights, the weights' scales,
    the residual. -/
def stored (x0 : Vec F S1 .f32) (x1 : Vec F S864x4096 .fp8e4m3) (x2 : Vec F S4096x1024 .fp8e4m3) (x3 : Vec F S1x1024 .f32) (x4 : Vec F S864x1024 .f32) :
    Vec F S864x1024 .bf16 :=
  k0_pay1 x4 x1 x2 (word x0) x3

set_option maxHeartbeats 1000000 in
/-- The body on whole staging buffers: the inputs end as they were, the output holds `stored` of the inputs. -/
theorem sound_kernel (c : Dev nD) (E : Set ℕ) (i : grid0.Coords) (arg2 : Memref sig .tc .smem S1 .f32) (harg2 : arg2.IsWhole) (arg3 : Memref sig .tc .vmem S864x4096 .fp8e4m3) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S864x1024 .f32) (harg6 : arg6.IsWhole) (arg7 : Memref sig .tc .vmem S864x1024 .bf16) (harg7 : arg7.IsWhole)
    (x0 : Vec F S1 .f32) (x1 : Vec F S864x4096 .fp8e4m3) (x2 : Vec F S4096x1024 .fp8e4m3) (x3 : Vec F S1x1024 .f32) (x4 : Vec F S864x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (stored x0 x1 x2 x3 x4)) -∗ K ⟨⟩))
      ⊢ wp frame (wpE (defs₀ (F := F)) Variants.none c none) E (cc0_down i arg2 harg2 arg3 harg3 arg4 harg4 arg5 harg5 arg6 harg6 arg7 harg7) K := by
  simp only [cc0_down_eq_skeleton]; unfold cc0_down_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  unfold sound_kernel.sl.r
  rw [View.read_writes_eq_canon _ _ _ (fun y => ⟨_, List.mem_singleton_self _, View.mem_set_unit_zero zeros2 inb_S864x1024_S864x1024_0_0 y⟩),
    View.canon_unit_zero zeros2]
  rw [View.readAt_eq_ld, View.ld_unit_zero zeros2, View.readAt_eq_ld, View.ld_unit_zero zeros2, View.readAt_eq_ld, View.ld_unit_zero zeros2,
    View.readAt_eq_ld, View.ld_unit_zero zeros1, View.readAt_eq_ld, View.ld_unit_zero zeros2]
  unfold stored
  rw [word_eq _ (Shape.Idx.first (by decide))]

/-! ## The proof data -/

variable (m : (ℓ : Loc nD τ sig) → Buf (Elt F) ℓ) (ρ : Dev nD → PrngReg)

/-- The tile of codes at point `t`: the array's rows where there are any, the zero word past the array's end. -/
def utile (c : Dev nD) (t : Fin cfg0.N) : Vec F S864x4096 .fp8e4m3 :=
  win0_1.fill (grid0.coords t) (fun _ => Scalar.ofBits .fp8e4m3 0#8) (iblk m c 1 t)

/-- The tile of the residual at point `t`, likewise. -/
def htile (c : Dev nD) (t : Fin cfg0.N) : Vec F S864x1024 .f32 :=
  win0_4.fill (grid0.coords t) (fun _ => Scalar.ofBits .f32 0#32) (iblk m c 4 t)

/-- What the body leaves in the output tile at point `t` (on the rows inside the array). -/
def otile (c : Dev nD) (t : Fin cfg0.N) : Vec F S864x1024 .bf16 :=
  stored (iblk m c 0 t) (utile m c t) (iblk m c 2 t) (iblk m c 3 t) (htile m c t)

/-- The proof data: the arrays as the region finds them; after the body each input buffer at its block, the output
    buffer at `otile`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => utile m c t
    | ⟨2, _⟩ => iblk m c 2 t
    | ⟨3, _⟩ => iblk m c 3 t
    | ⟨4, _⟩ => htile m c t
    | ⟨5, _⟩ => otile m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = utile m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = htile m c t := by dsimp only [dats]
theorem after0_5 (c : Dev nD) (t : Fin cfg0.N) : (dats m 0 c).after 5 t = otile m c t := by dsimp only [dats]

theorem before0_0 (c : Dev nD) (t : Fin cfg0.N) (d) : (dats m 0 c).before 0 t d = iblk m c 0 t :=
  before0_0_of m (dats m 0 c) (A_eq m c 0) (after0_0 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Where the tile of codes is cut depends on the block index alone. -/
theorem clip0_1 (t t' : Fin cfg0.N) (h : (cfg0.win 1).index t = (cfg0.win 1).index t') :
    (cfg0.win 1).clip (cfg0.grid.coords t) = (cfg0.win 1).clip (cfg0.grid.coords t') := by
  funext a
  change Pipeline.Clip.of (win0_1.index t a) _ _ = Pipeline.Clip.of (win0_1.index t' a) _ _
  have ha : win0_1.index t a = win0_1.index t' a := congrFun h a
  rw [ha]

/-- The part of `utile` inside the array is the block. -/
theorem cut_utile (c : Dev nD) (t : Fin cfg0.N) : win0_1.cut (grid0.coords t) (utile m c t) = iblk m c 1 t :=
  win0_1.cut_fill _ _ _

/-- The buffer of the tile of codes holds the block on the rows inside the array, anything past the array's end. -/
theorem before0_1 (c : Dev nD) (t : Fin cfg0.N) (d) :
    (dats m 0 c).before 1 t d = win0_1.fill (grid0.coords t) d (iblk m c 1 t) := by
  refine ((dats m 0 c).before_in_eq_fetched 1 rfl (fun _ => rfl) clip0_1 (fun t => ?_) t d).trans ?_
  · rw [after0_1]; unfold utile Dat.blockOf iblk; rw [A_eq]; exact win0_1.cut_fill _ _ _
  · unfold Dat.fetched Dat.blockOf iblk; rw [A_eq]

/-- Where the tile of the residual is cut depends on the block index alone. -/
theorem clip0_4 (t t' : Fin cfg0.N) (h : (cfg0.win 4).index t = (cfg0.win 4).index t') :
    (cfg0.win 4).clip (cfg0.grid.coords t) = (cfg0.win 4).clip (cfg0.grid.coords t') := by
  funext a
  change Pipeline.Clip.of (win0_4.index t a) _ _ = Pipeline.Clip.of (win0_4.index t' a) _ _
  have ha : win0_4.index t a = win0_4.index t' a := congrFun h a
  rw [ha]

/-- The part of `htile` inside the array is the block. -/
theorem cut_htile (c : Dev nD) (t : Fin cfg0.N) : win0_4.cut (grid0.coords t) (htile m c t) = iblk m c 4 t :=
  win0_4.cut_fill _ _ _

/-- The buffer of the tile of the residual holds the block on the rows inside the array, anything past the array's end. -/
theorem before0_4 (c : Dev nD) (t : Fin cfg0.N) (d) :
    (dats m 0 c).before 4 t d = win0_4.fill (grid0.coords t) d (iblk m c 4 t) := by
  refine ((dats m 0 c).before_in_eq_fetched 4 rfl (fun _ => rfl) clip0_4 (fun t => ?_) t d).trans ?_
  · rw [after0_4]; unfold htile Dat.blockOf iblk; rw [A_eq]; exact win0_4.cut_fill _ _ _
  · unfold Dat.fetched Dat.blockOf iblk; rw [A_eq]

/-! ## The frame: what the output holds is left unsaid -/

/-- The windows whose contents the frame does not name: the output's. -/
def fgt : Fin cfg0.W → Bool := fun w => match w with
  | 0 => false | 1 => false | 2 => false | 3 => false | 4 => false | 5 => true
  | ⟨_ + 6, h⟩ => absurd h (Nat.not_lt.2 (Nat.le_add_left _ _))

theorem defs₀_row (t : Fin cfg0.N) :
    defs₀ (F := F) .tc cfg0.body (cfg0.bodyArgs t (cfg0.slots t)) = bodyAt0 t := by
  unfold defs₀; rw [Defs.onTc_tc]

theorem body_obligation_fgt (c : Dev nD) :
    BodyObligationLoose (dats (F := F) m 0 c) (defs₀ (F := F)) Variants.none () Set.univ fgt := fun t => by
  rw [bigSep_W0, bigSep_W0, defs₀_row]
  simp only [fgt]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, H5⟩
  rw [before0_0 m c t d0, before0_1 m c t d1, before0_2 m c t d2, before0_3 m c t d3, before0_4 m c t d4]
  iapply (sound_kernel c Set.univ _ _ _ _ _ _ _ _ _ _ _ _ _ (iblk m c 0 t) (win0_1.fill (grid0.coords t) d1 (iblk m c 1 t)) (iblk m c 2 t) (iblk m c 3 t) (win0_4.fill (grid0.coords t) d4 (iblk m c 4 t)) _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]; · iexact H0
  isplitl [H1]
  · iexists d1
    change _ ⊢ owns (c : Thread nD τ) (stage0_1 (cfg0.slots t 1)) fullShare (win0_1.fill (grid0.coords t) d1 (win0_1.cut (grid0.coords t) ((dats m 0 c).after 1 t)))
    rw [after0_1, cut_utile]
  isplitl [H2]; · iexact H2
  isplitl [H3]; · iexact H3
  isplitl [H4]
  · iexists d4
    change _ ⊢ owns (c : Thread nD τ) (stage0_4 (cfg0.slots t 4)) fullShare (win0_4.fill (grid0.coords t) d4 (win0_4.cut (grid0.coords t) ((dats m 0 c).after 4 t)))
    rw [after0_4, cut_htile]
  iexists _; iexact H5

set_option backward.isDefEq.respectTransparency.types false in
set_option maxHeartbeats 800000 in
/-- The launch, the output's contents left unsaid, every semaphore counter at zero at the end. -/
theorem run_fgt : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := body_obligation_fgt m) (hshare := fun c => (dats m 0 c).share_full fun _ => rfl)
    (howed := fun _ _ => rfl) (V := V m) (hmain := hmain m Variants.none) (hA := A_eq m) (hΦ := fun _ _ => rfl)

/-- THE FRAME: the kernel terminates, its arguments end unchanged, every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨(h.1.arr_in c 1 rfl).trans ((A_eq m c 1).trans (V_main_arg0 m c)),
     (h.1.arr_in c 2 rfl).trans ((A_eq m c 2).trans (V_main_arg1 m c)),
     ((h.1 c).2 main_arg2 (Pipeline.mem_restRefs_of main_arg2 (by decide) (by decide))).trans (V_main_arg2 m c),
     (h.1.arr_in c 0 rfl).trans ((A_eq m c 0).trans (V_main_arg3 m c)),
     (h.1.arr_in c 4 rfl).trans ((A_eq m c 4).trans (V_main_arg4 m c))⟩, h.2⟩) (run_fgt m ρ)

end Cert.DownIdeal.Body

end
-- ==== Proof.DownValue.lean ====
/-
  `Down` over the reals computes its reference: at every point the output tile, on its rows inside the array, is the
  reference's result read through the tile (`cut_stored`); the tiles cover the array (`covered`); so the array ends
  holding the reference's result (`final`).
-/
module

public import proofs.«01_k».proof.Defs
public import proofs.«01_k».proof.Proof.DownIdealBody
public import proofs.«01_k».proof.Proof.Gen.DownRefIdeal.Value
public import Idealize.ShloMosaic.Lib.Pointwise
public import Idealize.ShloMosaic.Lib.StableHlo.ReadAt

@[expose] public section

set_option maxRecDepth 16384

noncomputable section

namespace Cert.DownIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.DownIdeal.Gen

/-! ## One element of a tile and of the reference's result -/

/-- One element of the down projection: row `x` of the codes against column `w` of the weights, scaled by `s` and the
    column's scale `sc`, added to the residual `h`. -/
def elem (h : EReal) (x w : Fin 4096 → EReal) (s sc : EReal) : EReal := h + (∑ k, x k * w k) * s * sc

theorem stored_apply (x0 : Vec Ideal S1 .f32) (x1 : Vec Ideal S864x4096 .fp8e4m3) (x2 : Vec Ideal S4096x1024 .fp8e4m3)
    (x3 : Vec Ideal S1x1024 .f32) (x4 : Vec Ideal S864x1024 .f32) (r : Fin 864) (q : Fin 1024) :
    stored x0 x1 x2 x3 x4 (ix2 r q)
      = elem (x4 (ix2 r q)) (fun k => x1 (ix2 r k)) (fun k => x2 (ix2 k q)) (x0 (ix1 0)) (x3 (ix2 0 q)) := by
  pointwise [stored, k0_pay1, elem]
  rw [word_eq x0 (ix1 0)]

theorem G5_apply (a0 : Vec Ideal Cert.DownRefIdeal.S5168x4096 .fp8e4m3) (a1 : Vec Ideal Cert.DownRefIdeal.S4096x8192 .fp8e4m3)
    (a2 : Vec Ideal Cert.DownRefIdeal.S8192 .f32) (a3 : Vec Ideal Cert.DownRefIdeal.S1 .f32)
    (a4 : Vec Ideal Cert.DownRefIdeal.S5168x8192 .f32) (r : Fin 5168) (q : Fin 8192) :
    Cert.DownRefIdeal.Value.G5 a0 a1 a2 a3 a4 (ix2 r q)
      = elem (a4 (ix2 r q)) (fun k => a0 (ix2 r k)) (fun k => a1 (ix2 k q)) (a3 (ix1 0)) (a2 (ix1 q)) := by
  pointwise [Cert.DownRefIdeal.Value.G5, Cert.DownRefIdeal.Gen.k0_pay1, elem]

/-! ## Where the tiles lie -/

/-- The block indices and the rows inside the array, at every point. -/
theorem index0 : ∀ t : Fin cfg0.N, win0_0.index t (0 : Fin 1) = 0 := (by decide +kernel : ∀ t : Fin grid0.N, _)
theorem index1 : ∀ t : Fin cfg0.N, win0_1.index t (0 : Fin 2) = t.val / 8 ∧ win0_1.index t (1 : Fin 2) = 0 :=
  (by decide +kernel : ∀ t : Fin grid0.N, _)
theorem index2 : ∀ t : Fin cfg0.N, win0_2.index t (0 : Fin 2) = 0 ∧ win0_2.index t (1 : Fin 2) = t.val % 8 :=
  (by decide +kernel : ∀ t : Fin grid0.N, _)
theorem index3 : ∀ t : Fin cfg0.N, win0_3.index t (0 : Fin 2) = 0 ∧ win0_3.index t (1 : Fin 2) = t.val % 8 :=
  (by decide +kernel : ∀ t : Fin grid0.N, _)
theorem index4 : ∀ t : Fin cfg0.N, win0_4.index t (0 : Fin 2) = t.val / 8 ∧ win0_4.index t (1 : Fin 2) = t.val % 8 :=
  (by decide +kernel : ∀ t : Fin grid0.N, _)
theorem index5 : ∀ t : Fin cfg0.N, win0_5.index t (0 : Fin 2) = t.val / 8 ∧ win0_5.index t (1 : Fin 2) = t.val % 8 :=
  (by decide +kernel : ∀ t : Fin grid0.N, _)
/-- Rows inside the array: the codes', the residual's and the output's tiles are cut alike. -/
theorem rows1 : ∀ t : Fin cfg0.N, win0_1.xsize (grid0.coords t) (0 : Fin 2) = min 864 (5168 - 864 * (t.val / 8))
    ∧ win0_1.xsize (grid0.coords t) (1 : Fin 2) = 4096 := (by decide +kernel : ∀ t : Fin grid0.N, _)
theorem rows4 : ∀ t : Fin cfg0.N, win0_4.xsize (grid0.coords t) (0 : Fin 2) = min 864 (5168 - 864 * (t.val / 8))
    ∧ win0_4.xsize (grid0.coords t) (1 : Fin 2) = 1024 := (by decide +kernel : ∀ t : Fin grid0.N, _)
theorem rows5 : ∀ t : Fin cfg0.N, win0_5.xsize (grid0.coords t) (0 : Fin 2) = min 864 (5168 - 864 * (t.val / 8))
    ∧ win0_5.xsize (grid0.coords t) (1 : Fin 2) = 1024 := (by decide +kernel : ∀ t : Fin grid0.N, _)

variable (m : (ℓ : Loc nD τ sig) → Buf (Elt Ideal) ℓ) (ρ : Dev nD → PrngReg)

/-- The row of scales as the host lays it out: the argument's entries. -/
theorem V_main_v0 (c : Dev nD) (q : Fin 8192) : V m c main_v0 (ix2 0 q) = m ((c : Thread nD τ).loc main_arg2) (ix1 q) := by
  unfold V
  after_reads_at

theorem iblk0_at (c : Dev nD) (t : Fin cfg0.N) : iblk m c 0 t (ix1 0) = m ((c : Thread nD τ).loc main_arg3) (ix1 0) := by
  rw [← V_main_arg3 m c]
  show V m c main_arg3 (((cfg0.win 0).blk t).view.emb (ix1 0)) = _
  congr 1; funext a; apply Fin.ext
  match a with
  | ⟨0, _⟩ => show win0_0.index t (0 : Fin 1) * 1 + 1 * 0 = 0; rw [index0 t]

theorem fill1_at (c : Dev nD) (t : Fin cfg0.N) (d : Vec Ideal S864x4096 .fp8e4m3) (r : Fin 864) (k : Fin 4096)
    (h : 864 * (t.val / 8) + r.val < 5168) :
    win0_1.fill (grid0.coords t) d (iblk m c 1 t) (ix2 r k) = m ((c : Thread nD τ).loc main_arg0) (ix2 ⟨864 * (t.val / 8) + r.val, h⟩ k) := by
  have hm : win0_1.moved (grid0.coords t) (ix2 r k) = true := (win0_1.moved_iff _ _).mpr fun a => by
    match a with
    | ⟨0, _⟩ => show r.val < win0_1.xsize (grid0.coords t) (0 : Fin 2); rw [(rows1 t).1]; have := r.isLt; omega
    | ⟨1, _⟩ => show k.val < win0_1.xsize (grid0.coords t) (1 : Fin 2); rw [(rows1 t).2]; exact k.isLt
  unfold Window.fill
  rw [dif_pos hm, ← V_main_arg0 m c]
  show V m c main_arg0 (((cfg0.win 1).blk t).view.emb _) = _
  congr 1; funext a; apply Fin.ext
  match a with
  | ⟨0, _⟩ => show win0_1.index t (0 : Fin 2) * 864 + 1 * r.val = 864 * (t.val / 8) + r.val; rw [(index1 t).1]; omega
  | ⟨1, _⟩ => show win0_1.index t (1 : Fin 2) * 4096 + 1 * k.val = k.val; rw [(index1 t).2]; omega

theorem iblk2_at (c : Dev nD) (t : Fin cfg0.N) (k : Fin 4096) (q : Fin 1024) (h : 1024 * (t.val % 8) + q.val < 8192) :
    iblk m c 2 t (ix2 k q) = m ((c : Thread nD τ).loc main_arg1) (ix2 k ⟨1024 * (t.val % 8) + q.val, h⟩) := by
  rw [← V_main_arg1 m c]
  show V m c main_arg1 (((cfg0.win 2).blk t).view.emb _) = _
  congr 1; funext a; apply Fin.ext
  match a with
  | ⟨0, _⟩ => show win0_2.index t (0 : Fin 2) * 4096 + 1 * k.val = k.val; rw [(index2 t).1]; omega
  | ⟨1, _⟩ => show win0_2.index t (1 : Fin 2) * 1024 + 1 * q.val = 1024 * (t.val % 8) + q.val; rw [(index2 t).2]; omega

theorem iblk3_at (c : Dev nD) (t : Fin cfg0.N) (q : Fin 1024) (h : 1024 * (t.val % 8) + q.val < 8192) :
    iblk m c 3 t (ix2 0 q) = m ((c : Thread nD τ).loc main_arg2) (ix1 ⟨1024 * (t.val % 8) + q.val, h⟩) := by
  rw [← V_main_v0 m c]
  show V m c main_v0 (((cfg0.win 3).blk t).view.emb _) = _
  congr 1; funext a; apply Fin.ext
  match a with
  | ⟨0, _⟩ => show win0_3.index t (0 : Fin 2) * 1 + 1 * 0 = 0; rw [(index3 t).1]
  | ⟨1, _⟩ => show win0_3.index t (1 : Fin 2) * 1024 + 1 * q.val = 1024 * (t.val % 8) + q.val; rw [(index3 t).2]; omega

theorem fill4_at (c : Dev nD) (t : Fin cfg0.N) (d : Vec Ideal S864x1024 .f32) (r : Fin 864) (q : Fin 1024)
    (h : 864 * (t.val / 8) + r.val < 5168) (hq : 1024 * (t.val % 8) + q.val < 8192) :
    win0_4.fill (grid0.coords t) d (iblk m c 4 t) (ix2 r q)
      = m ((c : Thread nD τ).loc main_arg4) (ix2 ⟨864 * (t.val / 8) + r.val, h⟩ ⟨1024 * (t.val % 8) + q.val, hq⟩) := by
  have hm : win0_4.moved (grid0.coords t) (ix2 r q) = true := (win0_4.moved_iff _ _).mpr fun a => by
    match a with
    | ⟨0, _⟩ => show r.val < win0_4.xsize (grid0.coords t) (0 : Fin 2); rw [(rows4 t).1]; have := r.isLt; omega
    | ⟨1, _⟩ => show q.val < win0_4.xsize (grid0.coords t) (1 : Fin 2); rw [(rows4 t).2]; exact q.isLt
  unfold Window.fill
  rw [dif_pos hm, ← V_main_arg4 m c]
  show V m c main_arg4 (((cfg0.win 4).blk t).view.emb _) = _
  congr 1; funext a; apply Fin.ext
  match a with
  | ⟨0, _⟩ => show win0_4.index t (0 : Fin 2) * 864 + 1 * r.val = 864 * (t.val / 8) + r.val; rw [(index4 t).1]; omega
  | ⟨1, _⟩ => show win0_4.index t (1 : Fin 2) * 1024 + 1 * q.val = 1024 * (t.val % 8) + q.val; rw [(index4 t).2]; omega

/-! ## The output tile is the reference's result through the tile -/

/-- The reference's result from the kernel's arguments. -/
abbrev G (c : Dev nD) : Vec Ideal S5168x8192 .bf16 :=
  Cert.DownRefIdeal.Value.G5 (m ((c : Thread nD τ).loc main_arg0)) (m ((c : Thread nD τ).loc main_arg1))
    (m ((c : Thread nD τ).loc main_arg2)) (m ((c : Thread nD τ).loc main_arg3)) (m ((c : Thread nD τ).loc main_arg4))

theorem stored_at (c : Dev nD) (t : Fin cfg0.N) (d : Vec Ideal S864x4096 .fp8e4m3) (e : Vec Ideal S864x1024 .f32) (r : Fin 864) (q : Fin 1024)
    (h : 864 * (t.val / 8) + r.val < 5168) (hq : 1024 * (t.val % 8) + q.val < 8192) :
    stored (iblk m c 0 t) (win0_1.fill (grid0.coords t) d (iblk m c 1 t)) (iblk m c 2 t) (iblk m c 3 t) (win0_4.fill (grid0.coords t) e (iblk m c 4 t)) (ix2 r q)
      = G m c (ix2 ⟨864 * (t.val / 8) + r.val, h⟩ ⟨1024 * (t.val % 8) + q.val, hq⟩) := by
  refine (stored_apply _ _ _ _ _ r q).trans ((?_ : _ = _).trans (G5_apply _ _ _ _ _ _ _).symm)
  rw [iblk0_at, iblk3_at m c t q hq, fill4_at m c t e r q h hq]
  simp only [fill1_at m c t d r _ h, iblk2_at m c t _ q hq]

/-- Whatever the tiles of the codes and of the residual hold past the array's end, the output tile inside the array is the reference's result. -/
theorem cut_stored (c : Dev nD) (t : Fin cfg0.N) (d : Vec Ideal S864x4096 .fp8e4m3) (e : Vec Ideal S864x1024 .f32) :
    win0_5.cut (grid0.coords t)
        (stored (iblk m c 0 t) (win0_1.fill (grid0.coords t) d (iblk m c 1 t)) (iblk m c 2 t) (iblk m c 3 t) (win0_4.fill (grid0.coords t) e (iblk m c 4 t)))
      = (win0_5.blk t).view.read (Elt Ideal) (G m c) := by
  funext j
  have h0 : (j (0 : Fin 2)).val < win0_5.xsize (grid0.coords t) (0 : Fin 2) := (j (0 : Fin 2)).isLt
  have h1 : (j (1 : Fin 2)).val < win0_5.xsize (grid0.coords t) (1 : Fin 2) := (j (1 : Fin 2)).isLt
  rw [(rows5 t).1] at h0; rw [(rows5 t).2] at h1
  have hr : 864 * (t.val / 8) + (j (0 : Fin 2)).val < 5168 := by omega
  have hq : 1024 * (t.val % 8) + (j (1 : Fin 2)).val < 8192 := by omega
  refine Eq.trans (?_ : _ = _) ((stored_at m c t d e ⟨(j (0 : Fin 2)).val, by omega⟩ ⟨(j (1 : Fin 2)).val, h1⟩ hr hq).trans ?_)
  · show stored _ _ _ _ _ (win0_5.xinj (grid0.coords t) j) = _
    congr 1; funext a
    match a with
    | ⟨0, _⟩ => rfl
    | ⟨1, _⟩ => rfl
  · show G m c _ = G m c (((cfg0.win 5).blk t).view.emb j)
    congr 1; funext a; apply Fin.ext
    match a with
    | ⟨0, _⟩ =>
      show 864 * (t.val / 8) + (j (0 : Fin 2)).val = win0_5.index t (0 : Fin 2) * 864 + 1 * (j (0 : Fin 2)).val
      rw [(index5 t).1]; omega
    | ⟨1, _⟩ =>
      show 1024 * (t.val % 8) + (j (1 : Fin 2)).val = win0_5.index t (1 : Fin 2) * 1024 + 1 * (j (1 : Fin 2)).val
      rw [(index5 t).2]; omega

/-! ## The run -/

/-- What the body finds in the output buffer is nothing in particular. -/
theorem body_obligation (c : Dev nD) :
    BodyObligationLoose (dats (F := Ideal) m 0 c) (defs₀ (F := Ideal)) Variants.none () Set.univ := fun t => by
  rw [bigSep_W0, bigSep_W0, defs₀_row]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before0_0 m c t d0, before0_1 m c t d1, before0_2 m c t d2, before0_3 m c t d3, before0_4 m c t d4]
  iapply (sound_kernel c Set.univ _ _ _ _ _ _ _ _ _ _ _ _ _ (iblk m c 0 t) (win0_1.fill (grid0.coords t) d1 (iblk m c 1 t)) (iblk m c 2 t) (iblk m c 3 t) (win0_4.fill (grid0.coords t) d4 (iblk m c 4 t)) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]
  · iexists d1
    change _ ⊢ owns (c : Thread nD τ) (stage0_1 (cfg0.slots t 1)) fullShare (win0_1.fill (grid0.coords t) d1 (win0_1.cut (grid0.coords t) ((dats m 0 c).after 1 t)))
    rw [after0_1, cut_utile]
  isplitl [H2]; · iexact H2
  isplitl [H3]; · iexact H3
  isplitl [H4]
  · iexists d4
    change _ ⊢ owns (c : Thread nD τ) (stage0_4 (cfg0.slots t 4)) fullShare (win0_4.fill (grid0.coords t) d4 (win0_4.cut (grid0.coords t) ((dats m 0 c).after 4 t)))
    rw [after0_4, cut_htile]
  iexists _
  change _ ⊢ owns (c : Thread nD τ) (stage0_5 (cfg0.slots t 5)) fullShare (win0_5.fill (grid0.coords t) _ (win0_5.cut (grid0.coords t) ((dats m 0 c).after 5 t)))
  rw [after0_5, show win0_5.cut (grid0.coords t) (otile m c t) = _ from (cut_stored m c t _ _).trans (cut_stored m c t d1 d4).symm,
    win0_5.fill_cut]

set_option backward.isDefEq.respectTransparency.types false in
set_option maxHeartbeats 800000 in
theorem run_main : θ_run defs (onTc (τ := τ) (main (F := Ideal))) (s₀ m ρ) (Pipeline.FramePost cfgs (dats m) 0 (V m)) :=
  Pipeline.θ_run_frame (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

/-- The tiles cover the result. -/
theorem covered (i : S5168x8192.Idx) :
    ∃ t : Fin cfg0.N, (cfg0.win 5).flush t = true ∧ i ∈ ((cfg0.win 5).blk t).view.set := by
  have h0 : (i (0 : Fin 2)).val < 5168 := (i (0 : Fin 2)).isLt
  have h1 : (i (1 : Fin 2)).val < 8192 := (i (1 : Fin 2)).isLt
  have hN : (i (0 : Fin 2)).val / 864 * 8 + (i (1 : Fin 2)).val / 1024 < 48 := by omega
  refine ⟨(⟨(i (0 : Fin 2)).val / 864 * 8 + (i (1 : Fin 2)).val / 1024, hN⟩ : Fin cfg0.N), flush0_5 _, ?_⟩
  generalize ht : (⟨(i (0 : Fin 2)).val / 864 * 8 + (i (1 : Fin 2)).val / 1024, hN⟩ : Fin cfg0.N) = t
  have e : t.val = (i (0 : Fin 2)).val / 864 * 8 + (i (1 : Fin 2)).val / 1024 := by rw [← ht]
  show i ∈ ((View.whole main_v1).slice (win0_5.rect t)).set
  rw [View.set_slice_whole, Rect.mem_set_unit]
  intro a
  match a with
  | ⟨0, _⟩ =>
    show win0_5.index t (0 : Fin 2) * 864 ≤ (i (0 : Fin 2)).val ∧ (i (0 : Fin 2)).val < win0_5.index t (0 : Fin 2) * 864 + win0_5.xsize (grid0.coords t) (0 : Fin 2)
    rw [(index5 t).1, (rows5 t).1]; omega
  | ⟨1, _⟩ =>
    show win0_5.index t (1 : Fin 2) * 1024 ≤ (i (1 : Fin 2)).val ∧ (i (1 : Fin 2)).val < win0_5.index t (1 : Fin 2) * 1024 + win0_5.xsize (grid0.coords t) (1 : Fin 2)
    rw [(index5 t).2, (rows5 t).2]; omega

/-- THE RESULT: the array ends holding the reference's result. -/
theorem final (c : Dev nD) : (dats m 0 c).arrAt 5 cfg0.N = G m c :=
  (dats m 0 c).arrAt_eq_of_cover 5 (G m c) (fun t _ => by
    show win0_5.cut (grid0.coords t) ((dats m 0 c).after 5 t) = _
    rw [after0_5]; exact cut_stored m c t _ _) covered

/-- The kernel's run: the result is the reference's, the arguments are unchanged. -/
theorem run : θ_run defs (onTc (τ := τ) (main (F := Ideal))) ⟨m, fun _ => 0, ρ⟩ (fun r => ∀ c : Dev nD,
      r.2.mem ((c.tc : Thread nD τ).loc main_v1) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 5).trans (final m c), h.2 c⟩)
    (θ_run_and (run_main m ρ) (frame_of m ρ (dats m) (A_eq m) (run_main m ρ)))

/-- `Down` over the reals is its reference. -/
theorem algebraic : Cert.algebraic_DownIdeal_DownRefIdeal := by
  intro m g m' g' _ hm
  refine ⟨fun c => G m c, run m g, ?_⟩
  refine (θ_run Cert.DownRefIdeal.defs _ _).mono (fun r h c => ⟨(h c).1.trans ?_, (h c).2⟩) (Cert.DownRefIdeal.Value.run m' g')
  obtain ⟨e0, e1, e2, e3, e4⟩ := hm c
  rw [e0, e1, e2, e3, e4]

end Cert.DownIdeal.Body

end
-- ==== Proof.OutBody.lean ====
/-
  The body of `Out` (the output projection and the second norm), on any staging buffers, at any float reading.

  One grid point of `Out` takes a 192-row tile: for each of eight 1024-column slices it multiplies the gated codes by
  the slice of the weights, scales, adds the residual's slice, stores the sum, and adds the row sums of its squares to
  the running sum; then it divides the stored rows by their root mean square, scales and quantises them. The last tile
  reaches past row 5168; what the staging buffers hold there is arbitrary, and `sound_kernel` is stated for any contents.
-/
module

public import proofs.«01_k».proof.Proof.Gen.Out.Frame
public import proofs.«01_k».proof.Proof.Gen.Out.Points
public import proofs.«01_k».proof.Proof.Gen.Out.Skeleton
public import Idealize.ShloMosaic.Lib.Pipeline.Value

@[expose] public section

set_option maxRecDepth 16384

noncomputable section

namespace Cert.Out.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Out.Gen

variable {F : FTy → Type} [FloatOps F]

local notation "𝕄" => MT nD τ sig Unit (Elt F) ℕ (UR sig nD τ) ℕ

/-- A rank-2 zero offset. -/
theorem zeros2 : (![0, 0] : Fin 2 → ℕ) = fun _ => 0 := by funext a; fin_cases a <;> rfl

theorem zeros1 : (![0] : Fin 1 → ℕ) = fun _ => 0 := by funext a; fin_cases a; rfl

/-- The one entry of a one-entry buffer. -/
def word (x : Vec F S1 .f32) : Elt F .f32 := x (fun a => ⟨0, by have : a = 0 := Subsingleton.elim _ _; subst this; exact Nat.one_pos⟩)

/-- A one-entry buffer has one index. -/
theorem word_eq (x : Vec F S1 .f32) (j : S1.Idx) : word x = x j := by
  unfold word; congr 1; funext a
  have ha : a = 0 := Subsingleton.elim _ _
  subst ha; exact Fin.ext (by have := (j 0).isLt; change _ < 1 at this; change 0 = (j 0).val; omega)

/-! ## What the body stores -/

/-- Column slice 0 of a tile, of the weights, of the row of scales. -/
abbrev rx0 : Rect S192x8192 := Rect.unit (s := S192x8192) ![0, 0] S192x1024.size inb_S192x8192_S192x1024_0_0
abbrev rw0 : Rect S2048x8192 := Rect.unit (s := S2048x8192) ![0, 0] S2048x1024.size inb_S2048x8192_S2048x1024_0_0
abbrev rs0 : Rect S1x8192 := Rect.unit (s := S1x8192) ![0, 0] S1x1024.size inb_S1x8192_S1x1024_0_0
/-- Column slice 1 of a tile, of the weights, of the row of scales. -/
abbrev rx1 : Rect S192x8192 := Rect.unit (s := S192x8192) ![0, 1024] S192x1024.size inb_S192x8192_S192x1024_0_1024
abbrev rw1 : Rect S2048x8192 := Rect.unit (s := S2048x8192) ![0, 1024] S2048x1024.size inb_S2048x8192_S2048x1024_0_1024
abbrev rs1 : Rect S1x8192 := Rect.unit (s := S1x8192) ![0, 1024] S1x1024.size inb_S1x8192_S1x1024_0_1024
/-- Column slice 2 of a tile, of the weights, of the row of scales. -/
abbrev rx2 : Rect S192x8192 := Rect.unit (s := S192x8192) ![0, 2048] S192x1024.size inb_S192x8192_S192x1024_0_2048
abbrev rw2 : Rect S2048x8192 := Rect.unit (s := S2048x8192) ![0, 2048] S2048x1024.size inb_S2048x8192_S2048x1024_0_2048
abbrev rs2 : Rect S1x8192 := Rect.unit (s := S1x8192) ![0, 2048] S1x1024.size inb_S1x8192_S1x1024_0_2048
/-- Column slice 3 of a tile, of the weights, of the row of scales. -/
abbrev rx3 : Rect S192x8192 := Rect.unit (s := S192x8192) ![0, 3072] S192x1024.size inb_S192x8192_S192x1024_0_3072
abbrev rw3 : Rect S2048x8192 := Rect.unit (s := S2048x8192) ![0, 3072] S2048x1024.size inb_S2048x8192_S2048x1024_0_3072
abbrev rs3 : Rect S1x8192 := Rect.unit (s := S1x8192) ![0, 3072] S1x1024.size inb_S1x8192_S1x1024_0_3072
/-- Column slice 4 of a tile, of the weights, of the row of scales. -/
abbrev rx4 : Rect S192x8192 := Rect.unit (s := S192x8192) ![0, 4096] S192x1024.size inb_S192x8192_S192x1024_0_4096
abbrev rw4 : Rect S2048x8192 := Rect.unit (s := S2048x8192) ![0, 4096] S2048x1024.size inb_S2048x8192_S2048x1024_0_4096
abbrev rs4 : Rect S1x8192 := Rect.unit (s := S1x8192) ![0, 4096] S1x1024.size inb_S1x8192_S1x1024_0_4096
/-- Column slice 5 of a tile, of the weights, of the row of scales. -/
abbrev rx5 : Rect S192x8192 := Rect.unit (s := S192x8192) ![0, 5120] S192x1024.size inb_S192x8192_S192x1024_0_5120
abbrev rw5 : Rect S2048x8192 := Rect.unit (s := S2048x8192) ![0, 5120] S2048x1024.size inb_S2048x8192_S2048x1024_0_5120
abbrev rs5 : Rect S1x8192 := Rect.unit (s := S1x8192) ![0, 5120] S1x1024.size inb_S1x8192_S1x1024_0_5120
/-- Column slice 6 of a tile, of the weights, of the row of scales. -/
abbrev rx6 : Rect S192x8192 := Rect.unit (s := S192x8192) ![0, 6144] S192x1024.size inb_S192x8192_S192x1024_0_6144
abbrev rw6 : Rect S2048x8192 := Rect.unit (s := S2048x8192) ![0, 6144] S2048x1024.size inb_S2048x8192_S2048x1024_0_6144
abbrev rs6 : Rect S1x8192 := Rect.unit (s := S1x8192) ![0, 6144] S1x1024.size inb_S1x8192_S1x1024_0_6144
/-- Column slice 7 of a tile, of the weights, of the row of scales. -/
abbrev rx7 : Rect S192x8192 := Rect.unit (s := S192x8192) ![0, 7168] S192x1024.size inb_S192x8192_S192x1024_0_7168
abbrev rw7 : Rect S2048x8192 := Rect.unit (s := S2048x8192) ![0, 7168] S2048x1024.size inb_S2048x8192_S2048x1024_0_7168
abbrev rs7 : Rect S1x8192 := Rect.unit (s := S1x8192) ![0, 7168] S1x1024.size inb_S1x8192_S1x1024_0_7168
abbrev rg : Rect S192x2048 := Rect.unit (s := S192x2048) ![0, 0] S192x2048.size inb_S192x2048_S192x2048_0_0
abbrev rn : Rect S1x8192 := Rect.unit (s := S1x8192) ![0, 0] S1x8192.size inb_S1x8192_S1x8192_0_0
abbrev rh : Rect S192x8192 := Rect.unit (s := S192x8192) ![0, 0] S192x8192.size inb_S192x8192_S192x8192_0_0

/-- The sum stored into column slice 0. -/
def hs0 (x0 : Vec F S1 .f32) (x2 : Vec F S192x8192 .bf16) (x3 : Vec F S192x2048 .fp8e4m3) (x4 : Vec F S2048x8192 .fp8e4m3) (x5 : Vec F S1x8192 .f32) : Vec F S192x1024 .f32 :=
  k0_pay2 (word x0) (View.ld x2 rx0) (View.ld x3 rg) (View.ld x4 rw0) (View.ld x5 rs0)
/-- The sum stored into column slice 1. -/
def hs1 (x0 : Vec F S1 .f32) (x2 : Vec F S192x8192 .bf16) (x3 : Vec F S192x2048 .fp8e4m3) (x4 : Vec F S2048x8192 .fp8e4m3) (x5 : Vec F S1x8192 .f32) : Vec F S192x1024 .f32 :=
  k0_pay4 (word x0) (View.ld x2 rx1) (View.ld x3 rg) (View.ld x4 rw1) (View.ld x5 rs1)
/-- The sum stored into column slice 2. -/
def hs2 (x0 : Vec F S1 .f32) (x2 : Vec F S192x8192 .bf16) (x3 : Vec F S192x2048 .fp8e4m3) (x4 : Vec F S2048x8192 .fp8e4m3) (x5 : Vec F S1x8192 .f32) : Vec F S192x1024 .f32 :=
  k0_pay5 (word x0) (View.ld x2 rx2) (View.ld x3 rg) (View.ld x4 rw2) (View.ld x5 rs2)
/-- The sum stored into column slice 3. -/
def hs3 (x0 : Vec F S1 .f32) (x2 : Vec F S192x8192 .bf16) (x3 : Vec F S192x2048 .fp8e4m3) (x4 : Vec F S2048x8192 .fp8e4m3) (x5 : Vec F S1x8192 .f32) : Vec F S192x1024 .f32 :=
  k0_pay7 (word x0) (View.ld x2 rx3) (View.ld x3 rg) (View.ld x4 rw3) (View.ld x5 rs3)
/-- The sum stored into column slice 4. -/
def hs4 (x0 : Vec F S1 .f32) (x2 : Vec F S192x8192 .bf16) (x3 : Vec F S192x2048 .fp8e4m3) (x4 : Vec F S2048x8192 .fp8e4m3) (x5 : Vec F S1x8192 .f32) : Vec F S192x1024 .f32 :=
  k0_pay8 (word x0) (View.ld x2 rx4) (View.ld x3 rg) (View.ld x4 rw4) (View.ld x5 rs4)
/-- The sum stored into column slice 5. -/
def hs5 (x0 : Vec F S1 .f32) (x2 : Vec F S192x8192 .bf16) (x3 : Vec F S192x2048 .fp8e4m3) (x4 : Vec F S2048x8192 .fp8e4m3) (x5 : Vec F S1x8192 .f32) : Vec F S192x1024 .f32 :=
  k0_pay10 (word x0) (View.ld x2 rx5) (View.ld x3 rg) (View.ld x4 rw5) (View.ld x5 rs5)
/-- The sum stored into column slice 6. -/
def hs6 (x0 : Vec F S1 .f32) (x2 : Vec F S192x8192 .bf16) (x3 : Vec F S192x2048 .fp8e4m3) (x4 : Vec F S2048x8192 .fp8e4m3) (x5 : Vec F S1x8192 .f32) : Vec F S192x1024 .f32 :=
  k0_pay11 (word x0) (View.ld x2 rx6) (View.ld x3 rg) (View.ld x4 rw6) (View.ld x5 rs6)
/-- The sum stored into column slice 7. -/
def hs7 (x0 : Vec F S1 .f32) (x2 : Vec F S192x8192 .bf16) (x3 : Vec F S192x2048 .fp8e4m3) (x4 : Vec F S2048x8192 .fp8e4m3) (x5 : Vec F S1x8192 .f32) : Vec F S192x1024 .f32 :=
  k0_pay13 (word x0) (View.ld x2 rx7) (View.ld x3 rg) (View.ld x4 rw7) (View.ld x5 rs7)

/-- The pieces stored into the tile of sums, last first. -/
abbrev hpieces (x0 : Vec F S1 .f32) (x2 : Vec F S192x8192 .bf16) (x3 : Vec F S192x2048 .fp8e4m3) (x4 : Vec F S2048x8192 .fp8e4m3) (x5 : Vec F S1x8192 .f32) : List (View.Piece (Elt F) S192x8192 .f32) :=
  [⟨rx7, hs7 x0 x2 x3 x4 x5⟩, ⟨rx6, hs6 x0 x2 x3 x4 x5⟩, ⟨rx5, hs5 x0 x2 x3 x4 x5⟩, ⟨rx4, hs4 x0 x2 x3 x4 x5⟩, ⟨rx3, hs3 x0 x2 x3 x4 x5⟩, ⟨rx2, hs2 x0 x2 x3 x4 x5⟩, ⟨rx1, hs1 x0 x2 x3 x4 x5⟩, ⟨rx0, hs0 x0 x2 x3 x4 x5⟩]

/-- The tile of sums. -/
def hstored (x0 : Vec F S1 .f32) (x2 : Vec F S192x8192 .bf16) (x3 : Vec F S192x2048 .fp8e4m3) (x4 : Vec F S2048x8192 .fp8e4m3) (x5 : Vec F S1x8192 .f32) : Vec F S192x8192 .f32 := View.canon (hpieces x0 x2 x3 x4 x5)

/-- The running sum of squares after slices 0; 0–2; 0–4; 0–6. -/
def ss0 (x0 : Vec F S1 .f32) (x2 : Vec F S192x8192 .bf16) (x3 : Vec F S192x2048 .fp8e4m3) (x4 : Vec F S2048x8192 .fp8e4m3) (x5 : Vec F S1x8192 .f32) : Vec F S192x1 .f32 :=
  k0_pay3 (word x0) (View.ld x2 rx0) (View.ld x3 rg) (View.ld x4 rw0) (View.ld x5 rs0)
def ss2 (x0 : Vec F S1 .f32) (x2 : Vec F S192x8192 .bf16) (x3 : Vec F S192x2048 .fp8e4m3) (x4 : Vec F S2048x8192 .fp8e4m3) (x5 : Vec F S1x8192 .f32) : Vec F S192x1 .f32 :=
  k0_pay6 (word x0) (ss0 x0 x2 x3 x4 x5) (hs1 x0 x2 x3 x4 x5) (View.ld x2 rx2) (View.ld x3 rg) (View.ld x4 rw2) (View.ld x5 rs2)
def ss4 (x0 : Vec F S1 .f32) (x2 : Vec F S192x8192 .bf16) (x3 : Vec F S192x2048 .fp8e4m3) (x4 : Vec F S2048x8192 .fp8e4m3) (x5 : Vec F S1x8192 .f32) : Vec F S192x1 .f32 :=
  k0_pay9 (word x0) (ss2 x0 x2 x3 x4 x5) (hs3 x0 x2 x3 x4 x5) (View.ld x2 rx4) (View.ld x3 rg) (View.ld x4 rw4) (View.ld x5 rs4)
def ss6 (x0 : Vec F S1 .f32) (x2 : Vec F S192x8192 .bf16) (x3 : Vec F S192x2048 .fp8e4m3) (x4 : Vec F S2048x8192 .fp8e4m3) (x5 : Vec F S1x8192 .f32) : Vec F S192x1 .f32 :=
  k0_pay12 (word x0) (ss4 x0 x2 x3 x4 x5) (hs5 x0 x2 x3 x4 x5) (View.ld x2 rx6) (View.ld x3 rg) (View.ld x4 rw6) (View.ld x5 rs6)

/-- The tile of codes. -/
def fstored (x0 : Vec F S1 .f32) (x1 : Vec F S1 .f32) (x2 : Vec F S192x8192 .bf16) (x3 : Vec F S192x2048 .fp8e4m3) (x4 : Vec F S2048x8192 .fp8e4m3) (x5 : Vec F S1x8192 .f32) (x6 : Vec F S1x8192 .f32) : Vec F S192x8192 .fp8e4m3 :=
  k0_pay1 (ss6 x0 x2 x3 x4 x5) (hs7 x0 x2 x3 x4 x5) (View.ld (hstored x0 x2 x3 x4 x5) rh) (View.ld x6 rn) (word x1)

theorem hcover (x0 : Vec F S1 .f32) (x2 : Vec F S192x8192 .bf16) (x3 : Vec F S192x2048 .fp8e4m3) (x4 : Vec F S2048x8192 .fp8e4m3) (x5 : Vec F S1x8192 .f32) (y : S192x8192.Idx) : ∃ p ∈ hpieces x0 x2 x3 x4 x5, y ∈ p.1.set :=
  View.cover_of_tiled (hpieces x0 x2 x3 x4 x5) S192x1024.size (by rfl) y

set_option maxHeartbeats 4000000 in
/-- The body on whole staging buffers: the inputs end as they were, the outputs hold `hstored` and `fstored` of the inputs. -/
theorem sound_kernel (c : Dev nD) (E : Set ℕ) (i : grid0.Coords) (arg1 : Memref sig .tc .smem S1 .f32) (harg1 : arg1.IsWhole) (arg2 : Memref sig .tc .smem S1 .f32) (harg2 : arg2.IsWhole) (arg3 : Memref sig .tc .vmem S192x8192 .bf16) (harg3 : arg3.IsWhole) (arg4 : Memref sig .tc .vmem S192x2048 .fp8e4m3) (harg4 : arg4.IsWhole) (arg5 : Memref sig .tc .vmem S2048x8192 .fp8e4m3) (harg5 : arg5.IsWhole) (arg6 : Memref sig .tc .vmem S1x8192 .f32) (harg6 : arg6.IsWhole) (arg7 : Memref sig .tc .vmem S1x8192 .f32) (harg7 : arg7.IsWhole) (arg8 : Memref sig .tc .vmem S192x8192 .f32) (harg8 : arg8.IsWhole) (arg9 : Memref sig .tc .vmem S192x8192 .fp8e4m3) (harg9 : arg9.IsWhole)
    (x0 : Vec F S1 .f32) (x1 : Vec F S1 .f32) (x2 : Vec F S192x8192 .bf16) (x3 : Vec F S192x2048 .fp8e4m3) (x4 : Vec F S2048x8192 .fp8e4m3) (x5 : Vec F S1x8192 .f32) (x6 : Vec F S1x8192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (hstored x0 x2 x3 x4 x5) ∗ owns (c : Thread nD τ) arg9 fullShare (fstored x0 x1 x2 x3 x4 x5 x6)) -∗ K ⟨⟩))
      ⊢ wp frame (wpE (defs₀ (F := F)) Variants.none c none) E (cc0_out_proj i arg1 harg1 arg2 harg2 arg3 harg3 arg4 harg4 arg5 harg5 arg6 harg6 arg7 harg7 arg8 harg8 arg9 harg9) K := by
  simp only [cc0_out_proj_eq_skeleton]; unfold cc0_out_proj_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  have hw0 (h : 0 < S1.numel) : View.readAt (Elt F) arg1.view (Rect.unit ![0] S1.size inb_S1_S1_0).toLoadRect f0 (Shape.Idx.first h)
      = word (View.read (Elt F) arg1.view f0) := by
    rw [View.readAt_eq_ld, View.ld_unit_zero zeros1]
    exact (word_eq _ _).symm
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    have hp : sound_kernel.sl.H7_8 c arg1 arg3 arg4 arg5 arg6 f0 f2 f3 f4 f5 = hpieces (View.read (Elt F) arg1.view f0) (View.read (Elt F) arg3.view f2) (View.read (Elt F) arg4.view f3) (View.read (Elt F) arg5.view f4) (View.read (Elt F) arg6.view f5) := by
      sl_unfold_run_names
      simp only [hw0]
      rfl
    rw [hp]
    exact View.read_writes_eq_canon _ _ _ (hcover _ _ _ _ _)
  iexists _; isplitr
  swap; · iexact H8
  ipureintro
  rw [View.read_writes_eq_canon _ _ _ (fun y => ⟨_, List.mem_singleton_self _, View.mem_set_unit_zero zeros2 inb_S192x8192_S192x8192_0_0 y⟩),
    View.canon_unit_zero zeros2]
  have hp : sound_kernel.sl.H7_8 c arg1 arg3 arg4 arg5 arg6 f0 f2 f3 f4 f5 = hpieces (View.read (Elt F) arg1.view f0) (View.read (Elt F) arg3.view f2) (View.read (Elt F) arg4.view f3) (View.read (Elt F) arg5.view f4) (View.read (Elt F) arg6.view f5) := by
    sl_unfold_run_names
    simp only [hw0]
    rfl
  have e7 : sound_kernel.sl.r_7 c arg1 arg3 arg4 arg5 arg6 f0 f2 f3 f4 f5 = ss6 (View.read (Elt F) arg1.view f0) (View.read (Elt F) arg3.view f2) (View.read (Elt F) arg4.view f3) (View.read (Elt F) arg5.view f4) (View.read (Elt F) arg6.view f5) := by
    sl_unfold_run_names
    simp only [hw0]
    rfl
  have e8 : sound_kernel.sl.r_8 c arg1 arg3 arg4 arg5 arg6 f0 f2 f3 f4 f5 = hs7 (View.read (Elt F) arg1.view f0) (View.read (Elt F) arg3.view f2) (View.read (Elt F) arg4.view f3) (View.read (Elt F) arg5.view f4) (View.read (Elt F) arg6.view f5) := by
    sl_unfold_run_names
    simp only [hw0]
    rfl
  have e9 : sound_kernel.sl.r_9 c arg2 f1 = word (View.read (Elt F) arg2.view f1) := by
    sl_unfold_run_names
    rw [View.readAt_eq_ld, View.ld_unit_zero zeros1]
    exact (word_eq _ _).symm
  have ev : sound_kernel.sl.v143 c arg1 arg3 arg4 arg5 arg6 arg8 f0 f2 f3 f4 f5 = View.ld (hstored (View.read (Elt F) arg1.view f0) (View.read (Elt F) arg3.view f2) (View.read (Elt F) arg4.view f3) (View.read (Elt F) arg5.view f4) (View.read (Elt F) arg6.view f5)) rh := by
    unfold sound_kernel.sl.v143
    rw [hp]
    exact View.readCov_eq_canon_ld _ _ _ (hcover _ _ _ _ _)
  rw [e7, e8, e9, ev]
  rfl

/-! ## The proof data -/

variable (m : (ℓ : Loc nD τ sig) → Buf (Elt F) ℓ) (ρ : Dev nD → PrngReg)

/-- The tile of the residual at point `t`: the array's rows where there are any, the zero word past the array's end. -/
def xtile (c : Dev nD) (t : Fin cfg0.N) : Vec F S192x8192 .bf16 :=
  win0_2.fill (grid0.coords t) (fun _ => Scalar.ofBits .bf16 0#16) (iblk m c 2 t)

/-- The tile of the gated codes at point `t`, likewise. -/
def gtile (c : Dev nD) (t : Fin cfg0.N) : Vec F S192x2048 .fp8e4m3 :=
  win0_3.fill (grid0.coords t) (fun _ => Scalar.ofBits .fp8e4m3 0#8) (iblk m c 3 t)

/-- What the body leaves in the tile of sums and in the tile of codes at point `t` (on the rows inside the array). -/
def htile (c : Dev nD) (t : Fin cfg0.N) : Vec F S192x8192 .f32 :=
  hstored (iblk m c 0 t) (xtile m c t) (gtile m c t) (iblk m c 4 t) (iblk m c 5 t)
def ftile (c : Dev nD) (t : Fin cfg0.N) : Vec F S192x8192 .fp8e4m3 :=
  fstored (iblk m c 0 t) (iblk m c 1 t) (xtile m c t) (gtile m c t) (iblk m c 4 t) (iblk m c 5 t) (iblk m c 6 t)

/-- The proof data: the arrays as the region finds them; after the body each input buffer at its block, the output
    buffers at `htile` and `ftile`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => xtile m c t
    | ⟨3, _⟩ => gtile m c t
    | ⟨4, _⟩ => iblk m c 4 t
    | ⟨5, _⟩ => iblk m c 5 t
    | ⟨6, _⟩ => iblk m c 6 t
    | ⟨7, _⟩ => htile m c t
    | ⟨8, _⟩ => ftile m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = xtile m c t := by dsimp only [dats]
theorem after0_3 (c : Dev nD) (t : Fin cfg0.N) : (dats m 0 c).after 3 t = gtile m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = htile m c t := by dsimp only [dats]
theorem after0_8 (c : Dev nD) (t : Fin cfg0.N) : (dats m 0 c).after 8 t = ftile m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- Where the tile of the residual is cut depends on the block index alone. -/
theorem clip0_2 (t t' : Fin cfg0.N) (h : (cfg0.win 2).index t = (cfg0.win 2).index t') :
    (cfg0.win 2).clip (cfg0.grid.coords t) = (cfg0.win 2).clip (cfg0.grid.coords t') := by
  funext a
  change Pipeline.Clip.of (win0_2.index t a) _ _ = Pipeline.Clip.of (win0_2.index t' a) _ _
  have ha : win0_2.index t a = win0_2.index t' a := congrFun h a
  rw [ha]

/-- The part of `xtile` inside the array is the block. -/
theorem cut_xtile (c : Dev nD) (t : Fin cfg0.N) : win0_2.cut (grid0.coords t) (xtile m c t) = iblk m c 2 t :=
  win0_2.cut_fill _ _ _

/-- The buffer of the tile of the residual holds the block on the rows inside the array, anything past the array's end. -/
theorem before0_2 (c : Dev nD) (t : Fin cfg0.N) (d) :
    (dats m 0 c).before 2 t d = win0_2.fill (grid0.coords t) d (iblk m c 2 t) := by
  refine ((dats m 0 c).before_in_eq_fetched 2 rfl (fun _ => rfl) clip0_2 (fun t => ?_) t d).trans ?_
  · rw [after0_2]; unfold xtile Dat.blockOf iblk; rw [A_eq]; exact win0_2.cut_fill _ _ _
  · unfold Dat.fetched Dat.blockOf iblk; rw [A_eq]

/-- Where the tile of the gated codes is cut depends on the block index alone. -/
theorem clip0_3 (t t' : Fin cfg0.N) (h : (cfg0.win 3).index t = (cfg0.win 3).index t') :
    (cfg0.win 3).clip (cfg0.grid.coords t) = (cfg0.win 3).clip (cfg0.grid.coords t') := by
  funext a
  change Pipeline.Clip.of (win0_3.index t a) _ _ = Pipeline.Clip.of (win0_3.index t' a) _ _
  have ha : win0_3.index t a = win0_3.index t' a := congrFun h a
  rw [ha]

/-- The part of `gtile` inside the array is the block. -/
theorem cut_gtile (c : Dev nD) (t : Fin cfg0.N) : win0_3.cut (grid0.coords t) (gtile m c t) = iblk m c 3 t :=
  win0_3.cut_fill _ _ _

/-- The buffer of the tile of the gated codes holds the block on the rows inside the array, anything past the array's end. -/
theorem before0_3 (c : Dev nD) (t : Fin cfg0.N) (d) :
    (dats m 0 c).before 3 t d = win0_3.fill (grid0.coords t) d (iblk m c 3 t) := by
  refine ((dats m 0 c).before_in_eq_fetched 3 rfl (fun _ => rfl) clip0_3 (fun t => ?_) t d).trans ?_
  · rw [after0_3]; unfold gtile Dat.blockOf iblk; rw [A_eq]; exact win0_3.cut_fill _ _ _
  · unfold Dat.fetched Dat.blockOf iblk; rw [A_eq]

/-! ## The frame: what the outputs hold is left unsaid -/

/-- The windows whose contents the frame does not name: the outputs'. -/
def fgt : Fin cfg0.W → Bool := fun w => match w with
  | 0 => false | 1 => false | 2 => false | 3 => false | 4 => false | 5 => false | 6 => false | 7 => true | 8 => true
  | ⟨_ + 9, h⟩ => absurd h (Nat.not_lt.2 (Nat.le_add_left _ _))

theorem defs₀_row (t : Fin cfg0.N) :
    defs₀ (F := F) .tc cfg0.body (cfg0.bodyArgs t (cfg0.slots t)) = bodyAt0 t := by
  unfold defs₀; rw [Defs.onTc_tc]

theorem body_obligation_fgt (c : Dev nD) :
    BodyObligationLoose (dats (F := F) m 0 c) (defs₀ (F := F)) Variants.none () Set.univ fgt := fun t => by
  rw [bigSep_W0, bigSep_W0, defs₀_row]
  simp only [fgt]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, H7, H8⟩
  rw [before0_0 m c t d0, before0_1 m c t d1, before0_2 m c t d2, before0_3 m c t d3, before0_4 m c t d4, before0_5 m c t d5, before0_6 m c t d6]
  iapply (sound_kernel c Set.univ _ _ _ _ _ _ _ _ _ _ _ _ _ _ _ _ _ _ _ (iblk m c 0 t) (iblk m c 1 t) (win0_2.fill (grid0.coords t) d2 (iblk m c 2 t)) (win0_3.fill (grid0.coords t) d3 (iblk m c 3 t)) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]
  · iexists d2
    change _ ⊢ owns (c : Thread nD τ) (stage0_2 (cfg0.slots t 2)) fullShare (win0_2.fill (grid0.coords t) d2 (win0_2.cut (grid0.coords t) ((dats m 0 c).after 2 t)))
    rw [after0_2, cut_xtile]
  isplitl [H3]
  · iexists d3
    change _ ⊢ owns (c : Thread nD τ) (stage0_3 (cfg0.slots t 3)) fullShare (win0_3.fill (grid0.coords t) d3 (win0_3.cut (grid0.coords t) ((dats m 0 c).after 3 t)))
    rw [after0_3, cut_gtile]
  isplitl [H4]; · iexact H4
  isplitl [H5]; · iexact H5
  isplitl [H6]; · iexact H6
  isplitl [H7]; · iexists _; iexact H7
  iexists _; iexact H8

set_option backward.isDefEq.respectTransparency.types false in
set_option maxHeartbeats 800000 in
/-- The launch, the outputs' contents left unsaid, every semaphore counter at zero at the end. -/
theorem run_fgt : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := body_obligation_fgt m) (hshare := fun c => (dats m 0 c).share_full fun _ => rfl)
    (howed := fun _ _ => rfl) (V := V m) (hmain := hmain m Variants.none) (hA := A_eq m) (hΦ := fun _ _ => rfl)

/-- THE FRAME: the kernel terminates, its arguments end unchanged, every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c =>
    ⟨(h.1.arr_in c 2 rfl).trans ((A_eq m c 2).trans (V_main_arg0 m c)),
     (h.1.arr_in c 3 rfl).trans ((A_eq m c 3).trans (V_main_arg1 m c)),
     (h.1.arr_in c 4 rfl).trans ((A_eq m c 4).trans (V_main_arg2 m c)),
     ((h.1 c).2 main_arg3 (Pipeline.mem_restRefs_of main_arg3 (by decide) (by decide))).trans (V_main_arg3 m c),
     (h.1.arr_in c 0 rfl).trans ((A_eq m c 0).trans (V_main_arg4 m c)),
     ((h.1 c).2 main_arg5 (Pipeline.mem_restRefs_of main_arg5 (by decide) (by decide))).trans (V_main_arg5 m c),
     (h.1.arr_in c 1 rfl).trans ((A_eq m c 1).trans (V_main_arg6 m c))⟩, h.2⟩) (run_fgt m ρ)

end Cert.Out.Body

end
-- ==== Proof.OutIdealBody.lean ====
/-
  The body of `Out` (the output projection and the second norm), on any staging buffers, at any float reading.

  One grid point of `Out` takes a 192-row tile: for each of eight 1024-column slices it multiplies the gated codes by
  the slice of the weights, scales, adds the residual's slice, stores the sum, and adds the row sums of its squares to
  the running sum; then it divides the stored rows by their root mean square, scales and quantises them. The last tile
  reaches past row 5168; what the staging buffers hold there is arbitrary, and `sound_kernel` is stated for any contents.
-/
module

public import proofs.«01_k».proof.Proof.Gen.OutIdeal.Frame
public import proofs.«01_k».proof.Proof.Gen.OutIdeal.Points
public import proofs.«01_k».proof.Proof.Gen.OutIdeal.Skeleton
public import Idealize.ShloMosaic.Lib.Pipeline.Value

@[expose] public section

set_option maxRecDepth 16384

noncomputable section

namespace Cert.OutIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.OutIdeal.Gen

variable {F : FTy → Type} [FloatOps F]

local notation "𝕄" => MT nD τ sig Unit (Elt F) ℕ (UR sig nD τ) ℕ

/-- A rank-2 zero offset. -/
theorem zeros2 : (![0, 0] : Fin 2 → ℕ) = fun _ => 0 := by funext a; fin_cases a <;> rfl

theorem zeros1 : (![0] : Fin 1 → ℕ) = fun _ => 0 := by funext a; fin_cases a; rfl

/-- The one entry of a one-entry buffer. -/
def word (x : Vec F S1 .f32) : Elt F .f32 := x (fun a => ⟨0, by have : a = 0 := Subsingleton.elim _ _; subst this; exact Nat.one_pos⟩)

/-- A one-entry buffer has one index. -/
theorem word_eq (x : Vec F S1 .f32) (j : S1.Idx) : word x = x j := by
  unfold word; congr 1; funext a
  have ha : a = 0 := Subsingleton.elim _ _
  subst ha; exact Fin.ext (by have := (j 0).isLt; change _ < 1 at this; change 0 = (j 0).val; omega)

/-! ## What the body stores -/

/-- Column slice 0 of a tile, of the weights, of the row of scales. -/
abbrev rx0 : Rect S192x8192 := Rect.unit (s := S192x8192) ![0, 0] S192x1024.size inb_S192x8192_S192x1024_0_0
abbrev rw0 : Rect S2048x8192 := Rect.unit (s := S2048x8192) ![0, 0] S2048x1024.size inb_S2048x8192_S2048x1024_0_0
abbrev rs0 : Rect S1x8192 := Rect.unit (s := S1x8192) ![0, 0] S1x1024.size inb_S1x8192_S1x1024_0_0
/-- Column slice 1 of a tile, of the weights, of the row of scales. -/
abbrev rx1 : Rect S192x8192 := Rect.unit (s := S192x8192) ![0, 1024] S192x1024.size inb_S192x8192_S192x1024_0_1024
abbrev rw1 : Rect S2048x8192 := Rect.unit (s := S2048x8192) ![0, 1024] S2048x1024.size inb_S2048x8192_S2048x1024_0_1024
abbrev rs1 : Rect S1x8192 := Rect.unit (s := S1x8192) ![0, 1024] S1x1024.size inb_S1x8192_S1x1024_0_1024
/-- Column slice 2 of a tile, of the weights, of the row of scales. -/
abbrev rx2 : Rect S192x8192 := Rect.unit (s := S192x8192) ![0, 2048] S192x1024.size inb_S192x8192_S192x1024_0_2048
abbrev rw2 : Rect S2048x8192 := Rect.unit (s := S2048x8192) ![0, 2048] S2048x1024.size inb_S2048x8192_S2048x1024_0_2048
abbrev rs2 : Rect S1x8192 := Rect.unit (s := S1x8192) ![0, 2048] S1x1024.size inb_S1x8192_S1x1024_0_2048
/-- Column slice 3 of a tile, of the weights, of the row of scales. -/
abbrev rx3 : Rect S192x8192 := Rect.unit (s := S192x8192) ![0, 3072] S192x1024.size inb_S192x8192_S192x1024_0_3072
abbrev rw3 : Rect S2048x8192 := Rect.unit (s := S2048x8192) ![0, 3072] S2048x1024.size inb_S2048x8192_S2048x1024_0_3072
abbrev rs3 : Rect S1x8192 := Rect.unit (s := S1x8192) ![0, 3072] S1x1024.size inb_S1x8192_S1x1024_0_3072
/-- Column slice 4 of a tile, of the weights, of the row of scales. -/
abbrev rx4 : Rect S192x8192 := Rect.unit (s := S192x8192) ![0, 4096] S192x1024.size inb_S192x8192_S192x1024_0_4096
abbrev rw4 : Rect S2048x8192 := Rect.unit (s := S2048x8192) ![0, 4096] S2048x1024.size inb_S2048x8192_S2048x1024_0_4096
abbrev rs4 : Rect S1x8192 := Rect.unit (s := S1x8192) ![0, 4096] S1x1024.size inb_S1x8192_S1x1024_0_4096
/-- Column slice 5 of a tile, of the weights, of the row of scales. -/
abbrev rx5 : Rect S192x8192 := Rect.unit (s := S192x8192) ![0, 5120] S192x1024.size inb_S192x8192_S192x1024_0_5120
abbrev rw5 : Rect S2048x8192 := Rect.unit (s := S2048x8192) ![0, 5120] S2048x1024.size inb_S2048x8192_S2048x1024_0_5120
abbrev rs5 : Rect S1x8192 := Rect.unit (s := S1x8192) ![0, 5120] S1x1024.size inb_S1x8192_S1x1024_0_5120
/-- Column slice 6 of a tile, of the weights, of the row of scales. -/
abbrev rx6 : Rect S192x8192 := Rect.unit (s := S192x8192) ![0, 6144] S192x1024.size inb_S192x8192_S192x1024_0_6144
abbrev rw6 : Rect S2048x8192 := Rect.unit (s := S2048x8192) ![0, 6144] S2048x1024.size inb_S2048x8192_S2048x1024_0_6144
abbrev rs6 : Rect S1x8192 := Rect.unit (s := S1x8192) ![0, 6144] S1x1024.size inb_S1x8192_S1x1024_0_6144
/-- Column slice 7 of a tile, of the weights, of the row of scales. -/
abbrev rx7 : Rect S192x8192 := Rect.unit (s := S192x8192) ![0, 7168] S192x1024.size inb_S192x8192_S192x1024_0_7168
abbrev rw7 : Rect S2048x8192 := Rect.unit (s := S2048x8192) ![0, 7168] S2048x1024.size inb_S2048x8192_S2048x1024_0_7168
abbrev rs7 : Rect S1x8192 := Rect.unit (s := S1x8192) ![0, 7168] S1x1024.size inb_S1x8192_S1x1024_0_7168
abbrev rg : Rect S192x2048 := Rect.unit (s := S192x2048) ![0, 0] S192x2048.size inb_S192x2048_S192x2048_0_0
abbrev rn : Rect S1x8192 := Rect.unit (s := S1x8192) ![0, 0] S1x8192.size inb_S1x8192_S1x8192_0_0
abbrev rh : Rect S192x8192 := Rect.unit (s := S192x8192) ![0, 0] S192x8192.size inb_S192x8192_S192x8192_0_0

/-- The sum stored into column slice 0. -/
def hs0 (x0 : Vec F S1 .f32) (x2 : Vec F S192x8192 .bf16) (x3 : Vec F S192x2048 .fp8e4m3) (x4 : Vec F S2048x8192 .fp8e4m3) (x5 : Vec F S1x8192 .f32) : Vec F S192x1024 .f32 :=
  k0_pay2 (word x0) (View.ld x2 rx0) (View.ld x3 rg) (View.ld x4 rw0) (View.ld x5 rs0)
/-- The sum stored into column slice 1. -/
def hs1 (x0 : Vec F S1 .f32) (x2 : Vec F S192x8192 .bf16) (x3 : Vec F S192x2048 .fp8e4m3) (x4 : Vec F S2048x8192 .fp8e4m3) (x5 : Vec F S1x8192 .f32) : Vec F S192x1024 .f32 :=
  k0_pay4 (word x0) (View.ld x2 rx1) (View.ld x3 rg) (View.ld x4 rw1) (View.ld x5 rs1)
/-- The sum stored into column slice 2. -/
def hs2 (x0 : Vec F S1 .f32) (x2 : Vec F S192x8192 .bf16) (x3 : Vec F S192x2048 .fp8e4m3) (x4 : Vec F S2048x8192 .fp8e4m3) (x5 : Vec F S1x8192 .f32) : Vec F S192x1024 .f32 :=
  k0_pay5 (word x0) (View.ld x2 rx2) (View.ld x3 rg) (View.ld x4 rw2) (View.ld x5 rs2)
/-- The sum stored into column slice 3. -/
def hs3 (x0 : Vec F S1 .f32) (x2 : Vec F S192x8192 .bf16) (x3 : Vec F S192x2048 .fp8e4m3) (x4 : Vec F S2048x8192 .fp8e4m3) (x5 : Vec F S1x8192 .f32) : Vec F S192x1024 .f32 :=
  k0_pay7 (word x0) (View.ld x2 rx3) (View.ld x3 rg) (View.ld x4 rw3) (View.ld x5 rs3)
/-- The sum stored into column slice 4. -/
def hs4 (x0 : Vec F S1 .f32) (x2 : Vec F S192x8192 .bf16) (x3 : Vec F S192x2048 .fp8e4m3) (x4 : Vec F S2048x8192 .fp8e4m3) (x5 : Vec F S1x8192 .f32) : Vec F S192x1024 .f32 :=
  k0_pay8 (word x0) (View.ld x2 rx4) (View.ld x3 rg) (View.ld x4 rw4) (View.ld x5 rs4)
/-- The sum stored into column slice 5. -/
def hs5 (x0 : Vec F S1 .f32) (x2 : Vec F S192x8192 .bf16) (x3 : Vec F S192x2048 .fp8e4m3) (x4 : Vec F S2048x8192 .fp8e4m3) (x5 : Vec F S1x8192 .f32) : Vec F S192x1024 .f32 :=
  k0_pay10 (word x0) (View.ld x2 rx5) (View.ld x3 rg) (View.ld x4 rw5) (View.ld x5 rs5)
/-- The sum stored into column slice 6. -/
def hs6 (x0 : Vec F S1 .f32) (x2 : Vec F S192x8192 .bf16) (x3 : Vec F S192x2048 .fp8e4m3) (x4 : Vec F S2048x8192 .fp8e4m3) (x5 : Vec F S1x8192 .f32) : Vec F S192x1024 .f32 :=
  k0_pay11 (word x0) (View.ld x2 rx6) (View.ld x3 rg) (View.ld x4 rw6) (View.ld x5 rs6)
/-- The sum stored into column slice 7. -/
def hs7 (x0 : Vec F S1 .f32) (x2 : Vec F S192x8192 .bf16) (x3 : Vec F S192x2048 .fp8e4m3) (x4 : Vec F S2048x8192 .fp8e4m3) (x5 : Vec F S1x8192 .f32) : Vec F S192x1024 .f32 :=
  k0_pay13 (word x0) (View.ld x2 rx7) (View.ld x3 rg) (View.ld x4 rw7) (View.ld x5 rs7)

/-- The pieces stored into the tile of sums, last first. -/
abbrev hpieces (x0 : Vec F S1 .f32) (x2 : Vec F S192x8192 .bf16) (x3 : Vec F S192x2048 .fp8e4m3) (x4 : Vec F S2048x8192 .fp8e4m3) (x5 : Vec F S1x8192 .f32) : List (View.Piece (Elt F) S192x8192 .f32) :=
  [⟨rx7, hs7 x0 x2 x3 x4 x5⟩, ⟨rx6, hs6 x0 x2 x3 x4 x5⟩, ⟨rx5, hs5 x0 x2 x3 x4 x5⟩, ⟨rx4, hs4 x0 x2 x3 x4 x5⟩, ⟨rx3, hs3 x0 x2 x3 x4 x5⟩, ⟨rx2, hs2 x0 x2 x3 x4 x5⟩, ⟨rx1, hs1 x0 x2 x3 x4 x5⟩, ⟨rx0, hs0 x0 x2 x3 x4 x5⟩]

/-- The tile of sums. -/
def hstored (x0 : Vec F S1 .f32) (x2 : Vec F S192x8192 .bf16) (x3 : Vec F S192x2048 .fp8e4m3) (x4 : Vec F S2048x8192 .fp8e4m3) (x5 : Vec F S1x8192 .f32) : Vec F S192x8192 .f32 := View.canon (hpieces x0 x2 x3 x4 x5)

/-- The running sum of squares after slices 0; 0–2; 0–4; 0–6. -/
def ss0 (x0 : Vec F S1 .f32) (x2 : Vec F S192x8192 .bf16) (x3 : Vec F S192x2048 .fp8e4m3) (x4 : Vec F S2048x8192 .fp8e4m3) (x5 : Vec F S1x8192 .f32) : Vec F S192x1 .f32 :=
  k0_pay3 (word x0) (View.ld x2 rx0) (View.ld x3 rg) (View.ld x4 rw0) (View.ld x5 rs0)
def ss2 (x0 : Vec F S1 .f32) (x2 : Vec F S192x8192 .bf16) (x3 : Vec F S192x2048 .fp8e4m3) (x4 : Vec F S2048x8192 .fp8e4m3) (x5 : Vec F S1x8192 .f32) : Vec F S192x1 .f32 :=
  k0_pay6 (word x0) (ss0 x0 x2 x3 x4 x5) (hs1 x0 x2 x3 x4 x5) (View.ld x2 rx2) (View.ld x3 rg) (View.ld x4 rw2) (View.ld x5 rs2)
def ss4 (x0 : Vec F S1 .f32) (x2 : Vec F S192x8192 .bf16) (x3 : Vec F S192x2048 .fp8e4m3) (x4 : Vec F S2048x8192 .fp8e4m3) (x5 : Vec F S1x8192 .f32) : Vec F S192x1 .f32 :=
  k0_pay9 (word x0) (ss2 x0 x2 x3 x4 x5) (hs3 x0 x2 x3 x4 x5) (View.ld x2 rx4) (View.ld x3 rg) (View.ld x4 rw4) (View.ld x5 rs4)
def ss6 (x0 : Vec F S1 .f32) (x2 : Vec F S192x8192 .bf16) (x3 : Vec F S192x2048 .fp8e4m3) (x4 : Vec F S2048x8192 .fp8e4m3) (x5 : Vec F S1x8192 .f32) : Vec F S192x1 .f32 :=
  k0_pay12 (word x0) (ss4 x0 x2 x3 x4 x5) (hs5 x0 x2 x3 x4 x5) (View.ld x2 rx6) (View.ld x3 rg) (View.ld x4 rw6) (View.ld x5 rs6)

/-- The tile of codes. -/
def fstored (x0 : Vec F S1 .f32) (x1 : Vec F S1 .f32) (x2 : Vec F S192x8192 .bf16) (x3 : Vec F S192x2048 .fp8e4m3) (x4 : Vec F S2048x8192 .fp8e4m3) (x5 : Vec F S1x8192 .f32) (x6 : Vec F S1x8192 .f32) : Vec F S192x8192 .fp8e4m3 :=
  k0_pay1 (ss6 x0 x2 x3 x4 x5) (hs7 x0 x2 x3 x4 x5) (View.ld (hstored x0 x2 x3 x4 x5) rh) (View.ld x6 rn) (word x1)

theorem hcover (x0 : Vec F S1 .f32) (x2 : Vec F S192x8192 .bf16) (x3 : Vec F S192x2048 .fp8e4m3) (x4 : Vec F S2048x8192 .fp8e4m3) (x5 : Vec F S1x8192 .f32) (y : S192x8192.Idx) : ∃ p ∈ hpieces x0 x2 x3 x4 x5, y ∈ p.1.set :=
  View.cover_of_tiled (hpieces x0 x2 x3 x4 x5) S192x1024.size (by rfl) y

set_option maxHeartbeats 4000000 in
/-- The body on whole staging buffers: the inputs end as they were, the outputs hold `hstored` and `fstored` of the inputs. -/
theorem sound_kernel (c : Dev nD) (E : Set ℕ) (i : grid0.Coords) (arg1 : Memref sig .tc .smem S1 .f32) (harg1 : arg1.IsWhole) (arg2 : Memref sig .tc .smem S1 .f32) (harg2 : arg2.IsWhole) (arg3 : Memref sig .tc .vmem S192x8192 .bf16) (harg3 : arg3.IsWhole) (arg4 : Memref sig .tc .vmem S192x2048 .fp8e4m3) (harg4 : arg4.IsWhole) (arg5 : Memref sig .tc .vmem S2048x8192 .fp8e4m3) (harg5 : arg5.IsWhole) (arg6 : Memref sig .tc .vmem S1x8192 .f32) (harg6 : arg6.IsWhole) (arg7 : Memref sig .tc .vmem S1x8192 .f32) (harg7 : arg7.IsWhole) (arg8 : Memref sig .tc .vmem S192x8192 .f32) (harg8 : arg8.IsWhole) (arg9 : Memref sig .tc .vmem S192x8192 .fp8e4m3) (harg9 : arg9.IsWhole)
    (x0 : Vec F S1 .f32) (x1 : Vec F S1 .f32) (x2 : Vec F S192x8192 .bf16) (x3 : Vec F S192x2048 .fp8e4m3) (x4 : Vec F S2048x8192 .fp8e4m3) (x5 : Vec F S1x8192 .f32) (x6 : Vec F S1x8192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (hstored x0 x2 x3 x4 x5) ∗ owns (c : Thread nD τ) arg9 fullShare (fstored x0 x1 x2 x3 x4 x5 x6)) -∗ K ⟨⟩))
      ⊢ wp frame (wpE (defs₀ (F := F)) Variants.none c none) E (cc0_out_proj i arg1 harg1 arg2 harg2 arg3 harg3 arg4 harg4 arg5 harg5 arg6 harg6 arg7 harg7 arg8 harg8 arg9 harg9) K := by
  simp only [cc0_out_proj_eq_skeleton]; unfold cc0_out_proj_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  have hw0 (h : 0 < S1.numel) : View.readAt (Elt F) arg1.view (Rect.unit ![0] S1.size inb_S1_S1_0).toLoadRect f0 (Shape.Idx.first h)
      = word (View.read (Elt F) arg1.view f0) := by
    rw [View.readAt_eq_ld, View.ld_unit_zero zeros1]
    exact (word_eq _ _).symm
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    have hp : sound_kernel.sl.H7_8 c arg1 arg3 arg4 arg5 arg6 f0 f2 f3 f4 f5 = hpieces (View.read (Elt F) arg1.view f0) (View.read (Elt F) arg3.view f2) (View.read (Elt F) arg4.view f3) (View.read (Elt F) arg5.view f4) (View.read (Elt F) arg6.view f5) := by
      sl_unfold_run_names
      simp only [hw0]
      rfl
    rw [hp]
    exact View.read_writes_eq_canon _ _ _ (hcover _ _ _ _ _)
  iexists _; isplitr
  swap; · iexact H8
  ipureintro
  rw [View.read_writes_eq_canon _ _ _ (fun y => ⟨_, List.mem_singleton_self _, View.mem_set_unit_zero zeros2 inb_S192x8192_S192x8192_0_0 y⟩),
    View.canon_unit_zero zeros2]
  have hp : sound_kernel.sl.H7_8 c arg1 arg3 arg4 arg5 arg6 f0 f2 f3 f4 f5 = hpieces (View.read (Elt F) arg1.view f0) (View.read (Elt F) arg3.view f2) (View.read (Elt F) arg4.view f3) (View.read (Elt F) arg5.view f4) (View.read (Elt F) arg6.view f5) := by
    sl_unfold_run_names
    simp only [hw0]
    rfl
  have e7 : sound_kernel.sl.r_7 c arg1 arg3 arg4 arg5 arg6 f0 f2 f3 f4 f5 = ss6 (View.read (Elt F) arg1.view f0) (View.read (Elt F) arg3.view f2) (View.read (Elt F) arg4.view f3) (View.read (Elt F) arg5.view f4) (View.read (Elt F) arg6.view f5) := by
    sl_unfold_run_names
    simp only [hw0]
    rfl
  have e8 : sound_kernel.sl.r_8 c arg1 arg3 arg4 arg5 arg6 f0 f2 f3 f4 f5 = hs7 (View.read (Elt F) arg1.view f0) (View.read (Elt F) arg3.view f2) (View.read (Elt F) arg4.view f3) (View.read (Elt F) arg5.view f4) (View.read (Elt F) arg6.view f5) := by
    sl_unfold_run_names
    simp only [hw0]
    rfl
  have e9 : sound_kernel.sl.r_9 c arg2 f1 = word (View.read (Elt F) arg2.view f1) := by
    sl_unfold_run_names
    rw [View.readAt_eq_ld, View.ld_unit_zero zeros1]
    exact (word_eq _ _).symm
  have ev : sound_kernel.sl.v143 c arg1 arg3 arg4 arg5 arg6 arg8 f0 f2 f3 f4 f5 = View.ld (hstored (View.read (Elt F) arg1.view f0) (View.read (Elt F) arg3.view f2) (View.read (Elt F) arg4.view f3) (View.read (Elt F) arg5.view f4) (View.read (Elt F) arg6.view f5)) rh := by
    unfold sound_kernel.sl.v143
    rw [hp]
    exact View.readCov_eq_canon_ld _ _ _ (hcover _ _ _ _ _)
  rw [e7, e8, e9, ev]
  rfl

/-! ## The proof data -/

variable (m : (ℓ : Loc nD τ sig) → Buf (Elt F) ℓ) (ρ : Dev nD → PrngReg)

/-- The tile of the residual at point `t`: the array's rows where there are any, the zero word past the array's end. -/
def xtile (c : Dev nD) (t : Fin cfg0.N) : Vec F S192x8192 .bf16 :=
  win0_2.fill (grid0.coords t) (fun _ => Scalar.ofBits .bf16 0#16) (iblk m c 2 t)

/-- The tile of the gated codes at point `t`, likewise. -/
def gtile (c : Dev nD) (t : Fin cfg0.N) : Vec F S192x2048 .fp8e4m3 :=
  win0_3.fill (grid0.coords t) (fun _ => Scalar.ofBits .fp8e4m3 0#8) (iblk m c 3 t)

/-- What the body leaves in the tile of sums and in the tile of codes at point `t` (on the rows inside the array). -/
def htile (c : Dev nD) (t : Fin cfg0.N) : Vec F S192x8192 .f32 :=
  hstored (iblk m c 0 t) (xtile m c t) (gtile m c t) (iblk m c 4 t) (iblk m c 5 t)
def ftile (c : Dev nD) (t : Fin cfg0.N) : Vec F S192x8192 .fp8e4m3 :=
  fstored (iblk m c 0 t) (iblk m c 1 t) (xtile m c t) (gtile m c t) (iblk m c 4 t) (iblk m c 5 t) (iblk m c 6 t)

/-- The proof data: the arrays as the region finds them; after the body each input buffer at its block, the output
    buffers at `htile` and `ftile`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => xtile m c t
    | ⟨3, _⟩ => gtile m c t
    | ⟨4, _⟩ => iblk m c 4 t
    | ⟨5, _⟩ => iblk m c 5 t
    | ⟨6, _⟩ => iblk m c 6 t
    | ⟨7, _⟩ => htile m c t
    | ⟨8, _⟩ => ftile m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = xtile m c t := by dsimp only [dats]
theorem after0_3 (c : Dev nD) (t : Fin cfg0.N) : (dats m 0 c).after 3 t = gtile m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = htile m c t := by dsimp only [dats]
theorem after0_8 (c : Dev nD) (t : Fin cfg0.N) : (dats m 0 c).after 8 t = ftile m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- Where the tile of the residual is cut depends on the block index alone. -/
theorem clip0_2 (t t' : Fin cfg0.N) (h : (cfg0.win 2).index t = (cfg0.win 2).index t') :
    (cfg0.win 2).clip (cfg0.grid.coords t) = (cfg0.win 2).clip (cfg0.grid.coords t') := by
  funext a
  change Pipeline.Clip.of (win0_2.index t a) _ _ = Pipeline.Clip.of (win0_2.index t' a) _ _
  have ha : win0_2.index t a = win0_2.index t' a := congrFun h a
  rw [ha]

/-- The part of `xtile` inside the array is the block. -/
theorem cut_xtile (c : Dev nD) (t : Fin cfg0.N) : win0_2.cut (grid0.coords t) (xtile m c t) = iblk m c 2 t :=
  win0_2.cut_fill _ _ _

/-- The buffer of the tile of the residual holds the block on the rows inside the array, anything past the array's end. -/
theorem before0_2 (c : Dev nD) (t : Fin cfg0.N) (d) :
    (dats m 0 c).before 2 t d = win0_2.fill (grid0.coords t) d (iblk m c 2 t) := by
  refine ((dats m 0 c).before_in_eq_fetched 2 rfl (fun _ => rfl) clip0_2 (fun t => ?_) t d).trans ?_
  · rw [after0_2]; unfold xtile Dat.blockOf iblk; rw [A_eq]; exact win0_2.cut_fill _ _ _
  · unfold Dat.fetched Dat.blockOf iblk; rw [A_eq]

/-- Where the tile of the gated codes is cut depends on the block index alone. -/
theorem clip0_3 (t t' : Fin cfg0.N) (h : (cfg0.win 3).index t = (cfg0.win 3).index t') :
    (cfg0.win 3).clip (cfg0.grid.coords t) = (cfg0.win 3).clip (cfg0.grid.coords t') := by
  funext a
  change Pipeline.Clip.of (win0_3.index t a) _ _ = Pipeline.Clip.of (win0_3.index t' a) _ _
  have ha : win0_3.index t a = win0_3.index t' a := congrFun h a
  rw [ha]

/-- The part of `gtile` inside the array is the block. -/
theorem cut_gtile (c : Dev nD) (t : Fin cfg0.N) : win0_3.cut (grid0.coords t) (gtile m c t) = iblk m c 3 t :=
  win0_3.cut_fill _ _ _

/-- The buffer of the tile of the gated codes holds the block on the rows inside the array, anything past the array's end. -/
theorem before0_3 (c : Dev nD) (t : Fin cfg0.N) (d) :
    (dats m 0 c).before 3 t d = win0_3.fill (grid0.coords t) d (iblk m c 3 t) := by
  refine ((dats m 0 c).before_in_eq_fetched 3 rfl (fun _ => rfl) clip0_3 (fun t => ?_) t d).trans ?_
  · rw [after0_3]; unfold gtile Dat.blockOf iblk; rw [A_eq]; exact win0_3.cut_fill _ _ _
  · unfold Dat.fetched Dat.blockOf iblk; rw [A_eq]

/-! ## The frame: what the outputs hold is left unsaid -/

/-- The windows whose contents the frame does not name: the outputs'. -/
def fgt : Fin cfg0.W → Bool := fun w => match w with
  | 0 => false | 1 => false | 2 => false | 3 => false | 4 => false | 5 => false | 6 => false | 7 => true | 8 => true
  | ⟨_ + 9, h⟩ => absurd h (Nat.not_lt.2 (Nat.le_add_left _ _))

theorem defs₀_row (t : Fin cfg0.N) :
    defs₀ (F := F) .tc cfg0.body (cfg0.bodyArgs t (cfg0.slots t)) = bodyAt0 t := by
  unfold defs₀; rw [Defs.onTc_tc]

theorem body_obligation_fgt (c : Dev nD) :
    BodyObligationLoose (dats (F := F) m 0 c) (defs₀ (F := F)) Variants.none () Set.univ fgt := fun t => by
  rw [bigSep_W0, bigSep_W0, defs₀_row]
  simp only [fgt]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, H7, H8⟩
  rw [before0_0 m c t d0, before0_1 m c t d1, before0_2 m c t d2, before0_3 m c t d3, before0_4 m c t d4, before0_5 m c t d5, before0_6 m c t d6]
  iapply (sound_kernel c Set.univ _ _ _ _ _ _ _ _ _ _ _ _ _ _ _ _ _ _ _ (iblk m c 0 t) (iblk m c 1 t) (win0_2.fill (grid0.coords t) d2 (iblk m c 2 t)) (win0_3.fill (grid0.coords t) d3 (iblk m c 3 t)) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]
  · iexists d2
    change _ ⊢ owns (c : Thread nD τ) (stage0_2 (cfg0.slots t 2)) fullShare (win0_2.fill (grid0.coords t) d2 (win0_2.cut (grid0.coords t) ((dats m 0 c).after 2 t)))
    rw [after0_2, cut_xtile]
  isplitl [H3]
  · iexists d3
    change _ ⊢ owns (c : Thread nD τ) (stage0_3 (cfg0.slots t 3)) fullShare (win0_3.fill (grid0.coords t) d3 (win0_3.cut (grid0.coords t) ((dats m 0 c).after 3 t)))
    rw [after0_3, cut_gtile]
  isplitl [H4]; · iexact H4
  isplitl [H5]; · iexact H5
  isplitl [H6]; · iexact H6
  isplitl [H7]; · iexists _; iexact H7
  iexists _; iexact H8

set_option backward.isDefEq.respectTransparency.types false in
set_option maxHeartbeats 800000 in
/-- The launch, the outputs' contents left unsaid, every semaphore counter at zero at the end. -/
theorem run_fgt : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := body_obligation_fgt m) (hshare := fun c => (dats m 0 c).share_full fun _ => rfl)
    (howed := fun _ _ => rfl) (V := V m) (hmain := hmain m Variants.none) (hA := A_eq m) (hΦ := fun _ _ => rfl)

/-- THE FRAME: the kernel terminates, its arguments end unchanged, every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c =>
    ⟨(h.1.arr_in c 2 rfl).trans ((A_eq m c 2).trans (V_main_arg0 m c)),
     (h.1.arr_in c 3 rfl).trans ((A_eq m c 3).trans (V_main_arg1 m c)),
     (h.1.arr_in c 4 rfl).trans ((A_eq m c 4).trans (V_main_arg2 m c)),
     ((h.1 c).2 main_arg3 (Pipeline.mem_restRefs_of main_arg3 (by decide) (by decide))).trans (V_main_arg3 m c),
     (h.1.arr_in c 0 rfl).trans ((A_eq m c 0).trans (V_main_arg4 m c)),
     ((h.1 c).2 main_arg5 (Pipeline.mem_restRefs_of main_arg5 (by decide) (by decide))).trans (V_main_arg5 m c),
     (h.1.arr_in c 1 rfl).trans ((A_eq m c 1).trans (V_main_arg6 m c))⟩, h.2⟩) (run_fgt m ρ)

end Cert.OutIdeal.Body

end
-- ==== Proof.OutValue.lean ====
/-
  `Out` over the reals computes its reference: the running sum over the eight column slices is the sum over the whole
  row (`sum_slices`), multiplying it by 1/8192 is dividing it by 8192 (`mean_eq`); so at every point both output tiles,
  on their rows inside the arrays, are the reference's results read through the tile (`cut_hstored`, `cut_fstored`); the
  tiles cover the arrays (`covered7`, `covered8`); so the arrays end holding the reference's results.
-/
module

public import proofs.«01_k».proof.Defs
public import proofs.«01_k».proof.Proof.OutIdealBody
public import proofs.«01_k».proof.Proof.Gen.OutRefIdeal.Value
public import Idealize.ShloMosaic.Lib.Pointwise
public import Idealize.ShloMosaic.Lib.StableHlo.ReadAt

@[expose] public section

set_option maxRecDepth 16384

noncomputable section

namespace Cert.OutIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.OutIdeal.Gen

/-! ## One element of a tile and of the reference's results -/

/-- One element of the sum: the residual `h` plus row `x` of the codes against column `w` of the weights, scaled by `s`
    and the column's scale `sc`. -/
def helem (h : EReal) (x w : Fin 2048 → EReal) (s sc : EReal) : EReal := h + (∑ k, x k * w k) * s * sc

/-- One element of the codes: the sum `h` over the root of its row's mean square (`S` the sum of the row's squares) plus
    epsilon, times the norm's weight, over the scale, clipped. -/
def felem (h S nw sf : EReal) : EReal :=
  min (Ideal.ofBits .f32 0x43E00000#32) (max (Ideal.ofBits .f32 0xC3E00000#32)
    (Ideal.div (Ideal.div h (Ideal.sqrt (Ideal.div S (Ideal.ofBits .f32 0x46000000#32) + Ideal.ofBits .f32 0x3727C5AC#32)) * nw) sf))

/-- A sum over `8 n` columns is the sum over eight slices of the sums over `n`. -/
theorem sum_tiles {N n : ℕ} (h : N = 8 * n) (f : Fin N → EReal) :
    ∑ Q, f Q = ∑ J : Fin 8, ∑ q : Fin n, f ⟨n * J.val + q.val, by have := J.isLt; have := q.isLt; subst h; nlinarith⟩ := by
  subst h
  rw [← Fintype.sum_equiv finProdFinEquiv (fun p => f (finProdFinEquiv p)) f (fun _ => rfl), Fintype.sum_prod_type]
  refine Finset.sum_congr rfl fun J _ => Finset.sum_congr rfl fun q _ => congrArg f (Fin.ext ?_)
  show q.val + n * J.val = n * J.val + q.val
  omega

/-- A sum over 8192 columns is the running sum of the sums over eight slices of 1024. -/
theorem sum_slices (f : Fin 8192 → EReal) :
    ((((((((∑ q : Fin 1024, f ⟨q.val, by omega⟩) + ∑ q : Fin 1024, f ⟨1024 + q.val, by omega⟩)
      + ∑ q : Fin 1024, f ⟨2048 + q.val, by omega⟩) + ∑ q : Fin 1024, f ⟨3072 + q.val, by omega⟩)
      + ∑ q : Fin 1024, f ⟨4096 + q.val, by omega⟩) + ∑ q : Fin 1024, f ⟨5120 + q.val, by omega⟩)
      + ∑ q : Fin 1024, f ⟨6144 + q.val, by omega⟩) + ∑ q : Fin 1024, f ⟨7168 + q.val, by omega⟩) = ∑ Q, f Q := by
  rw [sum_tiles (n := 1024) (by norm_num) f, Fin.sum_univ_eight]
  congr 1

/-- The product with the constant 1/8192 is the quotient by 8192. -/
theorem mean_eq (S : EReal) : S * Ideal.ofBits .f32 0x39000000#32 = Ideal.div S (Ideal.ofBits .f32 0x46000000#32) := by
  have e1 : Ideal.ofBits .f32 0x39000000#32 = ((1 / 8192 : ℝ) : EReal) := by
    simp [Ideal.ofBits, Ideal.ieee, -EReal.coe_mul]; norm_num
  have e2 : Ideal.ofBits .f32 0x46000000#32 = ((8192 : ℝ) : EReal) := by
    simp [Ideal.ofBits, Ideal.ieee, -EReal.coe_mul]; norm_num
  rw [e1, e2, Ideal.div_coe (by norm_num : (8192 : ℝ) ≠ 0)]

section
variable (x0 x1 : Vec Ideal S1 .f32) (x2 : Vec Ideal S192x8192 .bf16) (x3 : Vec Ideal S192x2048 .fp8e4m3)
  (x4 : Vec Ideal S2048x8192 .fp8e4m3) (x5 x6 : Vec Ideal S1x8192 .f32)

/-- Element `(r, Q)` of the sums the body stores. -/
def H (r : Fin 192) (Q : Fin 8192) : EReal :=
  helem (x2 (ix2 r Q)) (fun k => x3 (ix2 r k)) (fun k => x4 (ix2 k Q)) (x0 (ix1 0)) (x5 (ix2 0 Q))

theorem hs0_apply (r : Fin 192) (q : Fin 1024) : hs0 x0 x2 x3 x4 x5 (ix2 r q) = H x0 x2 x3 x4 x5 r ⟨q.val, by omega⟩ := by
  have ex : View.ld x2 rx0 (ix2 r q) = x2 (ix2 r ⟨q.val, by omega⟩) := by
    show x2 _ = x2 _
    congr 1; funext a; apply Fin.ext
    match a with
    | ⟨0, _⟩ => show 0 + 1 * r.val = r.val; omega
    | ⟨1, _⟩ => show 0 + 1 * q.val = q.val; omega
  have ew (k : Fin 2048) : View.ld x4 rw0 (ix2 k q) = x4 (ix2 k ⟨q.val, by omega⟩) := by
    show x4 _ = x4 _
    congr 1; funext a; apply Fin.ext
    match a with
    | ⟨0, _⟩ => show 0 + 1 * k.val = k.val; omega
    | ⟨1, _⟩ => show 0 + 1 * q.val = q.val; omega
  have es : View.ld x5 rs0 (ix2 0 q) = x5 (ix2 0 ⟨q.val, by omega⟩) := by
    show x5 _ = x5 _
    congr 1; funext a; apply Fin.ext
    match a with
    | ⟨0, _⟩ => show 0 + 1 * 0 = 0; omega
    | ⟨1, _⟩ => show 0 + 1 * q.val = q.val; omega
  have eg : View.ld x3 rg = x3 := View.ld_unit_zero zeros2 _ _
  unfold H helem
  rw [← ex, ← es]
  simp only [← ew]
  unfold hs0
  rw [eg]
  generalize View.ld x2 rx0 = y2
  generalize View.ld x4 rw0 = y4
  generalize View.ld x5 rs0 = y5
  pointwise [k0_pay2]
  rw [word_eq x0 (ix1 0)]
theorem hs1_apply (r : Fin 192) (q : Fin 1024) : hs1 x0 x2 x3 x4 x5 (ix2 r q) = H x0 x2 x3 x4 x5 r ⟨1024 + q.val, by omega⟩ := by
  have ex : View.ld x2 rx1 (ix2 r q) = x2 (ix2 r ⟨1024 + q.val, by omega⟩) := by
    show x2 _ = x2 _
    congr 1; funext a; apply Fin.ext
    match a with
    | ⟨0, _⟩ => show 0 + 1 * r.val = r.val; omega
    | ⟨1, _⟩ => show 1024 + 1 * q.val = 1024 + q.val; omega
  have ew (k : Fin 2048) : View.ld x4 rw1 (ix2 k q) = x4 (ix2 k ⟨1024 + q.val, by omega⟩) := by
    show x4 _ = x4 _
    congr 1; funext a; apply Fin.ext
    match a with
    | ⟨0, _⟩ => show 0 + 1 * k.val = k.val; omega
    | ⟨1, _⟩ => show 1024 + 1 * q.val = 1024 + q.val; omega
  have es : View.ld x5 rs1 (ix2 0 q) = x5 (ix2 0 ⟨1024 + q.val, by omega⟩) := by
    show x5 _ = x5 _
    congr 1; funext a; apply Fin.ext
    match a with
    | ⟨0, _⟩ => show 0 + 1 * 0 = 0; omega
    | ⟨1, _⟩ => show 1024 + 1 * q.val = 1024 + q.val; omega
  have eg : View.ld x3 rg = x3 := View.ld_unit_zero zeros2 _ _
  unfold H helem
  rw [← ex, ← es]
  simp only [← ew]
  unfold hs1
  rw [eg]
  generalize View.ld x2 rx1 = y2
  generalize View.ld x4 rw1 = y4
  generalize View.ld x5 rs1 = y5
  pointwise [k0_pay4]
  rw [word_eq x0 (ix1 0)]
theorem hs2_apply (r : Fin 192) (q : Fin 1024) : hs2 x0 x2 x3 x4 x5 (ix2 r q) = H x0 x2 x3 x4 x5 r ⟨2048 + q.val, by omega⟩ := by
  have ex : View.ld x2 rx2 (ix2 r q) = x2 (ix2 r ⟨2048 + q.val, by omega⟩) := by
    show x2 _ = x2 _
    congr 1; funext a; apply Fin.ext
    match a with
    | ⟨0, _⟩ => show 0 + 1 * r.val = r.val; omega
    | ⟨1, _⟩ => show 2048 + 1 * q.val = 2048 + q.val; omega
  have ew (k : Fin 2048) : View.ld x4 rw2 (ix2 k q) = x4 (ix2 k ⟨2048 + q.val, by omega⟩) := by
    show x4 _ = x4 _
    congr 1; funext a; apply Fin.ext
    match a with
    | ⟨0, _⟩ => show 0 + 1 * k.val = k.val; omega
    | ⟨1, _⟩ => show 2048 + 1 * q.val = 2048 + q.val; omega
  have es : View.ld x5 rs2 (ix2 0 q) = x5 (ix2 0 ⟨2048 + q.val, by omega⟩) := by
    show x5 _ = x5 _
    congr 1; funext a; apply Fin.ext
    match a with
    | ⟨0, _⟩ => show 0 + 1 * 0 = 0; omega
    | ⟨1, _⟩ => show 2048 + 1 * q.val = 2048 + q.val; omega
  have eg : View.ld x3 rg = x3 := View.ld_unit_zero zeros2 _ _
  unfold H helem
  rw [← ex, ← es]
  simp only [← ew]
  unfold hs2
  rw [eg]
  generalize View.ld x2 rx2 = y2
  generalize View.ld x4 rw2 = y4
  generalize View.ld x5 rs2 = y5
  pointwise [k0_pay5]
  rw [word_eq x0 (ix1 0)]
theorem hs3_apply (r : Fin 192) (q : Fin 1024) : hs3 x0 x2 x3 x4 x5 (ix2 r q) = H x0 x2 x3 x4 x5 r ⟨3072 + q.val, by omega⟩ := by
  have ex : View.ld x2 rx3 (ix2 r q) = x2 (ix2 r ⟨3072 + q.val, by omega⟩) := by
    show x2 _ = x2 _
    congr 1; funext a; apply Fin.ext
    match a with
    | ⟨0, _⟩ => show 0 + 1 * r.val = r.val; omega
    | ⟨1, _⟩ => show 3072 + 1 * q.val = 3072 + q.val; omega
  have ew (k : Fin 2048) : View.ld x4 rw3 (ix2 k q) = x4 (ix2 k ⟨3072 + q.val, by omega⟩) := by
    show x4 _ = x4 _
    congr 1; funext a; apply Fin.ext
    match a with
    | ⟨0, _⟩ => show 0 + 1 * k.val = k.val; omega
    | ⟨1, _⟩ => show 3072 + 1 * q.val = 3072 + q.val; omega
  have es : View.ld x5 rs3 (ix2 0 q) = x5 (ix2 0 ⟨3072 + q.val, by omega⟩) := by
    show x5 _ = x5 _
    congr 1; funext a; apply Fin.ext
    match a with
    | ⟨0, _⟩ => show 0 + 1 * 0 = 0; omega
    | ⟨1, _⟩ => show 3072 + 1 * q.val = 3072 + q.val; omega
  have eg : View.ld x3 rg = x3 := View.ld_unit_zero zeros2 _ _
  unfold H helem
  rw [← ex, ← es]
  simp only [← ew]
  unfold hs3
  rw [eg]
  generalize View.ld x2 rx3 = y2
  generalize View.ld x4 rw3 = y4
  generalize View.ld x5 rs3 = y5
  pointwise [k0_pay7]
  rw [word_eq x0 (ix1 0)]
theorem hs4_apply (r : Fin 192) (q : Fin 1024) : hs4 x0 x2 x3 x4 x5 (ix2 r q) = H x0 x2 x3 x4 x5 r ⟨4096 + q.val, by omega⟩ := by
  have ex : View.ld x2 rx4 (ix2 r q) = x2 (ix2 r ⟨4096 + q.val, by omega⟩) := by
    show x2 _ = x2 _
    congr 1; funext a; apply Fin.ext
    match a with
    | ⟨0, _⟩ => show 0 + 1 * r.val = r.val; omega
    | ⟨1, _⟩ => show 4096 + 1 * q.val = 4096 + q.val; omega
  have ew (k : Fin 2048) : View.ld x4 rw4 (ix2 k q) = x4 (ix2 k ⟨4096 + q.val, by omega⟩) := by
    show x4 _ = x4 _
    congr 1; funext a; apply Fin.ext
    match a with
    | ⟨0, _⟩ => show 0 + 1 * k.val = k.val; omega
    | ⟨1, _⟩ => show 4096 + 1 * q.val = 4096 + q.val; omega
  have es : View.ld x5 rs4 (ix2 0 q) = x5 (ix2 0 ⟨4096 + q.val, by omega⟩) := by
    show x5 _ = x5 _
    congr 1; funext a; apply Fin.ext
    match a with
    | ⟨0, _⟩ => show 0 + 1 * 0 = 0; omega
    | ⟨1, _⟩ => show 4096 + 1 * q.val = 4096 + q.val; omega
  have eg : View.ld x3 rg = x3 := View.ld_unit_zero zeros2 _ _
  unfold H helem
  rw [← ex, ← es]
  simp only [← ew]
  unfold hs4
  rw [eg]
  generalize View.ld x2 rx4 = y2
  generalize View.ld x4 rw4 = y4
  generalize View.ld x5 rs4 = y5
  pointwise [k0_pay8]
  rw [word_eq x0 (ix1 0)]
theorem hs5_apply (r : Fin 192) (q : Fin 1024) : hs5 x0 x2 x3 x4 x5 (ix2 r q) = H x0 x2 x3 x4 x5 r ⟨5120 + q.val, by omega⟩ := by
  have ex : View.ld x2 rx5 (ix2 r q) = x2 (ix2 r ⟨5120 + q.val, by omega⟩) := by
    show x2 _ = x2 _
    congr 1; funext a; apply Fin.ext
    match a with
    | ⟨0, _⟩ => show 0 + 1 * r.val = r.val; omega
    | ⟨1, _⟩ => show 5120 + 1 * q.val = 5120 + q.val; omega
  have ew (k : Fin 2048) : View.ld x4 rw5 (ix2 k q) = x4 (ix2 k ⟨5120 + q.val, by omega⟩) := by
    show x4 _ = x4 _
    congr 1; funext a; apply Fin.ext
    match a with
    | ⟨0, _⟩ => show 0 + 1 * k.val = k.val; omega
    | ⟨1, _⟩ => show 5120 + 1 * q.val = 5120 + q.val; omega
  have es : View.ld x5 rs5 (ix2 0 q) = x5 (ix2 0 ⟨5120 + q.val, by omega⟩) := by
    show x5 _ = x5 _
    congr 1; funext a; apply Fin.ext
    match a with
    | ⟨0, _⟩ => show 0 + 1 * 0 = 0; omega
    | ⟨1, _⟩ => show 5120 + 1 * q.val = 5120 + q.val; omega
  have eg : View.ld x3 rg = x3 := View.ld_unit_zero zeros2 _ _
  unfold H helem
  rw [← ex, ← es]
  simp only [← ew]
  unfold hs5
  rw [eg]
  generalize View.ld x2 rx5 = y2
  generalize View.ld x4 rw5 = y4
  generalize View.ld x5 rs5 = y5
  pointwise [k0_pay10]
  rw [word_eq x0 (ix1 0)]
theorem hs6_apply (r : Fin 192) (q : Fin 1024) : hs6 x0 x2 x3 x4 x5 (ix2 r q) = H x0 x2 x3 x4 x5 r ⟨6144 + q.val, by omega⟩ := by
  have ex : View.ld x2 rx6 (ix2 r q) = x2 (ix2 r ⟨6144 + q.val, by omega⟩) := by
    show x2 _ = x2 _
    congr 1; funext a; apply Fin.ext
    match a with
    | ⟨0, _⟩ => show 0 + 1 * r.val = r.val; omega
    | ⟨1, _⟩ => show 6144 + 1 * q.val = 6144 + q.val; omega
  have ew (k : Fin 2048) : View.ld x4 rw6 (ix2 k q) = x4 (ix2 k ⟨6144 + q.val, by omega⟩) := by
    show x4 _ = x4 _
    congr 1; funext a; apply Fin.ext
    match a with
    | ⟨0, _⟩ => show 0 + 1 * k.val = k.val; omega
    | ⟨1, _⟩ => show 6144 + 1 * q.val = 6144 + q.val; omega
  have es : View.ld x5 rs6 (ix2 0 q) = x5 (ix2 0 ⟨6144 + q.val, by omega⟩) := by
    show x5 _ = x5 _
    congr 1; funext a; apply Fin.ext
    match a with
    | ⟨0, _⟩ => show 0 + 1 * 0 = 0; omega
    | ⟨1, _⟩ => show 6144 + 1 * q.val = 6144 + q.val; omega
  have eg : View.ld x3 rg = x3 := View.ld_unit_zero zeros2 _ _
  unfold H helem
  rw [← ex, ← es]
  simp only [← ew]
  unfold hs6
  rw [eg]
  generalize View.ld x2 rx6 = y2
  generalize View.ld x4 rw6 = y4
  generalize View.ld x5 rs6 = y5
  pointwise [k0_pay11]
  rw [word_eq x0 (ix1 0)]
theorem hs7_apply (r : Fin 192) (q : Fin 1024) : hs7 x0 x2 x3 x4 x5 (ix2 r q) = H x0 x2 x3 x4 x5 r ⟨7168 + q.val, by omega⟩ := by
  have ex : View.ld x2 rx7 (ix2 r q) = x2 (ix2 r ⟨7168 + q.val, by omega⟩) := by
    show x2 _ = x2 _
    congr 1; funext a; apply Fin.ext
    match a with
    | ⟨0, _⟩ => show 0 + 1 * r.val = r.val; omega
    | ⟨1, _⟩ => show 7168 + 1 * q.val = 7168 + q.val; omega
  have ew (k : Fin 2048) : View.ld x4 rw7 (ix2 k q) = x4 (ix2 k ⟨7168 + q.val, by omega⟩) := by
    show x4 _ = x4 _
    congr 1; funext a; apply Fin.ext
    match a with
    | ⟨0, _⟩ => show 0 + 1 * k.val = k.val; omega
    | ⟨1, _⟩ => show 7168 + 1 * q.val = 7168 + q.val; omega
  have es : View.ld x5 rs7 (ix2 0 q) = x5 (ix2 0 ⟨7168 + q.val, by omega⟩) := by
    show x5 _ = x5 _
    congr 1; funext a; apply Fin.ext
    match a with
    | ⟨0, _⟩ => show 0 + 1 * 0 = 0; omega
    | ⟨1, _⟩ => show 7168 + 1 * q.val = 7168 + q.val; omega
  have eg : View.ld x3 rg = x3 := View.ld_unit_zero zeros2 _ _
  unfold H helem
  rw [← ex, ← es]
  simp only [← ew]
  unfold hs7
  rw [eg]
  generalize View.ld x2 rx7 = y2
  generalize View.ld x4 rw7 = y4
  generalize View.ld x5 rs7 = y5
  pointwise [k0_pay13]
  rw [word_eq x0 (ix1 0)]

/-- The tile of sums, element by element. -/
theorem hstored_apply (r : Fin 192) (Q : Fin 8192) : hstored x0 x2 x3 x4 x5 (ix2 r Q) = H x0 x2 x3 x4 x5 r Q := by
  refine (View.canon_apply_of_pieces (fun y : S192x8192.Idx => H x0 x2 x3 x4 x5 (y (0 : Fin 2)) (y (1 : Fin 2))) (hpieces x0 x2 x3 x4 x5) ?_ (ix2 r Q)
    (hcover x0 x2 x3 x4 x5 (ix2 r Q)))
  intro p hp y
  simp only [hpieces, List.mem_cons, List.not_mem_nil, or_false] at hp
  have hy : ∀ z : S192x1024.Idx, z = ix2 (z (0 : Fin 2)) (z (1 : Fin 2)) := fun z => by
    funext a
    match a with
    | ⟨0, _⟩ => rfl
    | ⟨1, _⟩ => rfl
  rcases hp with rfl | rfl | rfl | rfl | rfl | rfl | rfl | rfl
  · refine Eq.trans (congrArg (hs7 x0 x2 x3 x4 x5) (hy y)) ((hs7_apply x0 x2 x3 x4 x5 _ _).trans ?_)
    congr 1 <;> apply Fin.ext
    · show (y (0 : Fin 2)).val = 0 + 1 * (y (0 : Fin 2)).val; omega
    · show 7168 + (y (1 : Fin 2)).val = 7168 + 1 * (y (1 : Fin 2)).val; omega
  · refine Eq.trans (congrArg (hs6 x0 x2 x3 x4 x5) (hy y)) ((hs6_apply x0 x2 x3 x4 x5 _ _).trans ?_)
    congr 1 <;> apply Fin.ext
    · show (y (0 : Fin 2)).val = 0 + 1 * (y (0 : Fin 2)).val; omega
    · show 6144 + (y (1 : Fin 2)).val = 6144 + 1 * (y (1 : Fin 2)).val; omega
  · refine Eq.trans (congrArg (hs5 x0 x2 x3 x4 x5) (hy y)) ((hs5_apply x0 x2 x3 x4 x5 _ _).trans ?_)
    congr 1 <;> apply Fin.ext
    · show (y (0 : Fin 2)).val = 0 + 1 * (y (0 : Fin 2)).val; omega
    · show 5120 + (y (1 : Fin 2)).val = 5120 + 1 * (y (1 : Fin 2)).val; omega
  · refine Eq.trans (congrArg (hs4 x0 x2 x3 x4 x5) (hy y)) ((hs4_apply x0 x2 x3 x4 x5 _ _).trans ?_)
    congr 1 <;> apply Fin.ext
    · show (y (0 : Fin 2)).val = 0 + 1 * (y (0 : Fin 2)).val; omega
    · show 4096 + (y (1 : Fin 2)).val = 4096 + 1 * (y (1 : Fin 2)).val; omega
  · refine Eq.trans (congrArg (hs3 x0 x2 x3 x4 x5) (hy y)) ((hs3_apply x0 x2 x3 x4 x5 _ _).trans ?_)
    congr 1 <;> apply Fin.ext
    · show (y (0 : Fin 2)).val = 0 + 1 * (y (0 : Fin 2)).val; omega
    · show 3072 + (y (1 : Fin 2)).val = 3072 + 1 * (y (1 : Fin 2)).val; omega
  · refine Eq.trans (congrArg (hs2 x0 x2 x3 x4 x5) (hy y)) ((hs2_apply x0 x2 x3 x4 x5 _ _).trans ?_)
    congr 1 <;> apply Fin.ext
    · show (y (0 : Fin 2)).val = 0 + 1 * (y (0 : Fin 2)).val; omega
    · show 2048 + (y (1 : Fin 2)).val = 2048 + 1 * (y (1 : Fin 2)).val; omega
  · refine Eq.trans (congrArg (hs1 x0 x2 x3 x4 x5) (hy y)) ((hs1_apply x0 x2 x3 x4 x5 _ _).trans ?_)
    congr 1 <;> apply Fin.ext
    · show (y (0 : Fin 2)).val = 0 + 1 * (y (0 : Fin 2)).val; omega
    · show 1024 + (y (1 : Fin 2)).val = 1024 + 1 * (y (1 : Fin 2)).val; omega
  · refine Eq.trans (congrArg (hs0 x0 x2 x3 x4 x5) (hy y)) ((hs0_apply x0 x2 x3 x4 x5 _ _).trans ?_)
    congr 1 <;> apply Fin.ext
    · show (y (0 : Fin 2)).val = 0 + 1 * (y (0 : Fin 2)).val; omega
    · show (y (1 : Fin 2)).val = 0 + 1 * (y (1 : Fin 2)).val; omega

/-- The square of element `(r, Q)`. -/
abbrev H2 (r : Fin 192) (Q : Fin 8192) : EReal := H x0 x2 x3 x4 x5 r Q * H x0 x2 x3 x4 x5 r Q

theorem ss0_apply (r : Fin 192) : ss0 x0 x2 x3 x4 x5 (ix2 r 0) = ∑ q : Fin 1024, H2 x0 x2 x3 x4 x5 r ⟨q.val, by omega⟩ := by
  have e := fun q => hs0_apply x0 x2 x3 x4 x5 r q
  unfold hs0 at e
  unfold ss0 H2
  simp only [← e]
  generalize hk : k0_pay2 (word x0) (View.ld x2 rx0) (View.ld x3 rg) (View.ld x4 rw0) (View.ld x5 rs0) = Y
  unfold k0_pay3
  rw [hk]
  pointwise []

theorem ss2_apply (r : Fin 192) : ss2 x0 x2 x3 x4 x5 (ix2 r 0) = ss0 x0 x2 x3 x4 x5 (ix2 r 0)
    + (∑ q : Fin 1024, H2 x0 x2 x3 x4 x5 r ⟨1024 + q.val, by omega⟩)
    + ∑ q : Fin 1024, H2 x0 x2 x3 x4 x5 r ⟨2048 + q.val, by omega⟩ := by
  have e := fun q => hs2_apply x0 x2 x3 x4 x5 r q
  unfold hs2 at e
  unfold ss2 H2
  simp only [← e, ← hs1_apply]
  generalize hk : k0_pay5 (word x0) (View.ld x2 rx2) (View.ld x3 rg) (View.ld x4 rw2) (View.ld x5 rs2) = Y
  generalize hs1 x0 x2 x3 x4 x5 = Z
  generalize ss0 x0 x2 x3 x4 x5 = W
  unfold k0_pay6
  rw [hk]
  pointwise []

theorem ss4_apply (r : Fin 192) : ss4 x0 x2 x3 x4 x5 (ix2 r 0) = ss2 x0 x2 x3 x4 x5 (ix2 r 0)
    + (∑ q : Fin 1024, H2 x0 x2 x3 x4 x5 r ⟨3072 + q.val, by omega⟩)
    + ∑ q : Fin 1024, H2 x0 x2 x3 x4 x5 r ⟨4096 + q.val, by omega⟩ := by
  have e := fun q => hs4_apply x0 x2 x3 x4 x5 r q
  unfold hs4 at e
  unfold ss4 H2
  simp only [← e, ← hs3_apply]
  generalize hk : k0_pay8 (word x0) (View.ld x2 rx4) (View.ld x3 rg) (View.ld x4 rw4) (View.ld x5 rs4) = Y
  generalize hs3 x0 x2 x3 x4 x5 = Z
  generalize ss2 x0 x2 x3 x4 x5 = W
  unfold k0_pay9
  rw [hk]
  pointwise []

theorem ss6_apply (r : Fin 192) : ss6 x0 x2 x3 x4 x5 (ix2 r 0) = ss4 x0 x2 x3 x4 x5 (ix2 r 0)
    + (∑ q : Fin 1024, H2 x0 x2 x3 x4 x5 r ⟨5120 + q.val, by omega⟩)
    + ∑ q : Fin 1024, H2 x0 x2 x3 x4 x5 r ⟨6144 + q.val, by omega⟩ := by
  have e := fun q => hs6_apply x0 x2 x3 x4 x5 r q
  unfold hs6 at e
  unfold ss6 H2
  simp only [← e, ← hs5_apply]
  generalize hk : k0_pay11 (word x0) (View.ld x2 rx6) (View.ld x3 rg) (View.ld x4 rw6) (View.ld x5 rs6) = Y
  generalize hs5 x0 x2 x3 x4 x5 = Z
  generalize ss4 x0 x2 x3 x4 x5 = W
  unfold k0_pay12
  rw [hk]
  pointwise []

/-- The tile of codes, element by element. -/
theorem fstored_apply (r : Fin 192) (Q : Fin 8192) : fstored x0 x1 x2 x3 x4 x5 x6 (ix2 r Q)
    = felem (H x0 x2 x3 x4 x5 r Q) (∑ Q', H2 x0 x2 x3 x4 x5 r Q') (x6 (ix2 0 Q)) (x1 (ix1 0)) := by
  have e1 : View.ld (hstored x0 x2 x3 x4 x5) rh = hstored x0 x2 x3 x4 x5 := View.ld_unit_zero zeros2 _ _
  have e2 : View.ld x6 rn = x6 := View.ld_unit_zero zeros2 _ _
  rw [← sum_slices, ← ss0_apply, ← ss2_apply, ← ss4_apply, ← ss6_apply, ← hstored_apply x0 x2 x3 x4 x5 r Q]
  unfold fstored felem H2
  rw [e1, e2, ← mean_eq]
  simp only [← hs7_apply]
  generalize hs7 x0 x2 x3 x4 x5 = Z
  generalize ss6 x0 x2 x3 x4 x5 = W
  generalize hstored x0 x2 x3 x4 x5 = Y
  pointwise [k0_pay1]
  rw [word_eq x1 (ix1 0)]

end

section
variable (a0 : Vec Ideal Cert.OutRefIdeal.S5168x8192 .bf16) (a1 : Vec Ideal Cert.OutRefIdeal.S5168x2048 .fp8e4m3)
  (a2 : Vec Ideal Cert.OutRefIdeal.S2048x8192 .fp8e4m3) (a3 : Vec Ideal Cert.OutRefIdeal.S8192 .f32)
  (a4 : Vec Ideal Cert.OutRefIdeal.S1 .f32) (a5 : Vec Ideal Cert.OutRefIdeal.S8192 .f32) (a6 : Vec Ideal Cert.OutRefIdeal.S1 .f32)

theorem G7_apply (r : Fin 5168) (q : Fin 8192) :
    Cert.OutRefIdeal.Value.G7 a0 a1 a2 a3 a4 a5 a6 (ix2 r q)
      = helem (a0 (ix2 r q)) (fun k => a1 (ix2 r k)) (fun k => a2 (ix2 k q)) (a4 (ix1 0)) (a3 (ix1 q)) := by
  pointwise [Cert.OutRefIdeal.Value.G7, Cert.OutRefIdeal.Gen.k0_pay1, helem]

theorem G8_apply (r : Fin 5168) (q : Fin 8192) :
    Cert.OutRefIdeal.Value.G8 a0 a1 a2 a3 a4 a5 a6 (ix2 r q)
      = felem (Cert.OutRefIdeal.Value.G7 a0 a1 a2 a3 a4 a5 a6 (ix2 r q))
          (∑ Q, Cert.OutRefIdeal.Value.G7 a0 a1 a2 a3 a4 a5 a6 (ix2 r Q) * Cert.OutRefIdeal.Value.G7 a0 a1 a2 a3 a4 a5 a6 (ix2 r Q))
          (a5 (ix1 q)) (a6 (ix1 0)) := by
  unfold Cert.OutRefIdeal.Value.G8 Cert.OutRefIdeal.Value.G7 felem
  generalize hY : Cert.OutRefIdeal.Gen.k0_pay1 a0 a1 a2 a4 a3 = Y
  unfold Cert.OutRefIdeal.Gen.k0_pay2
  rw [hY]
  pointwise []

end

/-! ## Where the tiles lie -/

/-- The block indices and the rows inside the arrays, at every point. -/
theorem index0 : ∀ t : Fin cfg0.N, win0_0.index t (0 : Fin 1) = 0 := (by decide +kernel : ∀ t : Fin grid0.N, _)
theorem index1 : ∀ t : Fin cfg0.N, win0_1.index t (0 : Fin 1) = 0 := (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem index3 : ∀ t : Fin cfg0.N, win0_3.index t (0 : Fin 2) = t.val ∧ win0_3.index t (1 : Fin 2) = 0 :=
  (by decide +kernel : ∀ t : Fin grid0.N, _)
theorem index7 : ∀ t : Fin cfg0.N, win0_7.index t (0 : Fin 2) = t.val ∧ win0_7.index t (1 : Fin 2) = 0 :=
  (by decide +kernel : ∀ t : Fin grid0.N, _)
theorem index8 : ∀ t : Fin cfg0.N, win0_8.index t (0 : Fin 2) = t.val ∧ win0_8.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)
theorem rows2 : ∀ t : Fin cfg0.N, win0_2.xsize (grid0.coords t) (0 : Fin 2) = min 192 (5168 - 192 * t.val)
    ∧ win0_2.xsize (grid0.coords t) (1 : Fin 2) = 8192 := (by decide +kernel : ∀ t : Fin grid0.N, _)
theorem rows3 : ∀ t : Fin cfg0.N, win0_3.xsize (grid0.coords t) (0 : Fin 2) = min 192 (5168 - 192 * t.val)
    ∧ win0_3.xsize (grid0.coords t) (1 : Fin 2) = 2048 := (by decide +kernel : ∀ t : Fin grid0.N, _)
theorem rows7 : ∀ t : Fin cfg0.N, win0_7.xsize (grid0.coords t) (0 : Fin 2) = min 192 (5168 - 192 * t.val)
    ∧ win0_7.xsize (grid0.coords t) (1 : Fin 2) = 8192 := (by decide +kernel : ∀ t : Fin grid0.N, _)
theorem rows8 : ∀ t : Fin cfg0.N, win0_8.xsize (grid0.coords t) (0 : Fin 2) = min 192 (5168 - 192 * t.val)
    ∧ win0_8.xsize (grid0.coords t) (1 : Fin 2) = 8192 := (by decide +kernel : ∀ t : Fin grid0.N, _)

variable (m : (ℓ : Loc nD τ sig) → Buf (Elt Ideal) ℓ) (ρ : Dev nD → PrngReg)

/-- The rows of scales and of the norm's weights as the host lays them out: the arguments' entries. -/
theorem V_main_v0 (c : Dev nD) (q : Fin 8192) : V m c main_v0 (ix2 0 q) = m ((c : Thread nD τ).loc main_arg3) (ix1 q) := by
  unfold V
  after_reads_at

theorem V_main_v1 (c : Dev nD) (q : Fin 8192) : V m c main_v1 (ix2 0 q) = m ((c : Thread nD τ).loc main_arg5) (ix1 q) := by
  unfold V
  after_reads_at

theorem iblk0_at (c : Dev nD) (t : Fin cfg0.N) : iblk m c 0 t (ix1 0) = m ((c : Thread nD τ).loc main_arg4) (ix1 0) := by
  rw [← V_main_arg4 m c]
  show V m c main_arg4 (((cfg0.win 0).blk t).view.emb (ix1 0)) = _
  congr 1; funext a; apply Fin.ext
  match a with
  | ⟨0, _⟩ => show win0_0.index t (0 : Fin 1) * 1 + 1 * 0 = 0; rw [index0 t]

theorem iblk1_at (c : Dev nD) (t : Fin cfg0.N) : iblk m c 1 t (ix1 0) = m ((c : Thread nD τ).loc main_arg6) (ix1 0) := by
  rw [← V_main_arg6 m c]
  show V m c main_arg6 (((cfg0.win 1).blk t).view.emb (ix1 0)) = _
  congr 1; funext a; apply Fin.ext
  match a with
  | ⟨0, _⟩ => show win0_1.index t (0 : Fin 1) * 1 + 1 * 0 = 0; rw [index1 t]

theorem fill2_at (c : Dev nD) (t : Fin cfg0.N) (d : Vec Ideal S192x8192 .bf16) (r : Fin 192) (k : Fin 8192)
    (h : 192 * t.val + r.val < 5168) :
    win0_2.fill (grid0.coords t) d (iblk m c 2 t) (ix2 r k) = m ((c : Thread nD τ).loc main_arg0) (ix2 ⟨192 * t.val + r.val, h⟩ k) := by
  have hm : win0_2.moved (grid0.coords t) (ix2 r k) = true := (win0_2.moved_iff _ _).mpr fun a => by
    match a with
    | ⟨0, _⟩ => show r.val < win0_2.xsize (grid0.coords t) (0 : Fin 2); rw [(rows2 t).1]; have := r.isLt; omega
    | ⟨1, _⟩ => show k.val < win0_2.xsize (grid0.coords t) (1 : Fin 2); rw [(rows2 t).2]; exact k.isLt
  unfold Window.fill
  rw [dif_pos hm, ← V_main_arg0 m c]
  show V m c main_arg0 (((cfg0.win 2).blk t).view.emb _) = _
  congr 1; funext a; apply Fin.ext
  match a with
  | ⟨0, _⟩ => show win0_2.index t (0 : Fin 2) * 192 + 1 * r.val = 192 * t.val + r.val; rw [(index2 t).1]; omega
  | ⟨1, _⟩ => show win0_2.index t (1 : Fin 2) * 8192 + 1 * k.val = k.val; rw [(index2 t).2]; omega

theorem fill3_at (c : Dev nD) (t : Fin cfg0.N) (d : Vec Ideal S192x2048 .fp8e4m3) (r : Fin 192) (k : Fin 2048)
    (h : 192 * t.val + r.val < 5168) :
    win0_3.fill (grid0.coords t) d (iblk m c 3 t) (ix2 r k) = m ((c : Thread nD τ).loc main_arg1) (ix2 ⟨192 * t.val + r.val, h⟩ k) := by
  have hm : win0_3.moved (grid0.coords t) (ix2 r k) = true := (win0_3.moved_iff _ _).mpr fun a => by
    match a with
    | ⟨0, _⟩ => show r.val < win0_3.xsize (grid0.coords t) (0 : Fin 2); rw [(rows3 t).1]; have := r.isLt; omega
    | ⟨1, _⟩ => show k.val < win0_3.xsize (grid0.coords t) (1 : Fin 2); rw [(rows3 t).2]; exact k.isLt
  unfold Window.fill
  rw [dif_pos hm, ← V_main_arg1 m c]
  show V m c main_arg1 (((cfg0.win 3).blk t).view.emb _) = _
  congr 1; funext a; apply Fin.ext
  match a with
  | ⟨0, _⟩ => show win0_3.index t (0 : Fin 2) * 192 + 1 * r.val = 192 * t.val + r.val; rw [(index3 t).1]; omega
  | ⟨1, _⟩ => show win0_3.index t (1 : Fin 2) * 2048 + 1 * k.val = k.val; rw [(index3 t).2]; omega

theorem iblk4_at (c : Dev nD) (t : Fin cfg0.N) (k : Fin 2048) (q : Fin 8192) :
    iblk m c 4 t (ix2 k q) = m ((c : Thread nD τ).loc main_arg2) (ix2 k q) := by
  rw [← V_main_arg2 m c]
  show V m c main_arg2 (((cfg0.win 4).blk t).view.emb _) = _
  congr 1; funext a; apply Fin.ext
  match a with
  | ⟨0, _⟩ => show win0_4.index t (0 : Fin 2) * 2048 + 1 * k.val = k.val; rw [(index4 t).1]; omega
  | ⟨1, _⟩ => show win0_4.index t (1 : Fin 2) * 8192 + 1 * q.val = q.val; rw [(index4 t).2]; omega

theorem iblk5_at (c : Dev nD) (t : Fin cfg0.N) (q : Fin 8192) :
    iblk m c 5 t (ix2 0 q) = m ((c : Thread nD τ).loc main_arg3) (ix1 q) := by
  rw [← V_main_v0 m c]
  show V m c main_v0 (((cfg0.win 5).blk t).view.emb _) = _
  congr 1; funext a; apply Fin.ext
  match a with
  | ⟨0, _⟩ => show win0_5.index t (0 : Fin 2) * 1 + 1 * 0 = 0; rw [(index5 t).1]
  | ⟨1, _⟩ => show win0_5.index t (1 : Fin 2) * 8192 + 1 * q.val = q.val; rw [(index5 t).2]; omega

theorem iblk6_at (c : Dev nD) (t : Fin cfg0.N) (q : Fin 8192) :
    iblk m c 6 t (ix2 0 q) = m ((c : Thread nD τ).loc main_arg5) (ix1 q) := by
  rw [← V_main_v1 m c]
  show V m c main_v1 (((cfg0.win 6).blk t).view.emb _) = _
  congr 1; funext a; apply Fin.ext
  match a with
  | ⟨0, _⟩ => show win0_6.index t (0 : Fin 2) * 1 + 1 * 0 = 0; rw [(index6 t).1]
  | ⟨1, _⟩ => show win0_6.index t (1 : Fin 2) * 8192 + 1 * q.val = q.val; rw [(index6 t).2]; omega

/-! ## The output tiles are the reference's results through the tile -/

/-- The reference's results from the kernel's arguments. -/
abbrev Gh (c : Dev nD) : Vec Ideal S5168x8192 .f32 :=
  Cert.OutRefIdeal.Value.G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
abbrev Gf (c : Dev nD) : Vec Ideal S5168x8192 .fp8e4m3 :=
  Cert.OutRefIdeal.Value.G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

theorem H_at (c : Dev nD) (t : Fin cfg0.N) (d : Vec Ideal S192x8192 .bf16) (e : Vec Ideal S192x2048 .fp8e4m3) (r : Fin 192) (q : Fin 8192)
    (h : 192 * t.val + r.val < 5168) :
    H (iblk m c 0 t) (win0_2.fill (grid0.coords t) d (iblk m c 2 t)) (win0_3.fill (grid0.coords t) e (iblk m c 3 t)) (iblk m c 4 t) (iblk m c 5 t) r q
      = Gh m c (ix2 ⟨192 * t.val + r.val, h⟩ q) := by
  refine Eq.trans (?_ : _ = _) (G7_apply _ _ _ _ _ _ _ _ _).symm
  unfold H
  rw [iblk0_at, iblk5_at m c t q, fill2_at m c t d r q h]
  simp only [fill3_at m c t e r _ h, iblk4_at m c t _ q]

theorem hstored_at (c : Dev nD) (t : Fin cfg0.N) (d : Vec Ideal S192x8192 .bf16) (e : Vec Ideal S192x2048 .fp8e4m3) (r : Fin 192) (q : Fin 8192)
    (h : 192 * t.val + r.val < 5168) :
    hstored (iblk m c 0 t) (win0_2.fill (grid0.coords t) d (iblk m c 2 t)) (win0_3.fill (grid0.coords t) e (iblk m c 3 t)) (iblk m c 4 t) (iblk m c 5 t) (ix2 r q)
      = Gh m c (ix2 ⟨192 * t.val + r.val, h⟩ q) :=
  (hstored_apply _ _ _ _ _ r q).trans (H_at m c t d e r q h)

theorem fstored_at (c : Dev nD) (t : Fin cfg0.N) (d : Vec Ideal S192x8192 .bf16) (e : Vec Ideal S192x2048 .fp8e4m3) (r : Fin 192) (q : Fin 8192)
    (h : 192 * t.val + r.val < 5168) :
    fstored (iblk m c 0 t) (iblk m c 1 t) (win0_2.fill (grid0.coords t) d (iblk m c 2 t)) (win0_3.fill (grid0.coords t) e (iblk m c 3 t)) (iblk m c 4 t) (iblk m c 5 t) (iblk m c 6 t) (ix2 r q)
      = Gf m c (ix2 ⟨192 * t.val + r.val, h⟩ q) := by
  refine (fstored_apply _ _ _ _ _ _ _ r q).trans ((?_ : _ = _).trans (G8_apply _ _ _ _ _ _ _ _ _).symm)
  simp only [H2, H_at m c t d e r _ h]
  rw [iblk1_at, iblk6_at m c t q]

/-- A tile that agrees with an array on the rows inside the array is cut to the array's block. -/
theorem cut7_of (t : Fin cfg0.N) (S : Vec Ideal S192x8192 .f32) (A : Vec Ideal S5168x8192 .f32)
    (hA : ∀ (r : Fin 192) (q : Fin 8192) (h : 192 * t.val + r.val < 5168), S (ix2 r q) = A (ix2 ⟨192 * t.val + r.val, h⟩ q)) :
    win0_7.cut (grid0.coords t) S = (win0_7.blk t).view.read (Elt Ideal) A := by
  funext j
  have hlt : ∀ a, (j a).val < win0_7.xsize (grid0.coords t) a := fun a => (j a).isLt
  have h0 := lt_of_lt_of_eq (hlt (0 : Fin 2)) (rows7 t).1
  have h1 := lt_of_lt_of_eq (hlt (1 : Fin 2)) (rows7 t).2
  have hr : 192 * t.val + (j (0 : Fin 2)).val < 5168 := by omega
  refine Eq.trans (?_ : _ = _) ((hA ⟨(j (0 : Fin 2)).val, by omega⟩ ⟨(j (1 : Fin 2)).val, h1⟩ hr).trans ?_)
  · show S (win0_7.xinj (grid0.coords t) j) = _
    congr 1; funext a
    match a with
    | ⟨0, _⟩ => rfl
    | ⟨1, _⟩ => rfl
  · show A _ = A (((cfg0.win 7).blk t).view.emb j)
    congr 1; funext a; apply Fin.ext
    match a with
    | ⟨0, _⟩ =>
      show 192 * t.val + (j (0 : Fin 2)).val = win0_7.index t (0 : Fin 2) * 192 + 1 * (j (0 : Fin 2)).val
      rw [(index7 t).1]; omega
    | ⟨1, _⟩ =>
      show (j (1 : Fin 2)).val = win0_7.index t (1 : Fin 2) * 8192 + 1 * (j (1 : Fin 2)).val
      rw [(index7 t).2]; omega

/-- Whatever the tiles of the residual and of the gated codes hold past the arrays' end, the output tile inside the
    array is the reference's result. -/
theorem cut_hstored (c : Dev nD) (t : Fin cfg0.N) (d : Vec Ideal S192x8192 .bf16) (e : Vec Ideal S192x2048 .fp8e4m3) :
    win0_7.cut (grid0.coords t)
        (hstored (iblk m c 0 t) (win0_2.fill (grid0.coords t) d (iblk m c 2 t)) (win0_3.fill (grid0.coords t) e (iblk m c 3 t)) (iblk m c 4 t) (iblk m c 5 t))
      = (win0_7.blk t).view.read (Elt Ideal) (Gh m c) :=
  cut7_of t _ _ (hstored_at m c t d e)

/-- A tile that agrees with an array on the rows inside the array is cut to the array's block. -/
theorem cut8_of (t : Fin cfg0.N) (S : Vec Ideal S192x8192 .fp8e4m3) (A : Vec Ideal S5168x8192 .fp8e4m3)
    (hA : ∀ (r : Fin 192) (q : Fin 8192) (h : 192 * t.val + r.val < 5168), S (ix2 r q) = A (ix2 ⟨192 * t.val + r.val, h⟩ q)) :
    win0_8.cut (grid0.coords t) S = (win0_8.blk t).view.read (Elt Ideal) A := by
  funext j
  have hlt : ∀ a, (j a).val < win0_8.xsize (grid0.coords t) a := fun a => (j a).isLt
  have h0 := lt_of_lt_of_eq (hlt (0 : Fin 2)) (rows8 t).1
  have h1 := lt_of_lt_of_eq (hlt (1 : Fin 2)) (rows8 t).2
  have hr : 192 * t.val + (j (0 : Fin 2)).val < 5168 := by omega
  refine Eq.trans (?_ : _ = _) ((hA ⟨(j (0 : Fin 2)).val, by omega⟩ ⟨(j (1 : Fin 2)).val, h1⟩ hr).trans ?_)
  · show S (win0_8.xinj (grid0.coords t) j) = _
    congr 1; funext a
    match a with
    | ⟨0, _⟩ => rfl
    | ⟨1, _⟩ => rfl
  · show A _ = A (((cfg0.win 8).blk t).view.emb j)
    congr 1; funext a; apply Fin.ext
    match a with
    | ⟨0, _⟩ =>
      show 192 * t.val + (j (0 : Fin 2)).val = win0_8.index t (0 : Fin 2) * 192 + 1 * (j (0 : Fin 2)).val
      rw [(index8 t).1]; omega
    | ⟨1, _⟩ =>
      show (j (1 : Fin 2)).val = win0_8.index t (1 : Fin 2) * 8192 + 1 * (j (1 : Fin 2)).val
      rw [(index8 t).2]; omega

/-- Whatever the tiles of the residual and of the gated codes hold past the arrays' end, the output tile inside the
    array is the reference's result. -/
theorem cut_fstored (c : Dev nD) (t : Fin cfg0.N) (d : Vec Ideal S192x8192 .bf16) (e : Vec Ideal S192x2048 .fp8e4m3) :
    win0_8.cut (grid0.coords t)
        (fstored (iblk m c 0 t) (iblk m c 1 t) (win0_2.fill (grid0.coords t) d (iblk m c 2 t)) (win0_3.fill (grid0.coords t) e (iblk m c 3 t)) (iblk m c 4 t) (iblk m c 5 t) (iblk m c 6 t))
      = (win0_8.blk t).view.read (Elt Ideal) (Gf m c) :=
  cut8_of t _ _ (fstored_at m c t d e)

/-! ## The run -/

/-- What the body finds in the output buffers is nothing in particular. -/
theorem body_obligation (c : Dev nD) :
    BodyObligationLoose (dats (F := Ideal) m 0 c) (defs₀ (F := Ideal)) Variants.none () Set.univ := fun t => by
  rw [bigSep_W0, bigSep_W0, defs₀_row]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0_0 m c t d0, before0_1 m c t d1, before0_2 m c t d2, before0_3 m c t d3, before0_4 m c t d4, before0_5 m c t d5, before0_6 m c t d6]
  iapply (sound_kernel c Set.univ _ _ _ _ _ _ _ _ _ _ _ _ _ _ _ _ _ _ _ (iblk m c 0 t) (iblk m c 1 t) (win0_2.fill (grid0.coords t) d2 (iblk m c 2 t)) (win0_3.fill (grid0.coords t) d3 (iblk m c 3 t)) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]
  · iexists d2
    change _ ⊢ owns (c : Thread nD τ) (stage0_2 (cfg0.slots t 2)) fullShare (win0_2.fill (grid0.coords t) d2 (win0_2.cut (grid0.coords t) ((dats m 0 c).after 2 t)))
    rw [after0_2, cut_xtile]
  isplitl [H3]
  · iexists d3
    change _ ⊢ owns (c : Thread nD τ) (stage0_3 (cfg0.slots t 3)) fullShare (win0_3.fill (grid0.coords t) d3 (win0_3.cut (grid0.coords t) ((dats m 0 c).after 3 t)))
    rw [after0_3, cut_gtile]
  isplitl [H4]; · iexact H4
  isplitl [H5]; · iexact H5
  isplitl [H6]; · iexact H6
  isplitl [H7]
  · iexists _
    change _ ⊢ owns (c : Thread nD τ) (stage0_7 (cfg0.slots t 7)) fullShare (win0_7.fill (grid0.coords t) _ (win0_7.cut (grid0.coords t) ((dats m 0 c).after 7 t)))
    rw [after0_7, show win0_7.cut (grid0.coords t) (htile m c t) = _ from (cut_hstored m c t _ _).trans (cut_hstored m c t d2 d3).symm,
      win0_7.fill_cut]
  iexists _
  change _ ⊢ owns (c : Thread nD τ) (stage0_8 (cfg0.slots t 8)) fullShare (win0_8.fill (grid0.coords t) _ (win0_8.cut (grid0.coords t) ((dats m 0 c).after 8 t)))
  rw [after0_8, show win0_8.cut (grid0.coords t) (ftile m c t) = _ from (cut_fstored m c t _ _).trans (cut_fstored m c t d2 d3).symm,
    win0_8.fill_cut]

set_option backward.isDefEq.respectTransparency.types false in
set_option maxHeartbeats 800000 in
theorem run_main : θ_run defs (onTc (τ := τ) (main (F := Ideal))) (s₀ m ρ) (Pipeline.FramePost cfgs (dats m) 0 (V m)) :=
  Pipeline.θ_run_frame (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

/-- The tiles cover the sums. -/
theorem covered7 (i : S5168x8192.Idx) :
    ∃ t : Fin cfg0.N, (cfg0.win 7).flush t = true ∧ i ∈ ((cfg0.win 7).blk t).view.set := by
  have h0 : (i (0 : Fin 2)).val < 5168 := (i (0 : Fin 2)).isLt
  have h1 : (i (1 : Fin 2)).val < 8192 := (i (1 : Fin 2)).isLt
  have hN : (i (0 : Fin 2)).val / 192 < 27 := by omega
  refine ⟨(⟨(i (0 : Fin 2)).val / 192, hN⟩ : Fin cfg0.N), flush0_7 _, ?_⟩
  generalize ht : (⟨(i (0 : Fin 2)).val / 192, hN⟩ : Fin cfg0.N) = t
  have e : t.val = (i (0 : Fin 2)).val / 192 := by rw [← ht]
  show i ∈ ((View.whole main_v2_0).slice (win0_7.rect t)).set
  rw [View.set_slice_whole, Rect.mem_set_unit]
  intro a
  match a with
  | ⟨0, _⟩ =>
    show win0_7.index t (0 : Fin 2) * 192 ≤ (i (0 : Fin 2)).val ∧ (i (0 : Fin 2)).val < win0_7.index t (0 : Fin 2) * 192 + win0_7.xsize (grid0.coords t) (0 : Fin 2)
    rw [(index7 t).1, (rows7 t).1]; omega
  | ⟨1, _⟩ =>
    show win0_7.index t (1 : Fin 2) * 8192 ≤ (i (1 : Fin 2)).val ∧ (i (1 : Fin 2)).val < win0_7.index t (1 : Fin 2) * 8192 + win0_7.xsize (grid0.coords t) (1 : Fin 2)
    rw [(index7 t).2, (rows7 t).2]; omega

/-- The tiles cover the codes. -/
theorem covered8 (i : S5168x8192.Idx) :
    ∃ t : Fin cfg0.N, (cfg0.win 8).flush t = true ∧ i ∈ ((cfg0.win 8).blk t).view.set := by
  have h0 : (i (0 : Fin 2)).val < 5168 := (i (0 : Fin 2)).isLt
  have h1 : (i (1 : Fin 2)).val < 8192 := (i (1 : Fin 2)).isLt
  have hN : (i (0 : Fin 2)).val / 192 < 27 := by omega
  refine ⟨(⟨(i (0 : Fin 2)).val / 192, hN⟩ : Fin cfg0.N), flush0_8 _, ?_⟩
  generalize ht : (⟨(i (0 : Fin 2)).val / 192, hN⟩ : Fin cfg0.N) = t
  have e : t.val = (i (0 : Fin 2)).val / 192 := by rw [← ht]
  show i ∈ ((View.whole main_v2_1).slice (win0_8.rect t)).set
  rw [View.set_slice_whole, Rect.mem_set_unit]
  intro a
  match a with
  | ⟨0, _⟩ =>
    show win0_8.index t (0 : Fin 2) * 192 ≤ (i (0 : Fin 2)).val ∧ (i (0 : Fin 2)).val < win0_8.index t (0 : Fin 2) * 192 + win0_8.xsize (grid0.coords t) (0 : Fin 2)
    rw [(index8 t).1, (rows8 t).1]; omega
  | ⟨1, _⟩ =>
    show win0_8.index t (1 : Fin 2) * 8192 ≤ (i (1 : Fin 2)).val ∧ (i (1 : Fin 2)).val < win0_8.index t (1 : Fin 2) * 8192 + win0_8.xsize (grid0.coords t) (1 : Fin 2)
    rw [(index8 t).2, (rows8 t).2]; omega

/-- The array of sums ends holding the reference's result. -/
theorem final7 (c : Dev nD) : (dats m 0 c).arrAt 7 cfg0.N = Gh m c :=
  (dats m 0 c).arrAt_eq_of_cover 7 (Gh m c) (fun t _ => by
    show win0_7.cut (grid0.coords t) ((dats m 0 c).after 7 t) = _
    rw [after0_7]; exact cut_hstored m c t _ _) covered7

/-- The array of codes ends holding the reference's result. -/
theorem final8 (c : Dev nD) : (dats m 0 c).arrAt 8 cfg0.N = Gf m c :=
  (dats m 0 c).arrAt_eq_of_cover 8 (Gf m c) (fun t _ => by
    show win0_8.cut (grid0.coords t) ((dats m 0 c).after 8 t) = _
    rw [after0_8]; exact cut_fstored m c t _ _) covered8

/-- The kernel's run: the results are the reference's, the arguments are unchanged. -/
theorem run : θ_run defs (onTc (τ := τ) (main (F := Ideal))) ⟨m, fun _ => 0, ρ⟩ (fun r => ∀ c : Dev nD,
      r.2.mem ((c.tc : Thread nD τ).loc main_v2_0) = Gh m c
      ∧ r.2.mem ((c.tc : Thread nD τ).loc main_v2_1) = Gf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 7).trans (final7 m c), ((h.1 c).1 8).trans (final8 m c), h.2 c⟩)
    (θ_run_and (run_main m ρ) (frame_of m ρ (dats m) (A_eq m) (run_main m ρ)))

/-- `Out` over the reals is its reference. -/
theorem algebraic : Cert.algebraic_OutIdeal_OutRefIdeal := by
  intro m g m' g' _ hm
  refine ⟨fun c => Gh m c, fun c => Gf m c, run m g, ?_⟩
  refine (θ_run Cert.OutRefIdeal.defs _ _).mono (fun r h c => ⟨(h c).1.trans ?_, (h c).2.1.trans ?_, (h c).2.2⟩) (Cert.OutRefIdeal.Value.run m' g')
  all_goals
    obtain ⟨e0, e1, e2, e3, e4, e5, e6⟩ := hm c
    rw [e0, e1, e2, e3, e4, e5, e6]

end Cert.OutIdeal.Body

end
-- ==== Proof.InBody.lean ====
/-
  The body of `In` (the first norm and the input projection), on any staging buffers, at any float reading.

  One grid point of `In` normalises and quantises one 96-row chunk of the input into the codes result and into one of the
  two slots of the scratch buffer; from the second row of the grid on it also multiplies the 864 rows of codes in the
  OTHER slot by a tile of the weights and scales the product. Which results a point stores depends on the point: the four
  cases are `sound_norm` (first grid row: codes only), `sound_first` (the first tile of the gate and the step sizes),
  `sound_gate` (the gate's other tiles) and `sound_conv` (the convolution's tiles). The buffers may reach past the array's
  end and the scratch buffer holds anything at first; the triples are stated for any contents.
-/
module

public import proofs.«01_k».proof.Proof.Gen.In.Frame
public import proofs.«01_k».proof.Proof.Gen.In.Points
public import proofs.«01_k».proof.Proof.Gen.In.Skeleton
public import Idealize.ShloMosaic.Lib.Pipeline.Value
public import Idealize.ShloMosaic.Lib.VecWindow

@[expose] public section

set_option maxRecDepth 16384

noncomputable section

namespace Cert.In.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.In.Gen

variable {F : FTy → Type} [FloatOps F]

local notation "𝕄" => MT nD τ sig Unit (Elt F) ℕ (UR sig nD τ) ℕ

/-- A rank-2 zero offset. -/
theorem zeros2 : (![0, 0] : Fin 2 → ℕ) = fun _ => 0 := by funext a; fin_cases a <;> rfl

theorem zeros1 : (![0] : Fin 1 → ℕ) = fun _ => 0 := by funext a; fin_cases a; rfl

/-- The one entry of a one-entry buffer. -/
def word (x : Vec F S1 .f32) : Elt F .f32 := x (fun a => ⟨0, by have : a = 0 := Subsingleton.elim _ _; subst this; exact Nat.one_pos⟩)

/-- A one-entry buffer has one index. -/
theorem word_eq (x : Vec F S1 .f32) (j : S1.Idx) : word x = x j := by
  unfold word; congr 1; funext a
  have ha : a = 0 := Subsingleton.elim _ _
  subst ha; exact Fin.ext (by have := (j 0).isLt; change _ < 1 at this; change 0 = (j 0).val; omega)

/-! ## What the body stores -/

/-- The offsets in the scratch buffer, in closed form: a chunk is stored in the slot of the grid row's parity, at the
    chunk's rows; the slot read is the other one. -/
instance closed1 (i : grid0.Coords) : ClosedOff (k0_off1 i) := ⟨![(i 0).val % 2, 96 * (i 1).val, 0], by revert i; decide +kernel⟩
instance closed2 (i : grid0.Coords) : ClosedOff (k0_off2 i) := ⟨![(i 0).val % 2, 96 * (i 1).val, 0], by revert i; decide +kernel⟩
instance closed4 (i : grid0.Coords) : ClosedOff (k0_off4 i) := ⟨![(i 0).val % 2, 96 * (i 1).val, 0], by revert i; decide +kernel⟩
instance closed3 (i : grid0.Coords) : ClosedOff (k0_off3 i) := ⟨![((i 0).val + 1) % 2, 0, 0], by revert i; decide +kernel⟩
instance closed5 (i : grid0.Coords) : ClosedOff (k0_off5 i) := ⟨![((i 0).val + 1) % 2, 0, 0], by revert i; decide +kernel⟩
instance closed6 (i : grid0.Coords) : ClosedOff (k0_off6 i) := ⟨![((i 0).val + 1) % 2, 0, 0], by revert i; decide +kernel⟩

/-- The first 32 entries of the row of scales the step sizes' block brings in. -/
abbrev rd : Rect S1x128 := Rect.unit (s := S1x128) ![0, 0] S1x32.size inb_S1x128_S1x32_0_0

/-- The chunk of codes. -/
def qstored (x0 : Vec F S1 .f32) (x1 : Vec F S96x8192 .bf16) (x2 : Vec F S1x8192 .f32) : Vec F S96x8192 .fp8e4m3 :=
  k0_pay7 (word x0) x1 x2

/-- The scratch buffer after the chunk `q` is stored at offsets `off`. -/
def sput (S : Vec F S2x864x8192 .fp8e4m3) (off : Fin 3 → ℕ) (q : Vec F S96x8192 .fp8e4m3) : Vec F S2x864x8192 .fp8e4m3 :=
  VecWindow.put (s := S2x864x8192) S off S1x96x8192.size (k0_pay1 q)

/-- A tile of the projection: the codes `a` times the tile `x3` of the weights, scaled. -/
def pstored (x0 : Vec F S1 .f32) (a : Vec F S1x864x8192 .fp8e4m3) (x3 : Vec F S512x8192 .fp8e4m3) (x4 : Vec F S1x512 .f32) : Vec F S864x512 .f32 :=
  k0_pay3 (word x0) a x3 x4

/-- The tile of step sizes: 32 columns of the projection, then 96 columns of zeros. -/
def dstored (x0 : Vec F S1 .f32) (a : Vec F S1x864x8192 .fp8e4m3) (x5 : Vec F S32x8192 .fp8e4m3) (x6 : Vec F S1x128 .f32) : Vec F S864x128 .f32 :=
  k0_pay6 (word x0) a x5 (View.ld x6 rd)

/-- The slot of the scratch buffer a point reads, as the kernel computes its offsets in each of its branches. -/
abbrev slot3 (i : grid0.Coords) (h : k0_cond2 i = 1#1) : Rect S2x864x8192 := Rect.unit (s := S2x864x8192) (k0_off3 i) S1x864x8192.size (k0_off3_inb i h)
abbrev slot5 (i : grid0.Coords) (h : k0_cond3 i = 1#1) : Rect S2x864x8192 := Rect.unit (s := S2x864x8192) (k0_off5 i) S1x864x8192.size (k0_off5_inb i h)
abbrev slot6 (i : grid0.Coords) (h : k0_cond4 i = 1#1) : Rect S2x864x8192 := Rect.unit (s := S2x864x8192) (k0_off6 i) S1x864x8192.size (k0_off6_inb i h)

set_option maxHeartbeats 4000000 in
/-- A point of the first grid row: the chunk of codes is stored, in the result and in the scratch buffer. -/
theorem sound_norm (c : Dev nD) (E : Set ℕ) (i : grid0.Coords) (arg2 : Memref sig .tc .smem S1 .f32) (harg2 : arg2.IsWhole) (arg3 : Memref sig .tc .vmem S96x8192 .bf16) (harg3 : arg3.IsWhole) (arg4 : Memref sig .tc .vmem S1x8192 .f32) (harg4 : arg4.IsWhole) (arg5 : Memref sig .tc .vmem S512x8192 .fp8e4m3) (harg5 : arg5.IsWhole) (arg6 : Memref sig .tc .vmem S1x512 .f32) (harg6 : arg6.IsWhole) (arg7 : Memref sig .tc .vmem S32x8192 .fp8e4m3) (harg7 : arg7.IsWhole) (arg8 : Memref sig .tc .vmem S1x128 .f32) (harg8 : arg8.IsWhole) (arg9 : Memref sig .tc .vmem S96x8192 .fp8e4m3) (harg9 : arg9.IsWhole) (arg10 : Memref sig .tc .vmem S864x512 .f32) (harg10 : arg10.IsWhole) (arg11 : Memref sig .tc .vmem S864x512 .f32) (harg11 : arg11.IsWhole) (arg12 : Memref sig .tc .vmem S864x128 .f32) (harg12 : arg12.IsWhole) (arg13 : Memref sig .tc .vmem S2x864x8192 .fp8e4m3) (harg13 : arg13.IsWhole)
    (h1 : k0_cond1 i = 1#1) (h2 : ¬ k0_cond2 i = 1#1) (h3 : ¬ k0_cond3 i = 1#1) (h4 : ¬ k0_cond4 i = 1#1)
    (x0 : Vec F S1 .f32) (x1 : Vec F S96x8192 .bf16) (x2 : Vec F S1x8192 .f32) (s : Vec F S2x864x8192 .fp8e4m3) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg9 fullShare d) ∗ owns (c : Thread nD τ) arg13 fullShare s
        ∗ (iprop(owns (c : Thread nD τ) arg2 fullShare x0 ∗ owns (c : Thread nD τ) arg3 fullShare x1 ∗ owns (c : Thread nD τ) arg4 fullShare x2 ∗ owns (c : Thread nD τ) arg9 fullShare (qstored x0 x1 x2) ∗ owns (c : Thread nD τ) arg13 fullShare (sput s (k0_off1 i) (qstored x0 x1 x2))) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13) K := by
  simp only [cc0_in_proj_eq_skeleton]; unfold cc0_in_proj_skel
  simp only [dif_pos h1, dif_neg h2, dif_neg h3, dif_neg h4, k0_part1_eq_skeleton]
  unfold owns
  iintro ⟨⟨%f0, %hf0, H0⟩, ⟨%f1, %hf1, H1⟩, ⟨%f2, %hf2, H2⟩, ⟨%d7, %f7, -, H7⟩, ⟨%fs, %hfs, Hs⟩, Hk⟩
  subst hf0 hf1 hf2 hfs
  sl_exec
  sl_step
  have hw0 (h : 0 < S1.numel) : View.readAt (Elt F) arg2.view (Rect.unit ![0] S1.size inb_S1_S1_0).toLoadRect f0 (Shape.Idx.first h)
      = word (View.read (Elt F) arg2.view f0) := by
    rw [View.readAt_eq_ld, View.ld_unit_zero zeros1]
    exact (word_eq _ _).symm
  iapply Hk
  have r1 : View.readAt (Elt F) arg3.view (Rect.unit ![0, 0] ![96, 8192] inb_S96x8192_S96x8192_0_0).toLoadRect f1 = View.read (Elt F) arg3.view f1 :=
    View.readAt_full _ _ _
  have r2 : View.readAt (Elt F) arg4.view (Rect.unit ![0, 0] ![1, 8192] inb_S1x8192_S1x8192_0_0).toLoadRect f2 = View.read (Elt F) arg4.view f2 :=
    View.readAt_full _ _ _
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H7]
  · iexists _; isplitr
    swap; · iexact H7
    ipureintro
    refine (View.read_writes_full _ _ _ _ _).trans ?_
    sl_unfold_run_names
    simp only [hw0, r1, r2]
    rfl
  iexists _; isplitr
  swap; · iexact Hs
  ipureintro
  sl_unfold_run_names
  simp only [hw0, r1, r2]
  exact View.read_writes_cons_put _ _ _ _ _ rfl

set_option maxHeartbeats 4000000 in
/-- The first point of a later grid row: the chunk of codes, the first tile of the gate, the tile of step sizes. -/
theorem sound_first (c : Dev nD) (E : Set ℕ) (i : grid0.Coords) (arg2 : Memref sig .tc .smem S1 .f32) (harg2 : arg2.IsWhole) (arg3 : Memref sig .tc .vmem S96x8192 .bf16) (harg3 : arg3.IsWhole) (arg4 : Memref sig .tc .vmem S1x8192 .f32) (harg4 : arg4.IsWhole) (arg5 : Memref sig .tc .vmem S512x8192 .fp8e4m3) (harg5 : arg5.IsWhole) (arg6 : Memref sig .tc .vmem S1x512 .f32) (harg6 : arg6.IsWhole) (arg7 : Memref sig .tc .vmem S32x8192 .fp8e4m3) (harg7 : arg7.IsWhole) (arg8 : Memref sig .tc .vmem S1x128 .f32) (harg8 : arg8.IsWhole) (arg9 : Memref sig .tc .vmem S96x8192 .fp8e4m3) (harg9 : arg9.IsWhole) (arg10 : Memref sig .tc .vmem S864x512 .f32) (harg10 : arg10.IsWhole) (arg11 : Memref sig .tc .vmem S864x512 .f32) (harg11 : arg11.IsWhole) (arg12 : Memref sig .tc .vmem S864x128 .f32) (harg12 : arg12.IsWhole) (arg13 : Memref sig .tc .vmem S2x864x8192 .fp8e4m3) (harg13 : arg13.IsWhole)
    (h1 : ¬ k0_cond1 i = 1#1) (h2 : k0_cond2 i = 1#1) (h3 : ¬ k0_cond3 i = 1#1) (h4 : k0_cond4 i = 1#1)
    (x0 : Vec F S1 .f32) (x1 : Vec F S96x8192 .bf16) (x2 : Vec F S1x8192 .f32) (x3 : Vec F S512x8192 .fp8e4m3) (x4 : Vec F S1x512 .f32) (x5 : Vec F S32x8192 .fp8e4m3) (x6 : Vec F S1x128 .f32) (s : Vec F S2x864x8192 .fp8e4m3) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg12 fullShare d) ∗ owns (c : Thread nD τ) arg13 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (qstored x0 x1 x2) ∗ owns (c : Thread nD τ) arg10 fullShare (pstored x0 (View.ld (sput s (k0_off2 i) (qstored x0 x1 x2)) (slot3 i h2)) x3 x4) ∗ owns (c : Thread nD τ) arg12 fullShare (dstored x0 (View.ld (sput s (k0_off2 i) (qstored x0 x1 x2)) (slot6 i h4)) x5 x6) ∗ owns (c : Thread nD τ) arg13 fullShare (sput s (k0_off2 i) (qstored x0 x1 x2))) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13) K := by
  simp only [cc0_in_proj_eq_skeleton]; unfold cc0_in_proj_skel
  simp only [dif_neg h1, dif_pos h2, dif_neg h3, dif_pos h4, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d10, %f10, -, H10⟩, ⟨%fs, %hfs, Hs⟩, Hk⟩
  subst hf0 hf1 hf2 hf3 hf4 hf5 hf6 hfs
  sl_exec
  sl_step
  have hw0 (h : 0 < S1.numel) : View.readAt (Elt F) arg2.view (Rect.unit ![0] S1.size inb_S1_S1_0).toLoadRect f0 (Shape.Idx.first h)
      = word (View.read (Elt F) arg2.view f0) := by
    rw [View.readAt_eq_ld, View.ld_unit_zero zeros1]
    exact (word_eq _ _).symm
  iapply Hk
  have r1 : View.readAt (Elt F) arg3.view (Rect.unit ![0, 0] ![96, 8192] inb_S96x8192_S96x8192_0_0).toLoadRect f1 = View.read (Elt F) arg3.view f1 :=
    View.readAt_full _ _ _
  have r2 : View.readAt (Elt F) arg4.view (Rect.unit ![0, 0] ![1, 8192] inb_S1x8192_S1x8192_0_0).toLoadRect f2 = View.read (Elt F) arg4.view f2 :=
    View.readAt_full _ _ _
  have r3 : View.readAt (Elt F) arg5.view (Rect.unit ![0, 0] ![512, 8192] inb_S512x8192_S512x8192_0_0).toLoadRect f3 = View.read (Elt F) arg5.view f3 :=
    View.readAt_full _ _ _
  have r4 : View.readAt (Elt F) arg6.view (Rect.unit ![0, 0] ![1, 512] inb_S1x512_S1x512_0_0).toLoadRect f4 = View.read (Elt F) arg6.view f4 :=
    View.readAt_full _ _ _
  have r5 : View.readAt (Elt F) arg7.view (Rect.unit ![0, 0] ![32, 8192] inb_S32x8192_S32x8192_0_0).toLoadRect f5 = View.read (Elt F) arg7.view f5 :=
    View.readAt_full _ _ _
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_full _ _ _ _ _).trans ?_
    sl_unfold_run_names
    simp only [hw0, r1, r2, r3, r4, r5]
    rfl
  isplitl [H8]
  · iexists _; isplitr
    swap; · iexact H8
    ipureintro
    refine (View.read_writes_full _ _ _ _ _).trans ?_
    sl_unfold_run_names
    simp only [hw0, r1, r2, r3, r4, r5]
    rw [View.readAt_eq_ld]
    have hs : View.read (Elt F) arg13.view (arg13.view.writes (Elt F) fs [⟨Rect.unit (k0_off2 i) ![1, 96, 8192] (k0_off2_inb i h2), k0_pay1 (qstored (View.read (Elt F) arg2.view f0) (View.read (Elt F) arg3.view f1) (View.read (Elt F) arg4.view f2))⟩])
        = sput (View.read (Elt F) arg13.view fs) (k0_off2 i) (qstored (View.read (Elt F) arg2.view f0) (View.read (Elt F) arg3.view f1) (View.read (Elt F) arg4.view f2)) := View.read_writes_cons_put _ _ _ _ _ rfl
    rw [← hs]
    rfl
  isplitl [H10]
  · iexists _; isplitr
    swap; · iexact H10
    ipureintro
    refine (View.read_writes_full _ _ _ _ _).trans ?_
    sl_unfold_run_names
    simp only [hw0, r1, r2, r3, r4, r5]
    rw [View.readAt_eq_ld]
    have hs : View.read (Elt F) arg13.view (arg13.view.writes (Elt F) fs [⟨Rect.unit (k0_off2 i) ![1, 96, 8192] (k0_off2_inb i h2), k0_pay1 (qstored (View.read (Elt F) arg2.view f0) (View.read (Elt F) arg3.view f1) (View.read (Elt F) arg4.view f2))⟩])
        = sput (View.read (Elt F) arg13.view fs) (k0_off2 i) (qstored (View.read (Elt F) arg2.view f0) (View.read (Elt F) arg3.view f1) (View.read (Elt F) arg4.view f2)) := View.read_writes_cons_put _ _ _ _ _ rfl
    rw [← hs]
    rfl
  iexists _; isplitr
  swap; · iexact Hs
  ipureintro
  sl_unfold_run_names
  simp only [hw0, r1, r2, r3, r4, r5]
  exact View.read_writes_cons_put _ _ _ _ _ rfl

set_option maxHeartbeats 4000000 in
/-- The next three points of a later grid row: the chunk of codes and a tile of the gate. -/
theorem sound_gate (c : Dev nD) (E : Set ℕ) (i : grid0.Coords) (arg2 : Memref sig .tc .smem S1 .f32) (harg2 : arg2.IsWhole) (arg3 : Memref sig .tc .vmem S96x8192 .bf16) (harg3 : arg3.IsWhole) (arg4 : Memref sig .tc .vmem S1x8192 .f32) (harg4 : arg4.IsWhole) (arg5 : Memref sig .tc .vmem S512x8192 .fp8e4m3) (harg5 : arg5.IsWhole) (arg6 : Memref sig .tc .vmem S1x512 .f32) (harg6 : arg6.IsWhole) (arg7 : Memref sig .tc .vmem S32x8192 .fp8e4m3) (harg7 : arg7.IsWhole) (arg8 : Memref sig .tc .vmem S1x128 .f32) (harg8 : arg8.IsWhole) (arg9 : Memref sig .tc .vmem S96x8192 .fp8e4m3) (harg9 : arg9.IsWhole) (arg10 : Memref sig .tc .vmem S864x512 .f32) (harg10 : arg10.IsWhole) (arg11 : Memref sig .tc .vmem S864x512 .f32) (harg11 : arg11.IsWhole) (arg12 : Memref sig .tc .vmem S864x128 .f32) (harg12 : arg12.IsWhole) (arg13 : Memref sig .tc .vmem S2x864x8192 .fp8e4m3) (harg13 : arg13.IsWhole)
    (h1 : ¬ k0_cond1 i = 1#1) (h2 : k0_cond2 i = 1#1) (h3 : ¬ k0_cond3 i = 1#1) (h4 : ¬ k0_cond4 i = 1#1)
    (x0 : Vec F S1 .f32) (x1 : Vec F S96x8192 .bf16) (x2 : Vec F S1x8192 .f32) (x3 : Vec F S512x8192 .fp8e4m3) (x4 : Vec F S1x512 .f32) (s : Vec F S2x864x8192 .fp8e4m3) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg9 fullShare d) ∗ (∃ d, owns (c : Thread nD τ) arg10 fullShare d) ∗ owns (c : Thread nD τ) arg13 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg9 fullShare (qstored x0 x1 x2) ∗ owns (c : Thread nD τ) arg10 fullShare (pstored x0 (View.ld (sput s (k0_off2 i) (qstored x0 x1 x2)) (slot3 i h2)) x3 x4) ∗ owns (c : Thread nD τ) arg13 fullShare (sput s (k0_off2 i) (qstored x0 x1 x2))) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13) K := by
  simp only [cc0_in_proj_eq_skeleton]; unfold cc0_in_proj_skel
  simp only [dif_neg h1, dif_pos h2, dif_neg h3, dif_neg h4, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%fs, %hfs, Hs⟩, Hk⟩
  subst hf0 hf1 hf2 hf3 hf4 hfs
  sl_exec
  sl_step
  have hw0 (h : 0 < S1.numel) : View.readAt (Elt F) arg2.view (Rect.unit ![0] S1.size inb_S1_S1_0).toLoadRect f0 (Shape.Idx.first h)
      = word (View.read (Elt F) arg2.view f0) := by
    rw [View.readAt_eq_ld, View.ld_unit_zero zeros1]
    exact (word_eq _ _).symm
  iapply Hk
  have r1 : View.readAt (Elt F) arg3.view (Rect.unit ![0, 0] ![96, 8192] inb_S96x8192_S96x8192_0_0).toLoadRect f1 = View.read (Elt F) arg3.view f1 :=
    View.readAt_full _ _ _
  have r2 : View.readAt (Elt F) arg4.view (Rect.unit ![0, 0] ![1, 8192] inb_S1x8192_S1x8192_0_0).toLoadRect f2 = View.read (Elt F) arg4.view f2 :=
    View.readAt_full _ _ _
  have r3 : View.readAt (Elt F) arg5.view (Rect.unit ![0, 0] ![512, 8192] inb_S512x8192_S512x8192_0_0).toLoadRect f3 = View.read (Elt F) arg5.view f3 :=
    View.readAt_full _ _ _
  have r4 : View.readAt (Elt F) arg6.view (Rect.unit ![0, 0] ![1, 512] inb_S1x512_S1x512_0_0).toLoadRect f4 = View.read (Elt F) arg6.view f4 :=
    View.readAt_full _ _ _
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro
    refine (View.read_writes_full _ _ _ _ _).trans ?_
    sl_unfold_run_names
    simp only [hw0, r1, r2, r3, r4]
    rfl
  isplitl [H8]
  · iexists _; isplitr
    swap; · iexact H8
    ipureintro
    refine (View.read_writes_full _ _ _ _ _).trans ?_
    sl_unfold_run_names
    simp only [hw0, r1, r2, r3, r4]
    rw [View.readAt_eq_ld]
    have hs : View.read (Elt F) arg13.view (arg13.view.writes (Elt F) fs [⟨Rect.unit (k0_off2 i) ![1, 96, 8192] (k0_off2_inb i h2), k0_pay1 (qstored (View.read (Elt F) arg2.view f0) (View.read (Elt F) arg3.view f1) (View.read (Elt F) arg4.view f2))⟩])
        = sput (View.read (Elt F) arg13.view fs) (k0_off2 i) (qstored (View.read (Elt F) arg2.view f0) (View.read (Elt F) arg3.view f1) (View.read (Elt F) arg4.view f2)) := View.read_writes_cons_put _ _ _ _ _ rfl
    rw [← hs]
    rfl
  iexists _; isplitr
  swap; · iexact Hs
  ipureintro
  sl_unfold_run_names
  simp only [hw0, r1, r2, r3, r4]
  exact View.read_writes_cons_put _ _ _ _ _ rfl

set_option maxHeartbeats 4000000 in
/-- The last five points of a later grid row: the chunk of codes and a tile of the convolution's input. -/
theorem sound_conv (c : Dev nD) (E : Set ℕ) (i : grid0.Coords) (arg2 : Memref sig .tc .smem S1 .f32) (harg2 : arg2.IsWhole) (arg3 : Memref sig .tc .vmem S96x8192 .bf16) (harg3 : arg3.IsWhole) (arg4 : Memref sig .tc .vmem S1x8192 .f32) (harg4 : arg4.IsWhole) (arg5 : Memref sig .tc .vmem S512x8192 .fp8e4m3) (harg5 : arg5.IsWhole) (arg6 : Memref sig .tc .vmem S1x512 .f32) (harg6 : arg6.IsWhole) (arg7 : Memref sig .tc .vmem S32x8192 .fp8e4m3) (harg7 : arg7.IsWhole) (arg8 : Memref sig .tc .vmem S1x128 .f32) (harg8 : arg8.IsWhole) (arg9 : Memref sig .tc .vmem S96x8192 .fp8e4m3) (harg9 : arg9.IsWhole) (arg10 : Memref sig .tc .vmem S864x512 .f32) (harg10 : arg10.IsWhole) (arg11 : Memref sig .tc .vmem S864x512 .f32) (harg11 : arg11.IsWhole) (arg12 : Memref sig .tc .vmem S864x128 .f32) (harg12 : arg12.IsWhole) (arg13 : Memref sig .tc .vmem S2x864x8192 .fp8e4m3) (harg13 : arg13.IsWhole)
    (h1 : ¬ k0_cond1 i = 1#1) (h2 : ¬ k0_cond2 i = 1#1) (h3 : k0_cond3 i = 1#1) (h4 : ¬ k0_cond4 i = 1#1)
    (x0 : Vec F S1 .f32) (x1 : Vec F S96x8192 .bf16) (x2 : Vec F S1x8192 .f32) (x3 : Vec F S512x8192 .fp8e4m3) (x4 : Vec F S1x512 .f32) (s : Vec F S2x864x8192 .fp8e4m3) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg9 fullShare d) ∗ (∃ d, owns (c : Thread nD τ) arg11 fullShare d) ∗ owns (c : Thread nD τ) arg13 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg9 fullShare (qstored x0 x1 x2) ∗ owns (c : Thread nD τ) arg11 fullShare (pstored x0 (View.ld (sput s (k0_off4 i) (qstored x0 x1 x2)) (slot5 i h3)) x3 x4) ∗ owns (c : Thread nD τ) arg13 fullShare (sput s (k0_off4 i) (qstored x0 x1 x2))) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13) K := by
  simp only [cc0_in_proj_eq_skeleton]; unfold cc0_in_proj_skel
  simp only [dif_neg h1, dif_neg h2, dif_pos h3, dif_neg h4, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d9, %f9, -, H9⟩, ⟨%fs, %hfs, Hs⟩, Hk⟩
  subst hf0 hf1 hf2 hf3 hf4 hfs
  sl_exec
  sl_step
  have hw0 (h : 0 < S1.numel) : View.readAt (Elt F) arg2.view (Rect.unit ![0] S1.size inb_S1_S1_0).toLoadRect f0 (Shape.Idx.first h)
      = word (View.read (Elt F) arg2.view f0) := by
    rw [View.readAt_eq_ld, View.ld_unit_zero zeros1]
    exact (word_eq _ _).symm
  iapply Hk
  have r1 : View.readAt (Elt F) arg3.view (Rect.unit ![0, 0] ![96, 8192] inb_S96x8192_S96x8192_0_0).toLoadRect f1 = View.read (Elt F) arg3.view f1 :=
    View.readAt_full _ _ _
  have r2 : View.readAt (Elt F) arg4.view (Rect.unit ![0, 0] ![1, 8192] inb_S1x8192_S1x8192_0_0).toLoadRect f2 = View.read (Elt F) arg4.view f2 :=
    View.readAt_full _ _ _
  have r3 : View.readAt (Elt F) arg5.view (Rect.unit ![0, 0] ![512, 8192] inb_S512x8192_S512x8192_0_0).toLoadRect f3 = View.read (Elt F) arg5.view f3 :=
    View.readAt_full _ _ _
  have r4 : View.readAt (Elt F) arg6.view (Rect.unit ![0, 0] ![1, 512] inb_S1x512_S1x512_0_0).toLoadRect f4 = View.read (Elt F) arg6.view f4 :=
    View.readAt_full _ _ _
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro
    refine (View.read_writes_full _ _ _ _ _).trans ?_
    sl_unfold_run_names
    simp only [hw0, r1, r2, r3, r4]
    rfl
  isplitl [H9]
  · iexists _; isplitr
    swap; · iexact H9
    ipureintro
    refine (View.read_writes_full _ _ _ _ _).trans ?_
    sl_unfold_run_names
    simp only [hw0, r1, r2, r3, r4]
    rw [View.readAt_eq_ld]
    have hs : View.read (Elt F) arg13.view (arg13.view.writes (Elt F) fs [⟨Rect.unit (k0_off4 i) ![1, 96, 8192] (k0_off4_inb i h3), k0_pay1 (qstored (View.read (Elt F) arg2.view f0) (View.read (Elt F) arg3.view f1) (View.read (Elt F) arg4.view f2))⟩])
        = sput (View.read (Elt F) arg13.view fs) (k0_off4 i) (qstored (View.read (Elt F) arg2.view f0) (View.read (Elt F) arg3.view f1) (View.read (Elt F) arg4.view f2)) := View.read_writes_cons_put _ _ _ _ _ rfl
    rw [← hs]
    rfl
  iexists _; isplitr
  swap; · iexact Hs
  ipureintro
  sl_unfold_run_names
  simp only [hw0, r1, r2, r3, r4]
  exact View.read_writes_cons_put _ _ _ _ _ rfl

/-! ## The proof data -/

/-- Which of the four cases a point is in. -/
theorem cases_at : ∀ t : Fin cfg0.N,
    (k0_cond1 (grid0.coords t) = 1#1 ∧ ¬ k0_cond2 (grid0.coords t) = 1#1 ∧ ¬ k0_cond3 (grid0.coords t) = 1#1 ∧ ¬ k0_cond4 (grid0.coords t) = 1#1)
    ∨ (¬ k0_cond1 (grid0.coords t) = 1#1 ∧ k0_cond2 (grid0.coords t) = 1#1 ∧ ¬ k0_cond3 (grid0.coords t) = 1#1 ∧ k0_cond4 (grid0.coords t) = 1#1)
    ∨ (¬ k0_cond1 (grid0.coords t) = 1#1 ∧ k0_cond2 (grid0.coords t) = 1#1 ∧ ¬ k0_cond3 (grid0.coords t) = 1#1 ∧ ¬ k0_cond4 (grid0.coords t) = 1#1)
    ∨ (¬ k0_cond1 (grid0.coords t) = 1#1 ∧ ¬ k0_cond2 (grid0.coords t) = 1#1 ∧ k0_cond3 (grid0.coords t) = 1#1 ∧ ¬ k0_cond4 (grid0.coords t) = 1#1) :=
  (by decide +kernel : ∀ t : Fin grid0.N, _)

variable (m : (ℓ : Loc nD τ sig) → Buf (Elt F) ℓ) (ρ : Dev nD → PrngReg)

/-- The chunk of the input at point `t`: the array's rows where there are any, the zero word past the array's end. -/
def xtile (c : Dev nD) (t : Fin cfg0.N) : Vec F S96x8192 .bf16 :=
  win0_1.fill (grid0.coords t) (fun _ => Scalar.ofBits .bf16 0#16) (iblk m c 1 t)

/-- The step sizes' row of scales at point `t`, likewise (its block reaches past the array's last column). -/
def stile (c : Dev nD) (t : Fin cfg0.N) : Vec F S1x128 .f32 :=
  win0_6.fill (grid0.coords t) (fun _ => Scalar.ofBits .f32 0#32) (iblk m c 6 t)

/-- What is stated of the results' buffers after each point, and of the scratch buffer before it. -/
structure Claimed (F : FTy → Type) [FloatOps F] where
  q : Dev nD → Fin cfg0.N → Vec F S96x8192 .fp8e4m3
  z : Dev nD → Fin cfg0.N → Vec F S864x512 .f32
  x : Dev nD → Fin cfg0.N → Vec F S864x512 .f32
  d : Dev nD → Fin cfg0.N → Vec F S864x128 .f32
  good : Dev nD → ℕ → Vec F S2x864x8192 .fp8e4m3 → Prop

variable (C : Claimed F)

/-- The invariant between points: the scratch buffer at contents the claim admits, and the generator's register. -/
def inv (c : Dev nD) (n : ℕ) : sProp 𝕄 :=
  iprop((∃ s, ⌜C.good c n s⌝ ∗ owns (c : Thread nD τ) (Memref.whole cc0_scratch0) fullShare s) ∗ ∃ r, prngReg c r)

/-- The proof data: the arrays as the region finds them; after the body each input buffer at its block, the results'
    buffers as claimed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => xtile m c t
    | ⟨2, _⟩ => iblk m c 2 t
    | ⟨3, _⟩ => X0_3 m c t
    | ⟨4, _⟩ => X0_4 m c t
    | ⟨5, _⟩ => iblk m c 5 t
    | ⟨6, _⟩ => stile m c t
    | ⟨7, _⟩ => C.q c t
    | ⟨8, _⟩ => C.z c t
    | ⟨9, _⟩ => C.x c t
    | ⟨10, _⟩ => C.d c t
  Φ t := inv C c t.val
  q _ := fullShare
  owed _ := 0

theorem A_eq (c : Dev nD) (w : Fin cfg0.W) : (dats m C 0 c).A w = V m c (Pipeline.arrRef spec0 w) := by
  dsimp only [dats]
theorem after0_0 (c : Dev nD) (t : Fin cfg0.N) : (dats m C 0 c).after 0 t = iblk m c 0 t := by dsimp only [dats]
theorem after0_1 (c : Dev nD) (t : Fin cfg0.N) : (dats m C 0 c).after 1 t = xtile m c t := by dsimp only [dats]
theorem after0_2 (c : Dev nD) (t : Fin cfg0.N) : (dats m C 0 c).after 2 t = iblk m c 2 t := by dsimp only [dats]
theorem after0_3 (c : Dev nD) (t : Fin cfg0.N) : (dats m C 0 c).after 3 t = X0_3 m c t := by dsimp only [dats]
theorem after0_4 (c : Dev nD) (t : Fin cfg0.N) : (dats m C 0 c).after 4 t = X0_4 m c t := by dsimp only [dats]
theorem after0_5 (c : Dev nD) (t : Fin cfg0.N) : (dats m C 0 c).after 5 t = iblk m c 5 t := by dsimp only [dats]
theorem after0_6 (c : Dev nD) (t : Fin cfg0.N) : (dats m C 0 c).after 6 t = stile m c t := by dsimp only [dats]
theorem after0_7 (c : Dev nD) (t : Fin cfg0.N) : (dats m C 0 c).after 7 t = C.q c t := by dsimp only [dats]
theorem after0_8 (c : Dev nD) (t : Fin cfg0.N) : (dats m C 0 c).after 8 t = C.z c t := by dsimp only [dats]
theorem after0_9 (c : Dev nD) (t : Fin cfg0.N) : (dats m C 0 c).after 9 t = C.x c t := by dsimp only [dats]
theorem after0_10 (c : Dev nD) (t : Fin cfg0.N) : (dats m C 0 c).after 10 t = C.d c t := by dsimp only [dats]
theorem phi_eq (c : Dev nD) (t : Fin (cfg0.N + 1)) : (dats m C 0 c).Φ t = inv C c t.val := by dsimp only [dats]

theorem before0_0 (c : Dev nD) (t : Fin cfg0.N) (d) : (dats m C 0 c).before 0 t d = iblk m c 0 t :=
  before0_0_of m (dats m C 0 c) (A_eq m C c 0) (after0_0 m C c) t d
theorem before0_2 (c : Dev nD) (t : Fin cfg0.N) (d) : (dats m C 0 c).before 2 t d = iblk m c 2 t :=
  before0_2_of m (dats m C 0 c) (A_eq m C c 2) (after0_2 m C c) t d
theorem before0_3 (c : Dev nD) (t : Fin cfg0.N) (d) : (dats m C 0 c).before 3 t d = X0_3 m c t :=
  before0_3_of m (dats m C 0 c) (A_eq m C c 3) (after0_3 m C c) t d
theorem before0_4 (c : Dev nD) (t : Fin cfg0.N) (d) : (dats m C 0 c).before 4 t d = X0_4 m c t :=
  before0_4_of m (dats m C 0 c) (A_eq m C c 4) (after0_4 m C c) t d
theorem before0_5 (c : Dev nD) (t : Fin cfg0.N) (d) : (dats m C 0 c).before 5 t d = iblk m c 5 t :=
  before0_5_of m (dats m C 0 c) (A_eq m C c 5) (after0_5 m C c) t d

/-- Where the chunk of the input is cut depends on the block index alone. -/
theorem clip0_1 (t t' : Fin cfg0.N) (h : (cfg0.win 1).index t = (cfg0.win 1).index t') :
    (cfg0.win 1).clip (cfg0.grid.coords t) = (cfg0.win 1).clip (cfg0.grid.coords t') := by
  funext a
  change Pipeline.Clip.of (win0_1.index t a) _ _ = Pipeline.Clip.of (win0_1.index t' a) _ _
  have ha : win0_1.index t a = win0_1.index t' a := congrFun h a
  rw [ha]

/-- The part of `xtile` inside the array is the block. -/
theorem cut_xtile (c : Dev nD) (t : Fin cfg0.N) : win0_1.cut (grid0.coords t) (xtile m c t) = iblk m c 1 t :=
  win0_1.cut_fill _ _ _

/-- The buffer of the chunk of the input holds the block inside the array, anything past the array's end. -/
theorem before0_1 (c : Dev nD) (t : Fin cfg0.N) (d) :
    (dats m C 0 c).before 1 t d = win0_1.fill (grid0.coords t) d (iblk m c 1 t) := by
  refine ((dats m C 0 c).before_in_eq_fetched 1 rfl (fun _ => rfl) clip0_1 (fun t => ?_) t d).trans ?_
  · rw [after0_1]; unfold xtile Dat.blockOf iblk; rw [A_eq]; exact win0_1.cut_fill _ _ _
  · unfold Dat.fetched Dat.blockOf iblk; rw [A_eq]

/-- Where the step sizes' row of scales is cut depends on the block index alone. -/
theorem clip0_6 (t t' : Fin cfg0.N) (h : (cfg0.win 6).index t = (cfg0.win 6).index t') :
    (cfg0.win 6).clip (cfg0.grid.coords t) = (cfg0.win 6).clip (cfg0.grid.coords t') := by
  funext a
  change Pipeline.Clip.of (win0_6.index t a) _ _ = Pipeline.Clip.of (win0_6.index t' a) _ _
  have ha : win0_6.index t a = win0_6.index t' a := congrFun h a
  rw [ha]

/-- The part of `stile` inside the array is the block. -/
theorem cut_stile (c : Dev nD) (t : Fin cfg0.N) : win0_6.cut (grid0.coords t) (stile m c t) = iblk m c 6 t :=
  win0_6.cut_fill _ _ _

/-- The buffer of the step sizes' row of scales holds the block inside the array, anything past the array's end. -/
theorem before0_6 (c : Dev nD) (t : Fin cfg0.N) (d) :
    (dats m C 0 c).before 6 t d = win0_6.fill (grid0.coords t) d (iblk m c 6 t) := by
  refine ((dats m C 0 c).before_in_eq_fetched 6 rfl (fun _ => rfl) clip0_6 (fun t => ?_) t d).trans ?_
  · rw [after0_6]; unfold stile Dat.blockOf iblk; rw [A_eq]; exact win0_6.cut_fill _ _ _
  · unfold Dat.fetched Dat.blockOf iblk; rw [A_eq]

/-- The region's own invariant admits any contents of the scratch buffer. -/
theorem inv_in (c : Dev nD) (h : ∀ s, C.good c 0 s) : Pipeline.ΦA spec0 c ⊢ (inv C c 0 : sProp 𝕄) := by
  unfold Pipeline.ΦA inv
  rw [scopedRest0_eq]
  iintro ⟨⟨%f, Hs⟩, Hr⟩
  isplitl [Hs]
  · iexists f
    isplitr; · ipureintro; exact h f
    rw [owns_whole]; iexact Hs
  · iexact Hr

theorem inv_out (c : Dev nD) (n : ℕ) : (inv C c n : sProp 𝕄) ⊢ Pipeline.ΦA spec0 c := by
  unfold Pipeline.ΦA inv
  rw [scopedRest0_eq]
  iintro ⟨⟨%s, -, Hs⟩, Hr⟩
  isplitl [Hs]
  · iexists s
    rw [← owns_whole]; iexact Hs
  · iexact Hr

theorem defs₀_row (t : Fin cfg0.N) :
    defs₀ (F := F) .tc cfg0.body (cfg0.bodyArgs t (cfg0.slots t)) = bodyAt0 t := by
  unfold defs₀; rw [Defs.onTc_tc]

/-! ## The frame: what the results hold is left unsaid -/

/-- The windows whose contents the frame does not name: the outputs'. -/
def fgt : Fin cfg0.W → Bool := fun w => match w with
  | 0 => false | 1 => false | 2 => false | 3 => false | 4 => false | 5 => false | 6 => false | 7 => true | 8 => true | 9 => true | 10 => true
  | ⟨_ + 11, h⟩ => absurd h (Nat.not_lt.2 (Nat.le_add_left _ _))

/-- Nothing is claimed of the results, nor of the scratch buffer. -/
def nothing : Claimed F where
  q _ _ _ := Scalar.ofBits .fp8e4m3 0#8
  z _ _ _ := Scalar.ofBits .f32 0#32
  x _ _ _ := Scalar.ofBits .f32 0#32
  d _ _ _ := Scalar.ofBits .f32 0#32
  good _ _ _ := True

theorem body_obligation_fgt (c : Dev nD) :
    BodyObligationLoose (dats (F := F) m nothing 0 c) (defs₀ (F := F)) Variants.none () Set.univ fgt := fun t => by
  rw [bigSep_W0, bigSep_W0, defs₀_row]
  simp only [fgt]
  rw [phi_eq, phi_eq, show (dats m nothing 0 c).owesAt () t.succ = (dats m nothing 0 c).owesAt () t.castSucc from rfl]
  unfold inv
  iintro ⟨⟨⟨%s, -, Hs⟩, Hr⟩, Ho, ⟨%d0, H0⟩, ⟨%d1, H1⟩, ⟨%d2, H2⟩, ⟨%d3, H3⟩, ⟨%d4, H4⟩, ⟨%d5, H5⟩, ⟨%d6, H6⟩, H7, H8, H9, H10⟩
  rw [before0_0 m nothing c t d0, before0_1 m nothing c t d1, before0_2 m nothing c t d2, before0_3 m nothing c t d3, before0_4 m nothing c t d4, before0_5 m nothing c t d5, before0_6 m nothing c t d6]
  rcases cases_at t with ⟨h1, h2, h3, h4⟩ | ⟨h1, h2, h3, h4⟩ | ⟨h1, h2, h3, h4⟩ | ⟨h1, h2, h3, h4⟩
  · iapply (sound_norm c Set.univ _ _ _ _ _ _ _ _ _ _ _ _ _ _ _ _ _ _ _ _ _ _ _ _ _ h1 h2 h3 h4 (iblk m c 0 t) (win0_1.fill (grid0.coords t) d1 (iblk m c 1 t)) (iblk m c 2 t) s _)
    isplitl [H0]; · iexact H0
    isplitl [H1]; · iexact H1
    isplitl [H2]; · iexact H2
    isplitl [H7]; · iexact H7
    isplitl [Hs]; · iexact Hs
    iintro ⟨H0, H1, H2, H7, Hs⟩
    isplitl [Hs Hr]
    · isplitl [Hs]
      · iexists (sput s (k0_off1 (grid0.coords t)) (qstored (iblk m c 0 t) (win0_1.fill (grid0.coords t) d1 (iblk m c 1 t)) (iblk m c 2 t)))
        isplitr; · ipureintro; trivial
        iexact Hs
      · iexact Hr
    isplitl [Ho]; · iexact Ho
    isplitl [H0]; · iexact H0
    isplitl [H1]
    · iexists d1
      change _ ⊢ owns (c : Thread nD τ) (stage0_1 (cfg0.slots t 1)) fullShare (win0_1.fill (grid0.coords t) d1 (win0_1.cut (grid0.coords t) ((dats m nothing 0 c).after 1 t)))
      rw [after0_1, cut_xtile]
    isplitl [H2]; · iexact H2
    isplitl [H3]
    · iexists X0_3 m c t
      change _ ⊢ owns (c : Thread nD τ) (stage0_3 (cfg0.slots t 3)) fullShare (win0_3.fill (grid0.coords t) (X0_3 m c t) (win0_3.cut (grid0.coords t) ((dats m nothing 0 c).after 3 t)))
      rw [after0_3, win0_3.fill_cut]
    isplitl [H4]
    · iexists X0_4 m c t
      change _ ⊢ owns (c : Thread nD τ) (stage0_4 (cfg0.slots t 4)) fullShare (win0_4.fill (grid0.coords t) (X0_4 m c t) (win0_4.cut (grid0.coords t) ((dats m nothing 0 c).after 4 t)))
      rw [after0_4, win0_4.fill_cut]
    isplitl [H5]; · iexact H5
    isplitl [H6]
    · iexists d6
      change _ ⊢ owns (c : Thread nD τ) (stage0_6 (cfg0.slots t 6)) fullShare (win0_6.fill (grid0.coords t) d6 (win0_6.cut (grid0.coords t) ((dats m nothing 0 c).after 6 t)))
      rw [after0_6, cut_stile]
    isplitl [H7]; · iexists _; iexact H7
    isplitl [H8]; · iexact H8
    isplitl [H9]; · iexact H9
    iexact H10
  · iapply (sound_first c Set.univ _ _ _ _ _ _ _ _ _ _ _ _ _ _ _ _ _ _ _ _ _ _ _ _ _ h1 h2 h3 h4 (iblk m c 0 t) (win0_1.fill (grid0.coords t) d1 (iblk m c 1 t)) (iblk m c 2 t) (X0_3 m c t) (X0_4 m c t) (iblk m c 5 t) (win0_6.fill (grid0.coords t) d6 (iblk m c 6 t)) s _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H10]; · iexact H10
    isplitl [Hs]; · iexact Hs
    iintro ⟨H0, H1, H2, H3, H4, H5, H6, H7, H8, H10, Hs⟩
    isplitl [Hs Hr]
    · isplitl [Hs]
      · iexists (sput s (k0_off2 (grid0.coords t)) (qstored (iblk m c 0 t) (win0_1.fill (grid0.coords t) d1 (iblk m c 1 t)) (iblk m c 2 t)))
        isplitr; · ipureintro; trivial
        iexact Hs
      · iexact Hr
    isplitl [Ho]; · iexact Ho
    isplitl [H0]; · iexact H0
    isplitl [H1]
    · iexists d1
      change _ ⊢ owns (c : Thread nD τ) (stage0_1 (cfg0.slots t 1)) fullShare (win0_1.fill (grid0.coords t) d1 (win0_1.cut (grid0.coords t) ((dats m nothing 0 c).after 1 t)))
      rw [after0_1, cut_xtile]
    isplitl [H2]; · iexact H2
    isplitl [H3]
    · iexists X0_3 m c t
      change _ ⊢ owns (c : Thread nD τ) (stage0_3 (cfg0.slots t 3)) fullShare (win0_3.fill (grid0.coords t) (X0_3 m c t) (win0_3.cut (grid0.coords t) ((dats m nothing 0 c).after 3 t)))
      rw [after0_3, win0_3.fill_cut]
    isplitl [H4]
    · iexists X0_4 m c t
      change _ ⊢ owns (c : Thread nD τ) (stage0_4 (cfg0.slots t 4)) fullShare (win0_4.fill (grid0.coords t) (X0_4 m c t) (win0_4.cut (grid0.coords t) ((dats m nothing 0 c).after 4 t)))
      rw [after0_4, win0_4.fill_cut]
    isplitl [H5]; · iexact H5
    isplitl [H6]
    · iexists d6
      change _ ⊢ owns (c : Thread nD τ) (stage0_6 (cfg0.slots t 6)) fullShare (win0_6.fill (grid0.coords t) d6 (win0_6.cut (grid0.coords t) ((dats m nothing 0 c).after 6 t)))
      rw [after0_6, cut_stile]
    isplitl [H7]; · iexists _; iexact H7
    isplitl [H8]; · iexists _; iexact H8
    isplitl [H9]; · iexact H9
    iexists _; iexact H10
  · iapply (sound_gate c Set.univ _ _ _ _ _ _ _ _ _ _ _ _ _ _ _ _ _ _ _ _ _ _ _ _ _ h1 h2 h3 h4 (iblk m c 0 t) (win0_1.fill (grid0.coords t) d1 (iblk m c 1 t)) (iblk m c 2 t) (X0_3 m c t) (X0_4 m c t) s _)
    isplitl [H0]; · iexact H0
    isplitl [H1]; · iexact H1
    isplitl [H2]; · iexact H2
    isplitl [H3]; · iexact H3
    isplitl [H4]; · iexact H4
    isplitl [H7]; · iexact H7
    isplitl [H8]; · iexact H8
    isplitl [Hs]; · iexact Hs
    iintro ⟨H0, H1, H2, H3, H4, H7, H8, Hs⟩
    isplitl [Hs Hr]
    · isplitl [Hs]
      · iexists (sput s (k0_off2 (grid0.coords t)) (qstored (iblk m c 0 t) (win0_1.fill (grid0.coords t) d1 (iblk m c 1 t)) (iblk m c 2 t)))
        isplitr; · ipureintro; trivial
        iexact Hs
      · iexact Hr
    isplitl [Ho]; · iexact Ho
    isplitl [H0]; · iexact H0
    isplitl [H1]
    · iexists d1
      change _ ⊢ owns (c : Thread nD τ) (stage0_1 (cfg0.slots t 1)) fullShare (win0_1.fill (grid0.coords t) d1 (win0_1.cut (grid0.coords t) ((dats m nothing 0 c).after 1 t)))
      rw [after0_1, cut_xtile]
    isplitl [H2]; · iexact H2
    isplitl [H3]
    · iexists X0_3 m c t
      change _ ⊢ owns (c : Thread nD τ) (stage0_3 (cfg0.slots t 3)) fullShare (win0_3.fill (grid0.coords t) (X0_3 m c t) (win0_3.cut (grid0.coords t) ((dats m nothing 0 c).after 3 t)))
      rw [after0_3, win0_3.fill_cut]
    isplitl [H4]
    · iexists X0_4 m c t
      change _ ⊢ owns (c : Thread nD τ) (stage0_4 (cfg0.slots t 4)) fullShare (win0_4.fill (grid0.coords t) (X0_4 m c t) (win0_4.cut (grid0.coords t) ((dats m nothing 0 c).after 4 t)))
      rw [after0_4, win0_4.fill_cut]
    isplitl [H5]; · iexact H5
    isplitl [H6]
    · iexists d6
      change _ ⊢ owns (c : Thread nD τ) (stage0_6 (cfg0.slots t 6)) fullShare (win0_6.fill (grid0.coords t) d6 (win0_6.cut (grid0.coords t) ((dats m nothing 0 c).after 6 t)))
      rw [after0_6, cut_stile]
    isplitl [H7]; · iexists _; iexact H7
    isplitl [H8]; · iexists _; iexact H8
    isplitl [H9]; · iexact H9
    iexact H10
  · iapply (sound_conv c Set.univ _ _ _ _ _ _ _ _ _ _ _ _ _ _ _ _ _ _ _ _ _ _ _ _ _ h1 h2 h3 h4 (iblk m c 0 t) (win0_1.fill (grid0.coords t) d1 (iblk m c 1 t)) (iblk m c 2 t) (X0_3 m c t) (X0_4 m c t) s _)
    isplitl [H0]; · iexact H0
    isplitl [H1]; · iexact H1
    isplitl [H2]; · iexact H2
    isplitl [H3]; · iexact H3
    isplitl [H4]; · iexact H4
    isplitl [H7]; · iexact H7
    isplitl [H9]; · iexact H9
    isplitl [Hs]; · iexact Hs
    iintro ⟨H0, H1, H2, H3, H4, H7, H9, Hs⟩
    isplitl [Hs Hr]
    · isplitl [Hs]
      · iexists (sput s (k0_off4 (grid0.coords t)) (qstored (iblk m c 0 t) (win0_1.fill (grid0.coords t) d1 (iblk m c 1 t)) (iblk m c 2 t)))
        isplitr; · ipureintro; trivial
        iexact Hs
      · iexact Hr
    isplitl [Ho]; · iexact Ho
    isplitl [H0]; · iexact H0
    isplitl [H1]
    · iexists d1
      change _ ⊢ owns (c : Thread nD τ) (stage0_1 (cfg0.slots t 1)) fullShare (win0_1.fill (grid0.coords t) d1 (win0_1.cut (grid0.coords t) ((dats m nothing 0 c).after 1 t)))
      rw [after0_1, cut_xtile]
    isplitl [H2]; · iexact H2
    isplitl [H3]
    · iexists X0_3 m c t
      change _ ⊢ owns (c : Thread nD τ) (stage0_3 (cfg0.slots t 3)) fullShare (win0_3.fill (grid0.coords t) (X0_3 m c t) (win0_3.cut (grid0.coords t) ((dats m nothing 0 c).after 3 t)))
      rw [after0_3, win0_3.fill_cut]
    isplitl [H4]
    · iexists X0_4 m c t
      change _ ⊢ owns (c : Thread nD τ) (stage0_4 (cfg0.slots t 4)) fullShare (win0_4.fill (grid0.coords t) (X0_4 m c t) (win0_4.cut (grid0.coords t) ((dats m nothing 0 c).after 4 t)))
      rw [after0_4, win0_4.fill_cut]
    isplitl [H5]; · iexact H5
    isplitl [H6]
    · iexists d6
      change _ ⊢ owns (c : Thread nD τ) (stage0_6 (cfg0.slots t 6)) fullShare (win0_6.fill (grid0.coords t) d6 (win0_6.cut (grid0.coords t) ((dats m nothing 0 c).after 6 t)))
      rw [after0_6, cut_stile]
    isplitl [H7]; · iexists _; iexact H7
    isplitl [H8]; · iexact H8
    isplitl [H9]; · iexists _; iexact H9
    iexact H10

set_option backward.isDefEq.respectTransparency.types false in
set_option maxHeartbeats 800000 in
/-- The launch, the outputs' contents left unsaid, every semaphore counter at zero at the end. -/
theorem run_fgt : θ_run defs (onTc (τ := τ) (main (F := F))) (s₀ m ρ)
    (fun r => Pipeline.RDat.FramePost cfg0 (fun c => (dats m nothing 0 c).toRForget fgt) (V m) r ∧ r.2.sem = fun _ => 0) :=
  Pipeline.θ_run_frame_track_forget (Q' := _) cfgs (dats m nothing) (0 : Fin 1) launch0 defs₀ Variants.none fgt m ρ main
    (hbody := body_obligation_fgt m) (hshare := fun c => (dats m nothing 0 c).share_full fun _ => rfl)
    (howed := fun _ _ => rfl) (V := V m) (hmain := hmain m Variants.none) (hA := A_eq m nothing)
    (hin := fun c => inv_in nothing c fun _ => trivial) (hout := fun c => inv_out nothing c _)

/-- THE FRAME: the kernel terminates, its arguments end unchanged, every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨(h.1.arr_in c 1 rfl).trans ((A_eq m nothing c 1).trans (V_main_arg0 m c)),
     ((h.1 c).2 main_arg1 (Pipeline.mem_restRefs_of main_arg1 (by decide) (by decide))).trans (V_main_arg1 m c),
     (h.1.arr_in c 0 rfl).trans ((A_eq m nothing c 0).trans (V_main_arg2 m c)),
     ((h.1 c).2 main_arg3 (Pipeline.mem_restRefs_of main_arg3 (by decide) (by decide))).trans (V_main_arg3 m c),
     ((h.1 c).2 main_arg4 (Pipeline.mem_restRefs_of main_arg4 (by decide) (by decide))).trans (V_main_arg4 m c)⟩, h.2⟩) (run_fgt m ρ)

end Cert.In.Body

end
-- ==== Proof.InIdealBody.lean ====
/-
  The body of `InIdeal` (the first norm and the input projection), on any staging buffers, at any float reading.

  One grid point of `InIdeal` normalises and quantises one 96-row chunk of the input into the codes result and into one of the
  two slots of the scratch buffer; from the second row of the grid on it also multiplies the 864 rows of codes in the
  OTHER slot by a tile of the weights and scales the product. Which results a point stores depends on the point: the four
  cases are `sound_norm` (first grid row: codes only), `sound_first` (the first tile of the gate and the step sizes),
  `sound_gate` (the gate's other tiles) and `sound_conv` (the convolution's tiles). The buffers may reach past the array's
  end and the scratch buffer holds anything at first; the triples are stated for any contents.
-/
module

public import proofs.«01_k».proof.Proof.Gen.InIdeal.Frame
public import proofs.«01_k».proof.Proof.Gen.InIdeal.Points
public import proofs.«01_k».proof.Proof.Gen.InIdeal.Skeleton
public import Idealize.ShloMosaic.Lib.Pipeline.Value
public import Idealize.ShloMosaic.Lib.VecWindow

@[expose] public section

set_option maxRecDepth 16384

noncomputable section

namespace Cert.InIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.InIdeal.Gen

variable {F : FTy → Type} [FloatOps F]

local notation "𝕄" => MT nD τ sig Unit (Elt F) ℕ (UR sig nD τ) ℕ

/-- A rank-2 zero offset. -/
theorem zeros2 : (![0, 0] : Fin 2 → ℕ) = fun _ => 0 := by funext a; fin_cases a <;> rfl

theorem zeros1 : (![0] : Fin 1 → ℕ) = fun _ => 0 := by funext a; fin_cases a; rfl

/-- The one entry of a one-entry buffer. -/
def word (x : Vec F S1 .f32) : Elt F .f32 := x (fun a => ⟨0, by have : a = 0 := Subsingleton.elim _ _; subst this; exact Nat.one_pos⟩)

/-- A one-entry buffer has one index. -/
theorem word_eq (x : Vec F S1 .f32) (j : S1.Idx) : word x = x j := by
  unfold word; congr 1; funext a
  have ha : a = 0 := Subsingleton.elim _ _
  subst ha; exact Fin.ext (by have := (j 0).isLt; change _ < 1 at this; change 0 = (j 0).val; omega)

/-! ## What the body stores -/

/-- The offsets in the scratch buffer, in closed form: a chunk is stored in the slot of the grid row's parity, at the
    chunk's rows; the slot read is the other one. -/
instance closed1 (i : grid0.Coords) : ClosedOff (k0_off1 i) := ⟨![(i 0).val % 2, 96 * (i 1).val, 0], by revert i; decide +kernel⟩
instance closed2 (i : grid0.Coords) : ClosedOff (k0_off2 i) := ⟨![(i 0).val % 2, 96 * (i 1).val, 0], by revert i; decide +kernel⟩
instance closed4 (i : grid0.Coords) : ClosedOff (k0_off4 i) := ⟨![(i 0).val % 2, 96 * (i 1).val, 0], by revert i; decide +kernel⟩
instance closed3 (i : grid0.Coords) : ClosedOff (k0_off3 i) := ⟨![((i 0).val + 1) % 2, 0, 0], by revert i; decide +kernel⟩
instance closed5 (i : grid0.Coords) : ClosedOff (k0_off5 i) := ⟨![((i 0).val + 1) % 2, 0, 0], by revert i; decide +kernel⟩
instance closed6 (i : grid0.Coords) : ClosedOff (k0_off6 i) := ⟨![((i 0).val + 1) % 2, 0, 0], by revert i; decide +kernel⟩

/-- The first 32 entries of the row of scales the step sizes' block brings in. -/
abbrev rd : Rect S1x128 := Rect.unit (s := S1x128) ![0, 0] S1x32.size inb_S1x128_S1x32_0_0

/-- The chunk of codes. -/
def qstored (x0 : Vec F S1 .f32) (x1 : Vec F S96x8192 .bf16) (x2 : Vec F S1x8192 .f32) : Vec F S96x8192 .fp8e4m3 :=
  k0_pay7 (word x0) x1 x2

/-- The scratch buffer after the chunk `q` is stored at offsets `off`. -/
def sput (S : Vec F S2x864x8192 .fp8e4m3) (off : Fin 3 → ℕ) (q : Vec F S96x8192 .fp8e4m3) : Vec F S2x864x8192 .fp8e4m3 :=
  VecWindow.put (s := S2x864x8192) S off S1x96x8192.size (k0_pay1 q)

/-- A tile of the projection: the codes `a` times the tile `x3` of the weights, scaled. -/
def pstored (x0 : Vec F S1 .f32) (a : Vec F S1x864x8192 .fp8e4m3) (x3 : Vec F S512x8192 .fp8e4m3) (x4 : Vec F S1x512 .f32) : Vec F S864x512 .f32 :=
  k0_pay3 (word x0) a x3 x4

/-- The tile of step sizes: 32 columns of the projection, then 96 columns of zeros. -/
def dstored (x0 : Vec F S1 .f32) (a : Vec F S1x864x8192 .fp8e4m3) (x5 : Vec F S32x8192 .fp8e4m3) (x6 : Vec F S1x128 .f32) : Vec F S864x128 .f32 :=
  k0_pay6 (word x0) a x5 (View.ld x6 rd)

/-- The slot of the scratch buffer a point reads, as the kernel computes its offsets in each of its branches. -/
abbrev slot3 (i : grid0.Coords) (h : k0_cond2 i = 1#1) : Rect S2x864x8192 := Rect.unit (s := S2x864x8192) (k0_off3 i) S1x864x8192.size (k0_off3_inb i h)
abbrev slot5 (i : grid0.Coords) (h : k0_cond3 i = 1#1) : Rect S2x864x8192 := Rect.unit (s := S2x864x8192) (k0_off5 i) S1x864x8192.size (k0_off5_inb i h)
abbrev slot6 (i : grid0.Coords) (h : k0_cond4 i = 1#1) : Rect S2x864x8192 := Rect.unit (s := S2x864x8192) (k0_off6 i) S1x864x8192.size (k0_off6_inb i h)

set_option maxHeartbeats 4000000 in
/-- A point of the first grid row: the chunk of codes is stored, in the result and in the scratch buffer. -/
theorem sound_norm (c : Dev nD) (E : Set ℕ) (i : grid0.Coords) (arg2 : Memref sig .tc .smem S1 .f32) (harg2 : arg2.IsWhole) (arg3 : Memref sig .tc .vmem S96x8192 .bf16) (harg3 : arg3.IsWhole) (arg4 : Memref sig .tc .vmem S1x8192 .f32) (harg4 : arg4.IsWhole) (arg5 : Memref sig .tc .vmem S512x8192 .fp8e4m3) (harg5 : arg5.IsWhole) (arg6 : Memref sig .tc .vmem S1x512 .f32) (harg6 : arg6.IsWhole) (arg7 : Memref sig .tc .vmem S32x8192 .fp8e4m3) (harg7 : arg7.IsWhole) (arg8 : Memref sig .tc .vmem S1x128 .f32) (harg8 : arg8.IsWhole) (arg9 : Memref sig .tc .vmem S96x8192 .fp8e4m3) (harg9 : arg9.IsWhole) (arg10 : Memref sig .tc .vmem S864x512 .f32) (harg10 : arg10.IsWhole) (arg11 : Memref sig .tc .vmem S864x512 .f32) (harg11 : arg11.IsWhole) (arg12 : Memref sig .tc .vmem S864x128 .f32) (harg12 : arg12.IsWhole) (arg13 : Memref sig .tc .vmem S2x864x8192 .fp8e4m3) (harg13 : arg13.IsWhole)
    (h1 : k0_cond1 i = 1#1) (h2 : ¬ k0_cond2 i = 1#1) (h3 : ¬ k0_cond3 i = 1#1) (h4 : ¬ k0_cond4 i = 1#1)
    (x0 : Vec F S1 .f32) (x1 : Vec F S96x8192 .bf16) (x2 : Vec F S1x8192 .f32) (s : Vec F S2x864x8192 .fp8e4m3) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg9 fullShare d) ∗ owns (c : Thread nD τ) arg13 fullShare s
        ∗ (iprop(owns (c : Thread nD τ) arg2 fullShare x0 ∗ owns (c : Thread nD τ) arg3 fullShare x1 ∗ owns (c : Thread nD τ) arg4 fullShare x2 ∗ owns (c : Thread nD τ) arg9 fullShare (qstored x0 x1 x2) ∗ owns (c : Thread nD τ) arg13 fullShare (sput s (k0_off1 i) (qstored x0 x1 x2))) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13) K := by
  simp only [cc0_in_proj_eq_skeleton]; unfold cc0_in_proj_skel
  simp only [dif_pos h1, dif_neg h2, dif_neg h3, dif_neg h4, k0_part1_eq_skeleton]
  unfold owns
  iintro ⟨⟨%f0, %hf0, H0⟩, ⟨%f1, %hf1, H1⟩, ⟨%f2, %hf2, H2⟩, ⟨%d7, %f7, -, H7⟩, ⟨%fs, %hfs, Hs⟩, Hk⟩
  subst hf0 hf1 hf2 hfs
  sl_exec
  sl_step
  have hw0 (h : 0 < S1.numel) : View.readAt (Elt F) arg2.view (Rect.unit ![0] S1.size inb_S1_S1_0).toLoadRect f0 (Shape.Idx.first h)
      = word (View.read (Elt F) arg2.view f0) := by
    rw [View.readAt_eq_ld, View.ld_unit_zero zeros1]
    exact (word_eq _ _).symm
  iapply Hk
  have r1 : View.readAt (Elt F) arg3.view (Rect.unit ![0, 0] ![96, 8192] inb_S96x8192_S96x8192_0_0).toLoadRect f1 = View.read (Elt F) arg3.view f1 :=
    View.readAt_full _ _ _
  have r2 : View.readAt (Elt F) arg4.view (Rect.unit ![0, 0] ![1, 8192] inb_S1x8192_S1x8192_0_0).toLoadRect f2 = View.read (Elt F) arg4.view f2 :=
    View.readAt_full _ _ _
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H7]
  · iexists _; isplitr
    swap; · iexact H7
    ipureintro
    refine (View.read_writes_full _ _ _ _ _).trans ?_
    sl_unfold_run_names
    simp only [hw0, r1, r2]
    rfl
  iexists _; isplitr
  swap; · iexact Hs
  ipureintro
  sl_unfold_run_names
  simp only [hw0, r1, r2]
  exact View.read_writes_cons_put _ _ _ _ _ rfl

set_option maxHeartbeats 4000000 in
/-- The first point of a later grid row: the chunk of codes, the first tile of the gate, the tile of step sizes. -/
theorem sound_first (c : Dev nD) (E : Set ℕ) (i : grid0.Coords) (arg2 : Memref sig .tc .smem S1 .f32) (harg2 : arg2.IsWhole) (arg3 : Memref sig .tc .vmem S96x8192 .bf16) (harg3 : arg3.IsWhole) (arg4 : Memref sig .tc .vmem S1x8192 .f32) (harg4 : arg4.IsWhole) (arg5 : Memref sig .tc .vmem S512x8192 .fp8e4m3) (harg5 : arg5.IsWhole) (arg6 : Memref sig .tc .vmem S1x512 .f32) (harg6 : arg6.IsWhole) (arg7 : Memref sig .tc .vmem S32x8192 .fp8e4m3) (harg7 : arg7.IsWhole) (arg8 : Memref sig .tc .vmem S1x128 .f32) (harg8 : arg8.IsWhole) (arg9 : Memref sig .tc .vmem S96x8192 .fp8e4m3) (harg9 : arg9.IsWhole) (arg10 : Memref sig .tc .vmem S864x512 .f32) (harg10 : arg10.IsWhole) (arg11 : Memref sig .tc .vmem S864x512 .f32) (harg11 : arg11.IsWhole) (arg12 : Memref sig .tc .vmem S864x128 .f32) (harg12 : arg12.IsWhole) (arg13 : Memref sig .tc .vmem S2x864x8192 .fp8e4m3) (harg13 : arg13.IsWhole)
    (h1 : ¬ k0_cond1 i = 1#1) (h2 : k0_cond2 i = 1#1) (h3 : ¬ k0_cond3 i = 1#1) (h4 : k0_cond4 i = 1#1)
    (x0 : Vec F S1 .f32) (x1 : Vec F S96x8192 .bf16) (x2 : Vec F S1x8192 .f32) (x3 : Vec F S512x8192 .fp8e4m3) (x4 : Vec F S1x512 .f32) (x5 : Vec F S32x8192 .fp8e4m3) (x6 : Vec F S1x128 .f32) (s : Vec F S2x864x8192 .fp8e4m3) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg12 fullShare d) ∗ owns (c : Thread nD τ) arg13 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (qstored x0 x1 x2) ∗ owns (c : Thread nD τ) arg10 fullShare (pstored x0 (View.ld (sput s (k0_off2 i) (qstored x0 x1 x2)) (slot3 i h2)) x3 x4) ∗ owns (c : Thread nD τ) arg12 fullShare (dstored x0 (View.ld (sput s (k0_off2 i) (qstored x0 x1 x2)) (slot6 i h4)) x5 x6) ∗ owns (c : Thread nD τ) arg13 fullShare (sput s (k0_off2 i) (qstored x0 x1 x2))) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13) K := by
  simp only [cc0_in_proj_eq_skeleton]; unfold cc0_in_proj_skel
  simp only [dif_neg h1, dif_pos h2, dif_neg h3, dif_pos h4, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d10, %f10, -, H10⟩, ⟨%fs, %hfs, Hs⟩, Hk⟩
  subst hf0 hf1 hf2 hf3 hf4 hf5 hf6 hfs
  sl_exec
  sl_step
  have hw0 (h : 0 < S1.numel) : View.readAt (Elt F) arg2.view (Rect.unit ![0] S1.size inb_S1_S1_0).toLoadRect f0 (Shape.Idx.first h)
      = word (View.read (Elt F) arg2.view f0) := by
    rw [View.readAt_eq_ld, View.ld_unit_zero zeros1]
    exact (word_eq _ _).symm
  iapply Hk
  have r1 : View.readAt (Elt F) arg3.view (Rect.unit ![0, 0] ![96, 8192] inb_S96x8192_S96x8192_0_0).toLoadRect f1 = View.read (Elt F) arg3.view f1 :=
    View.readAt_full _ _ _
  have r2 : View.readAt (Elt F) arg4.view (Rect.unit ![0, 0] ![1, 8192] inb_S1x8192_S1x8192_0_0).toLoadRect f2 = View.read (Elt F) arg4.view f2 :=
    View.readAt_full _ _ _
  have r3 : View.readAt (Elt F) arg5.view (Rect.unit ![0, 0] ![512, 8192] inb_S512x8192_S512x8192_0_0).toLoadRect f3 = View.read (Elt F) arg5.view f3 :=
    View.readAt_full _ _ _
  have r4 : View.readAt (Elt F) arg6.view (Rect.unit ![0, 0] ![1, 512] inb_S1x512_S1x512_0_0).toLoadRect f4 = View.read (Elt F) arg6.view f4 :=
    View.readAt_full _ _ _
  have r5 : View.readAt (Elt F) arg7.view (Rect.unit ![0, 0] ![32, 8192] inb_S32x8192_S32x8192_0_0).toLoadRect f5 = View.read (Elt F) arg7.view f5 :=
    View.readAt_full _ _ _
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_full _ _ _ _ _).trans ?_
    sl_unfold_run_names
    simp only [hw0, r1, r2, r3, r4, r5]
    rfl
  isplitl [H8]
  · iexists _; isplitr
    swap; · iexact H8
    ipureintro
    refine (View.read_writes_full _ _ _ _ _).trans ?_
    sl_unfold_run_names
    simp only [hw0, r1, r2, r3, r4, r5]
    rw [View.readAt_eq_ld]
    have hs : View.read (Elt F) arg13.view (arg13.view.writes (Elt F) fs [⟨Rect.unit (k0_off2 i) ![1, 96, 8192] (k0_off2_inb i h2), k0_pay1 (qstored (View.read (Elt F) arg2.view f0) (View.read (Elt F) arg3.view f1) (View.read (Elt F) arg4.view f2))⟩])
        = sput (View.read (Elt F) arg13.view fs) (k0_off2 i) (qstored (View.read (Elt F) arg2.view f0) (View.read (Elt F) arg3.view f1) (View.read (Elt F) arg4.view f2)) := View.read_writes_cons_put _ _ _ _ _ rfl
    rw [← hs]
    rfl
  isplitl [H10]
  · iexists _; isplitr
    swap; · iexact H10
    ipureintro
    refine (View.read_writes_full _ _ _ _ _).trans ?_
    sl_unfold_run_names
    simp only [hw0, r1, r2, r3, r4, r5]
    rw [View.readAt_eq_ld]
    have hs : View.read (Elt F) arg13.view (arg13.view.writes (Elt F) fs [⟨Rect.unit (k0_off2 i) ![1, 96, 8192] (k0_off2_inb i h2), k0_pay1 (qstored (View.read (Elt F) arg2.view f0) (View.read (Elt F) arg3.view f1) (View.read (Elt F) arg4.view f2))⟩])
        = sput (View.read (Elt F) arg13.view fs) (k0_off2 i) (qstored (View.read (Elt F) arg2.view f0) (View.read (Elt F) arg3.view f1) (View.read (Elt F) arg4.view f2)) := View.read_writes_cons_put _ _ _ _ _ rfl
    rw [← hs]
    rfl
  iexists _; isplitr
  swap; · iexact Hs
  ipureintro
  sl_unfold_run_names
  simp only [hw0, r1, r2, r3, r4, r5]
  exact View.read_writes_cons_put _ _ _ _ _ rfl

set_option maxHeartbeats 4000000 in
/-- The next three points of a later grid row: the chunk of codes and a tile of the gate. -/
theorem sound_gate (c : Dev nD) (E : Set ℕ) (i : grid0.Coords) (arg2 : Memref sig .tc .smem S1 .f32) (harg2 : arg2.IsWhole) (arg3 : Memref sig .tc .vmem S96x8192 .bf16) (harg3 : arg3.IsWhole) (arg4 : Memref sig .tc .vmem S1x8192 .f32) (harg4 : arg4.IsWhole) (arg5 : Memref sig .tc .vmem S512x8192 .fp8e4m3) (harg5 : arg5.IsWhole) (arg6 : Memref sig .tc .vmem S1x512 .f32) (harg6 : arg6.IsWhole) (arg7 : Memref sig .tc .vmem S32x8192 .fp8e4m3) (harg7 : arg7.IsWhole) (arg8 : Memref sig .tc .vmem S1x128 .f32) (harg8 : arg8.IsWhole) (arg9 : Memref sig .tc .vmem S96x8192 .fp8e4m3) (harg9 : arg9.IsWhole) (arg10 : Memref sig .tc .vmem S864x512 .f32) (harg10 : arg10.IsWhole) (arg11 : Memref sig .tc .vmem S864x512 .f32) (harg11 : arg11.IsWhole) (arg12 : Memref sig .tc .vmem S864x128 .f32) (harg12 : arg12.IsWhole) (arg13 : Memref sig .tc .vmem S2x864x8192 .fp8e4m3) (harg13 : arg13.IsWhole)
    (h1 : ¬ k0_cond1 i = 1#1) (h2 : k0_cond2 i = 1#1) (h3 : ¬ k0_cond3 i = 1#1) (h4 : ¬ k0_cond4 i = 1#1)
    (x0 : Vec F S1 .f32) (x1 : Vec F S96x8192 .bf16) (x2 : Vec F S1x8192 .f32) (x3 : Vec F S512x8192 .fp8e4m3) (x4 : Vec F S1x512 .f32) (s : Vec F S2x864x8192 .fp8e4m3) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg9 fullShare d) ∗ (∃ d, owns (c : Thread nD τ) arg10 fullShare d) ∗ owns (c : Thread nD τ) arg13 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg9 fullShare (qstored x0 x1 x2) ∗ owns (c : Thread nD τ) arg10 fullShare (pstored x0 (View.ld (sput s (k0_off2 i) (qstored x0 x1 x2)) (slot3 i h2)) x3 x4) ∗ owns (c : Thread nD τ) arg13 fullShare (sput s (k0_off2 i) (qstored x0 x1 x2))) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13) K := by
  simp only [cc0_in_proj_eq_skeleton]; unfold cc0_in_proj_skel
  simp only [dif_neg h1, dif_pos h2, dif_neg h3, dif_neg h4, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%fs, %hfs, Hs⟩, Hk⟩
  subst hf0 hf1 hf2 hf3 hf4 hfs
  sl_exec
  sl_step
  have hw0 (h : 0 < S1.numel) : View.readAt (Elt F) arg2.view (Rect.unit ![0] S1.size inb_S1_S1_0).toLoadRect f0 (Shape.Idx.first h)
      = word (View.read (Elt F) arg2.view f0) := by
    rw [View.readAt_eq_ld, View.ld_unit_zero zeros1]
    exact (word_eq _ _).symm
  iapply Hk
  have r1 : View.readAt (Elt F) arg3.view (Rect.unit ![0, 0] ![96, 8192] inb_S96x8192_S96x8192_0_0).toLoadRect f1 = View.read (Elt F) arg3.view f1 :=
    View.readAt_full _ _ _
  have r2 : View.readAt (Elt F) arg4.view (Rect.unit ![0, 0] ![1, 8192] inb_S1x8192_S1x8192_0_0).toLoadRect f2 = View.read (Elt F) arg4.view f2 :=
    View.readAt_full _ _ _
  have r3 : View.readAt (Elt F) arg5.view (Rect.unit ![0, 0] ![512, 8192] inb_S512x8192_S512x8192_0_0).toLoadRect f3 = View.read (Elt F) arg5.view f3 :=
    View.readAt_full _ _ _
  have r4 : View.readAt (Elt F) arg6.view (Rect.unit ![0, 0] ![1, 512] inb_S1x512_S1x512_0_0).toLoadRect f4 = View.read (Elt F) arg6.view f4 :=
    View.readAt_full _ _ _
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro
    refine (View.read_writes_full _ _ _ _ _).trans ?_
    sl_unfold_run_names
    simp only [hw0, r1, r2, r3, r4]
    rfl
  isplitl [H8]
  · iexists _; isplitr
    swap; · iexact H8
    ipureintro
    refine (View.read_writes_full _ _ _ _ _).trans ?_
    sl_unfold_run_names
    simp only [hw0, r1, r2, r3, r4]
    rw [View.readAt_eq_ld]
    have hs : View.read (Elt F) arg13.view (arg13.view.writes (Elt F) fs [⟨Rect.unit (k0_off2 i) ![1, 96, 8192] (k0_off2_inb i h2), k0_pay1 (qstored (View.read (Elt F) arg2.view f0) (View.read (Elt F) arg3.view f1) (View.read (Elt F) arg4.view f2))⟩])
        = sput (View.read (Elt F) arg13.view fs) (k0_off2 i) (qstored (View.read (Elt F) arg2.view f0) (View.read (Elt F) arg3.view f1) (View.read (Elt F) arg4.view f2)) := View.read_writes_cons_put _ _ _ _ _ rfl
    rw [← hs]
    rfl
  iexists _; isplitr
  swap; · iexact Hs
  ipureintro
  sl_unfold_run_names
  simp only [hw0, r1, r2, r3, r4]
  exact View.read_writes_cons_put _ _ _ _ _ rfl

set_option maxHeartbeats 4000000 in
/-- The last five points of a later grid row: the chunk of codes and a tile of the convolution's input. -/
theorem sound_conv (c : Dev nD) (E : Set ℕ) (i : grid0.Coords) (arg2 : Memref sig .tc .smem S1 .f32) (harg2 : arg2.IsWhole) (arg3 : Memref sig .tc .vmem S96x8192 .bf16) (harg3 : arg3.IsWhole) (arg4 : Memref sig .tc .vmem S1x8192 .f32) (harg4 : arg4.IsWhole) (arg5 : Memref sig .tc .vmem S512x8192 .fp8e4m3) (harg5 : arg5.IsWhole) (arg6 : Memref sig .tc .vmem S1x512 .f32) (harg6 : arg6.IsWhole) (arg7 : Memref sig .tc .vmem S32x8192 .fp8e4m3) (harg7 : arg7.IsWhole) (arg8 : Memref sig .tc .vmem S1x128 .f32) (harg8 : arg8.IsWhole) (arg9 : Memref sig .tc .vmem S96x8192 .fp8e4m3) (harg9 : arg9.IsWhole) (arg10 : Memref sig .tc .vmem S864x512 .f32) (harg10 : arg10.IsWhole) (arg11 : Memref sig .tc .vmem S864x512 .f32) (harg11 : arg11.IsWhole) (arg12 : Memref sig .tc .vmem S864x128 .f32) (harg12 : arg12.IsWhole) (arg13 : Memref sig .tc .vmem S2x864x8192 .fp8e4m3) (harg13 : arg13.IsWhole)
    (h1 : ¬ k0_cond1 i = 1#1) (h2 : ¬ k0_cond2 i = 1#1) (h3 : k0_cond3 i = 1#1) (h4 : ¬ k0_cond4 i = 1#1)
    (x0 : Vec F S1 .f32) (x1 : Vec F S96x8192 .bf16) (x2 : Vec F S1x8192 .f32) (x3 : Vec F S512x8192 .fp8e4m3) (x4 : Vec F S1x512 .f32) (s : Vec F S2x864x8192 .fp8e4m3) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg9 fullShare d) ∗ (∃ d, owns (c : Thread nD τ) arg11 fullShare d) ∗ owns (c : Thread nD τ) arg13 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg9 fullShare (qstored x0 x1 x2) ∗ owns (c : Thread nD τ) arg11 fullShare (pstored x0 (View.ld (sput s (k0_off4 i) (qstored x0 x1 x2)) (slot5 i h3)) x3 x4) ∗ owns (c : Thread nD τ) arg13 fullShare (sput s (k0_off4 i) (qstored x0 x1 x2))) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13) K := by
  simp only [cc0_in_proj_eq_skeleton]; unfold cc0_in_proj_skel
  simp only [dif_neg h1, dif_neg h2, dif_pos h3, dif_neg h4, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d9, %f9, -, H9⟩, ⟨%fs, %hfs, Hs⟩, Hk⟩
  subst hf0 hf1 hf2 hf3 hf4 hfs
  sl_exec
  sl_step
  have hw0 (h : 0 < S1.numel) : View.readAt (Elt F) arg2.view (Rect.unit ![0] S1.size inb_S1_S1_0).toLoadRect f0 (Shape.Idx.first h)
      = word (View.read (Elt F) arg2.view f0) := by
    rw [View.readAt_eq_ld, View.ld_unit_zero zeros1]
    exact (word_eq _ _).symm
  iapply Hk
  have r1 : View.readAt (Elt F) arg3.view (Rect.unit ![0, 0] ![96, 8192] inb_S96x8192_S96x8192_0_0).toLoadRect f1 = View.read (Elt F) arg3.view f1 :=
    View.readAt_full _ _ _
  have r2 : View.readAt (Elt F) arg4.view (Rect.unit ![0, 0] ![1, 8192] inb_S1x8192_S1x8192_0_0).toLoadRect f2 = View.read (Elt F) arg4.view f2 :=
    View.readAt_full _ _ _
  have r3 : View.readAt (Elt F) arg5.view (Rect.unit ![0, 0] ![512, 8192] inb_S512x8192_S512x8192_0_0).toLoadRect f3 = View.read (Elt F) arg5.view f3 :=
    View.readAt_full _ _ _
  have r4 : View.readAt (Elt F) arg6.view (Rect.unit ![0, 0] ![1, 512] inb_S1x512_S1x512_0_0).toLoadRect f4 = View.read (Elt F) arg6.view f4 :=
    View.readAt_full _ _ _
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro
    refine (View.read_writes_full _ _ _ _ _).trans ?_
    sl_unfold_run_names
    simp only [hw0, r1, r2, r3, r4]
    rfl
  isplitl [H9]
  · iexists _; isplitr
    swap; · iexact H9
    ipureintro
    refine (View.read_writes_full _ _ _ _ _).trans ?_
    sl_unfold_run_names
    simp only [hw0, r1, r2, r3, r4]
    rw [View.readAt_eq_ld]
    have hs : View.read (Elt F) arg13.view (arg13.view.writes (Elt F) fs [⟨Rect.unit (k0_off4 i) ![1, 96, 8192] (k0_off4_inb i h3), k0_pay1 (qstored (View.read (Elt F) arg2.view f0) (View.read (Elt F) arg3.view f1) (View.read (Elt F) arg4.view f2))⟩])
        = sput (View.read (Elt F) arg13.view fs) (k0_off4 i) (qstored (View.read (Elt F) arg2.view f0) (View.read (Elt F) arg3.view f1) (View.read (Elt F) arg4.view f2)) := View.read_writes_cons_put _ _ _ _ _ rfl
    rw [← hs]
    rfl
  iexists _; isplitr
  swap; · iexact Hs
  ipureintro
  sl_unfold_run_names
  simp only [hw0, r1, r2, r3, r4]
  exact View.read_writes_cons_put _ _ _ _ _ rfl

/-! ## The proof data -/

/-- Which of the four cases a point is in. -/
theorem cases_at : ∀ t : Fin cfg0.N,
    (k0_cond1 (grid0.coords t) = 1#1 ∧ ¬ k0_cond2 (grid0.coords t) = 1#1 ∧ ¬ k0_cond3 (grid0.coords t) = 1#1 ∧ ¬ k0_cond4 (grid0.coords t) = 1#1)
    ∨ (¬ k0_cond1 (grid0.coords t) = 1#1 ∧ k0_cond2 (grid0.coords t) = 1#1 ∧ ¬ k0_cond3 (grid0.coords t) = 1#1 ∧ k0_cond4 (grid0.coords t) = 1#1)
    ∨ (¬ k0_cond1 (grid0.coords t) = 1#1 ∧ k0_cond2 (grid0.coords t) = 1#1 ∧ ¬ k0_cond3 (grid0.coords t) = 1#1 ∧ ¬ k0_cond4 (grid0.coords t) = 1#1)
    ∨ (¬ k0_cond1 (grid0.coords t) = 1#1 ∧ ¬ k0_cond2 (grid0.coords t) = 1#1 ∧ k0_cond3 (grid0.coords t) = 1#1 ∧ ¬ k0_cond4 (grid0.coords t) = 1#1) :=
  (by decide +kernel : ∀ t : Fin grid0.N, _)

variable (m : (ℓ : Loc nD τ sig) → Buf (Elt F) ℓ) (ρ : Dev nD → PrngReg)

/-- The chunk of the input at point `t`: the array's rows where there are any, the zero word past the array's end. -/
def xtile (c : Dev nD) (t : Fin cfg0.N) : Vec F S96x8192 .bf16 :=
  win0_1.fill (grid0.coords t) (fun _ => Scalar.ofBits .bf16 0#16) (iblk m c 1 t)

/-- The step sizes' row of scales at point `t`, likewise (its block reaches past the array's last column). -/
def stile (c : Dev nD) (t : Fin cfg0.N) : Vec F S1x128 .f32 :=
  win0_6.fill (grid0.coords t) (fun _ => Scalar.ofBits .f32 0#32) (iblk m c 6 t)

/-- What is stated of the results' buffers after each point, and of the scratch buffer before it. -/
structure Claimed (F : FTy → Type) [FloatOps F] where
  q : Dev nD → Fin cfg0.N → Vec F S96x8192 .fp8e4m3
  z : Dev nD → Fin cfg0.N → Vec F S864x512 .f32
  x : Dev nD → Fin cfg0.N → Vec F S864x512 .f32
  d : Dev nD → Fin cfg0.N → Vec F S864x128 .f32
  good : Dev nD → ℕ → Vec F S2x864x8192 .fp8e4m3 → Prop

variable (C : Claimed F)

/-- The invariant between points: the scratch buffer at contents the claim admits, and the generator's register. -/
def inv (c : Dev nD) (n : ℕ) : sProp 𝕄 :=
  iprop((∃ s, ⌜C.good c n s⌝ ∗ owns (c : Thread nD τ) (Memref.whole cc0_scratch0) fullShare s) ∗ ∃ r, prngReg c r)

/-- The proof data: the arrays as the region finds them; after the body each input buffer at its block, the results'
    buffers as claimed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => xtile m c t
    | ⟨2, _⟩ => iblk m c 2 t
    | ⟨3, _⟩ => X0_3 m c t
    | ⟨4, _⟩ => X0_4 m c t
    | ⟨5, _⟩ => iblk m c 5 t
    | ⟨6, _⟩ => stile m c t
    | ⟨7, _⟩ => C.q c t
    | ⟨8, _⟩ => C.z c t
    | ⟨9, _⟩ => C.x c t
    | ⟨10, _⟩ => C.d c t
  Φ t := inv C c t.val
  q _ := fullShare
  owed _ := 0

theorem A_eq (c : Dev nD) (w : Fin cfg0.W) : (dats m C 0 c).A w = V m c (Pipeline.arrRef spec0 w) := by
  dsimp only [dats]
theorem after0_0 (c : Dev nD) (t : Fin cfg0.N) : (dats m C 0 c).after 0 t = iblk m c 0 t := by dsimp only [dats]
theorem after0_1 (c : Dev nD) (t : Fin cfg0.N) : (dats m C 0 c).after 1 t = xtile m c t := by dsimp only [dats]
theorem after0_2 (c : Dev nD) (t : Fin cfg0.N) : (dats m C 0 c).after 2 t = iblk m c 2 t := by dsimp only [dats]
theorem after0_3 (c : Dev nD) (t : Fin cfg0.N) : (dats m C 0 c).after 3 t = X0_3 m c t := by dsimp only [dats]
theorem after0_4 (c : Dev nD) (t : Fin cfg0.N) : (dats m C 0 c).after 4 t = X0_4 m c t := by dsimp only [dats]
theorem after0_5 (c : Dev nD) (t : Fin cfg0.N) : (dats m C 0 c).after 5 t = iblk m c 5 t := by dsimp only [dats]
theorem after0_6 (c : Dev nD) (t : Fin cfg0.N) : (dats m C 0 c).after 6 t = stile m c t := by dsimp only [dats]
theorem after0_7 (c : Dev nD) (t : Fin cfg0.N) : (dats m C 0 c).after 7 t = C.q c t := by dsimp only [dats]
theorem after0_8 (c : Dev nD) (t : Fin cfg0.N) : (dats m C 0 c).after 8 t = C.z c t := by dsimp only [dats]
theorem after0_9 (c : Dev nD) (t : Fin cfg0.N) : (dats m C 0 c).after 9 t = C.x c t := by dsimp only [dats]
theorem after0_10 (c : Dev nD) (t : Fin cfg0.N) : (dats m C 0 c).after 10 t = C.d c t := by dsimp only [dats]
theorem phi_eq (c : Dev nD) (t : Fin (cfg0.N + 1)) : (dats m C 0 c).Φ t = inv C c t.val := by dsimp only [dats]

theorem before0_0 (c : Dev nD) (t : Fin cfg0.N) (d) : (dats m C 0 c).before 0 t d = iblk m c 0 t :=
  before0_0_of m (dats m C 0 c) (A_eq m C c 0) (after0_0 m C c) t d
theorem before0_2 (c : Dev nD) (t : Fin cfg0.N) (d) : (dats m C 0 c).before 2 t d = iblk m c 2 t :=
  before0_2_of m (dats m C 0 c) (A_eq m C c 2) (after0_2 m C c) t d
theorem before0_3 (c : Dev nD) (t : Fin cfg0.N) (d) : (dats m C 0 c).before 3 t d = X0_3 m c t :=
  before0_3_of m (dats m C 0 c) (A_eq m C c 3) (after0_3 m C c) t d
theorem before0_4 (c : Dev nD) (t : Fin cfg0.N) (d) : (dats m C 0 c).before 4 t d = X0_4 m c t :=
  before0_4_of m (dats m C 0 c) (A_eq m C c 4) (after0_4 m C c) t d
theorem before0_5 (c : Dev nD) (t : Fin cfg0.N) (d) : (dats m C 0 c).before 5 t d = iblk m c 5 t :=
  before0_5_of m (dats m C 0 c) (A_eq m C c 5) (after0_5 m C c) t d

/-- Where the chunk of the input is cut depends on the block index alone. -/
theorem clip0_1 (t t' : Fin cfg0.N) (h : (cfg0.win 1).index t = (cfg0.win 1).index t') :
    (cfg0.win 1).clip (cfg0.grid.coords t) = (cfg0.win 1).clip (cfg0.grid.coords t') := by
  funext a
  change Pipeline.Clip.of (win0_1.index t a) _ _ = Pipeline.Clip.of (win0_1.index t' a) _ _
  have ha : win0_1.index t a = win0_1.index t' a := congrFun h a
  rw [ha]

/-- The part of `xtile` inside the array is the block. -/
theorem cut_xtile (c : Dev nD) (t : Fin cfg0.N) : win0_1.cut (grid0.coords t) (xtile m c t) = iblk m c 1 t :=
  win0_1.cut_fill _ _ _

/-- The buffer of the chunk of the input holds the block inside the array, anything past the array's end. -/
theorem before0_1 (c : Dev nD) (t : Fin cfg0.N) (d) :
    (dats m C 0 c).before 1 t d = win0_1.fill (grid0.coords t) d (iblk m c 1 t) := by
  refine ((dats m C 0 c).before_in_eq_fetched 1 rfl (fun _ => rfl) clip0_1 (fun t => ?_) t d).trans ?_
  · rw [after0_1]; unfold xtile Dat.blockOf iblk; rw [A_eq]; exact win0_1.cut_fill _ _ _
  · unfold Dat.fetched Dat.blockOf iblk; rw [A_eq]

/-- Where the step sizes' row of scales is cut depends on the block index alone. -/
theorem clip0_6 (t t' : Fin cfg0.N) (h : (cfg0.win 6).index t = (cfg0.win 6).index t') :
    (cfg0.win 6).clip (cfg0.grid.coords t) = (cfg0.win 6).clip (cfg0.grid.coords t') := by
  funext a
  change Pipeline.Clip.of (win0_6.index t a) _ _ = Pipeline.Clip.of (win0_6.index t' a) _ _
  have ha : win0_6.index t a = win0_6.index t' a := congrFun h a
  rw [ha]

/-- The part of `stile` inside the array is the block. -/
theorem cut_stile (c : Dev nD) (t : Fin cfg0.N) : win0_6.cut (grid0.coords t) (stile m c t) = iblk m c 6 t :=
  win0_6.cut_fill _ _ _

/-- The buffer of the step sizes' row of scales holds the block inside the array, anything past the array's end. -/
theorem before0_6 (c : Dev nD) (t : Fin cfg0.N) (d) :
    (dats m C 0 c).before 6 t d = win0_6.fill (grid0.coords t) d (iblk m c 6 t) := by
  refine ((dats m C 0 c).before_in_eq_fetched 6 rfl (fun _ => rfl) clip0_6 (fun t => ?_) t d).trans ?_
  · rw [after0_6]; unfold stile Dat.blockOf iblk; rw [A_eq]; exact win0_6.cut_fill _ _ _
  · unfold Dat.fetched Dat.blockOf iblk; rw [A_eq]

/-- The region's own invariant admits any contents of the scratch buffer. -/
theorem inv_in (c : Dev nD) (h : ∀ s, C.good c 0 s) : Pipeline.ΦA spec0 c ⊢ (inv C c 0 : sProp 𝕄) := by
  unfold Pipeline.ΦA inv
  rw [scopedRest0_eq]
  iintro ⟨⟨%f, Hs⟩, Hr⟩
  isplitl [Hs]
  · iexists f
    isplitr; · ipureintro; exact h f
    rw [owns_whole]; iexact Hs
  · iexact Hr

theorem inv_out (c : Dev nD) (n : ℕ) : (inv C c n : sProp 𝕄) ⊢ Pipeline.ΦA spec0 c := by
  unfold Pipeline.ΦA inv
  rw [scopedRest0_eq]
  iintro ⟨⟨%s, -, Hs⟩, Hr⟩
  isplitl [Hs]
  · iexists s
    rw [← owns_whole]; iexact Hs
  · iexact Hr

theorem defs₀_row (t : Fin cfg0.N) :
    defs₀ (F := F) .tc cfg0.body (cfg0.bodyArgs t (cfg0.slots t)) = bodyAt0 t := by
  unfold defs₀; rw [Defs.onTc_tc]

/-! ## The frame: what the results hold is left unsaid -/

/-- The windows whose contents the frame does not name: the outputs'. -/
def fgt : Fin cfg0.W → Bool := fun w => match w with
  | 0 => false | 1 => false | 2 => false | 3 => false | 4 => false | 5 => false | 6 => false | 7 => true | 8 => true | 9 => true | 10 => true
  | ⟨_ + 11, h⟩ => absurd h (Nat.not_lt.2 (Nat.le_add_left _ _))

/-- Nothing is claimed of the results, nor of the scratch buffer. -/
def nothing : Claimed F where
  q _ _ _ := Scalar.ofBits .fp8e4m3 0#8
  z _ _ _ := Scalar.ofBits .f32 0#32
  x _ _ _ := Scalar.ofBits .f32 0#32
  d _ _ _ := Scalar.ofBits .f32 0#32
  good _ _ _ := True

theorem body_obligation_fgt (c : Dev nD) :
    BodyObligationLoose (dats (F := F) m nothing 0 c) (defs₀ (F := F)) Variants.none () Set.univ fgt := fun t => by
  rw [bigSep_W0, bigSep_W0, defs₀_row]
  simp only [fgt]
  rw [phi_eq, phi_eq, show (dats m nothing 0 c).owesAt () t.succ = (dats m nothing 0 c).owesAt () t.castSucc from rfl]
  unfold inv
  iintro ⟨⟨⟨%s, -, Hs⟩, Hr⟩, Ho, ⟨%d0, H0⟩, ⟨%d1, H1⟩, ⟨%d2, H2⟩, ⟨%d3, H3⟩, ⟨%d4, H4⟩, ⟨%d5, H5⟩, ⟨%d6, H6⟩, H7, H8, H9, H10⟩
  rw [before0_0 m nothing c t d0, before0_1 m nothing c t d1, before0_2 m nothing c t d2, before0_3 m nothing c t d3, before0_4 m nothing c t d4, before0_5 m nothing c t d5, before0_6 m nothing c t d6]
  rcases cases_at t with ⟨h1, h2, h3, h4⟩ | ⟨h1, h2, h3, h4⟩ | ⟨h1, h2, h3, h4⟩ | ⟨h1, h2, h3, h4⟩
  · iapply (sound_norm c Set.univ _ _ _ _ _ _ _ _ _ _ _ _ _ _ _ _ _ _ _ _ _ _ _ _ _ h1 h2 h3 h4 (iblk m c 0 t) (win0_1.fill (grid0.coords t) d1 (iblk m c 1 t)) (iblk m c 2 t) s _)
    isplitl [H0]; · iexact H0
    isplitl [H1]; · iexact H1
    isplitl [H2]; · iexact H2
    isplitl [H7]; · iexact H7
    isplitl [Hs]; · iexact Hs
    iintro ⟨H0, H1, H2, H7, Hs⟩
    isplitl [Hs Hr]
    · isplitl [Hs]
      · iexists (sput s (k0_off1 (grid0.coords t)) (qstored (iblk m c 0 t) (win0_1.fill (grid0.coords t) d1 (iblk m c 1 t)) (iblk m c 2 t)))
        isplitr; · ipureintro; trivial
        iexact Hs
      · iexact Hr
    isplitl [Ho]; · iexact Ho
    isplitl [H0]; · iexact H0
    isplitl [H1]
    · iexists d1
      change _ ⊢ owns (c : Thread nD τ) (stage0_1 (cfg0.slots t 1)) fullShare (win0_1.fill (grid0.coords t) d1 (win0_1.cut (grid0.coords t) ((dats m nothing 0 c).after 1 t)))
      rw [after0_1, cut_xtile]
    isplitl [H2]; · iexact H2
    isplitl [H3]
    · iexists X0_3 m c t
      change _ ⊢ owns (c : Thread nD τ) (stage0_3 (cfg0.slots t 3)) fullShare (win0_3.fill (grid0.coords t) (X0_3 m c t) (win0_3.cut (grid0.coords t) ((dats m nothing 0 c).after 3 t)))
      rw [after0_3, win0_3.fill_cut]
    isplitl [H4]
    · iexists X0_4 m c t
      change _ ⊢ owns (c : Thread nD τ) (stage0_4 (cfg0.slots t 4)) fullShare (win0_4.fill (grid0.coords t) (X0_4 m c t) (win0_4.cut (grid0.coords t) ((dats m nothing 0 c).after 4 t)))
      rw [after0_4, win0_4.fill_cut]
    isplitl [H5]; · iexact H5
    isplitl [H6]
    · iexists d6
      change _ ⊢ owns (c : Thread nD τ) (stage0_6 (cfg0.slots t 6)) fullShare (win0_6.fill (grid0.coords t) d6 (win0_6.cut (grid0.coords t) ((dats m nothing 0 c).after 6 t)))
      rw [after0_6, cut_stile]
    isplitl [H7]; · iexists _; iexact H7
    isplitl [H8]; · iexact H8
    isplitl [H9]; · iexact H9
    iexact H10
  · iapply (sound_first c Set.univ _ _ _ _ _ _ _ _ _ _ _ _ _ _ _ _ _ _ _ _ _ _ _ _ _ h1 h2 h3 h4 (iblk m c 0 t) (win0_1.fill (grid0.coords t) d1 (iblk m c 1 t)) (iblk m c 2 t) (X0_3 m c t) (X0_4 m c t) (iblk m c 5 t) (win0_6.fill (grid0.coords t) d6 (iblk m c 6 t)) s _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H10]; · iexact H10
    isplitl [Hs]; · iexact Hs
    iintro ⟨H0, H1, H2, H3, H4, H5, H6, H7, H8, H10, Hs⟩
    isplitl [Hs Hr]
    · isplitl [Hs]
      · iexists (sput s (k0_off2 (grid0.coords t)) (qstored (iblk m c 0 t) (win0_1.fill (grid0.coords t) d1 (iblk m c 1 t)) (iblk m c 2 t)))
        isplitr; · ipureintro; trivial
        iexact Hs
      · iexact Hr
    isplitl [Ho]; · iexact Ho
    isplitl [H0]; · iexact H0
    isplitl [H1]
    · iexists d1
      change _ ⊢ owns (c : Thread nD τ) (stage0_1 (cfg0.slots t 1)) fullShare (win0_1.fill (grid0.coords t) d1 (win0_1.cut (grid0.coords t) ((dats m nothing 0 c).after 1 t)))
      rw [after0_1, cut_xtile]
    isplitl [H2]; · iexact H2
    isplitl [H3]
    · iexists X0_3 m c t
      change _ ⊢ owns (c : Thread nD τ) (stage0_3 (cfg0.slots t 3)) fullShare (win0_3.fill (grid0.coords t) (X0_3 m c t) (win0_3.cut (grid0.coords t) ((dats m nothing 0 c).after 3 t)))
      rw [after0_3, win0_3.fill_cut]
    isplitl [H4]
    · iexists X0_4 m c t
      change _ ⊢ owns (c : Thread nD τ) (stage0_4 (cfg0.slots t 4)) fullShare (win0_4.fill (grid0.coords t) (X0_4 m c t) (win0_4.cut (grid0.coords t) ((dats m nothing 0 c).after 4 t)))
      rw [after0_4, win0_4.fill_cut]
    isplitl [H5]; · iexact H5
    isplitl [H6]
    · iexists d6
      change _ ⊢ owns (c : Thread nD τ) (stage0_6 (cfg0.slots t 6)) fullShare (win0_6.fill (grid0.coords t) d6 (win0_6.cut (grid0.coords t) ((dats m nothing 0 c).after 6 t)))
      rw [after0_6, cut_stile]
    isplitl [H7]; · iexists _; iexact H7
    isplitl [H8]; · iexists _; iexact H8
    isplitl [H9]; · iexact H9
    iexists _; iexact H10
  · iapply (sound_gate c Set.univ _ _ _ _ _ _ _ _ _ _ _ _ _ _ _ _ _ _ _ _ _ _ _ _ _ h1 h2 h3 h4 (iblk m c 0 t) (win0_1.fill (grid0.coords t) d1 (iblk m c 1 t)) (iblk m c 2 t) (X0_3 m c t) (X0_4 m c t) s _)
    isplitl [H0]; · iexact H0
    isplitl [H1]; · iexact H1
    isplitl [H2]; · iexact H2
    isplitl [H3]; · iexact H3
    isplitl [H4]; · iexact H4
    isplitl [H7]; · iexact H7
    isplitl [H8]; · iexact H8
    isplitl [Hs]; · iexact Hs
    iintro ⟨H0, H1, H2, H3, H4, H7, H8, Hs⟩
    isplitl [Hs Hr]
    · isplitl [Hs]
      · iexists (sput s (k0_off2 (grid0.coords t)) (qstored (iblk m c 0 t) (win0_1.fill (grid0.coords t) d1 (iblk m c 1 t)) (iblk m c 2 t)))
        isplitr; · ipureintro; trivial
        iexact Hs
      · iexact Hr
    isplitl [Ho]; · iexact Ho
    isplitl [H0]; · iexact H0
    isplitl [H1]
    · iexists d1
      change _ ⊢ owns (c : Thread nD τ) (stage0_1 (cfg0.slots t 1)) fullShare (win0_1.fill (grid0.coords t) d1 (win0_1.cut (grid0.coords t) ((dats m nothing 0 c).after 1 t)))
      rw [after0_1, cut_xtile]
    isplitl [H2]; · iexact H2
    isplitl [H3]
    · iexists X0_3 m c t
      change _ ⊢ owns (c : Thread nD τ) (stage0_3 (cfg0.slots t 3)) fullShare (win0_3.fill (grid0.coords t) (X0_3 m c t) (win0_3.cut (grid0.coords t) ((dats m nothing 0 c).after 3 t)))
      rw [after0_3, win0_3.fill_cut]
    isplitl [H4]
    · iexists X0_4 m c t
      change _ ⊢ owns (c : Thread nD τ) (stage0_4 (cfg0.slots t 4)) fullShare (win0_4.fill (grid0.coords t) (X0_4 m c t) (win0_4.cut (grid0.coords t) ((dats m nothing 0 c).after 4 t)))
      rw [after0_4, win0_4.fill_cut]
    isplitl [H5]; · iexact H5
    isplitl [H6]
    · iexists d6
      change _ ⊢ owns (c : Thread nD τ) (stage0_6 (cfg0.slots t 6)) fullShare (win0_6.fill (grid0.coords t) d6 (win0_6.cut (grid0.coords t) ((dats m nothing 0 c).after 6 t)))
      rw [after0_6, cut_stile]
    isplitl [H7]; · iexists _; iexact H7
    isplitl [H8]; · iexists _; iexact H8
    isplitl [H9]; · iexact H9
    iexact H10
  · iapply (sound_conv c Set.univ _ _ _ _ _ _ _ _ _ _ _ _ _ _ _ _ _ _ _ _ _ _ _ _ _ h1 h2 h3 h4 (iblk m c 0 t) (win0_1.fill (grid0.coords t) d1 (iblk m c 1 t)) (iblk m c 2 t) (X0_3 m c t) (X0_4 m c t) s _)
    isplitl [H0]; · iexact H0
    isplitl [H1]; · iexact H1
    isplitl [H2]; · iexact H2
    isplitl [H3]; · iexact H3
    isplitl [H4]; · iexact H4
    isplitl [H7]; · iexact H7
    isplitl [H9]; · iexact H9
    isplitl [Hs]; · iexact Hs
    iintro ⟨H0, H1, H2, H3, H4, H7, H9, Hs⟩
    isplitl [Hs Hr]
    · isplitl [Hs]
      · iexists (sput s (k0_off4 (grid0.coords t)) (qstored (iblk m c 0 t) (win0_1.fill (grid0.coords t) d1 (iblk m c 1 t)) (iblk m c 2 t)))
        isplitr; · ipureintro; trivial
        iexact Hs
      · iexact Hr
    isplitl [Ho]; · iexact Ho
    isplitl [H0]; · iexact H0
    isplitl [H1]
    · iexists d1
      change _ ⊢ owns (c : Thread nD τ) (stage0_1 (cfg0.slots t 1)) fullShare (win0_1.fill (grid0.coords t) d1 (win0_1.cut (grid0.coords t) ((dats m nothing 0 c).after 1 t)))
      rw [after0_1, cut_xtile]
    isplitl [H2]; · iexact H2
    isplitl [H3]
    · iexists X0_3 m c t
      change _ ⊢ owns (c : Thread nD τ) (stage0_3 (cfg0.slots t 3)) fullShare (win0_3.fill (grid0.coords t) (X0_3 m c t) (win0_3.cut (grid0.coords t) ((dats m nothing 0 c).after 3 t)))
      rw [after0_3, win0_3.fill_cut]
    isplitl [H4]
    · iexists X0_4 m c t
      change _ ⊢ owns (c : Thread nD τ) (stage0_4 (cfg0.slots t 4)) fullShare (win0_4.fill (grid0.coords t) (X0_4 m c t) (win0_4.cut (grid0.coords t) ((dats m nothing 0 c).after 4 t)))
      rw [after0_4, win0_4.fill_cut]
    isplitl [H5]; · iexact H5
    isplitl [H6]
    · iexists d6
      change _ ⊢ owns (c : Thread nD τ) (stage0_6 (cfg0.slots t 6)) fullShare (win0_6.fill (grid0.coords t) d6 (win0_6.cut (grid0.coords t) ((dats m nothing 0 c).after 6 t)))
      rw [after0_6, cut_stile]
    isplitl [H7]; · iexists _; iexact H7
    isplitl [H8]; · iexact H8
    isplitl [H9]; · iexists _; iexact H9
    iexact H10

set_option backward.isDefEq.respectTransparency.types false in
set_option maxHeartbeats 800000 in
/-- The launch, the outputs' contents left unsaid, every semaphore counter at zero at the end. -/
theorem run_fgt : θ_run defs (onTc (τ := τ) (main (F := F))) (s₀ m ρ)
    (fun r => Pipeline.RDat.FramePost cfg0 (fun c => (dats m nothing 0 c).toRForget fgt) (V m) r ∧ r.2.sem = fun _ => 0) :=
  Pipeline.θ_run_frame_track_forget (Q' := _) cfgs (dats m nothing) (0 : Fin 1) launch0 defs₀ Variants.none fgt m ρ main
    (hbody := body_obligation_fgt m) (hshare := fun c => (dats m nothing 0 c).share_full fun _ => rfl)
    (howed := fun _ _ => rfl) (V := V m) (hmain := hmain m Variants.none) (hA := A_eq m nothing)
    (hin := fun c => inv_in nothing c fun _ => trivial) (hout := fun c => inv_out nothing c _)

/-- THE FRAME: the kernel terminates, its arguments end unchanged, every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨(h.1.arr_in c 1 rfl).trans ((A_eq m nothing c 1).trans (V_main_arg0 m c)),
     ((h.1 c).2 main_arg1 (Pipeline.mem_restRefs_of main_arg1 (by decide) (by decide))).trans (V_main_arg1 m c),
     (h.1.arr_in c 0 rfl).trans ((A_eq m nothing c 0).trans (V_main_arg2 m c)),
     ((h.1 c).2 main_arg3 (Pipeline.mem_restRefs_of main_arg3 (by decide) (by decide))).trans (V_main_arg3 m c),
     ((h.1 c).2 main_arg4 (Pipeline.mem_restRefs_of main_arg4 (by decide) (by decide))).trans (V_main_arg4 m c)⟩, h.2⟩) (run_fgt m ρ)

end Cert.InIdeal.Body

end
-- ==== Proof.InValue.lean ====
/-
  `In` over the reals computes its reference. A chunk of codes depends on its own rows alone, so inside the array it is
  the reference's codes at those rows (`qstored_at`); between points the scratch buffer holds the reference's codes of the
  chunks stored in the current row of the grid and in the row before it (`Good`, `good_step`); so the slot a point reads
  holds the reference's codes of 864 consecutive rows (`slot_at`), and the tiles of the projection it stores are, on the
  rows inside the arrays, the reference's (`z_at`, `x_at`, `d_at`). Two of the results' buffers are written back some
  points after they were stored; they still hold the same values then (`carried8`, `carried10`). The tiles cover the
  arrays, so the arrays end holding the reference's results.
-/
module

public import proofs.«01_k».proof.Defs
public import proofs.«01_k».proof.Proof.InIdealBody
public import proofs.«01_k».proof.Proof.Gen.InRefIdeal.Value
public import Idealize.ShloMosaic.Lib.Pointwise
public import Idealize.ShloMosaic.Lib.StableHlo.ReadAt

@[expose] public section

set_option maxRecDepth 16384

noncomputable section

namespace Cert.InIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.InIdeal.Gen

/-! ## One element of a tile and of the reference's results -/

/-- One element of the codes: the input `x` over the root of its row's mean square (`S` the sum of the row's squares)
    plus epsilon, times the norm's weight, over the scale, clipped. -/
def qelem (x S nw s : EReal) : EReal :=
  min (Ideal.ofBits .f32 0x43E00000#32) (max (Ideal.ofBits .f32 0xC3E00000#32)
    (Ideal.div (Ideal.div x (Ideal.sqrt (Ideal.div S (Ideal.ofBits .f32 0x46000000#32) + Ideal.ofBits .f32 0x3727C5AC#32)) * nw) s))

/-- One element of the projection: a row of codes against a column of the weights, scaled. -/
def pelem (x w : Fin 8192 → EReal) (s sc : EReal) : EReal := (∑ k, x k * w k) * s * sc

theorem qstored_apply (x0 : Vec Ideal S1 .f32) (x1 : Vec Ideal S96x8192 .bf16) (x2 : Vec Ideal S1x8192 .f32) (r : Fin 96) (q : Fin 8192) :
    qstored x0 x1 x2 (ix2 r q) = qelem (x1 (ix2 r q)) (∑ k : Fin 8192, x1 (ix2 r k) * x1 (ix2 r k)) (x2 (ix2 0 q)) (x0 (ix1 0)) := by
  unfold qstored qelem
  rw [← word_eq x0 (ix1 0)]
  pointwise [k0_pay7]

theorem pstored_apply (x0 : Vec Ideal S1 .f32) (a : Vec Ideal S1x864x8192 .fp8e4m3) (x3 : Vec Ideal S512x8192 .fp8e4m3)
    (x4 : Vec Ideal S1x512 .f32) (r : Fin 864) (q : Fin 512) :
    pstored x0 a x3 x4 (ix2 r q) = pelem (fun k => a (ix3 0 r k)) (fun k => x3 (ix2 q k)) (x0 (ix1 0)) (x4 (ix2 0 q)) := by
  unfold pstored pelem
  rw [← word_eq x0 (ix1 0)]
  pointwise [k0_pay3]

theorem dstored_lt (x0 : Vec Ideal S1 .f32) (a : Vec Ideal S1x864x8192 .fp8e4m3) (x5 : Vec Ideal S32x8192 .fp8e4m3)
    (x6 : Vec Ideal S1x128 .f32) (r : Fin 864) (q : Fin 128) (h : q.val < 32) :
    dstored x0 a x5 x6 (ix2 r q) = pelem (fun k => a (ix3 0 r k)) (fun k => x5 (ix2 ⟨q.val, h⟩ k)) (x0 (ix1 0)) (x6 (ix2 0 q)) := by
  have es : View.ld x6 rd (ix2 0 (⟨q.val, h⟩ : Fin 32)) = x6 (ix2 0 q) := by
    show x6 _ = x6 _
    congr 1; funext a; apply Fin.ext
    match a with
    | ⟨0, _⟩ => show 0 + 1 * 0 = 0; omega
    | ⟨1, _⟩ => show 0 + 1 * q.val = q.val; omega
  rw [← es]
  unfold dstored pelem
  rw [← word_eq x0 (ix1 0)]
  generalize View.ld x6 rd = y6
  pointwise [k0_pay6]
  rw [dif_pos h]

theorem dstored_ge (x0 : Vec Ideal S1 .f32) (a : Vec Ideal S1x864x8192 .fp8e4m3) (x5 : Vec Ideal S32x8192 .fp8e4m3)
    (x6 : Vec Ideal S1x128 .f32) (r : Fin 864) (q : Fin 128) (h : ¬ q.val < 32) :
    dstored x0 a x5 x6 (ix2 r q) = Ideal.ofBits .f32 0x00000000#32 := by
  unfold dstored
  generalize View.ld x6 rd = y6
  pointwise [k0_pay6]
  rw [dif_neg h]

section
variable (a0 : Vec Ideal Cert.InRefIdeal.S5168x8192 .bf16) (a1 : Vec Ideal Cert.InRefIdeal.S8192 .f32) (a2 : Vec Ideal Cert.InRefIdeal.S1 .f32)
  (a3 : Vec Ideal Cert.InRefIdeal.S8192x4640 .fp8e4m3) (a4 : Vec Ideal Cert.InRefIdeal.S4640 .f32)

theorem G5_apply (r : Fin 5168) (q : Fin 8192) : Cert.InRefIdeal.Value.G5 a0 a1 a2 a3 a4 (ix2 r q)
    = qelem (a0 (ix2 r q)) (∑ k : Fin 8192, a0 (ix2 r k) * a0 (ix2 r k)) (a1 (ix1 q)) (a2 (ix1 0)) := by
  pointwise [Cert.InRefIdeal.Value.G5, Cert.InRefIdeal.Gen.k0_pay2, qelem]

theorem pay3_apply (r : Fin 5168) (q : Fin 4640) : Cert.InRefIdeal.Gen.k0_pay3 a2 a0 a1 a3 a4 (ix2 r q)
    = pelem (fun k => Cert.InRefIdeal.Value.G5 a0 a1 a2 a3 a4 (ix2 r k)) (fun k => a3 (ix2 k q)) (a2 (ix1 0)) (a4 (ix1 q)) := by
  unfold Cert.InRefIdeal.Gen.k0_pay3 Cert.InRefIdeal.Value.G5
  generalize Cert.InRefIdeal.Gen.k0_pay2 a2 a0 a1 = Y
  pointwise [pelem]

theorem G6_apply (r : Fin 5168) (q : Fin 2048) : Cert.InRefIdeal.Value.G6 a0 a1 a2 a3 a4 (ix2 r q)
    = pelem (fun k => Cert.InRefIdeal.Value.G5 a0 a1 a2 a3 a4 (ix2 r k)) (fun k => a3 (ix2 k ⟨q.val, by omega⟩)) (a2 (ix1 0)) (a4 (ix1 ⟨q.val, by omega⟩)) := by
  rw [← pay3_apply]
  unfold Cert.InRefIdeal.Value.G6 Cert.InRefIdeal.Gen.k0_pay4
  generalize Cert.InRefIdeal.Gen.k0_pay3 a2 a0 a1 a3 a4 = Y
  pointwise []

theorem G7_apply (r : Fin 5168) (q : Fin 2560) : Cert.InRefIdeal.Value.G7 a0 a1 a2 a3 a4 (ix2 r q)
    = pelem (fun k => Cert.InRefIdeal.Value.G5 a0 a1 a2 a3 a4 (ix2 r k)) (fun k => a3 (ix2 k ⟨2048 + q.val, by omega⟩)) (a2 (ix1 0)) (a4 (ix1 ⟨2048 + q.val, by omega⟩)) := by
  rw [← pay3_apply]
  unfold Cert.InRefIdeal.Value.G7 Cert.InRefIdeal.Gen.k0_pay5
  generalize Cert.InRefIdeal.Gen.k0_pay3 a2 a0 a1 a3 a4 = Y
  pointwise []

theorem G8_lt (r : Fin 5168) (q : Fin 128) (h : q.val < 32) : Cert.InRefIdeal.Value.G8 a0 a1 a2 a3 a4 (ix2 r q)
    = pelem (fun k => Cert.InRefIdeal.Value.G5 a0 a1 a2 a3 a4 (ix2 r k)) (fun k => a3 (ix2 k ⟨4608 + q.val, by omega⟩)) (a2 (ix1 0)) (a4 (ix1 ⟨4608 + q.val, by omega⟩)) := by
  rw [← pay3_apply]
  unfold Cert.InRefIdeal.Value.G8
  generalize Cert.InRefIdeal.Gen.k0_pay3 a2 a0 a1 a3 a4 = Y
  pointwise [Cert.InRefIdeal.Gen.k0_pay1]
  rw [dif_pos h]

theorem G8_ge (r : Fin 5168) (q : Fin 128) (h : ¬ q.val < 32) : Cert.InRefIdeal.Value.G8 a0 a1 a2 a3 a4 (ix2 r q)
    = Ideal.ofBits .f32 0x00000000#32 := by
  unfold Cert.InRefIdeal.Value.G8
  generalize Cert.InRefIdeal.Gen.k0_pay3 a2 a0 a1 a3 a4 = Y
  pointwise [Cert.InRefIdeal.Gen.k0_pay1]
  rw [dif_neg h]

end

/-! ## Where the tiles lie -/

/-- The block indices and the extents inside the arrays, at every point. -/
theorem index0 : ∀ t : Fin cfg0.N, win0_0.index t (0 : Fin 1) = 0 := (by decide +kernel : ∀ t : Fin grid0.N, _)
theorem index1 : ∀ t : Fin cfg0.N, win0_1.index t (0 : Fin 2) = min t.val 53 ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = (if t.val < 9 then 0 else t.val % 9) ∧ win0_3.index t (1 : Fin 2) = 0 :=
  (by decide +kernel : ∀ t : Fin grid0.N, _)
theorem index4 : ∀ t : Fin cfg0.N, win0_4.index t (0 : Fin 2) = 0 ∧ win0_4.index t (1 : Fin 2) = t.val % 9 :=
  (by decide +kernel : ∀ t : Fin grid0.N, _)
theorem index5 : ∀ t : Fin cfg0.N, win0_5.index t (0 : Fin 2) = 144 ∧ win0_5.index t (1 : Fin 2) = 0 :=
  (by decide +kernel : ∀ t : Fin grid0.N, _)
theorem index6 : ∀ t : Fin cfg0.N, win0_6.index t (0 : Fin 2) = 0 ∧ win0_6.index t (1 : Fin 2) = 36 :=
  (by decide +kernel : ∀ t : Fin grid0.N, _)
theorem index7 : ∀ t : Fin cfg0.N, win0_7.index t (0 : Fin 2) = min t.val 53 ∧ win0_7.index t (1 : Fin 2) = 0 :=
  (by decide +kernel : ∀ t : Fin grid0.N, _)
theorem index8 : ∀ t : Fin cfg0.N, win0_8.index t (0 : Fin 2) = t.val / 9 - 1 ∧ win0_8.index t (1 : Fin 2) = (if t.val < 9 then 0 else min (t.val % 9) 3) :=
  (by decide +kernel : ∀ t : Fin grid0.N, _)
theorem index9 : ∀ t : Fin cfg0.N, win0_9.index t (0 : Fin 2) = t.val / 9 - 1 ∧ win0_9.index t (1 : Fin 2) = (if t.val < 9 then 0 else t.val % 9 - 4) :=
  (by decide +kernel : ∀ t : Fin grid0.N, _)
theorem index10 : ∀ t : Fin cfg0.N, win0_10.index t (0 : Fin 2) = t.val / 9 - 1 ∧ win0_10.index t (1 : Fin 2) = 0 :=
  (by decide +kernel : ∀ t : Fin grid0.N, _)
theorem rows1 : ∀ t : Fin cfg0.N, win0_1.xsize (grid0.coords t) (0 : Fin 2) = min 96 (5168 - 96 * min t.val 53)
    ∧ win0_1.xsize (grid0.coords t) (1 : Fin 2) = 8192 := (by decide +kernel : ∀ t : Fin grid0.N, _)
theorem rows3 : ∀ t : Fin cfg0.N, win0_3.xsize (grid0.coords t) (0 : Fin 2) = 512
    ∧ win0_3.xsize (grid0.coords t) (1 : Fin 2) = 8192 := (by decide +kernel : ∀ t : Fin grid0.N, _)
theorem rows4 : ∀ t : Fin cfg0.N, win0_4.xsize (grid0.coords t) (0 : Fin 2) = 1
    ∧ win0_4.xsize (grid0.coords t) (1 : Fin 2) = 512 := (by decide +kernel : ∀ t : Fin grid0.N, _)
theorem rows6 : ∀ t : Fin cfg0.N, win0_6.xsize (grid0.coords t) (0 : Fin 2) = 1
    ∧ win0_6.xsize (grid0.coords t) (1 : Fin 2) = 32 := (by decide +kernel : ∀ t : Fin grid0.N, _)
theorem rows7 : ∀ t : Fin cfg0.N, win0_7.xsize (grid0.coords t) (0 : Fin 2) = min 96 (5168 - 96 * min t.val 53)
    ∧ win0_7.xsize (grid0.coords t) (1 : Fin 2) = 8192 := (by decide +kernel : ∀ t : Fin grid0.N, _)
theorem rows8 : ∀ t : Fin cfg0.N, win0_8.xsize (grid0.coords t) (0 : Fin 2) = min 864 (5168 - 864 * (t.val / 9 - 1))
    ∧ win0_8.xsize (grid0.coords t) (1 : Fin 2) = 512 := (by decide +kernel : ∀ t : Fin grid0.N, _)
theorem rows9 : ∀ t : Fin cfg0.N, win0_9.xsize (grid0.coords t) (0 : Fin 2) = min 864 (5168 - 864 * (t.val / 9 - 1))
    ∧ win0_9.xsize (grid0.coords t) (1 : Fin 2) = 512 := (by decide +kernel : ∀ t : Fin grid0.N, _)
theorem rows10 : ∀ t : Fin cfg0.N, win0_10.xsize (grid0.coords t) (0 : Fin 2) = min 864 (5168 - 864 * (t.val / 9 - 1))
    ∧ win0_10.xsize (grid0.coords t) (1 : Fin 2) = 128 := (by decide +kernel : ∀ t : Fin grid0.N, _)

variable (m : (ℓ : Loc nD τ sig) → Buf (Elt Ideal) ℓ) (ρ : Dev nD → PrngReg)

/-- The arrays the host lays out: the norm's weights and the scales as rows, the weights transposed. -/
theorem V_main_v0 (c : Dev nD) (q : Fin 8192) : V m c main_v0 (ix2 0 q) = m ((c : Thread nD τ).loc main_arg1) (ix1 q) := by
  unfold V
  after_reads_at

theorem V_main_v1 (c : Dev nD) (q : Fin 4640) (k : Fin 8192) : V m c main_v1 (ix2 q k) = m ((c : Thread nD τ).loc main_arg3) (ix2 k q) := by
  unfold V
  after_reads_at

theorem V_main_v2 (c : Dev nD) (q : Fin 4640) : V m c main_v2 (ix2 0 q) = m ((c : Thread nD τ).loc main_arg4) (ix1 q) := by
  unfold V
  after_reads_at

theorem V_main_v3 (c : Dev nD) (q : Fin 4640) (k : Fin 8192) : V m c main_v3 (ix2 q k) = m ((c : Thread nD τ).loc main_arg3) (ix2 k q) := by
  unfold V
  after_reads_at

theorem V_main_v4 (c : Dev nD) (q : Fin 4640) : V m c main_v4 (ix2 0 q) = m ((c : Thread nD τ).loc main_arg4) (ix1 q) := by
  unfold V
  after_reads_at

theorem iblk0_at (c : Dev nD) (t : Fin cfg0.N) : iblk m c 0 t (ix1 0) = m ((c : Thread nD τ).loc main_arg2) (ix1 0) := by
  rw [← V_main_arg2 m c]
  show V m c main_arg2 (((cfg0.win 0).blk t).view.emb (ix1 0)) = _
  congr 1; funext a; apply Fin.ext
  match a with
  | ⟨0, _⟩ => show win0_0.index t (0 : Fin 1) * 1 + 1 * 0 = 0; rw [index0 t]

theorem fill1_at (c : Dev nD) (t : Fin cfg0.N) (d : Vec Ideal S96x8192 .bf16) (r : Fin 96) (k : Fin 8192)
    (h : 96 * min t.val 53 + r.val < 5168) :
    win0_1.fill (grid0.coords t) d (iblk m c 1 t) (ix2 r k) = m ((c : Thread nD τ).loc main_arg0) (ix2 ⟨96 * min t.val 53 + r.val, h⟩ k) := by
  have hm : win0_1.moved (grid0.coords t) (ix2 r k) = true := (win0_1.moved_iff _ _).mpr fun a => by
    match a with
    | ⟨0, _⟩ => show r.val < win0_1.xsize (grid0.coords t) (0 : Fin 2); rw [(rows1 t).1]; have := r.isLt; omega
    | ⟨1, _⟩ => show k.val < win0_1.xsize (grid0.coords t) (1 : Fin 2); rw [(rows1 t).2]; exact k.isLt
  unfold Window.fill
  rw [dif_pos hm, ← V_main_arg0 m c]
  show V m c main_arg0 (((cfg0.win 1).blk t).view.emb _) = _
  congr 1; funext a; apply Fin.ext
  match a with
  | ⟨0, _⟩ => show win0_1.index t (0 : Fin 2) * 96 + 1 * r.val = 96 * min t.val 53 + r.val; rw [(index1 t).1]; omega
  | ⟨1, _⟩ => show win0_1.index t (1 : Fin 2) * 8192 + 1 * k.val = k.val; rw [(index1 t).2]; omega

theorem iblk2_at (c : Dev nD) (t : Fin cfg0.N) (q : Fin 8192) : iblk m c 2 t (ix2 0 q) = m ((c : Thread nD τ).loc main_arg1) (ix1 q) := by
  rw [← V_main_v0 m c]
  show V m c main_v0 (((cfg0.win 2).blk t).view.emb _) = _
  congr 1; funext a; apply Fin.ext
  match a with
  | ⟨0, _⟩ => show win0_2.index t (0 : Fin 2) * 1 + 1 * 0 = 0; rw [(index2 t).1]
  | ⟨1, _⟩ => show win0_2.index t (1 : Fin 2) * 8192 + 1 * q.val = q.val; rw [(index2 t).2]; omega

theorem X3_at (c : Dev nD) (t : Fin cfg0.N) (ht : ¬ t.val < 9) (q : Fin 512) (k : Fin 8192) (h : 512 * (t.val % 9) + q.val < 4640) :
    X0_3 m c t (ix2 q k) = m ((c : Thread nD τ).loc main_arg3) (ix2 k ⟨512 * (t.val % 9) + q.val, h⟩) := by
  have hm : win0_3.moved (grid0.coords t) (ix2 q k) = true := moved0_3 t _
  unfold X0_3
  show win0_3.fill (grid0.coords t) dflt0_3 (iblk m c 3 t) (ix2 q k) = _
  unfold Window.fill
  rw [dif_pos hm, ← V_main_v1 m c]
  show V m c main_v1 (((cfg0.win 3).blk t).view.emb _) = _
  congr 1; funext a; apply Fin.ext
  match a with
  | ⟨0, _⟩ => show win0_3.index t (0 : Fin 2) * 512 + 1 * q.val = 512 * (t.val % 9) + q.val; rw [(index3 t).1, if_neg ht]; omega
  | ⟨1, _⟩ => show win0_3.index t (1 : Fin 2) * 8192 + 1 * k.val = k.val; rw [(index3 t).2]; omega

theorem X4_at (c : Dev nD) (t : Fin cfg0.N) (q : Fin 512) (h : 512 * (t.val % 9) + q.val < 4640) :
    X0_4 m c t (ix2 0 q) = m ((c : Thread nD τ).loc main_arg4) (ix1 ⟨512 * (t.val % 9) + q.val, h⟩) := by
  have hm : win0_4.moved (grid0.coords t) (ix2 0 q) = true := moved0_4 t _
  unfold X0_4
  show win0_4.fill (grid0.coords t) dflt0_4 (iblk m c 4 t) (ix2 0 q) = _
  unfold Window.fill
  rw [dif_pos hm, ← V_main_v2 m c]
  show V m c main_v2 (((cfg0.win 4).blk t).view.emb _) = _
  congr 1; funext a; apply Fin.ext
  match a with
  | ⟨0, _⟩ => show win0_4.index t (0 : Fin 2) * 1 + 1 * 0 = 0; rw [(index4 t).1]
  | ⟨1, _⟩ => show win0_4.index t (1 : Fin 2) * 512 + 1 * q.val = 512 * (t.val % 9) + q.val; rw [(index4 t).2]; omega

theorem iblk5_at (c : Dev nD) (t : Fin cfg0.N) (q : Fin 32) (k : Fin 8192) :
    iblk m c 5 t (ix2 q k) = m ((c : Thread nD τ).loc main_arg3) (ix2 k ⟨4608 + q.val, by omega⟩) := by
  rw [← V_main_v3 m c]
  show V m c main_v3 (((cfg0.win 5).blk t).view.emb _) = _
  congr 1; funext a; apply Fin.ext
  match a with
  | ⟨0, _⟩ => show win0_5.index t (0 : Fin 2) * 32 + 1 * q.val = 4608 + q.val; rw [(index5 t).1]; omega
  | ⟨1, _⟩ => show win0_5.index t (1 : Fin 2) * 8192 + 1 * k.val = k.val; rw [(index5 t).2]; omega

theorem fill6_at (c : Dev nD) (t : Fin cfg0.N) (d : Vec Ideal S1x128 .f32) (q : Fin 128) (h : q.val < 32) :
    win0_6.fill (grid0.coords t) d (iblk m c 6 t) (ix2 0 q) = m ((c : Thread nD τ).loc main_arg4) (ix1 ⟨4608 + q.val, by omega⟩) := by
  have hm : win0_6.moved (grid0.coords t) (ix2 0 q) = true := (win0_6.moved_iff _ _).mpr fun a => by
    match a with
    | ⟨0, _⟩ => show 0 < win0_6.xsize (grid0.coords t) (0 : Fin 2); rw [(rows6 t).1]; omega
    | ⟨1, _⟩ => show q.val < win0_6.xsize (grid0.coords t) (1 : Fin 2); rw [(rows6 t).2]; exact h
  unfold Window.fill
  rw [dif_pos hm, ← V_main_v4 m c]
  show V m c main_v4 (((cfg0.win 6).blk t).view.emb _) = _
  have e0 : win0_6.index t (0 : Fin 2) * 1 + 1 * 0 = 0 := by rw [(index6 t).1]
  have e1 : win0_6.index t (1 : Fin 2) * 128 + 1 * q.val = 4608 + q.val := by rw [(index6 t).2]; omega
  refine congrArg (V m c main_v4) (funext (Fin.forall_fin_two.mpr ⟨Fin.ext ?_, Fin.ext ?_⟩))
  · exact e0
  · exact e1

/-! ## The stored values are the reference's -/

/-- The reference's results from the kernel's arguments. -/
abbrev Gq (c : Dev nD) : Vec Ideal S5168x8192 .fp8e4m3 :=
  Cert.InRefIdeal.Value.G5 (m ((c : Thread nD τ).loc main_arg0)) (m ((c : Thread nD τ).loc main_arg1)) (m ((c : Thread nD τ).loc main_arg2)) (m ((c : Thread nD τ).loc main_arg3)) (m ((c : Thread nD τ).loc main_arg4))
abbrev Gz (c : Dev nD) : Vec Ideal S5168x2048 .f32 :=
  Cert.InRefIdeal.Value.G6 (m ((c : Thread nD τ).loc main_arg0)) (m ((c : Thread nD τ).loc main_arg1)) (m ((c : Thread nD τ).loc main_arg2)) (m ((c : Thread nD τ).loc main_arg3)) (m ((c : Thread nD τ).loc main_arg4))
abbrev Gx (c : Dev nD) : Vec Ideal S5168x2560 .f32 :=
  Cert.InRefIdeal.Value.G7 (m ((c : Thread nD τ).loc main_arg0)) (m ((c : Thread nD τ).loc main_arg1)) (m ((c : Thread nD τ).loc main_arg2)) (m ((c : Thread nD τ).loc main_arg3)) (m ((c : Thread nD τ).loc main_arg4))
abbrev Gd (c : Dev nD) : Vec Ideal S5168x128 .f32 :=
  Cert.InRefIdeal.Value.G8 (m ((c : Thread nD τ).loc main_arg0)) (m ((c : Thread nD τ).loc main_arg1)) (m ((c : Thread nD τ).loc main_arg2)) (m ((c : Thread nD τ).loc main_arg3)) (m ((c : Thread nD τ).loc main_arg4))

/-- Whatever the chunk of the input holds past the array's end, the chunk of codes is the reference's at its rows. -/
theorem qstored_at (c : Dev nD) (t : Fin cfg0.N) (d : Vec Ideal S96x8192 .bf16) (r : Fin 96) (q : Fin 8192)
    (h : 96 * min t.val 53 + r.val < 5168) :
    qstored (iblk m c 0 t) (win0_1.fill (grid0.coords t) d (iblk m c 1 t)) (iblk m c 2 t) (ix2 r q) = Gq m c (ix2 ⟨96 * min t.val 53 + r.val, h⟩ q) := by
  refine (qstored_apply _ _ _ r q).trans ((?_ : _ = _).trans (G5_apply _ _ _ _ _ _ _).symm)
  rw [iblk0_at, iblk2_at m c t q]
  simp only [fill1_at m c t d r _ h]

/-- Between points `n - 1` and `n` the scratch buffer holds the reference's codes of every chunk stored in the current
    row of the grid and in the row before it, in the slot of that row's parity. -/
def Good (c : Dev nD) (n : ℕ) (s : Vec Ideal S2x864x8192 .fp8e4m3) : Prop :=
  ∀ k, k < n → k < 54 → 9 * (n / 9) ≤ k + 9 → ∀ (r : Fin 96) (q : Fin 8192) (h : 96 * k + r.val < 5168),
    s (ix3 ⟨k / 9 % 2, by omega⟩ ⟨96 * (k % 9) + r.val, by omega⟩ q) = Gq m c (ix2 ⟨96 * k + r.val, h⟩ q)

/-- The scratch buffer where the chunk is put. -/
theorem sput_in (s : Vec Ideal S2x864x8192 .fp8e4m3) (off : Fin 3 → ℕ) (p : Vec Ideal S96x8192 .fp8e4m3) (b : Fin 2) (n : ℕ)
    (hoff : off = ![b.val, 96 * n, 0]) (r : Fin 96) (q : Fin 8192) (h : 96 * n + r.val < 864) :
    sput s off p (ix3 b ⟨96 * n + r.val, h⟩ q) = p (ix2 r q) := by
  subst hoff
  unfold sput VecWindow.put
  have hi : ∀ a : Fin 3, (![b.val, 96 * n, 0] : Fin 3 → ℕ) a ≤ ((ix3 b ⟨96 * n + r.val, h⟩ q : S2x864x8192.Idx) a).val
      ∧ ((ix3 b ⟨96 * n + r.val, h⟩ q : S2x864x8192.Idx) a).val < (![b.val, 96 * n, 0] : Fin 3 → ℕ) a + S1x96x8192.size a := fun a => by
    match a with
    | ⟨0, _⟩ => show b.val ≤ b.val ∧ b.val < b.val + 1; omega
    | ⟨1, _⟩ => show 96 * n ≤ 96 * n + r.val ∧ 96 * n + r.val < 96 * n + 96; have := r.isLt; omega
    | ⟨2, _⟩ => show 0 ≤ q.val ∧ q.val < 0 + 8192; have := q.isLt; omega
  refine (dif_pos hi).trans ?_
  have he : (Rect.unitLocal (s := S2x864x8192) (off := ![b.val, 96 * n, 0]) (size := S1x96x8192.size) (ix3 b ⟨96 * n + r.val, h⟩ q) hi : S1x96x8192.Idx)
      = ix3 0 r q := by
    funext a; apply Fin.ext
    match a with
    | ⟨0, _⟩ => show b.val - b.val = 0; omega
    | ⟨1, _⟩ => show 96 * n + r.val - 96 * n = r.val; omega
    | ⟨2, _⟩ => show q.val - 0 = q.val; omega
  refine (congrArg (k0_pay1 (F := Ideal) p) he).trans ?_
  pointwise [k0_pay1]

/-- The scratch buffer elsewhere. -/
theorem sput_out (s : Vec Ideal S2x864x8192 .fp8e4m3) (off : Fin 3 → ℕ) (p : Vec Ideal S96x8192 .fp8e4m3) (b n : ℕ)
    (hoff : off = ![b, 96 * n, 0]) (b' : Fin 2) (r : Fin 864) (q : Fin 8192) (h : b'.val ≠ b ∨ r.val < 96 * n ∨ 96 * n + 96 ≤ r.val) :
    sput s off p (ix3 b' r q) = s (ix3 b' r q) := by
  subst hoff
  unfold sput VecWindow.put
  refine dif_neg fun hi => ?_
  have h0 : b ≤ b'.val ∧ b'.val < b + 1 := hi (0 : Fin 3)
  have h1 : 96 * n ≤ r.val ∧ r.val < 96 * n + 96 := hi (1 : Fin 3)
  omega

/-- Storing a chunk of codes keeps the scratch buffer good. -/
theorem good_step (c : Dev nD) (t : Fin cfg0.N) (s : Vec Ideal S2x864x8192 .fp8e4m3) (hs : Good m c t.val s) (off : Fin 3 → ℕ)
    (hoff : off = ![t.val / 9 % 2, 96 * (t.val % 9), 0]) (d : Vec Ideal S96x8192 .bf16) :
    Good m c (t.val + 1) (sput s off (qstored (iblk m c 0 t) (win0_1.fill (grid0.coords t) d (iblk m c 1 t)) (iblk m c 2 t))) := by
  intro k hk hk54 hkn r q h
  by_cases hkt : k = t.val
  · subst hkt
    refine (sput_in s off _ ⟨t.val / 9 % 2, by omega⟩ (t.val % 9) hoff r q (by omega)).trans ?_
    have e : min t.val 53 = t.val := by omega
    refine (qstored_at m c t d r q (by rw [e]; exact h)).trans (congrArg (Gq m c) ?_)
    simp only [e]
  · refine (sput_out s off _ (t.val / 9 % 2) (t.val % 9) hoff _ _ q ?_).trans (hs k (by omega) hk54 (by omega) r q h)
    show k / 9 % 2 ≠ t.val / 9 % 2 ∨ 96 * (k % 9) + r.val < 96 * (t.val % 9) ∨ 96 * (t.val % 9) + 96 ≤ 96 * (k % 9) + r.val
    have := r.isLt
    omega

/-- The slot a point reads holds the reference's codes of the 864 rows of the row of the grid before it. -/
theorem slot_at (c : Dev nD) (t : Fin cfg0.N) (ht : ¬ t.val < 9) (s : Vec Ideal S2x864x8192 .fp8e4m3) (hs : Good m c t.val s)
    (off : Fin 3 → ℕ) (hoff : off = ![t.val / 9 % 2, 96 * (t.val % 9), 0]) (p : Vec Ideal S96x8192 .fp8e4m3)
    (off' : Fin 3 → ℕ) (hoff' : off' = ![(t.val / 9 + 1) % 2, 0, 0]) (inb : ∀ a, off' a + S1x864x8192.size a ≤ S2x864x8192.size a)
    (r : Fin 864) (q : Fin 8192) (h : 864 * (t.val / 9 - 1) + r.val < 5168) :
    View.ld (sput s off p) (Rect.unit (s := S2x864x8192) off' S1x864x8192.size inb) (ix3 0 r q)
      = Gq m c (ix2 ⟨864 * (t.val / 9 - 1) + r.val, h⟩ q) := by
  have ht63 : t.val < 63 := t.isLt
  have hr := r.isLt
  have hg := hs (9 * (t.val / 9 - 1) + r.val / 96) (by omega) (by omega) (by omega) ⟨r.val % 96, by omega⟩ q
    (by show 96 * (9 * (t.val / 9 - 1) + r.val / 96) + r.val % 96 < 5168; omega)
  have e1 : (⟨96 * (9 * (t.val / 9 - 1) + r.val / 96) + r.val % 96, by omega⟩ : Fin 5168) = ⟨864 * (t.val / 9 - 1) + r.val, h⟩ := Fin.ext (by
    show 96 * (9 * (t.val / 9 - 1) + r.val / 96) + r.val % 96 = 864 * (t.val / 9 - 1) + r.val; omega)
  rw [e1] at hg
  refine Eq.trans ?_ hg
  have e2 : (Rect.unit (s := S2x864x8192) off' S1x864x8192.size inb).emb (ix3 0 r q)
      = (ix3 (⟨(9 * (t.val / 9 - 1) + r.val / 96) / 9 % 2, by omega⟩ : Fin 2)
          (⟨96 * ((9 * (t.val / 9 - 1) + r.val / 96) % 9) + r.val % 96, by omega⟩ : Fin 864) q : S2x864x8192.Idx) := by
    subst hoff'
    funext a; apply Fin.ext
    match a with
    | ⟨0, _⟩ => show (t.val / 9 + 1) % 2 + 1 * 0 = (9 * (t.val / 9 - 1) + r.val / 96) / 9 % 2; omega
    | ⟨1, _⟩ => show 0 + 1 * r.val = 96 * ((9 * (t.val / 9 - 1) + r.val / 96) % 9) + r.val % 96; omega
    | ⟨2, _⟩ => show 0 + 1 * q.val = q.val; omega
  show sput s off p ((Rect.unit (s := S2x864x8192) off' S1x864x8192.size inb).emb (ix3 0 r q)) = _
  rw [e2]
  refine sput_out s off p (t.val / 9 % 2) (t.val % 9) hoff _ _ q (Or.inl ?_)
  show (9 * (t.val / 9 - 1) + r.val / 96) / 9 % 2 ≠ t.val / 9 % 2
  omega

/-- A point's stores into the scratch buffer and its reads from it, by the point's number. -/
theorem off1_at : ∀ t : Fin cfg0.N, k0_off1 (grid0.coords t) = ![t.val / 9 % 2, 96 * (t.val % 9), 0] := (by decide +kernel : ∀ t : Fin grid0.N, _)
theorem off2_at : ∀ t : Fin cfg0.N, k0_off2 (grid0.coords t) = ![t.val / 9 % 2, 96 * (t.val % 9), 0] := (by decide +kernel : ∀ t : Fin grid0.N, _)
theorem off4_at : ∀ t : Fin cfg0.N, k0_off4 (grid0.coords t) = ![t.val / 9 % 2, 96 * (t.val % 9), 0] := (by decide +kernel : ∀ t : Fin grid0.N, _)
theorem off3_at : ∀ t : Fin cfg0.N, k0_off3 (grid0.coords t) = ![(t.val / 9 + 1) % 2, 0, 0] := (by decide +kernel : ∀ t : Fin grid0.N, _)
theorem off5_at : ∀ t : Fin cfg0.N, k0_off5 (grid0.coords t) = ![(t.val / 9 + 1) % 2, 0, 0] := (by decide +kernel : ∀ t : Fin grid0.N, _)
theorem off6_at : ∀ t : Fin cfg0.N, k0_off6 (grid0.coords t) = ![(t.val / 9 + 1) % 2, 0, 0] := (by decide +kernel : ∀ t : Fin grid0.N, _)

section
variable (c : Dev nD) (t : Fin cfg0.N) (ht : ¬ t.val < 9) (a : Vec Ideal S1x864x8192 .fp8e4m3)
  (ha : ∀ (r : Fin 864) (k : Fin 8192) (h : 864 * (t.val / 9 - 1) + r.val < 5168), a (ix3 0 r k) = Gq m c (ix2 ⟨864 * (t.val / 9 - 1) + r.val, h⟩ k))
  (r : Fin 864) (h : 864 * (t.val / 9 - 1) + r.val < 5168)
include ht ha

/-- A tile of the projection is the codes' rows against the tile's columns of the weights. -/
theorem p_at (q : Fin 512) (hq : 512 * (t.val % 9) + q.val < 4640) :
    pstored (iblk m c 0 t) a (X0_3 m c t) (X0_4 m c t) (ix2 r q)
      = pelem (fun k => Gq m c (ix2 ⟨864 * (t.val / 9 - 1) + r.val, h⟩ k)) (fun k => m ((c : Thread nD τ).loc main_arg3) (ix2 k ⟨512 * (t.val % 9) + q.val, hq⟩))
          (m ((c : Thread nD τ).loc main_arg2) (ix1 0)) (m ((c : Thread nD τ).loc main_arg4) (ix1 ⟨512 * (t.val % 9) + q.val, hq⟩)) := by
  refine (pstored_apply _ _ _ _ r q).trans ?_
  rw [iblk0_at, X4_at m c t q hq]
  simp only [ha r _ h, X3_at m c t ht q _ hq]

/-- The gate's tiles. -/
theorem z_at (hn : t.val % 9 < 4) (q : Fin 512) :
    pstored (iblk m c 0 t) a (X0_3 m c t) (X0_4 m c t) (ix2 r q)
      = Gz m c (ix2 ⟨864 * (t.val / 9 - 1) + r.val, h⟩ ⟨512 * (t.val % 9) + q.val, by omega⟩) :=
  (p_at m c t ht a ha r h q (by omega)).trans (G6_apply _ _ _ _ _ _ ⟨512 * (t.val % 9) + q.val, by omega⟩).symm

/-- The convolution's tiles. -/
theorem x_at (hn : 4 ≤ t.val % 9) (q : Fin 512) :
    pstored (iblk m c 0 t) a (X0_3 m c t) (X0_4 m c t) (ix2 r q)
      = Gx m c (ix2 ⟨864 * (t.val / 9 - 1) + r.val, h⟩ ⟨512 * (t.val % 9 - 4) + q.val, by omega⟩) := by
  refine (p_at m c t ht a ha r h q (by omega)).trans ((?_ : _ = _).trans (G7_apply _ _ _ _ _ _ ⟨512 * (t.val % 9 - 4) + q.val, by omega⟩).symm)
  have e : (⟨2048 + (512 * (t.val % 9 - 4) + q.val), by omega⟩ : Fin 4640) = ⟨512 * (t.val % 9) + q.val, by omega⟩ := Fin.ext (by
    show 2048 + (512 * (t.val % 9 - 4) + q.val) = 512 * (t.val % 9) + q.val; omega)
  show _ = pelem _ (fun k => m ((c : Thread nD τ).loc main_arg3) (ix2 k (⟨2048 + (512 * (t.val % 9 - 4) + q.val), by omega⟩ : Fin 4640))) _
    (m ((c : Thread nD τ).loc main_arg4) (ix1 (⟨2048 + (512 * (t.val % 9 - 4) + q.val), by omega⟩ : Fin 4640)))
  rw [e]

/-- The step sizes' tiles. -/
theorem d_at (d : Vec Ideal S1x128 .f32) (q : Fin 128) :
    dstored (iblk m c 0 t) a (iblk m c 5 t) (win0_6.fill (grid0.coords t) d (iblk m c 6 t)) (ix2 r q)
      = Gd m c (ix2 ⟨864 * (t.val / 9 - 1) + r.val, h⟩ q) := by
  by_cases hq : q.val < 32
  · refine (dstored_lt _ _ _ _ r q hq).trans ((?_ : _ = _).trans (G8_lt _ _ _ _ _ _ q hq).symm)
    rw [iblk0_at, fill6_at m c t d q hq]
    simp only [ha r _ h, iblk5_at m c t]
  · exact (dstored_ge _ _ _ _ r q hq).trans (G8_ge _ _ _ _ _ _ q hq).symm

end

/-! ## A tile that agrees with an array inside it is cut to the array's block -/

theorem cut7_of (t : Fin cfg0.N) (S : Vec Ideal S96x8192 .fp8e4m3) (A : Vec Ideal S5168x8192 .fp8e4m3)
    (hA : ∀ (r : Fin 96) (q : Fin 8192) (h : 96 * min t.val 53 + r.val < 5168), S (ix2 r q) = A (ix2 ⟨96 * min t.val 53 + r.val, h⟩ q)) :
    win0_7.cut (grid0.coords t) S = (win0_7.blk t).view.read (Elt Ideal) A := by
  funext j
  have hlt : ∀ a, (j a).val < win0_7.xsize (grid0.coords t) a := fun a => (j a).isLt
  have h0 := lt_of_lt_of_eq (hlt (0 : Fin 2)) (rows7 t).1
  have h1 := lt_of_lt_of_eq (hlt (1 : Fin 2)) (rows7 t).2
  have hr : 96 * min t.val 53 + (j (0 : Fin 2)).val < 5168 := by omega
  refine Eq.trans (?_ : _ = _) ((hA ⟨(j (0 : Fin 2)).val, by omega⟩ ⟨(j (1 : Fin 2)).val, h1⟩ hr).trans ?_)
  · show S (win0_7.xinj (grid0.coords t) j) = _
    congr 1; funext a
    match a with
    | ⟨0, _⟩ => rfl
    | ⟨1, _⟩ => rfl
  · show A _ = A (((cfg0.win 7).blk t).view.emb j)
    congr 1; funext a; apply Fin.ext
    match a with
    | ⟨0, _⟩ =>
      show 96 * min t.val 53 + (j (0 : Fin 2)).val = win0_7.index t (0 : Fin 2) * 96 + 1 * (j (0 : Fin 2)).val
      rw [(index7 t).1]; omega
    | ⟨1, _⟩ =>
      show (j (1 : Fin 2)).val = win0_7.index t (1 : Fin 2) * 8192 + 1 * (j (1 : Fin 2)).val
      rw [(index7 t).2]; omega

theorem cut8_of (t : Fin cfg0.N) (S : Vec Ideal S864x512 .f32) (A : Vec Ideal S5168x2048 .f32)
    (hA : ∀ (r : Fin 864) (q : Fin 512) (h : 864 * (t.val / 9 - 1) + r.val < 5168), S (ix2 r q) = A (ix2 ⟨864 * (t.val / 9 - 1) + r.val, h⟩ ⟨512 * (if t.val < 9 then 0 else min (t.val % 9) 3) + q.val, by have := q.isLt; have : t.val < 63 := t.isLt; split <;> omega⟩)) :
    win0_8.cut (grid0.coords t) S = (win0_8.blk t).view.read (Elt Ideal) A := by
  funext j
  have hlt : ∀ a, (j a).val < win0_8.xsize (grid0.coords t) a := fun a => (j a).isLt
  have h0 := lt_of_lt_of_eq (hlt (0 : Fin 2)) (rows8 t).1
  have h1 := lt_of_lt_of_eq (hlt (1 : Fin 2)) (rows8 t).2
  have hr : 864 * (t.val / 9 - 1) + (j (0 : Fin 2)).val < 5168 := by omega
  refine Eq.trans (?_ : _ = _) ((hA ⟨(j (0 : Fin 2)).val, by omega⟩ ⟨(j (1 : Fin 2)).val, h1⟩ hr).trans ?_)
  · show S (win0_8.xinj (grid0.coords t) j) = _
    congr 1; funext a
    match a with
    | ⟨0, _⟩ => rfl
    | ⟨1, _⟩ => rfl
  · show A _ = A (((cfg0.win 8).blk t).view.emb j)
    congr 1; funext a; apply Fin.ext
    match a with
    | ⟨0, _⟩ =>
      show 864 * (t.val / 9 - 1) + (j (0 : Fin 2)).val = win0_8.index t (0 : Fin 2) * 864 + 1 * (j (0 : Fin 2)).val
      rw [(index8 t).1]; omega
    | ⟨1, _⟩ =>
      show 512 * (if t.val < 9 then 0 else min (t.val % 9) 3) + (j (1 : Fin 2)).val = win0_8.index t (1 : Fin 2) * 512 + 1 * (j (1 : Fin 2)).val
      rw [(index8 t).2]; omega

theorem fill8_at (t : Fin cfg0.N) (d : Vec Ideal S864x512 .f32) (A : Vec Ideal S5168x2048 .f32) (r : Fin 864) (q : Fin 512) (h : 864 * (t.val / 9 - 1) + r.val < 5168) :
    win0_8.fill (grid0.coords t) d ((win0_8.blk t).view.read (Elt Ideal) A) (ix2 r q) = A (ix2 ⟨864 * (t.val / 9 - 1) + r.val, h⟩ ⟨512 * (if t.val < 9 then 0 else min (t.val % 9) 3) + q.val, by have := q.isLt; have : t.val < 63 := t.isLt; split <;> omega⟩) := by
  have hm : win0_8.moved (grid0.coords t) (ix2 r q) = true := (win0_8.moved_iff _ _).mpr fun a => by
    match a with
    | ⟨0, _⟩ => show r.val < win0_8.xsize (grid0.coords t) (0 : Fin 2); rw [(rows8 t).1]; have := r.isLt; omega
    | ⟨1, _⟩ => show q.val < win0_8.xsize (grid0.coords t) (1 : Fin 2); rw [(rows8 t).2]; exact q.isLt
  unfold Window.fill
  rw [dif_pos hm]
  show A (((cfg0.win 8).blk t).view.emb _) = _
  congr 1; funext a; apply Fin.ext
  match a with
  | ⟨0, _⟩ => show win0_8.index t (0 : Fin 2) * 864 + 1 * r.val = 864 * (t.val / 9 - 1) + r.val; rw [(index8 t).1]; omega
  | ⟨1, _⟩ => show win0_8.index t (1 : Fin 2) * 512 + 1 * q.val = 512 * (if t.val < 9 then 0 else min (t.val % 9) 3) + q.val; rw [(index8 t).2]; omega

theorem cut9_of (t : Fin cfg0.N) (S : Vec Ideal S864x512 .f32) (A : Vec Ideal S5168x2560 .f32)
    (hA : ∀ (r : Fin 864) (q : Fin 512) (h : 864 * (t.val / 9 - 1) + r.val < 5168), S (ix2 r q) = A (ix2 ⟨864 * (t.val / 9 - 1) + r.val, h⟩ ⟨512 * (if t.val < 9 then 0 else t.val % 9 - 4) + q.val, by have := q.isLt; have : t.val < 63 := t.isLt; split <;> omega⟩)) :
    win0_9.cut (grid0.coords t) S = (win0_9.blk t).view.read (Elt Ideal) A := by
  funext j
  have hlt : ∀ a, (j a).val < win0_9.xsize (grid0.coords t) a := fun a => (j a).isLt
  have h0 := lt_of_lt_of_eq (hlt (0 : Fin 2)) (rows9 t).1
  have h1 := lt_of_lt_of_eq (hlt (1 : Fin 2)) (rows9 t).2
  have hr : 864 * (t.val / 9 - 1) + (j (0 : Fin 2)).val < 5168 := by omega
  refine Eq.trans (?_ : _ = _) ((hA ⟨(j (0 : Fin 2)).val, by omega⟩ ⟨(j (1 : Fin 2)).val, h1⟩ hr).trans ?_)
  · show S (win0_9.xinj (grid0.coords t) j) = _
    congr 1; funext a
    match a with
    | ⟨0, _⟩ => rfl
    | ⟨1, _⟩ => rfl
  · show A _ = A (((cfg0.win 9).blk t).view.emb j)
    congr 1; funext a; apply Fin.ext
    match a with
    | ⟨0, _⟩ =>
      show 864 * (t.val / 9 - 1) + (j (0 : Fin 2)).val = win0_9.index t (0 : Fin 2) * 864 + 1 * (j (0 : Fin 2)).val
      rw [(index9 t).1]; omega
    | ⟨1, _⟩ =>
      show 512 * (if t.val < 9 then 0 else t.val % 9 - 4) + (j (1 : Fin 2)).val = win0_9.index t (1 : Fin 2) * 512 + 1 * (j (1 : Fin 2)).val
      rw [(index9 t).2]; omega

theorem cut10_of (t : Fin cfg0.N) (S : Vec Ideal S864x128 .f32) (A : Vec Ideal S5168x128 .f32)
    (hA : ∀ (r : Fin 864) (q : Fin 128) (h : 864 * (t.val / 9 - 1) + r.val < 5168), S (ix2 r q) = A (ix2 ⟨864 * (t.val / 9 - 1) + r.val, h⟩ q)) :
    win0_10.cut (grid0.coords t) S = (win0_10.blk t).view.read (Elt Ideal) A := by
  funext j
  have hlt : ∀ a, (j a).val < win0_10.xsize (grid0.coords t) a := fun a => (j a).isLt
  have h0 := lt_of_lt_of_eq (hlt (0 : Fin 2)) (rows10 t).1
  have h1 := lt_of_lt_of_eq (hlt (1 : Fin 2)) (rows10 t).2
  have hr : 864 * (t.val / 9 - 1) + (j (0 : Fin 2)).val < 5168 := by omega
  refine Eq.trans (?_ : _ = _) ((hA ⟨(j (0 : Fin 2)).val, by omega⟩ ⟨(j (1 : Fin 2)).val, h1⟩ hr).trans ?_)
  · show S (win0_10.xinj (grid0.coords t) j) = _
    congr 1; funext a
    match a with
    | ⟨0, _⟩ => rfl
    | ⟨1, _⟩ => rfl
  · show A _ = A (((cfg0.win 10).blk t).view.emb j)
    congr 1; funext a; apply Fin.ext
    match a with
    | ⟨0, _⟩ =>
      show 864 * (t.val / 9 - 1) + (j (0 : Fin 2)).val = win0_10.index t (0 : Fin 2) * 864 + 1 * (j (0 : Fin 2)).val
      rw [(index10 t).1]; omega
    | ⟨1, _⟩ =>
      show (j (1 : Fin 2)).val = win0_10.index t (1 : Fin 2) * 128 + 1 * (j (1 : Fin 2)).val
      rw [(index10 t).2]; omega

theorem fill10_at (t : Fin cfg0.N) (d : Vec Ideal S864x128 .f32) (A : Vec Ideal S5168x128 .f32) (r : Fin 864) (q : Fin 128) (h : 864 * (t.val / 9 - 1) + r.val < 5168) :
    win0_10.fill (grid0.coords t) d ((win0_10.blk t).view.read (Elt Ideal) A) (ix2 r q) = A (ix2 ⟨864 * (t.val / 9 - 1) + r.val, h⟩ q) := by
  have hm : win0_10.moved (grid0.coords t) (ix2 r q) = true := (win0_10.moved_iff _ _).mpr fun a => by
    match a with
    | ⟨0, _⟩ => show r.val < win0_10.xsize (grid0.coords t) (0 : Fin 2); rw [(rows10 t).1]; have := r.isLt; omega
    | ⟨1, _⟩ => show q.val < win0_10.xsize (grid0.coords t) (1 : Fin 2); rw [(rows10 t).2]; exact q.isLt
  unfold Window.fill
  rw [dif_pos hm]
  show A (((cfg0.win 10).blk t).view.emb _) = _
  congr 1; funext a; apply Fin.ext
  match a with
  | ⟨0, _⟩ => show win0_10.index t (0 : Fin 2) * 864 + 1 * r.val = 864 * (t.val / 9 - 1) + r.val; rw [(index10 t).1]; omega
  | ⟨1, _⟩ => show win0_10.index t (1 : Fin 2) * 128 + 1 * q.val = q.val; rw [(index10 t).2]; omega

/-! ## What is claimed of every point -/

/-- After each point a result's buffer holds, inside the array, the reference's block there; before it the scratch
    buffer is good. -/
def ref : Claimed Ideal where
  q c t := win0_7.fill (grid0.coords t) (nothing.q c t) ((win0_7.blk t).view.read (Elt Ideal) (Gq m c))
  z c t := win0_8.fill (grid0.coords t) (nothing.z c t) ((win0_8.blk t).view.read (Elt Ideal) (Gz m c))
  x c t := win0_9.fill (grid0.coords t) (nothing.x c t) ((win0_9.blk t).view.read (Elt Ideal) (Gx m c))
  d c t := win0_10.fill (grid0.coords t) (nothing.d c t) ((win0_10.blk t).view.read (Elt Ideal) (Gd m c))
  good := Good m

theorem cut_after7 (c : Dev nD) (t : Fin cfg0.N) :
    win0_7.cut (grid0.coords t) ((dats m (ref m) 0 c).after 7 t) = (win0_7.blk t).view.read (Elt Ideal) (Gq m c) := by
  rw [after0_7]; exact win0_7.cut_fill _ _ _
theorem cut_after8 (c : Dev nD) (t : Fin cfg0.N) :
    win0_8.cut (grid0.coords t) ((dats m (ref m) 0 c).after 8 t) = (win0_8.blk t).view.read (Elt Ideal) (Gz m c) := by
  rw [after0_8]; exact win0_8.cut_fill _ _ _
theorem cut_after9 (c : Dev nD) (t : Fin cfg0.N) :
    win0_9.cut (grid0.coords t) ((dats m (ref m) 0 c).after 9 t) = (win0_9.blk t).view.read (Elt Ideal) (Gx m c) := by
  rw [after0_9]; exact win0_9.cut_fill _ _ _
theorem cut_after10 (c : Dev nD) (t : Fin cfg0.N) :
    win0_10.cut (grid0.coords t) ((dats m (ref m) 0 c).after 10 t) = (win0_10.blk t).view.read (Elt Ideal) (Gd m c) := by
  rw [after0_10]; exact win0_10.cut_fill _ _ _

/-- Which points store, and which write back, each result. -/
theorem live7 : ∀ t : Fin cfg0.N, cfg0.idle 7 (cfg0.grid.coords t) = false := (by decide +kernel : ∀ t : Fin grid0.N, _)
theorem idle8 : ∀ t : Fin cfg0.N, cfg0.idle 8 (cfg0.grid.coords t) = decide (t.val < 9 ∨ 4 ≤ t.val % 9) := (by decide +kernel : ∀ t : Fin grid0.N, _)
theorem idle9 : ∀ t : Fin cfg0.N, cfg0.idle 9 (cfg0.grid.coords t) = decide (t.val < 9 ∨ t.val % 9 < 4) := (by decide +kernel : ∀ t : Fin grid0.N, _)
theorem idle10 : ∀ t : Fin cfg0.N, cfg0.idle 10 (cfg0.grid.coords t) = decide (t.val < 9 ∨ t.val % 9 ≠ 0) := (by decide +kernel : ∀ t : Fin grid0.N, _)
theorem flush8 : ∀ t : Fin cfg0.N, (cfg0.win 8).flush t = decide (9 ≤ t.val ∧ (t.val % 9 < 3 ∨ t.val % 9 = 8)) := (by decide +kernel : ∀ t : Fin grid0.N, _)
theorem flush9 : ∀ t : Fin cfg0.N, (cfg0.win 9).flush t = decide (9 ≤ t.val ∧ 4 ≤ t.val % 9) := (by decide +kernel : ∀ t : Fin grid0.N, _)
theorem flush10 : ∀ t : Fin cfg0.N, (cfg0.win 10).flush t = decide (9 ≤ t.val ∧ t.val % 9 = 8) := (by decide +kernel : ∀ t : Fin grid0.N, _)
theorem flush7 : ∀ t : Fin cfg0.N, (cfg0.win 7).flush t = decide (t.val < 53 ∨ t.val = 62) := (by decide +kernel : ∀ t : Fin grid0.N, _)
theorem norm_at : ∀ t : Fin cfg0.N, k0_cond1 (grid0.coords t) = 1#1 ↔ t.val < 9 := (by decide +kernel : ∀ t : Fin grid0.N, _)
theorem gate_at : ∀ t : Fin cfg0.N, k0_cond2 (grid0.coords t) = 1#1 ↔ ¬ t.val < 9 ∧ t.val % 9 < 4 := (by decide +kernel : ∀ t : Fin grid0.N, _)
theorem conv_at : ∀ t : Fin cfg0.N, k0_cond3 (grid0.coords t) = 1#1 ↔ ¬ t.val < 9 ∧ 4 ≤ t.val % 9 := (by decide +kernel : ∀ t : Fin grid0.N, _)
theorem step_at : ∀ t : Fin cfg0.N, k0_cond4 (grid0.coords t) = 1#1 ↔ ¬ t.val < 9 ∧ t.val % 9 = 0 := (by decide +kernel : ∀ t : Fin grid0.N, _)

/-- From the point after the gate's last store in a row of the grid to the row's end, the buffer keeps the values. -/
theorem carried8 (c : Dev nD) (n : ℕ) : ∀ (hn : n < 63), 9 ≤ n → 4 ≤ n % 9 → ∀ (d : Vec Ideal S864x512 .f32) (r : Fin 864) (q : Fin 512)
    (h : 864 * (n / 9 - 1) + r.val < 5168),
    (dats m (ref m) 0 c).before 8 ⟨n, hn⟩ d (ix2 r q) = Gz m c (ix2 ⟨864 * (n / 9 - 1) + r.val, h⟩ ⟨1536 + q.val, by omega⟩) := by
  induction n with
  | zero => intro hn h9; omega
  | succ n ih =>
    intro hn h9 hl d r q h
    have hn' : n < 63 := by omega
    have hdiv : (n + 1) / 9 - 1 = n / 9 - 1 := by omega
    have hb := (dats m (ref m) 0 c).before_of_pos 8 ⟨n + 1, hn⟩ (Nat.succ_ne_zero n) ((cfg0.win 8).fetch_out rfl _) d
    have hf : (cfg0.win 8).flush (⟨n, hn'⟩ : Fin cfg0.N) = false := by rw [flush8]; exact decide_eq_false (by dsimp only; omega)
    have hb' : (dats m (ref m) 0 c).before 8 ⟨n + 1, hn⟩ d = (dats m (ref m) 0 c).left 8 ⟨n, hn'⟩ d := by
      refine hb.trans ?_
      show (if (cfg0.win 8).flush (⟨n, hn'⟩ : Fin cfg0.N) = true then d else (dats m (ref m) 0 c).left 8 ⟨n, hn'⟩ d) = _
      rw [hf]; rfl
    rw [hb']
    unfold Dat.left
    by_cases hi : 4 ≤ n % 9
    · rw [show cfg0.idle 8 (cfg0.grid.coords (⟨n, hn'⟩ : Fin cfg0.N)) = true from (idle8 _).trans (decide_eq_true (by dsimp only; omega))]
      have e := ih hn' (by omega) hi d r q (by omega)
      refine e.trans (congrArg (Gz m c) ?_)
      simp only [hdiv]
    · rw [show cfg0.idle 8 (cfg0.grid.coords (⟨n, hn'⟩ : Fin cfg0.N)) = false from (idle8 _).trans (decide_eq_false (by dsimp only; omega))]
      show win0_8.fill (grid0.coords (⟨n, hn'⟩ : Fin cfg0.N)) d (win0_8.cut (grid0.coords (⟨n, hn'⟩ : Fin cfg0.N)) ((dats m (ref m) 0 c).after 8 ⟨n, hn'⟩)) (ix2 r q) = _
      rw [cut_after8]
      refine (fill8_at (⟨n, hn'⟩ : Fin cfg0.N) d (Gz m c) r q (by dsimp only; omega)).trans (congrArg (Gz m c) ?_)
      funext a; apply Fin.ext
      match a with
      | ⟨0, _⟩ => show 864 * (n / 9 - 1) + r.val = 864 * ((n + 1) / 9 - 1) + r.val; omega
      | ⟨1, _⟩ => show 512 * (if n < 9 then 0 else min (n % 9) 3) + q.val = 1536 + q.val; rw [if_neg (by omega)]; omega

/-- From the point after the step sizes's last store in a row of the grid to the row's end, the buffer keeps the values. -/
theorem carried10 (c : Dev nD) (n : ℕ) : ∀ (hn : n < 63), 9 ≤ n → 1 ≤ n % 9 → ∀ (d : Vec Ideal S864x128 .f32) (r : Fin 864) (q : Fin 128)
    (h : 864 * (n / 9 - 1) + r.val < 5168),
    (dats m (ref m) 0 c).before 10 ⟨n, hn⟩ d (ix2 r q) = Gd m c (ix2 ⟨864 * (n / 9 - 1) + r.val, h⟩ q) := by
  induction n with
  | zero => intro hn h9; omega
  | succ n ih =>
    intro hn h9 hl d r q h
    have hn' : n < 63 := by omega
    have hdiv : (n + 1) / 9 - 1 = n / 9 - 1 := by omega
    have hb := (dats m (ref m) 0 c).before_of_pos 10 ⟨n + 1, hn⟩ (Nat.succ_ne_zero n) ((cfg0.win 10).fetch_out rfl _) d
    have hf : (cfg0.win 10).flush (⟨n, hn'⟩ : Fin cfg0.N) = false := by rw [flush10]; exact decide_eq_false (by dsimp only; omega)
    have hb' : (dats m (ref m) 0 c).before 10 ⟨n + 1, hn⟩ d = (dats m (ref m) 0 c).left 10 ⟨n, hn'⟩ d := by
      refine hb.trans ?_
      show (if (cfg0.win 10).flush (⟨n, hn'⟩ : Fin cfg0.N) = true then d else (dats m (ref m) 0 c).left 10 ⟨n, hn'⟩ d) = _
      rw [hf]; rfl
    rw [hb']
    unfold Dat.left
    by_cases hi : 1 ≤ n % 9
    · rw [show cfg0.idle 10 (cfg0.grid.coords (⟨n, hn'⟩ : Fin cfg0.N)) = true from (idle10 _).trans (decide_eq_true (by dsimp only; omega))]
      have e := ih hn' (by omega) hi d r q (by omega)
      refine e.trans (congrArg (Gd m c) ?_)
      simp only [hdiv]
    · rw [show cfg0.idle 10 (cfg0.grid.coords (⟨n, hn'⟩ : Fin cfg0.N)) = false from (idle10 _).trans (decide_eq_false (by dsimp only; omega))]
      show win0_10.fill (grid0.coords (⟨n, hn'⟩ : Fin cfg0.N)) d (win0_10.cut (grid0.coords (⟨n, hn'⟩ : Fin cfg0.N)) ((dats m (ref m) 0 c).after 10 ⟨n, hn'⟩)) (ix2 r q) = _
      rw [cut_after10]
      refine (fill10_at (⟨n, hn'⟩ : Fin cfg0.N) d (Gd m c) r q (by dsimp only; omega)).trans (congrArg (Gd m c) ?_)
      funext a; apply Fin.ext
      match a with
      | ⟨0, _⟩ => show 864 * (n / 9 - 1) + r.val = 864 * ((n + 1) / 9 - 1) + r.val; omega
      | ⟨1, _⟩ => rfl

/-! ## The run -/

/-- The body obligation of one grid point: what `BodyObligationLoose` asks there. -/
def BodyAt (c : Dev nD) (t : Fin cfg0.N) : Prop :=
    iprop((dats (F := Ideal) m (ref m) 0 c).Φ t.castSucc ∗ (dats m (ref m) 0 c).owesAt () t.castSucc
        ∗ bigSep Finset.univ fun w : Fin cfg0.W => iprop(∃ d, owns (c : Thread nD τ) ((cfg0.win w).stage (cfg0.slots t w)) fullShare ((dats m (ref m) 0 c).before w t d)))
      ⊢ wp Idealize.ShloMosaic.frame (wpE (defs₀ (F := Ideal)) Variants.none c none) Set.univ (defs₀ .tc cfg0.body (cfg0.bodyArgs t (cfg0.slots t))) fun _ =>
          iprop((dats m (ref m) 0 c).Φ t.succ ∗ (dats m (ref m) 0 c).owesAt () t.succ
            ∗ bigSep Finset.univ fun w : Fin cfg0.W =>
                match cfg0.idle w (cfg0.grid.coords t) with
                | true =>
                  match (cfg0.win w).flush t with
                  | false => iprop(∃ d, owns (c : Thread nD τ) ((cfg0.win w).stage (cfg0.slots t w)) fullShare ((dats m (ref m) 0 c).before w t d))
                  | true =>
                    match cfg0.loose w with
                    | true => iprop(∃ d, owns (c : Thread nD τ) ((cfg0.win w).stage (cfg0.slots t w)) fullShare ((cfg0.win w).fill (cfg0.grid.coords t) d ((cfg0.win w).cut (cfg0.grid.coords t) ((dats m (ref m) 0 c).after w t))))
                    | false => owns (c : Thread nD τ) ((cfg0.win w).stage (cfg0.slots t w)) fullShare ((dats m (ref m) 0 c).after w t)
                | false =>
                  match cfg0.loose w with
                  | true => iprop(∃ d, owns (c : Thread nD τ) ((cfg0.win w).stage (cfg0.slots t w)) fullShare ((cfg0.win w).fill (cfg0.grid.coords t) d ((cfg0.win w).cut (cfg0.grid.coords t) ((dats m (ref m) 0 c).after w t))))
                  | false => owns (c : Thread nD τ) ((cfg0.win w).stage (cfg0.slots t w)) fullShare ((dats m (ref m) 0 c).after w t))

/-- The body obligation at a point of the first row of the grid. -/
theorem body_norm (c : Dev nD) (t : Fin cfg0.N) (ht : t.val < 9) : BodyAt m c t := by
  unfold BodyAt
  obtain ⟨h1, h2, h3, h4⟩ : k0_cond1 (grid0.coords t) = 1#1 ∧ ¬ k0_cond2 (grid0.coords t) = 1#1 ∧ ¬ k0_cond3 (grid0.coords t) = 1#1 ∧ ¬ k0_cond4 (grid0.coords t) = 1#1 :=
    ⟨(norm_at t).mpr ht, mt (gate_at t).mp (by omega), mt (conv_at t).mp (by omega), mt (step_at t).mp (by omega)⟩
  have ht63 : t.val < 63 := t.isLt
  rw [bigSep_W0, bigSep_W0, defs₀_row]
  rw [live7 t, show cfg0.idle 8 (cfg0.grid.coords t) = true from (idle8 t).trans (decide_eq_true (by omega)),
    show cfg0.idle 9 (cfg0.grid.coords t) = true from (idle9 t).trans (decide_eq_true (by omega)),
    show cfg0.idle 10 (cfg0.grid.coords t) = true from (idle10 t).trans (decide_eq_true (by omega))]
  rw [show (cfg0.win 8).flush t = false from (flush8 t).trans (decide_eq_false (by omega)),
    show (cfg0.win 9).flush t = false from (flush9 t).trans (decide_eq_false (by omega)),
    show (cfg0.win 10).flush t = false from (flush10 t).trans (decide_eq_false (by omega))]
  rw [phi_eq, phi_eq, show (dats m (ref m) 0 c).owesAt () t.succ = (dats m (ref m) 0 c).owesAt () t.castSucc from rfl]
  unfold inv
  iintro ⟨⟨⟨%s, %hs, Hs⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [before0_0 m (ref m) c t d0, before0_1 m (ref m) c t d1, before0_2 m (ref m) c t d2, before0_3 m (ref m) c t d3, before0_4 m (ref m) c t d4, before0_5 m (ref m) c t d5, before0_6 m (ref m) c t d6]
  iapply (sound_norm c Set.univ _ _ _ _ _ _ _ _ _ _ _ _ _ _ _ _ _ _ _ _ _ _ _ _ _ h1 h2 h3 h4 (iblk m c 0 t) (win0_1.fill (grid0.coords t) d1 (iblk m c 1 t)) (iblk m c 2 t) s _)
  isplitl [H0]; · iexact H0
  isplitl [H1]; · iexact H1
  isplitl [H2]; · iexact H2
  isplitl [H7]; · iexists _; iexact H7
  isplitl [Hs]; · iexact Hs
  iintro ⟨H0, H1, H2, H7, Hs⟩
  isplitl [Hs Hr]
  · isplitl [Hs]
    · iexists (sput s (k0_off1 (grid0.coords t)) (qstored (iblk m c 0 t) (win0_1.fill (grid0.coords t) d1 (iblk m c 1 t)) (iblk m c 2 t)))
      isplitr; · ipureintro; exact good_step m c t s hs _ (off1_at t) d1
      iexact Hs
    · iexact Hr
  isplitl [Ho]; · iexact Ho
  isplitl [H0]; · iexact H0
  isplitl [H1]
  · iexists d1
    change _ ⊢ owns (c : Thread nD τ) (stage0_1 (cfg0.slots t 1)) fullShare (win0_1.fill (grid0.coords t) d1 (win0_1.cut (grid0.coords t) ((dats m (ref m) 0 c).after 1 t)))
    rw [after0_1, cut_xtile]
  isplitl [H2]; · iexact H2
  isplitl [H3]
  · iexists X0_3 m c t
    change _ ⊢ owns (c : Thread nD τ) (stage0_3 (cfg0.slots t 3)) fullShare (win0_3.fill (grid0.coords t) (X0_3 m c t) (win0_3.cut (grid0.coords t) ((dats m (ref m) 0 c).after 3 t)))
    rw [after0_3, win0_3.fill_cut]
  isplitl [H4]
  · iexists X0_4 m c t
    change _ ⊢ owns (c : Thread nD τ) (stage0_4 (cfg0.slots t 4)) fullShare (win0_4.fill (grid0.coords t) (X0_4 m c t) (win0_4.cut (grid0.coords t) ((dats m (ref m) 0 c).after 4 t)))
    rw [after0_4, win0_4.fill_cut]
  isplitl [H5]; · iexact H5
  isplitl [H6]
  · iexists d6
    change _ ⊢ owns (c : Thread nD τ) (stage0_6 (cfg0.slots t 6)) fullShare (win0_6.fill (grid0.coords t) d6 (win0_6.cut (grid0.coords t) ((dats m (ref m) 0 c).after 6 t)))
    rw [after0_6, cut_stile]
  isplitl [H7]
  · iexists (qstored (iblk m c 0 t) (win0_1.fill (grid0.coords t) d1 (iblk m c 1 t)) (iblk m c 2 t))
    change _ ⊢ owns (c : Thread nD τ) (stage0_7 (cfg0.slots t 7)) fullShare (win0_7.fill (grid0.coords t) (qstored (iblk m c 0 t) (win0_1.fill (grid0.coords t) d1 (iblk m c 1 t)) (iblk m c 2 t)) (win0_7.cut (grid0.coords t) ((dats m (ref m) 0 c).after 7 t)))
    rw [cut_after7, ← show win0_7.cut (grid0.coords t) (qstored (iblk m c 0 t) (win0_1.fill (grid0.coords t) d1 (iblk m c 1 t)) (iblk m c 2 t)) = (win0_7.blk t).view.read (Elt Ideal) (Gq m c) from cut7_of t _ _ (qstored_at m c t d1), win0_7.fill_cut]
  isplitl [H8]
  · iexists d8; iexact H8
  isplitl [H9]
  · iexists d9; iexact H9
  · iexists d10; iexact H10

/-- The body obligation at the first point of a later row. -/
theorem body_first (c : Dev nD) (t : Fin cfg0.N) (ht : ¬ t.val < 9 ∧ t.val % 9 = 0) : BodyAt m c t := by
  unfold BodyAt
  obtain ⟨h1, h2, h3, h4⟩ : ¬ k0_cond1 (grid0.coords t) = 1#1 ∧ k0_cond2 (grid0.coords t) = 1#1 ∧ ¬ k0_cond3 (grid0.coords t) = 1#1 ∧ k0_cond4 (grid0.coords t) = 1#1 :=
    ⟨mt (norm_at t).mp (by omega), (gate_at t).mpr (by omega), mt (conv_at t).mp (by omega), (step_at t).mpr (by omega)⟩
  have ht63 : t.val < 63 := t.isLt
  rw [bigSep_W0, bigSep_W0, defs₀_row]
  rw [live7 t, show cfg0.idle 8 (cfg0.grid.coords t) = false from (idle8 t).trans (decide_eq_false (by omega)),
    show cfg0.idle 9 (cfg0.grid.coords t) = true from (idle9 t).trans (decide_eq_true (by omega)),
    show cfg0.idle 10 (cfg0.grid.coords t) = false from (idle10 t).trans (decide_eq_false (by omega))]
  rw [show (cfg0.win 9).flush t = false from (flush9 t).trans (decide_eq_false (by omega))]
  rw [phi_eq, phi_eq, show (dats m (ref m) 0 c).owesAt () t.succ = (dats m (ref m) 0 c).owesAt () t.castSucc from rfl]
  unfold inv
  iintro ⟨⟨⟨%s, %hs, Hs⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [before0_0 m (ref m) c t d0, before0_1 m (ref m) c t d1, before0_2 m (ref m) c t d2, before0_3 m (ref m) c t d3, before0_4 m (ref m) c t d4, before0_5 m (ref m) c t d5, before0_6 m (ref m) c t d6]
  iapply (sound_first c Set.univ _ _ _ _ _ _ _ _ _ _ _ _ _ _ _ _ _ _ _ _ _ _ _ _ _ h1 h2 h3 h4 (iblk m c 0 t) (win0_1.fill (grid0.coords t) d1 (iblk m c 1 t)) (iblk m c 2 t) (X0_3 m c t) (X0_4 m c t) (iblk m c 5 t) (win0_6.fill (grid0.coords t) d6 (iblk m c 6 t)) s _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H10]; · iexists _; iexact H10
  isplitl [Hs]; · iexact Hs
  iintro ⟨H0, H1, H2, H3, H4, H5, H6, H7, H8, H10, Hs⟩
  isplitl [Hs Hr]
  · isplitl [Hs]
    · iexists (sput s (k0_off2 (grid0.coords t)) (qstored (iblk m c 0 t) (win0_1.fill (grid0.coords t) d1 (iblk m c 1 t)) (iblk m c 2 t)))
      isplitr; · ipureintro; exact good_step m c t s hs _ (off2_at t) d1
      iexact Hs
    · iexact Hr
  isplitl [Ho]; · iexact Ho
  isplitl [H0]; · iexact H0
  isplitl [H1]
  · iexists d1
    change _ ⊢ owns (c : Thread nD τ) (stage0_1 (cfg0.slots t 1)) fullShare (win0_1.fill (grid0.coords t) d1 (win0_1.cut (grid0.coords t) ((dats m (ref m) 0 c).after 1 t)))
    rw [after0_1, cut_xtile]
  isplitl [H2]; · iexact H2
  isplitl [H3]
  · iexists X0_3 m c t
    change _ ⊢ owns (c : Thread nD τ) (stage0_3 (cfg0.slots t 3)) fullShare (win0_3.fill (grid0.coords t) (X0_3 m c t) (win0_3.cut (grid0.coords t) ((dats m (ref m) 0 c).after 3 t)))
    rw [after0_3, win0_3.fill_cut]
  isplitl [H4]
  · iexists X0_4 m c t
    change _ ⊢ owns (c : Thread nD τ) (stage0_4 (cfg0.slots t 4)) fullShare (win0_4.fill (grid0.coords t) (X0_4 m c t) (win0_4.cut (grid0.coords t) ((dats m (ref m) 0 c).after 4 t)))
    rw [after0_4, win0_4.fill_cut]
  isplitl [H5]; · iexact H5
  isplitl [H6]
  · iexists d6
    change _ ⊢ owns (c : Thread nD τ) (stage0_6 (cfg0.slots t 6)) fullShare (win0_6.fill (grid0.coords t) d6 (win0_6.cut (grid0.coords t) ((dats m (ref m) 0 c).after 6 t)))
    rw [after0_6, cut_stile]
  isplitl [H7]
  · iexists (qstored (iblk m c 0 t) (win0_1.fill (grid0.coords t) d1 (iblk m c 1 t)) (iblk m c 2 t))
    change _ ⊢ owns (c : Thread nD τ) (stage0_7 (cfg0.slots t 7)) fullShare (win0_7.fill (grid0.coords t) (qstored (iblk m c 0 t) (win0_1.fill (grid0.coords t) d1 (iblk m c 1 t)) (iblk m c 2 t)) (win0_7.cut (grid0.coords t) ((dats m (ref m) 0 c).after 7 t)))
    rw [cut_after7, ← show win0_7.cut (grid0.coords t) (qstored (iblk m c 0 t) (win0_1.fill (grid0.coords t) d1 (iblk m c 1 t)) (iblk m c 2 t)) = (win0_7.blk t).view.read (Elt Ideal) (Gq m c) from cut7_of t _ _ (qstored_at m c t d1), win0_7.fill_cut]
  isplitl [H8]
  · iexists (pstored (iblk m c 0 t) (View.ld (sput s (k0_off2 (grid0.coords t)) (qstored (iblk m c 0 t) (win0_1.fill (grid0.coords t) d1 (iblk m c 1 t)) (iblk m c 2 t))) (slot3 (grid0.coords t) h2)) (X0_3 m c t) (X0_4 m c t))
    change _ ⊢ owns (c : Thread nD τ) (stage0_8 (cfg0.slots t 8)) fullShare (win0_8.fill (grid0.coords t) (pstored (iblk m c 0 t) (View.ld (sput s (k0_off2 (grid0.coords t)) (qstored (iblk m c 0 t) (win0_1.fill (grid0.coords t) d1 (iblk m c 1 t)) (iblk m c 2 t))) (slot3 (grid0.coords t) h2)) (X0_3 m c t) (X0_4 m c t)) (win0_8.cut (grid0.coords t) ((dats m (ref m) 0 c).after 8 t)))
    rw [cut_after8, ← show win0_8.cut (grid0.coords t) (pstored (iblk m c 0 t) (View.ld (sput s (k0_off2 (grid0.coords t)) (qstored (iblk m c 0 t) (win0_1.fill (grid0.coords t) d1 (iblk m c 1 t)) (iblk m c 2 t))) (slot3 (grid0.coords t) h2)) (X0_3 m c t) (X0_4 m c t)) = (win0_8.blk t).view.read (Elt Ideal) (Gz m c) from cut8_of t _ _ fun r q h => (z_at m c t (by omega) _ (fun r k h => slot_at m c t (by omega) s hs _ (off2_at t) _ _ (off3_at t) _ r k h) r h (by omega) q).trans (congrArg (Gz m c) (by
      funext a; apply Fin.ext
      match a with
      | ⟨0, _⟩ => rfl
      | ⟨1, _⟩ => show 512 * (t.val % 9) + q.val = 512 * (if t.val < 9 then 0 else min (t.val % 9) 3) + q.val; rw [if_neg (by omega)]; omega)), win0_8.fill_cut]
  isplitl [H9]
  · iexists d9; iexact H9
  · iexists (dstored (iblk m c 0 t) (View.ld (sput s (k0_off2 (grid0.coords t)) (qstored (iblk m c 0 t) (win0_1.fill (grid0.coords t) d1 (iblk m c 1 t)) (iblk m c 2 t))) (slot6 (grid0.coords t) h4)) (iblk m c 5 t) (win0_6.fill (grid0.coords t) d6 (iblk m c 6 t)))
    change _ ⊢ owns (c : Thread nD τ) (stage0_10 (cfg0.slots t 10)) fullShare (win0_10.fill (grid0.coords t) (dstored (iblk m c 0 t) (View.ld (sput s (k0_off2 (grid0.coords t)) (qstored (iblk m c 0 t) (win0_1.fill (grid0.coords t) d1 (iblk m c 1 t)) (iblk m c 2 t))) (slot6 (grid0.coords t) h4)) (iblk m c 5 t) (win0_6.fill (grid0.coords t) d6 (iblk m c 6 t))) (win0_10.cut (grid0.coords t) ((dats m (ref m) 0 c).after 10 t)))
    rw [cut_after10, ← show win0_10.cut (grid0.coords t) (dstored (iblk m c 0 t) (View.ld (sput s (k0_off2 (grid0.coords t)) (qstored (iblk m c 0 t) (win0_1.fill (grid0.coords t) d1 (iblk m c 1 t)) (iblk m c 2 t))) (slot6 (grid0.coords t) h4)) (iblk m c 5 t) (win0_6.fill (grid0.coords t) d6 (iblk m c 6 t))) = (win0_10.blk t).view.read (Elt Ideal) (Gd m c) from cut10_of t _ _ fun r q h => d_at m c t (by omega) _ (fun r k h => slot_at m c t (by omega) s hs _ (off2_at t) _ _ (off6_at t) _ r k h) r h d6 q, win0_10.fill_cut]

/-- The body obligation at the gate's other points. -/
theorem body_gate (c : Dev nD) (t : Fin cfg0.N) (ht : ¬ t.val < 9 ∧ 0 < t.val % 9 ∧ t.val % 9 < 4) : BodyAt m c t := by
  unfold BodyAt
  obtain ⟨h1, h2, h3, h4⟩ : ¬ k0_cond1 (grid0.coords t) = 1#1 ∧ k0_cond2 (grid0.coords t) = 1#1 ∧ ¬ k0_cond3 (grid0.coords t) = 1#1 ∧ ¬ k0_cond4 (grid0.coords t) = 1#1 :=
    ⟨mt (norm_at t).mp (by omega), (gate_at t).mpr (by omega), mt (conv_at t).mp (by omega), mt (step_at t).mp (by omega)⟩
  have ht63 : t.val < 63 := t.isLt
  rw [bigSep_W0, bigSep_W0, defs₀_row]
  rw [live7 t, show cfg0.idle 8 (cfg0.grid.coords t) = false from (idle8 t).trans (decide_eq_false (by omega)),
    show cfg0.idle 9 (cfg0.grid.coords t) = true from (idle9 t).trans (decide_eq_true (by omega)),
    show cfg0.idle 10 (cfg0.grid.coords t) = true from (idle10 t).trans (decide_eq_true (by omega))]
  rw [show (cfg0.win 9).flush t = false from (flush9 t).trans (decide_eq_false (by omega)),
    show (cfg0.win 10).flush t = false from (flush10 t).trans (decide_eq_false (by omega))]
  rw [phi_eq, phi_eq, show (dats m (ref m) 0 c).owesAt () t.succ = (dats m (ref m) 0 c).owesAt () t.castSucc from rfl]
  unfold inv
  iintro ⟨⟨⟨%s, %hs, Hs⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [before0_0 m (ref m) c t d0, before0_1 m (ref m) c t d1, before0_2 m (ref m) c t d2, before0_3 m (ref m) c t d3, before0_4 m (ref m) c t d4, before0_5 m (ref m) c t d5, before0_6 m (ref m) c t d6]
  iapply (sound_gate c Set.univ _ _ _ _ _ _ _ _ _ _ _ _ _ _ _ _ _ _ _ _ _ _ _ _ _ h1 h2 h3 h4 (iblk m c 0 t) (win0_1.fill (grid0.coords t) d1 (iblk m c 1 t)) (iblk m c 2 t) (X0_3 m c t) (X0_4 m c t) s _)
  isplitl [H0]; · iexact H0
  isplitl [H1]; · iexact H1
  isplitl [H2]; · iexact H2
  isplitl [H3]; · iexact H3
  isplitl [H4]; · iexact H4
  isplitl [H7]; · iexists _; iexact H7
  isplitl [H8]; · iexists _; iexact H8
  isplitl [Hs]; · iexact Hs
  iintro ⟨H0, H1, H2, H3, H4, H7, H8, Hs⟩
  isplitl [Hs Hr]
  · isplitl [Hs]
    · iexists (sput s (k0_off2 (grid0.coords t)) (qstored (iblk m c 0 t) (win0_1.fill (grid0.coords t) d1 (iblk m c 1 t)) (iblk m c 2 t)))
      isplitr; · ipureintro; exact good_step m c t s hs _ (off2_at t) d1
      iexact Hs
    · iexact Hr
  isplitl [Ho]; · iexact Ho
  isplitl [H0]; · iexact H0
  isplitl [H1]
  · iexists d1
    change _ ⊢ owns (c : Thread nD τ) (stage0_1 (cfg0.slots t 1)) fullShare (win0_1.fill (grid0.coords t) d1 (win0_1.cut (grid0.coords t) ((dats m (ref m) 0 c).after 1 t)))
    rw [after0_1, cut_xtile]
  isplitl [H2]; · iexact H2
  isplitl [H3]
  · iexists X0_3 m c t
    change _ ⊢ owns (c : Thread nD τ) (stage0_3 (cfg0.slots t 3)) fullShare (win0_3.fill (grid0.coords t) (X0_3 m c t) (win0_3.cut (grid0.coords t) ((dats m (ref m) 0 c).after 3 t)))
    rw [after0_3, win0_3.fill_cut]
  isplitl [H4]
  · iexists X0_4 m c t
    change _ ⊢ owns (c : Thread nD τ) (stage0_4 (cfg0.slots t 4)) fullShare (win0_4.fill (grid0.coords t) (X0_4 m c t) (win0_4.cut (grid0.coords t) ((dats m (ref m) 0 c).after 4 t)))
    rw [after0_4, win0_4.fill_cut]
  isplitl [H5]; · iexact H5
  isplitl [H6]
  · iexists d6
    change _ ⊢ owns (c : Thread nD τ) (stage0_6 (cfg0.slots t 6)) fullShare (win0_6.fill (grid0.coords t) d6 (win0_6.cut (grid0.coords t) ((dats m (ref m) 0 c).after 6 t)))
    rw [after0_6, cut_stile]
  isplitl [H7]
  · iexists (qstored (iblk m c 0 t) (win0_1.fill (grid0.coords t) d1 (iblk m c 1 t)) (iblk m c 2 t))
    change _ ⊢ owns (c : Thread nD τ) (stage0_7 (cfg0.slots t 7)) fullShare (win0_7.fill (grid0.coords t) (qstored (iblk m c 0 t) (win0_1.fill (grid0.coords t) d1 (iblk m c 1 t)) (iblk m c 2 t)) (win0_7.cut (grid0.coords t) ((dats m (ref m) 0 c).after 7 t)))
    rw [cut_after7, ← show win0_7.cut (grid0.coords t) (qstored (iblk m c 0 t) (win0_1.fill (grid0.coords t) d1 (iblk m c 1 t)) (iblk m c 2 t)) = (win0_7.blk t).view.read (Elt Ideal) (Gq m c) from cut7_of t _ _ (qstored_at m c t d1), win0_7.fill_cut]
  isplitl [H8]
  · iexists (pstored (iblk m c 0 t) (View.ld (sput s (k0_off2 (grid0.coords t)) (qstored (iblk m c 0 t) (win0_1.fill (grid0.coords t) d1 (iblk m c 1 t)) (iblk m c 2 t))) (slot3 (grid0.coords t) h2)) (X0_3 m c t) (X0_4 m c t))
    change _ ⊢ owns (c : Thread nD τ) (stage0_8 (cfg0.slots t 8)) fullShare (win0_8.fill (grid0.coords t) (pstored (iblk m c 0 t) (View.ld (sput s (k0_off2 (grid0.coords t)) (qstored (iblk m c 0 t) (win0_1.fill (grid0.coords t) d1 (iblk m c 1 t)) (iblk m c 2 t))) (slot3 (grid0.coords t) h2)) (X0_3 m c t) (X0_4 m c t)) (win0_8.cut (grid0.coords t) ((dats m (ref m) 0 c).after 8 t)))
    rw [cut_after8, ← show win0_8.cut (grid0.coords t) (pstored (iblk m c 0 t) (View.ld (sput s (k0_off2 (grid0.coords t)) (qstored (iblk m c 0 t) (win0_1.fill (grid0.coords t) d1 (iblk m c 1 t)) (iblk m c 2 t))) (slot3 (grid0.coords t) h2)) (X0_3 m c t) (X0_4 m c t)) = (win0_8.blk t).view.read (Elt Ideal) (Gz m c) from cut8_of t _ _ fun r q h => (z_at m c t (by omega) _ (fun r k h => slot_at m c t (by omega) s hs _ (off2_at t) _ _ (off3_at t) _ r k h) r h (by omega) q).trans (congrArg (Gz m c) (by
      funext a; apply Fin.ext
      match a with
      | ⟨0, _⟩ => rfl
      | ⟨1, _⟩ => show 512 * (t.val % 9) + q.val = 512 * (if t.val < 9 then 0 else min (t.val % 9) 3) + q.val; rw [if_neg (by omega)]; omega)), win0_8.fill_cut]
  isplitl [H9]
  · iexists d9; iexact H9
  · iexists d10; iexact H10

/-- The body obligation at the convolution's points but the last of a row. -/
theorem body_conv (c : Dev nD) (t : Fin cfg0.N) (ht : ¬ t.val < 9 ∧ 4 ≤ t.val % 9 ∧ t.val % 9 < 8) : BodyAt m c t := by
  unfold BodyAt
  obtain ⟨h1, h2, h3, h4⟩ : ¬ k0_cond1 (grid0.coords t) = 1#1 ∧ ¬ k0_cond2 (grid0.coords t) = 1#1 ∧ k0_cond3 (grid0.coords t) = 1#1 ∧ ¬ k0_cond4 (grid0.coords t) = 1#1 :=
    ⟨mt (norm_at t).mp (by omega), mt (gate_at t).mp (by omega), (conv_at t).mpr (by omega), mt (step_at t).mp (by omega)⟩
  have ht63 : t.val < 63 := t.isLt
  rw [bigSep_W0, bigSep_W0, defs₀_row]
  rw [live7 t, show cfg0.idle 8 (cfg0.grid.coords t) = true from (idle8 t).trans (decide_eq_true (by omega)),
    show cfg0.idle 9 (cfg0.grid.coords t) = false from (idle9 t).trans (decide_eq_false (by omega)),
    show cfg0.idle 10 (cfg0.grid.coords t) = true from (idle10 t).trans (decide_eq_true (by omega))]
  rw [show (cfg0.win 8).flush t = false from (flush8 t).trans (decide_eq_false (by omega)),
    show (cfg0.win 10).flush t = false from (flush10 t).trans (decide_eq_false (by omega))]
  rw [phi_eq, phi_eq, show (dats m (ref m) 0 c).owesAt () t.succ = (dats m (ref m) 0 c).owesAt () t.castSucc from rfl]
  unfold inv
  iintro ⟨⟨⟨%s, %hs, Hs⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [before0_0 m (ref m) c t d0, before0_1 m (ref m) c t d1, before0_2 m (ref m) c t d2, before0_3 m (ref m) c t d3, before0_4 m (ref m) c t d4, before0_5 m (ref m) c t d5, before0_6 m (ref m) c t d6]
  iapply (sound_conv c Set.univ _ _ _ _ _ _ _ _ _ _ _ _ _ _ _ _ _ _ _ _ _ _ _ _ _ h1 h2 h3 h4 (iblk m c 0 t) (win0_1.fill (grid0.coords t) d1 (iblk m c 1 t)) (iblk m c 2 t) (X0_3 m c t) (X0_4 m c t) s _)
  isplitl [H0]; · iexact H0
  isplitl [H1]; · iexact H1
  isplitl [H2]; · iexact H2
  isplitl [H3]; · iexact H3
  isplitl [H4]; · iexact H4
  isplitl [H7]; · iexists _; iexact H7
  isplitl [H9]; · iexists _; iexact H9
  isplitl [Hs]; · iexact Hs
  iintro ⟨H0, H1, H2, H3, H4, H7, H9, Hs⟩
  isplitl [Hs Hr]
  · isplitl [Hs]
    · iexists (sput s (k0_off4 (grid0.coords t)) (qstored (iblk m c 0 t) (win0_1.fill (grid0.coords t) d1 (iblk m c 1 t)) (iblk m c 2 t)))
      isplitr; · ipureintro; exact good_step m c t s hs _ (off4_at t) d1
      iexact Hs
    · iexact Hr
  isplitl [Ho]; · iexact Ho
  isplitl [H0]; · iexact H0
  isplitl [H1]
  · iexists d1
    change _ ⊢ owns (c : Thread nD τ) (stage0_1 (cfg0.slots t 1)) fullShare (win0_1.fill (grid0.coords t) d1 (win0_1.cut (grid0.coords t) ((dats m (ref m) 0 c).after 1 t)))
    rw [after0_1, cut_xtile]
  isplitl [H2]; · iexact H2
  isplitl [H3]
  · iexists X0_3 m c t
    change _ ⊢ owns (c : Thread nD τ) (stage0_3 (cfg0.slots t 3)) fullShare (win0_3.fill (grid0.coords t) (X0_3 m c t) (win0_3.cut (grid0.coords t) ((dats m (ref m) 0 c).after 3 t)))
    rw [after0_3, win0_3.fill_cut]
  isplitl [H4]
  · iexists X0_4 m c t
    change _ ⊢ owns (c : Thread nD τ) (stage0_4 (cfg0.slots t 4)) fullShare (win0_4.fill (grid0.coords t) (X0_4 m c t) (win0_4.cut (grid0.coords t) ((dats m (ref m) 0 c).after 4 t)))
    rw [after0_4, win0_4.fill_cut]
  isplitl [H5]; · iexact H5
  isplitl [H6]
  · iexists d6
    change _ ⊢ owns (c : Thread nD τ) (stage0_6 (cfg0.slots t 6)) fullShare (win0_6.fill (grid0.coords t) d6 (win0_6.cut (grid0.coords t) ((dats m (ref m) 0 c).after 6 t)))
    rw [after0_6, cut_stile]
  isplitl [H7]
  · iexists (qstored (iblk m c 0 t) (win0_1.fill (grid0.coords t) d1 (iblk m c 1 t)) (iblk m c 2 t))
    change _ ⊢ owns (c : Thread nD τ) (stage0_7 (cfg0.slots t 7)) fullShare (win0_7.fill (grid0.coords t) (qstored (iblk m c 0 t) (win0_1.fill (grid0.coords t) d1 (iblk m c 1 t)) (iblk m c 2 t)) (win0_7.cut (grid0.coords t) ((dats m (ref m) 0 c).after 7 t)))
    rw [cut_after7, ← show win0_7.cut (grid0.coords t) (qstored (iblk m c 0 t) (win0_1.fill (grid0.coords t) d1 (iblk m c 1 t)) (iblk m c 2 t)) = (win0_7.blk t).view.read (Elt Ideal) (Gq m c) from cut7_of t _ _ (qstored_at m c t d1), win0_7.fill_cut]
  isplitl [H8]
  · iexists d8; iexact H8
  isplitl [H9]
  · iexists (pstored (iblk m c 0 t) (View.ld (sput s (k0_off4 (grid0.coords t)) (qstored (iblk m c 0 t) (win0_1.fill (grid0.coords t) d1 (iblk m c 1 t)) (iblk m c 2 t))) (slot5 (grid0.coords t) h3)) (X0_3 m c t) (X0_4 m c t))
    change _ ⊢ owns (c : Thread nD τ) (stage0_9 (cfg0.slots t 9)) fullShare (win0_9.fill (grid0.coords t) (pstored (iblk m c 0 t) (View.ld (sput s (k0_off4 (grid0.coords t)) (qstored (iblk m c 0 t) (win0_1.fill (grid0.coords t) d1 (iblk m c 1 t)) (iblk m c 2 t))) (slot5 (grid0.coords t) h3)) (X0_3 m c t) (X0_4 m c t)) (win0_9.cut (grid0.coords t) ((dats m (ref m) 0 c).after 9 t)))
    rw [cut_after9, ← show win0_9.cut (grid0.coords t) (pstored (iblk m c 0 t) (View.ld (sput s (k0_off4 (grid0.coords t)) (qstored (iblk m c 0 t) (win0_1.fill (grid0.coords t) d1 (iblk m c 1 t)) (iblk m c 2 t))) (slot5 (grid0.coords t) h3)) (X0_3 m c t) (X0_4 m c t)) = (win0_9.blk t).view.read (Elt Ideal) (Gx m c) from cut9_of t _ _ fun r q h => (x_at m c t (by omega) _ (fun r k h => slot_at m c t (by omega) s hs _ (off4_at t) _ _ (off5_at t) _ r k h) r h (by omega) q).trans (congrArg (Gx m c) (by
      funext a; apply Fin.ext
      match a with
      | ⟨0, _⟩ => rfl
      | ⟨1, _⟩ => show 512 * (t.val % 9 - 4) + q.val = 512 * (if t.val < 9 then 0 else t.val % 9 - 4) + q.val; rw [if_neg (by omega)])), win0_9.fill_cut]
  · iexists d10; iexact H10

/-- The body obligation at the last point of a row. -/
theorem body_last (c : Dev nD) (t : Fin cfg0.N) (ht : ¬ t.val < 9 ∧ t.val % 9 = 8) : BodyAt m c t := by
  unfold BodyAt
  obtain ⟨h1, h2, h3, h4⟩ : ¬ k0_cond1 (grid0.coords t) = 1#1 ∧ ¬ k0_cond2 (grid0.coords t) = 1#1 ∧ k0_cond3 (grid0.coords t) = 1#1 ∧ ¬ k0_cond4 (grid0.coords t) = 1#1 :=
    ⟨mt (norm_at t).mp (by omega), mt (gate_at t).mp (by omega), (conv_at t).mpr (by omega), mt (step_at t).mp (by omega)⟩
  have ht63 : t.val < 63 := t.isLt
  rw [bigSep_W0, bigSep_W0, defs₀_row]
  rw [live7 t, show cfg0.idle 8 (cfg0.grid.coords t) = true from (idle8 t).trans (decide_eq_true (by omega)),
    show cfg0.idle 9 (cfg0.grid.coords t) = false from (idle9 t).trans (decide_eq_false (by omega)),
    show cfg0.idle 10 (cfg0.grid.coords t) = true from (idle10 t).trans (decide_eq_true (by omega))]
  rw [show (cfg0.win 8).flush t = true from (flush8 t).trans (decide_eq_true (by omega)),
    show (cfg0.win 10).flush t = true from (flush10 t).trans (decide_eq_true (by omega))]
  rw [phi_eq, phi_eq, show (dats m (ref m) 0 c).owesAt () t.succ = (dats m (ref m) 0 c).owesAt () t.castSucc from rfl]
  unfold inv
  iintro ⟨⟨⟨%s, %hs, Hs⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [before0_0 m (ref m) c t d0, before0_1 m (ref m) c t d1, before0_2 m (ref m) c t d2, before0_3 m (ref m) c t d3, before0_4 m (ref m) c t d4, before0_5 m (ref m) c t d5, before0_6 m (ref m) c t d6]
  iapply (sound_conv c Set.univ _ _ _ _ _ _ _ _ _ _ _ _ _ _ _ _ _ _ _ _ _ _ _ _ _ h1 h2 h3 h4 (iblk m c 0 t) (win0_1.fill (grid0.coords t) d1 (iblk m c 1 t)) (iblk m c 2 t) (X0_3 m c t) (X0_4 m c t) s _)
  isplitl [H0]; · iexact H0
  isplitl [H1]; · iexact H1
  isplitl [H2]; · iexact H2
  isplitl [H3]; · iexact H3
  isplitl [H4]; · iexact H4
  isplitl [H7]; · iexists _; iexact H7
  isplitl [H9]; · iexists _; iexact H9
  isplitl [Hs]; · iexact Hs
  iintro ⟨H0, H1, H2, H3, H4, H7, H9, Hs⟩
  isplitl [Hs Hr]
  · isplitl [Hs]
    · iexists (sput s (k0_off4 (grid0.coords t)) (qstored (iblk m c 0 t) (win0_1.fill (grid0.coords t) d1 (iblk m c 1 t)) (iblk m c 2 t)))
      isplitr; · ipureintro; exact good_step m c t s hs _ (off4_at t) d1
      iexact Hs
    · iexact Hr
  isplitl [Ho]; · iexact Ho
  isplitl [H0]; · iexact H0
  isplitl [H1]
  · iexists d1
    change _ ⊢ owns (c : Thread nD τ) (stage0_1 (cfg0.slots t 1)) fullShare (win0_1.fill (grid0.coords t) d1 (win0_1.cut (grid0.coords t) ((dats m (ref m) 0 c).after 1 t)))
    rw [after0_1, cut_xtile]
  isplitl [H2]; · iexact H2
  isplitl [H3]
  · iexists X0_3 m c t
    change _ ⊢ owns (c : Thread nD τ) (stage0_3 (cfg0.slots t 3)) fullShare (win0_3.fill (grid0.coords t) (X0_3 m c t) (win0_3.cut (grid0.coords t) ((dats m (ref m) 0 c).after 3 t)))
    rw [after0_3, win0_3.fill_cut]
  isplitl [H4]
  · iexists X0_4 m c t
    change _ ⊢ owns (c : Thread nD τ) (stage0_4 (cfg0.slots t 4)) fullShare (win0_4.fill (grid0.coords t) (X0_4 m c t) (win0_4.cut (grid0.coords t) ((dats m (ref m) 0 c).after 4 t)))
    rw [after0_4, win0_4.fill_cut]
  isplitl [H5]; · iexact H5
  isplitl [H6]
  · iexists d6
    change _ ⊢ owns (c : Thread nD τ) (stage0_6 (cfg0.slots t 6)) fullShare (win0_6.fill (grid0.coords t) d6 (win0_6.cut (grid0.coords t) ((dats m (ref m) 0 c).after 6 t)))
    rw [after0_6, cut_stile]
  isplitl [H7]
  · iexists (qstored (iblk m c 0 t) (win0_1.fill (grid0.coords t) d1 (iblk m c 1 t)) (iblk m c 2 t))
    change _ ⊢ owns (c : Thread nD τ) (stage0_7 (cfg0.slots t 7)) fullShare (win0_7.fill (grid0.coords t) (qstored (iblk m c 0 t) (win0_1.fill (grid0.coords t) d1 (iblk m c 1 t)) (iblk m c 2 t)) (win0_7.cut (grid0.coords t) ((dats m (ref m) 0 c).after 7 t)))
    rw [cut_after7, ← show win0_7.cut (grid0.coords t) (qstored (iblk m c 0 t) (win0_1.fill (grid0.coords t) d1 (iblk m c 1 t)) (iblk m c 2 t)) = (win0_7.blk t).view.read (Elt Ideal) (Gq m c) from cut7_of t _ _ (qstored_at m c t d1), win0_7.fill_cut]
  isplitl [H8]
  · iexists ((dats m (ref m) 0 c).before 8 t d8)
    change _ ⊢ owns (c : Thread nD τ) (stage0_8 (cfg0.slots t 8)) fullShare (win0_8.fill (grid0.coords t) ((dats m (ref m) 0 c).before 8 t d8) (win0_8.cut (grid0.coords t) ((dats m (ref m) 0 c).after 8 t)))
    rw [cut_after8, ← show win0_8.cut (grid0.coords t) ((dats m (ref m) 0 c).before 8 t d8) = (win0_8.blk t).view.read (Elt Ideal) (Gz m c) from cut8_of t _ _ fun r q h => (carried8 m c t.val t.isLt (by omega) (by omega) d8 r q h).trans (congrArg (Gz m c) (by
      funext a; apply Fin.ext
      match a with
      | ⟨0, _⟩ => rfl
      | ⟨1, _⟩ => show 1536 + q.val = 512 * (if t.val < 9 then 0 else min (t.val % 9) 3) + q.val; rw [if_neg (by omega)]; omega)), win0_8.fill_cut]
  isplitl [H9]
  · iexists (pstored (iblk m c 0 t) (View.ld (sput s (k0_off4 (grid0.coords t)) (qstored (iblk m c 0 t) (win0_1.fill (grid0.coords t) d1 (iblk m c 1 t)) (iblk m c 2 t))) (slot5 (grid0.coords t) h3)) (X0_3 m c t) (X0_4 m c t))
    change _ ⊢ owns (c : Thread nD τ) (stage0_9 (cfg0.slots t 9)) fullShare (win0_9.fill (grid0.coords t) (pstored (iblk m c 0 t) (View.ld (sput s (k0_off4 (grid0.coords t)) (qstored (iblk m c 0 t) (win0_1.fill (grid0.coords t) d1 (iblk m c 1 t)) (iblk m c 2 t))) (slot5 (grid0.coords t) h3)) (X0_3 m c t) (X0_4 m c t)) (win0_9.cut (grid0.coords t) ((dats m (ref m) 0 c).after 9 t)))
    rw [cut_after9, ← show win0_9.cut (grid0.coords t) (pstored (iblk m c 0 t) (View.ld (sput s (k0_off4 (grid0.coords t)) (qstored (iblk m c 0 t) (win0_1.fill (grid0.coords t) d1 (iblk m c 1 t)) (iblk m c 2 t))) (slot5 (grid0.coords t) h3)) (X0_3 m c t) (X0_4 m c t)) = (win0_9.blk t).view.read (Elt Ideal) (Gx m c) from cut9_of t _ _ fun r q h => (x_at m c t (by omega) _ (fun r k h => slot_at m c t (by omega) s hs _ (off4_at t) _ _ (off5_at t) _ r k h) r h (by omega) q).trans (congrArg (Gx m c) (by
      funext a; apply Fin.ext
      match a with
      | ⟨0, _⟩ => rfl
      | ⟨1, _⟩ => show 512 * (t.val % 9 - 4) + q.val = 512 * (if t.val < 9 then 0 else t.val % 9 - 4) + q.val; rw [if_neg (by omega)])), win0_9.fill_cut]
  · iexists ((dats m (ref m) 0 c).before 10 t d10)
    change _ ⊢ owns (c : Thread nD τ) (stage0_10 (cfg0.slots t 10)) fullShare (win0_10.fill (grid0.coords t) ((dats m (ref m) 0 c).before 10 t d10) (win0_10.cut (grid0.coords t) ((dats m (ref m) 0 c).after 10 t)))
    rw [cut_after10, ← show win0_10.cut (grid0.coords t) ((dats m (ref m) 0 c).before 10 t d10) = (win0_10.blk t).view.read (Elt Ideal) (Gd m c) from cut10_of t _ _ fun r q h => carried10 m c t.val t.isLt (by omega) (by omega) d10 r q h, win0_10.fill_cut]

theorem body_obligation (c : Dev nD) :
    BodyObligationLoose (dats (F := Ideal) m (ref m) 0 c) (defs₀ (F := Ideal)) Variants.none () Set.univ := fun t => by
  by_cases h9 : t.val < 9
  · exact body_norm m c t h9
  by_cases h0 : t.val % 9 = 0
  · exact body_first m c t ⟨h9, h0⟩
  by_cases h4 : t.val % 9 < 4
  · exact body_gate m c t ⟨h9, by omega, h4⟩
  by_cases h8 : t.val % 9 = 8
  · exact body_last m c t ⟨h9, h8⟩
  · exact body_conv m c t ⟨h9, by omega, by omega⟩

set_option backward.isDefEq.respectTransparency.types false in
set_option maxHeartbeats 800000 in
theorem run_main : θ_run defs (onTc (τ := τ) (main (F := Ideal))) (s₀ m ρ) (Pipeline.FramePost cfgs (dats m (ref m)) 0 (V m)) :=
  Pipeline.θ_run_frame_track (Q' := _) cfgs (dats m (ref m)) (0 : Fin 1) launch0 defs₀ Variants.none m ρ main
    (hbody := body_obligation m) (hshare := fun c => (dats m (ref m) 0 c).share_full fun _ => rfl)
    (howed := fun _ _ => rfl) (V := V m) (hmain := hmain m Variants.none) (hA := A_eq m (ref m))
    (hin := fun c => inv_in (ref m) c fun _ => fun _ hk => absurd hk (Nat.not_lt_zero _)) (hout := fun c => inv_out (ref m) c _)

/-- The tiles written back cover the result. -/
theorem covered7 (i : S5168x8192.Idx) :
    ∃ t : Fin cfg0.N, (cfg0.win 7).flush t = true ∧ i ∈ ((cfg0.win 7).blk t).view.set := by
  have h0 : (i (0 : Fin 2)).val < 5168 := (i (0 : Fin 2)).isLt
  have h1 : (i (1 : Fin 2)).val < 8192 := (i (1 : Fin 2)).isLt
  obtain ⟨n, hn⟩ : ∃ n, n = if (i (0 : Fin 2)).val / 96 < 53 then (i (0 : Fin 2)).val / 96 else 62 := ⟨_, rfl⟩
  have hN : n < 63 := by split at hn <;> omega
  refine ⟨(⟨n, hN⟩ : Fin cfg0.N), (flush7 _).trans (decide_eq_true (by dsimp only; split at hn <;> omega)), ?_⟩
  generalize ht : (⟨n, hN⟩ : Fin cfg0.N) = t
  have e : t.val = n := by rw [← ht]
  show i ∈ ((View.whole main_v5_0).slice (win0_7.rect t)).set
  rw [View.set_slice_whole, Rect.mem_set_unit]
  intro a
  match a with
  | ⟨0, _⟩ =>
    show win0_7.index t (0 : Fin 2) * 96 ≤ (i (0 : Fin 2)).val ∧ (i (0 : Fin 2)).val < win0_7.index t (0 : Fin 2) * 96 + win0_7.xsize (grid0.coords t) (0 : Fin 2)
    rw [(index7 t).1, (rows7 t).1]; split at hn <;> omega
  | ⟨1, _⟩ =>
    show win0_7.index t (1 : Fin 2) * 8192 ≤ (i (1 : Fin 2)).val ∧ (i (1 : Fin 2)).val < win0_7.index t (1 : Fin 2) * 8192 + win0_7.xsize (grid0.coords t) (1 : Fin 2)
    rw [(index7 t).2, (rows7 t).2]; split at hn <;> omega

/-- The result ends as the reference's. -/
theorem final7 (c : Dev nD) : (dats m (ref m) 0 c).arrAt 7 cfg0.N = Gq m c :=
  (dats m (ref m) 0 c).arrAt_eq_of_cover 7 (Gq m c) (fun t _ => cut_after7 m c t) covered7

/-- The tiles written back cover the result. -/
theorem covered8 (i : S5168x2048.Idx) :
    ∃ t : Fin cfg0.N, (cfg0.win 8).flush t = true ∧ i ∈ ((cfg0.win 8).blk t).view.set := by
  have h0 : (i (0 : Fin 2)).val < 5168 := (i (0 : Fin 2)).isLt
  have h1 : (i (1 : Fin 2)).val < 2048 := (i (1 : Fin 2)).isLt
  obtain ⟨n, hn⟩ : ∃ n, n = 9 * ((i (0 : Fin 2)).val / 864 + 1) + (if (i (1 : Fin 2)).val / 512 < 3 then (i (1 : Fin 2)).val / 512 else 8) := ⟨_, rfl⟩
  have hN : n < 63 := by split at hn <;> omega
  refine ⟨(⟨n, hN⟩ : Fin cfg0.N), (flush8 _).trans (decide_eq_true (by dsimp only; split at hn <;> omega)), ?_⟩
  generalize ht : (⟨n, hN⟩ : Fin cfg0.N) = t
  have e : t.val = n := by rw [← ht]
  have h9 : ¬ t.val < 9 := by split at hn <;> omega
  show i ∈ ((View.whole main_v5_1).slice (win0_8.rect t)).set
  rw [View.set_slice_whole, Rect.mem_set_unit]
  intro a
  match a with
  | ⟨0, _⟩ =>
    show win0_8.index t (0 : Fin 2) * 864 ≤ (i (0 : Fin 2)).val ∧ (i (0 : Fin 2)).val < win0_8.index t (0 : Fin 2) * 864 + win0_8.xsize (grid0.coords t) (0 : Fin 2)
    rw [(index8 t).1, (rows8 t).1]; split at hn <;> omega
  | ⟨1, _⟩ =>
    show win0_8.index t (1 : Fin 2) * 512 ≤ (i (1 : Fin 2)).val ∧ (i (1 : Fin 2)).val < win0_8.index t (1 : Fin 2) * 512 + win0_8.xsize (grid0.coords t) (1 : Fin 2)
    rw [(index8 t).2, (rows8 t).2, if_neg h9]; split at hn <;> omega

/-- The result ends as the reference's. -/
theorem final8 (c : Dev nD) : (dats m (ref m) 0 c).arrAt 8 cfg0.N = Gz m c :=
  (dats m (ref m) 0 c).arrAt_eq_of_cover 8 (Gz m c) (fun t _ => cut_after8 m c t) covered8

/-- The tiles written back cover the result. -/
theorem covered9 (i : S5168x2560.Idx) :
    ∃ t : Fin cfg0.N, (cfg0.win 9).flush t = true ∧ i ∈ ((cfg0.win 9).blk t).view.set := by
  have h0 : (i (0 : Fin 2)).val < 5168 := (i (0 : Fin 2)).isLt
  have h1 : (i (1 : Fin 2)).val < 2560 := (i (1 : Fin 2)).isLt
  obtain ⟨n, hn⟩ : ∃ n, n = 9 * ((i (0 : Fin 2)).val / 864 + 1) + (4 + (i (1 : Fin 2)).val / 512) := ⟨_, rfl⟩
  have hN : n < 63 := by omega
  refine ⟨(⟨n, hN⟩ : Fin cfg0.N), (flush9 _).trans (decide_eq_true (by dsimp only; omega)), ?_⟩
  generalize ht : (⟨n, hN⟩ : Fin cfg0.N) = t
  have e : t.val = n := by rw [← ht]
  have h9 : ¬ t.val < 9 := by omega
  show i ∈ ((View.whole main_v5_2).slice (win0_9.rect t)).set
  rw [View.set_slice_whole, Rect.mem_set_unit]
  intro a
  match a with
  | ⟨0, _⟩ =>
    show win0_9.index t (0 : Fin 2) * 864 ≤ (i (0 : Fin 2)).val ∧ (i (0 : Fin 2)).val < win0_9.index t (0 : Fin 2) * 864 + win0_9.xsize (grid0.coords t) (0 : Fin 2)
    rw [(index9 t).1, (rows9 t).1]; omega
  | ⟨1, _⟩ =>
    show win0_9.index t (1 : Fin 2) * 512 ≤ (i (1 : Fin 2)).val ∧ (i (1 : Fin 2)).val < win0_9.index t (1 : Fin 2) * 512 + win0_9.xsize (grid0.coords t) (1 : Fin 2)
    rw [(index9 t).2, (rows9 t).2, if_neg h9]; omega

/-- The result ends as the reference's. -/
theorem final9 (c : Dev nD) : (dats m (ref m) 0 c).arrAt 9 cfg0.N = Gx m c :=
  (dats m (ref m) 0 c).arrAt_eq_of_cover 9 (Gx m c) (fun t _ => cut_after9 m c t) covered9

/-- The tiles written back cover the result. -/
theorem covered10 (i : S5168x128.Idx) :
    ∃ t : Fin cfg0.N, (cfg0.win 10).flush t = true ∧ i ∈ ((cfg0.win 10).blk t).view.set := by
  have h0 : (i (0 : Fin 2)).val < 5168 := (i (0 : Fin 2)).isLt
  have h1 : (i (1 : Fin 2)).val < 128 := (i (1 : Fin 2)).isLt
  obtain ⟨n, hn⟩ : ∃ n, n = 9 * ((i (0 : Fin 2)).val / 864 + 1) + 8 := ⟨_, rfl⟩
  have hN : n < 63 := by omega
  refine ⟨(⟨n, hN⟩ : Fin cfg0.N), (flush10 _).trans (decide_eq_true (by dsimp only; omega)), ?_⟩
  generalize ht : (⟨n, hN⟩ : Fin cfg0.N) = t
  have e : t.val = n := by rw [← ht]
  show i ∈ ((View.whole main_v5_3).slice (win0_10.rect t)).set
  rw [View.set_slice_whole, Rect.mem_set_unit]
  intro a
  match a with
  | ⟨0, _⟩ =>
    show win0_10.index t (0 : Fin 2) * 864 ≤ (i (0 : Fin 2)).val ∧ (i (0 : Fin 2)).val < win0_10.index t (0 : Fin 2) * 864 + win0_10.xsize (grid0.coords t) (0 : Fin 2)
    rw [(index10 t).1, (rows10 t).1]; omega
  | ⟨1, _⟩ =>
    show win0_10.index t (1 : Fin 2) * 128 ≤ (i (1 : Fin 2)).val ∧ (i (1 : Fin 2)).val < win0_10.index t (1 : Fin 2) * 128 + win0_10.xsize (grid0.coords t) (1 : Fin 2)
    rw [(index10 t).2, (rows10 t).2]; omega

/-- The result ends as the reference's. -/
theorem final10 (c : Dev nD) : (dats m (ref m) 0 c).arrAt 10 cfg0.N = Gd m c :=
  (dats m (ref m) 0 c).arrAt_eq_of_cover 10 (Gd m c) (fun t _ => cut_after10 m c t) covered10

/-- The kernel's run: the results are the reference's, the arguments are unchanged. -/
theorem run : θ_run defs (onTc (τ := τ) (main (F := Ideal))) ⟨m, fun _ => 0, ρ⟩ (fun r => ∀ c : Dev nD,
      r.2.mem ((c.tc : Thread nD τ).loc main_v5_0) = Gq m c
      ∧ r.2.mem ((c.tc : Thread nD τ).loc main_v5_1) = Gz m c
      ∧ r.2.mem ((c.tc : Thread nD τ).loc main_v5_2) = Gx m c
      ∧ r.2.mem ((c.tc : Thread nD τ).loc main_v5_3) = Gd m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 7).trans (final7 m c), ((h.1 c).1 8).trans (final8 m c), ((h.1 c).1 9).trans (final9 m c), ((h.1 c).1 10).trans (final10 m c), h.2 c⟩)
    (θ_run_and (run_main m ρ) (frame_of m ρ (dats m (ref m)) (A_eq m (ref m)) (run_main m ρ)))

/-- `In` over the reals is its reference. -/
theorem algebraic : Cert.algebraic_InIdeal_InRefIdeal := by
  intro m g m' g' _ hm
  refine ⟨fun c => Gq m c, fun c => Gz m c, fun c => Gx m c, fun c => Gd m c, run m g, ?_⟩
  refine (θ_run Cert.InRefIdeal.defs _ _).mono (fun r h c => ⟨(h c).1.trans ?_, (h c).2.1.trans ?_, (h c).2.2.1.trans ?_, (h c).2.2.2.1.trans ?_, (h c).2.2.2.2⟩) (Cert.InRefIdeal.Value.run m' g')
  all_goals
    obtain ⟨e0, e1, e2, e3, e4⟩ := hm c
    rw [e0, e1, e2, e3, e4]

end Cert.InIdeal.Body

end
-- ==== Proof.TailValue.lean ====
/-
  The decode call's tail, bit for bit.  A grid point handles one sequence: it loads the sequence's row of the new
  inputs and its three rows of history, the block of the state array at the sequence's slot, and stores the last three
  of these four rows.  The reference gathers the histories of all sequences at once, appends the rows and drops the
  first of four.  Both round-trip the history through f32, so the results agree as bits.
-/
module

public import proofs.«01_k».proof.Proof.Gen.Dec.Frame
public import proofs.«01_k».proof.Defs
public import proofs.«01_k».proof.Proof.Gen.Pre_slots_in_range
public import Idealize.ShloMosaic.Lib.StableHlo.Predicate
public import proofs.«01_k».proof.Proof.Gen.DecRef.Run
public import Idealize.ShloMosaic.Lib.Pipeline.ValueKit
public import Idealize.ShloMosaic.Lib.Pointwise

@[expose] public section

set_option maxRecDepth 16384

noncomputable section

namespace Cert.Dec.Tail

open Cert.Dec Cert.Dec.Gen
open Idealize.ShloMosaic Idealize.ShloMosaic.TcCoe Idealize.ShloMosaic.Tactic

variable {F : FTy → Type} [BitOps F]

set_option maxHeartbeats 4000000 in
/-- What the body leaves in the tail's block: its one store there, of the loaded row and the loaded history. -/
theorem out_tail (c : Dev nD) (i : grid0.Coords) (arg2 : Memref sig .tc .vmem S8x2560 .f32) (harg2 : arg2.IsWhole) (arg3 : Memref sig .tc .vmem S8x128 .f32) (harg3 : arg3.IsWhole) (arg4 : Memref sig .tc .vmem S1x3x2560 .bf16) (harg4 : arg4.IsWhole) (arg5 : Memref sig .tc .vmem S1x32x64x256 .fp8e4m3) (harg5 : arg5.IsWhole) (arg6 : Memref sig .tc .vmem S1x32x8 .f32) (harg6 : arg6.IsWhole) (arg7 : Memref sig .tc .vmem S4x2560 .f32) (harg7 : arg7.IsWhole) (arg8 : Memref sig .tc .vmem S1x2560 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x2048 .f32) (harg11 : arg11.IsWhole) (arg12 : Memref sig .tc .vmem S1x1x2048 .f32) (harg12 : arg12.IsWhole) (arg13 : Memref sig .tc .vmem S1x3x2560 .bf16) (harg13 : arg13.IsWhole) (arg14 : Memref sig .tc .vmem S1x32x64x256 .fp8e4m3) (harg14 : arg14.IsWhole) (arg15 : Memref sig .tc .vmem S1x32x8 .f32) (harg15 : arg15.IsWhole) (arg16 : Memref sig .tc .vmem S2048x256 .f32) (harg16 : arg16.IsWhole)
    (x0 : Vec F S8x2560 .f32) (x1 : Vec F S8x128 .f32) (x2 : Vec F S1x3x2560 .bf16) (x3 : Vec F S1x32x64x256 .fp8e4m3) (x4 : Vec F S1x32x8 .f32) (x5 : Vec F S4x2560 .f32) (x6 : Vec F S1x2560 .f32) (x7 : Vec F S1x128 .f32) (x8 : Vec F S1x128 .f32) (x9 : Vec F S1x2048 .f32) (xt0 : TbBuf0 (F := F) c tbM0_0) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xt0 = k0_pay5 (fun j => x0 ((Rect.unit (s := S8x2560) (k0_off2 i) S1x2560.size (k0_off2_inb i)).emb j)) x2 := by
  unfold out0_A_11
  rw [View.read_writes_junk_eq_canon]
  unfold kernelRun0_A
  dsimp only
  funext y
  have e (z : S1x3x2560.Idx) : (Rect.unit (s := S1x3x2560) ![0, 0, 0] ![1, 3, 2560] inb_S1x3x2560_S1x3x2560_0_0_0).emb z = z := by
    funext a
    apply Fin.ext
    rw [Rect.emb_apply]
    fin_cases a <;> show 0 + 1 * _ = _ <;> omega
  conv_lhs => rw [← e y]
  rw [View.canon_cons_emb]
  have e0 : View.readAt (Elt F) arg2.view (Rect.unit (k0_off2 i) ![1, 2560] (k0_off2_inb i)).toLoadRect (harg2.unread x0)
      = fun j => x0 ((Rect.unit (s := S8x2560) (k0_off2 i) S1x2560.size (k0_off2_inb i)).emb j) := by
    funext j
    rw [View.readAt_apply, harg2.read_unread]
    rfl
  have e2 : View.readAt (Elt F) arg4.view (Rect.unit ![0, 0, 0] ![1, 3, 2560] inb_S1x3x2560_S1x3x2560_0_0_0).toLoadRect (harg4.unread x2)
      = x2 := by
    funext j
    rw [View.readAt_apply, harg4.read_unread]
    exact congrArg x2 (e j)
  rw [e0, e2]
  rfl

/-- What the body stores in its tail block: rows 1 to 3 of the three history rows and the new row. -/
theorem pay_apply (v11 : Vec F S1x2560 .f32) (v12 : Vec F S1x3x2560 .bf16) (r : Fin 3) (l : Fin 2560) :
    k0_pay5 v11 v12 (ix3 0 r l) = FloatOps.truncf FTy.bf16 bitsLt_bf16_f32
      (if h : 1 + r.val < 3 then FloatOps.extf FTy.f32 bitsLt_bf16_f32 (v12 (ix3 0 ⟨1 + r.val, h⟩ l)) else v11 (ix2 0 l)) := by
  pointwise [k0_pay5, k0_pay3]
  congr 1
  by_cases h : 1 + r.val < 3
  · rw [dif_pos h, dif_pos h]
  · rw [dif_neg h, dif_neg h]
    have e : (⟨1 + r.val - 3, by omega⟩ : Fin 1) = 0 := Subsingleton.elim _ _
    exact congrArg (fun k => v11 (ix2 k l)) e

end Cert.Dec.Tail

namespace Cert.DecRef.Tail

open Cert.DecRef Cert.DecRef.Gen
open Idealize.ShloMosaic Idealize.ShloMosaic.TcCoe Idealize.ShloMosaic.Tactic

variable {F : FTy → Type} [BitOps F]

/-- The reference's result of the slots, the rows and the states. -/
def refTail (a0 : IVec S59 32) (a1 : FVec F S5168x2560 .f32) (a3 : FVec F S76x3x2560 .bf16) : FVec F S48x3x2560 .bf16 :=
  truncf .bf16 (extractStridedSlice S48x3x2560 ![0, 1, 0] (concatenate S48x4x2560 1 [⟨S48x3x2560, (extf .f32 (Host.gather gather_S76x3x2560_S48x1_S48x3x2560_12_0_n_n_0_1_132560 a3 (broadcastInDim S48x1 ![0] bcast_S48_S48x1_0 (select (cmpi .slt (extractStridedSlice S48 ![0] a0 slices_S59_S48_0) (broadcastInDim S48 ![] bcast_S_S48 (constantI S_ 32 0#32))) (addi (extractStridedSlice S48 ![0] a0 slices_S59_S48_0) (broadcastInDim S48 ![] bcast_S_S48 (constantI S_ 32 76#32))) (extractStridedSlice S48 ![0] a0 slices_S59_S48_0)))) bitsLt_bf16_f32)⟩, ⟨S48x1x2560, (broadcastInDim S48x1x2560 ![0, 2] bcast_S48x2560_S48x1x2560_0_2 (extractStridedSlice S48x2560 ![0, 0] a1 slices_S5168x2560_S48x2560_0_0))⟩] concatenates_S48x3x2560_S48x1x2560_S48x4x2560_d1) slices_S48x4x2560_S48x3x2560_0_1_0) bitsLt_bf16_f32

/-- The gather at an index: the state of the sequence's slot, when the slot is a state's number. -/
theorem gather_apply (x : FVec F S76x3x2560 .bf16) (idx : IVec S48x1 32) (b : Fin 48) (r : Fin 3) (l : Fin 2560)
    (h : (idx (ix2 b 0)).toInt.toNat < 76) :
    Host.gather gather_S76x3x2560_S48x1_S48x3x2560_12_0_n_n_0_1_132560 x idx (ix3 b r l) = x (ix3 ⟨(idx (ix2 b 0)).toInt.toNat, h⟩ r l) := by
  show x (gather_S76x3x2560_S48x1_S48x3x2560_12_0_n_n_0_1_132560.operandIdx (ix3 b r l) idx) = _
  congr 1
  funext a
  apply Fin.ext
  show GatherDims.start _ (ix3 b r l) idx a + GatherDims.batchCoord _ (ix3 b r l) a + GatherDims.offCoord _ (ix3 b r l) a = _
  rw [GatherDims.batchCoord_eq_zero _ _ _ (by show a ∉ []; simp)]
  match a with
  | ⟨0, _⟩ =>
    rw [GatherDims.offCoord_eq_zero _ _ _ (by rw [GatherDims.mem_sKept]; rintro ⟨h0, _⟩; exact h0 (by show _ ∈ [_]; simp))]
    unfold GatherDims.start
    rw [dif_pos (by show _ ∈ [_]; simp)]
    have e : GatherDims.siIdx gather_S76x3x2560_S48x1_S48x3x2560_12_0_n_n_0_1_132560 (ix3 b r l) ⟨0, by show 0 < 1; omega⟩ = ix2 b 0 := by
      funext a
      match a with
      | ⟨0, _⟩ => rfl
      | ⟨1, _⟩ => rfl
    show min (idx (GatherDims.siIdx _ (ix3 b r l) ⟨0, _⟩)).toInt.toNat (76 - 1) + 0 + 0 = (idx (ix2 b 0)).toInt.toNat
    rw [e]; omega
  | ⟨1, _⟩ =>
    unfold GatherDims.start
    rw [dif_neg (by show _ ∉ [_]; simp)]
    show 0 + 0 + GatherDims.offCoord _ (ix3 b r l) _ = r.val
    rw [Nat.zero_add]
    rfl
  | ⟨2, _⟩ =>
    unfold GatherDims.start
    rw [dif_neg (by show _ ∉ [_]; simp)]
    show 0 + 0 + GatherDims.offCoord _ (ix3 b r l) _ = l.val
    rw [Nat.zero_add]
    rfl

/-- The reference's result at an index. -/
theorem refTail_apply (a0 : IVec S59 32) (a1 : FVec F S5168x2560 .f32) (a3 : FVec F S76x3x2560 .bf16)
    (b : Fin 48) (r : Fin 3) (l : Fin 2560) (hs : (a0 (ix1 ⟨b.val, by omega⟩)).toNat < 76) :
    refTail a0 a1 a3 (ix3 b r l) = FloatOps.truncf FTy.bf16 bitsLt_bf16_f32
      (if h : 1 + r.val < 3 then FloatOps.extf FTy.f32 bitsLt_bf16_f32 (a3 (ix3 ⟨(a0 (ix1 ⟨b.val, by omega⟩)).toNat, hs⟩ ⟨1 + r.val, h⟩ l))
        else a1 (ix2 ⟨b.val, by omega⟩ l)) := by
  pointwise [refTail]
  congr 1
  by_cases h : 1 + r.val < 3
  · rw [dif_pos h, dif_pos h]
    congr 1
    have e : broadcastInDim S48x1 ![0] bcast_S48_S48x1_0
              (select
                (cmpi CmpIPredicate.slt (extractStridedSlice S48 ![0] a0 slices_S59_S48_0)
                  (broadcastInDim S48 ![] bcast_S_S48 (constantI S_ 32 0#32)))
                (addi (extractStridedSlice S48 ![0] a0 slices_S59_S48_0)
                  (broadcastInDim S48 ![] bcast_S_S48 (constantI S_ 32 76#32)))
                (extractStridedSlice S48 ![0] a0 slices_S59_S48_0)) (ix2 b 0) = a0 (ix1 ⟨b.val, by omega⟩) := by
      pointwise
      generalize a0 (ix1 ⟨b.val, by omega⟩) = w at hs ⊢
      have hn : IntOp.cmpi CmpIPredicate.slt w 0#32 = 0#1 := by
        have := StableHlo.Predicate.slt_iff_toNat (a := w) (b := 0#32) (by omega) (by decide)
        rw [show (0#32).toNat = 0 from rfl] at this
        revert this
        generalize IntOp.cmpi CmpIPredicate.slt w 0#32 = p
        intro this
        have hp : p ≠ 1#1 := fun hp => absurd (this.1 hp) (by omega)
        have d : ∀ q : BitVec 1, q ≠ 1#1 → q = 0#1 := by decide
        exact d p hp
      rw [hn]; rfl
    have e' : (a0 (ix1 ⟨b.val, by omega⟩)).toInt.toNat = (a0 (ix1 ⟨b.val, by omega⟩)).toNat := by
      rw [StableHlo.Predicate.toInt_eq_toNat_of_lt (by omega)]; rfl
    rw [gather_apply _ _ _ _ _ (by rw [e, e']; exact hs)]
    have e3 (k : Nat) (hk : k < 76) (hk' : k = (a0 (ix1 ⟨b.val, by omega⟩)).toNat) :
        a3 (ix3 ⟨k, hk⟩ ⟨1 + r.val, h⟩ l) = a3 (ix3 ⟨(a0 (ix1 ⟨b.val, by omega⟩)).toNat, hs⟩ ⟨1 + r.val, h⟩ l) := by
      rw [show (⟨k, hk⟩ : Fin 76) = ⟨(a0 (ix1 ⟨b.val, by omega⟩)).toNat, hs⟩ from Fin.ext hk']
    exact e3 _ _ (by rw [e]; exact e')
  · rw [dif_neg h, dif_neg h]

end Cert.DecRef.Tail

namespace Cert.Dec.Tail

open Cert.Dec Cert.Dec.Gen
open Idealize.ShloMosaic Idealize.ShloMosaic.TcCoe Idealize.ShloMosaic.Tactic Idealize.SL.Sem

/-- A word at least 0 and below 76, read signed, is below 76. -/
theorem word_lt (w : BitVec 32) (h : IntOp.andi (IntOp.cmpi CmpIPredicate.sge w 0#32) (IntOp.cmpi CmpIPredicate.slt w 76#32) = 1#1) :
    w.toNat < 76 := by
  have andi_one (a b : BitVec 1) : IntOp.andi a b = 1#1 ↔ a = 1#1 ∧ b = 1#1 := by revert a b; decide
  have ofBool_eq_one (p : Bool) : (BitVec.ofBool p = 1#1) ↔ p = true := by cases p <;> decide
  rw [andi_one] at h
  obtain ⟨h0, h1⟩ := h
  simp only [IntOp.cmpi, ofBool_eq_one, BitVec.sle, BitVec.slt, decide_eq_true_eq] at h0 h1
  rw [show (0#32).toInt = 0 from rfl] at h0
  rw [show (76#32).toInt = 76 from rfl] at h1
  have := w.isLt
  rw [BitVec.toInt_eq_toNat_cond] at h0 h1
  split_ifs at h0 h1 <;> omega

section
variable {F : FTy → Type} [BitOps F]
variable (m : (ℓ : Loc nD τ sig) → Buf (Elt F) ℓ) (ρ : Dev nD → PrngReg)

/-- The sequences' slots. -/
abbrev slots : IVec S59 32 := m (((0 : Dev nD).tc : Thread nD τ).loc main_arg0)
/-- The new rows. -/
abbrev rows (c : Dev nD) : FVec F S5168x2560 .f32 := m ((c.tc : Thread nD τ).loc main_arg1)
/-- The states of the convolution. -/
abbrev states (c : Dev nD) : FVec F S76x3x2560 .bf16 := m ((c.tc : Thread nD τ).loc main_arg3)

/-- Every decode sequence's slot is a state's number. -/
def SlotsIn : Prop := ∀ b : Fin 48, (slots m (ix1 ⟨b.val, by omega⟩)).toNat < 76

/-! The maps from a grid point to its blocks: the rows' block of eight, the row in it, and the tail's block. -/

theorem transform0 : ∀ i : grid0.Coords, cc0_transform_0 i 0 = (i 0).val / 8 ∧ cc0_transform_0 i 1 = 0 := by decide +kernel
theorem transform11 : ∀ i : grid0.Coords, cc0_transform_11 i 0 = (i 0).val ∧ cc0_transform_11 i 1 = 0 ∧ cc0_transform_11 i 2 = 0 := by decide +kernel
theorem off2 : ∀ i : grid0.Coords, k0_off2 i 0 = (i 0).val % 8 ∧ k0_off2 i 1 = 0 := by decide +kernel
theorem coords_val : ∀ t : Fin grid0.N, (grid0.coords t 0).val = t.val := by decide +kernel
theorem word_off : ∀ i : grid0.Coords, (Scalar.indexCast (BitVec.ofNat 32 (i 0).val)).toNat = (i 0).val := by decide +kernel

/-- The word that the index maps load. -/
theorem word_eq (i : grid0.Coords) (inb : ∀ a, (![(Scalar.indexCast (BitVec.ofNat 32 (i 0).val)).toNat] : Fin 1 → Nat) a + S1.size a ≤ S59.size a)
    (h1 : (Rect.unit (s := S59) ![(Scalar.indexCast (BitVec.ofNat 32 (i 0).val)).toNat] S1.size inb).shape.numel = 1) :
    (tbl m).at 0 (Rect.unit (s := S59) ![(Scalar.indexCast (BitVec.ofNat 32 (i 0).val)).toNat] S1.size inb) h1
      = slots m (ix1 ⟨(i 0).val, Nat.lt_of_lt_of_le (i 0).isLt (by decide)⟩) := by
  show V m 0 main_arg0 _ = _
  rw [V_main_arg0]
  show slots m _ = _
  congr 1
  funext (a : Fin 1)
  apply Fin.ext
  match a with
  | ⟨0, _⟩ =>
    have e : (Shape.Idx.first (s := (Rect.unit (s := S59) ![(Scalar.indexCast (BitVec.ofNat 32 (i 0).val)).toNat] S1.size inb).shape) (h1.symm ▸ Nat.one_pos) (0 : Fin 1)).val < 1 := Fin.isLt _
    show (Scalar.indexCast (BitVec.ofNat 32 (i 0).val)).toNat + 1 * (Shape.Idx.first (s := (Rect.unit (s := S59) ![(Scalar.indexCast (BitVec.ofNat 32 (i 0).val)).toNat] S1.size inb).shape) (h1.symm ▸ Nat.one_pos) (0 : Fin 1)).val = (i 0).val
    have := word_off i
    omega

/-- The slot of the sequence that the point computes. -/
abbrev slotAt (i : grid0.Coords) : BitVec 32 := slots m (ix1 ⟨(i 0).val, Nat.lt_of_lt_of_le (i 0).isLt (by decide)⟩)

/-! The three state arrays' blocks are at the sequence's slot. -/

theorem transform2 (i : grid0.Coords) (h) (h') : cc0_transform_2 h h' (tbl m) i = ![(slotAt m i).toNat, 0, 0] :=
  congrArg (fun w : BitVec 32 => (![w.toNat, (0#32).toNat, (0#32).toNat] : Fin 3 → Nat)) (word_eq m i _ _)
theorem transform3 (i : grid0.Coords) (h) (h') : cc0_transform_3 h h' (tbl m) i = ![(slotAt m i).toNat, 0, 0, 0] :=
  congrArg (fun w : BitVec 32 => (![w.toNat, (0#32).toNat, (0#32).toNat, (0#32).toNat] : Fin 4 → Nat)) (word_eq m i _ _)
theorem transform4 (i : grid0.Coords) (h) (h') : cc0_transform_4 h h' (tbl m) i = ![(slotAt m i).toNat, 0, 0] :=
  congrArg (fun w : BitVec 32 => (![w.toNat, (0#32).toNat, (0#32).toNat] : Fin 3 → Nat)) (word_eq m i _ _)

/-- The slots name states: the blocks that the tables choose lie inside their arrays. -/
theorem ok_of_slots (h : SlotsIn m) : Ok m := by
  have hs (i : grid0.Coords) : (slotAt m i).toNat < 76 := h (i 0)
  refine ⟨fun i => ⟨fun a => ?_, .inr (.inr ⟨by decide, rfl, ?_, rfl⟩)⟩, fun i => ⟨fun a => ?_, .inr (.inr ⟨by decide, rfl, ?_, rfl⟩)⟩, fun i => ⟨fun a => ?_, .inl rfl⟩⟩
  · rw [transform2]
    have := hs i
    match a with
    | ⟨0, _⟩ => show ((slotAt m i).toNat + 1) * 1 ≤ 76; omega
    | ⟨1, _⟩ => show (0 + 1) * 3 ≤ 3; omega
    | ⟨2, _⟩ => show (0 + 1) * 2560 ≤ 2560; omega
  · show cc0_transform_2 _ _ (tbl m) i 1 * 3 = 0
    rw [transform2]; rfl
  · rw [transform3]
    have := hs i
    match a with
    | ⟨0, _⟩ => show ((slotAt m i).toNat + 1) * 1 ≤ 76; omega
    | ⟨1, _⟩ => show (0 + 1) * 32 ≤ 32; omega
    | ⟨2, _⟩ => show (0 + 1) * 64 ≤ 64; omega
    | ⟨3, _⟩ => show (0 + 1) * 256 ≤ 256; omega
  · show cc0_transform_3 _ _ (tbl m) i 2 * 64 = 0
    rw [transform3]; rfl
  · rw [transform4]
    have := hs i
    match a with
    | ⟨0, _⟩ => show ((slotAt m i).toNat + 1) * 1 ≤ 76; omega
    | ⟨1, _⟩ => show (0 + 1) * 32 ≤ 32; omega
    | ⟨2, _⟩ => show (0 + 1) * 8 ≤ 8; omega

attribute [local irreducible] out0_A_11 k0_pay5

set_option backward.isDefEq.respectTransparency.types false in
/-- What the body leaves in the tail's block. -/
theorem outs_eq (hO : Ok m) (c : Dev nD) (t : Fin (cfgM m hO).N) :
    (outsAt0 m hO c t).2.1 = k0_pay5 (fun j => (iblk m hO c 0 t : Vec F S8x2560 .f32) ((Rect.unit (s := S8x2560) (k0_off2 (grid0.coords t)) S1x2560.size (k0_off2_inb _)).emb j))
      (iblk m hO c 2 t : Vec F S1x3x2560 .bf16) :=
  by
  have e : (outsAt0 m hO c t).2.1 = out0_A_11 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0) := rfl
  exact e.trans (out_tail c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0))

/-- The new row, loaded from its block. -/
theorem row_eq (hO : Ok m) (c : Dev nD) (t : Fin (cfgM m hO).N) (l : Fin 2560) :
    (iblk m hO c 0 t : Vec F S8x2560 .f32) ((Rect.unit (s := S8x2560) (k0_off2 (grid0.coords t)) S1x2560.size (k0_off2_inb _)).emb (ix2 0 l))
      = rows m c (ix2 ⟨t.val, Nat.lt_of_lt_of_le t.isLt (show 48 ≤ 5168 by decide)⟩ l) := by
  show V m c main_arg1 _ = _
  rw [V_main_arg1]
  show rows m c _ = _
  congr 1
  have hc := coords_val t
  have h0 := transform0 (grid0.coords t)
  have h2 := off2 (grid0.coords t)
  funext a
  apply Fin.ext
  match a with
  | ⟨0, _⟩ =>
    show cc0_transform_0 (grid0.coords t) 0 * 8 + 1 * (k0_off2 (grid0.coords t) 0 + 1 * 0) = t.val
    omega
  | ⟨1, _⟩ =>
    show cc0_transform_0 (grid0.coords t) 1 * 2560 + 1 * (k0_off2 (grid0.coords t) 1 + 1 * l.val) = l.val
    omega

/-- The sequence's state, its block. -/
theorem state_eq (hO : Ok m) (h : SlotsIn m) (c : Dev nD) (t : Fin (cfgM m hO).N) (r : Fin 3) (l : Fin 2560) :
    (iblk m hO c 2 t : Vec F S1x3x2560 .bf16) (ix3 0 r l)
      = states m c (ix3 ⟨(slots m (ix1 ⟨t.val, Nat.lt_of_lt_of_le t.isLt (show 48 ≤ 59 by decide)⟩)).toNat, h t⟩ r l) := by
  show V m c main_arg3 _ = _
  rw [V_main_arg3]
  show states m c _ = _
  congr 1
  have hc := coords_val t
  funext a
  apply Fin.ext
  match a with
  | ⟨0, _⟩ =>
    show ((tbl m).at 0 (Rect.unit (s := S59) ![(Scalar.indexCast (BitVec.ofNat 32 (grid0.coords t 0).val)).toNat] S1.size _) _ : BitVec 32).toNat * 1 + 1 * 0 = _
    refine (congrArg (fun w : BitVec 32 => w.toNat * 1 + 1 * 0) (word_eq m (grid0.coords t) _ _)).trans ?_
    show (slots m (ix1 ⟨(grid0.coords t 0).val, _⟩)).toNat * 1 + 1 * 0 = (slots m (ix1 ⟨t.val, _⟩)).toNat
    rw [Nat.mul_one, Nat.mul_zero, Nat.add_zero]
    exact congrArg (fun k : Fin 59 => (slots m (ix1 k)).toNat) (Fin.ext hc)
  | ⟨1, _⟩ =>
    show (0#32).toNat * 3 + 1 * r.val = r.val
    simp
  | ⟨2, _⟩ =>
    show (0#32).toNat * 2560 + 1 * l.val = l.val
    simp

/-- The tail: the reference's result of the call's arguments. -/
abbrev G (c : Dev nD) : Buf (Elt F) ((c.tc : Thread nD τ).loc main_v8_1) :=
  Cert.DecRef.Tail.refTail (slots m) (rows m c) (states m c)

/-- The tiles cover the result. -/
theorem covered (hO : Ok m) (i : S48x3x2560.Idx) :
    ∃ t : Fin (cfgM m hO).N, ((cfgM m hO).win 11).flush t = true ∧ i ∈ (((cfgM m hO).win 11).blk t).view.set := by
  have h0 : (i (0 : Fin 3)).val < 48 := (i (0 : Fin 3)).isLt
  refine ⟨(⟨(i 0).val, h0⟩ : Fin grid0.N), flush0_11 _ _, ?_⟩
  generalize ht : (⟨(i 0).val, h0⟩ : Fin grid0.N) = t
  have e : t.val = (i 0).val := by rw [← ht]
  have hc := coords_val t
  have hi := transform11 (grid0.coords t)
  refine (ValueKit.mem_set_slice_whole_iff main_v8_1 (Rect.unit (s := S48x3x2560) (fun a => cc0_transform_11 (grid0.coords t) a * S1x3x2560.size a) S1x3x2560.size
    (fun a => by rw [← Nat.succ_mul]; exact Facts₀.hinb0_11 (grid0.coords t) a)) i Rect.mem_set_unit).2 ?_
  intro a
  match a with
  | ⟨0, _⟩ =>
    show cc0_transform_11 (grid0.coords t) 0 * 1 ≤ (i 0).val ∧ (i 0).val < cc0_transform_11 (grid0.coords t) 0 * 1 + 1
    omega
  | ⟨1, _⟩ =>
    have := (i 1).isLt
    show cc0_transform_11 (grid0.coords t) 1 * 3 ≤ (i 1).val ∧ (i 1).val < cc0_transform_11 (grid0.coords t) 1 * 3 + 3
    rw [hi.2.1]; exact ⟨by omega, by simpa using this⟩
  | ⟨2, _⟩ =>
    have := (i 2).isLt
    show cc0_transform_11 (grid0.coords t) 2 * 2560 ≤ (i 2).val ∧ (i 2).val < cc0_transform_11 (grid0.coords t) 2 * 2560 + 2560
    rw [hi.2.2]; exact ⟨by omega, by simpa using this⟩

/-- A block's index by its coordinates. -/
theorem exists_ix3 (y : S1x3x2560.Idx) : ∃ (u : Fin 1) (r : Fin 3) (l : Fin 2560), y = ix3 u r l :=
  ⟨y 0, y 1, y 2, funext fun a => by match a with | ⟨0, _⟩ => rfl | ⟨1, _⟩ => rfl | ⟨2, _⟩ => rfl⟩

/-- The place of a block's index in the result. -/
theorem emb11 (hO : Ok m) (t : Fin (cfgM m hO).N) (r : Fin 3) (l : Fin 2560) :
    (((cfgM m hO).win 11).blk t).view.emb (ix3 (0 : Fin 1) r l : S1x3x2560.Idx) = (ix3 (t : Fin 48) r l : S48x3x2560.Idx) := by
  have hc := coords_val t
  have hi := transform11 (grid0.coords t)
  funext a
  apply Fin.ext
  match a with
  | ⟨0, _⟩ =>
    show cc0_transform_11 (grid0.coords t) 0 * 1 + 1 * 0 = t.val
    omega
  | ⟨1, _⟩ =>
    show cc0_transform_11 (grid0.coords t) 1 * 3 + 1 * r.val = r.val
    omega
  | ⟨2, _⟩ =>
    show cc0_transform_11 (grid0.coords t) 2 * 2560 + 1 * l.val = l.val
    omega

set_option backward.isDefEq.respectTransparency.types false in
/-- THE RESULT: the array ends holding the reference's result. -/
theorem final (hO : Ok m) (h : SlotsIn m) (c : Dev nD) : (dats m hO 0 c).arrAt 11 (cfgM m hO).N = G m c :=
  (dats m hO 0 c).arrAt_eq_of_cover 11 (G m c) (fun t _ => by
    funext y
    show (dats m hO 0 c).after 11 t y = G m c ((((cfgM m hO).win 11).blk t).view.emb y)
    rw [after0_11]
    refine (congrFun (outs_eq m hO c t) y).trans ?_
    obtain ⟨u, r, l, rfl⟩ := exists_ix3 y
    obtain rfl : u = 0 := Subsingleton.elim _ _
    rw [emb11 m hO t r l]
    refine (pay_apply _ _ r l).trans ((Cert.DecRef.Tail.refTail_apply (slots m) (rows m c) (states m c) t r l (h t)).trans ?_).symm
    congr 1
    by_cases hr : 1 + r.val < 3
    · rw [dif_pos hr, dif_pos hr, state_eq m hO h c t ⟨1 + r.val, hr⟩ l]
    · rw [dif_neg hr, dif_neg hr, row_eq m hO c t l]) (covered m hO)

/-- The call's run: the tail is the reference's, the arguments are unchanged. -/
theorem run (hO : Ok m) (h : SlotsIn m) : θ_run defs (onTc (τ := τ) (main (F := F))) ⟨m, fun _ => 0, ρ⟩ (fun r => ∀ c : Dev nD,
      r.2.mem ((c.tc : Thread nD τ).loc main_v8_1) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h' c => ⟨((h'.1 c).1 11).trans (final m hO h c), h'.2 c⟩)
    (θ_run_and (run_main m ρ hO) (unchanged m ρ hO))
end

/-- The precondition gives the slots' bound. -/
theorem slotsIn (m : (ℓ : Loc nD τ sig) → Buf (Elt Bits) ℓ) (h : Cert.Pre_Dec m) : SlotsIn m := fun b => by
  have e := congrFun (h 0) (ix1 b)
  pointwise [Cert.Pre_slots_in_range.fn] at e
  exact word_lt _ e

/-- The call runs when the slots name states, whatever its other arguments. -/
theorem frame : Cert.quiescent_Dec := fun m ρ h => Cert.Dec.Gen.frame m ρ (ok_of_slots m (slotsIn m h))

/-- The reference runs. -/
theorem frame_ref : Cert.quiescent_DecRef := fun m ρ _ =>
  (θ_run Cert.DecRef.defs _ _).mono (fun r h => ⟨fun c => (h c).2, sem_eq_zero_of_no_sems rfl _⟩) (Cert.DecRef.Value.run m ρ)

/-- The call's tail is its reference, bit for bit. -/
theorem bitexact : Cert.bitexact_Dec_DecRef := by
  intro m g m' g' hp hm
  have h := slotsIn m hp
  refine ⟨fun c => G m c, run m g (ok_of_slots m h) h, ?_⟩
  refine (θ_run Cert.DecRef.defs _ _).mono (fun r hr c => ⟨(hr c).1.trans ?_, (hr c).2⟩) (Cert.DecRef.Value.run m' g')
  obtain rfl : c = 0 := Subsingleton.elim _ _
  obtain ⟨e0, e1, _, e3, _⟩ := hm 0
  rw [e0, e1, e3]
  rfl

end Cert.Dec.Tail
end
-- ==== Proof.SsmPieces.lean ====
module

public import proofs.«01_k».proof.Proof.Gen.SsmIdeal.Frame
public import proofs.«01_k».proof.Defs
public import Idealize.ShloMosaic.Lib.StableHlo.Predicate
public import Idealize.ShloMosaic.Lib.Pipeline.ValueKit
public import Idealize.ShloMosaic.Lib.Pointwise

/-!
The pieces that one run of the decode call's body leaves in the output's block, over the reals: one slice of 64 lanes for
each of the 32 heads, the head's output (`headY`) of the row after the convolution, the step, the decay and the state's
codes and scales. The body writes the heads one after the other; `pieces` is that list by recursion.
-/

@[expose] public section

set_option maxRecDepth 16384

noncomputable section

namespace Cert.SsmIdeal.Y

open Cert.SsmIdeal Cert.SsmIdeal.Gen
open Idealize.ShloMosaic Idealize.ShloMosaic.TcCoe Idealize.ShloMosaic.Tactic

variable {F : FTy → Type} [FloatOps F]

theorem slices_x (h : Nat) (hh : h < 32) : S1x2560.Slices ![0, 64 * h] S1x64 :=
  ⟨rfl, fun a => by match a with
    | ⟨0, _⟩ => exact Nat.le_refl _
    | ⟨1, _⟩ => show 64 * h + 64 ≤ 2560; omega⟩
theorem slices_c (h : Nat) (hh : h < 32) : S32x1.Slices ![h, 0] S1x1 :=
  ⟨rfl, fun a => by match a with
    | ⟨0, _⟩ => show h + 1 ≤ 32; omega
    | ⟨1, _⟩ => exact Nat.le_refl _⟩
theorem slices_s (h : Nat) (hh : h < 32) : S32x256.Slices ![h, 0] S1x256 :=
  ⟨rfl, fun a => by match a with
    | ⟨0, _⟩ => show h + 1 ≤ 32; omega
    | ⟨1, _⟩ => exact Nat.le_refl _⟩
theorem inb_y (h : Nat) (hh : h < 32) : ∀ a, (![0, 0, 64 * h] : Fin 3 → Nat) a + S1x1x64.size a ≤ S1x1x2048.size a := fun a => by
  match a with
  | ⟨0, _⟩ => exact Nat.le_refl _
  | ⟨1, _⟩ => exact Nat.le_refl _
  | ⟨2, _⟩ => show 64 * h + 64 ≤ 2048; omega
theorem inb_codes (h : Nat) (hh : h < 32) : ∀ a, (![0, h, 0, 0] : Fin 4 → Nat) a + S1x1x64x256.size a ≤ S1x32x64x256.size a := fun a => by
  match a with
  | ⟨0, _⟩ => exact Nat.le_refl _
  | ⟨1, _⟩ => show h + 1 ≤ 32; omega
  | ⟨2, _⟩ => exact Nat.le_refl _
  | ⟨3, _⟩ => exact Nat.le_refl _
theorem inb_dsk (h : Nat) (hh : h < 32) : ∀ a, (![0, 64 * h] : Fin 2 → Nat) a + S1x64.size a ≤ S1x2048.size a := fun a => by
  match a with
  | ⟨0, _⟩ => exact Nat.le_refl _
  | ⟨1, _⟩ => show 64 * h + 64 ≤ 2048; omega

/-- What the body stores for head `h` in the block of outputs. -/
def headY (h : Nat) (hh : h < 32) (xc : FVec F S1x2560 .f32) (dt da : FVec F S32x1 .f32) (bv cv : FVec F S1x256 .f32)
    (sc : FVec F S32x256 .f32) (codes : Vec F S1x1x64x256 .fp8e4m3) (dsk : Vec F S1x64 .f32) : FVec F S1x1x64 .f32 :=
  let xh : FVec F S1x64 .f32 := extractStridedSlice S1x64 ![0, 64 * h] xc (slices_x h hh)
  let dx : FVec F S64x1 .f32 := shapeCast S64x1 (multiReduction .add [1] S64 (select
      (cmpi .eq (iota .tc S64x64 32 [0] iota_S64x64_d0_w32) (iota .tc S64x64 32 [1] iota_S64x64_d1_w32))
      (broadcastTo S64x64 (shapeCast S1x64 (mulf xh (broadcastTo S1x64 (extractStridedSlice S1x1 ![h, 0] dt (slices_c h hh)) broadcasts_S1x1_S1x64)) shapeCasts_S1x64_S1x64) broadcasts_S1x64_S64x64)
      (broadcast S64x64 (Scalar.ofBits .f32 0x00000000#32))) 0x00000000#32 reduces_S64x64_S64 (.inl rfl) rfl) shapeCasts_S64_S64x1
  let hn : FVec F S64x256 .f32 := addf
      (mulf (broadcastTo S64x256 (extractStridedSlice S1x1 ![h, 0] da (slices_c h hh)) broadcasts_S1x1_S64x256)
        (mulf (extf .f32 (shapeCast S64x256 codes shapeCasts_S1x1x64x256_S64x256) bitsLt_fp8e4m3_f32)
          (broadcastTo S64x256 (extractStridedSlice S1x256 ![h, 0] sc (slices_s h hh)) broadcasts_S1x256_S64x256)))
      (mulf (broadcastTo S64x256 dx broadcasts_S64x1_S64x256) (broadcastTo S64x256 bv broadcasts_S1x256_S64x256))
  shapeCast S1x1x64 (addf
    (shapeCast S1x64 (multiReduction .add [0] S64 (select
      (cmpi .eq (iota .tc S64x64 32 [0] iota_S64x64_d0_w32) (iota .tc S64x64 32 [1] iota_S64x64_d1_w32))
      (broadcastTo S64x64 (shapeCast S64x1 (shapeCast S64x1 (multiReduction .add [1] S64 (mulf hn (broadcastTo S64x256 cv broadcasts_S1x256_S64x256))
        0x00000000#32 reduces_S64x256_S64 (.inl rfl) rfl) shapeCasts_S64_S64x1) shapeCasts_S64x1_S64x1) broadcasts_S64x1_S64x64)
      (broadcast S64x64 (Scalar.ofBits .f32 0x00000000#32))) 0x00000000#32 reduces_S64x64_S64_2 (.inl rfl) rfl) shapeCasts_S64_S1x64)
    (mulf (shapeCast S1x64 dsk shapeCasts_S1x64_S1x64) xh)) shapeCasts_S1x64_S1x1x64

/-- The stores of the heads below `n`, the last one first. -/
def pieces (xc : FVec F S1x2560 .f32) (dt da : FVec F S32x1 .f32) (sc : FVec F S32x256 .f32)
    (codes : ∀ h, h < 32 → Vec F S1x1x64x256 .fp8e4m3) (dsk : ∀ h, h < 32 → Vec F S1x64 .f32) :
    (n : Nat) → n ≤ 32 → List (View.Piece (Elt F) S1x1x2048 .f32)
  | 0, _ => []
  | n + 1, h => ⟨Rect.unit (s := S1x1x2048) ![0, 0, 64 * n] S1x1x64.size (inb_y n h),
      headY n h xc dt da (k0_pay11 xc) (k0_pay12 xc) sc (codes n h) (dsk n h)⟩ :: pieces xc dt da sc codes dsk n (Nat.le_of_succ_le h)

set_option maxHeartbeats 4000000 in
/-- The body's pieces in the output's block are `pieces` of its loads. -/
theorem pieces_eq  (c : Dev nD) (i : grid0.Coords) (arg2 : Memref sig .tc .vmem S8x2560 .f32) (harg2 : arg2.IsWhole) (arg3 : Memref sig .tc .vmem S8x128 .f32) (harg3 : arg3.IsWhole) (arg4 : Memref sig .tc .vmem S1x3x2560 .bf16) (harg4 : arg4.IsWhole) (arg5 : Memref sig .tc .vmem S1x32x64x256 .fp8e4m3) (harg5 : arg5.IsWhole) (arg6 : Memref sig .tc .vmem S1x32x8 .f32) (harg6 : arg6.IsWhole) (arg7 : Memref sig .tc .vmem S4x2560 .f32) (harg7 : arg7.IsWhole) (arg8 : Memref sig .tc .vmem S1x2560 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x2048 .f32) (harg11 : arg11.IsWhole) (arg12 : Memref sig .tc .vmem S1x1x2048 .f32) (harg12 : arg12.IsWhole) (arg13 : Memref sig .tc .vmem S1x3x2560 .bf16) (harg13 : arg13.IsWhole) (arg14 : Memref sig .tc .vmem S1x32x64x256 .fp8e4m3) (harg14 : arg14.IsWhole) (arg15 : Memref sig .tc .vmem S1x32x8 .f32) (harg15 : arg15.IsWhole) (arg16 : Memref sig .tc .vmem S2048x256 .f32) (harg16 : arg16.IsWhole)
    (x0 : Vec F S8x2560 .f32) (x1 : Vec F S8x128 .f32) (x2 : Vec F S1x3x2560 .bf16) (x3 : Vec F S1x32x64x256 .fp8e4m3) (x4 : Vec F S1x32x8 .f32) (x5 : Vec F S4x2560 .f32) (x6 : Vec F S1x2560 .f32) (x7 : Vec F S1x128 .f32) (x8 : Vec F S1x128 .f32) (x9 : Vec F S1x2048 .f32) (xt0 : TbBuf0 (F := F) c tbM0_0) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xt0).1 = pieces
      (k0_pay4 (View.readAt (Elt F) arg2.view (Rect.unit (k0_off2 i) ![1, 2560] (k0_off2_inb i)).toLoadRect (harg2.unread x0))
        (View.readAt (Elt F) arg4.view (Rect.unit ![0, 0, 0] ![1, 3, 2560] inb_S1x3x2560_S1x3x2560_0_0_0).toLoadRect (harg4.unread x2))
        (View.readAt (Elt F) arg8.view (Rect.unit ![0, 0] ![1, 2560] inb_S1x2560_S1x2560_0_0).toLoadRect (harg8.unread x6))
        (View.readAt (Elt F) arg7.view (Rect.unit ![0, 0] ![4, 2560] inb_S4x2560_S4x2560_0_0).toLoadRect (harg7.unread x5)))
      (k0_pay9 (k0_pay6 (View.readAt (Elt F) arg3.view (Rect.unit (k0_off3 i) ![1, 128] (k0_off3_inb i)).toLoadRect (harg3.unread x1))
        (View.readAt (Elt F) arg9.view (Rect.unit ![0, 0] ![1, 128] inb_S1x128_S1x128_0_0).toLoadRect (harg9.unread x7))) k0_pay7)
      (k0_pay10 (k0_pay6 (View.readAt (Elt F) arg3.view (Rect.unit (k0_off3 i) ![1, 128] (k0_off3_inb i)).toLoadRect (harg3.unread x1))
        (View.readAt (Elt F) arg9.view (Rect.unit ![0, 0] ![1, 128] inb_S1x128_S1x128_0_0).toLoadRect (harg9.unread x7))) k0_pay7
        (View.readAt (Elt F) arg10.view (Rect.unit ![0, 0] ![1, 128] inb_S1x128_S1x128_0_0).toLoadRect (harg10.unread x8)))
      (k0_pay17 (k0_pay13 (View.readAt (Elt F) arg6.view (Rect.unit ![0, 0, 0] ![1, 32, 8] inb_S1x32x8_S1x32x8_0_0_0).toLoadRect (harg6.unread x4)))
        (iota .tc S8x256 32 [1] iota_S8x256_d1_w32) 32#32 k0_pay14 k0_pay15 k0_pay16)
      (fun h hh => View.readAt (Elt F) arg5.view (Rect.unit (s := S1x32x64x256) ![0, h, 0, 0] S1x1x64x256.size (inb_codes h hh)).toLoadRect (harg5.unread x3))
      (fun h hh => View.readAt (Elt F) arg11.view (Rect.unit (s := S1x2048) ![0, 64 * h] S1x64.size (inb_dsk h hh)).toLoadRect (harg11.unread x9))
      32 (Nat.le_refl _) := by
  rfl

end Cert.SsmIdeal.Y
end
-- ==== Proof.SsmHead.lean ====
module

public import proofs.«01_k».proof.Proof.Gen.SsmIdeal.Frame
public import proofs.«01_k».proof.Defs
public import proofs.«01_k».proof.Proof.SsmPieces
public import Idealize.ShloMosaic.Lib.StableHlo.Predicate
public import Idealize.ShloMosaic.Lib.Pipeline.ValueKit
public import Idealize.ShloMosaic.Lib.Pointwise

/-!
The values of a decode step at an index: the activated convolution (`convE`), the step and the decay, the state's scale
spread over its block of 32 columns, and from these the output of a head (`outE`).
-/

@[expose] public section

set_option maxRecDepth 16384

noncomputable section

namespace Cert.SsmIdeal.Y

open Cert.SsmIdeal Cert.SsmIdeal.Gen
open Idealize.ShloMosaic Idealize.ShloMosaic.TcCoe Idealize.ShloMosaic.Tactic

/-! ## Sums over a diagonal -/

/-- Two words below `2 ^ 32` compare as their numbers. -/
theorem cmpi_eq_ofNat {a b : Nat} (ha : a < 2 ^ 32) (hb : b < 2 ^ 32) :
    IntOp.cmpi CmpIPredicate.eq (BitVec.ofNat 32 a) (BitVec.ofNat 32 b) = if a = b then 1#1 else 0#1 := by
  by_cases e : a = b
  · subst e; rw [if_pos rfl]; simp [IntOp.cmpi]
  · rw [if_neg e]
    have hne : BitVec.ofNat 32 a ≠ BitVec.ofNat 32 b := fun q => e (by
      have := congrArg BitVec.toNat q
      rwa [BitVec.toNat_ofNat, BitVec.toNat_ofNat, Nat.mod_eq_of_lt ha, Nat.mod_eq_of_lt hb] at this)
    show BitVec.ofBool (BitVec.ofNat 32 a == BitVec.ofNat 32 b) = 0#1
    rw [beq_eq_false_iff_ne.mpr hne]; rfl

/-- A sum of `f` where the index is `p` and of zero elsewhere is `f p`. -/
theorem sum_diag {n : Nat} (hn : n ≤ 2 ^ 32) (f : Fin n → EReal) (p : Fin n) :
    (∑ x : Fin n, Scalar.select (IntOp.cmpi CmpIPredicate.eq (BitVec.ofNat 32 x.val) (BitVec.ofNat 32 p.val)) (f x) 0) = f p := by
  rw [Finset.sum_eq_single p]
  · rw [cmpi_eq_ofNat (by omega) (by omega), if_pos rfl]; rfl
  · intro x _ hx
    rw [cmpi_eq_ofNat (by omega) (by omega), if_neg (fun e => hx (Fin.ext e))]; rfl
  · intro h; exact absurd (Finset.mem_univ p) h

/-- The same with the comparison the other way round. -/
theorem sum_diag' {n : Nat} (hn : n ≤ 2 ^ 32) (f : Fin n → EReal) (p : Fin n) :
    (∑ x : Fin n, Scalar.select (IntOp.cmpi CmpIPredicate.eq (BitVec.ofNat 32 p.val) (BitVec.ofNat 32 x.val)) (f x) 0) = f p := by
  rw [← sum_diag hn f p]
  refine Finset.sum_congr rfl fun x _ => ?_
  rw [cmpi_eq_ofNat (by omega) (by omega), cmpi_eq_ofNat (by omega) (by omega)]
  congr 1
  by_cases e : p.val = x.val
  · rw [if_pos e, if_pos e.symm]
  · rw [if_neg e, if_neg (fun q => e q.symm)]

/-! ## The values of the recurrence, element by element -/

/-- `log (1 + e ^ v)`, computed without overflow. -/
def softplus (v : EReal) : EReal := max v 0 + Ideal.log1p (Ideal.exp (-FloatOps.absf (F := Ideal) (φ := .f32) v))

/-- `v` times the logistic function of `v`. -/
def silu (v : EReal) : EReal := v * Ideal.logistic v

/-- The convolution's channel: bias, the three rows of history and the new row under the four weights. -/
def convE (bias : EReal) (hist : Fin 3 → EReal) (x : EReal) (w : Fin 4 → EReal) : EReal :=
  silu (bias + ((∑ r : Fin 3, hist r * w ⟨r.val, by omega⟩) + x * w 3))

/-- One element of the output: over the 256 state columns the new state times `C`, plus the skip. -/
def outE (da dt x dsk : EReal) (state bv cv : Fin 256 → EReal) : EReal :=
  (∑ n : Fin 256, (da * state n + (x * dt) * bv n) * cv n) + dsk * x

theorem conv_apply (v11 : Vec Ideal S1x2560 .f32) (v12 : Vec Ideal S1x3x2560 .bf16) (v16 : Vec Ideal S1x2560 .f32)
    (v18 : Vec Ideal S4x2560 .f32) (l : Fin 2560) :
    k0_pay4 v11 v12 v16 v18 (ix2 0 l)
      = convE (v16 (ix2 0 l)) (fun r => v12 (ix3 0 r l)) (v11 (ix2 0 l)) (fun r => v18 (ix2 r l)) := by
  pointwise [k0_pay4, k0_pay3]
  unfold convE silu
  simp only [Fin.sum_univ_one]

theorem dt_apply (v : FVec Ideal S1x128 .f32) (h : Fin 32) :
    k0_pay9 v k0_pay7 (ix2 h 0) = softplus (v (ix2 0 ⟨h.val, by omega⟩)) := by
  pointwise [k0_pay9, k0_pay7, k0_pay8]
  refine (sum_diag' (by norm_num) (fun x : Fin 128 => (max (v (ix2 0 x)) 0
    + Ideal.log1p (Ideal.exp (0 - FloatOps.absf (F := Ideal) (φ := .f32) (v (ix2 0 x)))))) ⟨h.val, by omega⟩).trans ?_
  unfold softplus
  simp only [zero_sub]

theorem da_apply (v43 : Vec Ideal S1x128 .f32) (v : FVec Ideal S1x128 .f32) (h : Fin 32) :
    k0_pay10 v k0_pay7 v43 (ix2 h 0)
      = Ideal.exp (softplus (v (ix2 0 ⟨h.val, by omega⟩)) * -Ideal.exp (v43 (ix2 0 ⟨h.val, by omega⟩))) := by
  pointwise [k0_pay10, k0_pay7, k0_pay8]
  refine (sum_diag' (by norm_num) (fun x : Fin 128 => Ideal.exp ((max (v (ix2 0 x)) 0
    + Ideal.log1p (Ideal.exp (0 - FloatOps.absf (F := Ideal) (φ := .f32) (v (ix2 0 x))))) * (0 - Ideal.exp (v43 (ix2 0 x)))))
    ⟨h.val, by omega⟩).trans ?_
  unfold softplus
  simp only [zero_sub]

set_option maxRecDepth 100000 in
/-- The quotient of a column by 32, as the body computes it: the rounded quotient less one where signs differ. -/
theorem block_word : ∀ n : Fin 256,
    (Scalar.select
      (IntOp.andi
        (IntOp.cmpi CmpIPredicate.ne
          (IntOp.subi (BitVec.setWidth 32 (IntOp.cmpi CmpIPredicate.sgt (BitVec.ofNat 32 n.val) 0#32))
            (BitVec.setWidth 32 (IntOp.cmpi CmpIPredicate.slt (BitVec.ofNat 32 n.val) 0#32)))
          (Scalar.subi (Scalar.extui (Scalar.cmpi CmpIPredicate.sgt 32#32 0#32))
            (Scalar.extui (Scalar.cmpi CmpIPredicate.slt 32#32 0#32))))
        (IntOp.cmpi CmpIPredicate.ne (IntOp.remsi ArithUnit.vector (BitVec.ofNat 32 n.val) 32#32) 0#32))
      (IntOp.subi (IntOp.divsi ArithUnit.vector (BitVec.ofNat 32 n.val) 32#32) 1#32)
      (IntOp.divsi ArithUnit.vector (BitVec.ofNat 32 n.val) 32#32)) = BitVec.ofNat 32 (n.val / 32) := by
  decide

/-- Every state column's scale: the scale of its block of 32. -/
theorem scale_apply (v : Vec Ideal S1x32x8 .f32) (h : Fin 32) (n : Fin 256) :
    k0_pay17 (k0_pay13 v) (iota .tc S8x256 32 [1] iota_S8x256_d1_w32) 32#32 k0_pay14 k0_pay15 k0_pay16 (ix2 h n)
      = v (ix3 0 h ⟨n.val / 32, by omega⟩) := by
  pointwise [k0_pay13, k0_pay14, k0_pay15, k0_pay16, k0_pay17]
  rw [block_word n]
  rw [Finset.sum_eq_single (⟨n.val / 32, by omega⟩ : Fin 8)]
  · rw [cmpi_eq_ofNat (by omega) (by omega), if_pos rfl]
    have e : FloatOps.sitofp (F := Ideal) FTy.f32 (BitVec.setWidth 32 1#1) = (1 : EReal) := by
      show (((BitVec.setWidth 32 1#1).toInt : ℝ) : EReal) = 1
      simp
    rw [e, mul_one]
  · intro x _ hx
    rw [cmpi_eq_ofNat (by omega) (by omega), if_neg (fun e => hx (Fin.ext e.symm))]
    have e : FloatOps.sitofp (F := Ideal) FTy.f32 (BitVec.setWidth 32 0#1) = (0 : EReal) := by
      show (((BitVec.setWidth 32 0#1).toInt : ℝ) : EReal) = 0
      simp
    rw [e, mul_zero]
  · intro h; exact absurd (Finset.mem_univ _) h

theorem head_apply (h : Nat) (hh : h < 32) (xc : FVec Ideal S1x2560 .f32) (dt da : FVec Ideal S32x1 .f32) (bv cv : FVec Ideal S1x256 .f32)
    (sc : FVec Ideal S32x256 .f32) (codes : Vec Ideal S1x1x64x256 .fp8e4m3) (dsk : Vec Ideal S1x64 .f32) (p : Fin 64) :
    headY h hh xc dt da bv cv sc codes dsk (ix3 0 0 p)
      = outE (da (ix2 ⟨h, hh⟩ 0)) (dt (ix2 ⟨h, hh⟩ 0)) (xc (ix2 0 ⟨64 * h + p.val, by omega⟩)) (dsk (ix2 0 p))
          (fun n => codes (ix4 0 0 p n) * sc (ix2 ⟨h, hh⟩ n)) (fun n => bv (ix2 0 n)) (fun n => cv (ix2 0 n)) := by
  unfold outE
  pointwise [headY]
  rw [sum_diag (by norm_num)
    (fun x : Fin 64 => ∑ x_1 : Fin 256, (da (ix2 ⟨h, hh⟩ 0) * (codes (ix4 0 0 x x_1) * sc (ix2 ⟨h, hh⟩ x_1)) +
                (∑ x_2 : Fin 64,
                    Scalar.select (IntOp.cmpi CmpIPredicate.eq (BitVec.ofNat 32 x.val) (BitVec.ofNat 32 x_2.val))
                      (xc (ix2 0 ⟨64 * h + x_2.val, by omega⟩) * dt (ix2 ⟨h, hh⟩ 0)) 0) *
                  bv (ix2 0 x_1)) *
              cv (ix2 0 x_1)) p,
    sum_diag' (by norm_num) (fun x_2 : Fin 64 => xc (ix2 0 ⟨64 * h + x_2.val, by omega⟩) * dt (ix2 ⟨h, hh⟩ 0)) p]

end Cert.SsmIdeal.Y
end
-- ==== Proof.SsmOut.lean ====
module

public import proofs.«01_k».proof.Proof.SsmHead

/-!
What the body leaves in a block of outputs, element by element (`out_apply`), and the parameter arrays that the call's
first lines prepare: the bias as a row, the two head parameters padded to 128 lanes, the skip repeated over the heads.
-/

@[expose] public section

set_option maxRecDepth 16384

noncomputable section

namespace Cert.SsmIdeal.Y

open Cert.SsmIdeal Cert.SsmIdeal.Gen
open Idealize.ShloMosaic Idealize.ShloMosaic.TcCoe Idealize.ShloMosaic.Tactic

/-! ## The block of outputs -/

section
variable {F : FTy → Type} [FloatOps F]

/-- The place of a head's element in the block. -/
theorem emb_head (h : Nat) (hh : h < 32) (p : Fin 64) :
    (Rect.unit (s := S1x1x2048) ![0, 0, 64 * h] S1x1x64.size (inb_y h hh)).emb (ix3 (0 : Fin 1) (0 : Fin 1) p : S1x1x64.Idx)
      = (ix3 (0 : Fin 1) (0 : Fin 1) ⟨64 * h + p.val, by omega⟩ : S1x1x2048.Idx) := by
  funext a
  apply Fin.ext
  match a with
  | ⟨0, _⟩ => rfl
  | ⟨1, _⟩ => rfl
  | ⟨2, _⟩ => show 64 * h + 1 * p.val = 64 * h + p.val; omega

/-- The stores of the heads, read at a head's element: that head's store. -/
theorem canon_pieces (xc : FVec F S1x2560 .f32) (dt da : FVec F S32x1 .f32) (sc : FVec F S32x256 .f32)
    (codes : ∀ h, h < 32 → Vec F S1x1x64x256 .fp8e4m3) (dsk : ∀ h, h < 32 → Vec F S1x64 .f32) (h : Nat) (hh : h < 32) (p : Fin 64) :
    ∀ (n : Nat) (hn : n ≤ 32), h < n → View.canon (pieces xc dt da sc codes dsk n hn) (ix3 (0 : Fin 1) (0 : Fin 1) ⟨64 * h + p.val, by omega⟩ : S1x1x2048.Idx)
      = headY h hh xc dt da (k0_pay11 xc) (k0_pay12 xc) sc (codes h hh) (dsk h hh) (ix3 0 0 p)
  | 0, _, hlt => absurd hlt (Nat.not_lt_zero _)
  | n + 1, hn, hlt => by
    unfold pieces
    by_cases e : h = n
    · subst e
      rw [← emb_head h hh p, View.canon_cons_emb]
    · rw [View.canon_cons_of_not_mem]
      · exact canon_pieces xc dt da sc codes dsk h hh p n (Nat.le_of_succ_le hn) (by omega)
      · intro hm
        have h2 : 64 * n ≤ 64 * h + p.val := (((Rect.mem_set_unit (inb := inb_y n hn)).1 hm) 2).1
        omega
end

/-! A whole load of a block is the block. -/

theorem emb_zero {s : Shape} (off : Fin s.rank → Nat) (h : off = fun _ => 0) (inb : ∀ i, off i + s.size i ≤ s.size i) (z : s.Idx) :
    (Rect.unit (s := s) off s.size inb).emb z = z := by
  subst h
  funext a
  apply Fin.ext
  rw [Rect.emb_apply]
  show 0 + 1 * (z a).val = (z a).val
  omega

theorem zeros2 : (![0, 0] : Fin 2 → Nat) = fun _ => 0 := funext fun a => by fin_cases a <;> rfl
theorem zeros3 : (![0, 0, 0] : Fin 3 → Nat) = fun _ => 0 := funext fun a => by fin_cases a <;> rfl

theorem emb_codes (h : Nat) (hh : h < 32) (p : Fin 64) (n : Fin 256) :
    (Rect.unit (s := S1x32x64x256) ![0, h, 0, 0] S1x1x64x256.size (inb_codes h hh)).emb (ix4 (0 : Fin 1) (0 : Fin 1) p n : S1x1x64x256.Idx)
      = (ix4 (0 : Fin 1) ⟨h, hh⟩ p n : S1x32x64x256.Idx) := by
  funext x
  apply Fin.ext
  match x with
  | ⟨0, _⟩ => rfl
  | ⟨1, _⟩ => rfl
  | ⟨2, _⟩ => show 0 + 1 * p.val = p.val; omega
  | ⟨3, _⟩ => show 0 + 1 * n.val = n.val; omega

theorem emb_dsk (h : Nat) (hh : h < 32) (p : Fin 64) :
    (Rect.unit (s := S1x2048) ![0, 64 * h] S1x64.size (inb_dsk h hh)).emb (ix2 (0 : Fin 1) p : S1x64.Idx)
      = (ix2 (0 : Fin 1) ⟨64 * h + p.val, by omega⟩ : S1x2048.Idx) := by
  funext x
  apply Fin.ext
  match x with
  | ⟨0, _⟩ => rfl
  | ⟨1, _⟩ => show 64 * h + 1 * p.val = 64 * h + p.val; omega

/-- The activated convolution, of the blocks. -/
def xcB (i : grid0.Coords) (x0 : Vec Ideal S8x2560 .f32) (x2 : Vec Ideal S1x3x2560 .bf16) (x5 : Vec Ideal S4x2560 .f32) (x6 : Vec Ideal S1x2560 .f32) (l : Fin 2560) : EReal :=
  convE (x6 (ix2 0 l)) (fun r => x2 (ix3 0 r l)) (x0 ((Rect.unit (s := S8x2560) (k0_off2 i) S1x2560.size (k0_off2_inb i)).emb (ix2 0 l : S1x2560.Idx))) (fun r => x5 (ix2 r l))

/-- The step, of the blocks. -/
def dtB (i : grid0.Coords) (x1 : Vec Ideal S8x128 .f32) (x7 : Vec Ideal S1x128 .f32) (h : Fin 32) : EReal :=
  softplus (x1 ((Rect.unit (s := S8x128) (k0_off3 i) S1x128.size (k0_off3_inb i)).emb (ix2 0 ⟨h.val, by omega⟩ : S1x128.Idx)) + x7 (ix2 0 ⟨h.val, by omega⟩))

theorem pay6_apply (v w : Vec Ideal S1x128 .f32) (l : Fin 128) : k0_pay6 v w (ix2 0 l) = v (ix2 0 l) + w (ix2 0 l) := by
  pointwise [k0_pay6]
theorem pay11_apply (xc : FVec Ideal S1x2560 .f32) (n : Fin 256) : k0_pay11 xc (ix2 0 n) = xc (ix2 0 ⟨2048 + n.val, by omega⟩) := by
  pointwise [k0_pay11]
theorem pay12_apply (xc : FVec Ideal S1x2560 .f32) (n : Fin 256) : k0_pay12 xc (ix2 0 n) = xc (ix2 0 ⟨2304 + n.val, by omega⟩) := by
  pointwise [k0_pay12]

/-- The stores of the heads, of the blocks. -/
def blockPieces (i : grid0.Coords) (x0 : Vec Ideal S8x2560 .f32) (x1 : Vec Ideal S8x128 .f32) (x2 : Vec Ideal S1x3x2560 .bf16) (x3 : Vec Ideal S1x32x64x256 .fp8e4m3)
    (x4 : Vec Ideal S1x32x8 .f32) (x5 : Vec Ideal S4x2560 .f32) (x6 : Vec Ideal S1x2560 .f32) (x7 x8 : Vec Ideal S1x128 .f32) (x9 : Vec Ideal S1x2048 .f32) :
    List (View.Piece (Elt Ideal) S1x1x2048 .f32) :=
  pieces (k0_pay4 (fun j => x0 ((Rect.unit (s := S8x2560) (k0_off2 i) S1x2560.size (k0_off2_inb i)).emb j)) x2 x6 x5)
    (k0_pay9 (k0_pay6 (fun j => x1 ((Rect.unit (s := S8x128) (k0_off3 i) S1x128.size (k0_off3_inb i)).emb j)) x7) k0_pay7)
    (k0_pay10 (k0_pay6 (fun j => x1 ((Rect.unit (s := S8x128) (k0_off3 i) S1x128.size (k0_off3_inb i)).emb j)) x7) k0_pay7 x8)
    (k0_pay17 (k0_pay13 x4) (iota .tc S8x256 32 [1] iota_S8x256_d1_w32) 32#32 k0_pay14 k0_pay15 k0_pay16)
    (fun h hh j => x3 ((Rect.unit (s := S1x32x64x256) ![0, h, 0, 0] S1x1x64x256.size (inb_codes h hh)).emb j))
    (fun h hh j => x9 ((Rect.unit (s := S1x2048) ![0, 64 * h] S1x64.size (inb_dsk h hh)).emb j))
    32 (Nat.le_refl _)

set_option maxHeartbeats 4000000 in
/-- What the body leaves in the block of outputs: the heads' stores. -/
theorem out_pieces   (c : Dev nD) (i : grid0.Coords) (arg2 : Memref sig .tc .vmem S8x2560 .f32) (harg2 : arg2.IsWhole) (arg3 : Memref sig .tc .vmem S8x128 .f32) (harg3 : arg3.IsWhole) (arg4 : Memref sig .tc .vmem S1x3x2560 .bf16) (harg4 : arg4.IsWhole) (arg5 : Memref sig .tc .vmem S1x32x64x256 .fp8e4m3) (harg5 : arg5.IsWhole) (arg6 : Memref sig .tc .vmem S1x32x8 .f32) (harg6 : arg6.IsWhole) (arg7 : Memref sig .tc .vmem S4x2560 .f32) (harg7 : arg7.IsWhole) (arg8 : Memref sig .tc .vmem S1x2560 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x2048 .f32) (harg11 : arg11.IsWhole) (arg12 : Memref sig .tc .vmem S1x1x2048 .f32) (harg12 : arg12.IsWhole) (arg13 : Memref sig .tc .vmem S1x3x2560 .bf16) (harg13 : arg13.IsWhole) (arg14 : Memref sig .tc .vmem S1x32x64x256 .fp8e4m3) (harg14 : arg14.IsWhole) (arg15 : Memref sig .tc .vmem S1x32x8 .f32) (harg15 : arg15.IsWhole) (arg16 : Memref sig .tc .vmem S2048x256 .f32) (harg16 : arg16.IsWhole)
    (x0 : Vec Ideal S8x2560 .f32) (x1 : Vec Ideal S8x128 .f32) (x2 : Vec Ideal S1x3x2560 .bf16) (x3 : Vec Ideal S1x32x64x256 .fp8e4m3) (x4 : Vec Ideal S1x32x8 .f32) (x5 : Vec Ideal S4x2560 .f32) (x6 : Vec Ideal S1x2560 .f32) (x7 : Vec Ideal S1x128 .f32) (x8 : Vec Ideal S1x128 .f32) (x9 : Vec Ideal S1x2048 .f32) (xt0 : TbBuf0 (F := Ideal) c tbM0_0) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xt0 = View.canon (blockPieces i x0 x1 x2 x3 x4 x5 x6 x7 x8 x9) := by
  unfold out0_A_10
  rw [View.read_writes_junk_eq_canon]
  refine (congrArg View.canon (pieces_eq  c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xt0)).trans ?_
  have e2 : View.readAt (Elt Ideal) arg4.view (Rect.unit ![0, 0, 0] ![1, 3, 2560] inb_S1x3x2560_S1x3x2560_0_0_0).toLoadRect (harg4.unread x2) = x2 := by
    funext j; rw [View.readAt_apply, harg4.read_unread]; exact congrArg x2 (emb_zero (s := S1x3x2560) _ zeros3 _ j)
  have e0 : View.readAt (Elt Ideal) arg2.view (Rect.unit (k0_off2 i) ![1, 2560] (k0_off2_inb i)).toLoadRect (harg2.unread x0)
      = fun j => x0 ((Rect.unit (s := S8x2560) (k0_off2 i) S1x2560.size (k0_off2_inb i)).emb j) := by
    funext j; rw [View.readAt_apply, harg2.read_unread]; rfl
  have e1 : View.readAt (Elt Ideal) arg3.view (Rect.unit (k0_off3 i) ![1, 128] (k0_off3_inb i)).toLoadRect (harg3.unread x1)
      = fun j => x1 ((Rect.unit (s := S8x128) (k0_off3 i) S1x128.size (k0_off3_inb i)).emb j) := by
    funext j; rw [View.readAt_apply, harg3.read_unread]; rfl
  have e6 : View.readAt (Elt Ideal) arg8.view (Rect.unit ![0, 0] ![1, 2560] inb_S1x2560_S1x2560_0_0).toLoadRect (harg8.unread x6) = x6 := by
    funext j; rw [View.readAt_apply, harg8.read_unread]; exact congrArg x6 (emb_zero (s := S1x2560) _ zeros2 _ j)
  have e5 : View.readAt (Elt Ideal) arg7.view (Rect.unit ![0, 0] ![4, 2560] inb_S4x2560_S4x2560_0_0).toLoadRect (harg7.unread x5) = x5 := by
    funext j; rw [View.readAt_apply, harg7.read_unread]; exact congrArg x5 (emb_zero (s := S4x2560) _ zeros2 _ j)
  have e7 : View.readAt (Elt Ideal) arg9.view (Rect.unit ![0, 0] ![1, 128] inb_S1x128_S1x128_0_0).toLoadRect (harg9.unread x7) = x7 := by
    funext j; rw [View.readAt_apply, harg9.read_unread]; exact congrArg x7 (emb_zero (s := S1x128) _ zeros2 _ j)
  have e8 : View.readAt (Elt Ideal) arg10.view (Rect.unit ![0, 0] ![1, 128] inb_S1x128_S1x128_0_0).toLoadRect (harg10.unread x8) = x8 := by
    funext j; rw [View.readAt_apply, harg10.read_unread]; exact congrArg x8 (emb_zero (s := S1x128) _ zeros2 _ j)
  have e4 : View.readAt (Elt Ideal) arg6.view (Rect.unit ![0, 0, 0] ![1, 32, 8] inb_S1x32x8_S1x32x8_0_0_0).toLoadRect (harg6.unread x4) = x4 := by
    funext j; rw [View.readAt_apply, harg6.read_unread]; exact congrArg x4 (emb_zero (s := S1x32x8) _ zeros3 _ j)
  have e3 : (fun h hh => View.readAt (Elt Ideal) arg5.view (Rect.unit (s := S1x32x64x256) ![0, h, 0, 0] S1x1x64x256.size (inb_codes h hh)).toLoadRect (harg5.unread x3))
      = fun h hh j => x3 ((Rect.unit (s := S1x32x64x256) ![0, h, 0, 0] S1x1x64x256.size (inb_codes h hh)).emb j) := by
    funext h hh j; rw [View.readAt_apply, harg5.read_unread]; rfl
  have e9 : (fun h hh => View.readAt (Elt Ideal) arg11.view (Rect.unit (s := S1x2048) ![0, 64 * h] S1x64.size (inb_dsk h hh)).toLoadRect (harg11.unread x9))
      = fun h hh j => x9 ((Rect.unit (s := S1x2048) ![0, 64 * h] S1x64.size (inb_dsk h hh)).emb j) := by
    funext h hh j; rw [View.readAt_apply, harg11.read_unread]; rfl
  rw [e0, e1, e2, e3, e4, e5, e6, e7, e8, e9]
  rfl

/-- They hold, at a head's element, that output. -/
theorem block_apply (i : grid0.Coords) (x0 : Vec Ideal S8x2560 .f32) (x1 : Vec Ideal S8x128 .f32) (x2 : Vec Ideal S1x3x2560 .bf16) (x3 : Vec Ideal S1x32x64x256 .fp8e4m3)
    (x4 : Vec Ideal S1x32x8 .f32) (x5 : Vec Ideal S4x2560 .f32) (x6 : Vec Ideal S1x2560 .f32) (x7 x8 : Vec Ideal S1x128 .f32) (x9 : Vec Ideal S1x2048 .f32) (h : Fin 32) (p : Fin 64) :
    View.canon (blockPieces i x0 x1 x2 x3 x4 x5 x6 x7 x8 x9) (ix3 (0 : Fin 1) (0 : Fin 1) ⟨64 * h.val + p.val, by omega⟩ : S1x1x2048.Idx)
      = outE (Ideal.exp (dtB i x1 x7 h * -Ideal.exp (x8 (ix2 0 ⟨h.val, by omega⟩)))) (dtB i x1 x7 h) (xcB i x0 x2 x5 x6 ⟨64 * h.val + p.val, by omega⟩)
          (x9 (ix2 0 ⟨64 * h.val + p.val, by omega⟩)) (fun n => x3 (ix4 0 h p n) * x4 (ix3 0 h ⟨n.val / 32, by omega⟩))
          (fun n => xcB i x0 x2 x5 x6 ⟨2048 + n.val, by omega⟩) (fun n => xcB i x0 x2 x5 x6 ⟨2304 + n.val, by omega⟩) := by
  unfold blockPieces
  rw [canon_pieces _ _ _ _ _ _ h.val h.isLt p 32 (Nat.le_refl _) h.isLt, head_apply]
  have e3 (n : Fin 256) := congrArg x3 (emb_codes h.val h.isLt p n)
  have e9 := congrArg x9 (emb_dsk h.val h.isLt p)
  simp only [pay11_apply, pay12_apply, conv_apply, dt_apply, da_apply, pay6_apply, e3, e9]
  unfold dtB xcB
  congr 1
  funext n
  exact congrArg (x3 (ix4 0 h p n) * ·) (scale_apply x4 h n)

section
variable (m : (ℓ : Loc nD τ sig) → Buf (Elt Ideal) ℓ)

/-- The bias of the convolution, prepared as one row. -/
theorem bias_apply (c : Dev nD) (l : Fin 2560) : (V m c main_v7 : Vec Ideal S1x2560 .f32) (ix2 0 l) = (m ((c.tc : Thread nD τ).loc main_arg7) : Vec Ideal S2560 .f32) (ix1 l) := by
  have e : V m c main_v7 = fun j => shapeCast S1x2560 (m ((c.tc : Thread nD τ).loc main_arg7) : Vec Ideal S2560 .f32) shapeCasts_S2560_S1x2560 j := by
    show StableHlo.after (List.flatten [hostOps0, hostOps0_1, hostOps0_2, hostOps0_3, hostOps0_4]) (fun b => m (c, b)) (Proc.devRef .tc main_v7) = _
    simp only [hostOps0, hostOps0_1, hostOps0_2, hostOps0_3, hostOps0_4, List.flatten_cons, List.flatten_nil, List.append_nil, List.cons_append, List.nil_append]
    after_results
    rfl
  rw [e]
  pointwise []

/-- The bias of the step, padded with 96 lanes and prepared as one row. -/
theorem dtb_apply (c : Dev nD) (l : Fin 32) : (V m c main_v1 : Vec Ideal S1x128 .f32) (ix2 0 ⟨l.val, by omega⟩) = (m ((c.tc : Thread nD τ).loc main_arg8) : Vec Ideal S32 .f32) (ix1 l) := by
  have e : ∃ z, V m c main_v1 = fun j => shapeCast S1x128 (pad S128 ![0] ![96] ![0] (m ((c.tc : Thread nD τ).loc main_arg8) : Vec Ideal S32 .f32) z pads_S32_S128_0960 h_S_) shapeCasts_S128_S1x128 j := by
    refine ⟨(sitofp .f32 (constantI S_ 32 0#32) : FVec Ideal S_ .f32), ?_⟩
    show StableHlo.after (List.flatten [hostOps0, hostOps0_1, hostOps0_2, hostOps0_3, hostOps0_4]) (fun b => m (c, b)) (Proc.devRef .tc main_v1) = _
    simp only [hostOps0, hostOps0_1, hostOps0_2, hostOps0_3, hostOps0_4, List.flatten_cons, List.flatten_nil, List.append_nil, List.cons_append, List.nil_append]
    after_results
    rfl
  obtain ⟨z, e⟩ := e
  rw [e]
  pointwise []
  rw [dif_pos (fun a => by match a with | ⟨0, _⟩ => exact l.isLt)]

/-- The logarithm of the decay, padded and prepared alike. -/
theorem alog_apply (c : Dev nD) (l : Fin 32) : (V m c main_v3 : Vec Ideal S1x128 .f32) (ix2 0 ⟨l.val, by omega⟩) = (m ((c.tc : Thread nD τ).loc main_arg9) : Vec Ideal S32 .f32) (ix1 l) := by
  have e : ∃ z, V m c main_v3 = fun j => shapeCast S1x128 (pad S128 ![0] ![96] ![0] (m ((c.tc : Thread nD τ).loc main_arg9) : Vec Ideal S32 .f32) z pads_S32_S128_0960 h_S_) shapeCasts_S128_S1x128 j := by
    refine ⟨(sitofp .f32 (constantI S_ 32 0#32) : FVec Ideal S_ .f32), ?_⟩
    show StableHlo.after (List.flatten [hostOps0, hostOps0_1, hostOps0_2, hostOps0_3, hostOps0_4]) (fun b => m (c, b)) (Proc.devRef .tc main_v3) = _
    simp only [hostOps0, hostOps0_1, hostOps0_2, hostOps0_3, hostOps0_4, List.flatten_cons, List.flatten_nil, List.append_nil, List.cons_append, List.nil_append]
    after_results
    rfl
  obtain ⟨z, e⟩ := e
  rw [e]
  pointwise []
  rw [dif_pos (fun a => by match a with | ⟨0, _⟩ => exact l.isLt)]

/-- The skip factors, each repeated over its head's 64 places and prepared as one row. -/
theorem dsk_apply (c : Dev nD) (h : Fin 32) (p : Fin 64) : (V m c main_v6 : Vec Ideal S1x2048 .f32) (ix2 0 ⟨64 * h.val + p.val, by omega⟩) = (m ((c.tc : Thread nD τ).loc main_arg10) : Vec Ideal S32 .f32) (ix1 h) := by
  have e : V m c main_v6 = fun j => shapeCast S1x2048 (shapeCast S2048 (broadcastInDim S32x64 ![0] bcast_S32_S32x64_0 (m ((c.tc : Thread nD τ).loc main_arg10) : Vec Ideal S32 .f32)) shapeCasts_S32x64_S2048) shapeCasts_S2048_S1x2048 j := by
    show StableHlo.after (List.flatten [hostOps0, hostOps0_1, hostOps0_2, hostOps0_3, hostOps0_4]) (fun b => m (c, b)) (Proc.devRef .tc main_v6) = _
    simp only [hostOps0, hostOps0_1, hostOps0_2, hostOps0_3, hostOps0_4, List.flatten_cons, List.flatten_nil, List.append_nil, List.cons_append, List.nil_append]
    after_results
    rfl
  rw [e]
  pointwise []

end

end Cert.SsmIdeal.Y
end
-- ==== Proof.SsmScales.lean ====
module

public import proofs.«01_k».proof.Proof.SsmOut

/-!
The scales that one run of the decode call's body leaves, over the reals. The body keeps every head's new state in 64 rows
of a scratch array (`statePieces`), reads them back, takes the greatest magnitude of each block of 64 by 32 elements
(`blockMax`) and stores the scale of it (`scaleE`).
-/

@[expose] public section

set_option maxRecDepth 16384

noncomputable section

namespace Cert.SsmIdeal.Y

open Cert.SsmIdeal Cert.SsmIdeal.Gen
open Idealize.ShloMosaic Idealize.ShloMosaic.TcCoe Idealize.ShloMosaic.Tactic

section
variable {F : FTy → Type} [FloatOps F]

theorem inb_rows (h : Nat) (hh : h < 32) : ∀ a, (![64 * h, 0] : Fin 2 → Nat) a + S64x256.size a ≤ S2048x256.size a := fun a => by
  match a with
  | ⟨0, _⟩ => show 64 * h + 64 ≤ 2048; omega
  | ⟨1, _⟩ => exact Nat.le_refl _

/-- The new state of head `h`, that the body stores in the scratch array. -/
def headState (h : Nat) (hh : h < 32) (xc : FVec F S1x2560 .f32) (dt da : FVec F S32x1 .f32) (bv : FVec F S1x256 .f32)
    (sc : FVec F S32x256 .f32) (codes : Vec F S1x1x64x256 .fp8e4m3) : FVec F S64x256 .f32 :=
  let xh : FVec F S1x64 .f32 := extractStridedSlice S1x64 ![0, 64 * h] xc (slices_x h hh)
  let dx : FVec F S64x1 .f32 := shapeCast S64x1 (multiReduction .add [1] S64 (select
      (cmpi .eq (iota .tc S64x64 32 [0] iota_S64x64_d0_w32) (iota .tc S64x64 32 [1] iota_S64x64_d1_w32))
      (broadcastTo S64x64 (shapeCast S1x64 (mulf xh (broadcastTo S1x64 (extractStridedSlice S1x1 ![h, 0] dt (slices_c h hh)) broadcasts_S1x1_S1x64)) shapeCasts_S1x64_S1x64) broadcasts_S1x64_S64x64)
      (broadcast S64x64 (Scalar.ofBits .f32 0x00000000#32))) 0x00000000#32 reduces_S64x64_S64 (.inl rfl) rfl) shapeCasts_S64_S64x1
  shapeCast S64x256 (addf
    (mulf (broadcastTo S64x256 (extractStridedSlice S1x1 ![h, 0] da (slices_c h hh)) broadcasts_S1x1_S64x256)
      (mulf (extf .f32 (shapeCast S64x256 codes shapeCasts_S1x1x64x256_S64x256) bitsLt_fp8e4m3_f32)
        (broadcastTo S64x256 (extractStridedSlice S1x256 ![h, 0] sc (slices_s h hh)) broadcasts_S1x256_S64x256)))
    (mulf (broadcastTo S64x256 dx broadcasts_S64x1_S64x256) (broadcastTo S64x256 bv broadcasts_S1x256_S64x256))) shapeCasts_S64x256_S64x256

/-- The stores of the heads' states below `n`, the last one first. -/
def statePieces (xc : FVec F S1x2560 .f32) (dt da : FVec F S32x1 .f32) (sc : FVec F S32x256 .f32)
    (codes : ∀ h, h < 32 → Vec F S1x1x64x256 .fp8e4m3) : (n : Nat) → n ≤ 32 → List (View.Piece (Elt F) S2048x256 .f32)
  | 0, _ => []
  | n + 1, h => ⟨Rect.unit (s := S2048x256) ![64 * n, 0] S64x256.size (inb_rows n h),
      headState n h xc dt da (k0_pay11 xc) sc (codes n h)⟩ :: statePieces xc dt da sc codes n (Nat.le_of_succ_le h)

/-- The greatest magnitude of every column of a head's state. -/
def rowMax (v : Vec F S64x256 .f32) : FVec F S1x256 .f32 :=
  shapeCast S1x256 (multiReduction .maximumf [0] S256 (absf v) 0xFF800000#32 reduces_S64x256_S256 (.inl rfl) rfl) shapeCasts_S256_S1x256

/-- The greatest magnitude of every block of 32 columns, block by head. -/
def blockMax (f : ∀ h, h < 32 → Vec F S64x256 .f32) : FVec F S8x32 .f32 :=
  multiReduction .maximumf [1] S8x32 (shapeCast S8x32x32 (transpose S256x32 [1, 0]
    (concatenate S32x256 0 (List.ofFn fun k : Fin 32 => (⟨S1x256, rowMax (f k.val k.isLt)⟩ : (s : Shape) × (s.Idx → F .f32)))
      concatenates_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S32x256_d0)
    transposes_S32x256_p1_0_S256x32) shapeCasts_S256x32_S8x32x32) 0xFF800000#32 reduces_S8x32x32_S8x32 (.inl rfl) rfl

/-- The body's maxima are `blockMax`. -/
theorem blockMax_eq (f : ∀ h, h < 32 → Vec F S64x256 .f32) :
    k0_pay218 (rowMax (f 0 (by decide))) (rowMax (f 1 (by decide))) (rowMax (f 2 (by decide))) (rowMax (f 3 (by decide))) (rowMax (f 4 (by decide))) (rowMax (f 5 (by decide))) (rowMax (f 6 (by decide))) (rowMax (f 7 (by decide))) (rowMax (f 8 (by decide))) (rowMax (f 9 (by decide))) (rowMax (f 10 (by decide))) (rowMax (f 11 (by decide))) (rowMax (f 12 (by decide))) (rowMax (f 13 (by decide))) (rowMax (f 14 (by decide))) (rowMax (f 15 (by decide))) (rowMax (f 16 (by decide))) (rowMax (f 17 (by decide))) (rowMax (f 18 (by decide))) (rowMax (f 19 (by decide))) (rowMax (f 20 (by decide))) (rowMax (f 21 (by decide))) (rowMax (f 22 (by decide))) (rowMax (f 23 (by decide))) (f 24 (by decide)) (f 25 (by decide)) (f 26 (by decide)) (f 27 (by decide)) (f 28 (by decide)) (f 29 (by decide)) (f 30 (by decide)) (f 31 (by decide)) = blockMax f := by
  rfl

set_option maxHeartbeats 4000000 in
/-- The body's pieces in the scratch array are `statePieces` of its loads. -/
theorem statePieces_eq (c : Dev nD) (i : grid0.Coords) (arg2 : Memref sig .tc .vmem S8x2560 .f32) (harg2 : arg2.IsWhole) (arg3 : Memref sig .tc .vmem S8x128 .f32) (harg3 : arg3.IsWhole) (arg4 : Memref sig .tc .vmem S1x3x2560 .bf16) (harg4 : arg4.IsWhole) (arg5 : Memref sig .tc .vmem S1x32x64x256 .fp8e4m3) (harg5 : arg5.IsWhole) (arg6 : Memref sig .tc .vmem S1x32x8 .f32) (harg6 : arg6.IsWhole) (arg7 : Memref sig .tc .vmem S4x2560 .f32) (harg7 : arg7.IsWhole) (arg8 : Memref sig .tc .vmem S1x2560 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x2048 .f32) (harg11 : arg11.IsWhole) (arg12 : Memref sig .tc .vmem S1x1x2048 .f32) (harg12 : arg12.IsWhole) (arg13 : Memref sig .tc .vmem S1x3x2560 .bf16) (harg13 : arg13.IsWhole) (arg14 : Memref sig .tc .vmem S1x32x64x256 .fp8e4m3) (harg14 : arg14.IsWhole) (arg15 : Memref sig .tc .vmem S1x32x8 .f32) (harg15 : arg15.IsWhole) (arg16 : Memref sig .tc .vmem S2048x256 .f32) (harg16 : arg16.IsWhole)
    (x0 : Vec F S8x2560 .f32) (x1 : Vec F S8x128 .f32) (x2 : Vec F S1x3x2560 .bf16) (x3 : Vec F S1x32x64x256 .fp8e4m3) (x4 : Vec F S1x32x8 .f32) (x5 : Vec F S4x2560 .f32) (x6 : Vec F S1x2560 .f32) (x7 : Vec F S1x128 .f32) (x8 : Vec F S1x128 .f32) (x9 : Vec F S1x2048 .f32) (xt0 : TbBuf0 (F := F) c tbM0_0) :
    kernelRun0_A.sl.HS0_32 c i arg2 harg2 arg3 harg3 arg4 harg4 arg5 harg5 arg6 harg6 arg7 harg7 arg8 harg8 arg9 harg9 arg10 harg10 x0 x1 x2 x3 x4 x5 x6 x7 x8 = statePieces
      (k0_pay4 (View.readAt (Elt F) arg2.view (Rect.unit (k0_off2 i) ![1, 2560] (k0_off2_inb i)).toLoadRect (harg2.unread x0))
        (View.readAt (Elt F) arg4.view (Rect.unit ![0, 0, 0] ![1, 3, 2560] inb_S1x3x2560_S1x3x2560_0_0_0).toLoadRect (harg4.unread x2))
        (View.readAt (Elt F) arg8.view (Rect.unit ![0, 0] ![1, 2560] inb_S1x2560_S1x2560_0_0).toLoadRect (harg8.unread x6))
        (View.readAt (Elt F) arg7.view (Rect.unit ![0, 0] ![4, 2560] inb_S4x2560_S4x2560_0_0).toLoadRect (harg7.unread x5)))
      (k0_pay9 (k0_pay6 (View.readAt (Elt F) arg3.view (Rect.unit (k0_off3 i) ![1, 128] (k0_off3_inb i)).toLoadRect (harg3.unread x1))
        (View.readAt (Elt F) arg9.view (Rect.unit ![0, 0] ![1, 128] inb_S1x128_S1x128_0_0).toLoadRect (harg9.unread x7))) k0_pay7)
      (k0_pay10 (k0_pay6 (View.readAt (Elt F) arg3.view (Rect.unit (k0_off3 i) ![1, 128] (k0_off3_inb i)).toLoadRect (harg3.unread x1))
        (View.readAt (Elt F) arg9.view (Rect.unit ![0, 0] ![1, 128] inb_S1x128_S1x128_0_0).toLoadRect (harg9.unread x7))) k0_pay7
        (View.readAt (Elt F) arg10.view (Rect.unit ![0, 0] ![1, 128] inb_S1x128_S1x128_0_0).toLoadRect (harg10.unread x8)))
      (k0_pay17 (k0_pay13 (View.readAt (Elt F) arg6.view (Rect.unit ![0, 0, 0] ![1, 32, 8] inb_S1x32x8_S1x32x8_0_0_0).toLoadRect (harg6.unread x4)))
        (iota .tc S8x256 32 [1] iota_S8x256_d1_w32) 32#32 k0_pay14 k0_pay15 k0_pay16)
      (fun h hh => View.readAt (Elt F) arg5.view (Rect.unit (s := S1x32x64x256) ![0, h, 0, 0] S1x1x64x256.size (inb_codes h hh)).toLoadRect (harg5.unread x3))
      32 (Nat.le_refl _) := by
  rfl

set_option maxHeartbeats 4000000 in
/-- The body's piece in the block of scales, from the states it reads back. -/
theorem scale_pieces (c : Dev nD) (i : grid0.Coords) (arg2 : Memref sig .tc .vmem S8x2560 .f32) (harg2 : arg2.IsWhole) (arg3 : Memref sig .tc .vmem S8x128 .f32) (harg3 : arg3.IsWhole) (arg4 : Memref sig .tc .vmem S1x3x2560 .bf16) (harg4 : arg4.IsWhole) (arg5 : Memref sig .tc .vmem S1x32x64x256 .fp8e4m3) (harg5 : arg5.IsWhole) (arg6 : Memref sig .tc .vmem S1x32x8 .f32) (harg6 : arg6.IsWhole) (arg7 : Memref sig .tc .vmem S4x2560 .f32) (harg7 : arg7.IsWhole) (arg8 : Memref sig .tc .vmem S1x2560 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x2048 .f32) (harg11 : arg11.IsWhole) (arg12 : Memref sig .tc .vmem S1x1x2048 .f32) (harg12 : arg12.IsWhole) (arg13 : Memref sig .tc .vmem S1x3x2560 .bf16) (harg13 : arg13.IsWhole) (arg14 : Memref sig .tc .vmem S1x32x64x256 .fp8e4m3) (harg14 : arg14.IsWhole) (arg15 : Memref sig .tc .vmem S1x32x8 .f32) (harg15 : arg15.IsWhole) (arg16 : Memref sig .tc .vmem S2048x256 .f32) (harg16 : arg16.IsWhole)
    (x0 : Vec F S8x2560 .f32) (x1 : Vec F S8x128 .f32) (x2 : Vec F S1x3x2560 .bf16) (x3 : Vec F S1x32x64x256 .fp8e4m3) (x4 : Vec F S1x32x8 .f32) (x5 : Vec F S4x2560 .f32) (x6 : Vec F S1x2560 .f32) (x7 : Vec F S1x128 .f32) (x8 : Vec F S1x128 .f32) (x9 : Vec F S1x2048 .f32) (xt0 : TbBuf0 (F := F) c tbM0_0) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xt0).2.2.2.1 = [⟨Rect.unit (s := S1x32x8) ![0, 0, 0] S1x32x8.size inb_S1x32x8_S1x32x8_0_0_0, k0_pay222 (blockMax fun h hh =>
      arg16.view.readCov (statePieces
      (k0_pay4 (View.readAt (Elt F) arg2.view (Rect.unit (k0_off2 i) ![1, 2560] (k0_off2_inb i)).toLoadRect (harg2.unread x0))
        (View.readAt (Elt F) arg4.view (Rect.unit ![0, 0, 0] ![1, 3, 2560] inb_S1x3x2560_S1x3x2560_0_0_0).toLoadRect (harg4.unread x2))
        (View.readAt (Elt F) arg8.view (Rect.unit ![0, 0] ![1, 2560] inb_S1x2560_S1x2560_0_0).toLoadRect (harg8.unread x6))
        (View.readAt (Elt F) arg7.view (Rect.unit ![0, 0] ![4, 2560] inb_S4x2560_S4x2560_0_0).toLoadRect (harg7.unread x5)))
      (k0_pay9 (k0_pay6 (View.readAt (Elt F) arg3.view (Rect.unit (k0_off3 i) ![1, 128] (k0_off3_inb i)).toLoadRect (harg3.unread x1))
        (View.readAt (Elt F) arg9.view (Rect.unit ![0, 0] ![1, 128] inb_S1x128_S1x128_0_0).toLoadRect (harg9.unread x7))) k0_pay7)
      (k0_pay10 (k0_pay6 (View.readAt (Elt F) arg3.view (Rect.unit (k0_off3 i) ![1, 128] (k0_off3_inb i)).toLoadRect (harg3.unread x1))
        (View.readAt (Elt F) arg9.view (Rect.unit ![0, 0] ![1, 128] inb_S1x128_S1x128_0_0).toLoadRect (harg9.unread x7))) k0_pay7
        (View.readAt (Elt F) arg10.view (Rect.unit ![0, 0] ![1, 128] inb_S1x128_S1x128_0_0).toLoadRect (harg10.unread x8)))
      (k0_pay17 (k0_pay13 (View.readAt (Elt F) arg6.view (Rect.unit ![0, 0, 0] ![1, 32, 8] inb_S1x32x8_S1x32x8_0_0_0).toLoadRect (harg6.unread x4)))
        (iota .tc S8x256 32 [1] iota_S8x256_d1_w32) 32#32 k0_pay14 k0_pay15 k0_pay16)
      (fun h hh => View.readAt (Elt F) arg5.view (Rect.unit (s := S1x32x64x256) ![0, h, 0, 0] S1x1x64x256.size (inb_codes h hh)).toLoadRect (harg5.unread x3))
      32 (Nat.le_refl _)) (Rect.unit (s := S2048x256) ![64 * h, 0] S64x256.size (inb_rows h hh)).toLoadRect)⟩] := by
  rw [← statePieces_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xt0, ← blockMax_eq]
  rfl

end

/-! ## At an index -/

/-- The greatest of finitely many, from negative infinity. -/
def maxE {n : Nat} (f : Fin n → EReal) : EReal :=
  Finset.univ.fold (FloatOps.maximumf (F := Ideal) (φ := .f32)) (FloatOps.ofBits (F := Ideal) .f32 0xFF800000#32) f

/-- The exponent of the least power of two above `v`; zero for zero. -/
def expE (v : EReal) : EReal :=
  if v = 0 then 0 else Ideal.liftRound Int.floor (Ideal.div (Ideal.log v) (Ideal.log (Ideal.ofBits .f32 0x40000000#32))) + 1

/-- The scale of a block whose greatest magnitude is `a`. -/
def scaleE (a : EReal) : EReal :=
  Ideal.exp (expE (a * Ideal.ofBits .f32 0x3B124925#32) * Ideal.log (Ideal.ofBits .f32 0x40000000#32))

/-- One element of a new state. -/
def stateE (da dt x state b : EReal) : EReal := da * state + (x * dt) * b

theorem headState_apply (h : Nat) (hh : h < 32) (xc : FVec Ideal S1x2560 .f32) (dt da : FVec Ideal S32x1 .f32) (bv : FVec Ideal S1x256 .f32)
    (sc : FVec Ideal S32x256 .f32) (codes : Vec Ideal S1x1x64x256 .fp8e4m3) (p : Fin 64) (n : Fin 256) :
    headState h hh xc dt da bv sc codes (ix2 p n)
      = stateE (da (ix2 ⟨h, hh⟩ 0)) (dt (ix2 ⟨h, hh⟩ 0)) (xc (ix2 0 ⟨64 * h + p.val, by omega⟩)) (codes (ix4 0 0 p n) * sc (ix2 ⟨h, hh⟩ n)) (bv (ix2 0 n)) := by
  unfold stateE
  pointwise [headState]
  rw [sum_diag' (by norm_num) (fun x_2 : Fin 64 => xc (ix2 0 ⟨64 * h + x_2.val, by omega⟩) * dt (ix2 ⟨h, hh⟩ 0)) p]

theorem rowMax_apply (v : Vec Ideal S64x256 .f32) (n : Fin 256) :
    rowMax v (ix2 0 n) = maxE fun p : Fin 64 => FloatOps.absf (F := Ideal) (φ := .f32) (v (ix2 p n)) := by
  pointwise [rowMax]
  rfl

theorem blockMax_apply (f : ∀ h, h < 32 → Vec Ideal S64x256 .f32) (g : Fin 8) (h : Fin 32) :
    blockMax f (ix2 g h) = maxE fun j : Fin 32 => maxE fun p : Fin 64 =>
      FloatOps.absf (F := Ideal) (φ := .f32) (f h.val h.isLt (ix2 p ⟨g.val * 32 + j.val, by omega⟩)) := by
  simp only [← rowMax_apply]
  pointwise [blockMax]
  rfl

theorem pay222_apply (v : FVec Ideal S8x32 .f32) (h : Fin 32) (g : Fin 8) : k0_pay222 v (ix3 0 h g) = scaleE (v (ix2 g h)) := by
  unfold scaleE expE
  pointwise [k0_pay222, k0_pay220, k0_pay219]

theorem emb_rows (h : Nat) (hh : h < 32) (p : Fin 64) (n : Fin 256) :
    (Rect.unit (s := S2048x256) ![64 * h, 0] S64x256.size (inb_rows h hh)).emb (ix2 p n : S64x256.Idx)
      = (ix2 ⟨64 * h + p.val, by omega⟩ n : S2048x256.Idx) := by
  funext a
  apply Fin.ext
  match a with
  | ⟨0, _⟩ => show 64 * h + 1 * p.val = 64 * h + p.val; omega
  | ⟨1, _⟩ => show 0 + 1 * n.val = n.val; omega

/-- The stores of the states, read at a head's element: that head's store. -/
theorem canon_states (xc : FVec Ideal S1x2560 .f32) (dt da : FVec Ideal S32x1 .f32) (sc : FVec Ideal S32x256 .f32)
    (codes : ∀ h, h < 32 → Vec Ideal S1x1x64x256 .fp8e4m3) (h : Nat) (hh : h < 32) (p : Fin 64) (l : Fin 256) :
    ∀ (n : Nat) (hn : n ≤ 32), h < n → View.canon (statePieces xc dt da sc codes n hn) (ix2 ⟨64 * h + p.val, by omega⟩ l : S2048x256.Idx)
      = headState h hh xc dt da (k0_pay11 xc) sc (codes h hh) (ix2 p l)
  | 0, _, hlt => absurd hlt (Nat.not_lt_zero _)
  | n + 1, hn, hlt => by
    unfold statePieces
    by_cases e : h = n
    · subst e
      rw [← emb_rows h hh p l, View.canon_cons_emb]
    · rw [View.canon_cons_of_not_mem]
      · exact canon_states xc dt da sc codes h hh p l n (Nat.le_of_succ_le hn) (by omega)
      · intro hm
        have h2 : 64 * n ≤ 64 * h + p.val := (((Rect.mem_set_unit (inb := inb_rows n hn)).1 hm) 0).1
        omega

/-- The states read back: every head's rows hold its state. -/
theorem read_states {κ : _} {sp : _} (v : View sig κ sp S2048x256 .f32) (xc : FVec Ideal S1x2560 .f32) (dt da : FVec Ideal S32x1 .f32) (sc : FVec Ideal S32x256 .f32)
    (codes : ∀ h, h < 32 → Vec Ideal S1x1x64x256 .fp8e4m3) (h : Nat) (hh : h < 32) (p : Fin 64) (l : Fin 256) :
    v.readCov (statePieces xc dt da sc codes 32 (Nat.le_refl _)) (Rect.unit (s := S2048x256) ![64 * h, 0] S64x256.size (inb_rows h hh)).toLoadRect (ix2 p l : S64x256.Idx)
      = headState h hh xc dt da (k0_pay11 xc) sc (codes h hh) (ix2 p l) := by
  unfold View.readCov
  rw [View.readAt_apply, View.read_writes_junk_eq_canon]
  refine (congrArg (View.canon (statePieces xc dt da sc codes 32 (Nat.le_refl _))) (emb_rows h hh p l)).trans ?_
  exact canon_states xc dt da sc codes h hh p l 32 (Nat.le_refl _) hh

/-! A load of a block is the block, or its part. -/

theorem load_whole {s : Shape} {e : EltTy} (M : Memref sig .tc .vmem s e) (hM : M.IsWhole) (x : Vec Ideal s e) (off : Fin s.rank → Nat) (h : off = fun _ => 0)
    (inb : ∀ a, off a + s.size a ≤ s.size a) : View.readAt (Elt Ideal) M.view (Rect.unit (s := s) off s.size inb).toLoadRect (hM.unread x) = x := by
  funext j; rw [View.readAt_apply, hM.read_unread]; exact congrArg x (emb_zero off h inb j)

theorem load_part {s : Shape} {e : EltTy} (M : Memref sig .tc .vmem s e) (hM : M.IsWhole) (x : Vec Ideal s e) (r : Rect s) :
    View.readAt (Elt Ideal) M.view r.toLoadRect (hM.unread x) = fun j => x (r.emb j) := by
  funext j; rw [View.readAt_apply, hM.read_unread]; rfl

/-- A new state, of the blocks. -/
def stateB (i : grid0.Coords) (x0 : Vec Ideal S8x2560 .f32) (x1 : Vec Ideal S8x128 .f32) (x2 : Vec Ideal S1x3x2560 .bf16) (x3 : Vec Ideal S1x32x64x256 .fp8e4m3)
    (x4 : Vec Ideal S1x32x8 .f32) (x5 : Vec Ideal S4x2560 .f32) (x6 : Vec Ideal S1x2560 .f32) (x7 x8 : Vec Ideal S1x128 .f32) (h : Fin 32) (p : Fin 64) (n : Fin 256) : EReal :=
  stateE (Ideal.exp (dtB i x1 x7 h * -Ideal.exp (x8 (ix2 0 ⟨h.val, by omega⟩)))) (dtB i x1 x7 h) (xcB i x0 x2 x5 x6 ⟨64 * h.val + p.val, by omega⟩)
    (x3 (ix4 0 h p n) * x4 (ix3 0 h ⟨n.val / 32, by omega⟩)) (xcB i x0 x2 x5 x6 ⟨2048 + n.val, by omega⟩)

/-- It is what the body stores for the head. -/
theorem stateB_apply (i : grid0.Coords) (x0 : Vec Ideal S8x2560 .f32) (x1 : Vec Ideal S8x128 .f32) (x2 : Vec Ideal S1x3x2560 .bf16) (x3 : Vec Ideal S1x32x64x256 .fp8e4m3)
    (x4 : Vec Ideal S1x32x8 .f32) (x5 : Vec Ideal S4x2560 .f32) (x6 : Vec Ideal S1x2560 .f32) (x7 x8 : Vec Ideal S1x128 .f32) (h : Fin 32) (p : Fin 64) (n : Fin 256) :
    headState h.val h.isLt (k0_pay4 (fun j => x0 ((Rect.unit (s := S8x2560) (k0_off2 i) S1x2560.size (k0_off2_inb i)).emb j)) x2 x6 x5)
      (k0_pay9 (k0_pay6 (fun j => x1 ((Rect.unit (s := S8x128) (k0_off3 i) S1x128.size (k0_off3_inb i)).emb j)) x7) k0_pay7)
      (k0_pay10 (k0_pay6 (fun j => x1 ((Rect.unit (s := S8x128) (k0_off3 i) S1x128.size (k0_off3_inb i)).emb j)) x7) k0_pay7 x8)
      (k0_pay11 (k0_pay4 (fun j => x0 ((Rect.unit (s := S8x2560) (k0_off2 i) S1x2560.size (k0_off2_inb i)).emb j)) x2 x6 x5))
      (k0_pay17 (k0_pay13 x4) (iota .tc S8x256 32 [1] iota_S8x256_d1_w32) 32#32 k0_pay14 k0_pay15 k0_pay16)
      (fun j => x3 ((Rect.unit (s := S1x32x64x256) ![0, h.val, 0, 0] S1x1x64x256.size (inb_codes h.val h.isLt)).emb j)) (ix2 p n)
      = stateB i x0 x1 x2 x3 x4 x5 x6 x7 x8 h p n := by
  rw [headState_apply]
  have e3 := congrArg x3 (emb_codes h.val h.isLt p n)
  simp only [pay11_apply, conv_apply, dt_apply, da_apply, pay6_apply, e3]
  unfold stateB dtB xcB
  congr 1
  exact congrArg (x3 (ix4 0 h p n) * ·) (scale_apply x4 h n)

/-- The states that the body reads back are the new states. -/
theorem back_apply (i : grid0.Coords) (arg2 : Memref sig .tc .vmem S8x2560 .f32) (harg2 : arg2.IsWhole) (arg3 : Memref sig .tc .vmem S8x128 .f32) (harg3 : arg3.IsWhole) (arg4 : Memref sig .tc .vmem S1x3x2560 .bf16) (harg4 : arg4.IsWhole) (arg5 : Memref sig .tc .vmem S1x32x64x256 .fp8e4m3) (harg5 : arg5.IsWhole) (arg6 : Memref sig .tc .vmem S1x32x8 .f32) (harg6 : arg6.IsWhole) (arg7 : Memref sig .tc .vmem S4x2560 .f32) (harg7 : arg7.IsWhole) (arg8 : Memref sig .tc .vmem S1x2560 .f32) (harg8 : arg8.IsWhole) (arg9 : Memref sig .tc .vmem S1x128 .f32) (harg9 : arg9.IsWhole) (arg10 : Memref sig .tc .vmem S1x128 .f32) (harg10 : arg10.IsWhole) (arg16 : Memref sig .tc .vmem S2048x256 .f32)
    (x0 : Vec Ideal S8x2560 .f32) (x1 : Vec Ideal S8x128 .f32) (x2 : Vec Ideal S1x3x2560 .bf16) (x3 : Vec Ideal S1x32x64x256 .fp8e4m3) (x4 : Vec Ideal S1x32x8 .f32) (x5 : Vec Ideal S4x2560 .f32) (x6 : Vec Ideal S1x2560 .f32) (x7 : Vec Ideal S1x128 .f32) (x8 : Vec Ideal S1x128 .f32)
    (h : Nat) (hh : h < 32) (p : Fin 64) (n : Fin 256) :
      arg16.view.readCov (statePieces
      (k0_pay4 (View.readAt (Elt Ideal) arg2.view (Rect.unit (k0_off2 i) ![1, 2560] (k0_off2_inb i)).toLoadRect (harg2.unread x0))
        (View.readAt (Elt Ideal) arg4.view (Rect.unit ![0, 0, 0] ![1, 3, 2560] inb_S1x3x2560_S1x3x2560_0_0_0).toLoadRect (harg4.unread x2))
        (View.readAt (Elt Ideal) arg8.view (Rect.unit ![0, 0] ![1, 2560] inb_S1x2560_S1x2560_0_0).toLoadRect (harg8.unread x6))
        (View.readAt (Elt Ideal) arg7.view (Rect.unit ![0, 0] ![4, 2560] inb_S4x2560_S4x2560_0_0).toLoadRect (harg7.unread x5)))
      (k0_pay9 (k0_pay6 (View.readAt (Elt Ideal) arg3.view (Rect.unit (k0_off3 i) ![1, 128] (k0_off3_inb i)).toLoadRect (harg3.unread x1))
        (View.readAt (Elt Ideal) arg9.view (Rect.unit ![0, 0] ![1, 128] inb_S1x128_S1x128_0_0).toLoadRect (harg9.unread x7))) k0_pay7)
      (k0_pay10 (k0_pay6 (View.readAt (Elt Ideal) arg3.view (Rect.unit (k0_off3 i) ![1, 128] (k0_off3_inb i)).toLoadRect (harg3.unread x1))
        (View.readAt (Elt Ideal) arg9.view (Rect.unit ![0, 0] ![1, 128] inb_S1x128_S1x128_0_0).toLoadRect (harg9.unread x7))) k0_pay7
        (View.readAt (Elt Ideal) arg10.view (Rect.unit ![0, 0] ![1, 128] inb_S1x128_S1x128_0_0).toLoadRect (harg10.unread x8)))
      (k0_pay17 (k0_pay13 (View.readAt (Elt Ideal) arg6.view (Rect.unit ![0, 0, 0] ![1, 32, 8] inb_S1x32x8_S1x32x8_0_0_0).toLoadRect (harg6.unread x4)))
        (iota .tc S8x256 32 [1] iota_S8x256_d1_w32) 32#32 k0_pay14 k0_pay15 k0_pay16)
      (fun h hh => View.readAt (Elt Ideal) arg5.view (Rect.unit (s := S1x32x64x256) ![0, h, 0, 0] S1x1x64x256.size (inb_codes h hh)).toLoadRect (harg5.unread x3))
      32 (Nat.le_refl _)) (Rect.unit (s := S2048x256) ![64 * h, 0] S64x256.size (inb_rows h hh)).toLoadRect (ix2 p n : S64x256.Idx)
      = stateB i x0 x1 x2 x3 x4 x5 x6 x7 x8 ⟨h, hh⟩ p n := by
  refine (read_states arg16.view _ _ _ _ _ h hh p _).trans (Eq.trans ?_ (stateB_apply i x0 x1 x2 x3 x4 x5 x6 x7 x8 ⟨h, hh⟩ p _))
  have e0 := load_part arg2 harg2 x0 (Rect.unit (s := S8x2560) (k0_off2 i) S1x2560.size (k0_off2_inb i))
  have e1 := load_part arg3 harg3 x1 (Rect.unit (s := S8x128) (k0_off3 i) S1x128.size (k0_off3_inb i))
  have e2 := load_whole arg4 harg4 x2 _ zeros3 inb_S1x3x2560_S1x3x2560_0_0_0
  have e4 := load_whole arg6 harg6 x4 _ zeros3 inb_S1x32x8_S1x32x8_0_0_0
  have e5 := load_whole arg7 harg7 x5 _ zeros2 inb_S4x2560_S4x2560_0_0
  have e6 := load_whole arg8 harg8 x6 _ zeros2 inb_S1x2560_S1x2560_0_0
  have e7 := load_whole arg9 harg9 x7 _ zeros2 inb_S1x128_S1x128_0_0
  have e8 := load_whole arg10 harg10 x8 _ zeros2 inb_S1x128_S1x128_0_0
  have e3 := load_part arg5 harg5 x3 (Rect.unit (s := S1x32x64x256) ![0, h, 0, 0] S1x1x64x256.size (inb_codes h hh))
  have ex := congr (congr (congr (congrArg k0_pay4 e0) e2) e6) e5
  exact congrFun (congr (congr (congr (congr (congr (congrArg (headState h hh) ex)
    (congrArg (fun v => k0_pay9 v k0_pay7) (congr (congrArg k0_pay6 e1) e7)))
    (congr (congrArg (fun v => k0_pay10 v k0_pay7) (congr (congrArg k0_pay6 e1) e7)) e8)) (congrArg k0_pay11 ex))
    (congrArg (fun v => k0_pay17 (k0_pay13 v) (iota .tc S8x256 32 [1] iota_S8x256_d1_w32) 32#32 k0_pay14 k0_pay15 k0_pay16) e4)) e3) _

set_option maxHeartbeats 4000000 in
/-- What the body leaves in the block of scales, at an index. -/
theorem scales_block   (c : Dev nD) (i : grid0.Coords) (arg2 : Memref sig .tc .vmem S8x2560 .f32) (harg2 : arg2.IsWhole) (arg3 : Memref sig .tc .vmem S8x128 .f32) (harg3 : arg3.IsWhole) (arg4 : Memref sig .tc .vmem S1x3x2560 .bf16) (harg4 : arg4.IsWhole) (arg5 : Memref sig .tc .vmem S1x32x64x256 .fp8e4m3) (harg5 : arg5.IsWhole) (arg6 : Memref sig .tc .vmem S1x32x8 .f32) (harg6 : arg6.IsWhole) (arg7 : Memref sig .tc .vmem S4x2560 .f32) (harg7 : arg7.IsWhole) (arg8 : Memref sig .tc .vmem S1x2560 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x2048 .f32) (harg11 : arg11.IsWhole) (arg12 : Memref sig .tc .vmem S1x1x2048 .f32) (harg12 : arg12.IsWhole) (arg13 : Memref sig .tc .vmem S1x3x2560 .bf16) (harg13 : arg13.IsWhole) (arg14 : Memref sig .tc .vmem S1x32x64x256 .fp8e4m3) (harg14 : arg14.IsWhole) (arg15 : Memref sig .tc .vmem S1x32x8 .f32) (harg15 : arg15.IsWhole) (arg16 : Memref sig .tc .vmem S2048x256 .f32) (harg16 : arg16.IsWhole)
    (x0 : Vec Ideal S8x2560 .f32) (x1 : Vec Ideal S8x128 .f32) (x2 : Vec Ideal S1x3x2560 .bf16) (x3 : Vec Ideal S1x32x64x256 .fp8e4m3) (x4 : Vec Ideal S1x32x8 .f32) (x5 : Vec Ideal S4x2560 .f32) (x6 : Vec Ideal S1x2560 .f32) (x7 : Vec Ideal S1x128 .f32) (x8 : Vec Ideal S1x128 .f32) (x9 : Vec Ideal S1x2048 .f32) (xt0 : TbBuf0 (F := Ideal) c tbM0_0)
    (h : Fin 32) (g : Fin 8) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xt0 (ix3 0 h g)
      = scaleE (maxE fun j : Fin 32 => maxE fun p : Fin 64 => FloatOps.absf (F := Ideal) (φ := .f32) (stateB i x0 x1 x2 x3 x4 x5 x6 x7 x8 h p ⟨g.val * 32 + j.val, by omega⟩)) := by
  unfold out0_A_13
  rw [View.read_writes_junk_eq_canon]
  refine (congrFun ((congrArg View.canon (scale_pieces  c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xt0)).trans (View.canon_unit_zero zeros3 _ _)) (ix3 0 h g)).trans ?_
  rw [pay222_apply, blockMax_apply]
  exact congrArg scaleE (congrArg maxE (funext fun j => congrArg maxE (funext fun p => congrArg (FloatOps.absf (F := Ideal) (φ := .f32))
    (back_apply i arg2 harg2 arg3 harg3 arg4 harg4 arg5 harg5 arg6 harg6 arg7 harg7 arg8 harg8 arg9 harg9 arg10 harg10 arg16 x0 x1 x2 x3 x4 x5 x6 x7 x8 h.val h.isLt p _))))

end Cert.SsmIdeal.Y
end
-- ==== Proof.SsmCodes.lean ====
module

public import proofs.«01_k».proof.Proof.SsmScales

/-!
The codes that one run of the decode call's body leaves, over the reals. Every head's state is read back, multiplied by the
reciprocal of its block's scale, clipped and stored (`headCodes`).
-/

@[expose] public section

set_option maxRecDepth 16384

noncomputable section

namespace Cert.SsmIdeal.Y

open Cert.SsmIdeal Cert.SsmIdeal.Gen
open Idealize.ShloMosaic Idealize.ShloMosaic.TcCoe Idealize.ShloMosaic.Tactic

section
variable {F : FTy → Type} [FloatOps F]

/-- The codes that the body stores for head `h`. -/
def headCodes (h : Nat) (hh : h < 32) (iv : FVec F S32x256 .f32) (v : Vec F S64x256 .f32) : Vec F S1x1x64x256 .fp8e4m3 :=
  shapeCast S1x1x64x256 (shapeCast S1x64x256 (truncf .fp8e4m3 (minimumf (broadcast S64x256 (Scalar.ofBits .f32 0x43E00000#32))
    (maximumf (broadcast S64x256 (Scalar.ofBits .f32 0xC3E00000#32))
      (mulf v (broadcastTo S64x256 (extractStridedSlice S1x256 ![h, 0] iv (slices_s h hh)) broadcasts_S1x256_S64x256)))) bitsLt_fp8e4m3_f32)
    shapeCasts_S64x256_S1x64x256) shapeCasts_S1x64x256_S1x1x64x256

/-- The stores of the heads' codes below `n`, the last one first. -/
def codePieces (iv : FVec F S32x256 .f32) (st : ∀ h, h < 32 → Vec F S64x256 .f32) : (n : Nat) → n ≤ 32 → List (View.Piece (Elt F) S1x32x64x256 .fp8e4m3)
  | 0, _ => []
  | n + 1, h => ⟨Rect.unit (s := S1x32x64x256) ![0, n, 0, 0] S1x1x64x256.size (inb_codes n h), headCodes n h iv (st n h)⟩
      :: codePieces iv st n (Nat.le_of_succ_le h)

set_option maxHeartbeats 4000000 in
/-- The body's pieces in the block of codes are `codePieces` of the states it reads back. -/
theorem code_pieces (c : Dev nD) (i : grid0.Coords) (arg2 : Memref sig .tc .vmem S8x2560 .f32) (harg2 : arg2.IsWhole) (arg3 : Memref sig .tc .vmem S8x128 .f32) (harg3 : arg3.IsWhole) (arg4 : Memref sig .tc .vmem S1x3x2560 .bf16) (harg4 : arg4.IsWhole) (arg5 : Memref sig .tc .vmem S1x32x64x256 .fp8e4m3) (harg5 : arg5.IsWhole) (arg6 : Memref sig .tc .vmem S1x32x8 .f32) (harg6 : arg6.IsWhole) (arg7 : Memref sig .tc .vmem S4x2560 .f32) (harg7 : arg7.IsWhole) (arg8 : Memref sig .tc .vmem S1x2560 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x2048 .f32) (harg11 : arg11.IsWhole) (arg12 : Memref sig .tc .vmem S1x1x2048 .f32) (harg12 : arg12.IsWhole) (arg13 : Memref sig .tc .vmem S1x3x2560 .bf16) (harg13 : arg13.IsWhole) (arg14 : Memref sig .tc .vmem S1x32x64x256 .fp8e4m3) (harg14 : arg14.IsWhole) (arg15 : Memref sig .tc .vmem S1x32x8 .f32) (harg15 : arg15.IsWhole) (arg16 : Memref sig .tc .vmem S2048x256 .f32) (harg16 : arg16.IsWhole)
    (x0 : Vec F S8x2560 .f32) (x1 : Vec F S8x128 .f32) (x2 : Vec F S1x3x2560 .bf16) (x3 : Vec F S1x32x64x256 .fp8e4m3) (x4 : Vec F S1x32x8 .f32) (x5 : Vec F S4x2560 .f32) (x6 : Vec F S1x2560 .f32) (x7 : Vec F S1x128 .f32) (x8 : Vec F S1x128 .f32) (x9 : Vec F S1x2048 .f32) (xt0 : TbBuf0 (F := F) c tbM0_0)
    (st : ∀ h, h < 32 → Vec F S64x256 .f32) (hst : st = fun h hh =>
      arg16.view.readCov (statePieces
      (k0_pay4 (View.readAt (Elt F) arg2.view (Rect.unit (k0_off2 i) ![1, 2560] (k0_off2_inb i)).toLoadRect (harg2.unread x0))
        (View.readAt (Elt F) arg4.view (Rect.unit ![0, 0, 0] ![1, 3, 2560] inb_S1x3x2560_S1x3x2560_0_0_0).toLoadRect (harg4.unread x2))
        (View.readAt (Elt F) arg8.view (Rect.unit ![0, 0] ![1, 2560] inb_S1x2560_S1x2560_0_0).toLoadRect (harg8.unread x6))
        (View.readAt (Elt F) arg7.view (Rect.unit ![0, 0] ![4, 2560] inb_S4x2560_S4x2560_0_0).toLoadRect (harg7.unread x5)))
      (k0_pay9 (k0_pay6 (View.readAt (Elt F) arg3.view (Rect.unit (k0_off3 i) ![1, 128] (k0_off3_inb i)).toLoadRect (harg3.unread x1))
        (View.readAt (Elt F) arg9.view (Rect.unit ![0, 0] ![1, 128] inb_S1x128_S1x128_0_0).toLoadRect (harg9.unread x7))) k0_pay7)
      (k0_pay10 (k0_pay6 (View.readAt (Elt F) arg3.view (Rect.unit (k0_off3 i) ![1, 128] (k0_off3_inb i)).toLoadRect (harg3.unread x1))
        (View.readAt (Elt F) arg9.view (Rect.unit ![0, 0] ![1, 128] inb_S1x128_S1x128_0_0).toLoadRect (harg9.unread x7))) k0_pay7
        (View.readAt (Elt F) arg10.view (Rect.unit ![0, 0] ![1, 128] inb_S1x128_S1x128_0_0).toLoadRect (harg10.unread x8)))
      (k0_pay17 (k0_pay13 (View.readAt (Elt F) arg6.view (Rect.unit ![0, 0, 0] ![1, 32, 8] inb_S1x32x8_S1x32x8_0_0_0).toLoadRect (harg6.unread x4)))
        (iota .tc S8x256 32 [1] iota_S8x256_d1_w32) 32#32 k0_pay14 k0_pay15 k0_pay16)
      (fun h hh => View.readAt (Elt F) arg5.view (Rect.unit (s := S1x32x64x256) ![0, h, 0, 0] S1x1x64x256.size (inb_codes h hh)).toLoadRect (harg5.unread x3))
      32 (Nat.le_refl _)) (Rect.unit (s := S2048x256) ![64 * h, 0] S64x256.size (inb_rows h hh)).toLoadRect) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xt0).2.2.1
      = codePieces (k0_pay226 (k0_pay221 (blockMax st)) k0_pay223 k0_pay224 k0_pay225) st 32 (Nat.le_refl _) := by
  subst hst
  rw [← statePieces_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xt0, ← blockMax_eq]
  rfl

/-- The stores of the codes, read at a head's element: that head's store. -/
theorem canon_codes (iv : FVec F S32x256 .f32) (st : ∀ h, h < 32 → Vec F S64x256 .f32) (h : Nat) (hh : h < 32) (p : Fin 64) (l : Fin 256) :
    ∀ (n : Nat) (hn : n ≤ 32), h < n → View.canon (codePieces iv st n hn) (ix4 (0 : Fin 1) ⟨h, hh⟩ p l : S1x32x64x256.Idx)
      = headCodes h hh iv (st h hh) (ix4 0 0 p l)
  | 0, _, hlt => absurd hlt (Nat.not_lt_zero _)
  | n + 1, hn, hlt => by
    unfold codePieces
    by_cases e : h = n
    · subst e
      rw [← emb_codes h hh p l, View.canon_cons_emb]
    · rw [View.canon_cons_of_not_mem]
      · exact canon_codes iv st h hh p l n (Nat.le_of_succ_le hn) (by omega)
      · intro hm
        have h2 : n ≤ h := (((Rect.mem_set_unit (inb := inb_codes n hn)).1 hm) 1).1
        omega

end

/-! ## At an index -/

/-- The reciprocal of the scale of a block whose greatest magnitude is `a`. -/
def invE (a : EReal) : EReal :=
  Ideal.exp (-expE (a * Ideal.ofBits .f32 0x3B124925#32) * Ideal.log (Ideal.ofBits .f32 0x40000000#32))

/-- A code: clipped to the greatest one. -/
def codeE (x : EReal) : EReal :=
  FloatOps.minimumf (F := Ideal) (φ := .f32) (Ideal.ofBits .f32 0x43E00000#32) (FloatOps.maximumf (F := Ideal) (φ := .f32) (Ideal.ofBits .f32 0xC3E00000#32) x)

theorem pay221_apply (v : FVec Ideal S8x32 .f32) (h : Fin 32) (g : Fin 8) : k0_pay221 v (ix2 h g) = invE (v (ix2 g h)) := by
  unfold invE expE
  pointwise [k0_pay221, k0_pay220, k0_pay219]
  rw [zero_sub]

theorem pay226_apply (w : FVec Ideal S32x8 .f32) (h : Fin 32) (n : Fin 256) :
    k0_pay226 w k0_pay223 k0_pay224 k0_pay225 (ix2 h n) = w (ix2 h ⟨n.val / 32, by omega⟩) := by
  have e : k0_pay13 (F := Ideal) (shapeCast S1x32x8 w shapeCasts_S32x8_S1x32x8) = w := by
    funext j
    obtain ⟨a, b, rfl⟩ : ∃ (a : Fin 32) (b : Fin 8), j = ix2 a b := ⟨j 0, j 1, funext fun x => by match x with | ⟨0, _⟩ => rfl | ⟨1, _⟩ => rfl⟩
    pointwise [k0_pay13]
  have f := scale_apply (shapeCast S1x32x8 w shapeCasts_S32x8_S1x32x8) h n
  rw [e] at f
  refine Eq.trans (show _ = k0_pay17 w (iota .tc S8x256 32 [1] iota_S8x256_d1_w32) 32#32 k0_pay14 k0_pay15 k0_pay16 (ix2 h n) from rfl) (f.trans ?_)
  pointwise []

theorem headCodes_apply (h : Nat) (hh : h < 32) (iv : FVec Ideal S32x256 .f32) (v : Vec Ideal S64x256 .f32) (p : Fin 64) (n : Fin 256) :
    headCodes h hh iv v (ix4 0 0 p n) = codeE (v (ix2 p n) * iv (ix2 ⟨h, hh⟩ n)) := by
  unfold codeE
  pointwise [headCodes]

set_option maxHeartbeats 4000000 in
/-- What the body leaves in the block of codes, at an index. -/
theorem codes_block (c : Dev nD) (i : grid0.Coords) (arg2 : Memref sig .tc .vmem S8x2560 .f32) (harg2 : arg2.IsWhole) (arg3 : Memref sig .tc .vmem S8x128 .f32) (harg3 : arg3.IsWhole) (arg4 : Memref sig .tc .vmem S1x3x2560 .bf16) (harg4 : arg4.IsWhole) (arg5 : Memref sig .tc .vmem S1x32x64x256 .fp8e4m3) (harg5 : arg5.IsWhole) (arg6 : Memref sig .tc .vmem S1x32x8 .f32) (harg6 : arg6.IsWhole) (arg7 : Memref sig .tc .vmem S4x2560 .f32) (harg7 : arg7.IsWhole) (arg8 : Memref sig .tc .vmem S1x2560 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x2048 .f32) (harg11 : arg11.IsWhole) (arg12 : Memref sig .tc .vmem S1x1x2048 .f32) (harg12 : arg12.IsWhole) (arg13 : Memref sig .tc .vmem S1x3x2560 .bf16) (harg13 : arg13.IsWhole) (arg14 : Memref sig .tc .vmem S1x32x64x256 .fp8e4m3) (harg14 : arg14.IsWhole) (arg15 : Memref sig .tc .vmem S1x32x8 .f32) (harg15 : arg15.IsWhole) (arg16 : Memref sig .tc .vmem S2048x256 .f32) (harg16 : arg16.IsWhole)
    (x0 : Vec Ideal S8x2560 .f32) (x1 : Vec Ideal S8x128 .f32) (x2 : Vec Ideal S1x3x2560 .bf16) (x3 : Vec Ideal S1x32x64x256 .fp8e4m3) (x4 : Vec Ideal S1x32x8 .f32) (x5 : Vec Ideal S4x2560 .f32) (x6 : Vec Ideal S1x2560 .f32) (x7 : Vec Ideal S1x128 .f32) (x8 : Vec Ideal S1x128 .f32) (x9 : Vec Ideal S1x2048 .f32) (xt0 : TbBuf0 (F := Ideal) c tbM0_0)
    (h : Fin 32) (p : Fin 64) (n : Fin 256) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xt0 (ix4 0 h p n)
      = codeE (stateB i x0 x1 x2 x3 x4 x5 x6 x7 x8 h p n * invE (maxE fun j : Fin 32 => maxE fun q : Fin 64 =>
          FloatOps.absf (F := Ideal) (φ := .f32) (stateB i x0 x1 x2 x3 x4 x5 x6 x7 x8 h q ⟨n.val / 32 * 32 + j.val, by omega⟩))) := by
  unfold out0_A_12
  rw [View.read_writes_junk_eq_canon]
  refine (congrFun (congrArg View.canon (code_pieces c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xt0 _ rfl)) (ix4 0 h p n)).trans ?_
  refine (canon_codes _ _ h.val h.isLt p n 32 (Nat.le_refl _) h.isLt).trans ?_
  rw [headCodes_apply, pay226_apply, pay221_apply, blockMax_apply]
  exact congrArg codeE (congr (congrArg HMul.hMul (back_apply i arg2 harg2 arg3 harg3 arg4 harg4 arg5 harg5 arg6 harg6 arg7 harg7 arg8 harg8 arg9 harg9 arg10 harg10 arg16 x0 x1 x2 x3 x4 x5 x6 x7 x8 h.val h.isLt p n))
    (congrArg invE (congrArg maxE (funext fun j => congrArg maxE (funext fun q => congrArg (FloatOps.absf (F := Ideal) (φ := .f32))
      (back_apply i arg2 harg2 arg3 harg3 arg4 harg4 arg5 harg5 arg6 harg6 arg7 harg7 arg8 harg8 arg9 harg9 arg10 harg10 arg16 x0 x1 x2 x3 x4 x5 x6 x7 x8 h.val h.isLt q _))))))

end Cert.SsmIdeal.Y
end
-- ==== Proof.SsmRef.lean ====
module

public import proofs.«01_k».proof.Defs
public import proofs.«01_k».proof.Proof.SsmHead
public import proofs.«01_k».proof.Proof.Gen.SsmRefIdeal.Frame
public import Idealize.ShloMosaic.Lib.StableHlo.Predicate
public import Idealize.ShloMosaic.Lib.Pipeline.ValueKit
public import Idealize.ShloMosaic.Lib.Pointwise

/-!
The steps of the decode reference, named, and their values at an index.
-/

@[expose] public section

set_option maxRecDepth 16384

noncomputable section

namespace Cert.SsmRefIdeal.Y

open Cert.SsmRefIdeal Cert.SsmRefIdeal.Gen
open Idealize.ShloMosaic Idealize.ShloMosaic.TcCoe Idealize.ShloMosaic.Tactic

variable {F : FTy → Type} [FloatOps F]

/-! ## The reference's steps -/

/-- The slot of each of the first 48 sequences. -/
def slots (a0 : IVec S59 32) : IVec S48 32 := extractStridedSlice S48 ![0] a0 slices_S59_S48_0

/-- The slots as a column of indices, a negative one counted from the end. -/
def index (a0 : IVec S59 32) : IVec S48x1 32 :=
  broadcastInDim S48x1 ![0] bcast_S48_S48x1_0 (select (cmpi .slt (slots a0) (broadcastInDim S48 ![] bcast_S_S48 (constantI S_ 32 0#32)))
    (addi (slots a0) (broadcastInDim S48 ![] bcast_S_S48 (constantI S_ 32 76#32))) (slots a0))

/-- Bias plus the four rows under the four weights. -/
def conv (a0 : IVec S59 32) (a1 : FVec F S5168x2560 .f32) (a3 : FVec F S76x3x2560 .bf16) (a6 : FVec F S4x2560 .f32) (a7 : FVec F S2560 .f32) :
    FVec F S48x2560 .f32 :=
  addf (broadcastInDim S48x2560 ![0, 1] bcast_S1x2560_S48x2560_0_1 (broadcastInDim S1x2560 ![1] bcast_S2560_S1x2560_1 a7))
    (Host.reduceAdd (mulf
      (concatenate S48x4x2560 1 [⟨S48x3x2560, extf .f32 (Host.gather gather_S76x3x2560_S48x1_S48x3x2560_12_0_n_n_0_1_132560 a3 (index a0)) bitsLt_bf16_f32⟩,
        ⟨S48x1x2560, broadcastInDim S48x1x2560 ![0, 2] bcast_S48x2560_S48x1x2560_0_2 (extractStridedSlice S48x2560 ![0, 0] a1 slices_S5168x2560_S48x2560_0_0)⟩]
        concatenates_S48x3x2560_S48x1x2560_S48x4x2560_d1)
      (broadcastInDim S48x4x2560 ![0, 1, 2] bcast_S1x4x2560_S48x4x2560_0_1_2 (broadcastInDim S1x4x2560 ![1, 2] bcast_S4x2560_S1x4x2560_1_2 a6)))
      (constant S_ .f32 0x00000000#32) reducesTo_S48x4x2560_S48x2560_d1 h_S_)

/-- Times its logistic function. -/
def act (v : FVec F S48x2560 .f32) : FVec F S48x2560 .f32 :=
  mulf v (Host.divf (broadcastInDim S48x2560 ![] bcast_S_S48x2560 (constant S_ .f32 0x3F800000#32))
    (addf (broadcastInDim S48x2560 ![] bcast_S_S48x2560 (constant S_ .f32 0x3F800000#32)) (Host.exp (Host.negf v))))

/-- The step's argument: the raw step plus its bias. -/
def step (a2 : FVec F S5168x128 .f32) (a8 : FVec F S32 .f32) : FVec F S48x32 .f32 :=
  addf (extractStridedSlice S48x32 ![0, 0] a2 slices_S5168x128_S48x32_0_0)
    (broadcastInDim S48x32 ![0, 1] bcast_S1x32_S48x32_0_1 (broadcastInDim S1x32 ![1] bcast_S32_S1x32_1 a8))

/-- The softplus of it. -/
def soft (v : FVec F S48x32 .f32) : FVec F S48x32 .f32 :=
  let z : FVec F S48x32 .f32 := broadcastInDim S48x32 ![] bcast_S_S48x32 (constant S_ .f32 0x00000000#32)
  select (cmpf .une (subf v z) (subf v z)) (addf v z)
    (addf (maximumf v z) (Host.log1p (Host.exp (Host.negf (Host.absf (subf v z))))))

/-- The states of the sequences: every code times its block's scale, taken at the slots. -/
def states (a0 : IVec S59 32) (k : FVec F S76x32x64x256 .f32) (a5 : FVec F S76x32x8 .f32) : FVec F S48x32x64x256 .f32 :=
  Host.gather gather_S76x32x64x256_S48x1_S48x32x64x256_123_0_n_n_0_1_13264256
    (shapeCast S76x32x64x256 (mulf (shapeCast S76x32x64x8x32 k shapeCasts_S76x32x64x256_S76x32x64x8x32)
      (broadcastInDim S76x32x64x8x32 ![0, 1, 2, 3, 4] bcast_S76x32x1x8x1_S76x32x64x8x32_0_1_2_3_4
        (broadcastInDim S76x32x1x8x1 ![0, 1, 3] bcast_S76x32x8_S76x32x1x8x1_0_1_3 a5))) shapeCasts_S76x32x64x8x32_S76x32x64x256)
    (index a0)

/-- The inputs of the recurrence, head by head. -/
def xs (xc : FVec F S48x2560 .f32) : FVec F S48x32x64 .f32 :=
  shapeCast S48x32x64 (extractStridedSlice S48x2048 ![0, 0] xc slices_S48x2560_S48x2048_0_0) shapeCasts_S48x2048_S48x32x64

/-- The new states. -/
def next (xc : FVec F S48x2560 .f32) (dt : FVec F S48x32 .f32) (st : FVec F S48x32x64x256 .f32) (a9 : FVec F S32 .f32) : FVec F S48x32x64x256 .f32 :=
  addf
    (mulf (broadcastInDim S48x32x64x256 ![0, 1, 2, 3] bcast_S48x32x1x1_S48x32x64x256_0_1_2_3 (broadcastInDim S48x32x1x1 ![0, 1] bcast_S48x32_S48x32x1x1_0_1
      (Host.exp (mulf dt (broadcastInDim S48x32 ![0, 1] bcast_S1x32_S48x32_0_1 (broadcastInDim S1x32 ![1] bcast_S32_S1x32_1 (Host.negf (Host.exp a9)))))))) st)
    (mulf (broadcastInDim S48x32x64x256 ![0, 1, 2, 3] bcast_S48x32x64x1_S48x32x64x256_0_1_2_3 (broadcastInDim S48x32x64x1 ![0, 1, 2] bcast_S48x32x64_S48x32x64x1_0_1_2
        (mulf (broadcastInDim S48x32x64 ![0, 1, 2] bcast_S48x32x1_S48x32x64_0_1_2 (broadcastInDim S48x32x1 ![0, 1] bcast_S48x32_S48x32x1_0_1 dt)) (xs xc))))
      (broadcastInDim S48x32x64x256 ![0, 1, 2, 3] bcast_S48x1x1x256_S48x32x64x256_0_1_2_3 (broadcastInDim S48x1x1x256 ![0, 3] bcast_S48x256_S48x1x1x256_0_3
        (extractStridedSlice S48x256 ![0, 2048] xc slices_S48x2560_S48x256_0_2048))))

/-- The outputs: the new states against `C`, plus the skip. -/
def out (xc : FVec F S48x2560 .f32) (st : FVec F S48x32x64x256 .f32) (a10 : FVec F S32 .f32) : FVec F S48x1x2048 .f32 :=
  shapeCast S48x1x2048 (addf
    (Host.dotGeneral dot_S48x32x64x256_S48x256_S48x32x64_3_1_12_n_0_0 (some .fp32) st (extractStridedSlice S48x256 ![0, 2304] xc slices_S48x2560_S48x256_0_2304))
    (mulf (broadcastInDim S48x32x64 ![0, 1, 2] bcast_S1x32x1_S48x32x64_0_1_2 (broadcastInDim S1x32x1 ![1, 2] bcast_S32x1_S1x32x1_1_2 (broadcastInDim S32x1 ![0] bcast_S32_S32x1_0 a10))) (xs xc)))
    shapeCasts_S48x32x64_S48x1x2048

/-! ## The result is these steps' -/

set_option maxHeartbeats 4000000 in
theorem after_conv (V : Valuation τ sig (Elt F)) : StableHlo.after hostOps1 V (Proc.devRef .tc main_v19)
    = conv (V (Proc.devRef .tc main_arg0)) (V (Proc.devRef .tc main_arg1)) (V (Proc.devRef .tc main_arg3)) (V (Proc.devRef .tc main_arg6)) (V (Proc.devRef .tc main_arg7)) := by
  after_results
  rfl

theorem after_slots (V : Valuation τ sig (Elt F)) : StableHlo.after hostOps1 V (Proc.devRef .tc main_v1)
    = slots (V (Proc.devRef .tc main_arg0)) := by
  after_results
  rfl

theorem after_act (V : Valuation τ sig (Elt F)) : StableHlo.after hostOps1_1 V (Proc.devRef .tc main_v20)
    = act (V (Proc.devRef .tc main_v19)) := by
  after_results
  rfl

theorem after_step (V : Valuation τ sig (Elt F)) : StableHlo.after hostOps1_2 V (Proc.devRef .tc main_v24)
    = step (V (Proc.devRef .tc main_arg2)) (V (Proc.devRef .tc main_arg8)) := by
  after_results
  rfl

theorem after_soft (V : Valuation τ sig (Elt F)) : StableHlo.after hostOps1_3 V (Proc.devRef .tc main_v25)
    = soft (V (Proc.devRef .tc main_v24)) := by
  after_results
  rfl

/-- The new states, from the slots, the activations, the steps and the arguments. -/
def fresh (s : IVec S48 32) (xc : FVec F S48x2560 .f32) (dt : FVec F S48x32 .f32) (k : FVec F S76x32x64x256 .f32) (a5 : FVec F S76x32x8 .f32)
    (a9 : FVec F S32 .f32) : FVec F S48x32x64x256 .f32 :=
  next xc dt (Host.gather gather_S76x32x64x256_S48x1_S48x32x64x256_123_0_n_n_0_1_13264256
    (shapeCast S76x32x64x256 (mulf (shapeCast S76x32x64x8x32 k shapeCasts_S76x32x64x256_S76x32x64x8x32)
      (broadcastInDim S76x32x64x8x32 ![0, 1, 2, 3, 4] bcast_S76x32x1x8x1_S76x32x64x8x32_0_1_2_3_4
        (broadcastInDim S76x32x1x8x1 ![0, 1, 3] bcast_S76x32x8_S76x32x1x8x1_0_1_3 a5))) shapeCasts_S76x32x64x8x32_S76x32x64x256)
    (broadcastInDim S48x1 ![0] bcast_S48_S48x1_0 (select (cmpi .slt s (broadcastInDim S48 ![] bcast_S_S48 (constantI S_ 32 0#32)))
      (addi s (broadcastInDim S48 ![] bcast_S_S48 (constantI S_ 32 76#32))) s))) a9

/-- The outputs, from the same. -/
def last (s : IVec S48 32) (xc : FVec F S48x2560 .f32) (dt : FVec F S48x32 .f32) (k : FVec F S76x32x64x256 .f32) (a5 : FVec F S76x32x8 .f32)
    (a9 a10 : FVec F S32 .f32) : FVec F S48x1x2048 .f32 :=
  out xc (fresh s xc dt k a5 a9) a10

set_option maxHeartbeats 8000000 in
theorem after_last (V : Valuation τ sig (Elt F)) : StableHlo.after hostOps1_4 V (Proc.devRef .tc main_v66)
    = last (V (Proc.devRef .tc main_v1)) (V (Proc.devRef .tc main_v20)) (V (Proc.devRef .tc main_v25)) (V (Proc.devRef .tc main_v0))
        (V (Proc.devRef .tc main_arg5)) (V (Proc.devRef .tc main_arg9)) (V (Proc.devRef .tc main_arg10)) := by
  after_results_simp
  rfl

end Cert.SsmRefIdeal.Y
end
-- ==== Proof.SsmElem.lean ====
module

public import proofs.«01_k».proof.Proof.SsmRef

/-!
The value of one output of the decode sequences, as a formula of the arguments (`yE`), and the reference's result read
as that formula (`ref_apply`): every step of the reference at an index, the two gathers at the slot of the sequence.
-/

@[expose] public section

set_option maxRecDepth 16384

noncomputable section

namespace Cert.SsmIdeal.Y

open Cert.SsmIdeal
open Idealize.ShloMosaic Idealize.ShloMosaic.TcCoe Idealize.ShloMosaic.Tactic

/-- The activated convolution of sequence `b`, whose state is the one numbered `s`, at channel `l`. -/
def xcE (a1 : FVec Ideal S5168x2560 .f32) (a3 : FVec Ideal S76x3x2560 .bf16) (a6 : FVec Ideal S4x2560 .f32) (a7 : FVec Ideal S2560 .f32)
    (s : Fin 76) (b : Fin 48) (l : Fin 2560) : EReal :=
  convE (a7 (ix1 l)) (fun r => a3 (ix3 s r l)) (a1 (ix2 ⟨b.val, by omega⟩ l)) (fun r => a6 (ix2 r l))

/-- The step of sequence `b` at head `h`. -/
def dtE (a2 : FVec Ideal S5168x128 .f32) (a8 : FVec Ideal S32 .f32) (b : Fin 48) (h : Fin 32) : EReal :=
  softplus (a2 (ix2 ⟨b.val, by omega⟩ ⟨h.val, by omega⟩) + a8 (ix1 h))

/-- The output of sequence `b` at head `h` and place `p` in the head. -/
def yE (a1 : FVec Ideal S5168x2560 .f32) (a2 : FVec Ideal S5168x128 .f32) (a3 : FVec Ideal S76x3x2560 .bf16) (a4 : FVec Ideal S76x32x64x256 .fp8e4m3)
    (a5 : FVec Ideal S76x32x8 .f32) (a6 : FVec Ideal S4x2560 .f32) (a7 : FVec Ideal S2560 .f32) (a8 a9 a10 : FVec Ideal S32 .f32)
    (s : Fin 76) (b : Fin 48) (h : Fin 32) (p : Fin 64) : EReal :=
  outE (Ideal.exp (dtE a2 a8 b h * -Ideal.exp (a9 (ix1 h)))) (dtE a2 a8 b h) (xcE a1 a3 a6 a7 s b ⟨64 * h.val + p.val, by omega⟩) (a10 (ix1 h))
    (fun n => a4 (ix4 s h p n) * a5 (ix3 s h ⟨n.val / 32, by omega⟩))
    (fun n => xcE a1 a3 a6 a7 s b ⟨2048 + n.val, by omega⟩) (fun n => xcE a1 a3 a6 a7 s b ⟨2304 + n.val, by omega⟩)

end Cert.SsmIdeal.Y

namespace Cert.SsmRefIdeal.Y

open Cert.SsmRefIdeal Cert.SsmRefIdeal.Gen
open Idealize.ShloMosaic Idealize.ShloMosaic.TcCoe Idealize.ShloMosaic.Tactic
open Cert.SsmIdeal.Y (silu softplus convE outE xcE dtE yE)

theorem act_apply (v : FVec Ideal S48x2560 .f32) (b : Fin 48) (l : Fin 2560) : act v (ix2 b l) = silu (v (ix2 b l)) := by
  pointwise [act]
  rfl

theorem soft_apply (v : FVec Ideal S48x32 .f32) (b : Fin 48) (l : Fin 32) : soft v (ix2 b l) = softplus (v (ix2 b l)) := by
  pointwise [soft]
  exact if_neg (not_not.mpr rfl)

theorem step_apply (a2 : FVec Ideal S5168x128 .f32) (a8 : FVec Ideal S32 .f32) (b : Fin 48) (l : Fin 32) :
    step a2 a8 (ix2 b l) = a2 (ix2 ⟨b.val, by omega⟩ ⟨l.val, by omega⟩) + a8 (ix1 l) := by
  pointwise [step]

/-- The gather of the three rows at an index: the state of the sequence's slot, when the slot is a state's number. -/
theorem gather3_apply (x : FVec Ideal S76x3x2560 .bf16) (idx : IVec S48x1 32) (b : Fin 48) (r : Fin 3) (l : Fin 2560)
    (h : (idx (ix2 b 0)).toInt.toNat < 76) :
    Host.gather gather_S76x3x2560_S48x1_S48x3x2560_12_0_n_n_0_1_132560 x idx (ix3 b r l) = x (ix3 ⟨(idx (ix2 b 0)).toInt.toNat, h⟩ r l) := by
  show x (gather_S76x3x2560_S48x1_S48x3x2560_12_0_n_n_0_1_132560.operandIdx (ix3 b r l) idx) = _
  congr 1
  funext a
  apply Fin.ext
  show GatherDims.start _ (ix3 b r l) idx a + GatherDims.batchCoord _ (ix3 b r l) a + GatherDims.offCoord _ (ix3 b r l) a = _
  rw [GatherDims.batchCoord_eq_zero _ _ _ (by show a ∉ []; simp)]
  match a with
  | ⟨0, _⟩ =>
    rw [GatherDims.offCoord_eq_zero _ _ _ (by rw [GatherDims.mem_sKept]; rintro ⟨h0, _⟩; exact h0 (by show _ ∈ [_]; simp))]
    unfold GatherDims.start
    rw [dif_pos (by show _ ∈ [_]; simp)]
    have e : GatherDims.siIdx gather_S76x3x2560_S48x1_S48x3x2560_12_0_n_n_0_1_132560 (ix3 b r l) ⟨0, by show 0 < 1; omega⟩ = ix2 b 0 := by
      funext a
      match a with
      | ⟨0, _⟩ => rfl
      | ⟨1, _⟩ => rfl
    show min (idx (GatherDims.siIdx _ (ix3 b r l) ⟨0, _⟩)).toInt.toNat (76 - 1) + 0 + 0 = (idx (ix2 b 0)).toInt.toNat
    rw [e]; omega
  | ⟨1, _⟩ =>
    unfold GatherDims.start
    rw [dif_neg (by show _ ∉ [_]; simp)]
    show 0 + 0 + GatherDims.offCoord _ (ix3 b r l) _ = r.val
    rw [Nat.zero_add]
    rfl
  | ⟨2, _⟩ =>
    unfold GatherDims.start
    rw [dif_neg (by show _ ∉ [_]; simp)]
    show 0 + 0 + GatherDims.offCoord _ (ix3 b r l) _ = l.val
    rw [Nat.zero_add]
    rfl

/-- The gather of the states at an index, likewise. -/
theorem gather4_apply (x : FVec Ideal S76x32x64x256 .f32) (idx : IVec S48x1 32) (b : Fin 48) (i : Fin 32) (p : Fin 64) (n : Fin 256)
    (h : (idx (ix2 b 0)).toInt.toNat < 76) :
    Host.gather gather_S76x32x64x256_S48x1_S48x32x64x256_123_0_n_n_0_1_13264256 x idx (ix4 b i p n) = x (ix4 ⟨(idx (ix2 b 0)).toInt.toNat, h⟩ i p n) := by
  show x (gather_S76x32x64x256_S48x1_S48x32x64x256_123_0_n_n_0_1_13264256.operandIdx (ix4 b i p n) idx) = _
  congr 1
  funext a
  apply Fin.ext
  show GatherDims.start _ (ix4 b i p n) idx a + GatherDims.batchCoord _ (ix4 b i p n) a + GatherDims.offCoord _ (ix4 b i p n) a = _
  rw [GatherDims.batchCoord_eq_zero _ _ _ (by show a ∉ []; simp)]
  match a with
  | ⟨0, _⟩ =>
    rw [GatherDims.offCoord_eq_zero _ _ _ (by rw [GatherDims.mem_sKept]; rintro ⟨h0, _⟩; exact h0 (by show _ ∈ [_]; simp))]
    unfold GatherDims.start
    rw [dif_pos (by show _ ∈ [_]; simp)]
    have e : GatherDims.siIdx gather_S76x32x64x256_S48x1_S48x32x64x256_123_0_n_n_0_1_13264256 (ix4 b i p n) ⟨0, by show 0 < 1; omega⟩ = ix2 b 0 := by
      funext a
      match a with
      | ⟨0, _⟩ => rfl
      | ⟨1, _⟩ => rfl
    show min (idx (GatherDims.siIdx _ (ix4 b i p n) ⟨0, _⟩)).toInt.toNat (76 - 1) + 0 + 0 = (idx (ix2 b 0)).toInt.toNat
    rw [e]; omega
  | ⟨1, _⟩ =>
    unfold GatherDims.start
    rw [dif_neg (by show _ ∉ [_]; simp)]
    show 0 + 0 + GatherDims.offCoord _ (ix4 b i p n) _ = i.val
    rw [Nat.zero_add]
    rfl
  | ⟨2, _⟩ =>
    unfold GatherDims.start
    rw [dif_neg (by show _ ∉ [_]; simp)]
    show 0 + 0 + GatherDims.offCoord _ (ix4 b i p n) _ = p.val
    rw [Nat.zero_add]
    rfl
  | ⟨3, _⟩ =>
    unfold GatherDims.start
    rw [dif_neg (by show _ ∉ [_]; simp)]
    show 0 + 0 + GatherDims.offCoord _ (ix4 b i p n) _ = n.val
    rw [Nat.zero_add]
    rfl

/-- The index of a sequence is its slot, when the slot is a state's number. -/
theorem index_apply (a0 : IVec S59 32) (b : Fin 48) (hs : (a0 (ix1 ⟨b.val, by omega⟩)).toNat < 76) :
    index a0 (ix2 b 0) = a0 (ix1 ⟨b.val, by omega⟩) := by
  pointwise [index, slots]
  generalize a0 (ix1 ⟨b.val, by omega⟩) = w at hs ⊢
  have hn : IntOp.cmpi CmpIPredicate.slt w 0#32 = 0#1 := by
    have := StableHlo.Predicate.slt_iff_toNat (a := w) (b := 0#32) (by omega) (by decide)
    rw [show (0#32).toNat = 0 from rfl] at this
    revert this
    generalize IntOp.cmpi CmpIPredicate.slt w 0#32 = p
    intro this
    have hp : p ≠ 1#1 := fun hp => absurd (this.1 hp) (by omega)
    have d : ∀ q : BitVec 1, q ≠ 1#1 → q = 0#1 := by decide
    exact d p hp
  rw [hn]; rfl

/-- The same as a number. -/
theorem index_val (a0 : IVec S59 32) (b : Fin 48) (s : Fin 76) (hs : (a0 (ix1 ⟨b.val, by omega⟩)).toNat = s.val) :
    (index a0 (ix2 b 0)).toInt.toNat = s.val := by
  rw [index_apply a0 b (by omega), StableHlo.Predicate.toInt_eq_toNat_of_lt (by omega)]
  exact hs

/-- The gathered rows are the state's. -/
theorem rows_apply (a0 : IVec S59 32) (x : FVec Ideal S76x3x2560 .bf16) (b : Fin 48) (r : Fin 3) (l : Fin 2560) (s : Fin 76)
    (hs : (a0 (ix1 ⟨b.val, by omega⟩)).toNat = s.val) :
    Host.gather gather_S76x3x2560_S48x1_S48x3x2560_12_0_n_n_0_1_132560 x (index a0) (ix3 b r l) = x (ix3 s r l) := by
  have e := index_val a0 b s hs
  rw [gather3_apply _ _ _ _ _ (by rw [e]; exact s.isLt)]
  exact congrArg (fun k => x (ix3 k r l)) (Fin.ext e)

theorem conv_apply (a0 : IVec S59 32) (a1 : FVec Ideal S5168x2560 .f32) (a3 : FVec Ideal S76x3x2560 .bf16) (a6 : FVec Ideal S4x2560 .f32)
    (a7 : FVec Ideal S2560 .f32) (b : Fin 48) (l : Fin 2560) (s : Fin 76) (hs : (a0 (ix1 ⟨b.val, by omega⟩)).toNat = s.val) :
    act (conv a0 a1 a3 a6 a7) (ix2 b l) = xcE a1 a3 a6 a7 s b l := by
  rw [act_apply]
  unfold xcE convE
  congr 1
  have hG := fun r => rows_apply a0 a3 b r l s hs
  revert hG
  unfold conv
  generalize Host.gather _ a3 _ = G
  intro hG
  pointwise []
  simp only [Fin.sum_univ_one, hG]

theorem dt_apply (a2 : FVec Ideal S5168x128 .f32) (a8 : FVec Ideal S32 .f32) (b : Fin 48) (h : Fin 32) :
    soft (step a2 a8) (ix2 b h) = dtE a2 a8 b h := by
  rw [soft_apply, step_apply]
  rfl

theorem states_apply (a0 : IVec S59 32) (k : FVec Ideal S76x32x64x256 .f32) (a5 : FVec Ideal S76x32x8 .f32) (b : Fin 48) (h : Fin 32) (p : Fin 64)
    (n : Fin 256) (s : Fin 76) (hs : (a0 (ix1 ⟨b.val, by omega⟩)).toNat = s.val) :
    states a0 k a5 (ix4 b h p n) = k (ix4 s h p n) * a5 (ix3 s h ⟨n.val / 32, by omega⟩) := by
  have e := index_val a0 b s hs
  unfold states
  rw [gather4_apply _ _ _ _ _ _ (by rw [e]; exact s.isLt)]
  rw [show (⟨(index a0 (ix2 b 0)).toInt.toNat, _⟩ : Fin 76) = s from Fin.ext e]
  pointwise []

theorem out_apply (xc : FVec Ideal S48x2560 .f32) (st : FVec Ideal S48x32x64x256 .f32) (a10 : FVec Ideal S32 .f32) (b : Fin 48) (h : Fin 32) (p : Fin 64) :
    out xc st a10 (ix3 b 0 ⟨64 * h.val + p.val, by omega⟩)
      = (∑ x : Fin 256, st (ix4 b h p x) * xc (ix2 b ⟨2304 + x.val, by omega⟩)) + a10 (ix1 h) * xc (ix2 b ⟨64 * h.val + p.val, by omega⟩) := by
  pointwise [out, xs]
  exact congrArg (fun q : Fin 2560 => (∑ x : Fin 256, st (ix4 b h p x) * xc (ix2 b ⟨2304 + x.val, by omega⟩)) + a10 (ix1 h) * xc (ix2 b q))
    (Fin.ext (show h.val * 64 + p.val = 64 * h.val + p.val by omega))

theorem next_apply (xc : FVec Ideal S48x2560 .f32) (dt : FVec Ideal S48x32 .f32) (st : FVec Ideal S48x32x64x256 .f32) (a9 : FVec Ideal S32 .f32)
    (b : Fin 48) (h : Fin 32) (p : Fin 64) (n : Fin 256) :
    next xc dt st a9 (ix4 b h p n) = Ideal.exp (dt (ix2 b h) * -Ideal.exp (a9 (ix1 h))) * st (ix4 b h p n)
      + dt (ix2 b h) * xc (ix2 b ⟨h.val * 64 + p.val, by omega⟩) * xc (ix2 b ⟨2048 + n.val, by omega⟩) := by
  pointwise [next, xs]

/-- The reference's result at an index. -/
theorem ref_apply (a0 : IVec S59 32) (a1 : FVec Ideal S5168x2560 .f32) (a2 : FVec Ideal S5168x128 .f32) (a3 : FVec Ideal S76x3x2560 .bf16)
    (k : FVec Ideal S76x32x64x256 .f32) (a5 : FVec Ideal S76x32x8 .f32) (a6 : FVec Ideal S4x2560 .f32) (a7 : FVec Ideal S2560 .f32)
    (a8 a9 a10 : FVec Ideal S32 .f32) (b : Fin 48) (h : Fin 32) (p : Fin 64) (s : Fin 76) (hs : (a0 (ix1 ⟨b.val, by omega⟩)).toNat = s.val) :
    last (slots a0) (act (conv a0 a1 a3 a6 a7)) (soft (step a2 a8)) k a5 a9 a10 (ix3 b 0 ⟨64 * h.val + p.val, by omega⟩)
      = yE a1 a2 a3 k a5 a6 a7 a8 a9 a10 s b h p := by
  show out _ (next _ _ (states a0 k a5) a9) a10 _ = _
  rw [out_apply]
  unfold yE outE
  refine congrArg₂ (· + ·) (Finset.sum_congr rfl fun n _ => ?_) ?_
  · rw [next_apply, states_apply a0 k a5 b h p n s hs, dt_apply, conv_apply a0 a1 a3 a6 a7 b _ s hs, conv_apply a0 a1 a3 a6 a7 b _ s hs, conv_apply a0 a1 a3 a6 a7 b _ s hs]
    rw [show (⟨h.val * 64 + p.val, by omega⟩ : Fin 2560) = ⟨64 * h.val + p.val, by omega⟩ from Fin.ext (by show h.val * 64 + p.val = 64 * h.val + p.val; omega)]
    rw [mul_comm (dtE a2 a8 b h) (xcE _ _ _ _ _ _ _)]
  · rw [conv_apply a0 a1 a3 a6 a7 b _ s hs]

end Cert.SsmRefIdeal.Y
end
-- ==== Proof.SsmRefScales.lean ====
module

public import proofs.«01_k».proof.Proof.SsmElem
public import proofs.«01_k».proof.Proof.SsmCodes

/-!
The scales and codes of the decode reference: the greatest magnitude of every block of 64 by 32 elements of the new states
(`peaks`), the power of two above its share of the largest code (`scales`), the states over these, clipped (`codesOf`), and
their values at an index.
-/

@[expose] public section

set_option maxRecDepth 16384

noncomputable section

namespace Cert.SsmIdeal.Y

open Cert.SsmIdeal
open Idealize.ShloMosaic Idealize.ShloMosaic.TcCoe Idealize.ShloMosaic.Tactic

/-- One element of the new state of sequence `b`, whose old state is the one numbered `s`. -/
def newE (a1 : FVec Ideal S5168x2560 .f32) (a2 : FVec Ideal S5168x128 .f32) (a3 : FVec Ideal S76x3x2560 .bf16) (a4 : FVec Ideal S76x32x64x256 .fp8e4m3)
    (a5 : FVec Ideal S76x32x8 .f32) (a6 : FVec Ideal S4x2560 .f32) (a7 : FVec Ideal S2560 .f32) (a8 a9 : FVec Ideal S32 .f32)
    (s : Fin 76) (b : Fin 48) (h : Fin 32) (p : Fin 64) (n : Fin 256) : EReal :=
  stateE (Ideal.exp (dtE a2 a8 b h * -Ideal.exp (a9 (ix1 h)))) (dtE a2 a8 b h) (xcE a1 a3 a6 a7 s b ⟨64 * h.val + p.val, by omega⟩)
    (a4 (ix4 s h p n) * a5 (ix3 s h ⟨n.val / 32, by omega⟩)) (xcE a1 a3 a6 a7 s b ⟨2048 + n.val, by omega⟩)

end Cert.SsmIdeal.Y

namespace Cert.SsmRefIdeal.Y

open Cert.SsmRefIdeal Cert.SsmRefIdeal.Gen
open Idealize.ShloMosaic Idealize.ShloMosaic.TcCoe Idealize.ShloMosaic.Tactic
open Cert.SsmIdeal.Y (softplus convE xcE dtE maxE expE scaleE invE codeE stateE newE)

section
variable {F : FTy → Type} [FloatOps F]

/-- The greatest magnitude of every block. -/
def peaks (st : FVec F S48x32x64x256 .f32) : FVec F S48x32x8 .f32 :=
  Host.reduce FloatOps.maximumf (Host.reduce FloatOps.maximumf (Host.absf (shapeCast S48x32x64x8x32 st shapeCasts_S48x32x64x256_S48x32x64x8x32))
    (constant S_ .f32 0xFF800000#32) reducesTo_S48x32x64x8x32_S48x32x8x32_d2 h_S_) (constant S_ .f32 0xFF800000#32) reducesTo_S48x32x8x32_S48x32x8_d3 h_S_

/-- A number, at every block. -/
def all (w : BitVec 32) : FVec F S48x32x8 .f32 := broadcastInDim S48x32x8 ![] bcast_S_S48x32x8 (constant S_ .f32 w)

/-- The logarithm of two. -/
def logTwo : FVec F S48x32x8 .f32 := Host.log (all 0x40000000#32)

/-- A magnitude's share of the largest code. -/
def share (a : FVec F S48x32x8 .f32) : FVec F S48x32x8 .f32 := mulf a (all 0x3B124925#32)

/-- The exponent of the least power of two above. -/
def above (v : FVec F S48x32x8 .f32) : FVec F S48x32x8 .f32 := addf (Host.floor (Host.divf (Host.log v) logTwo)) (all 0x3F800000#32)

/-- The exponents of the scales of the blocks with the greatest magnitudes `a`. -/
def exps (a : FVec F S48x32x8 .f32) : FVec F S48x32x8 .f32 :=
  select (cmpf .oeq a (all 0x00000000#32)) (all 0x00000000#32)
    (select (cmpf .oeq (share a) (all 0x00000000#32)) (all 0x00000000#32) (above (share a)))

/-- The scales of the blocks with the greatest magnitudes `a`. -/
def scales (a : FVec F S48x32x8 .f32) : FVec F S48x32x8 .f32 := Host.exp (mulf (exps a) logTwo)

/-- Their reciprocals. -/
def invs (a : FVec F S48x32x8 .f32) : FVec F S48x32x8 .f32 := Host.exp (mulf (Host.negf (exps a)) logTwo)

/-- The states by blocks. -/
def blocks (st : FVec F S48x32x64x256 .f32) : FVec F S48x32x64x8x32 .f32 := shapeCast S48x32x64x8x32 st shapeCasts_S48x32x64x256_S48x32x64x8x32

/-- The codes of the states `hb`, by blocks with the greatest magnitudes `a`. -/
def codesOf (hb : FVec F S48x32x64x8x32 .f32) (a : FVec F S48x32x8 .f32) : FVec F S48x32x64x256 .fp8e4m3 :=
  shapeCast S48x32x64x256 (Host.convertf .fp8e4m3 (minimumf (broadcastInDim S48x32x64x8x32 ![] bcast_S_S48x32x64x8x32 (constant S_ .f32 0x43E00000#32))
    (maximumf (broadcastInDim S48x32x64x8x32 ![] bcast_S_S48x32x64x8x32 (constant S_ .f32 0xC3E00000#32))
      (mulf hb (broadcastInDim S48x32x64x8x32 ![0, 1, 2, 3, 4] bcast_S48x32x1x8x1_S48x32x64x8x32_0_1_2_3_4
        (broadcastInDim S48x32x1x8x1 ![0, 1, 3] bcast_S48x32x8_S48x32x1x8x1_0_1_3 (invs a))))))) shapeCasts_S48x32x64x8x32_S48x32x64x256

/-! ## The result is these steps' -/

set_option maxHeartbeats 8000000 in
theorem after_peaks (V : Valuation τ sig (Elt F)) : StableHlo.after hostOps1_4 V (Proc.devRef .tc main_v70)
    = peaks (fresh (V (Proc.devRef .tc main_v1)) (V (Proc.devRef .tc main_v20)) (V (Proc.devRef .tc main_v25)) (V (Proc.devRef .tc main_v0))
        (V (Proc.devRef .tc main_arg5)) (V (Proc.devRef .tc main_arg9))) := by
  after_results_simp
  rfl

set_option maxHeartbeats 8000000 in
theorem after_blocks (V : Valuation τ sig (Elt F)) : StableHlo.after hostOps1_4 V (Proc.devRef .tc main_v67)
    = blocks (fresh (V (Proc.devRef .tc main_v1)) (V (Proc.devRef .tc main_v20)) (V (Proc.devRef .tc main_v25)) (V (Proc.devRef .tc main_v0))
        (V (Proc.devRef .tc main_arg5)) (V (Proc.devRef .tc main_arg9))) := by
  after_results_simp
  rfl

set_option maxHeartbeats 8000000 in
theorem after_tail (V : Valuation τ sig (Elt F)) : StableHlo.after hostOps1_10 (StableHlo.after hostOps1_9 (StableHlo.after hostOps1_8 (StableHlo.after hostOps1_7
      (StableHlo.after hostOps1_6 (StableHlo.after hostOps1_5 (StableHlo.after hostOps1_4 V)))))) (Proc.devRef .tc main_v96)
    = scales (StableHlo.after hostOps1_4 V (Proc.devRef .tc main_v70)) := by
  after_results_simp
  rfl

set_option maxHeartbeats 8000000 in
theorem after_codes (V : Valuation τ sig (Elt F)) : StableHlo.after hostOps1_10 (StableHlo.after hostOps1_9 (StableHlo.after hostOps1_8 (StableHlo.after hostOps1_7
      (StableHlo.after hostOps1_6 (StableHlo.after hostOps1_5 (StableHlo.after hostOps1_4 V)))))) (Proc.devRef .tc main_v94)
    = codesOf (StableHlo.after hostOps1_4 V (Proc.devRef .tc main_v67)) (StableHlo.after hostOps1_4 V (Proc.devRef .tc main_v70)) := by
  after_results_simp
  rfl

end

theorem peaks_apply (st : FVec Ideal S48x32x64x256 .f32) (b : Fin 48) (h : Fin 32) (g : Fin 8) :
    peaks st (ix3 b h g) = maxE fun j : Fin 32 => maxE fun p : Fin 64 => FloatOps.absf (F := Ideal) (φ := .f32) (st (ix4 b h p ⟨g.val * 32 + j.val, by omega⟩)) := by
  pointwise [peaks]
  rfl

theorem scales_apply (a : FVec Ideal S48x32x8 .f32) (b : Fin 48) (h : Fin 32) (g : Fin 8) : scales a (ix3 b h g) = scaleE (a (ix3 b h g)) := by
  unfold scaleE expE
  pointwise [scales, exps, above, share, logTwo, all]
  by_cases e : a (ix3 b h g) = 0
  · rw [if_pos e, e, if_pos (zero_mul _), zero_mul]
  · rw [if_neg e]

theorem invs_apply (a : FVec Ideal S48x32x8 .f32) (b : Fin 48) (h : Fin 32) (g : Fin 8) : invs a (ix3 b h g) = invE (a (ix3 b h g)) := by
  unfold invE expE
  pointwise [invs, exps, above, share, logTwo, all]
  by_cases e : a (ix3 b h g) = 0
  · rw [if_pos e, e, if_pos (zero_mul _)]
  · rw [if_neg e]

theorem codesOf_apply (st : FVec Ideal S48x32x64x256 .f32) (a : FVec Ideal S48x32x8 .f32) (b : Fin 48) (h : Fin 32) (p : Fin 64) (n : Fin 256) :
    codesOf (blocks st) a (ix4 b h p n) = codeE (st (ix4 b h p n) * invE (a (ix3 b h ⟨n.val / 32, by omega⟩))) := by
  rw [← invs_apply]
  unfold codeE
  pointwise [codesOf, blocks]

/-- The new states at an index. -/
theorem fresh_apply (a0 : IVec S59 32) (a1 : FVec Ideal S5168x2560 .f32) (a2 : FVec Ideal S5168x128 .f32) (a3 : FVec Ideal S76x3x2560 .bf16)
    (k : FVec Ideal S76x32x64x256 .f32) (a5 : FVec Ideal S76x32x8 .f32) (a6 : FVec Ideal S4x2560 .f32) (a7 : FVec Ideal S2560 .f32)
    (a8 a9 : FVec Ideal S32 .f32) (b : Fin 48) (h : Fin 32) (p : Fin 64) (n : Fin 256) (s : Fin 76) (hs : (a0 (ix1 ⟨b.val, by omega⟩)).toNat = s.val) :
    fresh (slots a0) (act (conv a0 a1 a3 a6 a7)) (soft (step a2 a8)) k a5 a9 (ix4 b h p n) = newE a1 a2 a3 k a5 a6 a7 a8 a9 s b h p n := by
  show next _ _ (states a0 k a5) a9 _ = _
  unfold newE stateE
  rw [next_apply, states_apply a0 k a5 b h p n s hs, dt_apply, conv_apply a0 a1 a3 a6 a7 b _ s hs, conv_apply a0 a1 a3 a6 a7 b _ s hs]
  rw [show (⟨h.val * 64 + p.val, by omega⟩ : Fin 2560) = ⟨64 * h.val + p.val, by omega⟩ from Fin.ext (by show h.val * 64 + p.val = 64 * h.val + p.val; omega)]
  rw [mul_comm (dtE a2 a8 b h) (xcE _ _ _ _ _ _ _)]

/-- The reference's scales at an index. -/
theorem scales_ref (a0 : IVec S59 32) (a1 : FVec Ideal S5168x2560 .f32) (a2 : FVec Ideal S5168x128 .f32) (a3 : FVec Ideal S76x3x2560 .bf16)
    (k : FVec Ideal S76x32x64x256 .f32) (a5 : FVec Ideal S76x32x8 .f32) (a6 : FVec Ideal S4x2560 .f32) (a7 : FVec Ideal S2560 .f32)
    (a8 a9 : FVec Ideal S32 .f32) (b : Fin 48) (h : Fin 32) (g : Fin 8) (s : Fin 76) (hs : (a0 (ix1 ⟨b.val, by omega⟩)).toNat = s.val) :
    scales (peaks (fresh (slots a0) (act (conv a0 a1 a3 a6 a7)) (soft (step a2 a8)) k a5 a9)) (ix3 b h g)
      = scaleE (maxE fun j : Fin 32 => maxE fun p : Fin 64 => FloatOps.absf (F := Ideal) (φ := .f32) (newE a1 a2 a3 k a5 a6 a7 a8 a9 s b h p ⟨g.val * 32 + j.val, by omega⟩)) := by
  rw [scales_apply, peaks_apply]
  exact congrArg scaleE (congrArg maxE (funext fun j => congrArg maxE (funext fun p => congrArg (FloatOps.absf (F := Ideal) (φ := .f32))
    (fresh_apply a0 a1 a2 a3 k a5 a6 a7 a8 a9 b h p _ s hs))))

/-- The reference's codes at an index. -/
theorem codes_ref (a0 : IVec S59 32) (a1 : FVec Ideal S5168x2560 .f32) (a2 : FVec Ideal S5168x128 .f32) (a3 : FVec Ideal S76x3x2560 .bf16)
    (k : FVec Ideal S76x32x64x256 .f32) (a5 : FVec Ideal S76x32x8 .f32) (a6 : FVec Ideal S4x2560 .f32) (a7 : FVec Ideal S2560 .f32)
    (a8 a9 : FVec Ideal S32 .f32) (b : Fin 48) (h : Fin 32) (p : Fin 64) (n : Fin 256) (s : Fin 76) (hs : (a0 (ix1 ⟨b.val, by omega⟩)).toNat = s.val) :
    codesOf (blocks (fresh (slots a0) (act (conv a0 a1 a3 a6 a7)) (soft (step a2 a8)) k a5 a9))
        (peaks (fresh (slots a0) (act (conv a0 a1 a3 a6 a7)) (soft (step a2 a8)) k a5 a9)) (ix4 b h p n)
      = codeE (newE a1 a2 a3 k a5 a6 a7 a8 a9 s b h p n * invE (maxE fun j : Fin 32 => maxE fun q : Fin 64 =>
          FloatOps.absf (F := Ideal) (φ := .f32) (newE a1 a2 a3 k a5 a6 a7 a8 a9 s b h q ⟨n.val / 32 * 32 + j.val, by omega⟩))) := by
  rw [codesOf_apply, peaks_apply]
  exact congrArg codeE (congr (congrArg HMul.hMul (fresh_apply a0 a1 a2 a3 k a5 a6 a7 a8 a9 b h p n s hs))
    (congrArg invE (congrArg maxE (funext fun j => congrArg maxE (funext fun q => congrArg (FloatOps.absf (F := Ideal) (φ := .f32))
      (fresh_apply a0 a1 a2 a3 k a5 a6 a7 a8 a9 b h q _ s hs))))))

end Cert.SsmRefIdeal.Y
end
-- ==== Proof.SsmRefRun.lean ====
module

public import proofs.«01_k».proof.Proof.SsmRefScales
public import Idealize.ShloMosaic.Lib.Pipeline.Value

/-!
The reference's run: the array of codes as numbers, which its one grid point writes, then the lines after it, one stretch
after the other, give the outputs, codes and scales as the functions `last`, `codesOf` and `scales` of the arguments (`run`).
-/

@[expose] public section

set_option maxRecDepth 16384

noncomputable section

namespace Cert.SsmRefIdeal.Y

open Cert.SsmRefIdeal Cert.SsmRefIdeal.Gen
open Idealize.ShloMosaic Idealize.ShloMosaic.TcCoe Idealize.ShloMosaic.Tactic Idealize.SL.Sem
open Idealize.ShloMosaic.Pipeline (Dat)

variable {F : FTy → Type} [FloatOps F]
variable (m : (ℓ : Loc nD τ sig) → Buf (Elt F) ℓ) (ρ : Dev nD → PrngReg)

/-! ## The codes as numbers -/

theorem zeros : (![0, 0, 0, 0] : Fin 4 → Nat) = fun _ => 0 := funext fun a => by fin_cases a <;> rfl

theorem idx0 : ∀ t : Fin cfg0.N, ∀ a, win0_0.index t a = 0 := (by decide +kernel : ∀ t : Fin grid0.N, ∀ a, win0_0.index t a = 0)
theorem idx1 : ∀ t : Fin cfg0.N, ∀ a, win0_1.index t a = 0 := (by decide +kernel : ∀ t : Fin grid0.N, ∀ a, win0_1.index t a = 0)

theorem emb0 (t : Fin cfg0.N) (j : S76x32x64x256.Idx) : ((cfg0.win 0).blk t).view.emb j = j := by
  funext a; apply Fin.ext
  have h := idx0 t a
  show win0_0.index t a * S76x32x64x256.size a + 1 * (j a).val = (j a).val
  rw [h]; omega

theorem emb1 (t : Fin cfg0.N) (j : S76x32x64x256.Idx) : ((cfg0.win 1).blk t).view.emb j = j := by
  funext a; apply Fin.ext
  have h := idx1 t a
  show win0_1.index t a * S76x32x64x256.size a + 1 * (j a).val = (j a).val
  rw [h]; omega

theorem iblk0 (c : Dev nD) (t : Fin cfg0.N) : iblk m c 0 t = V m c main_arg4 := by
  funext j; show V m c main_arg4 (((cfg0.win 0).blk t).view.emb j) = V m c main_arg4 j; rw [emb0]

theorem out_eq (a4 : Vec F S76x32x64x256 .fp8e4m3) : out0_1 (F := F) a4 = k0_pay1 a4 := by
  unfold out0_1
  rw [View.canon_unit_zero zeros, View.ld_unit_zero (S := S76x32x64x256) zeros _ a4]

theorem flushed (c : Dev nD) (t : Fin cfg0.N) :
    (dats m 0 c).flushed 1 t = ((cfg0.win 1).blk t).view.read (Elt F) (k0_pay1 (V m c main_arg4)) := by
  show (cfg0.win 1).cut (grid0.coords t) ((dats m 0 c).after 1 t) = _
  rw [after0_1, out_eq, iblk0]
  funext j
  show k0_pay1 (V m c main_arg4) j = k0_pay1 (V m c main_arg4) (((cfg0.win 1).blk t).view.emb j)
  rw [emb1]

theorem covered (i : S76x32x64x256.Idx) : ∃ t : Fin cfg0.N, (cfg0.win 1).flush t = true ∧ i ∈ ((cfg0.win 1).blk t).view.set :=
  ⟨(⟨0, by decide⟩ : Fin cfg0.N), flush0_1 _, by have h := ((cfg0.win 1).blk (⟨0, by decide⟩ : Fin cfg0.N)).view.emb_mem_set i; rwa [emb1] at h⟩

/-- The array that the grid point writes. -/
theorem final (c : Dev nD) : (dats m 0 c).arrAt 1 cfg0.N = k0_pay1 (m ((c : Thread nD τ).loc main_arg4)) :=
  ((dats m 0 c).arrAt_eq_of_cover 1 (k0_pay1 (V m c main_arg4)) (fun t _ => flushed m c t) covered).trans (by rw [V_main_arg4])

/-! ## The lines after it -/

/-- What the lines after the grid point find. -/
abbrev entry (c : Dev nD) : Valuation τ sig (Elt F) := Pipeline.withArrays cfg0.spec c (V0 m c) fun w => (dats m 0 c).arrAt w cfg0.N

theorem entry_arg (c : Dev nD) (b : Ref sig .tc) (hb : ∀ w, Pipeline.arrRef spec0 w ≠ b) :
    entry m c (Proc.devRef .tc b) = m ((c : Thread nD τ).loc b) :=
  Pipeline.withArrays_of_ne spec0 c (V0 m c) _ b hb

theorem entry_codes (c : Dev nD) : entry m c (Proc.devRef .tc main_v0) = k0_pay1 (m ((c : Thread nD τ).loc main_arg4)) :=
  (Pipeline.withArrays_arr spec0 launch0.win.arr_inj c (V0 m c) (fun w => (dats m 0 c).arrAt w cfg0.N) 1).trans (final m c)

/-- The outputs of the arguments. -/
abbrev R (c : Dev nD) : FVec F S48x1x2048 .f32 :=
  last (slots (m ((c : Thread nD τ).loc main_arg0)))
    (act (conv (m ((c : Thread nD τ).loc main_arg0)) (m ((c : Thread nD τ).loc main_arg1)) (m ((c : Thread nD τ).loc main_arg3))
      (m ((c : Thread nD τ).loc main_arg6)) (m ((c : Thread nD τ).loc main_arg7))))
    (soft (step (m ((c : Thread nD τ).loc main_arg2)) (m ((c : Thread nD τ).loc main_arg8))))
    (k0_pay1 (m ((c : Thread nD τ).loc main_arg4))) (m ((c : Thread nD τ).loc main_arg5)) (m ((c : Thread nD τ).loc main_arg9))
    (m ((c : Thread nD τ).loc main_arg10))

/-- The scales of the arguments. -/
abbrev R2 (c : Dev nD) : FVec F S48x32x8 .f32 :=
  scales (peaks (fresh (slots (m ((c : Thread nD τ).loc main_arg0)))
    (act (conv (m ((c : Thread nD τ).loc main_arg0)) (m ((c : Thread nD τ).loc main_arg1)) (m ((c : Thread nD τ).loc main_arg3))
      (m ((c : Thread nD τ).loc main_arg6)) (m ((c : Thread nD τ).loc main_arg7))))
    (soft (step (m ((c : Thread nD τ).loc main_arg2)) (m ((c : Thread nD τ).loc main_arg8))))
    (k0_pay1 (m ((c : Thread nD τ).loc main_arg4))) (m ((c : Thread nD τ).loc main_arg5)) (m ((c : Thread nD τ).loc main_arg9))))

/-- The codes of the arguments. -/
abbrev R3 (c : Dev nD) : FVec F S48x32x64x256 .fp8e4m3 :=
  codesOf (blocks (fresh (slots (m ((c : Thread nD τ).loc main_arg0)))
    (act (conv (m ((c : Thread nD τ).loc main_arg0)) (m ((c : Thread nD τ).loc main_arg1)) (m ((c : Thread nD τ).loc main_arg3))
      (m ((c : Thread nD τ).loc main_arg6)) (m ((c : Thread nD τ).loc main_arg7))))
    (soft (step (m ((c : Thread nD τ).loc main_arg2)) (m ((c : Thread nD τ).loc main_arg8))))
    (k0_pay1 (m ((c : Thread nD τ).loc main_arg4))) (m ((c : Thread nD τ).loc main_arg5)) (m ((c : Thread nD τ).loc main_arg9))))
    (peaks (fresh (slots (m ((c : Thread nD τ).loc main_arg0)))
    (act (conv (m ((c : Thread nD τ).loc main_arg0)) (m ((c : Thread nD τ).loc main_arg1)) (m ((c : Thread nD τ).loc main_arg3))
      (m ((c : Thread nD τ).loc main_arg6)) (m ((c : Thread nD τ).loc main_arg7))))
    (soft (step (m ((c : Thread nD τ).loc main_arg2)) (m ((c : Thread nD τ).loc main_arg8))))
    (k0_pay1 (m ((c : Thread nD τ).loc main_arg4))) (m ((c : Thread nD τ).loc main_arg5)) (m ((c : Thread nD τ).loc main_arg9))))

/-- What the first four stretches leave. -/
abbrev V4 (c : Dev nD) : Valuation τ sig (Elt F) :=
  StableHlo.after hostOps1_3 (StableHlo.after hostOps1_2 (StableHlo.after hostOps1_1 (StableHlo.after hostOps1 (entry m c))))

section
variable (r : Ref sig .tc) (W : Valuation τ sig (Elt F))
theorem p1 (h : r ∉ hostOps1_W) : StableHlo.after hostOps1 W (Proc.devRef .tc r) = W (Proc.devRef .tc r) :=
  StableHlo.after_of_writes_sub (r := r) hostOps1 W hostOps1_writes h
theorem p2 (h : r ∉ hostOps1_1_W) : StableHlo.after hostOps1_1 W (Proc.devRef .tc r) = W (Proc.devRef .tc r) :=
  StableHlo.after_of_writes_sub (r := r) hostOps1_1 W hostOps1_1_writes h
theorem p3 (h : r ∉ hostOps1_2_W) : StableHlo.after hostOps1_2 W (Proc.devRef .tc r) = W (Proc.devRef .tc r) :=
  StableHlo.after_of_writes_sub (r := r) hostOps1_2 W hostOps1_2_writes h
theorem p4 (h : r ∉ hostOps1_3_W) : StableHlo.after hostOps1_3 W (Proc.devRef .tc r) = W (Proc.devRef .tc r) :=
  StableHlo.after_of_writes_sub (r := r) hostOps1_3 W hostOps1_3_writes h
theorem p6 (h : r ∉ hostOps1_5_W) : StableHlo.after hostOps1_5 W (Proc.devRef .tc r) = W (Proc.devRef .tc r) :=
  StableHlo.after_of_writes_sub (r := r) hostOps1_5 W hostOps1_5_writes h
theorem p7 (h : r ∉ hostOps1_6_W) : StableHlo.after hostOps1_6 W (Proc.devRef .tc r) = W (Proc.devRef .tc r) :=
  StableHlo.after_of_writes_sub (r := r) hostOps1_6 W hostOps1_6_writes h
theorem p8 (h : r ∉ hostOps1_7_W) : StableHlo.after hostOps1_7 W (Proc.devRef .tc r) = W (Proc.devRef .tc r) :=
  StableHlo.after_of_writes_sub (r := r) hostOps1_7 W hostOps1_7_writes h
theorem p9 (h : r ∉ hostOps1_8_W) : StableHlo.after hostOps1_8 W (Proc.devRef .tc r) = W (Proc.devRef .tc r) :=
  StableHlo.after_of_writes_sub (r := r) hostOps1_8 W hostOps1_8_writes h
theorem p10 (h : r ∉ hostOps1_9_W) : StableHlo.after hostOps1_9 W (Proc.devRef .tc r) = W (Proc.devRef .tc r) :=
  StableHlo.after_of_writes_sub (r := r) hostOps1_9 W hostOps1_9_writes h
theorem p11 (h : r ∉ hostOps1_10_W) : StableHlo.after hostOps1_10 W (Proc.devRef .tc r) = W (Proc.devRef .tc r) :=
  StableHlo.after_of_writes_sub (r := r) hostOps1_10 W hostOps1_10_writes h
end

theorem v4_arg (c : Dev nD) (b : Ref sig .tc) (hb : ∀ w, Pipeline.arrRef spec0 w ≠ b) (h1 : b ∉ hostOps1_W) (h2 : b ∉ hostOps1_1_W)
    (h3 : b ∉ hostOps1_2_W) (h4 : b ∉ hostOps1_3_W) : V4 m c (Proc.devRef .tc b) = m ((c : Thread nD τ).loc b) := by
  unfold V4
  rw [p4 b _ h4, p3 b _ h3, p2 b _ h2, p1 b _ h1]
  exact entry_arg m c b hb

theorem v4_codes (c : Dev nD) : V4 m c (Proc.devRef .tc main_v0) = k0_pay1 (m ((c : Thread nD τ).loc main_arg4)) := by
  unfold V4
  rw [p4 main_v0 _ (by decide +kernel), p3 main_v0 _ (by decide +kernel), p2 main_v0 _ (by decide +kernel), p1 main_v0 _ (by decide +kernel)]
  exact entry_codes m c

theorem v4_slots (c : Dev nD) : V4 m c (Proc.devRef .tc main_v1) = slots (m ((c : Thread nD τ).loc main_arg0)) := by
  unfold V4
  rw [p4 main_v1 _ (by decide +kernel), p3 main_v1 _ (by decide +kernel), p2 main_v1 _ (by decide +kernel), after_slots]
  exact congrArg slots (entry_arg m c main_arg0 (by decide))

theorem v4_act (c : Dev nD) : V4 m c (Proc.devRef .tc main_v20)
    = act (conv (m ((c : Thread nD τ).loc main_arg0)) (m ((c : Thread nD τ).loc main_arg1)) (m ((c : Thread nD τ).loc main_arg3))
      (m ((c : Thread nD τ).loc main_arg6)) (m ((c : Thread nD τ).loc main_arg7))) := by
  have a (b : Ref sig .tc) (hb : ∀ w, Pipeline.arrRef spec0 w ≠ b) := entry_arg m c b hb
  unfold V4
  rw [p4 main_v20 _ (by decide +kernel), p3 main_v20 _ (by decide +kernel), after_act, after_conv]
  show act (conv (entry m c (Proc.devRef .tc main_arg0)) (entry m c (Proc.devRef .tc main_arg1))
    (entry m c (Proc.devRef .tc main_arg3)) (entry m c (Proc.devRef .tc main_arg6)) (entry m c (Proc.devRef .tc main_arg7))) = _
  rw [a main_arg0 (by decide), a main_arg1 (by decide), a main_arg3 (by decide), a main_arg6 (by decide), a main_arg7 (by decide)]

theorem v4_soft (c : Dev nD) : V4 m c (Proc.devRef .tc main_v25)
    = soft (step (m ((c : Thread nD τ).loc main_arg2)) (m ((c : Thread nD τ).loc main_arg8))) := by
  have a (b : Ref sig .tc) (hb : ∀ w, Pipeline.arrRef spec0 w ≠ b) := entry_arg m c b hb
  unfold V4
  rw [after_soft, after_step, p2 main_arg2 _ (by decide +kernel), p1 main_arg2 _ (by decide +kernel), p2 main_arg8 _ (by decide +kernel), p1 main_arg8 _ (by decide +kernel)]
  show soft (step (entry m c (Proc.devRef .tc main_arg2)) (entry m c (Proc.devRef .tc main_arg8))) = _
  rw [a main_arg2 (by decide), a main_arg8 (by decide)]

/-- The lines after the grid point, one stretch after the other. -/
theorem stretches (c : Dev nD) (r : Ref sig .tc) :
    Pipeline.afterTail₀ cfgs (dats m) 0 (V0 m) [hostOps1, hostOps1_1, hostOps1_2, hostOps1_3, hostOps1_4, hostOps1_5, hostOps1_6, hostOps1_7, hostOps1_8, hostOps1_9, hostOps1_10] c r
      = StableHlo.after hostOps1_10 (StableHlo.after hostOps1_9 (StableHlo.after hostOps1_8 (StableHlo.after hostOps1_7
          (StableHlo.after hostOps1_6 (StableHlo.after hostOps1_5 (StableHlo.after hostOps1_4 (V4 m c)))))))
          (Proc.devRef .tc r) := by
  unfold Pipeline.afterTail₀
  rw [List.flatten_cons, List.flatten_cons, List.flatten_cons, List.flatten_cons, List.flatten_cons, List.flatten_cons, List.flatten_cons, List.flatten_cons,
    List.flatten_cons, List.flatten_cons, List.flatten_cons, List.flatten_nil, List.append_nil, StableHlo.after_append, StableHlo.after_append, StableHlo.after_append, StableHlo.after_append,
    StableHlo.after_append, StableHlo.after_append, StableHlo.after_append, StableHlo.after_append, StableHlo.after_append, StableHlo.after_append]

theorem result (c : Dev nD) :
    Pipeline.afterTail₀ cfgs (dats m) 0 (V0 m) [hostOps1, hostOps1_1, hostOps1_2, hostOps1_3, hostOps1_4, hostOps1_5, hostOps1_6, hostOps1_7, hostOps1_8, hostOps1_9, hostOps1_10] c main_v66 = R m c := by
  rw [stretches, p11 main_v66 _ (by decide +kernel), p10 main_v66 _ (by decide +kernel), p9 main_v66 _ (by decide +kernel), p8 main_v66 _ (by decide +kernel), p7 main_v66 _ (by decide +kernel), p6 main_v66 _ (by decide +kernel), after_last,
    v4_slots, v4_act, v4_soft, v4_codes, v4_arg m c main_arg5 (by decide) (by decide +kernel) (by decide +kernel) (by decide +kernel) (by decide +kernel),
    v4_arg m c main_arg9 (by decide) (by decide +kernel) (by decide +kernel) (by decide +kernel) (by decide +kernel),
    v4_arg m c main_arg10 (by decide) (by decide +kernel) (by decide +kernel) (by decide +kernel) (by decide +kernel)]

theorem result2 (c : Dev nD) :
    Pipeline.afterTail₀ cfgs (dats m) 0 (V0 m) [hostOps1, hostOps1_1, hostOps1_2, hostOps1_3, hostOps1_4, hostOps1_5, hostOps1_6, hostOps1_7, hostOps1_8, hostOps1_9, hostOps1_10] c main_v96 = R2 m c := by
  rw [stretches, after_tail, after_peaks,
    v4_slots, v4_act, v4_soft, v4_codes, v4_arg m c main_arg5 (by decide) (by decide +kernel) (by decide +kernel) (by decide +kernel) (by decide +kernel),
    v4_arg m c main_arg9 (by decide) (by decide +kernel) (by decide +kernel) (by decide +kernel) (by decide +kernel)]

theorem result3 (c : Dev nD) :
    Pipeline.afterTail₀ cfgs (dats m) 0 (V0 m) [hostOps1, hostOps1_1, hostOps1_2, hostOps1_3, hostOps1_4, hostOps1_5, hostOps1_6, hostOps1_7, hostOps1_8, hostOps1_9, hostOps1_10] c main_v94 = R3 m c := by
  rw [stretches, after_codes, after_blocks, after_peaks,
    v4_slots, v4_act, v4_soft, v4_codes, v4_arg m c main_arg5 (by decide) (by decide +kernel) (by decide +kernel) (by decide +kernel) (by decide +kernel),
    v4_arg m c main_arg9 (by decide) (by decide +kernel) (by decide +kernel) (by decide +kernel) (by decide +kernel)]

/-- The reference's run: its results are `last`, `codesOf` and `scales` of the arguments, which are unchanged. -/
theorem run : θ_run defs (onTc (τ := τ) (main (F := F))) ⟨m, fun _ => 0, ρ⟩ (fun r => ∀ c : Dev nD,
      r.2.mem ((c.tc : Thread nD τ).loc main_v66) = R m c
      ∧ r.2.mem ((c.tc : Thread nD τ).loc main_v94) = R3 m c
      ∧ r.2.mem ((c.tc : Thread nD τ).loc main_v96) = R2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨((h.1 c).2 main_v66 (Pipeline.mem_restRefs_of main_v66 (by decide) (by decide))).trans (result m c),
      ((h.1 c).2 main_v94 (Pipeline.mem_restRefs_of main_v94 (by decide) (by decide))).trans (result3 m c),
      ((h.1 c).2 main_v96 (Pipeline.mem_restRefs_of main_v96 (by decide) (by decide))).trans (result2 m c), h.2 c⟩)
    (θ_run_and (run_main m ρ) (unchanged m ρ))

end Cert.SsmRefIdeal.Y
end
-- ==== Proof.SsmValue.lean ====
module

public import proofs.«01_k».proof.Proof.SsmOut
public import proofs.«01_k».proof.Proof.SsmCodes
public import proofs.«01_k».proof.Proof.SsmRefRun
public import proofs.«01_k».proof.Proof.Gen.Ssm.Frame
public import proofs.«01_k».proof.Proof.Gen.SsmIdeal.Frame
public import proofs.«01_k».proof.Proof.TailValue
public import proofs.«01_k».proof.Defs

/-!
The decode call's output, codes and scales over the reals. The prefetched slots choose the blocks of the three state arrays; when every
slot names a state (`SlotsIn`, from the precondition) the blocks lie inside their arrays and the call runs. Each grid
point's blocks are then the formulas `yE`, `codeE` and `scaleE` of the arguments, which are the reference's results (`algebraic`).
-/

@[expose] public section

set_option maxRecDepth 16384

noncomputable section

namespace Cert.SsmIdeal.Y

open Cert.SsmIdeal Cert.SsmIdeal.Gen
open Idealize.ShloMosaic Idealize.ShloMosaic.TcCoe Idealize.ShloMosaic.Tactic Idealize.SL.Sem

section
variable {F : FTy → Type} [FloatOps F]
variable (m : (ℓ : Loc nD τ sig) → Buf (Elt F) ℓ)

/-- The sequences' slots. -/
abbrev slots : IVec S59 32 := m (((0 : Dev nD).tc : Thread nD τ).loc main_arg0)

/-- Every decode sequence's slot is a state's number. -/
def SlotsIn : Prop := ∀ b : Fin 48, (slots m (ix1 ⟨b.val, by omega⟩)).toNat < 76

/-! The maps from a grid point to its blocks: a block of eight rows and the row in it, the whole parameter arrays, and the output's block. -/

theorem transform0 : ∀ i : grid0.Coords, cc0_transform_0 i 0 = (i 0).val / 8 ∧ cc0_transform_0 i 1 = 0 := by decide +kernel
theorem transform1 : ∀ i : grid0.Coords, cc0_transform_1 i 0 = (i 0).val / 8 ∧ cc0_transform_1 i 1 = 0 := by decide +kernel
theorem transform5 : ∀ i : grid0.Coords, cc0_transform_5 i 0 = 0 ∧ cc0_transform_5 i 1 = 0 := by decide +kernel
theorem transform6 : ∀ i : grid0.Coords, cc0_transform_6 i 0 = 0 ∧ cc0_transform_6 i 1 = 0 := by decide +kernel
theorem transform7 : ∀ i : grid0.Coords, cc0_transform_7 i 0 = 0 ∧ cc0_transform_7 i 1 = 0 := by decide +kernel
theorem transform8 : ∀ i : grid0.Coords, cc0_transform_8 i 0 = 0 ∧ cc0_transform_8 i 1 = 0 := by decide +kernel
theorem transform9 : ∀ i : grid0.Coords, cc0_transform_9 i 0 = 0 ∧ cc0_transform_9 i 1 = 0 := by decide +kernel
theorem transform10 : ∀ i : grid0.Coords, cc0_transform_10 i 0 = (i 0).val ∧ cc0_transform_10 i 1 = 0 ∧ cc0_transform_10 i 2 = 0 := by decide +kernel
theorem transform12 : ∀ i : grid0.Coords, cc0_transform_12 i 0 = (i 0).val ∧ cc0_transform_12 i 1 = 0 ∧ cc0_transform_12 i 2 = 0 ∧ cc0_transform_12 i 3 = 0 := by decide +kernel
theorem transform13 : ∀ i : grid0.Coords, cc0_transform_13 i 0 = (i 0).val ∧ cc0_transform_13 i 1 = 0 ∧ cc0_transform_13 i 2 = 0 := by decide +kernel
theorem off2 : ∀ i : grid0.Coords, k0_off2 i 0 = (i 0).val % 8 ∧ k0_off2 i 1 = 0 := by decide +kernel
theorem off3 : ∀ i : grid0.Coords, k0_off3 i 0 = (i 0).val % 8 ∧ k0_off3 i 1 = 0 := by decide +kernel
theorem coords_val : ∀ t : Fin grid0.N, (grid0.coords t 0).val = t.val := by decide +kernel
theorem word_off : ∀ i : grid0.Coords, (Scalar.indexCast (BitVec.ofNat 32 (i 0).val)).toNat = (i 0).val := by decide +kernel

/-- The word that the index maps load. -/
theorem word_eq (i : grid0.Coords) (inb : ∀ a, (![(Scalar.indexCast (BitVec.ofNat 32 (i 0).val)).toNat] : Fin 1 → Nat) a + S1.size a ≤ S59.size a)
    (h1 : (Rect.unit (s := S59) ![(Scalar.indexCast (BitVec.ofNat 32 (i 0).val)).toNat] S1.size inb).shape.numel = 1) :
    (tbl m).at 0 (Rect.unit (s := S59) ![(Scalar.indexCast (BitVec.ofNat 32 (i 0).val)).toNat] S1.size inb) h1
      = slots m (ix1 ⟨(i 0).val, Nat.lt_of_lt_of_le (i 0).isLt (by decide)⟩) := by
  show V m 0 main_arg0 _ = _
  rw [V_main_arg0]
  show slots m _ = _
  congr 1
  funext (a : Fin 1)
  apply Fin.ext
  match a with
  | ⟨0, _⟩ =>
    have e : (Shape.Idx.first (s := (Rect.unit (s := S59) ![(Scalar.indexCast (BitVec.ofNat 32 (i 0).val)).toNat] S1.size inb).shape) (h1.symm ▸ Nat.one_pos) (0 : Fin 1)).val < 1 := Fin.isLt _
    show (Scalar.indexCast (BitVec.ofNat 32 (i 0).val)).toNat + 1 * (Shape.Idx.first (s := (Rect.unit (s := S59) ![(Scalar.indexCast (BitVec.ofNat 32 (i 0).val)).toNat] S1.size inb).shape) (h1.symm ▸ Nat.one_pos) (0 : Fin 1)).val = (i 0).val
    have := word_off i
    omega

/-- The slot of the sequence that the point computes. -/
abbrev slotAt (i : grid0.Coords) : BitVec 32 := slots m (ix1 ⟨(i 0).val, Nat.lt_of_lt_of_le (i 0).isLt (by decide)⟩)

/-! The three state arrays' blocks are at the sequence's slot. -/

theorem transform2 (i : grid0.Coords) (h) (h') : cc0_transform_2 h h' (tbl m) i = ![(slotAt m i).toNat, 0, 0] :=
  congrArg (fun w : BitVec 32 => (![w.toNat, (0#32).toNat, (0#32).toNat] : Fin 3 → Nat)) (word_eq m i _ _)
theorem transform3 (i : grid0.Coords) (h) (h') : cc0_transform_3 h h' (tbl m) i = ![(slotAt m i).toNat, 0, 0, 0] :=
  congrArg (fun w : BitVec 32 => (![w.toNat, (0#32).toNat, (0#32).toNat, (0#32).toNat] : Fin 4 → Nat)) (word_eq m i _ _)
theorem transform4 (i : grid0.Coords) (h) (h') : cc0_transform_4 h h' (tbl m) i = ![(slotAt m i).toNat, 0, 0] :=
  congrArg (fun w : BitVec 32 => (![w.toNat, (0#32).toNat, (0#32).toNat] : Fin 3 → Nat)) (word_eq m i _ _)

/-- The slots name states: the blocks that the tables choose lie inside their arrays. -/
theorem ok_of_slots (h : SlotsIn m) : Ok m := by
  have hs (i : grid0.Coords) : (slotAt m i).toNat < 76 := h (i 0)
  refine ⟨fun i => ⟨fun a => ?_, .inr (.inr ⟨by decide, rfl, ?_, rfl⟩)⟩, fun i => ⟨fun a => ?_, .inr (.inr ⟨by decide, rfl, ?_, rfl⟩)⟩, fun i => ⟨fun a => ?_, .inl rfl⟩⟩
  · rw [transform2]
    have := hs i
    match a with
    | ⟨0, _⟩ => show ((slotAt m i).toNat + 1) * 1 ≤ 76; omega
    | ⟨1, _⟩ => show (0 + 1) * 3 ≤ 3; omega
    | ⟨2, _⟩ => show (0 + 1) * 2560 ≤ 2560; omega
  · show cc0_transform_2 _ _ (tbl m) i 1 * 3 = 0
    rw [transform2]; rfl
  · rw [transform3]
    have := hs i
    match a with
    | ⟨0, _⟩ => show ((slotAt m i).toNat + 1) * 1 ≤ 76; omega
    | ⟨1, _⟩ => show (0 + 1) * 32 ≤ 32; omega
    | ⟨2, _⟩ => show (0 + 1) * 64 ≤ 64; omega
    | ⟨3, _⟩ => show (0 + 1) * 256 ≤ 256; omega
  · show cc0_transform_3 _ _ (tbl m) i 2 * 64 = 0
    rw [transform3]; rfl
  · rw [transform4]
    have := hs i
    match a with
    | ⟨0, _⟩ => show ((slotAt m i).toNat + 1) * 1 ≤ 76; omega
    | ⟨1, _⟩ => show (0 + 1) * 32 ≤ 32; omega
    | ⟨2, _⟩ => show (0 + 1) * 8 ≤ 8; omega

end

section
variable (m : (ℓ : Loc nD τ sig) → Buf (Elt Ideal) ℓ) (ρ : Dev nD → PrngReg)

attribute [local irreducible] out0_A_10 out0_A_12 out0_A_13

set_option backward.isDefEq.respectTransparency.types false in
/-- What the body leaves in the output's block. -/
theorem outs_eq (hO : Ok m) (c : Dev nD) (t : Fin (cfgM m hO).N) :
    (outsAt0 m hO c t).1 = View.canon (blockPieces (grid0.coords t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t)) := by
  have e : (outsAt0 m hO c t).1 = out0_A_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0) := rfl
  exact e.trans (out_pieces c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0))

/-- What the body leaves in the block of scales, at an index. -/
theorem outs13_eq (hO : Ok m) (c : Dev nD) (t : Fin (cfgM m hO).N) (k : Fin 32) (g : Fin 8) :
    (outsAt0 m hO c t).2.2.2 (ix3 0 k g) = scaleE (maxE fun j : Fin 32 => maxE fun p : Fin 64 => FloatOps.absf (F := Ideal) (φ := .f32)
      (stateB (grid0.coords t) (iblk m hO c 0 t) (iblk m hO c 1 t) (iblk m hO c 2 t) (iblk m hO c 3 t) (iblk m hO c 4 t) (iblk m hO c 5 t) (iblk m hO c 6 t) (iblk m hO c 7 t) (iblk m hO c 8 t) k p ⟨g.val * 32 + j.val, by omega⟩)) := by
  have e : (outsAt0 m hO c t).2.2.2 = out0_A_13 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0) := rfl
  exact (congrFun e _).trans (scales_block c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0) k g)

/-- What the body leaves in the block of codes, at an index. -/
theorem outs12_eq (hO : Ok m) (c : Dev nD) (t : Fin (cfgM m hO).N) (k : Fin 32) (p : Fin 64) (n : Fin 256) :
    (outsAt0 m hO c t).2.2.1 (ix4 0 k p n) = codeE (stateB (grid0.coords t) (iblk m hO c 0 t) (iblk m hO c 1 t) (iblk m hO c 2 t) (iblk m hO c 3 t) (iblk m hO c 4 t) (iblk m hO c 5 t) (iblk m hO c 6 t) (iblk m hO c 7 t) (iblk m hO c 8 t) k p n * invE (maxE fun j : Fin 32 => maxE fun q : Fin 64 =>
      FloatOps.absf (F := Ideal) (φ := .f32) (stateB (grid0.coords t) (iblk m hO c 0 t) (iblk m hO c 1 t) (iblk m hO c 2 t) (iblk m hO c 3 t) (iblk m hO c 4 t) (iblk m hO c 5 t) (iblk m hO c 6 t) (iblk m hO c 7 t) (iblk m hO c 8 t) k q ⟨n.val / 32 * 32 + j.val, by omega⟩))) := by
  have e : (outsAt0 m hO c t).2.2.1 = out0_A_12 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0) := rfl
  exact (congrFun e _).trans (codes_block c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0) k p n)

section
variable (hO : Ok m) (h : SlotsIn m) (c : Dev nD) (t : Fin (cfgM m hO).N)

/-! The arguments. -/

abbrev a1 : FVec Ideal S5168x2560 .f32 := m ((c.tc : Thread nD τ).loc main_arg1)
abbrev a2 : FVec Ideal S5168x128 .f32 := m ((c.tc : Thread nD τ).loc main_arg2)
abbrev a3 : FVec Ideal S76x3x2560 .bf16 := m ((c.tc : Thread nD τ).loc main_arg3)
abbrev a4 : FVec Ideal S76x32x64x256 .fp8e4m3 := m ((c.tc : Thread nD τ).loc main_arg4)
abbrev a5 : FVec Ideal S76x32x8 .f32 := m ((c.tc : Thread nD τ).loc main_arg5)
abbrev a6 : FVec Ideal S4x2560 .f32 := m ((c.tc : Thread nD τ).loc main_arg6)
abbrev a7 : FVec Ideal S2560 .f32 := m ((c.tc : Thread nD τ).loc main_arg7)
abbrev a8 : FVec Ideal S32 .f32 := m ((c.tc : Thread nD τ).loc main_arg8)
abbrev a9 : FVec Ideal S32 .f32 := m ((c.tc : Thread nD τ).loc main_arg9)
abbrev a10 : FVec Ideal S32 .f32 := m ((c.tc : Thread nD τ).loc main_arg10)

/-- The state's number of a sequence. -/
abbrev slotOf (h : SlotsIn m) (b : Fin 48) : Fin 76 := ⟨(slots m (ix1 ⟨b.val, by omega⟩)).toNat, h b⟩

/-- The new row, loaded from its block. -/
theorem row_eq (l : Fin 2560) :
    (iblk m hO c 0 t : Vec Ideal S8x2560 .f32) ((Rect.unit (s := S8x2560) (k0_off2 (grid0.coords t)) S1x2560.size (k0_off2_inb _)).emb (ix2 0 l : S1x2560.Idx))
      = a1 m c (ix2 ⟨t.val, Nat.lt_of_lt_of_le t.isLt (show 48 ≤ 5168 by decide)⟩ l) := by
  show V m c main_arg1 _ = _
  rw [V_main_arg1]
  show a1 m c _ = _
  congr 1
  have hc := coords_val t
  have h0 := transform0 (grid0.coords t)
  have h2 := off2 (grid0.coords t)
  funext a
  apply Fin.ext
  match a with
  | ⟨0, _⟩ =>
    show cc0_transform_0 (grid0.coords t) 0 * 8 + 1 * (k0_off2 (grid0.coords t) 0 + 1 * 0) = t.val
    omega
  | ⟨1, _⟩ =>
    show cc0_transform_0 (grid0.coords t) 1 * 2560 + 1 * (k0_off2 (grid0.coords t) 1 + 1 * l.val) = l.val
    omega

/-- The step row, loaded from its block. -/
theorem step_eq (l : Fin 128) :
    (iblk m hO c 1 t : Vec Ideal S8x128 .f32) ((Rect.unit (s := S8x128) (k0_off3 (grid0.coords t)) S1x128.size (k0_off3_inb _)).emb (ix2 0 l : S1x128.Idx))
      = a2 m c (ix2 ⟨t.val, Nat.lt_of_lt_of_le t.isLt (show 48 ≤ 5168 by decide)⟩ l) := by
  show V m c main_arg2 _ = _
  rw [V_main_arg2]
  show a2 m c _ = _
  congr 1
  have hc := coords_val t
  have h0 := transform1 (grid0.coords t)
  have h2 := off3 (grid0.coords t)
  funext a
  apply Fin.ext
  match a with
  | ⟨0, _⟩ =>
    show cc0_transform_1 (grid0.coords t) 0 * 8 + 1 * (k0_off3 (grid0.coords t) 0 + 1 * 0) = t.val
    omega
  | ⟨1, _⟩ =>
    show cc0_transform_1 (grid0.coords t) 1 * 128 + 1 * (k0_off3 (grid0.coords t) 1 + 1 * l.val) = l.val
    omega

/-- The place of the state's block. -/
theorem slot_val (inb) (h1) :
    ((tbl m).at 0 (Rect.unit (s := S59) ![(Scalar.indexCast (BitVec.ofNat 32 (grid0.coords t 0).val)).toNat] S1.size inb) h1 : BitVec 32).toNat * 1 + 1 * 0
      = (slotOf m h t).val := by
  refine (congrArg (fun w : BitVec 32 => w.toNat * 1 + 1 * 0) (word_eq m (grid0.coords t) _ _)).trans ?_
  show (slots m (ix1 ⟨(grid0.coords t 0).val, _⟩)).toNat * 1 + 1 * 0 = (slots m (ix1 ⟨t.val, _⟩)).toNat
  rw [Nat.mul_one, Nat.mul_zero, Nat.add_zero]
  exact congrArg (fun k : Fin 59 => (slots m (ix1 k)).toNat) (Fin.ext (coords_val t))

/-- The sequence's state of the convolution, its block. -/
theorem state_eq (r : Fin 3) (l : Fin 2560) :
    (iblk m hO c 2 t : Vec Ideal S1x3x2560 .bf16) (ix3 0 r l) = a3 m c (ix3 (slotOf m h t) r l) := by
  show V m c main_arg3 _ = _
  rw [V_main_arg3]
  show a3 m c _ = _
  congr 1
  funext a
  apply Fin.ext
  match a with
  | ⟨0, _⟩ => exact slot_val m hO h t _ _
  | ⟨1, _⟩ =>
    show (0#32).toNat * 3 + 1 * r.val = r.val
    simp
  | ⟨2, _⟩ =>
    show (0#32).toNat * 2560 + 1 * l.val = l.val
    simp

/-- The sequence's codes, their block. -/
theorem codes_eq (k : Fin 32) (p : Fin 64) (n : Fin 256) :
    (iblk m hO c 3 t : Vec Ideal S1x32x64x256 .fp8e4m3) (ix4 0 k p n) = a4 m c (ix4 (slotOf m h t) k p n) := by
  show V m c main_arg4 _ = _
  rw [V_main_arg4]
  show a4 m c _ = _
  congr 1
  funext a
  apply Fin.ext
  match a with
  | ⟨0, _⟩ => exact slot_val m hO h t _ _
  | ⟨1, _⟩ =>
    show (0#32).toNat * 32 + 1 * k.val = k.val
    simp
  | ⟨2, _⟩ =>
    show (0#32).toNat * 64 + 1 * p.val = p.val
    simp
  | ⟨3, _⟩ =>
    show (0#32).toNat * 256 + 1 * n.val = n.val
    simp

/-- The sequence's scales, their block. -/
theorem scales_eq (k : Fin 32) (g : Fin 8) :
    (iblk m hO c 4 t : Vec Ideal S1x32x8 .f32) (ix3 0 k g) = a5 m c (ix3 (slotOf m h t) k g) := by
  show V m c main_arg5 _ = _
  rw [V_main_arg5]
  show a5 m c _ = _
  congr 1
  funext a
  apply Fin.ext
  match a with
  | ⟨0, _⟩ => exact slot_val m hO h t _ _
  | ⟨1, _⟩ =>
    show (0#32).toNat * 32 + 1 * k.val = k.val
    simp
  | ⟨2, _⟩ =>
    show (0#32).toNat * 8 + 1 * g.val = g.val
    simp

/-- The taps. -/
theorem taps_eq (r : Fin 4) (l : Fin 2560) : (iblk m hO c 5 t : Vec Ideal S4x2560 .f32) (ix2 r l) = a6 m c (ix2 r l) := by
  refine (congrArg (V m c main_arg6) (?_ : _ = ix2 r l)).trans (congrFun (V_main_arg6 m c) _)
  have hi := transform5 (grid0.coords t)
  funext a
  apply Fin.ext
  match a with
  | ⟨0, _⟩ =>
    show cc0_transform_5 (grid0.coords t) 0 * 4 + 1 * r.val = r.val
    omega
  | ⟨1, _⟩ =>
    show cc0_transform_5 (grid0.coords t) 1 * 2560 + 1 * (l.val) = l.val
    omega

/-- The bias of the convolution. -/
theorem bias_eq (l : Fin 2560) : (iblk m hO c 6 t : Vec Ideal S1x2560 .f32) (ix2 0 l) = a7 m c (ix1 l) := by
  refine (congrArg (V m c main_v7) (?_ : _ = ix2 0 l)).trans (bias_apply m c l)
  have hi := transform6 (grid0.coords t)
  funext a
  apply Fin.ext
  match a with
  | ⟨0, _⟩ =>
    show cc0_transform_6 (grid0.coords t) 0 * 1 + 1 * 0 = 0
    omega
  | ⟨1, _⟩ =>
    show cc0_transform_6 (grid0.coords t) 1 * 2560 + 1 * (l.val) = l.val
    omega

/-- The bias of the step. -/
theorem dtb_eq (k : Fin 32) : (iblk m hO c 7 t : Vec Ideal S1x128 .f32) (ix2 0 ⟨k.val, by omega⟩) = a8 m c (ix1 k) := by
  refine (congrArg (V m c main_v1) (?_ : _ = ix2 0 ⟨k.val, by omega⟩)).trans (dtb_apply m c k)
  have hi := transform7 (grid0.coords t)
  funext a
  apply Fin.ext
  match a with
  | ⟨0, _⟩ =>
    show cc0_transform_7 (grid0.coords t) 0 * 1 + 1 * 0 = 0
    omega
  | ⟨1, _⟩ =>
    show cc0_transform_7 (grid0.coords t) 1 * 128 + 1 * (k.val) = k.val
    omega

/-- The logarithm of the decay. -/
theorem alog_eq (k : Fin 32) : (iblk m hO c 8 t : Vec Ideal S1x128 .f32) (ix2 0 ⟨k.val, by omega⟩) = a9 m c (ix1 k) := by
  refine (congrArg (V m c main_v3) (?_ : _ = ix2 0 ⟨k.val, by omega⟩)).trans (alog_apply m c k)
  have hi := transform8 (grid0.coords t)
  funext a
  apply Fin.ext
  match a with
  | ⟨0, _⟩ =>
    show cc0_transform_8 (grid0.coords t) 0 * 1 + 1 * 0 = 0
    omega
  | ⟨1, _⟩ =>
    show cc0_transform_8 (grid0.coords t) 1 * 128 + 1 * (k.val) = k.val
    omega

/-- The skip factor. -/
theorem dsk_eq (k : Fin 32) (p : Fin 64) : (iblk m hO c 9 t : Vec Ideal S1x2048 .f32) (ix2 0 ⟨64 * k.val + p.val, by omega⟩) = a10 m c (ix1 k) := by
  refine (congrArg (V m c main_v6) (?_ : _ = ix2 0 ⟨64 * k.val + p.val, by omega⟩)).trans (dsk_apply m c k p)
  have hi := transform9 (grid0.coords t)
  funext a
  apply Fin.ext
  match a with
  | ⟨0, _⟩ =>
    show cc0_transform_9 (grid0.coords t) 0 * 1 + 1 * 0 = 0
    omega
  | ⟨1, _⟩ =>
    show cc0_transform_9 (grid0.coords t) 1 * 2048 + 1 * (64 * k.val + p.val) = 64 * k.val + p.val
    omega

/-- The activated convolution of the point. -/
theorem xcB_eq (l : Fin 2560) : xcB (grid0.coords t) (iblk m hO c 0 t) (iblk m hO c 2 t) (iblk m hO c 5 t) (iblk m hO c 6 t) l = xcE (a1 m c) (a3 m c) (a6 m c) (a7 m c) (slotOf m h t) t l :=
  show convE _ _ _ _ = convE _ _ _ _ from congr (congr (congr (congrArg convE (bias_eq m hO c t l)) (funext fun r => state_eq m hO h c t r l)) (row_eq m hO c t l)) (funext fun r => taps_eq m hO c t r l)

/-- The step of the point. -/
theorem dtB_eq (k : Fin 32) : dtB (grid0.coords t) (iblk m hO c 1 t) (iblk m hO c 7 t) k = dtE (a2 m c) (a8 m c) t k :=
  congrArg softplus (congr (congrArg HAdd.hAdd (step_eq m hO c t ⟨k.val, by omega⟩)) (dtb_eq m hO c t k))

/-- The point's block, at a head's element, is the formula of the arguments. -/
theorem value_eq (k : Fin 32) (p : Fin 64) :
    View.canon (blockPieces (grid0.coords t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t)) (ix3 (0 : Fin 1) (0 : Fin 1) ⟨64 * k.val + p.val, by omega⟩ : S1x1x2048.Idx)
      = yE (a1 m c) (a2 m c) (a3 m c) (a4 m c) (a5 m c) (a6 m c) (a7 m c) (a8 m c) (a9 m c) (a10 m c) (slotOf m h t) t k p := by
  refine (block_apply (grid0.coords t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) k p).trans ?_
  have d := dtB_eq m hO c t k
  have e := congr (congrArg HMul.hMul d) (congrArg (fun x : EReal => -Ideal.exp x) (alog_eq m hO c t k))
  exact congr (congr (congr (congr (congr (congr (congrArg outE (congrArg Ideal.exp e)) d) (xcB_eq m hO h c t _)) (dsk_eq m hO c t k p))
    (funext fun n => congr (congrArg HMul.hMul (codes_eq m hO h c t k p n)) (scales_eq m hO h c t k ⟨n.val / 32, by omega⟩)))
    (funext fun n => xcB_eq m hO h c t _)) (funext fun n => xcB_eq m hO h c t _)

/-- The point's new state is the formula of the arguments. -/
theorem stateB_eq (k : Fin 32) (p : Fin 64) (n : Fin 256) :
    stateB (grid0.coords t) (iblk m hO c 0 t) (iblk m hO c 1 t) (iblk m hO c 2 t) (iblk m hO c 3 t) (iblk m hO c 4 t) (iblk m hO c 5 t) (iblk m hO c 6 t) (iblk m hO c 7 t) (iblk m hO c 8 t) k p n
      = newE (a1 m c) (a2 m c) (a3 m c) (a4 m c) (a5 m c) (a6 m c) (a7 m c) (a8 m c) (a9 m c) (slotOf m h t) t k p n := by
  have d := dtB_eq m hO c t k
  have e := congr (congrArg HMul.hMul d) (congrArg (fun x : EReal => -Ideal.exp x) (alog_eq m hO c t k))
  exact show stateE _ _ _ _ _ = stateE _ _ _ _ _ from congr (congr (congr (congr (congrArg stateE (congrArg Ideal.exp e)) d) (xcB_eq m hO h c t _))
    (congr (congrArg HMul.hMul (codes_eq m hO h c t k p n)) (scales_eq m hO h c t k ⟨n.val / 32, by omega⟩))) (xcB_eq m hO h c t _)

end

/-- The output: the reference's result of the call's arguments. -/
abbrev G (c : Dev nD) : Buf (Elt Ideal) ((c.tc : Thread nD τ).loc main_v8_0) :=
  Cert.SsmRefIdeal.Y.last (Cert.SsmRefIdeal.Y.slots (slots m))
    (Cert.SsmRefIdeal.Y.act (Cert.SsmRefIdeal.Y.conv (slots m) (a1 m c) (a3 m c) (a6 m c) (a7 m c)))
    (Cert.SsmRefIdeal.Y.soft (Cert.SsmRefIdeal.Y.step (a2 m c) (a8 m c))) (Cert.SsmRefIdeal.Gen.k0_pay1 (a4 m c)) (a5 m c) (a9 m c) (a10 m c)

/-- The tiles cover the result. -/
theorem covered (hO : Ok m) (i : S48x1x2048.Idx) :
    ∃ t : Fin (cfgM m hO).N, ((cfgM m hO).win 10).flush t = true ∧ i ∈ (((cfgM m hO).win 10).blk t).view.set := by
  have h0 : (i (0 : Fin 3)).val < 48 := (i (0 : Fin 3)).isLt
  refine ⟨(⟨(i 0).val, h0⟩ : Fin grid0.N), flush0_10 _ _, ?_⟩
  generalize ht : (⟨(i 0).val, h0⟩ : Fin grid0.N) = t
  have e : t.val = (i 0).val := by rw [← ht]
  have hc := coords_val t
  have hi := transform10 (grid0.coords t)
  refine (ValueKit.mem_set_slice_whole_iff main_v8_0 (Rect.unit (s := S48x1x2048) (fun a => cc0_transform_10 (grid0.coords t) a * S1x1x2048.size a) S1x1x2048.size
    (fun a => by rw [← Nat.succ_mul]; exact Facts₀.hinb0_10 (grid0.coords t) a)) i Rect.mem_set_unit).2 ?_
  intro a
  match a with
  | ⟨0, _⟩ =>
    show cc0_transform_10 (grid0.coords t) 0 * 1 ≤ (i 0).val ∧ (i 0).val < cc0_transform_10 (grid0.coords t) 0 * 1 + 1
    omega
  | ⟨1, _⟩ =>
    have := (i 1).isLt
    show cc0_transform_10 (grid0.coords t) 1 * 1 ≤ (i 1).val ∧ (i 1).val < cc0_transform_10 (grid0.coords t) 1 * 1 + 1
    rw [hi.2.1]; exact ⟨by omega, by simpa using this⟩
  | ⟨2, _⟩ =>
    have := (i 2).isLt
    show cc0_transform_10 (grid0.coords t) 2 * 2048 ≤ (i 2).val ∧ (i 2).val < cc0_transform_10 (grid0.coords t) 2 * 2048 + 2048
    rw [hi.2.2]; exact ⟨by omega, by simpa using this⟩

/-- A block's index by its coordinates. -/
theorem exists_ix3 (y : S1x1x2048.Idx) : ∃ (u : Fin 1) (r : Fin 1) (l : Fin 2048), y = ix3 u r l :=
  ⟨y 0, y 1, y 2, funext fun a => by match a with | ⟨0, _⟩ => rfl | ⟨1, _⟩ => rfl | ⟨2, _⟩ => rfl⟩

/-- The place of a block's index in the result. -/
theorem emb10 (hO : Ok m) (t : Fin (cfgM m hO).N) (r : Fin 1) (l : Fin 2048) :
    (((cfgM m hO).win 10).blk t).view.emb (ix3 (0 : Fin 1) r l : S1x1x2048.Idx) = (ix3 (t : Fin 48) r l : S48x1x2048.Idx) := by
  have hc := coords_val t
  have hi := transform10 (grid0.coords t)
  funext a
  apply Fin.ext
  match a with
  | ⟨0, _⟩ =>
    show cc0_transform_10 (grid0.coords t) 0 * 1 + 1 * 0 = t.val
    omega
  | ⟨1, _⟩ =>
    show cc0_transform_10 (grid0.coords t) 1 * 1 + 1 * r.val = r.val
    omega
  | ⟨2, _⟩ =>
    show cc0_transform_10 (grid0.coords t) 2 * 2048 + 1 * l.val = l.val
    omega

set_option backward.isDefEq.respectTransparency.types false in
/-- THE RESULT: the array ends holding the reference's result. -/
theorem final (hO : Ok m) (h : SlotsIn m) (c : Dev nD) : (dats m hO 0 c).arrAt 10 (cfgM m hO).N = G m c :=
  (dats m hO 0 c).arrAt_eq_of_cover 10 (G m c) (fun t _ => by
    funext y
    show (dats m hO 0 c).after 10 t y = G m c ((((cfgM m hO).win 10).blk t).view.emb y)
    rw [after0_10]
    refine (congrFun (outs_eq m hO c t) y).trans ?_
    obtain ⟨u, v, l, rfl⟩ := exists_ix3 y
    obtain rfl : u = 0 := Subsingleton.elim _ _
    obtain rfl : v = 0 := Subsingleton.elim _ _
    rw [emb10 m hO t 0 l]
    obtain ⟨k, p, rfl⟩ : ∃ (k : Fin 32) (p : Fin 64), l = ⟨64 * k.val + p.val, by omega⟩ :=
      ⟨⟨l.val / 64, by omega⟩, ⟨l.val % 64, by omega⟩, Fin.ext (by show l.val = 64 * (l.val / 64) + l.val % 64; omega)⟩
    exact (value_eq m hO h c t k p).trans (Cert.SsmRefIdeal.Y.ref_apply (slots m) (a1 m c) (a2 m c) (a3 m c) (Cert.SsmRefIdeal.Gen.k0_pay1 (a4 m c))
      (a5 m c) (a6 m c) (a7 m c) (a8 m c) (a9 m c) (a10 m c) t k p (slotOf m h t) rfl).symm) (covered m hO)

/-- The scales: the reference's result of the call's arguments. -/
abbrev G2 (c : Dev nD) : Buf (Elt Ideal) ((c.tc : Thread nD τ).loc main_v8_3) :=
  Cert.SsmRefIdeal.Y.scales (Cert.SsmRefIdeal.Y.peaks (Cert.SsmRefIdeal.Y.fresh (Cert.SsmRefIdeal.Y.slots (slots m))
    (Cert.SsmRefIdeal.Y.act (Cert.SsmRefIdeal.Y.conv (slots m) (a1 m c) (a3 m c) (a6 m c) (a7 m c)))
    (Cert.SsmRefIdeal.Y.soft (Cert.SsmRefIdeal.Y.step (a2 m c) (a8 m c))) (Cert.SsmRefIdeal.Gen.k0_pay1 (a4 m c)) (a5 m c) (a9 m c)))

/-- The tiles cover the scales. -/
theorem covered13 (hO : Ok m) (i : S48x32x8.Idx) :
    ∃ t : Fin (cfgM m hO).N, ((cfgM m hO).win 13).flush t = true ∧ i ∈ (((cfgM m hO).win 13).blk t).view.set := by
  have h0 : (i (0 : Fin 3)).val < 48 := (i (0 : Fin 3)).isLt
  refine ⟨(⟨(i 0).val, h0⟩ : Fin grid0.N), flush0_13 _ _, ?_⟩
  generalize ht : (⟨(i 0).val, h0⟩ : Fin grid0.N) = t
  have e : t.val = (i 0).val := by rw [← ht]
  have hc := coords_val t
  have hi := transform13 (grid0.coords t)
  refine (ValueKit.mem_set_slice_whole_iff main_v8_3 (Rect.unit (s := S48x32x8) (fun a => cc0_transform_13 (grid0.coords t) a * S1x32x8.size a) S1x32x8.size
    (fun a => by rw [← Nat.succ_mul]; exact Facts₀.hinb0_13 (grid0.coords t) a)) i Rect.mem_set_unit).2 ?_
  intro a
  match a with
  | ⟨0, _⟩ =>
    show cc0_transform_13 (grid0.coords t) 0 * 1 ≤ (i 0).val ∧ (i 0).val < cc0_transform_13 (grid0.coords t) 0 * 1 + 1
    omega
  | ⟨1, _⟩ =>
    have := (i 1).isLt
    show cc0_transform_13 (grid0.coords t) 1 * 32 ≤ (i 1).val ∧ (i 1).val < cc0_transform_13 (grid0.coords t) 1 * 32 + 32
    rw [hi.2.1]; exact ⟨by omega, by simpa using this⟩
  | ⟨2, _⟩ =>
    have := (i 2).isLt
    show cc0_transform_13 (grid0.coords t) 2 * 8 ≤ (i 2).val ∧ (i 2).val < cc0_transform_13 (grid0.coords t) 2 * 8 + 8
    rw [hi.2.2]; exact ⟨by omega, by simpa using this⟩

/-- A scale's index by its coordinates. -/
theorem exists_ix3' (y : S1x32x8.Idx) : ∃ (u : Fin 1) (k : Fin 32) (g : Fin 8), y = ix3 u k g :=
  ⟨y 0, y 1, y 2, funext fun a => by match a with | ⟨0, _⟩ => rfl | ⟨1, _⟩ => rfl | ⟨2, _⟩ => rfl⟩

/-- The place of a block's scale in the result. -/
theorem emb13 (hO : Ok m) (t : Fin (cfgM m hO).N) (k : Fin 32) (g : Fin 8) :
    (((cfgM m hO).win 13).blk t).view.emb (ix3 (0 : Fin 1) k g : S1x32x8.Idx) = (ix3 (t : Fin 48) k g : S48x32x8.Idx) := by
  have hc := coords_val t
  have hi := transform13 (grid0.coords t)
  funext a
  apply Fin.ext
  match a with
  | ⟨0, _⟩ =>
    show cc0_transform_13 (grid0.coords t) 0 * 1 + 1 * 0 = t.val
    omega
  | ⟨1, _⟩ =>
    show cc0_transform_13 (grid0.coords t) 1 * 32 + 1 * k.val = k.val
    omega
  | ⟨2, _⟩ =>
    show cc0_transform_13 (grid0.coords t) 2 * 8 + 1 * g.val = g.val
    omega

set_option backward.isDefEq.respectTransparency.types false in
/-- THE SCALES: the array ends holding the reference's result. -/
theorem final13 (hO : Ok m) (h : SlotsIn m) (c : Dev nD) : (dats m hO 0 c).arrAt 13 (cfgM m hO).N = G2 m c :=
  (dats m hO 0 c).arrAt_eq_of_cover 13 (G2 m c) (fun t _ => by
    funext y
    show (dats m hO 0 c).after 13 t y = G2 m c ((((cfgM m hO).win 13).blk t).view.emb y)
    rw [after0_13]
    obtain ⟨u, k, g, rfl⟩ := exists_ix3' y
    obtain rfl : u = 0 := Subsingleton.elim _ _
    rw [emb13 m hO t k g]
    refine (outs13_eq m hO c t k g).trans (Eq.trans ?_ (Cert.SsmRefIdeal.Y.scales_ref (slots m) (a1 m c) (a2 m c) (a3 m c) (Cert.SsmRefIdeal.Gen.k0_pay1 (a4 m c))
      (a5 m c) (a6 m c) (a7 m c) (a8 m c) (a9 m c) t k g (slotOf m h t) rfl).symm)
    exact congrArg scaleE (congrArg maxE (funext fun j => congrArg maxE (funext fun p => congrArg (FloatOps.absf (F := Ideal) (φ := .f32)) (stateB_eq m hO h c t k p _)))))
    (covered13 m hO)

/-- The codes: the reference's result of the call's arguments. -/
abbrev G3 (c : Dev nD) : Buf (Elt Ideal) ((c.tc : Thread nD τ).loc main_v8_2) :=
  Cert.SsmRefIdeal.Y.codesOf (Cert.SsmRefIdeal.Y.blocks (Cert.SsmRefIdeal.Y.fresh (Cert.SsmRefIdeal.Y.slots (slots m))
    (Cert.SsmRefIdeal.Y.act (Cert.SsmRefIdeal.Y.conv (slots m) (a1 m c) (a3 m c) (a6 m c) (a7 m c)))
    (Cert.SsmRefIdeal.Y.soft (Cert.SsmRefIdeal.Y.step (a2 m c) (a8 m c))) (Cert.SsmRefIdeal.Gen.k0_pay1 (a4 m c)) (a5 m c) (a9 m c)))
    (Cert.SsmRefIdeal.Y.peaks (Cert.SsmRefIdeal.Y.fresh (Cert.SsmRefIdeal.Y.slots (slots m))
    (Cert.SsmRefIdeal.Y.act (Cert.SsmRefIdeal.Y.conv (slots m) (a1 m c) (a3 m c) (a6 m c) (a7 m c)))
    (Cert.SsmRefIdeal.Y.soft (Cert.SsmRefIdeal.Y.step (a2 m c) (a8 m c))) (Cert.SsmRefIdeal.Gen.k0_pay1 (a4 m c)) (a5 m c) (a9 m c)))

/-- The tiles cover the codes. -/
theorem covered12 (hO : Ok m) (i : S48x32x64x256.Idx) :
    ∃ t : Fin (cfgM m hO).N, ((cfgM m hO).win 12).flush t = true ∧ i ∈ (((cfgM m hO).win 12).blk t).view.set := by
  have h0 : (i (0 : Fin 4)).val < 48 := (i (0 : Fin 4)).isLt
  refine ⟨(⟨(i 0).val, h0⟩ : Fin grid0.N), flush0_12 _ _, ?_⟩
  generalize ht : (⟨(i 0).val, h0⟩ : Fin grid0.N) = t
  have e : t.val = (i 0).val := by rw [← ht]
  have hc := coords_val t
  have hi := transform12 (grid0.coords t)
  refine (ValueKit.mem_set_slice_whole_iff main_v8_2 (Rect.unit (s := S48x32x64x256) (fun a => cc0_transform_12 (grid0.coords t) a * S1x32x64x256.size a) S1x32x64x256.size
    (fun a => by rw [← Nat.succ_mul]; exact Facts₀.hinb0_12 (grid0.coords t) a)) i Rect.mem_set_unit).2 ?_
  intro a
  match a with
  | ⟨0, _⟩ =>
    show cc0_transform_12 (grid0.coords t) 0 * 1 ≤ (i 0).val ∧ (i 0).val < cc0_transform_12 (grid0.coords t) 0 * 1 + 1
    omega
  | ⟨1, _⟩ =>
    have := (i 1).isLt
    show cc0_transform_12 (grid0.coords t) 1 * 32 ≤ (i 1).val ∧ (i 1).val < cc0_transform_12 (grid0.coords t) 1 * 32 + 32
    rw [hi.2.1]; exact ⟨by omega, by simpa using this⟩
  | ⟨2, _⟩ =>
    have := (i 2).isLt
    show cc0_transform_12 (grid0.coords t) 2 * 64 ≤ (i 2).val ∧ (i 2).val < cc0_transform_12 (grid0.coords t) 2 * 64 + 64
    rw [hi.2.2.1]; exact ⟨by omega, by simpa using this⟩
  | ⟨3, _⟩ =>
    have := (i 3).isLt
    show cc0_transform_12 (grid0.coords t) 3 * 256 ≤ (i 3).val ∧ (i 3).val < cc0_transform_12 (grid0.coords t) 3 * 256 + 256
    rw [hi.2.2.2]; exact ⟨by omega, by simpa using this⟩

/-- A code's index by its coordinates. -/
theorem exists_ix4 (y : S1x32x64x256.Idx) : ∃ (u : Fin 1) (k : Fin 32) (p : Fin 64) (n : Fin 256), y = ix4 u k p n :=
  ⟨y 0, y 1, y 2, y 3, funext fun a => by match a with | ⟨0, _⟩ => rfl | ⟨1, _⟩ => rfl | ⟨2, _⟩ => rfl | ⟨3, _⟩ => rfl⟩

/-- The place of a block's code in the result. -/
theorem emb12 (hO : Ok m) (t : Fin (cfgM m hO).N) (k : Fin 32) (p : Fin 64) (n : Fin 256) :
    (((cfgM m hO).win 12).blk t).view.emb (ix4 (0 : Fin 1) k p n : S1x32x64x256.Idx) = (ix4 (t : Fin 48) k p n : S48x32x64x256.Idx) := by
  have hc := coords_val t
  have hi := transform12 (grid0.coords t)
  funext a
  apply Fin.ext
  match a with
  | ⟨0, _⟩ =>
    show cc0_transform_12 (grid0.coords t) 0 * 1 + 1 * 0 = t.val
    omega
  | ⟨1, _⟩ =>
    show cc0_transform_12 (grid0.coords t) 1 * 32 + 1 * k.val = k.val
    omega
  | ⟨2, _⟩ =>
    show cc0_transform_12 (grid0.coords t) 2 * 64 + 1 * p.val = p.val
    omega
  | ⟨3, _⟩ =>
    show cc0_transform_12 (grid0.coords t) 3 * 256 + 1 * n.val = n.val
    omega

set_option backward.isDefEq.respectTransparency.types false in
/-- THE CODES: the array ends holding the reference's result. -/
theorem final12 (hO : Ok m) (h : SlotsIn m) (c : Dev nD) : (dats m hO 0 c).arrAt 12 (cfgM m hO).N = G3 m c :=
  (dats m hO 0 c).arrAt_eq_of_cover 12 (G3 m c) (fun t _ => by
    funext y
    show (dats m hO 0 c).after 12 t y = G3 m c ((((cfgM m hO).win 12).blk t).view.emb y)
    rw [after0_12]
    obtain ⟨u, k, p, n, rfl⟩ := exists_ix4 y
    obtain rfl : u = 0 := Subsingleton.elim _ _
    rw [emb12 m hO t k p n]
    refine (outs12_eq m hO c t k p n).trans (Eq.trans ?_ (Cert.SsmRefIdeal.Y.codes_ref (slots m) (a1 m c) (a2 m c) (a3 m c) (Cert.SsmRefIdeal.Gen.k0_pay1 (a4 m c))
      (a5 m c) (a6 m c) (a7 m c) (a8 m c) (a9 m c) t k p n (slotOf m h t) rfl).symm)
    exact congrArg codeE (congr (congrArg HMul.hMul (stateB_eq m hO h c t k p n)) (congrArg invE (congrArg maxE (funext fun j => congrArg maxE (funext fun q =>
      congrArg (FloatOps.absf (F := Ideal) (φ := .f32)) (stateB_eq m hO h c t k q _)))))))
    (covered12 m hO)

/-- The call's run: the output, the codes and the scales are the reference's, the arguments are unchanged. -/
theorem run (hO : Ok m) (h : SlotsIn m) : θ_run defs (onTc (τ := τ) (main (F := Ideal))) ⟨m, fun _ => 0, ρ⟩ (fun r => ∀ c : Dev nD,
      r.2.mem ((c.tc : Thread nD τ).loc main_v8_0) = G m c
      ∧ r.2.mem ((c.tc : Thread nD τ).loc main_v8_2) = G3 m c
      ∧ r.2.mem ((c.tc : Thread nD τ).loc main_v8_3) = G2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h' c => ⟨((h'.1 c).1 10).trans (final m hO h c), ((h'.1 c).1 12).trans (final12 m hO h c), ((h'.1 c).1 13).trans (final13 m hO h c), h'.2 c⟩)
    (θ_run_and (run_main m ρ hO) (unchanged m ρ hO))
end

/-- The precondition gives the slots' bound. -/
theorem slotsIn (m : (ℓ : Loc nD τ sig) → Buf (Elt Ideal) ℓ) (h : Cert.Pre_SsmIdeal m) : SlotsIn m := fun b => by
  have e := congrFun (h 0) (ix1 b)
  pointwise [Cert.Pre_slots_in_range.fn] at e
  exact Cert.Dec.Tail.word_lt _ e

/-- The idealized call runs when the slots name states, whatever its other arguments. -/
theorem frame : Cert.quiescent_SsmIdeal := fun m ρ h => Cert.SsmIdeal.Gen.frame m ρ (ok_of_slots m (slotsIn m h))

/-- Over the reals the call's output, codes and scales are its reference's. -/
theorem algebraic : Cert.algebraic_SsmIdeal_SsmRefIdeal := by
  intro m g m' g' hp hm
  have h := slotsIn m hp
  refine ⟨fun c => G m c, fun c => G3 m c, fun c => G2 m c, run m g (ok_of_slots m h) h, ?_⟩
  refine (θ_run Cert.SsmRefIdeal.defs _ _).mono (fun r hr c => ⟨(hr c).1.trans ?_, (hr c).2.1.trans ?_, (hr c).2.2.1.trans ?_, (hr c).2.2.2⟩) (Cert.SsmRefIdeal.Y.run m' g')
  all_goals
    obtain rfl : c = 0 := Subsingleton.elim _ _
    obtain ⟨e0, e1, e2, e3, e4, e5, e6, e7, e8, e9, e10⟩ := hm 0
  · unfold Cert.SsmRefIdeal.Y.R
    rw [e0, e1, e2, e3, e4, e5, e6, e7, e8, e9, e10]
  · unfold Cert.SsmRefIdeal.Y.R3
    rw [e0, e1, e2, e3, e4, e5, e6, e7, e8, e9]
  · unfold Cert.SsmRefIdeal.Y.R2
    rw [e0, e1, e2, e3, e4, e5, e6, e7, e8, e9]

end Cert.SsmIdeal.Y

namespace Cert.Ssm.Y

open Cert.Ssm Cert.Ssm.Gen
open Idealize.ShloMosaic Idealize.ShloMosaic.TcCoe Idealize.ShloMosaic.Tactic Idealize.SL.Sem

/-- The precondition gives the slots' bound. -/
theorem slotsIn (m : (ℓ : Loc nD τ sig) → Buf (Elt Bits) ℓ) (h : Cert.Pre_Ssm m) : Cert.SsmIdeal.Y.SlotsIn (F := Bits) m := fun b => by
  have e := congrFun (h 0) (ix1 b)
  pointwise [Cert.Pre_slots_in_range.fn] at e
  exact Cert.Dec.Tail.word_lt _ e

/-- The call runs when the slots name states: its index maps are the idealized call's. -/
theorem frame : Cert.quiescent_Ssm := fun m ρ h => Cert.Ssm.Gen.frame m ρ (Cert.SsmIdeal.Y.ok_of_slots (F := Bits) m (slotsIn m h))

end Cert.Ssm.Y
end
-- ==== Proof.lean ====
/-
  The claims, for each of the kernel's four projection calls: each program runs to the end, leaves its arguments unchanged and its
  semaphores at zero; the idealized kernel is the kernel; and over the reals the kernel computes its reference.
  The decode call and its reference run to their end, and the call's tail is the reference's, bit for bit; over the reals
  the call's output is its reference's.
-/
module

public import proofs.«01_k».proof.Defs
public import proofs.«01_k».proof.Proof.UpBody
public import proofs.«01_k».proof.Proof.UpValue
public import proofs.«01_k».proof.Proof.DownBody
public import proofs.«01_k».proof.Proof.DownValue
public import proofs.«01_k».proof.Proof.OutBody
public import proofs.«01_k».proof.Proof.OutValue
public import proofs.«01_k».proof.Proof.InBody
public import proofs.«01_k».proof.Proof.InValue
public import proofs.«01_k».proof.Proof.TailValue
public import proofs.«01_k».proof.Proof.SsmValue
public import Idealize.ShloMosaic.Adequacy
public import Idealize.ShloMosaic.Init

@[expose] public section

noncomputable section

namespace Cert.Proof

open Idealize.ShloMosaic Idealize.SL.Sem

theorem claim : Cert.Claim :=
  ⟨Cert.Up.Gen.facts,
    Cert.UpIdeal.Gen.facts,
    Cert.UpRefIdeal.Gen.facts,
    Cert.Down.Gen.facts,
    Cert.DownIdeal.Gen.facts,
    Cert.DownRefIdeal.Gen.facts,
    Cert.Out.Gen.facts,
    Cert.OutIdeal.Gen.facts,
    Cert.OutRefIdeal.Gen.facts,
    Cert.In.Gen.facts,
    Cert.InIdeal.Gen.facts,
    Cert.InRefIdeal.Gen.facts,
    Cert.Dec.Gen.facts,
    Cert.DecRef.Gen.facts,
    Cert.Ssm.Gen.facts,
    Cert.SsmIdeal.Gen.facts,
    Cert.SsmRefIdeal.Gen.facts,
    Cert.Pre_slots_in_range.Gen.facts,
    fun m ρ _ => Cert.Up.Body.frame m ρ,
    fun m ρ _ => Cert.UpIdeal.Body.frame m ρ,
    fun m ρ _ => Cert.UpRefIdeal.Gen.frame m ρ,
    fun m ρ _ => Cert.Down.Body.frame m ρ,
    fun m ρ _ => Cert.DownIdeal.Body.frame m ρ,
    fun m ρ _ => Cert.DownRefIdeal.Gen.frame m ρ,
    fun m ρ _ => Cert.Out.Body.frame m ρ,
    fun m ρ _ => Cert.OutIdeal.Body.frame m ρ,
    fun m ρ _ => Cert.OutRefIdeal.Gen.frame m ρ,
    fun m ρ _ => Cert.In.Body.frame m ρ,
    fun m ρ _ => Cert.InIdeal.Body.frame m ρ,
    fun m ρ _ => Cert.InRefIdeal.Gen.frame m ρ,
    Cert.Dec.Tail.frame,
    Cert.Dec.Tail.frame_ref,
    Cert.Ssm.Y.frame,
    Cert.SsmIdeal.Y.frame,
    fun m ρ _ => Cert.SsmRefIdeal.Gen.frame m ρ,
    trivial, Cert.UpIdeal.Body.algebraic,
    trivial, Cert.DownIdeal.Body.algebraic,
    trivial, Cert.OutIdeal.Body.algebraic,
    trivial, Cert.InIdeal.Body.algebraic,
    Cert.Dec.Tail.bitexact,
    trivial, Cert.SsmIdeal.Y.algebraic⟩

end Cert.Proof

end
